-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "scale2" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.named_const.Statement Cert.Kernel7Ideal.κ "scale7" .f32 0x3E0293EE#32 (((Real.sqrt 128)⁻¹ * (Real.log 2)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2x8192x16384 : Shape := ⟨3, ![2, 8192, 16384]⟩
abbrev S_ : Shape := ⟨0, ![]⟩

class Facts : Prop where
  bcast_S_S2x8192x16384 : S_.BroadcastsInDim S2x8192x16384 (![] : Fin 0 → Fin S2x8192x16384.rank)
  reducesTo_S2x8192x16384_S_d0_1_2 : S2x8192x16384.ReducesTo [0, 1, 2] S_
  h_S_ : 0 < S_.numel

variable [Facts]

def fn {F : FTy → Type} [FloatOps F] (main_arg0 : FVec F S2x8192x16384 .f32) : IVec S_ 1 :=
  let main_v0 : FVec F S2x8192x16384 .f32 := Host.absf main_arg0
  let main_cst : FVec F S_ .f32 := constant S_ .f32 0x7F800000#32
  let main_v1 : FVec F S2x8192x16384 .f32 := broadcastInDim S2x8192x16384 ![] bcast_S_S2x8192x16384 main_cst
  let main_v2 : IVec S2x8192x16384 1 := cmpf .olt main_v0 main_v1
  let main_c : IVec S_ 1 := constantI S_ 1 1#1
  let main_v3 : IVec S_ 1 := (fun x v => Host.reduce IntOp.andi x v reducesTo_S2x8192x16384_S_d0_1_2 h_S_) main_v2 main_c
  main_v3
-- ==== Kernel.lean ====
abbrev S2x8192x16384 : Shape := ⟨3, ![2, 8192, 16384]⟩
abbrev S16384x128x128 : Shape := ⟨3, ![16384, 128, 128]⟩
abbrev S128x16384x128 : Shape := ⟨3, ![128, 16384, 128]⟩
abbrev S128x2x8192x128 : Shape := ⟨4, ![128, 2, 8192, 128]⟩
abbrev S2x8192x4096 : Shape := ⟨3, ![2, 8192, 4096]⟩
abbrev S1x1x2048x128 : Shape := ⟨4, ![1, 1, 2048, 128]⟩
abbrev S1x1x4096x128 : Shape := ⟨4, ![1, 1, 4096, 128]⟩
abbrev S1x2048x256 : Shape := ⟨3, ![1, 2048, 256]⟩
abbrev S9x128x256 : Shape := ⟨3, ![9, 128, 256]⟩
abbrev S3x2x2048x128 : Shape := ⟨4, ![3, 2, 2048, 128]⟩
abbrev S3x2048x128 : Shape := ⟨3, ![3, 2048, 128]⟩
abbrev S1x1 : Shape := ⟨2, ![1, 1]⟩
abbrev S128x256 : Shape := ⟨2, ![128, 256]⟩
abbrev S1x128x256 : Shape := ⟨3, ![1, 128, 256]⟩
abbrev S1x1x128x128 : Shape := ⟨4, ![1, 1, 128, 128]⟩
abbrev S128x128 : Shape := ⟨2, ![128, 128]⟩
abbrev S1x1x256x128 : Shape := ⟨4, ![1, 1, 256, 128]⟩
abbrev S256x128 : Shape := ⟨2, ![256, 128]⟩
abbrev S256x256 : Shape := ⟨2, ![256, 256]⟩
abbrev S128 : Shape := ⟨1, ![128]⟩
abbrev S128x1 : Shape := ⟨2, ![128, 1]⟩
abbrev S1x128x128 : Shape := ⟨3, ![1, 128, 128]⟩
abbrev S1x256x128 : Shape := ⟨3, ![1, 256, 128]⟩

abbrev nBuf : Space → Nat
  | .hbm => 5
  | .vmem => 22
  | .smem => 0
  | _ => 0

abbrev bufTy : (tb : Table) → Fin (tcTables nBuf tb) → BufTy
  | .hbm, ⟨0, _⟩ => ⟨S2x8192x16384, .f32⟩
  | .hbm, ⟨1, _⟩ => ⟨S16384x128x128, .f32⟩
  | .hbm, ⟨2, _⟩ => ⟨S128x16384x128, .f32⟩
  | .hbm, ⟨3, _⟩ => ⟨S128x2x8192x128, .f32⟩
  | .hbm, ⟨4, _⟩ => ⟨S2x8192x4096, .bf16⟩
  | .local _ .vmem, ⟨0, _⟩ => ⟨S1x1x2048x128, .f32⟩
  | .local _ .vmem, ⟨1, _⟩ => ⟨S1x1x2048x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x1x4096x128, .f32⟩
  | .local _ .vmem, ⟨7, _⟩ => ⟨S1x1x4096x128, .f32⟩
  | .local _ .vmem, ⟨8, _⟩ => ⟨S1x1x4096x128, .f32⟩
  | .local _ .vmem, ⟨9, _⟩ => ⟨S1x1x4096x128, .f32⟩
  | .local _ .vmem, ⟨10, _⟩ => ⟨S1x1x4096x128, .f32⟩
  | .local _ .vmem, ⟨11, _⟩ => ⟨S1x1x4096x128, .f32⟩
  | .local _ .vmem, ⟨12, _⟩ => ⟨S1x1x4096x128, .f32⟩
  | .local _ .vmem, ⟨13, _⟩ => ⟨S1x1x4096x128, .f32⟩
  | .local _ .vmem, ⟨14, _⟩ => ⟨S1x1x4096x128, .f32⟩
  | .local _ .vmem, ⟨15, _⟩ => ⟨S1x1x4096x128, .f32⟩
  | .local _ .vmem, ⟨16, _⟩ => ⟨S1x2048x256, .bf16⟩
  | .local _ .vmem, ⟨17, _⟩ => ⟨S1x2048x256, .bf16⟩
  | .local _ .vmem, ⟨18, _⟩ => ⟨S9x128x256, .f32⟩
  | .local _ .vmem, ⟨19, _⟩ => ⟨S3x2x2048x128, .f32⟩
  | .local _ .vmem, ⟨20, _⟩ => ⟨S3x2048x128, .f32⟩
  | .local _ .vmem, ⟨21, _⟩ => ⟨S3x2048x128, .f32⟩
  | _, _ => ⟨S2x8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 16, 4], ![false, false, false]⟩

def k0_mult1 (i : grid0.Coords) : BitVec 32 :=
  let c7936_i32 : BitVec 32 := 7936#32
  let c0_i32_9 : BitVec 32 := 0#32
  let arg2 : BitVec 32 := BitVec.ofNat 32 (i 2).val
  let c2048_i32 : BitVec 32 := 2048#32
  let v0 : BitVec 32 := Scalar.muli arg2 c2048_i32
  let c0_i32_2 : BitVec 32 := 0#32
  let v8 : BitVec 1 := Scalar.cmpi .sgt v0 c0_i32_2
  let v9 : BitVec 32 := Scalar.extui v8
  let c0_i32_3 : BitVec 32 := 0#32
  let v10 : BitVec 1 := Scalar.cmpi .slt v0 c0_i32_3
  let v11 : BitVec 32 := Scalar.extui v10
  let v12 : BitVec 32 := Scalar.subi v9 v11
  let c1_i32 : BitVec 32 := 1#32
  let c0_i32_4 : BitVec 32 := 0#32
  let v13 : BitVec 1 := Scalar.cmpi .sgt c1_i32 c0_i32_4
  let v14 : BitVec 32 := Scalar.extui v13
  let c0_i32_5 : BitVec 32 := 0#32
  let v15 : BitVec 1 := Scalar.cmpi .slt c1_i32 c0_i32_5
  let v16 : BitVec 32 := Scalar.extui v15
  let v17 : BitVec 32 := Scalar.subi v14 v16
  let v18 : BitVec 1 := Scalar.cmpi .ne v12 v17
  let v19 : BitVec 32 := Scalar.remsi v0 c1_i32
  let c0_i32_6 : BitVec 32 := 0#32
  let v20 : BitVec 1 := Scalar.cmpi .ne v19 c0_i32_6
  let v21 : BitVec 1 := Scalar.andi v18 v20
  let v7 : BitVec 32 := Scalar.divsi v0 c1_i32
  let c1_i32_7 : BitVec 32 := 1#32
  let v22 : BitVec 32 := Scalar.subi v7 c1_i32_7
  let v23 : BitVec 32 := Scalar.select v21 v22 v7
  let c0_i32_8 : BitVec 32 := 0#32
  let v24 : BitVec 32 := Scalar.addi v23 c0_i32_8
  let c64_i32 : BitVec 32 := 64#32
  let v25 : BitVec 32 := Scalar.subi v24 c64_i32
  let v26 : BitVec 32 := Scalar.maxsi c0_i32_9 v25
  let v27 : BitVec 32 := Scalar.minsi c7936_i32 v26
  let c1_i32_12 : BitVec 32 := 1#32
  let v32 : BitVec 32 := Scalar.muli v27 c1_i32_12
  let c0_i32_13 : BitVec 32 := 0#32
  let v33 : BitVec 32 := Scalar.addi v32 c0_i32_13
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v34 : BitVec 32 := Scalar.subi v33 v3
  v34
def k0_off1 (i : grid0.Coords) (c0_i32_8 : BitVec 32) : Fin 4 → Nat :=
  let c0_17 : Index := 0#32
  let c0_18 : Index := 0#32
  let c7936_i32 : BitVec 32 := 7936#32
  let c0_i32_9 : BitVec 32 := 0#32
  let arg2 : BitVec 32 := BitVec.ofNat 32 (i 2).val
  let c2048_i32 : BitVec 32 := 2048#32
  let v0 : BitVec 32 := Scalar.muli arg2 c2048_i32
  let c0_i32_2 : BitVec 32 := 0#32
  let v8 : BitVec 1 := Scalar.cmpi .sgt v0 c0_i32_2
  let v9 : BitVec 32 := Scalar.extui v8
  let c0_i32_3 : BitVec 32 := 0#32
  let v10 : BitVec 1 := Scalar.cmpi .slt v0 c0_i32_3
  let v11 : BitVec 32 := Scalar.extui v10
  let v12 : BitVec 32 := Scalar.subi v9 v11
  let c1_i32 : BitVec 32 := 1#32
  let c0_i32_4 : BitVec 32 := 0#32
  let v13 : BitVec 1 := Scalar.cmpi .sgt c1_i32 c0_i32_4
  let v14 : BitVec 32 := Scalar.extui v13
  let c0_i32_5 : BitVec 32 := 0#32
  let v15 : BitVec 1 := Scalar.cmpi .slt c1_i32 c0_i32_5
  let v16 : BitVec 32 := Scalar.extui v15
  let v17 : BitVec 32 := Scalar.subi v14 v16
  let v18 : BitVec 1 := Scalar.cmpi .ne v12 v17
  let v19 : BitVec 32 := Scalar.remsi v0 c1_i32
  let c0_i32_6 : BitVec 32 := 0#32
  let v20 : BitVec 1 := Scalar.cmpi .ne v19 c0_i32_6
  let v21 : BitVec 1 := Scalar.andi v18 v20
  let v7 : BitVec 32 := Scalar.divsi v0 c1_i32
  let c1_i32_7 : BitVec 32 := 1#32
  let v22 : BitVec 32 := Scalar.subi v7 c1_i32_7
  let v23 : BitVec 32 := Scalar.select v21 v22 v7
  let v24 : BitVec 32 := Scalar.addi v23 c0_i32_8
  let c64_i32 : BitVec 32 := 64#32
  let v25 : BitVec 32 := Scalar.subi v24 c64_i32
  let v26 : BitVec 32 := Scalar.maxsi c0_i32_9 v25
  let v27 : BitVec 32 := Scalar.minsi c7936_i32 v26
  let c1_i32_12 : BitVec 32 := 1#32
  let v32 : BitVec 32 := Scalar.muli v27 c1_i32_12
  let c0_i32_13 : BitVec 32 := 0#32
  let v33 : BitVec 32 := Scalar.addi v32 c0_i32_13
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v34 : BitVec 32 := Scalar.subi v33 v3
  let v35 : BitVec 32 := v34
  let v41 : Index := Scalar.indexCast v35
  let c0_19 : Index := 0#32
  ![0, 0, v41.toNat, 0]
def k0_off2 (i : grid0.Coords) (c0_i32_27 : BitVec 32) (c7936_i32 : BitVec 32) (c1_i32 : BitVec 32) (c0_i32_8 : BitVec 32) : Fin 3 → Nat :=
  let c0_i32_9 : BitVec 32 := 0#32
  let arg2 : BitVec 32 := BitVec.ofNat 32 (i 2).val
  let c2048_i32 : BitVec 32 := 2048#32
  let v0 : BitVec 32 := Scalar.muli arg2 c2048_i32
  let c0_i32_2 : BitVec 32 := 0#32
  let v8 : BitVec 1 := Scalar.cmpi .sgt v0 c0_i32_2
  let v9 : BitVec 32 := Scalar.extui v8
  let c0_i32_3 : BitVec 32 := 0#32
  let v10 : BitVec 1 := Scalar.cmpi .slt v0 c0_i32_3
  let v11 : BitVec 32 := Scalar.extui v10
  let v12 : BitVec 32 := Scalar.subi v9 v11
  let c0_i32_4 : BitVec 32 := 0#32
  let v13 : BitVec 1 := Scalar.cmpi .sgt c1_i32 c0_i32_4
  let v14 : BitVec 32 := Scalar.extui v13
  let c0_i32_5 : BitVec 32 := 0#32
  let v15 : BitVec 1 := Scalar.cmpi .slt c1_i32 c0_i32_5
  let v16 : BitVec 32 := Scalar.extui v15
  let v17 : BitVec 32 := Scalar.subi v14 v16
  let v18 : BitVec 1 := Scalar.cmpi .ne v12 v17
  let v19 : BitVec 32 := Scalar.remsi v0 c1_i32
  let c0_i32_6 : BitVec 32 := 0#32
  let v20 : BitVec 1 := Scalar.cmpi .ne v19 c0_i32_6
  let v21 : BitVec 1 := Scalar.andi v18 v20
  let v7 : BitVec 32 := Scalar.divsi v0 c1_i32
  let c1_i32_7 : BitVec 32 := 1#32
  let v22 : BitVec 32 := Scalar.subi v7 c1_i32_7
  let v23 : BitVec 32 := Scalar.select v21 v22 v7
  let v24 : BitVec 32 := Scalar.addi v23 c0_i32_8
  let c64_i32 : BitVec 32 := 64#32
  let v25 : BitVec 32 := Scalar.subi v24 c64_i32
  let v26 : BitVec 32 := Scalar.maxsi c0_i32_9 v25
  let v27 : BitVec 32 := Scalar.minsi c7936_i32 v26
  let v28 : BitVec 1 := Scalar.cmpi .sgt v27 v25
  let c1_i32_11 : BitVec 32 := 1#32
  let v29 : BitVec 1 := Scalar.cmpi .slt v27 v25
  let c2_i32 : BitVec 32 := 2#32
  let c0_i32_10 : BitVec 32 := 0#32
  let v30 : BitVec 32 := Scalar.select v29 c2_i32 c0_i32_10
  let v31 : BitVec 32 := Scalar.select v28 c1_i32_11 v30
  let v54 : BitVec 32 := Scalar.addi c0_i32_27 v31
  let v55 : Index := Scalar.indexCast v54
  let c0_28 : Index := 0#32
  let c0_29 : Index := 0#32
  ![v55.toNat, 0, 0]
def k0_off2_at (r : Fin 21) : BitVec 32 × BitVec 32 × BitVec 32 × BitVec 32 :=
  if r.val < 10 then
    if r.val < 5 then
      if r.val < 2 then
        if r.val < 1 then
          (0#32, 7936#32, 1#32, 0#32)
        else
          (0#32, 7936#32, 1#32, 128#32)
      else
        if r.val < 3 then
          (0#32, 7936#32, 1#32, 256#32)
        else
          if r.val < 4 then
            (0#32, 7936#32, 1#32, 384#32)
          else
            (0#32, 7936#32, 1#32, 512#32)
    else
      if r.val < 7 then
        if r.val < 6 then
          (0#32, 7936#32, 1#32, 640#32)
        else
          (0#32, 7936#32, 1#32, 768#32)
      else
        if r.val < 8 then
          (0#32, 7936#32, 1#32, 896#32)
        else
          if r.val < 9 then
            (0#32, 7936#32, 1#32, 1024#32)
          else
            (0#32, 7936#32, 1#32, 1152#32)
  else
    if r.val < 15 then
      if r.val < 12 then
        if r.val < 11 then
          (0#32, 7936#32, 1#32, 1280#32)
        else
          (0#32, 7936#32, 1#32, 1408#32)
      else
        if r.val < 13 then
          (0#32, 7936#32, 1#32, 1536#32)
        else
          if r.val < 14 then
            (0#32, 7936#32, 1#32, 1664#32)
          else
            (0#32, 7936#32, 1#32, 1792#32)
    else
      if r.val < 18 then
        if r.val < 16 then
          (0#32, 7936#32, 1#32, 1920#32)
        else
          if r.val < 17 then
            (3#32, 1792#32, 4#32, 0#32)
          else
            (3#32, 1792#32, 4#32, 128#32)
      else
        if r.val < 19 then
          (3#32, 1792#32, 4#32, 256#32)
        else
          if r.val < 20 then
            (3#32, 1792#32, 4#32, 384#32)
          else
            (6#32, 256#32, 16#32, 0#32)
def k0_mult2 (i : grid0.Coords) : BitVec 32 :=
  let c7936_i32_55 : BitVec 32 := 7936#32
  let c0_i32_54 : BitVec 32 := 0#32
  let arg2 : BitVec 32 := BitVec.ofNat 32 (i 2).val
  let c2048_i32 : BitVec 32 := 2048#32
  let v0 : BitVec 32 := Scalar.muli arg2 c2048_i32
  let c0_i32_47 : BitVec 32 := 0#32
  let v87 : BitVec 1 := Scalar.cmpi .sgt v0 c0_i32_47
  let v88 : BitVec 32 := Scalar.extui v87
  let c0_i32_48 : BitVec 32 := 0#32
  let v89 : BitVec 1 := Scalar.cmpi .slt v0 c0_i32_48
  let v90 : BitVec 32 := Scalar.extui v89
  let v91 : BitVec 32 := Scalar.subi v88 v90
  let c1_i32_46 : BitVec 32 := 1#32
  let c0_i32_49 : BitVec 32 := 0#32
  let v92 : BitVec 1 := Scalar.cmpi .sgt c1_i32_46 c0_i32_49
  let v93 : BitVec 32 := Scalar.extui v92
  let c0_i32_50 : BitVec 32 := 0#32
  let v94 : BitVec 1 := Scalar.cmpi .slt c1_i32_46 c0_i32_50
  let v95 : BitVec 32 := Scalar.extui v94
  let v96 : BitVec 32 := Scalar.subi v93 v95
  let v97 : BitVec 1 := Scalar.cmpi .ne v91 v96
  let v98 : BitVec 32 := Scalar.remsi v0 c1_i32_46
  let c0_i32_51 : BitVec 32 := 0#32
  let v99 : BitVec 1 := Scalar.cmpi .ne v98 c0_i32_51
  let v100 : BitVec 1 := Scalar.andi v97 v99
  let v86 : BitVec 32 := Scalar.divsi v0 c1_i32_46
  let c1_i32_52 : BitVec 32 := 1#32
  let v101 : BitVec 32 := Scalar.subi v86 c1_i32_52
  let v102 : BitVec 32 := Scalar.select v100 v101 v86
  let c128_i32 : BitVec 32 := 128#32
  let v103 : BitVec 32 := Scalar.addi v102 c128_i32
  let c64_i32_53 : BitVec 32 := 64#32
  let v104 : BitVec 32 := Scalar.subi v103 c64_i32_53
  let v105 : BitVec 32 := Scalar.maxsi c0_i32_54 v104
  let v106 : BitVec 32 := Scalar.minsi c7936_i32_55 v105
  let c1_i32_59 : BitVec 32 := 1#32
  let v111 : BitVec 32 := Scalar.muli v106 c1_i32_59
  let c0_i32_60 : BitVec 32 := 0#32
  let v112 : BitVec 32 := Scalar.addi v111 c0_i32_60
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v113 : BitVec 32 := Scalar.subi v112 v3
  v113
def k0_mult3 (i : grid0.Coords) : BitVec 32 :=
  let c7936_i32_104 : BitVec 32 := 7936#32
  let c0_i32_103 : BitVec 32 := 0#32
  let arg2 : BitVec 32 := BitVec.ofNat 32 (i 2).val
  let c2048_i32 : BitVec 32 := 2048#32
  let v0 : BitVec 32 := Scalar.muli arg2 c2048_i32
  let c0_i32_96 : BitVec 32 := 0#32
  let v166 : BitVec 1 := Scalar.cmpi .sgt v0 c0_i32_96
  let v167 : BitVec 32 := Scalar.extui v166
  let c0_i32_97 : BitVec 32 := 0#32
  let v168 : BitVec 1 := Scalar.cmpi .slt v0 c0_i32_97
  let v169 : BitVec 32 := Scalar.extui v168
  let v170 : BitVec 32 := Scalar.subi v167 v169
  let c1_i32_95 : BitVec 32 := 1#32
  let c0_i32_98 : BitVec 32 := 0#32
  let v171 : BitVec 1 := Scalar.cmpi .sgt c1_i32_95 c0_i32_98
  let v172 : BitVec 32 := Scalar.extui v171
  let c0_i32_99 : BitVec 32 := 0#32
  let v173 : BitVec 1 := Scalar.cmpi .slt c1_i32_95 c0_i32_99
  let v174 : BitVec 32 := Scalar.extui v173
  let v175 : BitVec 32 := Scalar.subi v172 v174
  let v176 : BitVec 1 := Scalar.cmpi .ne v170 v175
  let v177 : BitVec 32 := Scalar.remsi v0 c1_i32_95
  let c0_i32_100 : BitVec 32 := 0#32
  let v178 : BitVec 1 := Scalar.cmpi .ne v177 c0_i32_100
  let v179 : BitVec 1 := Scalar.andi v176 v178
  let v165 : BitVec 32 := Scalar.divsi v0 c1_i32_95
  let c1_i32_101 : BitVec 32 := 1#32
  let v180 : BitVec 32 := Scalar.subi v165 c1_i32_101
  let v181 : BitVec 32 := Scalar.select v179 v180 v165
  let c256_i32 : BitVec 32 := 256#32
  let v182 : BitVec 32 := Scalar.addi v181 c256_i32
  let c64_i32_102 : BitVec 32 := 64#32
  let v183 : BitVec 32 := Scalar.subi v182 c64_i32_102
  let v184 : BitVec 32 := Scalar.maxsi c0_i32_103 v183
  let v185 : BitVec 32 := Scalar.minsi c7936_i32_104 v184
  let c1_i32_108 : BitVec 32 := 1#32
  let v190 : BitVec 32 := Scalar.muli v185 c1_i32_108
  let c0_i32_109 : BitVec 32 := 0#32
  let v191 : BitVec 32 := Scalar.addi v190 c0_i32_109
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v192 : BitVec 32 := Scalar.subi v191 v3
  v192
def k0_mult4 (i : grid0.Coords) : BitVec 32 :=
  let c7936_i32_153 : BitVec 32 := 7936#32
  let c0_i32_152 : BitVec 32 := 0#32
  let arg2 : BitVec 32 := BitVec.ofNat 32 (i 2).val
  let c2048_i32 : BitVec 32 := 2048#32
  let v0 : BitVec 32 := Scalar.muli arg2 c2048_i32
  let c0_i32_145 : BitVec 32 := 0#32
  let v245 : BitVec 1 := Scalar.cmpi .sgt v0 c0_i32_145
  let v246 : BitVec 32 := Scalar.extui v245
  let c0_i32_146 : BitVec 32 := 0#32
  let v247 : BitVec 1 := Scalar.cmpi .slt v0 c0_i32_146
  let v248 : BitVec 32 := Scalar.extui v247
  let v249 : BitVec 32 := Scalar.subi v246 v248
  let c1_i32_144 : BitVec 32 := 1#32
  let c0_i32_147 : BitVec 32 := 0#32
  let v250 : BitVec 1 := Scalar.cmpi .sgt c1_i32_144 c0_i32_147
  let v251 : BitVec 32 := Scalar.extui v250
  let c0_i32_148 : BitVec 32 := 0#32
  let v252 : BitVec 1 := Scalar.cmpi .slt c1_i32_144 c0_i32_148
  let v253 : BitVec 32 := Scalar.extui v252
  let v254 : BitVec 32 := Scalar.subi v251 v253
  let v255 : BitVec 1 := Scalar.cmpi .ne v249 v254
  let v256 : BitVec 32 := Scalar.remsi v0 c1_i32_144
  let c0_i32_149 : BitVec 32 := 0#32
  let v257 : BitVec 1 := Scalar.cmpi .ne v256 c0_i32_149
  let v258 : BitVec 1 := Scalar.andi v255 v257
  let v244 : BitVec 32 := Scalar.divsi v0 c1_i32_144
  let c1_i32_150 : BitVec 32 := 1#32
  let v259 : BitVec 32 := Scalar.subi v244 c1_i32_150
  let v260 : BitVec 32 := Scalar.select v258 v259 v244
  let c384_i32 : BitVec 32 := 384#32
  let v261 : BitVec 32 := Scalar.addi v260 c384_i32
  let c64_i32_151 : BitVec 32 := 64#32
  let v262 : BitVec 32 := Scalar.subi v261 c64_i32_151
  let v263 : BitVec 32 := Scalar.maxsi c0_i32_152 v262
  let v264 : BitVec 32 := Scalar.minsi c7936_i32_153 v263
  let c1_i32_157 : BitVec 32 := 1#32
  let v269 : BitVec 32 := Scalar.muli v264 c1_i32_157
  let c0_i32_158 : BitVec 32 := 0#32
  let v270 : BitVec 32 := Scalar.addi v269 c0_i32_158
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v271 : BitVec 32 := Scalar.subi v270 v3
  v271
def k0_mult5 (i : grid0.Coords) : BitVec 32 :=
  let c7936_i32_202 : BitVec 32 := 7936#32
  let c0_i32_201 : BitVec 32 := 0#32
  let arg2 : BitVec 32 := BitVec.ofNat 32 (i 2).val
  let c2048_i32 : BitVec 32 := 2048#32
  let v0 : BitVec 32 := Scalar.muli arg2 c2048_i32
  let c0_i32_194 : BitVec 32 := 0#32
  let v324 : BitVec 1 := Scalar.cmpi .sgt v0 c0_i32_194
  let v325 : BitVec 32 := Scalar.extui v324
  let c0_i32_195 : BitVec 32 := 0#32
  let v326 : BitVec 1 := Scalar.cmpi .slt v0 c0_i32_195
  let v327 : BitVec 32 := Scalar.extui v326
  let v328 : BitVec 32 := Scalar.subi v325 v327
  let c1_i32_193 : BitVec 32 := 1#32
  let c0_i32_196 : BitVec 32 := 0#32
  let v329 : BitVec 1 := Scalar.cmpi .sgt c1_i32_193 c0_i32_196
  let v330 : BitVec 32 := Scalar.extui v329
  let c0_i32_197 : BitVec 32 := 0#32
  let v331 : BitVec 1 := Scalar.cmpi .slt c1_i32_193 c0_i32_197
  let v332 : BitVec 32 := Scalar.extui v331
  let v333 : BitVec 32 := Scalar.subi v330 v332
  let v334 : BitVec 1 := Scalar.cmpi .ne v328 v333
  let v335 : BitVec 32 := Scalar.remsi v0 c1_i32_193
  let c0_i32_198 : BitVec 32 := 0#32
  let v336 : BitVec 1 := Scalar.cmpi .ne v335 c0_i32_198
  let v337 : BitVec 1 := Scalar.andi v334 v336
  let v323 : BitVec 32 := Scalar.divsi v0 c1_i32_193
  let c1_i32_199 : BitVec 32 := 1#32
  let v338 : BitVec 32 := Scalar.subi v323 c1_i32_199
  let v339 : BitVec 32 := Scalar.select v337 v338 v323
  let c512_i32 : BitVec 32 := 512#32
  let v340 : BitVec 32 := Scalar.addi v339 c512_i32
  let c64_i32_200 : BitVec 32 := 64#32
  let v341 : BitVec 32 := Scalar.subi v340 c64_i32_200
  let v342 : BitVec 32 := Scalar.maxsi c0_i32_201 v341
  let v343 : BitVec 32 := Scalar.minsi c7936_i32_202 v342
  let c1_i32_206 : BitVec 32 := 1#32
  let v348 : BitVec 32 := Scalar.muli v343 c1_i32_206
  let c0_i32_207 : BitVec 32 := 0#32
  let v349 : BitVec 32 := Scalar.addi v348 c0_i32_207
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v350 : BitVec 32 := Scalar.subi v349 v3
  v350
def k0_mult6 (i : grid0.Coords) : BitVec 32 :=
  let c7936_i32_251 : BitVec 32 := 7936#32
  let c0_i32_250 : BitVec 32 := 0#32
  let arg2 : BitVec 32 := BitVec.ofNat 32 (i 2).val
  let c2048_i32 : BitVec 32 := 2048#32
  let v0 : BitVec 32 := Scalar.muli arg2 c2048_i32
  let c0_i32_243 : BitVec 32 := 0#32
  let v403 : BitVec 1 := Scalar.cmpi .sgt v0 c0_i32_243
  let v404 : BitVec 32 := Scalar.extui v403
  let c0_i32_244 : BitVec 32 := 0#32
  let v405 : BitVec 1 := Scalar.cmpi .slt v0 c0_i32_244
  let v406 : BitVec 32 := Scalar.extui v405
  let v407 : BitVec 32 := Scalar.subi v404 v406
  let c1_i32_242 : BitVec 32 := 1#32
  let c0_i32_245 : BitVec 32 := 0#32
  let v408 : BitVec 1 := Scalar.cmpi .sgt c1_i32_242 c0_i32_245
  let v409 : BitVec 32 := Scalar.extui v408
  let c0_i32_246 : BitVec 32 := 0#32
  let v410 : BitVec 1 := Scalar.cmpi .slt c1_i32_242 c0_i32_246
  let v411 : BitVec 32 := Scalar.extui v410
  let v412 : BitVec 32 := Scalar.subi v409 v411
  let v413 : BitVec 1 := Scalar.cmpi .ne v407 v412
  let v414 : BitVec 32 := Scalar.remsi v0 c1_i32_242
  let c0_i32_247 : BitVec 32 := 0#32
  let v415 : BitVec 1 := Scalar.cmpi .ne v414 c0_i32_247
  let v416 : BitVec 1 := Scalar.andi v413 v415
  let v402 : BitVec 32 := Scalar.divsi v0 c1_i32_242
  let c1_i32_248 : BitVec 32 := 1#32
  let v417 : BitVec 32 := Scalar.subi v402 c1_i32_248
  let v418 : BitVec 32 := Scalar.select v416 v417 v402
  let c640_i32 : BitVec 32 := 640#32
  let v419 : BitVec 32 := Scalar.addi v418 c640_i32
  let c64_i32_249 : BitVec 32 := 64#32
  let v420 : BitVec 32 := Scalar.subi v419 c64_i32_249
  let v421 : BitVec 32 := Scalar.maxsi c0_i32_250 v420
  let v422 : BitVec 32 := Scalar.minsi c7936_i32_251 v421
  let c1_i32_255 : BitVec 32 := 1#32
  let v427 : BitVec 32 := Scalar.muli v422 c1_i32_255
  let c0_i32_256 : BitVec 32 := 0#32
  let v428 : BitVec 32 := Scalar.addi v427 c0_i32_256
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v429 : BitVec 32 := Scalar.subi v428 v3
  v429
def k0_mult7 (i : grid0.Coords) : BitVec 32 :=
  let c7936_i32_300 : BitVec 32 := 7936#32
  let c0_i32_299 : BitVec 32 := 0#32
  let arg2 : BitVec 32 := BitVec.ofNat 32 (i 2).val
  let c2048_i32 : BitVec 32 := 2048#32
  let v0 : BitVec 32 := Scalar.muli arg2 c2048_i32
  let c0_i32_292 : BitVec 32 := 0#32
  let v482 : BitVec 1 := Scalar.cmpi .sgt v0 c0_i32_292
  let v483 : BitVec 32 := Scalar.extui v482
  let c0_i32_293 : BitVec 32 := 0#32
  let v484 : BitVec 1 := Scalar.cmpi .slt v0 c0_i32_293
  let v485 : BitVec 32 := Scalar.extui v484
  let v486 : BitVec 32 := Scalar.subi v483 v485
  let c1_i32_291 : BitVec 32 := 1#32
  let c0_i32_294 : BitVec 32 := 0#32
  let v487 : BitVec 1 := Scalar.cmpi .sgt c1_i32_291 c0_i32_294
  let v488 : BitVec 32 := Scalar.extui v487
  let c0_i32_295 : BitVec 32 := 0#32
  let v489 : BitVec 1 := Scalar.cmpi .slt c1_i32_291 c0_i32_295
  let v490 : BitVec 32 := Scalar.extui v489
  let v491 : BitVec 32 := Scalar.subi v488 v490
  let v492 : BitVec 1 := Scalar.cmpi .ne v486 v491
  let v493 : BitVec 32 := Scalar.remsi v0 c1_i32_291
  let c0_i32_296 : BitVec 32 := 0#32
  let v494 : BitVec 1 := Scalar.cmpi .ne v493 c0_i32_296
  let v495 : BitVec 1 := Scalar.andi v492 v494
  let v481 : BitVec 32 := Scalar.divsi v0 c1_i32_291
  let c1_i32_297 : BitVec 32 := 1#32
  let v496 : BitVec 32 := Scalar.subi v481 c1_i32_297
  let v497 : BitVec 32 := Scalar.select v495 v496 v481
  let c768_i32 : BitVec 32 := 768#32
  let v498 : BitVec 32 := Scalar.addi v497 c768_i32
  let c64_i32_298 : BitVec 32 := 64#32
  let v499 : BitVec 32 := Scalar.subi v498 c64_i32_298
  let v500 : BitVec 32 := Scalar.maxsi c0_i32_299 v499
  let v501 : BitVec 32 := Scalar.minsi c7936_i32_300 v500
  let c1_i32_304 : BitVec 32 := 1#32
  let v506 : BitVec 32 := Scalar.muli v501 c1_i32_304
  let c0_i32_305 : BitVec 32 := 0#32
  let v507 : BitVec 32 := Scalar.addi v506 c0_i32_305
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v508 : BitVec 32 := Scalar.subi v507 v3
  v508
def k0_mult8 (i : grid0.Coords) : BitVec 32 :=
  let c7936_i32_349 : BitVec 32 := 7936#32
  let c0_i32_348 : BitVec 32 := 0#32
  let arg2 : BitVec 32 := BitVec.ofNat 32 (i 2).val
  let c2048_i32 : BitVec 32 := 2048#32
  let v0 : BitVec 32 := Scalar.muli arg2 c2048_i32
  let c0_i32_341 : BitVec 32 := 0#32
  let v561 : BitVec 1 := Scalar.cmpi .sgt v0 c0_i32_341
  let v562 : BitVec 32 := Scalar.extui v561
  let c0_i32_342 : BitVec 32 := 0#32
  let v563 : BitVec 1 := Scalar.cmpi .slt v0 c0_i32_342
  let v564 : BitVec 32 := Scalar.extui v563
  let v565 : BitVec 32 := Scalar.subi v562 v564
  let c1_i32_340 : BitVec 32 := 1#32
  let c0_i32_343 : BitVec 32 := 0#32
  let v566 : BitVec 1 := Scalar.cmpi .sgt c1_i32_340 c0_i32_343
  let v567 : BitVec 32 := Scalar.extui v566
  let c0_i32_344 : BitVec 32 := 0#32
  let v568 : BitVec 1 := Scalar.cmpi .slt c1_i32_340 c0_i32_344
  let v569 : BitVec 32 := Scalar.extui v568
  let v570 : BitVec 32 := Scalar.subi v567 v569
  let v571 : BitVec 1 := Scalar.cmpi .ne v565 v570
  let v572 : BitVec 32 := Scalar.remsi v0 c1_i32_340
  let c0_i32_345 : BitVec 32 := 0#32
  let v573 : BitVec 1 := Scalar.cmpi .ne v572 c0_i32_345
  let v574 : BitVec 1 := Scalar.andi v571 v573
  let v560 : BitVec 32 := Scalar.divsi v0 c1_i32_340
  let c1_i32_346 : BitVec 32 := 1#32
  let v575 : BitVec 32 := Scalar.subi v560 c1_i32_346
  let v576 : BitVec 32 := Scalar.select v574 v575 v560
  let c896_i32 : BitVec 32 := 896#32
  let v577 : BitVec 32 := Scalar.addi v576 c896_i32
  let c64_i32_347 : BitVec 32 := 64#32
  let v578 : BitVec 32 := Scalar.subi v577 c64_i32_347
  let v579 : BitVec 32 := Scalar.maxsi c0_i32_348 v578
  let v580 : BitVec 32 := Scalar.minsi c7936_i32_349 v579
  let c1_i32_353 : BitVec 32 := 1#32
  let v585 : BitVec 32 := Scalar.muli v580 c1_i32_353
  let c0_i32_354 : BitVec 32 := 0#32
  let v586 : BitVec 32 := Scalar.addi v585 c0_i32_354
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v587 : BitVec 32 := Scalar.subi v586 v3
  v587
def k0_mult9 (i : grid0.Coords) : BitVec 32 :=
  let c7936_i32_399 : BitVec 32 := 7936#32
  let c0_i32_398 : BitVec 32 := 0#32
  let arg2 : BitVec 32 := BitVec.ofNat 32 (i 2).val
  let c2048_i32 : BitVec 32 := 2048#32
  let v0 : BitVec 32 := Scalar.muli arg2 c2048_i32
  let c0_i32_390 : BitVec 32 := 0#32
  let v640 : BitVec 1 := Scalar.cmpi .sgt v0 c0_i32_390
  let v641 : BitVec 32 := Scalar.extui v640
  let c0_i32_391 : BitVec 32 := 0#32
  let v642 : BitVec 1 := Scalar.cmpi .slt v0 c0_i32_391
  let v643 : BitVec 32 := Scalar.extui v642
  let v644 : BitVec 32 := Scalar.subi v641 v643
  let c1_i32_389 : BitVec 32 := 1#32
  let c0_i32_392 : BitVec 32 := 0#32
  let v645 : BitVec 1 := Scalar.cmpi .sgt c1_i32_389 c0_i32_392
  let v646 : BitVec 32 := Scalar.extui v645
  let c0_i32_393 : BitVec 32 := 0#32
  let v647 : BitVec 1 := Scalar.cmpi .slt c1_i32_389 c0_i32_393
  let v648 : BitVec 32 := Scalar.extui v647
  let v649 : BitVec 32 := Scalar.subi v646 v648
  let v650 : BitVec 1 := Scalar.cmpi .ne v644 v649
  let v651 : BitVec 32 := Scalar.remsi v0 c1_i32_389
  let c0_i32_394 : BitVec 32 := 0#32
  let v652 : BitVec 1 := Scalar.cmpi .ne v651 c0_i32_394
  let v653 : BitVec 1 := Scalar.andi v650 v652
  let v639 : BitVec 32 := Scalar.divsi v0 c1_i32_389
  let c1_i32_395 : BitVec 32 := 1#32
  let v654 : BitVec 32 := Scalar.subi v639 c1_i32_395
  let v655 : BitVec 32 := Scalar.select v653 v654 v639
  let c1024_i32_396 : BitVec 32 := 1024#32
  let v656 : BitVec 32 := Scalar.addi v655 c1024_i32_396
  let c64_i32_397 : BitVec 32 := 64#32
  let v657 : BitVec 32 := Scalar.subi v656 c64_i32_397
  let v658 : BitVec 32 := Scalar.maxsi c0_i32_398 v657
  let v659 : BitVec 32 := Scalar.minsi c7936_i32_399 v658
  let c1_i32_403 : BitVec 32 := 1#32
  let v664 : BitVec 32 := Scalar.muli v659 c1_i32_403
  let c0_i32_404 : BitVec 32 := 0#32
  let v665 : BitVec 32 := Scalar.addi v664 c0_i32_404
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v666 : BitVec 32 := Scalar.subi v665 v3
  v666
def k0_mult10 (i : grid0.Coords) : BitVec 32 :=
  let c7936_i32_448 : BitVec 32 := 7936#32
  let c0_i32_447 : BitVec 32 := 0#32
  let arg2 : BitVec 32 := BitVec.ofNat 32 (i 2).val
  let c2048_i32 : BitVec 32 := 2048#32
  let v0 : BitVec 32 := Scalar.muli arg2 c2048_i32
  let c0_i32_440 : BitVec 32 := 0#32
  let v719 : BitVec 1 := Scalar.cmpi .sgt v0 c0_i32_440
  let v720 : BitVec 32 := Scalar.extui v719
  let c0_i32_441 : BitVec 32 := 0#32
  let v721 : BitVec 1 := Scalar.cmpi .slt v0 c0_i32_441
  let v722 : BitVec 32 := Scalar.extui v721
  let v723 : BitVec 32 := Scalar.subi v720 v722
  let c1_i32_439 : BitVec 32 := 1#32
  let c0_i32_442 : BitVec 32 := 0#32
  let v724 : BitVec 1 := Scalar.cmpi .sgt c1_i32_439 c0_i32_442
  let v725 : BitVec 32 := Scalar.extui v724
  let c0_i32_443 : BitVec 32 := 0#32
  let v726 : BitVec 1 := Scalar.cmpi .slt c1_i32_439 c0_i32_443
  let v727 : BitVec 32 := Scalar.extui v726
  let v728 : BitVec 32 := Scalar.subi v725 v727
  let v729 : BitVec 1 := Scalar.cmpi .ne v723 v728
  let v730 : BitVec 32 := Scalar.remsi v0 c1_i32_439
  let c0_i32_444 : BitVec 32 := 0#32
  let v731 : BitVec 1 := Scalar.cmpi .ne v730 c0_i32_444
  let v732 : BitVec 1 := Scalar.andi v729 v731
  let v718 : BitVec 32 := Scalar.divsi v0 c1_i32_439
  let c1_i32_445 : BitVec 32 := 1#32
  let v733 : BitVec 32 := Scalar.subi v718 c1_i32_445
  let v734 : BitVec 32 := Scalar.select v732 v733 v718
  let c1152_i32 : BitVec 32 := 1152#32
  let v735 : BitVec 32 := Scalar.addi v734 c1152_i32
  let c64_i32_446 : BitVec 32 := 64#32
  let v736 : BitVec 32 := Scalar.subi v735 c64_i32_446
  let v737 : BitVec 32 := Scalar.maxsi c0_i32_447 v736
  let v738 : BitVec 32 := Scalar.minsi c7936_i32_448 v737
  let c1_i32_452 : BitVec 32 := 1#32
  let v743 : BitVec 32 := Scalar.muli v738 c1_i32_452
  let c0_i32_453 : BitVec 32 := 0#32
  let v744 : BitVec 32 := Scalar.addi v743 c0_i32_453
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v745 : BitVec 32 := Scalar.subi v744 v3
  v745
def k0_mult11 (i : grid0.Coords) : BitVec 32 :=
  let c7936_i32_497 : BitVec 32 := 7936#32
  let c0_i32_496 : BitVec 32 := 0#32
  let arg2 : BitVec 32 := BitVec.ofNat 32 (i 2).val
  let c2048_i32 : BitVec 32 := 2048#32
  let v0 : BitVec 32 := Scalar.muli arg2 c2048_i32
  let c0_i32_489 : BitVec 32 := 0#32
  let v798 : BitVec 1 := Scalar.cmpi .sgt v0 c0_i32_489
  let v799 : BitVec 32 := Scalar.extui v798
  let c0_i32_490 : BitVec 32 := 0#32
  let v800 : BitVec 1 := Scalar.cmpi .slt v0 c0_i32_490
  let v801 : BitVec 32 := Scalar.extui v800
  let v802 : BitVec 32 := Scalar.subi v799 v801
  let c1_i32_488 : BitVec 32 := 1#32
  let c0_i32_491 : BitVec 32 := 0#32
  let v803 : BitVec 1 := Scalar.cmpi .sgt c1_i32_488 c0_i32_491
  let v804 : BitVec 32 := Scalar.extui v803
  let c0_i32_492 : BitVec 32 := 0#32
  let v805 : BitVec 1 := Scalar.cmpi .slt c1_i32_488 c0_i32_492
  let v806 : BitVec 32 := Scalar.extui v805
  let v807 : BitVec 32 := Scalar.subi v804 v806
  let v808 : BitVec 1 := Scalar.cmpi .ne v802 v807
  let v809 : BitVec 32 := Scalar.remsi v0 c1_i32_488
  let c0_i32_493 : BitVec 32 := 0#32
  let v810 : BitVec 1 := Scalar.cmpi .ne v809 c0_i32_493
  let v811 : BitVec 1 := Scalar.andi v808 v810
  let v797 : BitVec 32 := Scalar.divsi v0 c1_i32_488
  let c1_i32_494 : BitVec 32 := 1#32
  let v812 : BitVec 32 := Scalar.subi v797 c1_i32_494
  let v813 : BitVec 32 := Scalar.select v811 v812 v797
  let c1280_i32 : BitVec 32 := 1280#32
  let v814 : BitVec 32 := Scalar.addi v813 c1280_i32
  let c64_i32_495 : BitVec 32 := 64#32
  let v815 : BitVec 32 := Scalar.subi v814 c64_i32_495
  let v816 : BitVec 32 := Scalar.maxsi c0_i32_496 v815
  let v817 : BitVec 32 := Scalar.minsi c7936_i32_497 v816
  let c1_i32_501 : BitVec 32 := 1#32
  let v822 : BitVec 32 := Scalar.muli v817 c1_i32_501
  let c0_i32_502 : BitVec 32 := 0#32
  let v823 : BitVec 32 := Scalar.addi v822 c0_i32_502
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v824 : BitVec 32 := Scalar.subi v823 v3
  v824
def k0_mult12 (i : grid0.Coords) : BitVec 32 :=
  let c7936_i32_546 : BitVec 32 := 7936#32
  let c0_i32_545 : BitVec 32 := 0#32
  let arg2 : BitVec 32 := BitVec.ofNat 32 (i 2).val
  let c2048_i32 : BitVec 32 := 2048#32
  let v0 : BitVec 32 := Scalar.muli arg2 c2048_i32
  let c0_i32_538 : BitVec 32 := 0#32
  let v877 : BitVec 1 := Scalar.cmpi .sgt v0 c0_i32_538
  let v878 : BitVec 32 := Scalar.extui v877
  let c0_i32_539 : BitVec 32 := 0#32
  let v879 : BitVec 1 := Scalar.cmpi .slt v0 c0_i32_539
  let v880 : BitVec 32 := Scalar.extui v879
  let v881 : BitVec 32 := Scalar.subi v878 v880
  let c1_i32_537 : BitVec 32 := 1#32
  let c0_i32_540 : BitVec 32 := 0#32
  let v882 : BitVec 1 := Scalar.cmpi .sgt c1_i32_537 c0_i32_540
  let v883 : BitVec 32 := Scalar.extui v882
  let c0_i32_541 : BitVec 32 := 0#32
  let v884 : BitVec 1 := Scalar.cmpi .slt c1_i32_537 c0_i32_541
  let v885 : BitVec 32 := Scalar.extui v884
  let v886 : BitVec 32 := Scalar.subi v883 v885
  let v887 : BitVec 1 := Scalar.cmpi .ne v881 v886
  let v888 : BitVec 32 := Scalar.remsi v0 c1_i32_537
  let c0_i32_542 : BitVec 32 := 0#32
  let v889 : BitVec 1 := Scalar.cmpi .ne v888 c0_i32_542
  let v890 : BitVec 1 := Scalar.andi v887 v889
  let v876 : BitVec 32 := Scalar.divsi v0 c1_i32_537
  let c1_i32_543 : BitVec 32 := 1#32
  let v891 : BitVec 32 := Scalar.subi v876 c1_i32_543
  let v892 : BitVec 32 := Scalar.select v890 v891 v876
  let c1408_i32 : BitVec 32 := 1408#32
  let v893 : BitVec 32 := Scalar.addi v892 c1408_i32
  let c64_i32_544 : BitVec 32 := 64#32
  let v894 : BitVec 32 := Scalar.subi v893 c64_i32_544
  let v895 : BitVec 32 := Scalar.maxsi c0_i32_545 v894
  let v896 : BitVec 32 := Scalar.minsi c7936_i32_546 v895
  let c1_i32_550 : BitVec 32 := 1#32
  let v901 : BitVec 32 := Scalar.muli v896 c1_i32_550
  let c0_i32_551 : BitVec 32 := 0#32
  let v902 : BitVec 32 := Scalar.addi v901 c0_i32_551
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v903 : BitVec 32 := Scalar.subi v902 v3
  v903
def k0_mult13 (i : grid0.Coords) : BitVec 32 :=
  let c7936_i32_595 : BitVec 32 := 7936#32
  let c0_i32_594 : BitVec 32 := 0#32
  let arg2 : BitVec 32 := BitVec.ofNat 32 (i 2).val
  let c2048_i32 : BitVec 32 := 2048#32
  let v0 : BitVec 32 := Scalar.muli arg2 c2048_i32
  let c0_i32_587 : BitVec 32 := 0#32
  let v956 : BitVec 1 := Scalar.cmpi .sgt v0 c0_i32_587
  let v957 : BitVec 32 := Scalar.extui v956
  let c0_i32_588 : BitVec 32 := 0#32
  let v958 : BitVec 1 := Scalar.cmpi .slt v0 c0_i32_588
  let v959 : BitVec 32 := Scalar.extui v958
  let v960 : BitVec 32 := Scalar.subi v957 v959
  let c1_i32_586 : BitVec 32 := 1#32
  let c0_i32_589 : BitVec 32 := 0#32
  let v961 : BitVec 1 := Scalar.cmpi .sgt c1_i32_586 c0_i32_589
  let v962 : BitVec 32 := Scalar.extui v961
  let c0_i32_590 : BitVec 32 := 0#32
  let v963 : BitVec 1 := Scalar.cmpi .slt c1_i32_586 c0_i32_590
  let v964 : BitVec 32 := Scalar.extui v963
  let v965 : BitVec 32 := Scalar.subi v962 v964
  let v966 : BitVec 1 := Scalar.cmpi .ne v960 v965
  let v967 : BitVec 32 := Scalar.remsi v0 c1_i32_586
  let c0_i32_591 : BitVec 32 := 0#32
  let v968 : BitVec 1 := Scalar.cmpi .ne v967 c0_i32_591
  let v969 : BitVec 1 := Scalar.andi v966 v968
  let v955 : BitVec 32 := Scalar.divsi v0 c1_i32_586
  let c1_i32_592 : BitVec 32 := 1#32
  let v970 : BitVec 32 := Scalar.subi v955 c1_i32_592
  let v971 : BitVec 32 := Scalar.select v969 v970 v955
  let c1536_i32 : BitVec 32 := 1536#32
  let v972 : BitVec 32 := Scalar.addi v971 c1536_i32
  let c64_i32_593 : BitVec 32 := 64#32
  let v973 : BitVec 32 := Scalar.subi v972 c64_i32_593
  let v974 : BitVec 32 := Scalar.maxsi c0_i32_594 v973
  let v975 : BitVec 32 := Scalar.minsi c7936_i32_595 v974
  let c1_i32_599 : BitVec 32 := 1#32
  let v980 : BitVec 32 := Scalar.muli v975 c1_i32_599
  let c0_i32_600 : BitVec 32 := 0#32
  let v981 : BitVec 32 := Scalar.addi v980 c0_i32_600
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v982 : BitVec 32 := Scalar.subi v981 v3
  v982
def k0_mult14 (i : grid0.Coords) : BitVec 32 :=
  let c7936_i32_644 : BitVec 32 := 7936#32
  let c0_i32_643 : BitVec 32 := 0#32
  let arg2 : BitVec 32 := BitVec.ofNat 32 (i 2).val
  let c2048_i32 : BitVec 32 := 2048#32
  let v0 : BitVec 32 := Scalar.muli arg2 c2048_i32
  let c0_i32_636 : BitVec 32 := 0#32
  let v1035 : BitVec 1 := Scalar.cmpi .sgt v0 c0_i32_636
  let v1036 : BitVec 32 := Scalar.extui v1035
  let c0_i32_637 : BitVec 32 := 0#32
  let v1037 : BitVec 1 := Scalar.cmpi .slt v0 c0_i32_637
  let v1038 : BitVec 32 := Scalar.extui v1037
  let v1039 : BitVec 32 := Scalar.subi v1036 v1038
  let c1_i32_635 : BitVec 32 := 1#32
  let c0_i32_638 : BitVec 32 := 0#32
  let v1040 : BitVec 1 := Scalar.cmpi .sgt c1_i32_635 c0_i32_638
  let v1041 : BitVec 32 := Scalar.extui v1040
  let c0_i32_639 : BitVec 32 := 0#32
  let v1042 : BitVec 1 := Scalar.cmpi .slt c1_i32_635 c0_i32_639
  let v1043 : BitVec 32 := Scalar.extui v1042
  let v1044 : BitVec 32 := Scalar.subi v1041 v1043
  let v1045 : BitVec 1 := Scalar.cmpi .ne v1039 v1044
  let v1046 : BitVec 32 := Scalar.remsi v0 c1_i32_635
  let c0_i32_640 : BitVec 32 := 0#32
  let v1047 : BitVec 1 := Scalar.cmpi .ne v1046 c0_i32_640
  let v1048 : BitVec 1 := Scalar.andi v1045 v1047
  let v1034 : BitVec 32 := Scalar.divsi v0 c1_i32_635
  let c1_i32_641 : BitVec 32 := 1#32
  let v1049 : BitVec 32 := Scalar.subi v1034 c1_i32_641
  let v1050 : BitVec 32 := Scalar.select v1048 v1049 v1034
  let c1664_i32 : BitVec 32 := 1664#32
  let v1051 : BitVec 32 := Scalar.addi v1050 c1664_i32
  let c64_i32_642 : BitVec 32 := 64#32
  let v1052 : BitVec 32 := Scalar.subi v1051 c64_i32_642
  let v1053 : BitVec 32 := Scalar.maxsi c0_i32_643 v1052
  let v1054 : BitVec 32 := Scalar.minsi c7936_i32_644 v1053
  let c1_i32_648 : BitVec 32 := 1#32
  let v1059 : BitVec 32 := Scalar.muli v1054 c1_i32_648
  let c0_i32_649 : BitVec 32 := 0#32
  let v1060 : BitVec 32 := Scalar.addi v1059 c0_i32_649
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v1061 : BitVec 32 := Scalar.subi v1060 v3
  v1061
def k0_mult15 (i : grid0.Coords) : BitVec 32 :=
  let c7936_i32_693 : BitVec 32 := 7936#32
  let c0_i32_692 : BitVec 32 := 0#32
  let arg2 : BitVec 32 := BitVec.ofNat 32 (i 2).val
  let c2048_i32 : BitVec 32 := 2048#32
  let v0 : BitVec 32 := Scalar.muli arg2 c2048_i32
  let c0_i32_685 : BitVec 32 := 0#32
  let v1114 : BitVec 1 := Scalar.cmpi .sgt v0 c0_i32_685
  let v1115 : BitVec 32 := Scalar.extui v1114
  let c0_i32_686 : BitVec 32 := 0#32
  let v1116 : BitVec 1 := Scalar.cmpi .slt v0 c0_i32_686
  let v1117 : BitVec 32 := Scalar.extui v1116
  let v1118 : BitVec 32 := Scalar.subi v1115 v1117
  let c1_i32_684 : BitVec 32 := 1#32
  let c0_i32_687 : BitVec 32 := 0#32
  let v1119 : BitVec 1 := Scalar.cmpi .sgt c1_i32_684 c0_i32_687
  let v1120 : BitVec 32 := Scalar.extui v1119
  let c0_i32_688 : BitVec 32 := 0#32
  let v1121 : BitVec 1 := Scalar.cmpi .slt c1_i32_684 c0_i32_688
  let v1122 : BitVec 32 := Scalar.extui v1121
  let v1123 : BitVec 32 := Scalar.subi v1120 v1122
  let v1124 : BitVec 1 := Scalar.cmpi .ne v1118 v1123
  let v1125 : BitVec 32 := Scalar.remsi v0 c1_i32_684
  let c0_i32_689 : BitVec 32 := 0#32
  let v1126 : BitVec 1 := Scalar.cmpi .ne v1125 c0_i32_689
  let v1127 : BitVec 1 := Scalar.andi v1124 v1126
  let v1113 : BitVec 32 := Scalar.divsi v0 c1_i32_684
  let c1_i32_690 : BitVec 32 := 1#32
  let v1128 : BitVec 32 := Scalar.subi v1113 c1_i32_690
  let v1129 : BitVec 32 := Scalar.select v1127 v1128 v1113
  let c1792_i32 : BitVec 32 := 1792#32
  let v1130 : BitVec 32 := Scalar.addi v1129 c1792_i32
  let c64_i32_691 : BitVec 32 := 64#32
  let v1131 : BitVec 32 := Scalar.subi v1130 c64_i32_691
  let v1132 : BitVec 32 := Scalar.maxsi c0_i32_692 v1131
  let v1133 : BitVec 32 := Scalar.minsi c7936_i32_693 v1132
  let c1_i32_697 : BitVec 32 := 1#32
  let v1138 : BitVec 32 := Scalar.muli v1133 c1_i32_697
  let c0_i32_698 : BitVec 32 := 0#32
  let v1139 : BitVec 32 := Scalar.addi v1138 c0_i32_698
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v1140 : BitVec 32 := Scalar.subi v1139 v3
  v1140
def k0_mult16 (i : grid0.Coords) : BitVec 32 :=
  let c7936_i32_742 : BitVec 32 := 7936#32
  let c0_i32_741 : BitVec 32 := 0#32
  let arg2 : BitVec 32 := BitVec.ofNat 32 (i 2).val
  let c2048_i32 : BitVec 32 := 2048#32
  let v0 : BitVec 32 := Scalar.muli arg2 c2048_i32
  let c0_i32_734 : BitVec 32 := 0#32
  let v1193 : BitVec 1 := Scalar.cmpi .sgt v0 c0_i32_734
  let v1194 : BitVec 32 := Scalar.extui v1193
  let c0_i32_735 : BitVec 32 := 0#32
  let v1195 : BitVec 1 := Scalar.cmpi .slt v0 c0_i32_735
  let v1196 : BitVec 32 := Scalar.extui v1195
  let v1197 : BitVec 32 := Scalar.subi v1194 v1196
  let c1_i32_733 : BitVec 32 := 1#32
  let c0_i32_736 : BitVec 32 := 0#32
  let v1198 : BitVec 1 := Scalar.cmpi .sgt c1_i32_733 c0_i32_736
  let v1199 : BitVec 32 := Scalar.extui v1198
  let c0_i32_737 : BitVec 32 := 0#32
  let v1200 : BitVec 1 := Scalar.cmpi .slt c1_i32_733 c0_i32_737
  let v1201 : BitVec 32 := Scalar.extui v1200
  let v1202 : BitVec 32 := Scalar.subi v1199 v1201
  let v1203 : BitVec 1 := Scalar.cmpi .ne v1197 v1202
  let v1204 : BitVec 32 := Scalar.remsi v0 c1_i32_733
  let c0_i32_738 : BitVec 32 := 0#32
  let v1205 : BitVec 1 := Scalar.cmpi .ne v1204 c0_i32_738
  let v1206 : BitVec 1 := Scalar.andi v1203 v1205
  let v1192 : BitVec 32 := Scalar.divsi v0 c1_i32_733
  let c1_i32_739 : BitVec 32 := 1#32
  let v1207 : BitVec 32 := Scalar.subi v1192 c1_i32_739
  let v1208 : BitVec 32 := Scalar.select v1206 v1207 v1192
  let c1920_i32 : BitVec 32 := 1920#32
  let v1209 : BitVec 32 := Scalar.addi v1208 c1920_i32
  let c64_i32_740 : BitVec 32 := 64#32
  let v1210 : BitVec 32 := Scalar.subi v1209 c64_i32_740
  let v1211 : BitVec 32 := Scalar.maxsi c0_i32_741 v1210
  let v1212 : BitVec 32 := Scalar.minsi c7936_i32_742 v1211
  let c1_i32_746 : BitVec 32 := 1#32
  let v1217 : BitVec 32 := Scalar.muli v1212 c1_i32_746
  let c0_i32_747 : BitVec 32 := 0#32
  let v1218 : BitVec 32 := Scalar.addi v1217 c0_i32_747
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v1219 : BitVec 32 := Scalar.subi v1218 v3
  v1219
def k0_off3 (i : grid0.Coords) (c0_i32_788 : BitVec 32) (c0_i32_796 : BitVec 32) : Fin 4 → Nat :=
  let c0_802 : Index := 0#32
  let c0_803 : Index := 0#32
  let c1792_i32_791 : BitVec 32 := 1792#32
  let c0_i32_790 : BitVec 32 := 0#32
  let arg2 : BitVec 32 := BitVec.ofNat 32 (i 2).val
  let c2048_i32 : BitVec 32 := 2048#32
  let v0 : BitVec 32 := Scalar.muli arg2 c2048_i32
  let c0_i32_782 : BitVec 32 := 0#32
  let v1272 : BitVec 1 := Scalar.cmpi .sgt v0 c0_i32_782
  let v1273 : BitVec 32 := Scalar.extui v1272
  let c0_i32_783 : BitVec 32 := 0#32
  let v1274 : BitVec 1 := Scalar.cmpi .slt v0 c0_i32_783
  let v1275 : BitVec 32 := Scalar.extui v1274
  let v1276 : BitVec 32 := Scalar.subi v1273 v1275
  let c4_i32 : BitVec 32 := 4#32
  let c0_i32_784 : BitVec 32 := 0#32
  let v1277 : BitVec 1 := Scalar.cmpi .sgt c4_i32 c0_i32_784
  let v1278 : BitVec 32 := Scalar.extui v1277
  let c0_i32_785 : BitVec 32 := 0#32
  let v1279 : BitVec 1 := Scalar.cmpi .slt c4_i32 c0_i32_785
  let v1280 : BitVec 32 := Scalar.extui v1279
  let v1281 : BitVec 32 := Scalar.subi v1278 v1280
  let v1282 : BitVec 1 := Scalar.cmpi .ne v1276 v1281
  let v1283 : BitVec 32 := Scalar.remsi v0 c4_i32
  let c0_i32_786 : BitVec 32 := 0#32
  let v1284 : BitVec 1 := Scalar.cmpi .ne v1283 c0_i32_786
  let v1285 : BitVec 1 := Scalar.andi v1282 v1284
  let v1271 : BitVec 32 := Scalar.divsi v0 c4_i32
  let c1_i32_787 : BitVec 32 := 1#32
  let v1286 : BitVec 32 := Scalar.subi v1271 c1_i32_787
  let v1287 : BitVec 32 := Scalar.select v1285 v1286 v1271
  let v1288 : BitVec 32 := Scalar.addi v1287 c0_i32_788
  let c64_i32_789 : BitVec 32 := 64#32
  let v1289 : BitVec 32 := Scalar.subi v1288 c64_i32_789
  let v1290 : BitVec 32 := Scalar.maxsi c0_i32_790 v1289
  let v1291 : BitVec 32 := Scalar.minsi c1792_i32_791 v1290
  let c4_i32_795 : BitVec 32 := 4#32
  let v1296 : BitVec 32 := Scalar.muli v1291 c4_i32_795
  let v1297 : BitVec 32 := Scalar.addi v1296 c0_i32_796
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v1298 : BitVec 32 := Scalar.subi v1297 v3
  let v1304 : Index := Scalar.indexCast v1298
  let c0_804 : Index := 0#32
  ![0, 0, v1304.toNat, 0]
def k0_off4 (i : grid0.Coords) (c0_i32_1599 : BitVec 32) : Fin 4 → Nat :=
  let c0_1605 : Index := 0#32
  let c0_1606 : Index := 0#32
  let c256_i32_1594 : BitVec 32 := 256#32
  let c0_i32_1593 : BitVec 32 := 0#32
  let arg2 : BitVec 32 := BitVec.ofNat 32 (i 2).val
  let c2048_i32 : BitVec 32 := 2048#32
  let v0 : BitVec 32 := Scalar.muli arg2 c2048_i32
  let c0_i32_1585 : BitVec 32 := 0#32
  let v2520 : BitVec 1 := Scalar.cmpi .sgt v0 c0_i32_1585
  let v2521 : BitVec 32 := Scalar.extui v2520
  let c0_i32_1586 : BitVec 32 := 0#32
  let v2522 : BitVec 1 := Scalar.cmpi .slt v0 c0_i32_1586
  let v2523 : BitVec 32 := Scalar.extui v2522
  let v2524 : BitVec 32 := Scalar.subi v2521 v2523
  let c16_i32 : BitVec 32 := 16#32
  let c0_i32_1587 : BitVec 32 := 0#32
  let v2525 : BitVec 1 := Scalar.cmpi .sgt c16_i32 c0_i32_1587
  let v2526 : BitVec 32 := Scalar.extui v2525
  let c0_i32_1588 : BitVec 32 := 0#32
  let v2527 : BitVec 1 := Scalar.cmpi .slt c16_i32 c0_i32_1588
  let v2528 : BitVec 32 := Scalar.extui v2527
  let v2529 : BitVec 32 := Scalar.subi v2526 v2528
  let v2530 : BitVec 1 := Scalar.cmpi .ne v2524 v2529
  let v2531 : BitVec 32 := Scalar.remsi v0 c16_i32
  let c0_i32_1589 : BitVec 32 := 0#32
  let v2532 : BitVec 1 := Scalar.cmpi .ne v2531 c0_i32_1589
  let v2533 : BitVec 1 := Scalar.andi v2530 v2532
  let v2519 : BitVec 32 := Scalar.divsi v0 c16_i32
  let c1_i32_1590 : BitVec 32 := 1#32
  let v2534 : BitVec 32 := Scalar.subi v2519 c1_i32_1590
  let v2535 : BitVec 32 := Scalar.select v2533 v2534 v2519
  let c0_i32_1591 : BitVec 32 := 0#32
  let v2536 : BitVec 32 := Scalar.addi v2535 c0_i32_1591
  let c64_i32_1592 : BitVec 32 := 64#32
  let v2537 : BitVec 32 := Scalar.subi v2536 c64_i32_1592
  let v2538 : BitVec 32 := Scalar.maxsi c0_i32_1593 v2537
  let v2539 : BitVec 32 := Scalar.minsi c256_i32_1594 v2538
  let c16_i32_1598 : BitVec 32 := 16#32
  let v2544 : BitVec 32 := Scalar.muli v2539 c16_i32_1598
  let v2545 : BitVec 32 := Scalar.addi v2544 c0_i32_1599
  let c4096_i32 : BitVec 32 := 4096#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c4096_i32 v2
  let v2546 : BitVec 32 := Scalar.subi v2545 v3
  let v2552 : Index := Scalar.indexCast v2546
  let c0_1607 : Index := 0#32
  ![0, 0, v2552.toNat, 0]
@[reducible] def k0_t1_loop : Scf.Loop 32 :=
  let c0_i32_2377 : BitVec 32 := 0#32
  let c8_i32_2378 : BitVec 32 := 8#32
  let v3767 : BitVec 32 := Scalar.addi c0_i32_2377 c8_i32_2378
  let c1_i32_2379 : BitVec 32 := 1#32
  ⟨c0_i32_2377, v3767, c1_i32_2379⟩
def k0_mult17 (k0_t1 : Fin k0_t1_loop.trips) : BitVec 32 :=
  let c0_i32_2377 : BitVec 32 := 0#32
  let c1_i32_2379 : BitVec 32 := 1#32
  let arg16 : BitVec 32 := Scf.iv c0_i32_2377 c1_i32_2379 k0_t1
  let c256_i32_2381 : BitVec 32 := 256#32
  let v3768 : BitVec 32 := Scalar.muli arg16 c256_i32_2381
  v3768
def k0_off5 (k0_t1 : Fin k0_t1_loop.trips) : Fin 3 → Nat :=
  let c0_2382 : Index := 0#32
  let c0_i32_2377 : BitVec 32 := 0#32
  let c1_i32_2379 : BitVec 32 := 1#32
  let arg16 : BitVec 32 := Scf.iv c0_i32_2377 c1_i32_2379 k0_t1
  let c256_i32_2381 : BitVec 32 := 256#32
  let v3768 : BitVec 32 := Scalar.muli arg16 c256_i32_2381
  let v3769 : BitVec 32 := v3768
  let v3770 : Index := Scalar.indexCast v3769
  let c0_2383 : Index := 0#32
  ![0, v3770.toNat, 0]
def k0_off6 (k0_t1 : Fin k0_t1_loop.trips) : Fin 3 → Nat :=
  let c1_2384 : Index := 1#32
  let c0_i32_2377 : BitVec 32 := 0#32
  let c1_i32_2379 : BitVec 32 := 1#32
  let arg16 : BitVec 32 := Scf.iv c0_i32_2377 c1_i32_2379 k0_t1
  let c256_i32_2381 : BitVec 32 := 256#32
  let v3768 : BitVec 32 := Scalar.muli arg16 c256_i32_2381
  let v3769 : BitVec 32 := v3768
  let v3773 : Index := Scalar.indexCast v3769
  let c0_2385 : Index := 0#32
  ![1, v3773.toNat, 0]
def k0_off7 (k0_t1 : Fin k0_t1_loop.trips) : Fin 3 → Nat :=
  let c2_2386 : Index := 2#32
  let c0_i32_2377 : BitVec 32 := 0#32
  let c1_i32_2379 : BitVec 32 := 1#32
  let arg16 : BitVec 32 := Scf.iv c0_i32_2377 c1_i32_2379 k0_t1
  let c256_i32_2381 : BitVec 32 := 256#32
  let v3768 : BitVec 32 := Scalar.muli arg16 c256_i32_2381
  let v3769 : BitVec 32 := v3768
  let v3776 : Index := Scalar.indexCast v3769
  let c0_2387 : Index := 0#32
  ![2, v3776.toNat, 0]
def k0_off8 (k0_t1 : Fin k0_t1_loop.trips) : Fin 4 → Nat :=
  let c0_2395 : Index := 0#32
  let c0_2396 : Index := 0#32
  let c0_i32_2377 : BitVec 32 := 0#32
  let c1_i32_2379 : BitVec 32 := 1#32
  let arg16 : BitVec 32 := Scf.iv c0_i32_2377 c1_i32_2379 k0_t1
  let c256_i32_2381 : BitVec 32 := 256#32
  let v3768 : BitVec 32 := Scalar.muli arg16 c256_i32_2381
  let v3769 : BitVec 32 := v3768
  let v3803 : Index := Scalar.indexCast v3769
  let c0_2397 : Index := 0#32
  ![0, 0, v3803.toNat, 0]
def k0_off9 (k0_t1 : Fin k0_t1_loop.trips) : Fin 4 → Nat :=
  let c1_2398 : Index := 1#32
  let c0_2399 : Index := 0#32
  let c0_i32_2377 : BitVec 32 := 0#32
  let c1_i32_2379 : BitVec 32 := 1#32
  let arg16 : BitVec 32 := Scf.iv c0_i32_2377 c1_i32_2379 k0_t1
  let c256_i32_2381 : BitVec 32 := 256#32
  let v3768 : BitVec 32 := Scalar.muli arg16 c256_i32_2381
  let v3769 : BitVec 32 := v3768
  let v3807 : Index := Scalar.indexCast v3769
  let c0_2400 : Index := 0#32
  ![1, 0, v3807.toNat, 0]
def k0_off10 (k0_t1 : Fin k0_t1_loop.trips) : Fin 4 → Nat :=
  let c2_2401 : Index := 2#32
  let c0_2402 : Index := 0#32
  let c0_i32_2377 : BitVec 32 := 0#32
  let c1_i32_2379 : BitVec 32 := 1#32
  let arg16 : BitVec 32 := Scf.iv c0_i32_2377 c1_i32_2379 k0_t1
  let c256_i32_2381 : BitVec 32 := 256#32
  let v3768 : BitVec 32 := Scalar.muli arg16 c256_i32_2381
  let v3769 : BitVec 32 := v3768
  let v3812 : Index := Scalar.indexCast v3769
  let c0_2403 : Index := 0#32
  ![2, 0, v3812.toNat, 0]
def k0_off11 (k0_t1 : Fin k0_t1_loop.trips) : Fin 3 → Nat :=
  let c0_2404 : Index := 0#32
  let c0_i32_2377 : BitVec 32 := 0#32
  let c1_i32_2379 : BitVec 32 := 1#32
  let arg16 : BitVec 32 := Scf.iv c0_i32_2377 c1_i32_2379 k0_t1
  let c256_i32_2381 : BitVec 32 := 256#32
  let v3768 : BitVec 32 := Scalar.muli arg16 c256_i32_2381
  let v3769 : BitVec 32 := v3768
  let v3819 : Index := Scalar.indexCast v3769
  let c0_2405 : Index := 0#32
  ![0, v3819.toNat, 0]
def k0_off12 (k0_t1 : Fin k0_t1_loop.trips) : Fin 4 → Nat :=
  let c0_2406 : Index := 0#32
  let c1_2407 : Index := 1#32
  let c0_i32_2377 : BitVec 32 := 0#32
  let c1_i32_2379 : BitVec 32 := 1#32
  let arg16 : BitVec 32 := Scf.iv c0_i32_2377 c1_i32_2379 k0_t1
  let c256_i32_2381 : BitVec 32 := 256#32
  let v3768 : BitVec 32 := Scalar.muli arg16 c256_i32_2381
  let v3769 : BitVec 32 := v3768
  let v3823 : Index := Scalar.indexCast v3769
  let c0_2408 : Index := 0#32
  ![0, 1, v3823.toNat, 0]
def k0_off13 (k0_t1 : Fin k0_t1_loop.trips) : Fin 4 → Nat :=
  let c1_2409 : Index := 1#32
  let c1_2410 : Index := 1#32
  let c0_i32_2377 : BitVec 32 := 0#32
  let c1_i32_2379 : BitVec 32 := 1#32
  let arg16 : BitVec 32 := Scf.iv c0_i32_2377 c1_i32_2379 k0_t1
  let c256_i32_2381 : BitVec 32 := 256#32
  let v3768 : BitVec 32 := Scalar.muli arg16 c256_i32_2381
  let v3769 : BitVec 32 := v3768
  let v3827 : Index := Scalar.indexCast v3769
  let c0_2411 : Index := 0#32
  ![1, 1, v3827.toNat, 0]
def k0_off14 (k0_t1 : Fin k0_t1_loop.trips) : Fin 4 → Nat :=
  let c2_2412 : Index := 2#32
  let c1_2413 : Index := 1#32
  let c0_i32_2377 : BitVec 32 := 0#32
  let c1_i32_2379 : BitVec 32 := 1#32
  let arg16 : BitVec 32 := Scf.iv c0_i32_2377 c1_i32_2379 k0_t1
  let c256_i32_2381 : BitVec 32 := 256#32
  let v3768 : BitVec 32 := Scalar.muli arg16 c256_i32_2381
  let v3769 : BitVec 32 := v3768
  let v3832 : Index := Scalar.indexCast v3769
  let c0_2414 : Index := 0#32
  ![2, 1, v3832.toNat, 0]
def k0_off15 (k0_t1 : Fin k0_t1_loop.trips) : Fin 3 → Nat :=
  let c0_2415 : Index := 0#32
  let c0_i32_2377 : BitVec 32 := 0#32
  let c1_i32_2379 : BitVec 32 := 1#32
  let arg16 : BitVec 32 := Scf.iv c0_i32_2377 c1_i32_2379 k0_t1
  let c256_i32_2381 : BitVec 32 := 256#32
  let v3768 : BitVec 32 := Scalar.muli arg16 c256_i32_2381
  let v3769 : BitVec 32 := v3768
  let v3839 : Index := Scalar.indexCast v3769
  let c128_2416 : Index := 128#32
  ![0, v3839.toNat, 128]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c2048_i32 : BitVec 32 := 2048#32
  let v1 : BitVec 32 := Scalar.muli arg2 c2048_i32
  let c0_i32_0 : BitVec 32 := 0#32
  let c0_i32_1 : BitVec 32 := 0#32
  ![v0.toNat, arg0.toNat, v1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c2048_i32 : BitVec 32 := 2048#32
  let v1 : BitVec 32 := Scalar.muli arg2 c2048_i32
  let c0_i32 : BitVec 32 := 0#32
  let c0_i32_0 : BitVec 32 := 0#32
  ![v0.toNat, arg0.toNat, v1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c2048_i32 : BitVec 32 := 2048#32
  let v1 : BitVec 32 := Scalar.muli arg2 c2048_i32
  let c0_i32 : BitVec 32 := 0#32
  let c0_i32_0 : BitVec 32 := 0#32
  ![v0.toNat, arg0.toNat, v1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c2_i32 : BitVec 32 := 2#32
  let v1 : BitVec 32 := Scalar.muli arg2 c2_i32
  let c1_i32 : BitVec 32 := 1#32
  let v2 : BitVec 32 := Scalar.subi v1 c1_i32
  let c0_i32 : BitVec 32 := 0#32
  let c4_i32 : BitVec 32 := 4#32
  let v3 : BitVec 32 := Scalar.maxsi c0_i32 v2
  let v4 : BitVec 32 := Scalar.minsi c4_i32 v3
  let c1024_i32 : BitVec 32 := 1024#32
  let v5 : BitVec 32 := Scalar.muli v4 c1024_i32
  let c0_i32_0 : BitVec 32 := 0#32
  let c0_i32_1 : BitVec 32 := 0#32
  ![v0.toNat, arg0.toNat, v5.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c2_i32 : BitVec 32 := 2#32
  let v1 : BitVec 32 := Scalar.muli arg2 c2_i32
  let c1_i32 : BitVec 32 := 1#32
  let v2 : BitVec 32 := Scalar.subi v1 c1_i32
  let c0_i32 : BitVec 32 := 0#32
  let c4_i32 : BitVec 32 := 4#32
  let v3 : BitVec 32 := Scalar.maxsi c0_i32 v2
  let v4 : BitVec 32 := Scalar.minsi c4_i32 v3
  let c1024_i32 : BitVec 32 := 1024#32
  let v5 : BitVec 32 := Scalar.muli v4 c1024_i32
  let c0_i32_0 : BitVec 32 := 0#32
  let c0_i32_1 : BitVec 32 := 0#32
  ![v0.toNat, arg0.toNat, v5.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c80_i32 : BitVec 32 := 80#32
  let v0 : BitVec 32 := Scalar.addi c80_i32 arg1
  let c2_i32 : BitVec 32 := 2#32
  let v1 : BitVec 32 := Scalar.muli arg2 c2_i32
  let c1_i32 : BitVec 32 := 1#32
  let v2 : BitVec 32 := Scalar.subi v1 c1_i32
  let c0_i32 : BitVec 32 := 0#32
  let c4_i32 : BitVec 32 := 4#32
  let v3 : BitVec 32 := Scalar.maxsi c0_i32 v2
  let v4 : BitVec 32 := Scalar.minsi c4_i32 v3
  let c1024_i32 : BitVec 32 := 1024#32
  let v5 : BitVec 32 := Scalar.muli v4 c1024_i32
  let c0_i32_0 : BitVec 32 := 0#32
  let c0_i32_1 : BitVec 32 := 0#32
  ![v0.toNat, arg0.toNat, v5.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c96_i32 : BitVec 32 := 96#32
  let v1 : BitVec 32 := Scalar.addi c96_i32 v0
  let c0_i32 : BitVec 32 := 0#32
  let v2 : BitVec 32 := Scalar.addi v1 c0_i32
  let c2_i32_0 : BitVec 32 := 2#32
  let v3 : BitVec 32 := Scalar.muli arg2 c2_i32_0
  let c1_i32 : BitVec 32 := 1#32
  let v4 : BitVec 32 := Scalar.subi v3 c1_i32
  let c0_i32_1 : BitVec 32 := 0#32
  let c4_i32 : BitVec 32 := 4#32
  let v5 : BitVec 32 := Scalar.maxsi c0_i32_1 v4
  let v6 : BitVec 32 := Scalar.minsi c4_i32 v5
  let c1024_i32 : BitVec 32 := 1024#32
  let v7 : BitVec 32 := Scalar.muli v6 c1024_i32
  let c0_i32_2 : BitVec 32 := 0#32
  let c0_i32_3 : BitVec 32 := 0#32
  ![v2.toNat, arg0.toNat, v7.toNat, c0_i32_2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c96_i32 : BitVec 32 := 96#32
  let v1 : BitVec 32 := Scalar.addi c96_i32 v0
  let c1_i32 : BitVec 32 := 1#32
  let v2 : BitVec 32 := Scalar.addi v1 c1_i32
  let c2_i32_0 : BitVec 32 := 2#32
  let v3 : BitVec 32 := Scalar.muli arg2 c2_i32_0
  let c1_i32_1 : BitVec 32 := 1#32
  let v4 : BitVec 32 := Scalar.subi v3 c1_i32_1
  let c0_i32 : BitVec 32 := 0#32
  let c4_i32 : BitVec 32 := 4#32
  let v5 : BitVec 32 := Scalar.maxsi c0_i32 v4
  let v6 : BitVec 32 := Scalar.minsi c4_i32 v5
  let c1024_i32 : BitVec 32 := 1024#32
  let v7 : BitVec 32 := Scalar.muli v6 c1024_i32
  let c0_i32_2 : BitVec 32 := 0#32
  let c0_i32_3 : BitVec 32 := 0#32
  ![v2.toNat, arg0.toNat, v7.toNat, c0_i32_2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "scale2" => some (((Real.sqrt 128)⁻¹ * (Real.log 2)⁻¹ : ℝ) : EReal)
  | _ => none
-- ==== ReferenceIdeal.lean ====
abbrev S2x8192x16384 : Shape := ⟨3, ![2, 8192, 16384]⟩
abbrev S2x8192x6144 : Shape := ⟨3, ![2, 8192, 6144]⟩
abbrev S2x8192x3x16x128 : Shape := ⟨5, ![2, 8192, 3, 16, 128]⟩
abbrev S_ : Shape := ⟨0, ![]⟩
abbrev S2x8192x4096 : Shape := ⟨3, ![2, 8192, 4096]⟩
abbrev S2x8192x16x256 : Shape := ⟨4, ![2, 8192, 16, 256]⟩
abbrev S16 : Shape := ⟨1, ![16]⟩
abbrev S8192x8192 : Shape := ⟨2, ![8192, 8192]⟩
abbrev S2x8192x1x16x128 : Shape := ⟨5, ![2, 8192, 1, 16, 128]⟩
abbrev S2x8192x16x128 : Shape := ⟨4, ![2, 8192, 16, 128]⟩
abbrev S2x16x8192x8192 : Shape := ⟨4, ![2, 16, 8192, 8192]⟩
abbrev S16x1x1 : Shape := ⟨3, ![16, 1, 1]⟩
abbrev S1x8192x8192 : Shape := ⟨3, ![1, 8192, 8192]⟩
abbrev S16x8192x8192 : Shape := ⟨3, ![16, 8192, 8192]⟩
abbrev S1x16x8192x8192 : Shape := ⟨4, ![1, 16, 8192, 8192]⟩
abbrev S2x16x8192 : Shape := ⟨3, ![2, 16, 8192]⟩
abbrev S2x16x8192x1 : Shape := ⟨4, ![2, 16, 8192, 1]⟩
abbrev S2x16x8192x256 : Shape := ⟨4, ![2, 16, 8192, 256]⟩

abbrev nBuf : Space → Nat
  | .hbm => 173
  | .vmem => 0
  | .smem => 0
  | _ => 0

abbrev hbmTy0_0 (i : Nat) : BufTy := match i % 128 with
  | 0 => ⟨S2x8192x16384, .f32⟩
  | 1 => ⟨S2x8192x6144, .f32⟩
  | 2 => ⟨S2x8192x3x16x128, .f32⟩
  | 3 => ⟨S_, .f32⟩
  | 4 => ⟨S_, .f32⟩
  | 5 => ⟨S2x8192x3x16x128, .f32⟩
  | 6 => ⟨S2x8192x3x16x128, .f32⟩
  | 7 => ⟨S2x8192x6144, .f32⟩
  | 8 => ⟨S2x8192x3x16x128, .f32⟩
  | 9 => ⟨S2x8192x4096, .f32⟩
  | 10 => ⟨S2x8192x16x256, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S8192x8192, .i32⟩
  | 22 => ⟨S8192x8192, .i32⟩
  | 23 => ⟨S8192x8192, .i32⟩
  | 24 => ⟨S8192x8192, .i32⟩
  | 25 => ⟨S8192x8192, .f32⟩
  | 26 => ⟨S2x8192x1x16x128, .f32⟩
  | 27 => ⟨S2x8192x16x128, .f32⟩
  | 28 => ⟨S2x8192x1x16x128, .f32⟩
  | 29 => ⟨S2x8192x16x128, .f32⟩
  | 30 => ⟨S2x16x8192x8192, .f32⟩
  | 31 => ⟨S16x1x1, .f32⟩
  | 32 => ⟨S1x8192x8192, .f32⟩
  | 33 => ⟨S16x8192x8192, .f32⟩
  | 34 => ⟨S16x8192x8192, .f32⟩
  | 35 => ⟨S16x8192x8192, .f32⟩
  | 36 => ⟨S1x16x8192x8192, .f32⟩
  | 37 => ⟨S2x16x8192x8192, .f32⟩
  | 38 => ⟨S2x16x8192x8192, .f32⟩
  | 39 => ⟨S_, .i32⟩
  | 40 => ⟨S8192x8192, .i32⟩
  | 41 => ⟨S8192x8192, .i1⟩
  | 42 => ⟨S_, .i32⟩
  | 43 => ⟨S8192x8192, .i32⟩
  | 44 => ⟨S8192x8192, .i32⟩
  | 45 => ⟨S_, .i32⟩
  | 46 => ⟨S8192x8192, .i32⟩
  | 47 => ⟨S8192x8192, .i1⟩
  | 48 => ⟨S8192x8192, .i1⟩
  | 49 => ⟨S_, .f32⟩
  | 50 => ⟨S_, .f32⟩
  | 51 => ⟨S2x16x8192x8192, .i1⟩
  | 52 => ⟨S2x16x8192x8192, .f32⟩
  | 53 => ⟨S2x16x8192x8192, .f32⟩
  | 54 => ⟨S_, .f32⟩
  | 55 => ⟨S2x16x8192, .f32⟩
  | 56 => ⟨S2x16x8192x1, .f32⟩
  | 57 => ⟨S2x16x8192x8192, .f32⟩
  | 58 => ⟨S2x16x8192x8192, .f32⟩
  | 59 => ⟨S2x16x8192x8192, .f32⟩
  | 60 => ⟨S_, .f32⟩
  | 61 => ⟨S2x16x8192, .f32⟩
  | 62 => ⟨S2x16x8192x256, .f32⟩
  | 63 => ⟨S2x8192x1x16x128, .f32⟩
  | 64 => ⟨S2x8192x16x128, .f32⟩
  | 65 => ⟨S2x8192x1x16x128, .f32⟩
  | 66 => ⟨S2x8192x16x128, .f32⟩
  | 67 => ⟨S2x16x8192x8192, .f32⟩
  | 68 => ⟨S16x1x1, .f32⟩
  | 69 => ⟨S1x8192x8192, .f32⟩
  | 70 => ⟨S16x8192x8192, .f32⟩
  | 71 => ⟨S16x8192x8192, .f32⟩
  | 72 => ⟨S16x8192x8192, .f32⟩
  | 73 => ⟨S1x16x8192x8192, .f32⟩
  | 74 => ⟨S2x16x8192x8192, .f32⟩
  | 75 => ⟨S2x16x8192x8192, .f32⟩
  | 76 => ⟨S_, .i32⟩
  | 77 => ⟨S8192x8192, .i32⟩
  | 78 => ⟨S8192x8192, .i1⟩
  | 79 => ⟨S_, .i32⟩
  | 80 => ⟨S8192x8192, .i32⟩
  | 81 => ⟨S8192x8192, .i32⟩
  | 82 => ⟨S_, .i32⟩
  | 83 => ⟨S8192x8192, .i32⟩
  | 84 => ⟨S8192x8192, .i1⟩
  | 85 => ⟨S8192x8192, .i1⟩
  | 86 => ⟨S_, .f32⟩
  | 87 => ⟨S_, .f32⟩
  | 88 => ⟨S2x16x8192x8192, .i1⟩
  | 89 => ⟨S2x16x8192x8192, .f32⟩
  | 90 => ⟨S2x16x8192x8192, .f32⟩
  | 91 => ⟨S_, .f32⟩
  | 92 => ⟨S2x16x8192, .f32⟩
  | 93 => ⟨S2x16x8192x1, .f32⟩
  | 94 => ⟨S2x16x8192x8192, .f32⟩
  | 95 => ⟨S2x16x8192x8192, .f32⟩
  | 96 => ⟨S2x16x8192x8192, .f32⟩
  | 97 => ⟨S_, .f32⟩
  | 98 => ⟨S2x16x8192, .f32⟩
  | 99 => ⟨S2x16x8192x256, .f32⟩
  | 100 => ⟨S2x8192x1x16x128, .f32⟩
  | 101 => ⟨S2x8192x16x128, .f32⟩
  | 102 => ⟨S2x8192x1x16x128, .f32⟩
  | 103 => ⟨S2x8192x16x128, .f32⟩
  | 104 => ⟨S2x16x8192x8192, .f32⟩
  | 105 => ⟨S16x1x1, .f32⟩
  | 106 => ⟨S1x8192x8192, .f32⟩
  | 107 => ⟨S16x8192x8192, .f32⟩
  | 108 => ⟨S16x8192x8192, .f32⟩
  | 109 => ⟨S16x8192x8192, .f32⟩
  | 110 => ⟨S1x16x8192x8192, .f32⟩
  | 111 => ⟨S2x16x8192x8192, .f32⟩
  | 112 => ⟨S2x16x8192x8192, .f32⟩
  | 113 => ⟨S_, .i32⟩
  | 114 => ⟨S8192x8192, .i32⟩
  | 115 => ⟨S8192x8192, .i1⟩
  | 116 => ⟨S_, .i32⟩
  | 117 => ⟨S8192x8192, .i32⟩
  | 118 => ⟨S8192x8192, .i32⟩
  | 119 => ⟨S_, .i32⟩
  | 120 => ⟨S8192x8192, .i32⟩
  | 121 => ⟨S8192x8192, .i1⟩
  | 122 => ⟨S8192x8192, .i1⟩
  | 123 => ⟨S_, .f32⟩
  | 124 => ⟨S_, .f32⟩
  | 125 => ⟨S2x16x8192x8192, .i1⟩
  | 126 => ⟨S2x16x8192x8192, .f32⟩
  | 127 => ⟨S2x16x8192x8192, .f32⟩
  | _ => ⟨S2x8192x16384, .f32⟩

abbrev hbmTy0_1 (i : Nat) : BufTy := match i % 128 with
  | 0 => ⟨S_, .f32⟩
  | 1 => ⟨S2x16x8192, .f32⟩
  | 2 => ⟨S2x16x8192x1, .f32⟩
  | 3 => ⟨S2x16x8192x8192, .f32⟩
  | 4 => ⟨S2x16x8192x8192, .f32⟩
  | 5 => ⟨S2x16x8192x8192, .f32⟩
  | 6 => ⟨S_, .f32⟩
  | 7 => ⟨S2x16x8192, .f32⟩
  | 8 => ⟨S2x16x8192x256, .f32⟩
  | 9 => ⟨S2x16x8192, .f32⟩
  | 10 => ⟨S2x16x8192, .f32⟩
  | 11 => ⟨S_, .f32⟩
  | 12 => ⟨S2x16x8192x256, .f32⟩
  | 13 => ⟨S_, .f32⟩
  | 14 => ⟨S2x16x8192, .f32⟩
  | 15 => ⟨S2x16x8192, .f32⟩
  | 16 => ⟨S2x16x8192, .f32⟩
  | 17 => ⟨S2x16x8192x1, .f32⟩
  | 18 => ⟨S2x16x8192x256, .f32⟩
  | 19 => ⟨S2x16x8192x256, .f32⟩
  | 20 => ⟨S2x16x8192x256, .f32⟩
  | 21 => ⟨S2x16x8192, .f32⟩
  | 22 => ⟨S2x16x8192, .f32⟩
  | 23 => ⟨S2x16x8192, .f32⟩
  | 24 => ⟨S2x16x8192, .f32⟩
  | 25 => ⟨S2x16x8192x1, .f32⟩
  | 26 => ⟨S2x16x8192x256, .f32⟩
  | 27 => ⟨S2x16x8192x256, .f32⟩
  | 28 => ⟨S2x16x8192x256, .f32⟩
  | 29 => ⟨S2x16x8192, .f32⟩
  | 30 => ⟨S2x16x8192, .f32⟩
  | 31 => ⟨S2x16x8192, .f32⟩
  | 32 => ⟨S2x16x8192, .f32⟩
  | 33 => ⟨S2x16x8192x1, .f32⟩
  | 34 => ⟨S2x16x8192x256, .f32⟩
  | 35 => ⟨S2x16x8192x256, .f32⟩
  | 36 => ⟨S2x16x8192x256, .f32⟩
  | 37 => ⟨S2x16x8192, .f32⟩
  | 38 => ⟨S2x16x8192, .f32⟩
  | 39 => ⟨S2x16x8192x1, .f32⟩
  | 40 => ⟨S2x16x8192x256, .f32⟩
  | 41 => ⟨S2x16x8192x256, .f32⟩
  | 42 => ⟨S2x8192x16x256, .f32⟩
  | 43 => ⟨S2x8192x4096, .f32⟩
  | 44 => ⟨S2x8192x4096, .bf16⟩
  | _ => ⟨S2x8192x16384, .f32⟩

abbrev hbmTy (i : Nat) : BufTy := match i / 128 with
  | 0 => hbmTy0_0 i
  | 1 => hbmTy0_1 i
  | _ => ⟨S2x8192x16384, .f32⟩

abbrev bufTy : (tb : Table) → Fin (tcTables nBuf tb) → BufTy
  | .hbm, ⟨i, _⟩ => hbmTy i
  | _, _ => ⟨S2x8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c : Ref sig .tc := ⟨.hbm, 39, rfl⟩
abbrev main_v34 : Ref sig .tc := ⟨.hbm, 40, rfl⟩
abbrev main_v35 : Ref sig .tc := ⟨.hbm, 41, rfl⟩
abbrev main_c_3 : Ref sig .tc := ⟨.hbm, 42, rfl⟩
abbrev main_v36 : Ref sig .tc := ⟨.hbm, 43, rfl⟩
abbrev main_v37 : Ref sig .tc := ⟨.hbm, 44, rfl⟩
abbrev main_c_4 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_c_8 : Ref sig .tc := ⟨.hbm, 76, rfl⟩
abbrev main_v62 : Ref sig .tc := ⟨.hbm, 77, rfl⟩
abbrev main_v63 : Ref sig .tc := ⟨.hbm, 78, rfl⟩
abbrev main_c_9 : Ref sig .tc := ⟨.hbm, 79, rfl⟩
abbrev main_v64 : Ref sig .tc := ⟨.hbm, 80, rfl⟩
abbrev main_v65 : Ref sig .tc := ⟨.hbm, 81, rfl⟩
abbrev main_c_10 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_13 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_c_14 : Ref sig .tc := ⟨.hbm, 113, rfl⟩
abbrev main_v90 : Ref sig .tc := ⟨.hbm, 114, rfl⟩
abbrev main_v91 : Ref sig .tc := ⟨.hbm, 115, rfl⟩
abbrev main_c_15 : Ref sig .tc := ⟨.hbm, 116, rfl⟩
abbrev main_v92 : Ref sig .tc := ⟨.hbm, 117, rfl⟩
abbrev main_v93 : Ref sig .tc := ⟨.hbm, 118, rfl⟩
abbrev main_c_16 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_17 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_v97 : Ref sig .tc := ⟨.hbm, 127, rfl⟩
abbrev main_cst_18 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_19 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_20 : Ref sig .tc := ⟨.hbm, 139, rfl⟩
abbrev main_v107 : Ref sig .tc := ⟨.hbm, 140, rfl⟩
abbrev main_cst_21 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩

abbrev nD : Nat := 1
abbrev τ : Topo := Topo.v7x

variable {F : FTy → Type} [FloatOps F]
-- ==== Kernel2.lean ====
abbrev S16384x4096 : Shape := ⟨2, ![16384, 4096]⟩
abbrev S4x4096x16384 : Shape := ⟨3, ![4, 4096, 16384]⟩
abbrev S16384x16384 : Shape := ⟨2, ![16384, 16384]⟩
abbrev S1024x4096 : Shape := ⟨2, ![1024, 4096]⟩
abbrev S1024x1024 : Shape := ⟨2, ![1024, 1024]⟩
abbrev S4096x1024 : Shape := ⟨2, ![4096, 1024]⟩
abbrev S_ : Shape := ⟨0, ![]⟩
abbrev S1x4096x1024 : Shape := ⟨3, ![1, 4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4x4096x16384, .f32⟩
  | .hbm, ⟨2, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S4096x1024, .f32⟩
  | .local _ .vmem, ⟨5, _⟩ => ⟨S4096x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_7 : BitVec 32 := 0#32
  let v11 : BitVec 1 := Scalar.cmpi .eq arg0 c0_i32_7
  let v12 : BitVec 32 := Scalar.extui v11
  let c0_i32_8 : BitVec 32 := 0#32
  let v13 : BitVec 1 := Scalar.cmpi .ne v12 c0_i32_8
  v13

def k0_mult1 : BitVec 32 :=
  let c0_i32_16 : BitVec 32 := 0#32
  c0_i32_16
def k0_mult2 (i : grid0.Coords) : BitVec 32 :=
  let arg0 : BitVec 32 := BitVec.ofNat 32 (i 0).val
  let c1024_i32 : BitVec 32 := 1024#32
  let v14 : BitVec 32 := Scalar.muli arg0 c1024_i32
  v14
def k0_off1 (i : grid0.Coords) : Fin 3 → Nat :=
  let c0_i32_9 : BitVec 32 := 0#32
  let c0_i32_10 : BitVec 32 := 0#32
  let arg0 : BitVec 32 := BitVec.ofNat 32 (i 0).val
  let c1024_i32 : BitVec 32 := 1024#32
  let v14 : BitVec 32 := Scalar.muli arg0 c1024_i32
  let v15 : BitVec 32 := v14
  ![0, 0, v15.toNat]
def k0_cond3 (i : grid0.Coords) : BitVec 1 :=
  let arg0 : BitVec 32 := BitVec.ofNat 32 (i 0).val
  let c1_i32 : BitVec 32 := 1#32
  let v23 : BitVec 32 := Scalar.addi arg0 c1_i32
  let c16_i32 : BitVec 32 := 16#32
  let v24 : BitVec 1 := Scalar.cmpi .slt v23 c16_i32
  let v25 : BitVec 32 := Scalar.extui v24
  let c0_i32_15 : BitVec 32 := 0#32
  let v26 : BitVec 1 := Scalar.cmpi .ne v25 c0_i32_15
  v26

def k0_mult3 (i : grid0.Coords) : BitVec 32 :=
  let arg0 : BitVec 32 := BitVec.ofNat 32 (i 0).val
  let c1_i32_16 : BitVec 32 := 1#32
  let v27 : BitVec 32 := Scalar.addi arg0 c1_i32_16
  let c1024_i32_17 : BitVec 32 := 1024#32
  let v28 : BitVec 32 := Scalar.muli v27 c1024_i32_17
  v28
def k0_off2 (i : grid0.Coords) : Fin 3 → Nat :=
  let c0_i32_18 : BitVec 32 := 0#32
  let c0_i32_19 : BitVec 32 := 0#32
  let arg0 : BitVec 32 := BitVec.ofNat 32 (i 0).val
  let c1_i32_16 : BitVec 32 := 1#32
  let v27 : BitVec 32 := Scalar.addi arg0 c1_i32_16
  let c1024_i32_17 : BitVec 32 := 1024#32
  let v28 : BitVec 32 := Scalar.muli v27 c1024_i32_17
  let v29 : BitVec 32 := v28
  ![0, 0, v29.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference2Ideal.lean ====
abbrev S16384x4096 : Shape := ⟨2, ![16384, 4096]⟩
abbrev S4x4096x16384 : Shape := ⟨3, ![4, 4096, 16384]⟩
abbrev S1x4096x16384 : Shape := ⟨3, ![1, 4096, 16384]⟩
abbrev S4096x16384 : Shape := ⟨2, ![4096, 16384]⟩
abbrev S16384x16384 : Shape := ⟨2, ![16384, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x16384, .f32⟩
  | .hbm, ⟨2, _⟩ => ⟨S16384x4096, .f32⟩
  | .hbm, ⟨3, _⟩ => ⟨S1x4096x16384, .f32⟩
  | .hbm, ⟨4, _⟩ => ⟨S4096x16384, .f32⟩
  | .hbm, ⟨5, _⟩ => ⟨S16384x16384, .f32⟩
  | .hbm, ⟨6, _⟩ => ⟨S_, .f32⟩
  | .hbm, ⟨7, _⟩ => ⟨S16384x16384, .f32⟩
  | .hbm, ⟨8, _⟩ => ⟨S16384x16384, .f32⟩
  | .hbm, ⟨9, _⟩ => ⟨S16384x16384, .f32⟩
  | .hbm, ⟨10, _⟩ => ⟨S16384x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S16384x16384 : Shape := ⟨2, ![16384, 16384]⟩
abbrev S4x16384x4096 : Shape := ⟨3, ![4, 16384, 4096]⟩
abbrev S16384x4096 : Shape := ⟨2, ![16384, 4096]⟩
abbrev S512x4096 : Shape := ⟨2, ![512, 4096]⟩
abbrev S512x1024 : Shape := ⟨2, ![512, 1024]⟩
abbrev S4096x1024 : Shape := ⟨2, ![4096, 1024]⟩
abbrev S_ : Shape := ⟨0, ![]⟩
abbrev S1x4096x1024 : Shape := ⟨3, ![1, 4096, 1024]⟩

abbrev nBuf : Space → Nat
  | .hbm => 7
  | .vmem => 32
  | .smem => 0
  | _ => 0

abbrev bufTy : (tb : Table) → Fin (tcTables nBuf tb) → BufTy
  | .hbm, ⟨0, _⟩ => ⟨S16384x16384, .bf16⟩
  | .hbm, ⟨1, _⟩ => ⟨S4x16384x4096, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S16384x4096, .f32⟩
  | .hbm, ⟨6, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .f32⟩
  | .local _ .vmem, ⟨7, _⟩ => ⟨S4096x1024, .bf16⟩
  | .local _ .vmem, ⟨8, _⟩ => ⟨S512x4096, .bf16⟩
  | .local _ .vmem, ⟨9, _⟩ => ⟨S512x4096, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S4096x1024, .f32⟩
  | .local _ .vmem, ⟨15, _⟩ => ⟨S4096x1024, .bf16⟩
  | .local _ .vmem, ⟨16, _⟩ => ⟨S512x4096, .bf16⟩
  | .local _ .vmem, ⟨17, _⟩ => ⟨S512x4096, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S4096x1024, .f32⟩
  | .local _ .vmem, ⟨23, _⟩ => ⟨S4096x1024, .bf16⟩
  | .local _ .vmem, ⟨24, _⟩ => ⟨S512x4096, .bf16⟩
  | .local _ .vmem, ⟨25, _⟩ => ⟨S512x4096, .bf16⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S4096x1024, .f32⟩
  | .local _ .vmem, ⟨31, _⟩ => ⟨S4096x1024, .bf16⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_scratch0 : Ref sig .tc := ⟨.vmem, 22, rfl⟩
abbrev cc2_scratch1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_scratch0 : Ref sig .tc := ⟨.vmem, 30, rfl⟩
abbrev cc3_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_8 : BitVec 32 := 0#32
  let v9 : BitVec 1 := Scalar.cmpi .eq arg0 c0_i32_8
  let v10 : BitVec 32 := Scalar.extui v9
  let c0_i32_9 : BitVec 32 := 0#32
  let v11 : BitVec 1 := Scalar.cmpi .ne v10 c0_i32_9
  v11

def k0_mult1 : BitVec 32 :=
  let c0_i32_17 : BitVec 32 := 0#32
  c0_i32_17
def k0_mult2 (i : grid0.Coords) : BitVec 32 :=
  let arg0 : BitVec 32 := BitVec.ofNat 32 (i 0).val
  let c1024_i32 : BitVec 32 := 1024#32
  let v12 : BitVec 32 := Scalar.muli arg0 c1024_i32
  v12
def k0_off1 (i : grid0.Coords) : Fin 3 → Nat :=
  let c0_i32_10 : BitVec 32 := 0#32
  let c0_i32_11 : BitVec 32 := 0#32
  let arg0 : BitVec 32 := BitVec.ofNat 32 (i 0).val
  let c1024_i32 : BitVec 32 := 1024#32
  let v12 : BitVec 32 := Scalar.muli arg0 c1024_i32
  let v13 : BitVec 32 := v12
  ![0, 0, v13.toNat]
def k0_cond3 (i : grid0.Coords) : BitVec 1 :=
  let arg0 : BitVec 32 := BitVec.ofNat 32 (i 0).val
  let c1_i32 : BitVec 32 := 1#32
  let v21 : BitVec 32 := Scalar.addi arg0 c1_i32
  let c4_i32 : BitVec 32 := 4#32
  let v22 : BitVec 1 := Scalar.cmpi .slt v21 c4_i32
  let v23 : BitVec 32 := Scalar.extui v22
  let c0_i32_16 : BitVec 32 := 0#32
  let v24 : BitVec 1 := Scalar.cmpi .ne v23 c0_i32_16
  v24

def k0_mult3 (i : grid0.Coords) : BitVec 32 :=
  let arg0 : BitVec 32 := BitVec.ofNat 32 (i 0).val
  let c1_i32_17 : BitVec 32 := 1#32
  let v25 : BitVec 32 := Scalar.addi arg0 c1_i32_17
  let c1024_i32_18 : BitVec 32 := 1024#32
  let v26 : BitVec 32 := Scalar.muli v25 c1024_i32_18
  v26
def k0_off2 (i : grid0.Coords) : Fin 3 → Nat :=
  let c0_i32_19 : BitVec 32 := 0#32
  let c0_i32_20 : BitVec 32 := 0#32
  let arg0 : BitVec 32 := BitVec.ofNat 32 (i 0).val
  let c1_i32_17 : BitVec 32 := 1#32
  let v25 : BitVec 32 := Scalar.addi arg0 c1_i32_17
  let c1024_i32_18 : BitVec 32 := 1024#32
  let v26 : BitVec 32 := Scalar.muli v25 c1024_i32_18
  let v27 : BitVec 32 := v26
  ![0, 0, v27.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 32], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_8 : BitVec 32 := 0#32
  let v10 : BitVec 1 := Scalar.cmpi .eq arg0 c0_i32_8
  let v11 : BitVec 32 := Scalar.extui v10
  let c0_i32_9 : BitVec 32 := 0#32
  let v12 : BitVec 1 := Scalar.cmpi .ne v11 c0_i32_9
  v12

def k1_mult1 : BitVec 32 :=
  let c0_i32_16 : BitVec 32 := 0#32
  c0_i32_16
def k1_mult2 (i : grid1.Coords) : BitVec 32 :=
  let arg0 : BitVec 32 := BitVec.ofNat 32 (i 0).val
  let c1024_i32 : BitVec 32 := 1024#32
  let v13 : BitVec 32 := Scalar.muli arg0 c1024_i32
  v13
def k1_off1 (i : grid1.Coords) : Fin 3 → Nat :=
  let c0_i32_10 : BitVec 32 := 0#32
  let c4096_i32 : BitVec 32 := 4096#32
  let arg0 : BitVec 32 := BitVec.ofNat 32 (i 0).val
  let c1024_i32 : BitVec 32 := 1024#32
  let v13 : BitVec 32 := Scalar.muli arg0 c1024_i32
  let v14 : BitVec 32 := v13
  ![0, 4096, v14.toNat]
def k1_cond3 (i : grid1.Coords) : BitVec 1 :=
  let arg0 : BitVec 32 := BitVec.ofNat 32 (i 0).val
  let c1_i32 : BitVec 32 := 1#32
  let v22 : BitVec 32 := Scalar.addi arg0 c1_i32
  let c4_i32 : BitVec 32 := 4#32
  let v23 : BitVec 1 := Scalar.cmpi .slt v22 c4_i32
  let v24 : BitVec 32 := Scalar.extui v23
  let c0_i32_15 : BitVec 32 := 0#32
  let v25 : BitVec 1 := Scalar.cmpi .ne v24 c0_i32_15
  v25

def k1_mult3 (i : grid1.Coords) : BitVec 32 :=
  let arg0 : BitVec 32 := BitVec.ofNat 32 (i 0).val
  let c1_i32_16 : BitVec 32 := 1#32
  let v26 : BitVec 32 := Scalar.addi arg0 c1_i32_16
  let c1024_i32_17 : BitVec 32 := 1024#32
  let v27 : BitVec 32 := Scalar.muli v26 c1024_i32_17
  v27
def k1_off2 (i : grid1.Coords) : Fin 3 → Nat :=
  let c0_i32_18 : BitVec 32 := 0#32
  let c4096_i32_19 : BitVec 32 := 4096#32
  let arg0 : BitVec 32 := BitVec.ofNat 32 (i 0).val
  let c1_i32_16 : BitVec 32 := 1#32
  let v26 : BitVec 32 := Scalar.addi arg0 c1_i32_16
  let c1024_i32_17 : BitVec 32 := 1024#32
  let v27 : BitVec 32 := Scalar.muli v26 c1024_i32_17
  let v28 : BitVec 32 := v27
  ![0, 4096, v28.toNat]
def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 32], ![false, false]⟩

def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k2_cond2 (i : grid2.Coords) : BitVec 1 :=
  let arg0 : BitVec 32 := BitVec.ofNat 32 (i 0).val
  let c0_i32_8 : BitVec 32 := 0#32
  let v10 : BitVec 1 := Scalar.cmpi .eq arg0 c0_i32_8
  let v11 : BitVec 32 := Scalar.extui v10
  let c0_i32_9 : BitVec 32 := 0#32
  let v12 : BitVec 1 := Scalar.cmpi .ne v11 c0_i32_9
  v12

def k2_mult1 : BitVec 32 :=
  let c0_i32_16 : BitVec 32 := 0#32
  c0_i32_16
def k2_mult2 (i : grid2.Coords) : BitVec 32 :=
  let arg0 : BitVec 32 := BitVec.ofNat 32 (i 0).val
  let c1024_i32 : BitVec 32 := 1024#32
  let v13 : BitVec 32 := Scalar.muli arg0 c1024_i32
  v13
def k2_off1 (i : grid2.Coords) : Fin 3 → Nat :=
  let c0_i32_10 : BitVec 32 := 0#32
  let c8192_i32 : BitVec 32 := 8192#32
  let arg0 : BitVec 32 := BitVec.ofNat 32 (i 0).val
  let c1024_i32 : BitVec 32 := 1024#32
  let v13 : BitVec 32 := Scalar.muli arg0 c1024_i32
  let v14 : BitVec 32 := v13
  ![0, 8192, v14.toNat]
def k2_cond3 (i : grid2.Coords) : BitVec 1 :=
  let arg0 : BitVec 32 := BitVec.ofNat 32 (i 0).val
  let c1_i32 : BitVec 32 := 1#32
  let v22 : BitVec 32 := Scalar.addi arg0 c1_i32
  let c4_i32 : BitVec 32 := 4#32
  let v23 : BitVec 1 := Scalar.cmpi .slt v22 c4_i32
  let v24 : BitVec 32 := Scalar.extui v23
  let c0_i32_15 : BitVec 32 := 0#32
  let v25 : BitVec 1 := Scalar.cmpi .ne v24 c0_i32_15
  v25

def k2_mult3 (i : grid2.Coords) : BitVec 32 :=
  let arg0 : BitVec 32 := BitVec.ofNat 32 (i 0).val
  let c1_i32_16 : BitVec 32 := 1#32
  let v26 : BitVec 32 := Scalar.addi arg0 c1_i32_16
  let c1024_i32_17 : BitVec 32 := 1024#32
  let v27 : BitVec 32 := Scalar.muli v26 c1024_i32_17
  v27
def k2_off2 (i : grid2.Coords) : Fin 3 → Nat :=
  let c0_i32_18 : BitVec 32 := 0#32
  let c8192_i32_19 : BitVec 32 := 8192#32
  let arg0 : BitVec 32 := BitVec.ofNat 32 (i 0).val
  let c1_i32_16 : BitVec 32 := 1#32
  let v26 : BitVec 32 := Scalar.addi arg0 c1_i32_16
  let c1024_i32_17 : BitVec 32 := 1024#32
  let v27 : BitVec 32 := Scalar.muli v26 c1024_i32_17
  let v28 : BitVec 32 := v27
  ![0, 8192, v28.toNat]
def cc2_transform_0 (i : grid2.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 32], ![false, false]⟩

def k3_cond1 (i : grid3.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k3_cond2 (i : grid3.Coords) : BitVec 1 :=
  let arg0 : BitVec 32 := BitVec.ofNat 32 (i 0).val
  let c0_i32_8 : BitVec 32 := 0#32
  let v10 : BitVec 1 := Scalar.cmpi .eq arg0 c0_i32_8
  let v11 : BitVec 32 := Scalar.extui v10
  let c0_i32_9 : BitVec 32 := 0#32
  let v12 : BitVec 1 := Scalar.cmpi .ne v11 c0_i32_9
  v12

def k3_mult1 : BitVec 32 :=
  let c0_i32_16 : BitVec 32 := 0#32
  c0_i32_16
def k3_mult2 (i : grid3.Coords) : BitVec 32 :=
  let arg0 : BitVec 32 := BitVec.ofNat 32 (i 0).val
  let c1024_i32 : BitVec 32 := 1024#32
  let v13 : BitVec 32 := Scalar.muli arg0 c1024_i32
  v13
def k3_off1 (i : grid3.Coords) : Fin 3 → Nat :=
  let c0_i32_10 : BitVec 32 := 0#32
  let c12288_i32 : BitVec 32 := 12288#32
  let arg0 : BitVec 32 := BitVec.ofNat 32 (i 0).val
  let c1024_i32 : BitVec 32 := 1024#32
  let v13 : BitVec 32 := Scalar.muli arg0 c1024_i32
  let v14 : BitVec 32 := v13
  ![0, 12288, v14.toNat]
def k3_cond3 (i : grid3.Coords) : BitVec 1 :=
  let arg0 : BitVec 32 := BitVec.ofNat 32 (i 0).val
  let c1_i32 : BitVec 32 := 1#32
  let v22 : BitVec 32 := Scalar.addi arg0 c1_i32
  let c4_i32 : BitVec 32 := 4#32
  let v23 : BitVec 1 := Scalar.cmpi .slt v22 c4_i32
  let v24 : BitVec 32 := Scalar.extui v23
  let c0_i32_15 : BitVec 32 := 0#32
  let v25 : BitVec 1 := Scalar.cmpi .ne v24 c0_i32_15
  v25

def k3_mult3 (i : grid3.Coords) : BitVec 32 :=
  let arg0 : BitVec 32 := BitVec.ofNat 32 (i 0).val
  let c1_i32_16 : BitVec 32 := 1#32
  let v26 : BitVec 32 := Scalar.addi arg0 c1_i32_16
  let c1024_i32_17 : BitVec 32 := 1024#32
  let v27 : BitVec 32 := Scalar.muli v26 c1024_i32_17
  v27
def k3_off2 (i : grid3.Coords) : Fin 3 → Nat :=
  let c0_i32_18 : BitVec 32 := 0#32
  let c12288_i32_19 : BitVec 32 := 12288#32
  let arg0 : BitVec 32 := BitVec.ofNat 32 (i 0).val
  let c1_i32_16 : BitVec 32 := 1#32
  let v26 : BitVec 32 := Scalar.addi arg0 c1_i32_16
  let c1024_i32_17 : BitVec 32 := 1024#32
  let v27 : BitVec 32 := Scalar.muli v26 c1024_i32_17
  let v28 : BitVec 32 := v27
  ![0, 12288, v28.toNat]
def cc3_transform_0 (i : grid3.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference3Ideal.lean ====
abbrev S16384x16384 : Shape := ⟨2, ![16384, 16384]⟩
abbrev S4x16384x4096 : Shape := ⟨3, ![4, 16384, 4096]⟩
abbrev S16384x4096 : Shape := ⟨2, ![16384, 4096]⟩
abbrev S1x16384x4096 : Shape := ⟨3, ![1, 16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S4x16384x4096, .f32⟩
  | .hbm, ⟨2, _⟩ => ⟨S16384x4096, .f32⟩
  | .hbm, ⟨3, _⟩ => ⟨S16384x16384, .f32⟩
  | .hbm, ⟨4, _⟩ => ⟨S1x16384x4096, .f32⟩
  | .hbm, ⟨5, _⟩ => ⟨S16384x4096, .f32⟩
  | .hbm, ⟨6, _⟩ => ⟨S16384x4096, .f32⟩
  | .hbm, ⟨7, _⟩ => ⟨S16384x4096, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S16384x4096 : Shape := ⟨2, ![16384, 4096]⟩
abbrev S2x4096x16384 : Shape := ⟨3, ![2, 4096, 16384]⟩
abbrev S128x16384x128 : Shape := ⟨3, ![128, 16384, 128]⟩
abbrev S1024x4096 : Shape := ⟨2, ![1024, 4096]⟩
abbrev S8x1024x128 : Shape := ⟨3, ![8, 1024, 128]⟩
abbrev S4096x1024 : Shape := ⟨2, ![4096, 1024]⟩
abbrev S_ : Shape := ⟨0, ![]⟩
abbrev S1x4096x1024 : Shape := ⟨3, ![1, 4096, 1024]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x16384, .f32⟩
  | .hbm, ⟨2, _⟩ => ⟨S128x16384x128, .f32⟩
  | .local _ .vmem, ⟨0, _⟩ => ⟨S1024x4096, .bf16⟩
  | .local _ .vmem, ⟨1, _⟩ => ⟨S1024x4096, .bf16⟩
  | .local _ .vmem, ⟨2, _⟩ => ⟨S8x1024x128, .f32⟩
  | .local _ .vmem, ⟨3, _⟩ => ⟨S8x1024x128, .f32⟩
  | .local _ .vmem, ⟨4, _⟩ => ⟨S4096x1024, .f32⟩
  | .local _ .vmem, ⟨5, _⟩ => ⟨S4096x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_21 : BitVec 32 := 0#32
  let v38 : BitVec 1 := Scalar.cmpi .eq arg0 c0_i32_21
  let v39 : BitVec 32 := Scalar.extui v38
  let c0_i32_22 : BitVec 32 := 0#32
  let v40 : BitVec 1 := Scalar.cmpi .ne v39 c0_i32_22
  v40

def k0_mult1 : BitVec 32 :=
  let c0_i32_30 : BitVec 32 := 0#32
  c0_i32_30
def k0_mult2 (i : grid0.Coords) : BitVec 32 :=
  let arg0 : BitVec 32 := BitVec.ofNat 32 (i 0).val
  let c1024_i32 : BitVec 32 := 1024#32
  let v41 : BitVec 32 := Scalar.muli arg0 c1024_i32
  v41
def k0_off1 (i : grid0.Coords) : Fin 3 → Nat :=
  let c0_i32_23 : BitVec 32 := 0#32
  let c0_i32_24 : BitVec 32 := 0#32
  let arg0 : BitVec 32 := BitVec.ofNat 32 (i 0).val
  let c1024_i32 : BitVec 32 := 1024#32
  let v41 : BitVec 32 := Scalar.muli arg0 c1024_i32
  let v42 : BitVec 32 := v41
  ![0, 0, v42.toNat]
def k0_cond3 (i : grid0.Coords) : BitVec 1 :=
  let arg0 : BitVec 32 := BitVec.ofNat 32 (i 0).val
  let c1_i32 : BitVec 32 := 1#32
  let v50 : BitVec 32 := Scalar.addi arg0 c1_i32
  let c16_i32 : BitVec 32 := 16#32
  let v51 : BitVec 1 := Scalar.cmpi .slt v50 c16_i32
  let v52 : BitVec 32 := Scalar.extui v51
  let c0_i32_29 : BitVec 32 := 0#32
  let v53 : BitVec 1 := Scalar.cmpi .ne v52 c0_i32_29
  v53

def k0_mult3 (i : grid0.Coords) : BitVec 32 :=
  let arg0 : BitVec 32 := BitVec.ofNat 32 (i 0).val
  let c1_i32_30 : BitVec 32 := 1#32
  let v54 : BitVec 32 := Scalar.addi arg0 c1_i32_30
  let c1024_i32_31 : BitVec 32 := 1024#32
  let v55 : BitVec 32 := Scalar.muli v54 c1024_i32_31
  v55
def k0_off2 (i : grid0.Coords) : Fin 3 → Nat :=
  let c0_i32_32 : BitVec 32 := 0#32
  let c0_i32_33 : BitVec 32 := 0#32
  let arg0 : BitVec 32 := BitVec.ofNat 32 (i 0).val
  let c1_i32_30 : BitVec 32 := 1#32
  let v54 : BitVec 32 := Scalar.addi arg0 c1_i32_30
  let c1024_i32_31 : BitVec 32 := 1024#32
  let v55 : BitVec 32 := Scalar.muli v54 c1024_i32_31
  let v56 : BitVec 32 := v55
  ![0, 0, v56.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference4Ideal.lean ====
abbrev S16384x4096 : Shape := ⟨2, ![16384, 4096]⟩
abbrev S2x4096x16384 : Shape := ⟨3, ![2, 4096, 16384]⟩
abbrev S1x4096x16384 : Shape := ⟨3, ![1, 4096, 16384]⟩
abbrev S4096x16384 : Shape := ⟨2, ![4096, 16384]⟩
abbrev S16384x16384 : Shape := ⟨2, ![16384, 16384]⟩
abbrev S16384x128x128 : Shape := ⟨3, ![16384, 128, 128]⟩
abbrev S128x16384x128 : Shape := ⟨3, ![128, 16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x16384, .f32⟩
  | .hbm, ⟨2, _⟩ => ⟨S16384x4096, .f32⟩
  | .hbm, ⟨3, _⟩ => ⟨S1x4096x16384, .f32⟩
  | .hbm, ⟨4, _⟩ => ⟨S4096x16384, .f32⟩
  | .hbm, ⟨5, _⟩ => ⟨S16384x16384, .f32⟩
  | .hbm, ⟨6, _⟩ => ⟨S16384x128x128, .f32⟩
  | .hbm, ⟨7, _⟩ => ⟨S128x16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S16384x4096 : Shape := ⟨2, ![16384, 4096]⟩
abbrev S2x4096x4096 : Shape := ⟨3, ![2, 4096, 4096]⟩
abbrev S512x4096 : Shape := ⟨2, ![512, 4096]⟩
abbrev S512x1024 : Shape := ⟨2, ![512, 1024]⟩
abbrev S4096x1024 : Shape := ⟨2, ![4096, 1024]⟩
abbrev S_ : Shape := ⟨0, ![]⟩
abbrev S1x4096x1024 : Shape := ⟨3, ![1, 4096, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S16384x4096, .f32⟩
  | .hbm, ⟨3, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .f32⟩
  | .local _ .vmem, ⟨7, _⟩ => ⟨S4096x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_8 : BitVec 32 := 0#32
  let v9 : BitVec 1 := Scalar.cmpi .eq arg0 c0_i32_8
  let v10 : BitVec 32 := Scalar.extui v9
  let c0_i32_9 : BitVec 32 := 0#32
  let v11 : BitVec 1 := Scalar.cmpi .ne v10 c0_i32_9
  v11

def k0_mult1 : BitVec 32 :=
  let c0_i32_17 : BitVec 32 := 0#32
  c0_i32_17
def k0_mult2 (i : grid0.Coords) : BitVec 32 :=
  let arg0 : BitVec 32 := BitVec.ofNat 32 (i 0).val
  let c1024_i32 : BitVec 32 := 1024#32
  let v12 : BitVec 32 := Scalar.muli arg0 c1024_i32
  v12
def k0_off1 (i : grid0.Coords) : Fin 3 → Nat :=
  let c0_i32_10 : BitVec 32 := 0#32
  let c0_i32_11 : BitVec 32 := 0#32
  let arg0 : BitVec 32 := BitVec.ofNat 32 (i 0).val
  let c1024_i32 : BitVec 32 := 1024#32
  let v12 : BitVec 32 := Scalar.muli arg0 c1024_i32
  let v13 : BitVec 32 := v12
  ![0, 0, v13.toNat]
def k0_cond3 (i : grid0.Coords) : BitVec 1 :=
  let arg0 : BitVec 32 := BitVec.ofNat 32 (i 0).val
  let c1_i32 : BitVec 32 := 1#32
  let v21 : BitVec 32 := Scalar.addi arg0 c1_i32
  let c4_i32 : BitVec 32 := 4#32
  let v22 : BitVec 1 := Scalar.cmpi .slt v21 c4_i32
  let v23 : BitVec 32 := Scalar.extui v22
  let c0_i32_16 : BitVec 32 := 0#32
  let v24 : BitVec 1 := Scalar.cmpi .ne v23 c0_i32_16
  v24

def k0_mult3 (i : grid0.Coords) : BitVec 32 :=
  let arg0 : BitVec 32 := BitVec.ofNat 32 (i 0).val
  let c1_i32_17 : BitVec 32 := 1#32
  let v25 : BitVec 32 := Scalar.addi arg0 c1_i32_17
  let c1024_i32_18 : BitVec 32 := 1024#32
  let v26 : BitVec 32 := Scalar.muli v25 c1024_i32_18
  v26
def k0_off2 (i : grid0.Coords) : Fin 3 → Nat :=
  let c0_i32_19 : BitVec 32 := 0#32
  let c0_i32_20 : BitVec 32 := 0#32
  let arg0 : BitVec 32 := BitVec.ofNat 32 (i 0).val
  let c1_i32_17 : BitVec 32 := 1#32
  let v25 : BitVec 32 := Scalar.addi arg0 c1_i32_17
  let c1024_i32_18 : BitVec 32 := 1024#32
  let v26 : BitVec 32 := Scalar.muli v25 c1024_i32_18
  let v27 : BitVec 32 := v26
  ![0, 0, v27.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x4096 : Shape := ⟨2, ![16384, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S16384x4096, .f32⟩
  | .hbm, ⟨3, _⟩ => ⟨S16384x4096, .f32⟩
  | .hbm, ⟨4, _⟩ => ⟨S1x4096x4096, .f32⟩
  | .hbm, ⟨5, _⟩ => ⟨S4096x4096, .f32⟩
  | .hbm, ⟨6, _⟩ => ⟨S16384x4096, .f32⟩
  | .hbm, ⟨7, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S16384x4096 : Shape := ⟨2, ![16384, 4096]⟩
abbrev S1x4096x12288 : Shape := ⟨3, ![1, 4096, 12288]⟩
abbrev S16384x12288 : Shape := ⟨2, ![16384, 12288]⟩
abbrev S1024x4096 : Shape := ⟨2, ![1024, 4096]⟩
abbrev S1024x1024 : Shape := ⟨2, ![1024, 1024]⟩
abbrev S4096x1024 : Shape := ⟨2, ![4096, 1024]⟩
abbrev S_ : Shape := ⟨0, ![]⟩
abbrev S1x4096x1024 : Shape := ⟨3, ![1, 4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x12288, .f32⟩
  | .hbm, ⟨2, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S4096x1024, .f32⟩
  | .local _ .vmem, ⟨5, _⟩ => ⟨S4096x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![12, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_6 : BitVec 32 := 0#32
  let v8 : BitVec 1 := Scalar.cmpi .eq arg0 c0_i32_6
  let v9 : BitVec 32 := Scalar.extui v8
  let c0_i32_7 : BitVec 32 := 0#32
  let v10 : BitVec 1 := Scalar.cmpi .ne v9 c0_i32_7
  v10

def k0_mult1 : BitVec 32 :=
  let c0_i32_15 : BitVec 32 := 0#32
  c0_i32_15
def k0_mult2 (i : grid0.Coords) : BitVec 32 :=
  let arg0 : BitVec 32 := BitVec.ofNat 32 (i 0).val
  let c1024_i32 : BitVec 32 := 1024#32
  let v11 : BitVec 32 := Scalar.muli arg0 c1024_i32
  v11
def k0_off1 (i : grid0.Coords) : Fin 3 → Nat :=
  let c0_i32_8 : BitVec 32 := 0#32
  let c0_i32_9 : BitVec 32 := 0#32
  let arg0 : BitVec 32 := BitVec.ofNat 32 (i 0).val
  let c1024_i32 : BitVec 32 := 1024#32
  let v11 : BitVec 32 := Scalar.muli arg0 c1024_i32
  let v12 : BitVec 32 := v11
  ![0, 0, v12.toNat]
def k0_cond3 (i : grid0.Coords) : BitVec 1 :=
  let arg0 : BitVec 32 := BitVec.ofNat 32 (i 0).val
  let c1_i32 : BitVec 32 := 1#32
  let v20 : BitVec 32 := Scalar.addi arg0 c1_i32
  let c12_i32 : BitVec 32 := 12#32
  let v21 : BitVec 1 := Scalar.cmpi .slt v20 c12_i32
  let v22 : BitVec 32 := Scalar.extui v21
  let c0_i32_14 : BitVec 32 := 0#32
  let v23 : BitVec 1 := Scalar.cmpi .ne v22 c0_i32_14
  v23

def k0_mult3 (i : grid0.Coords) : BitVec 32 :=
  let arg0 : BitVec 32 := BitVec.ofNat 32 (i 0).val
  let c1_i32_15 : BitVec 32 := 1#32
  let v24 : BitVec 32 := Scalar.addi arg0 c1_i32_15
  let c1024_i32_16 : BitVec 32 := 1024#32
  let v25 : BitVec 32 := Scalar.muli v24 c1024_i32_16
  v25
def k0_off2 (i : grid0.Coords) : Fin 3 → Nat :=
  let c0_i32_17 : BitVec 32 := 0#32
  let c0_i32_18 : BitVec 32 := 0#32
  let arg0 : BitVec 32 := BitVec.ofNat 32 (i 0).val
  let c1_i32_15 : BitVec 32 := 1#32
  let v24 : BitVec 32 := Scalar.addi arg0 c1_i32_15
  let c1024_i32_16 : BitVec 32 := 1024#32
  let v25 : BitVec 32 := Scalar.muli v24 c1024_i32_16
  let v26 : BitVec 32 := v25
  ![0, 0, v26.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference6Ideal.lean ====
abbrev S16384x4096 : Shape := ⟨2, ![16384, 4096]⟩
abbrev S1x4096x12288 : Shape := ⟨3, ![1, 4096, 12288]⟩
abbrev S4096x12288 : Shape := ⟨2, ![4096, 12288]⟩
abbrev S16384x12288 : Shape := ⟨2, ![16384, 12288]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x12288, .f32⟩
  | .hbm, ⟨2, _⟩ => ⟨S16384x4096, .f32⟩
  | .hbm, ⟨3, _⟩ => ⟨S4096x12288, .f32⟩
  | .hbm, ⟨4, _⟩ => ⟨S16384x12288, .f32⟩
  | .hbm, ⟨5, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S16384x4096 : Shape := ⟨2, ![16384, 4096]⟩
abbrev S1x4096x12288 : Shape := ⟨3, ![1, 4096, 12288]⟩
abbrev S48x16384x256 : Shape := ⟨3, ![48, 16384, 256]⟩
abbrev S1024x4096 : Shape := ⟨2, ![1024, 4096]⟩
abbrev S4x1024x256 : Shape := ⟨3, ![4, 1024, 256]⟩
abbrev S4096x1024 : Shape := ⟨2, ![4096, 1024]⟩
abbrev S_ : Shape := ⟨0, ![]⟩
abbrev S1x4096x1024 : Shape := ⟨3, ![1, 4096, 1024]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x12288, .f32⟩
  | .hbm, ⟨2, _⟩ => ⟨S48x16384x256, .bf16⟩
  | .local _ .vmem, ⟨0, _⟩ => ⟨S1024x4096, .bf16⟩
  | .local _ .vmem, ⟨1, _⟩ => ⟨S1024x4096, .bf16⟩
  | .local _ .vmem, ⟨2, _⟩ => ⟨S4x1024x256, .bf16⟩
  | .local _ .vmem, ⟨3, _⟩ => ⟨S4x1024x256, .bf16⟩
  | .local _ .vmem, ⟨4, _⟩ => ⟨S4096x1024, .f32⟩
  | .local _ .vmem, ⟨5, _⟩ => ⟨S4096x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![12, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_15 : BitVec 32 := 0#32
  let v30 : BitVec 1 := Scalar.cmpi .eq arg0 c0_i32_15
  let v31 : BitVec 32 := Scalar.extui v30
  let c0_i32_16 : BitVec 32 := 0#32
  let v32 : BitVec 1 := Scalar.cmpi .ne v31 c0_i32_16
  v32

def k0_mult1 : BitVec 32 :=
  let c0_i32_24 : BitVec 32 := 0#32
  c0_i32_24
def k0_mult2 (i : grid0.Coords) : BitVec 32 :=
  let arg0 : BitVec 32 := BitVec.ofNat 32 (i 0).val
  let c1024_i32 : BitVec 32 := 1024#32
  let v33 : BitVec 32 := Scalar.muli arg0 c1024_i32
  v33
def k0_off1 (i : grid0.Coords) : Fin 3 → Nat :=
  let c0_i32_17 : BitVec 32 := 0#32
  let c0_i32_18 : BitVec 32 := 0#32
  let arg0 : BitVec 32 := BitVec.ofNat 32 (i 0).val
  let c1024_i32 : BitVec 32 := 1024#32
  let v33 : BitVec 32 := Scalar.muli arg0 c1024_i32
  let v34 : BitVec 32 := v33
  ![0, 0, v34.toNat]
def k0_cond3 (i : grid0.Coords) : BitVec 1 :=
  let arg0 : BitVec 32 := BitVec.ofNat 32 (i 0).val
  let c1_i32 : BitVec 32 := 1#32
  let v42 : BitVec 32 := Scalar.addi arg0 c1_i32
  let c12_i32 : BitVec 32 := 12#32
  let v43 : BitVec 1 := Scalar.cmpi .slt v42 c12_i32
  let v44 : BitVec 32 := Scalar.extui v43
  let c0_i32_23 : BitVec 32 := 0#32
  let v45 : BitVec 1 := Scalar.cmpi .ne v44 c0_i32_23
  v45

def k0_mult3 (i : grid0.Coords) : BitVec 32 :=
  let arg0 : BitVec 32 := BitVec.ofNat 32 (i 0).val
  let c1_i32_24 : BitVec 32 := 1#32
  let v46 : BitVec 32 := Scalar.addi arg0 c1_i32_24
  let c1024_i32_25 : BitVec 32 := 1024#32
  let v47 : BitVec 32 := Scalar.muli v46 c1024_i32_25
  v47
def k0_off2 (i : grid0.Coords) : Fin 3 → Nat :=
  let c0_i32_26 : BitVec 32 := 0#32
  let c0_i32_27 : BitVec 32 := 0#32
  let arg0 : BitVec 32 := BitVec.ofNat 32 (i 0).val
  let c1_i32_24 : BitVec 32 := 1#32
  let v46 : BitVec 32 := Scalar.addi arg0 c1_i32_24
  let c1024_i32_25 : BitVec 32 := 1024#32
  let v47 : BitVec 32 := Scalar.muli v46 c1024_i32_25
  let v48 : BitVec 32 := v47
  ![0, 0, v48.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Kernel7Ideal.lean ====
variable {F : FTy → Type} [FloatOps F] [Named F]
def κ : String → Option EReal := fun
  | "scale7" => some (((Real.sqrt 128)⁻¹ * (Real.log 2)⁻¹ : ℝ) : EReal)
  | _ => none
-- ==== Reference7Ideal.lean ====
abbrev S16384x4096 : Shape := ⟨2, ![16384, 4096]⟩
abbrev S1x4096x12288 : Shape := ⟨3, ![1, 4096, 12288]⟩
abbrev S4096x12288 : Shape := ⟨2, ![4096, 12288]⟩
abbrev S16384x12288 : Shape := ⟨2, ![16384, 12288]⟩
abbrev S_ : Shape := ⟨0, ![]⟩
abbrev S16384x48x256 : Shape := ⟨3, ![16384, 48, 256]⟩
abbrev S48x16384x256 : Shape := ⟨3, ![48, 16384, 256]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x12288, .f32⟩
  | .hbm, ⟨2, _⟩ => ⟨S16384x4096, .f32⟩
  | .hbm, ⟨3, _⟩ => ⟨S4096x12288, .f32⟩
  | .hbm, ⟨4, _⟩ => ⟨S16384x12288, .f32⟩
  | .hbm, ⟨5, _⟩ => ⟨S16384x12288, .i32⟩
  | .hbm, ⟨6, _⟩ => ⟨S_, .i32⟩
  | .hbm, ⟨7, _⟩ => ⟨S16384x12288, .i32⟩
  | .hbm, ⟨8, _⟩ => ⟨S16384x12288, .i1⟩
  | .hbm, ⟨9, _⟩ => ⟨S_, .f32⟩
  | .hbm, ⟨10, _⟩ => ⟨S_, .f32⟩
  | .hbm, ⟨11, _⟩ => ⟨S16384x12288, .f32⟩
  | .hbm, ⟨12, _⟩ => ⟨S16384x12288, .f32⟩
  | .hbm, ⟨13, _⟩ => ⟨S_, .f32⟩
  | .hbm, ⟨14, _⟩ => ⟨S_, .f32⟩
  | .hbm, ⟨15, _⟩ => ⟨S16384x12288, .f32⟩
  | .hbm, ⟨16, _⟩ => ⟨S16384x12288, .f32⟩
  | .hbm, ⟨17, _⟩ => ⟨S16384x12288, .f32⟩
  | .hbm, ⟨18, _⟩ => ⟨S16384x48x256, .f32⟩
  | .hbm, ⟨19, _⟩ => ⟨S48x16384x256, .f32⟩
  | .hbm, ⟨20, _⟩ => ⟨S48x16384x256, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Blocks.lean ====
/-
  The body of the dilated attention's call, respelled: the bias guard, then forty-eight blocks (three groups of
  sixteen) of one shape, then the combine loop.
-/
module

public import proofs.«01_k».proof.Proof.Gen.KernelIdeal.Frame
public import proofs.«01_k».proof.Proof.Gen.KernelIdeal.Loops
public import Idealize.ShloMosaic.Lib.Pipeline.Regions

@[expose] public section

set_option maxRecDepth 16384

noncomputable section

namespace Cert.KernelIdeal.Blk

open Cert.KernelIdeal Cert.KernelIdeal.Gen
open Cert.KernelIdeal.Facts
open Idealize.ShloMosaic Idealize.ShloMosaic.TcCoe
open Idealize.SL Idealize.SL.Sem

variable {F : FTy → Type} [FloatOps F] [Named F]

/-! ## What a block computes -/

/-- The block's queries, scaled. -/
def qv (x : Vec F S1x1x128x128 .f32) : FVec F S128x128 .bf16 :=
  truncf .bf16 (mulf (shapeCast S128x128 x shapeCasts_S1x1x128x128_S128x128)
    (broadcast S128x128 (Named.named κ "scale2" 0x3E0293EE#32))) bitsLt_bf16_f32

/-- The window's keys. -/
def kv (x : Vec F S1x1x256x128 .f32) : FVec F S256x128 .bf16 :=
  truncf .bf16 (shapeCast S256x128 x shapeCasts_S1x1x256x128_S256x128) bitsLt_bf16_f32

/-- The window's values, the two halves side by side. -/
def vv (x y : Vec F S1x1x256x128 .f32) : FVec F S256x256 .bf16 :=
  truncf .bf16 (concatenate S256x256 1
    [⟨S256x128, shapeCast S256x128 x shapeCasts_S1x1x256x128_S256x128⟩,
     ⟨S256x128, shapeCast S256x128 y shapeCasts_S1x1x256x128_S256x128⟩]
    concatenates_S256x128_S256x128_S256x256_d1) bitsLt_bf16_f32

/-- The scores, the bias added. -/
def sv (q : Vec F S1x1x128x128 .f32) (k : Vec F S1x1x256x128 .f32) (b : Vec F S1x128x256 .f32) : FVec F S128x256 .f32 :=
  addf (matmul dot_S128x128_S256x128_S128x256_1_1_0_0_n_n none (qv q) (kv k) (constant S128x256 .f32 0x00000000#32))
    (shapeCast S128x256 b shapeCasts_S1x128x256_S128x256)

/-- Each row's maximum. -/
def mv (s : FVec F S128x256 .f32) : FVec F S128x1 .f32 :=
  shapeCast S128x1 (multiReduction .maximumf [1] S128 s 0xFF800000#32 reduces_S128x256_S128 (.inl rfl) rfl) shapeCasts_S128_S128x1

/-- The exponentials over the row's maximum. -/
def pv (s : FVec F S128x256 .f32) : FVec F S128x256 .f32 :=
  exp2 (subf s (broadcastTo S128x256 (mv s) broadcasts_S128x1_S128x256))

/-- Each row's sum of exponentials. -/
def lv (s : FVec F S128x256 .f32) : FVec F S128x1 .f32 :=
  shapeCast S128x1 (multiReduction .add [1] S128 (pv s) 0x00000000#32 reduces_S128x256_S128 (.inl rfl) rfl) shapeCasts_S128_S128x1

/-- The exponentials against the values. -/
def nv (s : FVec F S128x256 .f32) (x y : Vec F S1x1x256x128 .f32) : FVec F S128x256 .f32 :=
  matmul dot_S128x256_S256x256_S128x256_1_0_0_1_n_n none (truncf .bf16 (pv s) bitsLt_bf16_f32) (vv x y)
    (constant S128x256 .f32 0x00000000#32)

/-- What a block stores: the two halves of the numerator, the maximum and the sum along the lanes. -/
def n0 (n : FVec F S128x256 .f32) : FVec F S1x1x128x128 .f32 :=
  shapeCast S1x1x128x128 (extractStridedSlice S128x128 ![0, 0] n slices_S128x256_o0_0_S128x128) shapeCasts_S128x128_S1x1x128x128
def n1 (n : FVec F S128x256 .f32) : FVec F S1x1x128x128 .f32 :=
  shapeCast S1x1x128x128 (extractStridedSlice S128x128 ![0, 128] n slices_S128x256_o0_128_S128x128) shapeCasts_S128x128_S1x1x128x128
def ml (x : FVec F S128x1 .f32) : FVec F S1x128x128 .f32 :=
  shapeCast S1x128x128 (broadcastTo S128x128 (shapeCast S128x1 x shapeCasts_S128x1_S128x1) broadcasts_S128x1_S128x128)
    shapeCasts_S128x128_S1x128x128

/-! ## A block as a program -/

/-- One block: the rectangles it loads and stores through. -/
def blk (q : Memref sig .tc .vmem S1x1x2048x128 .f32) (k va vb : Memref sig .tc .vmem S1x1x4096x128 .f32)
    (bias : Memref sig .tc .vmem S9x128x256 .f32) (num : Memref sig .tc .vmem S3x2x2048x128 .f32)
    (mm ll : Memref sig .tc .vmem S3x2048x128 .f32)
    (st4 : Fin 4 → Nat) (st3 : Fin 3 → Nat) (hs4 : ∀ a, 0 < st4 a) (hs3 : ∀ a, 0 < st3 a)
    (qo : Fin 4 → Nat) (hq : ∀ a, S1x1x128x128.size a = 0 ∨ qo a + st4 a * (S1x1x128x128.size a - 1) < S1x1x2048x128.size a)
    (ko : Fin 4 → Nat) (hk : ∀ a, S1x1x256x128.size a = 0 ∨ ko a + st4 a * (S1x1x256x128.size a - 1) < S1x1x4096x128.size a)
    (bo : Fin 3 → Nat) (hb : ∀ a, bo a + S1x128x256.size a ≤ S9x128x256.size a)
    (no0 : Fin 4 → Nat) (hn0 : ∀ a, S1x1x128x128.size a = 0 ∨ no0 a + st4 a * (S1x1x128x128.size a - 1) < S3x2x2048x128.size a)
    (no1 : Fin 4 → Nat) (hn1 : ∀ a, S1x1x128x128.size a = 0 ∨ no1 a + st4 a * (S1x1x128x128.size a - 1) < S3x2x2048x128.size a)
    (mo : Fin 3 → Nat) (hm : ∀ a, S1x128x128.size a = 0 ∨ mo a + st3 a * (S1x128x128.size a - 1) < S3x2048x128.size a) :
    Prog (TpuEff nD τ sig (Elt F) Λ₀ .tc) PUnit := do
  let xq : Vec F S1x1x128x128 .f32 ← Prog.lift (.load q (⟨qo, S1x1x128x128.size, st4, hq⟩ : LoadRect S1x1x2048x128) (View.loadsAt_vmem h_S1x1x128x128))
  let xk : Vec F S1x1x256x128 .f32 ← Prog.lift (.load k (⟨ko, S1x1x256x128.size, st4, hk⟩ : LoadRect S1x1x4096x128) (View.loadsAt_vmem h_S1x1x256x128))
  let xa : Vec F S1x1x256x128 .f32 ← Prog.lift (.load va (⟨ko, S1x1x256x128.size, st4, hk⟩ : LoadRect S1x1x4096x128) (View.loadsAt_vmem h_S1x1x256x128))
  let xb : Vec F S1x1x256x128 .f32 ← Prog.lift (.load vb (⟨ko, S1x1x256x128.size, st4, hk⟩ : LoadRect S1x1x4096x128) (View.loadsAt_vmem h_S1x1x256x128))
  let b : Vec F S1x128x256 .f32 ← Prog.lift (.load bias (Rect.unit (s := S9x128x256) bo S1x128x256.size hb).toLoadRect (View.loadsAt_vmem h_S1x128x256))
  let _ ← Prog.lift (.load num (⟨no0, S1x1x128x128.size, st4, hn0⟩ : LoadRect S3x2x2048x128) (View.loadsAt_vmem h_S1x1x128x128))
  Prog.lift (.store num ⟨(⟨no0, S1x1x128x128.size, st4, hn0⟩ : LoadRect S3x2x2048x128), hs4⟩ (n0 (nv (sv xq xk b) xa xb)) Finset.univ (View.stores_vmem_bits_univ h_S1x1x128x128 rfl) (.inl rfl))
  let _ ← Prog.lift (.load num (⟨no1, S1x1x128x128.size, st4, hn1⟩ : LoadRect S3x2x2048x128) (View.loadsAt_vmem h_S1x1x128x128))
  Prog.lift (.store num ⟨(⟨no1, S1x1x128x128.size, st4, hn1⟩ : LoadRect S3x2x2048x128), hs4⟩ (n1 (nv (sv xq xk b) xa xb)) Finset.univ (View.stores_vmem_bits_univ h_S1x1x128x128 rfl) (.inl rfl))
  let _ ← Prog.lift (.load mm (⟨mo, S1x128x128.size, st3, hm⟩ : LoadRect S3x2048x128) (View.loadsAt_vmem h_S1x128x128))
  Prog.lift (.store mm ⟨(⟨mo, S1x128x128.size, st3, hm⟩ : LoadRect S3x2048x128), hs3⟩ (ml (mv (sv xq xk b))) Finset.univ (View.stores_vmem_bits_univ h_S1x128x128 rfl) (.inl rfl))
  let _ ← Prog.lift (.load ll (⟨mo, S1x128x128.size, st3, hm⟩ : LoadRect S3x2048x128) (View.loadsAt_vmem h_S1x128x128))
  Prog.lift (.store ll ⟨(⟨mo, S1x128x128.size, st3, hm⟩ : LoadRect S3x2048x128), hs3⟩ (ml (lv (sv xq xk b))) Finset.univ (View.stores_vmem_bits_univ h_S1x128x128 rfl) (.inl rfl))

/-! ## The three groups' blocks -/

/-- The sixteen blocks of a group, in order. -/
def fins : List (Fin 16) := [0, 1, 2, 3, 4, 5, 6, 7, 8, 9, 10, 11, 12, 13, 14, 15]

/-- A group's blocks one after the other. -/
def runs (f : Fin 16 → Prog (TpuEff nD τ sig (Elt F) Λ₀ .tc) PUnit) : List (Fin 16) → Prog (TpuEff nD τ sig (Elt F) Λ₀ .tc) PUnit
  | [] => pure ⟨⟩
  | j :: l => f j >>= fun _ => runs f l

/-- The first row of block `j` of group `g`: its residue and its place among the rows of that residue. -/
def row0 : Fin 3 → Fin 16 → Nat
  | 0, j => 128 * j.val
  | 1, j => 512 * (j.val / 4) + j.val % 4
  | 2, j => j.val

/-- The spacing of a group's rows. -/
def dil : Fin 3 → Nat
  | 0 => 1
  | 1 => 4
  | 2 => 16

/-- Where block `j` of group `g` starts among the rows of its residue. -/
def ub : Fin 3 → Fin 16 → Nat
  | 0, j => 128 * j.val
  | 1, j => 128 * (j.val / 4)
  | 2, j => 0

theorem row0_bd : ∀ (g : Fin 3) (j : Fin 16), row0 g j + dil g * 127 < 2048 := by decide

/-- The rectangles' spacings. -/
def st4 : Fin 3 → Fin 4 → Nat
  | 0 => fun _ => 1
  | 1 => ![1, 1, 4, 1]
  | 2 => ![1, 1, 16, 1]
def st3 : Fin 3 → Fin 3 → Nat
  | 0 => fun _ => 1
  | 1 => ![1, 4, 1]
  | 2 => ![1, 16, 1]
theorem st4_pos : ∀ g a, 0 < st4 g a := by decide
theorem st3_pos : ∀ g a, 0 < st3 g a := by decide

/-- Where a block's keys start in the staged window. -/
def koff (i : grid0.Coords) : Fin 3 → Fin 16 → Fin 4 → Nat
  | 0, j => k0_off1 i (BitVec.ofNat 32 (128 * j.val))
  | 1, j => k0_off3 i (BitVec.ofNat 32 (128 * (j.val / 4))) (BitVec.ofNat 32 (j.val % 4))
  | 2, j => k0_off4 i (BitVec.ofNat 32 j.val)

theorem unit_inb {n : Nat} {off sz full : Fin n → Nat} (h : ∀ a, off a + sz a ≤ full a) (st : Fin n → Nat) (hst : ∀ a, st a = 1) :
    ∀ a, sz a = 0 ∨ off a + st a * (sz a - 1) < full a := by
  intro a; have := h a; rw [hst]; omega

theorem koff_inb (i : grid0.Coords) : ∀ (g : Fin 3) (j : Fin 16) (a : Fin 4),
    S1x1x256x128.size a = 0 ∨ koff i g j a + st4 g a * (S1x1x256x128.size a - 1) < S1x1x4096x128.size a
  | 0, j => unit_inb (k0_off1_inb i j) _ (by decide)
  | 1, j => k0_off3_inb i ⟨j.val / 4, by omega⟩ ⟨j.val % 4, by omega⟩
  | 2, j => k0_off4_inb i j

/-- Which bias a block adds. -/
def boff (i : grid0.Coords) : Fin 3 → Fin 16 → Fin 3 → Nat
  | 0, j => k0_off2 i 0#32 7936#32 1#32 (BitVec.ofNat 32 (128 * j.val))
  | 1, j => k0_off2 i 3#32 1792#32 4#32 (BitVec.ofNat 32 (128 * (j.val / 4)))
  | 2, j => k0_off2 i 6#32 256#32 16#32 0#32

theorem boff_at0 : ∀ j : Fin 16, k0_off2_at ⟨j.val, by omega⟩ = (0#32, 7936#32, 1#32, BitVec.ofNat 32 (128 * j.val)) := by decide
theorem boff_at1 : ∀ u : Fin 4, k0_off2_at ⟨16 + u.val, by omega⟩ = (3#32, 1792#32, 4#32, BitVec.ofNat 32 (128 * u.val)) := by decide

theorem boff_inb (i : grid0.Coords) : ∀ (g : Fin 3) (j : Fin 16) (a : Fin 3),
    boff i g j a + S1x128x256.size a ≤ S9x128x256.size a
  | 0, j => by
    have h := k0_off2_inb i ⟨j.val, by omega⟩
    rw [boff_at0 j] at h; exact h
  | 1, j => by
    have h := k0_off2_inb i ⟨16 + j.val / 4, by omega⟩
    rw [boff_at1 ⟨j.val / 4, by omega⟩] at h; exact h
  | 2, j => k0_off2_inb i 20

/-- Where a block stores. -/
def noff (g : Fin 3) (h : Fin 2) (j : Fin 16) : Fin 4 → Nat := ![g.val, h.val, row0 g j, 0]
def moff (g : Fin 3) (j : Fin 16) : Fin 3 → Nat := ![g.val, row0 g j, 0]
theorem qoff_inb (g : Fin 3) (j : Fin 16) (a : Fin 4) :
    S1x1x128x128.size a = 0 ∨ (![0, 0, row0 g j, 0] : Fin 4 → Nat) a + st4 g a * (S1x1x128x128.size a - 1) < S1x1x2048x128.size a := by
  revert g j a; decide
theorem noff_inb (g : Fin 3) (h : Fin 2) (j : Fin 16) (a : Fin 4) :
    S1x1x128x128.size a = 0 ∨ noff g h j a + st4 g a * (S1x1x128x128.size a - 1) < S3x2x2048x128.size a := by
  revert g h j a; decide
theorem moff_inb (g : Fin 3) (j : Fin 16) (a : Fin 3) :
    S1x128x128.size a = 0 ∨ moff g j a + st3 g a * (S1x128x128.size a - 1) < S3x2048x128.size a := by
  revert g j a; decide

/-- Block `j` of group `g`. -/
def blkAt (i : grid0.Coords) (q : Memref sig .tc .vmem S1x1x2048x128 .f32) (k va vb : Memref sig .tc .vmem S1x1x4096x128 .f32)
    (bias : Memref sig .tc .vmem S9x128x256 .f32) (num : Memref sig .tc .vmem S3x2x2048x128 .f32)
    (mm ll : Memref sig .tc .vmem S3x2048x128 .f32) (g : Fin 3) (j : Fin 16) :
    Prog (TpuEff nD τ sig (Elt F) Λ₀ .tc) PUnit :=
  blk q k va vb bias num mm ll (st4 g) (st3 g) (st4_pos g) (st3_pos g)
    ![0, 0, row0 g j, 0] (qoff_inb g j) (koff i g j) (koff_inb i g j) (boff i g j) (boff_inb i g j)
    (noff g 0 j) (noff_inb g 0 j) (noff g 1 j) (noff_inb g 1 j) (moff g j) (moff_inb g j)

/-- The forty-eight blocks, then the combine loop. -/
def tail (i : grid0.Coords) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x4096x128 .f32) (harg6 : arg6.IsWhole) (arg7 : Memref sig .tc .vmem S1x1x4096x128 .f32) (harg7 : arg7.IsWhole) (arg8 : Memref sig .tc .vmem S1x1x4096x128 .f32) (harg8 : arg8.IsWhole) (arg9 : Memref sig .tc .vmem S1x1x4096x128 .f32) (harg9 : arg9.IsWhole) (arg10 : Memref sig .tc .vmem S1x1x4096x128 .f32) (harg10 : arg10.IsWhole) (arg11 : Memref sig .tc .vmem S1x2048x256 .bf16) (harg11 : arg11.IsWhole) (arg12 : Memref sig .tc .vmem S9x128x256 .f32) (harg12 : arg12.IsWhole) (arg13 : Memref sig .tc .vmem S3x2x2048x128 .f32) (harg13 : arg13.IsWhole) (arg14 : Memref sig .tc .vmem S3x2048x128 .f32) (harg14 : arg14.IsWhole) (arg15 : Memref sig .tc .vmem S3x2048x128 .f32) (harg15 : arg15.IsWhole) :
    Prog (TpuEff nD τ sig (Elt F) Λ₀ .tc) PUnit := do
  runs (blkAt i arg3 arg6 arg9 arg10 arg12 arg13 arg14 arg15 0) fins
  runs (blkAt i arg4 arg7 arg9 arg10 arg12 arg13 arg14 arg15 1) fins
  runs (blkAt i arg5 arg8 arg9 arg10 arg12 arg13 arg14 arg15 2) fins
  Scf.Loop.for k0_t1_loop k0_t1_ok ⟨⟩ (k0_t1_body i arg3 harg3 arg4 harg4 arg5 harg5 arg6 harg6 arg7 harg7 arg8 harg8 arg9 harg9 arg10 harg10 arg11 harg11 arg12 harg12 arg13 harg13 arg14 harg14 arg15 harg15 0#32)
  pure ⟨⟩

theorem body_eq (i : grid0.Coords) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x4096x128 .f32) (harg6 : arg6.IsWhole) (arg7 : Memref sig .tc .vmem S1x1x4096x128 .f32) (harg7 : arg7.IsWhole) (arg8 : Memref sig .tc .vmem S1x1x4096x128 .f32) (harg8 : arg8.IsWhole) (arg9 : Memref sig .tc .vmem S1x1x4096x128 .f32) (harg9 : arg9.IsWhole) (arg10 : Memref sig .tc .vmem S1x1x4096x128 .f32) (harg10 : arg10.IsWhole) (arg11 : Memref sig .tc .vmem S1x2048x256 .bf16) (harg11 : arg11.IsWhole) (arg12 : Memref sig .tc .vmem S9x128x256 .f32) (harg12 : arg12.IsWhole) (arg13 : Memref sig .tc .vmem S3x2x2048x128 .f32) (harg13 : arg13.IsWhole) (arg14 : Memref sig .tc .vmem S3x2048x128 .f32) (harg14 : arg14.IsWhole) (arg15 : Memref sig .tc .vmem S3x2048x128 .f32) (harg15 : arg15.IsWhole) :
    cc0_dilated_attn (F := F) i arg3 harg3 arg4 harg4 arg5 harg5 arg6 harg6 arg7 harg7 arg8 harg8 arg9 harg9 arg10 harg10 arg11 harg11 arg12 harg12 arg13 harg13 arg14 harg14 arg15 harg15
      = k0_part5 i arg3 harg3 arg4 harg4 arg5 harg5 arg6 harg6 arg7 harg7 arg8 harg8 arg9 harg9 arg10 harg10 arg11 harg11 arg12 harg12 arg13 harg13 arg14 harg14 arg15 harg15
        >>= fun _ => tail i arg3 harg3 arg4 harg4 arg5 harg5 arg6 harg6 arg7 harg7 arg8 harg8 arg9 harg9 arg10 harg10 arg11 harg11 arg12 harg12 arg13 harg13 arg14 harg14 arg15 harg15 := by
  unfold cc0_dilated_attn k0_part112
  rw [bind_assoc]
  refine congrArg (Bind.bind _) (funext fun x => ?_)
  chain_rfl

end Cert.KernelIdeal.Blk

end
-- ==== Proof.BlockRun.lean ====
/-
  One block's run, and the sixteen of a group one after the other.
-/
module

public import proofs.«01_k».proof.Proof.Blocks

@[expose] public section

set_option maxRecDepth 16384

noncomputable section

namespace Cert.KernelIdeal.Blk

open Cert.KernelIdeal Cert.KernelIdeal.Gen
open Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What a block leaves in the three scratches it stores into. -/
theorem blk_run (𝒱 : Variants) (c : Dev nD) (bd : Option 𝒱.V) (E : Set ℕ)
    (q : Memref sig .tc .vmem S1x1x2048x128 .f32) (k va vb : Memref sig .tc .vmem S1x1x4096x128 .f32)
    (bias : Memref sig .tc .vmem S9x128x256 .f32) (num : Memref sig .tc .vmem S3x2x2048x128 .f32)
    (mm ll : Memref sig .tc .vmem S3x2048x128 .f32)
    (st4 : Fin 4 → Nat) (st3 : Fin 3 → Nat) (hs4 : ∀ a, 0 < st4 a) (hs3 : ∀ a, 0 < st3 a)
    (qo : Fin 4 → Nat) (hq : ∀ a, S1x1x128x128.size a = 0 ∨ qo a + st4 a * (S1x1x128x128.size a - 1) < S1x1x2048x128.size a)
    (ko : Fin 4 → Nat) (hk : ∀ a, S1x1x256x128.size a = 0 ∨ ko a + st4 a * (S1x1x256x128.size a - 1) < S1x1x4096x128.size a)
    (bo : Fin 3 → Nat) (hb : ∀ a, bo a + S1x128x256.size a ≤ S9x128x256.size a)
    (no0 : Fin 4 → Nat) (hn0 : ∀ a, S1x1x128x128.size a = 0 ∨ no0 a + st4 a * (S1x1x128x128.size a - 1) < S3x2x2048x128.size a)
    (no1 : Fin 4 → Nat) (hn1 : ∀ a, S1x1x128x128.size a = 0 ∨ no1 a + st4 a * (S1x1x128x128.size a - 1) < S3x2x2048x128.size a)
    (mo : Fin 3 → Nat) (hm : ∀ a, S1x128x128.size a = 0 ∨ mo a + st3 a * (S1x128x128.size a - 1) < S3x2048x128.size a)
    (sq sk sa sb : PosShare TreeShare)
    (Xq : BufTy.Contents (Elt F) q.view.ty) (Xk : BufTy.Contents (Elt F) k.view.ty) (Xa : BufTy.Contents (Elt F) va.view.ty)
    (Xb : BufTy.Contents (Elt F) vb.view.ty) (B : BufTy.Contents (Elt F) bias.view.ty) (N : BufTy.Contents (Elt F) num.view.ty)
    (M : BufTy.Contents (Elt F) mm.view.ty) (L : BufTy.Contents (Elt F) ll.view.ty)
    (xq : Vec F S1x1x128x128 .f32) (xk xa xb : Vec F S1x1x256x128 .f32) (b : Vec F S1x128x256 .f32)
    (exq : q.view.readAt (Elt F) (⟨qo, S1x1x128x128.size, st4, hq⟩ : LoadRect S1x1x2048x128) Xq = xq)
    (exk : k.view.readAt (Elt F) (⟨ko, S1x1x256x128.size, st4, hk⟩ : LoadRect S1x1x4096x128) Xk = xk)
    (exa : va.view.readAt (Elt F) (⟨ko, S1x1x256x128.size, st4, hk⟩ : LoadRect S1x1x4096x128) Xa = xa)
    (exb : vb.view.readAt (Elt F) (⟨ko, S1x1x256x128.size, st4, hk⟩ : LoadRect S1x1x4096x128) Xb = xb)
    (eb : bias.view.readAt (Elt F) (Rect.unit (s := S9x128x256) bo S1x128x256.size hb).toLoadRect B = b) :
    iprop((q.view.loc c.tc ↦[q.view.set]{sq} Xq) ∗ (k.view.loc c.tc ↦[k.view.set]{sk} Xk)
      ∗ (va.view.loc c.tc ↦[va.view.set]{sa} Xa) ∗ (vb.view.loc c.tc ↦[vb.view.set]{sb} Xb)
      ∗ (bias.view.loc c.tc ↦[bias.view.set]{fullShare} B) ∗ (num.view.loc c.tc ↦[num.view.set]{fullShare} N)
      ∗ (mm.view.loc c.tc ↦[mm.view.set]{fullShare} M) ∗ (ll.view.loc c.tc ↦[ll.view.set]{fullShare} L) : sProp 𝕄)
    ⊢ wp frame (wpE (defs₀ (F := F)) 𝒱 c.tc bd) E
        (blk (F := F) q k va vb bias num mm ll st4 st3 hs4 hs3 qo hq ko hk bo hb no0 hn0 no1 hn1 mo hm)
        (fun _ => iprop((q.view.loc c.tc ↦[q.view.set]{sq} Xq) ∗ (k.view.loc c.tc ↦[k.view.set]{sk} Xk)
          ∗ (va.view.loc c.tc ↦[va.view.set]{sa} Xa) ∗ (vb.view.loc c.tc ↦[vb.view.set]{sb} Xb)
          ∗ (bias.view.loc c.tc ↦[bias.view.set]{fullShare} B)
          ∗ (num.view.loc c.tc ↦[num.view.set]{fullShare} num.view.writes (Elt F) N
              [⟨⟨(⟨no1, S1x1x128x128.size, st4, hn1⟩ : LoadRect S3x2x2048x128), hs4⟩, n1 (nv (sv xq xk b) xa xb)⟩,
               ⟨⟨(⟨no0, S1x1x128x128.size, st4, hn0⟩ : LoadRect S3x2x2048x128), hs4⟩, n0 (nv (sv xq xk b) xa xb)⟩])
          ∗ (mm.view.loc c.tc ↦[mm.view.set]{fullShare} mm.view.writes (Elt F) M
              [⟨⟨(⟨mo, S1x128x128.size, st3, hm⟩ : LoadRect S3x2048x128), hs3⟩, ml (mv (sv xq xk b))⟩])
          ∗ (ll.view.loc c.tc ↦[ll.view.set]{fullShare} ll.view.writes (Elt F) L
              [⟨⟨(⟨mo, S1x128x128.size, st3, hm⟩ : LoadRect S3x2048x128), hs3⟩, ml (lv (sv xq xk b))⟩]))) := by
  subst exq exk exa exb eb
  unfold blk
  iintro ⟨Hq, Hk, Ha, Hb, HB, HN, HM, HL⟩
  sl_exec
  sl_step
  sl_close

end Cert.KernelIdeal.Blk

end
-- ==== Proof.GroupRun.lean ====
/-
  What the blocks compute, as functions of the staged windows, and the run of a group's blocks.
-/
module

public import Idealize.ShloMosaic.Lib.ValueIdxCoords
public import proofs.«01_k».proof.Proof.BlockRun

@[expose] public section

set_option maxRecDepth 16384

noncomputable section

namespace Cert.KernelIdeal.Blk

open Cert.KernelIdeal Cert.KernelIdeal.Gen
open Cert.KernelIdeal.Facts
open Idealize.ShloMosaic Idealize.ShloMosaic.TcCoe Idealize.ShloMosaic.Tactic
open Idealize.SL Idealize.SL.RA Idealize.SL.BI
open Idealize.ShloMosaic.ValueIdx
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The rectangles of a block -/

/-- Where a block loads its queries, its keys and values, its bias; where it stores. -/
def qrect (g : Fin 3) (j : Fin 16) : LoadRect S1x1x2048x128 := ⟨![0, 0, row0 g j, 0], S1x1x128x128.size, st4 g, qoff_inb g j⟩
def krect (i : grid0.Coords) (g : Fin 3) (j : Fin 16) : LoadRect S1x1x4096x128 := ⟨koff i g j, S1x1x256x128.size, st4 g, koff_inb i g j⟩
def brect (i : grid0.Coords) (g : Fin 3) (j : Fin 16) : LoadRect S9x128x256 :=
  (Rect.unit (s := S9x128x256) (boff i g j) S1x128x256.size (boff_inb i g j)).toLoadRect
def nrect (g : Fin 3) (h : Fin 2) (j : Fin 16) : Rect S3x2x2048x128 :=
  ⟨(⟨noff g h j, S1x1x128x128.size, st4 g, noff_inb g h j⟩ : LoadRect S3x2x2048x128), st4_pos g⟩
def mrect (g : Fin 3) (j : Fin 16) : Rect S3x2048x128 :=
  ⟨(⟨moff g j, S1x128x128.size, st3 g, moff_inb g j⟩ : LoadRect S3x2048x128), st3_pos g⟩

/-! ## What the blocks compute -/

/-- What the blocks of one point read: the queries and keys of each group, the two halves of the values, the bias. -/
structure Inp (F : FTy → Type) where
  q : Fin 3 → Vec F S1x1x2048x128 .f32
  k : Fin 3 → Vec F S1x1x4096x128 .f32
  va : Vec F S1x1x4096x128 .f32
  vb : Vec F S1x1x4096x128 .f32
  b : Vec F S9x128x256 .f32

/-- The scores of a block. -/
def scores (i : grid0.Coords) (I : Inp F) (g : Fin 3) (j : Fin 16) : FVec F S128x256 .f32 :=
  sv (fun x => I.q g ((qrect g j).idx x)) (fun x => I.k g ((krect i g j).idx x)) (fun x => I.b ((brect i g j).idx x))

/-- The exponentials of a block against the values. -/
def numer (i : grid0.Coords) (I : Inp F) (g : Fin 3) (j : Fin 16) : FVec F S128x256 .f32 :=
  nv (scores i I g j) (fun x => I.va ((krect i g j).idx x)) (fun x => I.vb ((krect i g j).idx x))

/-- One half of the columns. -/
def nh : Fin 2 → FVec F S128x256 .f32 → FVec F S1x1x128x128 .f32
  | 0 => n0
  | 1 => n1

/-- Which block of group `g` a row falls to, and which of the block's rows it is. -/
def jOf : Fin 3 → Fin 2048 → Fin 16
  | 0, r => ⟨r.val / 128, by omega⟩
  | 1, r => ⟨r.val / 512 * 4 + r.val % 4, by omega⟩
  | 2, r => ⟨r.val % 16, by omega⟩
def uOf : Fin 3 → Fin 2048 → Fin 128
  | 0, r => ⟨r.val % 128, by omega⟩
  | 1, r => ⟨r.val % 512 / 4, by omega⟩
  | 2, r => ⟨r.val / 16, by omega⟩

theorem row_of (g : Fin 3) (r : Fin 2048) : row0 g (jOf g r) + dil g * (uOf g r).val = r.val := by
  have := r.isLt
  fin_cases g
  · show 128 * (r.val / 128) + 1 * (r.val % 128) = r.val; omega
  · show 512 * ((r.val / 512 * 4 + r.val % 4) / 4) + (r.val / 512 * 4 + r.val % 4) % 4 + 4 * (r.val % 512 / 4) = r.val; omega
  · show r.val % 16 + 16 * (r.val / 16) = r.val; omega

theorem jOf_row (g : Fin 3) (j : Fin 16) (u : Fin 128) (r : Fin 2048) (h : r.val = row0 g j + dil g * u.val) :
    jOf g r = j ∧ uOf g r = u := by
  have hj := j.isLt; have hu := u.isLt
  fin_cases g
  · replace h : r.val = 128 * j.val + 1 * u.val := h
    exact ⟨Fin.ext (show r.val / 128 = j.val by omega), Fin.ext (show r.val % 128 = u.val by omega)⟩
  · replace h : r.val = 512 * (j.val / 4) + j.val % 4 + 4 * u.val := h
    exact ⟨Fin.ext (show r.val / 512 * 4 + r.val % 4 = j.val by omega), Fin.ext (show r.val % 512 / 4 = u.val by omega)⟩
  · replace h : r.val = j.val + 16 * u.val := h
    exact ⟨Fin.ext (show r.val % 16 = j.val by omega), Fin.ext (show r.val / 16 = u.val by omega)⟩

/-- What the three scratches hold once every block has run. -/
def numAll (i : grid0.Coords) (I : Inp F) : S3x2x2048x128.Idx → Elt F .f32 := fun y =>
  nh (y 1) (numer i I (y 0) (jOf (y 0) (y 2))) (ix4 (0 : Fin 1) (0 : Fin 1) (uOf (y 0) (y 2)) (y 3))
def maxAll (i : grid0.Coords) (I : Inp F) : S3x2048x128.Idx → Elt F .f32 := fun y =>
  ml (mv (scores i I (y 0) (jOf (y 0) (y 1)))) (ix3 (0 : Fin 1) (uOf (y 0) (y 1)) (y 2))
def sumAll (i : grid0.Coords) (I : Inp F) : S3x2048x128.Idx → Elt F .f32 := fun y =>
  ml (lv (scores i I (y 0) (jOf (y 0) (y 1)))) (ix3 (0 : Fin 1) (uOf (y 0) (y 1)) (y 2))

theorem st4_2 : ∀ g : Fin 3, st4 g 2 = dil g := by decide
theorem st3_1 : ∀ g : Fin 3, st3 g 1 = dil g := by decide
theorem st4_3 : ∀ g : Fin 3, st4 g 3 = 1 := by decide
theorem st3_2 : ∀ g : Fin 3, st3 g 2 = 1 := by decide

theorem nrect_coords (g : Fin 3) (h : Fin 2) (j : Fin 16) (x : S1x1x128x128.Idx) :
    (nrect g h j).emb x 0 = g ∧ (nrect g h j).emb x 1 = h
      ∧ jOf g ((nrect g h j).emb x 2) = j ∧ uOf g ((nrect g h j).emb x 2) = x 2 ∧ (nrect g h j).emb x 3 = x 3 := by
  have h0 : (x 0).val = 0 := by have : (x 0).val < 1 := (x 0).isLt; omega
  have h1 : (x 1).val = 0 := by have : (x 1).val < 1 := (x 1).isLt; omega
  have e2 : ((nrect g h j).emb x 2).val = row0 g j + dil g * (x 2).val := by
    show row0 g j + st4 g 2 * (x 2).val = _; rw [st4_2]
  refine ⟨Fin.ext ?_, Fin.ext ?_, (jOf_row g j (x 2) _ e2).1, (jOf_row g j (x 2) _ e2).2, Fin.ext ?_⟩
  · show g.val + st4 g 0 * (x 0).val = g.val; rw [h0]; omega
  · show h.val + st4 g 1 * (x 1).val = h.val; rw [h1]; omega
  · show 0 + st4 g 3 * (x 3).val = (x 3).val; rw [st4_3]; omega

theorem mrect_coords (g : Fin 3) (j : Fin 16) (x : S1x128x128.Idx) :
    (mrect g j).emb x 0 = g ∧ jOf g ((mrect g j).emb x 1) = j ∧ uOf g ((mrect g j).emb x 1) = x 1 ∧ (mrect g j).emb x 2 = x 2 := by
  have h0 : (x 0).val = 0 := by have : (x 0).val < 1 := (x 0).isLt; omega
  have e1 : ((mrect g j).emb x 1).val = row0 g j + dil g * (x 1).val := by
    show row0 g j + st3 g 1 * (x 1).val = _; rw [st3_1]
  refine ⟨Fin.ext ?_, (jOf_row g j (x 1) _ e1).1, (jOf_row g j (x 1) _ e1).2, Fin.ext ?_⟩
  · show g.val + st3 g 0 * (x 0).val = g.val; rw [h0]; omega
  · show 0 + st3 g 2 * (x 2).val = (x 2).val; rw [st3_2]; omega

theorem eq_unit4 (x : S1x1x128x128.Idx) : x = ix4 (0 : Fin 1) (0 : Fin 1) (x 2) (x 3) := by
  exact (eq_ix4 x).trans (congrArg₂ (fun a b => ix4 (a : Fin 1) (b : Fin 1) (x 2) (x 3)) (Subsingleton.elim (α := Fin 1) _ _) (Subsingleton.elim (α := Fin 1) _ _))
theorem eq_unit3 (x : S1x128x128.Idx) : x = ix3 (0 : Fin 1) (x 1) (x 2) := by
  exact (eq_ix3 x).trans (congrArg (fun a => ix3 (a : Fin 1) (x 1) (x 2)) (Subsingleton.elim (α := Fin 1) _ _))

theorem num_piece (i : grid0.Coords) (I : Inp F) (g : Fin 3) (h : Fin 2) (j : Fin 16) (x : S1x1x128x128.Idx) :
    nh h (numer i I g j) x = numAll i I ((nrect g h j).emb x) := by
  obtain ⟨e0, e1, e2, e3, e4⟩ := nrect_coords g h j x
  unfold numAll
  rw [e0, e1, e2, e3, e4]
  exact congrArg _ (eq_unit4 x)

theorem max_piece (i : grid0.Coords) (I : Inp F) (g : Fin 3) (j : Fin 16) (x : S1x128x128.Idx) :
    ml (mv (scores i I g j)) x = maxAll i I ((mrect g j).emb x) := by
  obtain ⟨e0, e1, e2, e3⟩ := mrect_coords g j x
  unfold maxAll
  rw [e0, e1, e2, e3]
  exact congrArg _ (eq_unit3 x)

theorem sum_piece (i : grid0.Coords) (I : Inp F) (g : Fin 3) (j : Fin 16) (x : S1x128x128.Idx) :
    ml (lv (scores i I g j)) x = sumAll i I ((mrect g j).emb x) := by
  obtain ⟨e0, e1, e2, e3⟩ := mrect_coords g j x
  unfold sumAll
  rw [e0, e1, e2, e3]
  exact congrArg _ (eq_unit3 x)

theorem nrect_cover (g : Fin 3) (h : Fin 2) (r : Fin 2048) (d : Fin 128) : ix4 g h r d ∈ (nrect g h (jOf g r)).set := by
  rw [LoadRect.mem_set]
  intro a
  fin_cases a
  · exact ⟨0, by show 0 < 1; omega, by show g.val = g.val + st4 g 0 * 0; omega⟩
  · exact ⟨0, by show 0 < 1; omega, by show h.val = h.val + st4 g 1 * 0; omega⟩
  · exact ⟨uOf g r, (uOf g r).isLt, by
      show r.val = row0 g (jOf g r) + st4 g 2 * (uOf g r).val
      rw [st4_2, row_of]⟩
  · exact ⟨d.val, d.isLt, by show d.val = 0 + st4 g 3 * d.val; rw [st4_3]; omega⟩

theorem mrect_cover (g : Fin 3) (r : Fin 2048) (d : Fin 128) : ix3 g r d ∈ (mrect g (jOf g r)).set := by
  rw [LoadRect.mem_set]
  intro a
  fin_cases a
  · exact ⟨0, by show 0 < 1; omega, by show g.val = g.val + st3 g 0 * 0; omega⟩
  · exact ⟨uOf g r, (uOf g r).isLt, by
      show r.val = row0 g (jOf g r) + st3 g 1 * (uOf g r).val
      rw [st3_1, row_of]⟩
  · exact ⟨d.val, d.isLt, by show d.val = 0 + st3 g 2 * d.val; rw [st3_2]; omega⟩

/-! ## The scratches after some of the blocks -/

/-- The scratches hold what the blocks of `D` leave. -/
def Done (i : grid0.Coords) (I : Inp F) (num : Memref sig .tc .vmem S3x2x2048x128 .f32) (mm ll : Memref sig .tc .vmem S3x2048x128 .f32)
    (D : Fin 3 → Fin 16 → Prop) (N : BufTy.Contents (Elt F) num.view.ty) (M : BufTy.Contents (Elt F) mm.view.ty)
    (L : BufTy.Contents (Elt F) ll.view.ty) : Prop :=
  ∀ g j, D g j → (∀ h, ∀ y ∈ (nrect g h j).set, num.view.read (Elt F) N y = numAll i I y)
    ∧ (∀ y ∈ (mrect g j).set, mm.view.read (Elt F) M y = maxAll i I y)
    ∧ (∀ y ∈ (mrect g j).set, ll.view.read (Elt F) L y = sumAll i I y)

theorem writes_keep {s : Shape} {e : EltTy} (v : View sig .tc .vmem s e) (f : v.ty.Contents (Elt F)) (G : s.Idx → Elt F e)
    (L : List (View.Piece (Elt F) s e)) (hG : ∀ p ∈ L, ∀ x : p.1.shape.Idx, p.2 x = G (p.1.emb x)) (y : s.Idx)
    (h : v.read (Elt F) f y = G y ∨ ∃ p ∈ L, y ∈ p.1.set) : v.read (Elt F) (v.writes (Elt F) f L) y = G y := by
  by_cases hy : ∃ p ∈ L, y ∈ p.1.set
  · exact View.read_writes_apply_of_pieces v f G L hG y hy
  · rw [View.read_writes_apply_of_forall_not_mem v f y L fun p hp hm => hy ⟨p, hp, hm⟩]
    exact h.resolve_right hy

theorem done_step (i : grid0.Coords) (I : Inp F) (num : Memref sig .tc .vmem S3x2x2048x128 .f32) (mm ll : Memref sig .tc .vmem S3x2048x128 .f32)
    (D : Fin 3 → Fin 16 → Prop) (N : BufTy.Contents (Elt F) num.view.ty) (M : BufTy.Contents (Elt F) mm.view.ty)
    (L : BufTy.Contents (Elt F) ll.view.ty) (h : Done i I num mm ll D N M L) (g : Fin 3) (j : Fin 16) :
    Done i I num mm ll (fun g' j' => D g' j' ∨ (g' = g ∧ j' = j))
      (num.view.writes (Elt F) N [⟨nrect g 1 j, n1 (numer i I g j)⟩, ⟨nrect g 0 j, n0 (numer i I g j)⟩])
      (mm.view.writes (Elt F) M [⟨mrect g j, ml (mv (scores i I g j))⟩])
      (ll.view.writes (Elt F) L [⟨mrect g j, ml (lv (scores i I g j))⟩]) := by
  intro g' j' hD
  refine ⟨fun hh y hy => writes_keep num.view N (numAll i I) _ ?_ y ?_, fun y hy => writes_keep mm.view M (maxAll i I) _ ?_ y ?_,
    fun y hy => writes_keep ll.view L (sumAll i I) _ ?_ y ?_⟩
  · intro p hp
    simp only [List.mem_cons, List.not_mem_nil, _root_.or_false] at hp
    rcases hp with rfl | rfl
    · exact fun x => num_piece i I g 1 j x
    · exact fun x => num_piece i I g 0 j x
  · rcases hD with hD | ⟨rfl, rfl⟩
    · exact .inl ((h g' j' hD).1 hh y hy)
    · refine .inr ?_
      obtain rfl | rfl : hh = 0 ∨ hh = 1 := by omega
      · exact ⟨_, List.mem_cons_of_mem _ List.mem_cons_self, hy⟩
      · exact ⟨_, List.mem_cons_self, hy⟩
  · intro p hp
    simp only [List.mem_cons, List.not_mem_nil, _root_.or_false] at hp
    subst hp
    intro x; dsimp only; exact max_piece i I g j x
  · rcases hD with hD | ⟨rfl, rfl⟩
    · exact .inl ((h g' j' hD).2.1 y hy)
    · exact .inr ⟨_, List.mem_cons_self, hy⟩
  · intro p hp
    simp only [List.mem_cons, List.not_mem_nil, _root_.or_false] at hp
    subst hp
    intro x; dsimp only; exact sum_piece i I g j x
  · rcases hD with hD | ⟨rfl, rfl⟩
    · exact .inl ((h g' j' hD).2.2 y hy)
    · exact .inr ⟨_, List.mem_cons_self, hy⟩

/-- Once every block has run the scratches hold it all. -/
theorem done_all (i : grid0.Coords) (I : Inp F) (num : Memref sig .tc .vmem S3x2x2048x128 .f32) (mm ll : Memref sig .tc .vmem S3x2048x128 .f32)
    (D : Fin 3 → Fin 16 → Prop) (hD : ∀ g j, D g j) (N : BufTy.Contents (Elt F) num.view.ty) (M : BufTy.Contents (Elt F) mm.view.ty)
    (L : BufTy.Contents (Elt F) ll.view.ty) (h : Done i I num mm ll D N M L) :
    num.view.read (Elt F) N = numAll i I ∧ mm.view.read (Elt F) M = maxAll i I ∧ ll.view.read (Elt F) L = sumAll i I :=
  ⟨funext fun y => by
      obtain ⟨a, b, r, d, rfl⟩ : ∃ (a : Fin 3) (b : Fin 2) (r : Fin 2048) (d : Fin 128), y = ix4 a b r d := ⟨_, _, _, _, eq_ix4 y⟩
      exact (h _ _ (hD _ _)).1 _ _ (nrect_cover a b r d),
    funext fun y => by
      obtain ⟨a, r, d, rfl⟩ : ∃ (a : Fin 3) (r : Fin 2048) (d : Fin 128), y = ix3 a r d := ⟨_, _, _, eq_ix3 y⟩
      exact (h _ _ (hD _ _)).2.1 _ (mrect_cover a r d),
    funext fun y => by
      obtain ⟨a, r, d, rfl⟩ : ∃ (a : Fin 3) (r : Fin 2048) (d : Fin 128), y = ix3 a r d := ⟨_, _, _, eq_ix3 y⟩
      exact (h _ _ (hD _ _)).2.2 _ (mrect_cover a r d)⟩

/-! ## The run of a group -/

/-- What a group's blocks read and where they store, the blocks of `D` done. -/
def St (c : Dev nD) (i : grid0.Coords) (I : Inp F)
    (q : Memref sig .tc .vmem S1x1x2048x128 .f32) (k va vb : Memref sig .tc .vmem S1x1x4096x128 .f32)
    (bias : Memref sig .tc .vmem S9x128x256 .f32) (num : Memref sig .tc .vmem S3x2x2048x128 .f32)
    (mm ll : Memref sig .tc .vmem S3x2048x128 .f32) (sq sk sa sb : PosShare TreeShare)
    (Xq : BufTy.Contents (Elt F) q.view.ty) (Xk : BufTy.Contents (Elt F) k.view.ty) (Xa : BufTy.Contents (Elt F) va.view.ty)
    (Xb : BufTy.Contents (Elt F) vb.view.ty) (B : BufTy.Contents (Elt F) bias.view.ty) (D : Fin 3 → Fin 16 → Prop) : sProp 𝕄 :=
  iprop((q.view.loc c.tc ↦[q.view.set]{sq} Xq) ∗ (k.view.loc c.tc ↦[k.view.set]{sk} Xk)
      ∗ (va.view.loc c.tc ↦[va.view.set]{sa} Xa) ∗ (vb.view.loc c.tc ↦[vb.view.set]{sb} Xb)
      ∗ (bias.view.loc c.tc ↦[bias.view.set]{fullShare} B)
      ∗ (∃ N M L, ⌜Done i I num mm ll D N M L⌝ ∗ (num.view.loc c.tc ↦[num.view.set]{fullShare} N)
        ∗ (mm.view.loc c.tc ↦[mm.view.set]{fullShare} M) ∗ (ll.view.loc c.tc ↦[ll.view.set]{fullShare} L)))

section Run

variable (𝒱 : Variants) (c : Dev nD) (bd : Option 𝒱.V) (E : Set ℕ) (i : grid0.Coords) (I : Inp F)
    (q : Memref sig .tc .vmem S1x1x2048x128 .f32) (k va vb : Memref sig .tc .vmem S1x1x4096x128 .f32)
    (bias : Memref sig .tc .vmem S9x128x256 .f32) (num : Memref sig .tc .vmem S3x2x2048x128 .f32)
    (mm ll : Memref sig .tc .vmem S3x2048x128 .f32) (sq sk sa sb : PosShare TreeShare)
    (Xq : BufTy.Contents (Elt F) q.view.ty) (Xk : BufTy.Contents (Elt F) k.view.ty) (Xa : BufTy.Contents (Elt F) va.view.ty)
    (Xb : BufTy.Contents (Elt F) vb.view.ty) (B : BufTy.Contents (Elt F) bias.view.ty) (g : Fin 3)
    (eq : q.view.read (Elt F) Xq = I.q g) (ek : k.view.read (Elt F) Xk = I.k g) (ea : va.view.read (Elt F) Xa = I.va)
    (eb : vb.view.read (Elt F) Xb = I.vb) (eB : bias.view.read (Elt F) B = I.b)

include eq ek ea eb eB

theorem blkAt_run (D : Fin 3 → Fin 16 → Prop) (j : Fin 16) :
    St c i I q k va vb bias num mm ll sq sk sa sb Xq Xk Xa Xb B D
    ⊢ wp frame (wpE (defs₀ (F := F)) 𝒱 c.tc bd) E (blkAt i q k va vb bias num mm ll g j)
        (fun _ => St c i I q k va vb bias num mm ll sq sk sa sb Xq Xk Xa Xb B (fun g' j' => D g' j' ∨ (g' = g ∧ j' = j))) := by
  unfold St
  iintro ⟨Hq, Hk, Ha, Hb, HB, %N, %M, %L, %hD, HN, HM, HL⟩
  unfold blkAt
  iapply (wp_wand_r frame (wpE (defs₀ (F := F)) 𝒱 c.tc bd) E)
  isplitl [Hq Hk Ha Hb HB HN HM HL]
  · iapply (blk_run 𝒱 c bd E q k va vb bias num mm ll (st4 g) (st3 g) (st4_pos g) (st3_pos g)
      ![0, 0, row0 g j, 0] (qoff_inb g j) (koff i g j) (koff_inb i g j) (boff i g j) (boff_inb i g j)
      (noff g 0 j) (noff_inb g 0 j) (noff g 1 j) (noff_inb g 1 j) (moff g j) (moff_inb g j) sq sk sa sb Xq Xk Xa Xb B N M L
      (fun x => I.q g ((qrect g j).idx x)) (fun x => I.k g ((krect i g j).idx x)) (fun x => I.va ((krect i g j).idx x))
      (fun x => I.vb ((krect i g j).idx x)) (fun x => I.b ((brect i g j).idx x))
      (by rw [← eq]; rfl) (by rw [← ek]; rfl) (by rw [← ea]; rfl) (by rw [← eb]; rfl) (by rw [← eB]; rfl))
    iframe Hq Hk Ha Hb HB HN HM
    iexact HL
  · iintro %_ ⟨Hq, Hk, Ha, Hb, HB, HN, HM, HL⟩
    iframe Hq Hk Ha Hb HB
    iexists _; iexists _; iexists _
    isplitr
    · ipureintro; exact done_step i I num mm ll D N M L hD g j
    iframe HN HM
    iexact HL

theorem runs_run (l : List (Fin 16)) : ∀ (D : Fin 3 → Fin 16 → Prop),
    St c i I q k va vb bias num mm ll sq sk sa sb Xq Xk Xa Xb B D
    ⊢ wp frame (wpE (defs₀ (F := F)) 𝒱 c.tc bd) E (runs (blkAt i q k va vb bias num mm ll g) l)
        (fun _ => St c i I q k va vb bias num mm ll sq sk sa sb Xq Xk Xa Xb B (fun g' j' => D g' j' ∨ (g' = g ∧ j' ∈ l))) := by
  induction l with
  | nil =>
    intro D
    refine BIBase.Entails.trans ?_ (le_wp_ret frame (wpE (defs₀ (F := F)) 𝒱 c.tc bd) E PUnit.unit _)
    rw [show (fun g' j' => D g' j' ∨ (g' = g ∧ j' ∈ ([] : List (Fin 16)))) = D from funext fun g' => funext fun j' => by simp]
  | cons j l ih =>
    intro D
    show _ ⊢ wp frame _ E (blkAt i q k va vb bias num mm ll g j >>= fun _ => runs (blkAt i q k va vb bias num mm ll g) l) _
    rw [wp_bind]
    refine (blkAt_run 𝒱 c bd E i I q k va vb bias num mm ll sq sk sa sb Xq Xk Xa Xb B g eq ek ea eb eB D j).trans
      (wp_mono frame (wpE (defs₀ (F := F)) 𝒱 c.tc bd) E fun _ => (ih _).trans ?_)
    rw [show (fun g' j' => (D g' j' ∨ (g' = g ∧ j' = j)) ∨ (g' = g ∧ j' ∈ l)) = (fun g' j' => D g' j' ∨ (g' = g ∧ j' ∈ j :: l)) from
      funext fun g' => funext fun j' => propext (by simp only [List.mem_cons]; tauto)]

end Run

end Cert.KernelIdeal.Blk

end
-- ==== Proof.Combine.lean ====
/-
  The bias table and its filling; the combine loop and what it leaves in the output's block.
-/
module

public import proofs.«01_k».proof.Proof.GroupRun

@[expose] public section

set_option maxRecDepth 16384

noncomputable section

namespace Cert.KernelIdeal.Blk

open Cert.KernelIdeal Cert.KernelIdeal.Gen
open Cert.KernelIdeal.Facts
open Idealize.ShloMosaic Idealize.ShloMosaic.TcCoe Idealize.ShloMosaic.Tactic
open Idealize.SL Idealize.SL.RA Idealize.SL.BI
open Idealize.ShloMosaic.ValueIdx
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The combine loop -/

def cm (x : Vec F S1x256x128 .f32) : FVec F S256x128 .f32 := shapeCast S256x128 x shapeCasts_S1x256x128_S256x128
def cn (x : Vec F S1x1x256x128 .f32) : FVec F S256x128 .f32 := shapeCast S256x128 x shapeCasts_S1x1x256x128_S256x128

/-- The groups' common maximum, each group's weight, and one over the weighted sum. -/
def mx3 (m0 m1 m2 : Vec F S1x256x128 .f32) : FVec F S256x128 .f32 := maximumf (maximumf (cm m0) (cm m1)) (cm m2)
def wg (m : Vec F S1x256x128 .f32) (M : FVec F S256x128 .f32) : FVec F S256x128 .f32 := exp2 (subf (cm m) M)
def sum3 (a b c x y z : FVec F S256x128 .f32) : FVec F S256x128 .f32 := addf (addf (mulf a x) (mulf b y)) (mulf c z)
def inv3 (m0 m1 m2 l0 l1 l2 : Vec F S1x256x128 .f32) : FVec F S256x128 .f32 :=
  divf (broadcast S256x128 (Scalar.ofBits .f32 0x3F800000#32))
    (sum3 (wg m0 (mx3 m0 m1 m2)) (wg m1 (mx3 m0 m1 m2)) (wg m2 (mx3 m0 m1 m2)) (cm l0) (cm l1) (cm l2))

/-- What a trip stores of one half of the columns. -/
def outv (m0 m1 m2 l0 l1 l2 : Vec F S1x256x128 .f32) (a b c : Vec F S1x1x256x128 .f32) : FVec F S1x256x128 .bf16 :=
  shapeCast S1x256x128 (truncf .bf16
    (mulf (sum3 (wg m0 (mx3 m0 m1 m2)) (wg m1 (mx3 m0 m1 m2)) (wg m2 (mx3 m0 m1 m2)) (cn a) (cn b) (cn c)) (inv3 m0 m1 m2 l0 l1 l2))
    bitsLt_bf16_f32) shapeCasts_S256x128_S1x256x128

/-- What the combine loop reads: the numerators, the maxima, the sums. -/
structure Mid (F : FTy → Type) where
  n : Vec F S3x2x2048x128 .f32
  m : Vec F S3x2048x128 .f32
  l : Vec F S3x2048x128 .f32

def r5 (k : Fin k0_t1_loop.trips) : Rect S3x2048x128 := Rect.unit (s := S3x2048x128) (k0_off5 k) S1x256x128.size (k0_off5_inb k)
def r6 (k : Fin k0_t1_loop.trips) : Rect S3x2048x128 := Rect.unit (s := S3x2048x128) (k0_off6 k) S1x256x128.size (k0_off6_inb k)
def r7 (k : Fin k0_t1_loop.trips) : Rect S3x2048x128 := Rect.unit (s := S3x2048x128) (k0_off7 k) S1x256x128.size (k0_off7_inb k)
def r8 (k : Fin k0_t1_loop.trips) : Rect S3x2x2048x128 := Rect.unit (s := S3x2x2048x128) (k0_off8 k) S1x1x256x128.size (k0_off8_inb k)
def r9 (k : Fin k0_t1_loop.trips) : Rect S3x2x2048x128 := Rect.unit (s := S3x2x2048x128) (k0_off9 k) S1x1x256x128.size (k0_off9_inb k)
def r10 (k : Fin k0_t1_loop.trips) : Rect S3x2x2048x128 := Rect.unit (s := S3x2x2048x128) (k0_off10 k) S1x1x256x128.size (k0_off10_inb k)
def r12 (k : Fin k0_t1_loop.trips) : Rect S3x2x2048x128 := Rect.unit (s := S3x2x2048x128) (k0_off12 k) S1x1x256x128.size (k0_off12_inb k)
def r13 (k : Fin k0_t1_loop.trips) : Rect S3x2x2048x128 := Rect.unit (s := S3x2x2048x128) (k0_off13 k) S1x1x256x128.size (k0_off13_inb k)
def r14 (k : Fin k0_t1_loop.trips) : Rect S3x2x2048x128 := Rect.unit (s := S3x2x2048x128) (k0_off14 k) S1x1x256x128.size (k0_off14_inb k)
def r11 (k : Fin k0_t1_loop.trips) : Rect S1x2048x256 := Rect.unit (s := S1x2048x256) (k0_off11 k) S1x256x128.size (k0_off11_inb k)
def r15 (k : Fin k0_t1_loop.trips) : Rect S1x2048x256 := Rect.unit (s := S1x2048x256) (k0_off15 k) S1x256x128.size (k0_off15_inb k)

/-- What trip `k` stores: the two halves. -/
def out0 (D : Mid F) (k : Fin k0_t1_loop.trips) : FVec F S1x256x128 .bf16 :=
  outv (fun x => D.m ((r5 k).toLoadRect.idx x)) (fun x => D.m ((r6 k).toLoadRect.idx x)) (fun x => D.m ((r7 k).toLoadRect.idx x))
    (fun x => D.l ((r5 k).toLoadRect.idx x)) (fun x => D.l ((r6 k).toLoadRect.idx x)) (fun x => D.l ((r7 k).toLoadRect.idx x))
    (fun x => D.n ((r8 k).toLoadRect.idx x)) (fun x => D.n ((r9 k).toLoadRect.idx x)) (fun x => D.n ((r10 k).toLoadRect.idx x))
def out1 (D : Mid F) (k : Fin k0_t1_loop.trips) : FVec F S1x256x128 .bf16 :=
  outv (fun x => D.m ((r5 k).toLoadRect.idx x)) (fun x => D.m ((r6 k).toLoadRect.idx x)) (fun x => D.m ((r7 k).toLoadRect.idx x))
    (fun x => D.l ((r5 k).toLoadRect.idx x)) (fun x => D.l ((r6 k).toLoadRect.idx x)) (fun x => D.l ((r7 k).toLoadRect.idx x))
    (fun x => D.n ((r12 k).toLoadRect.idx x)) (fun x => D.n ((r13 k).toLoadRect.idx x)) (fun x => D.n ((r14 k).toLoadRect.idx x))

theorem trips_eq : k0_t1_loop.trips = 8 := by decide

/-! The loop's offsets. -/

theorem k0_off5_eq : ∀ k : Fin k0_t1_loop.trips, k0_off5 k = ![0, 256 * k.val, 0] := by decide
theorem k0_off6_eq : ∀ k : Fin k0_t1_loop.trips, k0_off6 k = ![1, 256 * k.val, 0] := by decide
theorem k0_off7_eq : ∀ k : Fin k0_t1_loop.trips, k0_off7 k = ![2, 256 * k.val, 0] := by decide
theorem k0_off8_eq : ∀ k : Fin k0_t1_loop.trips, k0_off8 k = ![0, 0, 256 * k.val, 0] := by decide
theorem k0_off9_eq : ∀ k : Fin k0_t1_loop.trips, k0_off9 k = ![1, 0, 256 * k.val, 0] := by decide
theorem k0_off10_eq : ∀ k : Fin k0_t1_loop.trips, k0_off10 k = ![2, 0, 256 * k.val, 0] := by decide
theorem k0_off11_eq : ∀ k : Fin k0_t1_loop.trips, k0_off11 k = ![0, 256 * k.val, 0] := by decide
theorem k0_off12_eq : ∀ k : Fin k0_t1_loop.trips, k0_off12 k = ![0, 1, 256 * k.val, 0] := by decide
theorem k0_off13_eq : ∀ k : Fin k0_t1_loop.trips, k0_off13 k = ![1, 1, 256 * k.val, 0] := by decide
theorem k0_off14_eq : ∀ k : Fin k0_t1_loop.trips, k0_off14 k = ![2, 1, 256 * k.val, 0] := by decide
theorem k0_off15_eq : ∀ k : Fin k0_t1_loop.trips, k0_off15 k = ![0, 256 * k.val, 128] := by decide

theorem k0_off11_at0 (k : Fin k0_t1_loop.trips) : k0_off11 k 0 = 0 := by rw [k0_off11_eq]; rfl
theorem k0_off11_at1 (k : Fin k0_t1_loop.trips) : k0_off11 k 1 = 256 * k.val := by rw [k0_off11_eq]; rfl
theorem k0_off11_at2 (k : Fin k0_t1_loop.trips) : k0_off11 k 2 = 0 := by rw [k0_off11_eq]; rfl
theorem k0_off15_at0 (k : Fin k0_t1_loop.trips) : k0_off15 k 0 = 0 := by rw [k0_off15_eq]; rfl
theorem k0_off15_at1 (k : Fin k0_t1_loop.trips) : k0_off15 k 1 = 256 * k.val := by rw [k0_off15_eq]; rfl
theorem k0_off15_at2 (k : Fin k0_t1_loop.trips) : k0_off15 k 2 = 128 := by rw [k0_off15_eq]; rfl

/-- The output's block: which trip stores a row, and the row within the trip. -/
def outAll (D : Mid F) : S1x2048x256.Idx → Elt F .bf16 := fun y =>
  if (y 2).val < 128 then
    out0 D ⟨(y 1).val / 256, by rw [trips_eq]; have : (y 1).val < 2048 := (y 1).isLt; omega⟩
      (ix3 (0 : Fin 1) (⟨(y 1).val % 256, by omega⟩ : Fin 256) (⟨(y 2).val % 128, by omega⟩ : Fin 128))
  else
    out1 D ⟨(y 1).val / 256, by rw [trips_eq]; have : (y 1).val < 2048 := (y 1).isLt; omega⟩
      (ix3 (0 : Fin 1) (⟨(y 1).val % 256, by omega⟩ : Fin 256) (⟨(y 2).val % 128, by omega⟩ : Fin 128))

theorem eq_half3 (x : S1x256x128.Idx) : x = ix3 (0 : Fin 1) (x 1) (x 2) :=
  (eq_ix3 x).trans (congrArg (fun a => ix3 (a : Fin 1) (x 1) (x 2)) (Subsingleton.elim (α := Fin 1) _ _))

theorem out0_piece (D : Mid F) (k : Fin k0_t1_loop.trips) (x : S1x256x128.Idx) : out0 D k x = outAll D ((r11 k).emb x) := by
  have h1 : ((r11 k).emb x 1).val = 256 * k.val + (x 1).val := by
    show k0_off11 k 1 + 1 * (x 1).val = _; rw [k0_off11_at1]; omega
  have h2 : ((r11 k).emb x 2).val = (x 2).val := by
    show k0_off11 k 2 + 1 * (x 2).val = _; rw [k0_off11_at2]; omega
  have l1 : (x 1).val < 256 := (x 1).isLt
  have l2 : (x 2).val < 128 := (x 2).isLt
  unfold outAll
  rw [if_pos (by omega)]
  congr 1
  · exact Fin.ext (by show k.val = ((r11 k).emb x 1).val / 256; omega)
  · refine (eq_half3 x).trans ?_
    congr 1
    · exact Fin.ext (by show (x 1).val = ((r11 k).emb x 1).val % 256; omega)
    · exact Fin.ext (by show (x 2).val = ((r11 k).emb x 2).val % 128; omega)

theorem out1_piece (D : Mid F) (k : Fin k0_t1_loop.trips) (x : S1x256x128.Idx) : out1 D k x = outAll D ((r15 k).emb x) := by
  have h1 : ((r15 k).emb x 1).val = 256 * k.val + (x 1).val := by
    show k0_off15 k 1 + 1 * (x 1).val = _; rw [k0_off15_at1]; omega
  have h2 : ((r15 k).emb x 2).val = 128 + (x 2).val := by
    show k0_off15 k 2 + 1 * (x 2).val = _; rw [k0_off15_at2]; omega
  have l1 : (x 1).val < 256 := (x 1).isLt
  have l2 : (x 2).val < 128 := (x 2).isLt
  unfold outAll
  rw [if_neg (by omega)]
  congr 1
  · exact Fin.ext (by show k.val = ((r15 k).emb x 1).val / 256; omega)
  · refine (eq_half3 x).trans ?_
    congr 1
    · exact Fin.ext (by show (x 1).val = ((r15 k).emb x 1).val % 256; omega)
    · exact Fin.ext (by show (x 2).val = ((r15 k).emb x 2).val % 128; omega)

section Loop

variable (𝒱 : Variants) (c : Dev nD) (bd : Option 𝒱.V) (E : Set ℕ) (i : grid0.Coords) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x4096x128 .f32) (harg6 : arg6.IsWhole) (arg7 : Memref sig .tc .vmem S1x1x4096x128 .f32) (harg7 : arg7.IsWhole) (arg8 : Memref sig .tc .vmem S1x1x4096x128 .f32) (harg8 : arg8.IsWhole) (arg9 : Memref sig .tc .vmem S1x1x4096x128 .f32) (harg9 : arg9.IsWhole) (arg10 : Memref sig .tc .vmem S1x1x4096x128 .f32) (harg10 : arg10.IsWhole) (arg11 : Memref sig .tc .vmem S1x2048x256 .bf16) (harg11 : arg11.IsWhole) (arg12 : Memref sig .tc .vmem S9x128x256 .f32) (harg12 : arg12.IsWhole) (arg13 : Memref sig .tc .vmem S3x2x2048x128 .f32) (harg13 : arg13.IsWhole) (arg14 : Memref sig .tc .vmem S3x2048x128 .f32) (harg14 : arg14.IsWhole) (arg15 : Memref sig .tc .vmem S3x2048x128 .f32) (harg15 : arg15.IsWhole)
    (D : Mid F) (X13 : BufTy.Contents (Elt F) arg13.view.ty) (X14 : BufTy.Contents (Elt F) arg14.view.ty)
    (X15 : BufTy.Contents (Elt F) arg15.view.ty)
    (e13 : arg13.view.read (Elt F) X13 = D.n) (e14 : arg14.view.read (Elt F) X14 = D.m) (e15 : arg15.view.read (Elt F) X15 = D.l)

/-- What a trip holds. -/
def Tr (f : BufTy.Contents (Elt F) arg11.view.ty) : sProp 𝕄 :=
  iprop((arg13.view.loc c.tc ↦[arg13.view.set]{fullShare} X13) ∗ (arg14.view.loc c.tc ↦[arg14.view.set]{fullShare} X14)
      ∗ (arg15.view.loc c.tc ↦[arg15.view.set]{fullShare} X15) ∗ (arg11.view.loc c.tc ↦[arg11.view.set]{fullShare} f))

/-- One trip, its stores as the run finds them. -/
def tripW (k : Fin k0_t1_loop.trips) : { L : List (View.Piece (Elt F) S1x2048x256 .bf16) // ∀ f : BufTy.Contents (Elt F) arg11.view.ty,
    Tr c arg11 arg13 arg14 arg15 X13 X14 X15 f
    ⊢ wp frame (wpE (defs₀ (F := F)) 𝒱 c.tc bd) E (k0_t1_body (F := F) i arg3 harg3 arg4 harg4 arg5 harg5 arg6 harg6 arg7 harg7 arg8 harg8 arg9 harg9 arg10 harg10 arg11 harg11 arg12 harg12 arg13 harg13 arg14 harg14 arg15 harg15 0#32 k PUnit.unit)
        (fun _ => Tr c arg11 arg13 arg14 arg15 X13 X14 X15 (arg11.view.writes (Elt F) f L)) } := by
  have hk : k.val < 8 := Nat.lt_of_lt_of_le k.isLt k0_t1_abs.2.1
  refine ⟨?_, fun f => ?run⟩
  case run =>
    unfold k0_t1_body Tr
    iintro ⟨H13, H14, H15, H11⟩
    sl_exec
    sl_step
    sl_close

theorem tripW_eq (k : Fin k0_t1_loop.trips) :
    (tripW 𝒱 c bd E i arg3 harg3 arg4 harg4 arg5 harg5 arg6 harg6 arg7 harg7 arg8 harg8 arg9 harg9 arg10 harg10 arg11 harg11 arg12 harg12 arg13 harg13 arg14 harg14 arg15 harg15 X13 X14 X15 k).1 =
      [⟨r15 k, out1 ⟨arg13.view.read (Elt F) X13, arg14.view.read (Elt F) X14, arg15.view.read (Elt F) X15⟩ k⟩,
       ⟨r11 k, out0 ⟨arg13.view.read (Elt F) X13, arg14.view.read (Elt F) X14, arg15.view.read (Elt F) X15⟩ k⟩] := rfl

include e13 e14 e15 in
theorem trip_run (k : Fin k0_t1_loop.trips) (f : BufTy.Contents (Elt F) arg11.view.ty) :
    Tr c arg11 arg13 arg14 arg15 X13 X14 X15 f
    ⊢ wp frame (wpE (defs₀ (F := F)) 𝒱 c.tc bd) E (k0_t1_body (F := F) i arg3 harg3 arg4 harg4 arg5 harg5 arg6 harg6 arg7 harg7 arg8 harg8 arg9 harg9 arg10 harg10 arg11 harg11 arg12 harg12 arg13 harg13 arg14 harg14 arg15 harg15 0#32 k PUnit.unit)
        (fun _ => Tr c arg11 arg13 arg14 arg15 X13 X14 X15 (arg11.view.writes (Elt F) f [⟨r15 k, out1 D k⟩, ⟨r11 k, out0 D k⟩])) := by
  have h := (tripW 𝒱 c bd E i arg3 harg3 arg4 harg4 arg5 harg5 arg6 harg6 arg7 harg7 arg8 harg8 arg9 harg9 arg10 harg10 arg11 harg11 arg12 harg12 arg13 harg13 arg14 harg14 arg15 harg15 X13 X14 X15 k).2 f
  rw [tripW_eq] at h
  obtain ⟨n, m, l⟩ := D
  subst e13 e14 e15
  exact h

/-- The rows of the trips before `k` hold their output. -/
def Upto (f : BufTy.Contents (Elt F) arg11.view.ty) (k : ℕ) : Prop :=
  ∀ y : S1x2048x256.Idx, (y 1).val < 256 * k → arg11.view.read (Elt F) f y = outAll D y

theorem upto_step (f : BufTy.Contents (Elt F) arg11.view.ty) (k : Fin k0_t1_loop.trips) (h : Upto arg11 D f k.val) :
    Upto arg11 D (arg11.view.writes (Elt F) f [⟨r15 k, out1 D k⟩, ⟨r11 k, out0 D k⟩]) (k.val + 1) := by
  intro y hy
  refine writes_keep arg11.view f (outAll D) _ ?_ y ?_
  · intro p hp
    simp only [List.mem_cons, List.not_mem_nil, _root_.or_false] at hp
    rcases hp with rfl | rfl
    · intro x; dsimp only; exact out1_piece D k x
    · intro x; dsimp only; exact out0_piece D k x
  · by_cases hlt : (y 1).val < 256 * k.val
    · exact .inl (h y hlt)
    · have b0 : (y 0).val < 1 := (y 0).isLt
      have b2 : (y 2).val < 256 := (y 2).isLt
      refine .inr ?_
      by_cases h2 : (y 2).val < 128
      · refine ⟨_, List.mem_cons_of_mem _ List.mem_cons_self, ?_⟩
        show y ∈ (r11 k).set
        rw [LoadRect.mem_set]
        intro a
        fin_cases a
        · exact ⟨0, by show 0 < 1; omega, by show (y 0).val = k0_off11 k 0 + 1 * 0; rw [k0_off11_at0]; omega⟩
        · exact ⟨(y 1).val - 256 * k.val, by show _ < 256; omega, by
            show (y 1).val = k0_off11 k 1 + 1 * ((y 1).val - 256 * k.val); rw [k0_off11_at1]; omega⟩
        · exact ⟨(y 2).val, by show _ < 128; omega, by show (y 2).val = k0_off11 k 2 + 1 * (y 2).val; rw [k0_off11_at2]; omega⟩
      · refine ⟨_, List.mem_cons_self, ?_⟩
        show y ∈ (r15 k).set
        rw [LoadRect.mem_set]
        intro a
        fin_cases a
        · exact ⟨0, by show 0 < 1; omega, by show (y 0).val = k0_off15 k 0 + 1 * 0; rw [k0_off15_at0]; omega⟩
        · exact ⟨(y 1).val - 256 * k.val, by show _ < 256; omega, by
            show (y 1).val = k0_off15 k 1 + 1 * ((y 1).val - 256 * k.val); rw [k0_off15_at1]; omega⟩
        · exact ⟨(y 2).val - 128, by show _ < 128; omega, by
            show (y 2).val = k0_off15 k 2 + 1 * ((y 2).val - 128); rw [k0_off15_at2]; omega⟩

/-- The loop's invariant. -/
def Inv (k : ℕ) : sProp 𝕄 :=
  iprop((arg13.view.loc c.tc ↦[arg13.view.set]{fullShare} X13) ∗ (arg14.view.loc c.tc ↦[arg14.view.set]{fullShare} X14)
    ∗ (arg15.view.loc c.tc ↦[arg15.view.set]{fullShare} X15)
    ∗ (∃ f, ⌜Upto arg11 D f k⌝ ∗ (arg11.view.loc c.tc ↦[arg11.view.set]{fullShare} f)))

include e13 e14 e15 in
theorem inv_step (k : Fin k0_t1_loop.trips) :
    Inv c arg11 arg13 arg14 arg15 D X13 X14 X15 k.val
    ⊢ wp frame (wpE (defs₀ (F := F)) 𝒱 c.tc bd) E (k0_t1_body (F := F) i arg3 harg3 arg4 harg4 arg5 harg5 arg6 harg6 arg7 harg7 arg8 harg8 arg9 harg9 arg10 harg10 arg11 harg11 arg12 harg12 arg13 harg13 arg14 harg14 arg15 harg15 0#32 k PUnit.unit)
        (fun _ => Inv c arg11 arg13 arg14 arg15 D X13 X14 X15 (k.val + 1)) := by
  have ht := trip_run 𝒱 c bd E i arg3 harg3 arg4 harg4 arg5 harg5 arg6 harg6 arg7 harg7 arg8 harg8 arg9 harg9 arg10 harg10 arg11 harg11 arg12 harg12 arg13 harg13 arg14 harg14 arg15 harg15 D X13 X14 X15 e13 e14 e15 k
  unfold Tr at ht
  unfold Inv
  iintro ⟨H13, H14, H15, %f, %hf, H11⟩
  iapply (wp_wand_r Idealize.ShloMosaic.frame (wpE (defs₀ (F := F)) 𝒱 c.tc bd) E)
  isplitl [H13 H14 H15 H11]
  · iapply (ht f)
    iframe H13 H14 H15
    iexact H11
  · iintro %_ ⟨H13, H14, H15, H11⟩
    iframe H13 H14 H15
    iexists _
    isplitr
    · ipureintro; exact upto_step arg11 D f k hf
    iexact H11

include e13 e14 e15 in
theorem loop_run :
    Inv c arg11 arg13 arg14 arg15 D X13 X14 X15 0
    ⊢ wp frame (wpE (defs₀ (F := F)) 𝒱 c.tc bd) E
        (Scf.Loop.for k0_t1_loop k0_t1_ok ⟨⟩ (k0_t1_body (F := F) i arg3 harg3 arg4 harg4 arg5 harg5 arg6 harg6 arg7 harg7 arg8 harg8 arg9 harg9 arg10 harg10 arg11 harg11 arg12 harg12 arg13 harg13 arg14 harg14 arg15 harg15 0#32))
        (fun _ => Inv c arg11 arg13 arg14 arg15 D X13 X14 X15 8) := by
  iintro H
  iapply (Scf.wp_for frame (wpE (defs₀ (F := F)) 𝒱 c.tc bd) E k0_t1_loop.lb k0_t1_loop.ub k0_t1_loop.st k0_t1_ok PUnit.unit _
    (fun k _ => Inv c arg11 arg13 arg14 arg15 D X13 X14 X15 k)
    (fun k _ => inv_step 𝒱 c bd E i arg3 harg3 arg4 harg4 arg5 harg5 arg6 harg6 arg7 harg7 arg8 harg8 arg9 harg9 arg10 harg10 arg11 harg11 arg12 harg12 arg13 harg13 arg14 harg14 arg15 harg15 D X13 X14 X15 e13 e14 e15 k))
  isplitl [H]
  · iexact H
  · iintro %_ H
    iexact H

/-- After the last trip the block is the whole output. -/
theorem upto_all (f : BufTy.Contents (Elt F) arg11.view.ty) (h : Upto arg11 D f 8) : arg11.view.read (Elt F) f = outAll D :=
  funext fun y => h y (by have : (y 1).val < 2048 := (y 1).isLt; omega)

end Loop

end Cert.KernelIdeal.Blk

end
-- ==== Proof.Bias.lean ====
/-
  The bias table and its filling, at the first block of tokens of each head.
-/
module

public import proofs.«01_k».proof.Proof.GroupRun

@[expose] public section

set_option maxRecDepth 16384

noncomputable section

namespace Cert.KernelIdeal.Blk

open Cert.KernelIdeal Cert.KernelIdeal.Gen
open Cert.KernelIdeal.Facts
open Idealize.ShloMosaic Idealize.ShloMosaic.TcCoe Idealize.ShloMosaic.Tactic
open Idealize.SL Idealize.SL.RA Idealize.SL.BI
open Idealize.ShloMosaic.ValueIdx
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The bias table -/

/-- The slope of a head, in the base of the exponentials. -/
def slopeL (h : ℕ) : FVec F S1x1 .f32 :=
  mulf (exp2 (mulf (broadcast S1x1 (Scalar.ofBits .f32 0xBF000000#32))
    (broadcast S1x1 (Scalar.sitofp .f32 (Scalar.addi (BitVec.ofNat 32 h) 1#32))))) (broadcast S1x1 (Named.named κ "log2e" 0x3FB8AA3B#32))

/-- The distances at a shift. -/
def distv (sh : BitVec 32) : IVec S128x256 32 :=
  absi (subi (addi (iota .tc S128x256 32 [1] iota_S128x256_d1_w32) (broadcast S128x256 sh)) (iota .tc S128x256 32 [0] iota_S128x256_d0_w32))

/-- One table: within the window the slope times the distance, elsewhere the mask. -/
def biasv (h : ℕ) (sh nd : BitVec 32) : FVec F S1x128x256 .f32 :=
  shapeCast S1x128x256 (select (cmpi .sle (distv sh) (broadcast S128x256 64#32))
    (mulf (sitofp .f32 (distv sh)) (broadcastTo S128x256 (mulf (slopeL h) (broadcast S1x1 (Scalar.ofBits .f32 nd))) broadcasts_S1x1_S128x256))
    (broadcast S128x256 (Named.named κ "mask" 0xF149F2CA#32))) shapeCasts_S128x256_S1x128x256

/-- Each table's shift, and less its dilation. -/
def shOf : Fin 9 → BitVec 32 := ![4294967232#32, 0#32, 4294967168#32, 4294967232#32, 0#32, 4294967168#32, 4294967232#32, 0#32, 4294967168#32]
def ndOf : Fin 9 → BitVec 32 :=
  ![0xBF800000#32, 0xBF800000#32, 0xBF800000#32, 0xC0800000#32, 0xC0800000#32, 0xC0800000#32, 0xC1800000#32, 0xC1800000#32, 0xC1800000#32]

theorem bslot_inb (n : Fin 9) : ∀ a, (![n.val, 0, 0] : Fin 3 → ℕ) a + S1x128x256.size a ≤ S9x128x256.size a := by
  intro a
  have := n.isLt
  fin_cases a
  · show n.val + 1 ≤ 9; omega
  · show 0 + 128 ≤ 128; omega
  · show 0 + 256 ≤ 256; omega

def bslot (n : Fin 9) : Rect S9x128x256 := Rect.unit (s := S9x128x256) ![n.val, 0, 0] S1x128x256.size (bslot_inb n)

def bpiece (h : ℕ) (n : Fin 9) : View.Piece (Elt F) S9x128x256 .f32 := ⟨bslot n, biasv h (shOf n) (ndOf n)⟩

/-- The whole table of a head. -/
def biasAll (h : ℕ) : S9x128x256.Idx → Elt F .f32 := fun y => biasv h (shOf (y 0)) (ndOf (y 0)) (ix3 (0 : Fin 1) (y 1) (y 2))

theorem bpiece_eq (h : ℕ) (n : Fin 9) (x : S1x128x256.Idx) :
    (biasv h (shOf n) (ndOf n) : FVec F S1x128x256 .f32) x = biasAll h ((bslot n).emb x) := by
  have b0 : (x 0).val < 1 := (x 0).isLt
  have h0 : (bslot n).emb x 0 = n := Fin.ext (by show n.val + 1 * (x 0).val = n.val; omega)
  have h1 : (bslot n).emb x 1 = x 1 := Fin.ext (by show 0 + 1 * (x 1).val = (x 1).val; omega)
  have h2 : (bslot n).emb x 2 = x 2 := Fin.ext (by show 0 + 1 * (x 2).val = (x 2).val; omega)
  unfold biasAll
  rw [h0, h1, h2]
  exact congrArg _ ((eq_ix3 x).trans (congrArg (fun a => ix3 (a : Fin 1) (x 1) (x 2)) (Subsingleton.elim (α := Fin 1) _ _)))

theorem bslot_cover (n : Fin 9) (u : Fin 128) (w : Fin 256) : ix3 n u w ∈ (bslot n).set := by
  rw [LoadRect.mem_set]
  intro a
  fin_cases a
  · exact ⟨0, by show 0 < 1; omega, by show n.val = n.val + 1 * 0; omega⟩
  · exact ⟨u.val, u.isLt, by show u.val = 0 + 1 * u.val; omega⟩
  · exact ⟨w.val, w.isLt, by show w.val = 0 + 1 * w.val; omega⟩

/-- The nine stores, last first. -/
def bpieces (h : ℕ) : List (View.Piece (Elt F) S9x128x256 .f32) := ([8, 7, 6, 5, 4, 3, 2, 1, 0] : List (Fin 9)).map (bpiece h)

theorem bpieces_read (h : ℕ) (bias : Memref sig .tc .vmem S9x128x256 .f32) (f : BufTy.Contents (Elt F) bias.view.ty) :
    bias.view.read (Elt F) (bias.view.writes (Elt F) f (bpieces h)) = biasAll h := by
  funext y
  obtain ⟨n, u, w, rfl⟩ : ∃ (n : Fin 9) (u : Fin 128) (w : Fin 256), y = ix3 n u w := ⟨_, _, _, eq_ix3 y⟩
  refine writes_keep bias.view f (biasAll h) _ ?_ _ (.inr ⟨bpiece h n, ?_, bslot_cover n u w⟩)
  · intro p hp
    obtain ⟨m, -, rfl⟩ := List.mem_map.1 hp
    intro x; exact bpiece_eq h m x
  · exact List.mem_map.2 ⟨n, by fin_cases n <;> decide, rfl⟩

/-- The guard: the first block of tokens. -/
theorem guard_iff (n : ℕ) (hn : n < 4) :
    (Scalar.cmpi .ne (Scalar.extui (Scalar.cmpi .eq (BitVec.ofNat 32 n) 0#32) : BitVec 32) 0#32 = 1#1) ↔ n = 0 := by
  interval_cases n <;> decide

section Fill

variable (𝒱 : Variants) (c : Dev nD) (bd : Option 𝒱.V) (E : Set ℕ) (i : grid0.Coords) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x4096x128 .f32) (harg6 : arg6.IsWhole) (arg7 : Memref sig .tc .vmem S1x1x4096x128 .f32) (harg7 : arg7.IsWhole) (arg8 : Memref sig .tc .vmem S1x1x4096x128 .f32) (harg8 : arg8.IsWhole) (arg9 : Memref sig .tc .vmem S1x1x4096x128 .f32) (harg9 : arg9.IsWhole) (arg10 : Memref sig .tc .vmem S1x1x4096x128 .f32) (harg10 : arg10.IsWhole) (arg11 : Memref sig .tc .vmem S1x2048x256 .bf16) (harg11 : arg11.IsWhole) (arg12 : Memref sig .tc .vmem S9x128x256 .f32) (harg12 : arg12.IsWhole) (arg13 : Memref sig .tc .vmem S3x2x2048x128 .f32) (harg13 : arg13.IsWhole) (arg14 : Memref sig .tc .vmem S3x2048x128 .f32) (harg14 : arg14.IsWhole) (arg15 : Memref sig .tc .vmem S3x2048x128 .f32) (harg15 : arg15.IsWhole)

theorem fill_run (h0 : (i 2).val = 0) (f : BufTy.Contents (Elt F) arg12.view.ty) :
    ((arg12.view.loc c.tc ↦[arg12.view.set]{fullShare} f) : sProp 𝕄)
    ⊢ wp frame (wpE (defs₀ (F := F)) 𝒱 c.tc bd) E (k0_part5 (F := F) i arg3 harg3 arg4 harg4 arg5 harg5 arg6 harg6 arg7 harg7 arg8 harg8 arg9 harg9 arg10 harg10 arg11 harg11 arg12 harg12 arg13 harg13 arg14 harg14 arg15 harg15)
        (fun _ => iprop(∃ L, (arg12.view.loc c.tc ↦[arg12.view.set]{fullShare} arg12.view.writes (Elt F) f L) ∗ ⌜L = bpieces (i 1).val⌝)) := by
  unfold k0_part5
  dsimp only
  rw [dif_pos ((guard_iff (i 2).val (i 2).isLt).2 h0)]
  iintro H
  sl_exec
  sl_step
  iexists _
  isplitl [H]
  · iexact H
  · ipureintro; rfl

theorem keep_run (h0 : (i 2).val ≠ 0) (P : sProp 𝕄) :
    P ⊢ wp frame (wpE (defs₀ (F := F)) 𝒱 c.tc bd) E (k0_part5 (F := F) i arg3 harg3 arg4 harg4 arg5 harg5 arg6 harg6 arg7 harg7 arg8 harg8 arg9 harg9 arg10 harg10 arg11 harg11 arg12 harg12 arg13 harg13 arg14 harg14 arg15 harg15) (fun _ => P) := by
  unfold k0_part5
  dsimp only
  rw [dif_neg (fun h => h0 ((guard_iff (i 2).val (i 2).isLt).1 h))]
  iintro H
  sl_exec
  sl_step
  iexact H

/-- The table before the blocks run: filled at a head's first block of tokens, as it was elsewhere. -/
theorem prologue_run (f : BufTy.Contents (Elt F) arg12.view.ty)
    (hf : (i 2).val ≠ 0 → arg12.view.read (Elt F) f = biasAll (i 1).val) :
    ((arg12.view.loc c.tc ↦[arg12.view.set]{fullShare} f) : sProp 𝕄)
    ⊢ wp frame (wpE (defs₀ (F := F)) 𝒱 c.tc bd) E (k0_part5 (F := F) i arg3 harg3 arg4 harg4 arg5 harg5 arg6 harg6 arg7 harg7 arg8 harg8 arg9 harg9 arg10 harg10 arg11 harg11 arg12 harg12 arg13 harg13 arg14 harg14 arg15 harg15)
        (fun _ => iprop(∃ f, ⌜arg12.view.read (Elt F) f = biasAll (i 1).val⌝ ∗ (arg12.view.loc c.tc ↦[arg12.view.set]{fullShare} f))) := by
  by_cases h0 : (i 2).val = 0
  · refine (fill_run 𝒱 c bd E i arg3 harg3 arg4 harg4 arg5 harg5 arg6 harg6 arg7 harg7 arg8 harg8 arg9 harg9 arg10 harg10 arg11 harg11 arg12 harg12 arg13 harg13 arg14 harg14 arg15 harg15 h0 f).trans (wp_mono frame (wpE (defs₀ (F := F)) 𝒱 c.tc bd) E fun _ => ?_)
    iintro ⟨%L, H, %hL⟩
    subst hL
    iexists (arg12.view.writes (Elt F) f (bpieces (i 1).val))
    isplitr
    · ipureintro; exact bpieces_read _ arg12 f
    · iexact H
  · refine (keep_run 𝒱 c bd E i arg3 harg3 arg4 harg4 arg5 harg5 arg6 harg6 arg7 harg7 arg8 harg8 arg9 harg9 arg10 harg10 arg11 harg11 arg12 harg12 arg13 harg13 arg14 harg14 arg15 harg15 h0 _).trans (wp_mono frame (wpE (defs₀ (F := F)) 𝒱 c.tc bd) E fun _ => ?_)
    iintro H
    iexists f
    isplitr
    · ipureintro; exact hf h0
    · iexact H

end Fill

end Cert.KernelIdeal.Blk

end
-- ==== Proof.Body.lean ====
/-
  The body at a point: from the staged windows, whatever the scratch held, to the block of the output.
-/
module

public import proofs.«01_k».proof.Proof.Combine
public import proofs.«01_k».proof.Proof.Bias

@[expose] public section

set_option maxRecDepth 16384

noncomputable section

namespace Cert.KernelIdeal.Blk

open Cert.KernelIdeal Cert.KernelIdeal.Gen
open Cert.KernelIdeal.Facts
open Idealize.ShloMosaic Idealize.ShloMosaic.TcCoe Idealize.ShloMosaic.Tactic
open Idealize.SL Idealize.SL.RA Idealize.SL.BI
open Idealize.ShloMosaic.ValueIdx
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Body

variable (𝒱 : Variants) (c : Dev nD) (bd : Option 𝒱.V) (E : Set ℕ) (i : grid0.Coords) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x4096x128 .f32) (harg6 : arg6.IsWhole) (arg7 : Memref sig .tc .vmem S1x1x4096x128 .f32) (harg7 : arg7.IsWhole) (arg8 : Memref sig .tc .vmem S1x1x4096x128 .f32) (harg8 : arg8.IsWhole) (arg9 : Memref sig .tc .vmem S1x1x4096x128 .f32) (harg9 : arg9.IsWhole) (arg10 : Memref sig .tc .vmem S1x1x4096x128 .f32) (harg10 : arg10.IsWhole) (arg11 : Memref sig .tc .vmem S1x2048x256 .bf16) (harg11 : arg11.IsWhole) (arg12 : Memref sig .tc .vmem S9x128x256 .f32) (harg12 : arg12.IsWhole) (arg13 : Memref sig .tc .vmem S3x2x2048x128 .f32) (harg13 : arg13.IsWhole) (arg14 : Memref sig .tc .vmem S3x2048x128 .f32) (harg14 : arg14.IsWhole) (arg15 : Memref sig .tc .vmem S3x2048x128 .f32) (harg15 : arg15.IsWhole)
  (I : Inp F)

/-- What the combine loop reads. -/
def midOf : Mid F := ⟨numAll i I, maxAll i I, sumAll i I⟩

theorem midOf_eq : numAll i I = (midOf i I).n ∧ maxAll i I = (midOf i I).m ∧ sumAll i I = (midOf i I).l := by
  refine ⟨?_, ?_, ?_⟩ <;> dsimp only [midOf]

/-- What the body finds. -/
def Pre : sProp 𝕄 :=
  iprop(owns c.tc arg3 fullShare (I.q 0) ∗ owns c.tc arg4 fullShare (I.q 1) ∗ owns c.tc arg5 fullShare (I.q 2) ∗ owns c.tc arg6 fullShare (I.k 0) ∗ owns c.tc arg7 fullShare (I.k 1) ∗ owns c.tc arg8 fullShare (I.k 2) ∗ owns c.tc arg9 fullShare I.va ∗ owns c.tc arg10 fullShare I.vb
    ∗ (∃ d, owns c.tc arg11 fullShare d)
    ∗ (∃ f, ⌜(i 2).val ≠ 0 → arg12.view.read (Elt F) f = biasAll (i 1).val⌝ ∗ (arg12.view.loc c.tc ↦[arg12.view.set]{fullShare} f))
    ∗ (∃ d, owns c.tc arg13 fullShare d) ∗ (∃ d, owns c.tc arg14 fullShare d) ∗ (∃ d, owns c.tc arg15 fullShare d))

/-- What the body leaves. -/
def Post : sProp 𝕄 :=
  iprop(owns c.tc arg3 fullShare (I.q 0) ∗ owns c.tc arg4 fullShare (I.q 1) ∗ owns c.tc arg5 fullShare (I.q 2) ∗ owns c.tc arg6 fullShare (I.k 0) ∗ owns c.tc arg7 fullShare (I.k 1) ∗ owns c.tc arg8 fullShare (I.k 2) ∗ owns c.tc arg9 fullShare I.va ∗ owns c.tc arg10 fullShare I.vb
    ∗ owns c.tc arg11 fullShare (outAll (midOf i I))
    ∗ owns c.tc arg12 fullShare (biasAll (i 1).val)
    ∗ (∃ d, owns c.tc arg13 fullShare d) ∗ (∃ d, owns c.tc arg14 fullShare d) ∗ (∃ d, owns c.tc arg15 fullShare d))

theorem mem_fins : ∀ j : Fin 16, j ∈ fins := by decide

/-- The blocks of the three groups, then the combine. -/
theorem tail_run (hb : I.b = biasAll (i 1).val) :
    (iprop(owns c.tc arg3 fullShare (I.q 0) ∗ owns c.tc arg4 fullShare (I.q 1) ∗ owns c.tc arg5 fullShare (I.q 2) ∗ owns c.tc arg6 fullShare (I.k 0) ∗ owns c.tc arg7 fullShare (I.k 1) ∗ owns c.tc arg8 fullShare (I.k 2) ∗ owns c.tc arg9 fullShare I.va ∗ owns c.tc arg10 fullShare I.vb
      ∗ (∃ d, owns c.tc arg11 fullShare d)
      ∗ owns c.tc arg12 fullShare (biasAll (i 1).val)
      ∗ (∃ d, owns c.tc arg13 fullShare d) ∗ (∃ d, owns c.tc arg14 fullShare d) ∗ (∃ d, owns c.tc arg15 fullShare d)) : sProp 𝕄)
    ⊢ wp frame (wpE (defs₀ (F := F)) 𝒱 c.tc bd) E (tail i arg3 harg3 arg4 harg4 arg5 harg5 arg6 harg6 arg7 harg7 arg8 harg8 arg9 harg9 arg10 harg10 arg11 harg11 arg12 harg12 arg13 harg13 arg14 harg14 arg15 harg15) (fun _ => Post c i arg3 arg4 arg5 arg6 arg7 arg8 arg9 arg10 arg11 arg12 arg13 arg14 arg15 I) := by
  unfold owns
  iintro ⟨⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩, ⟨%d11, %X11, -, H11⟩, ⟨%B, %eB, HB⟩, ⟨%d13, %X13, -, H13⟩, ⟨%d14, %X14, -, H14⟩, ⟨%d15, %X15, -, H15⟩⟩
  rw [← hb] at eB
  unfold tail
  rw [wp_bind]
  iapply (wp_wand_r frame (wpE (defs₀ (F := F)) 𝒱 c.tc bd) E)
  isplitl [H3 H6 H9 H10 HB H13 H14 H15]
  · iapply (runs_run 𝒱 c bd E i I arg3 arg6 arg9 arg10 arg12 arg13 arg14 arg15 fullShare fullShare fullShare fullShare X3 X6 X9 X10 B 0 e3 e6 e9 e10 eB fins (fun _ _ => False))
    unfold St
    iframe H3 H6 H9 H10 HB
    iexists X13; iexists X14; iexists X15
    isplitr
    · ipureintro; exact fun _ _ h => h.elim
    iframe H13 H14
    iexact H15
  unfold St
  iintro %_ ⟨H3, H6, H9, H10, HB, %N1, %M1, %L1, %hD1, H13, H14, H15⟩
  rw [wp_bind]
  iapply (wp_wand_r frame (wpE (defs₀ (F := F)) 𝒱 c.tc bd) E)
  isplitl [H4 H7 H9 H10 HB H13 H14 H15]
  · iapply (runs_run 𝒱 c bd E i I arg4 arg7 arg9 arg10 arg12 arg13 arg14 arg15 fullShare fullShare fullShare fullShare X4 X7 X9 X10 B 1 e4 e7 e9 e10 eB fins (fun g' j' => False ∨ (g' = 0 ∧ j' ∈ fins)))
    unfold St
    iframe H4 H7 H9 H10 HB
    iexists N1; iexists M1; iexists L1
    isplitr
    · ipureintro; exact hD1
    iframe H13 H14
    iexact H15
  unfold St
  iintro %_ ⟨H4, H7, H9, H10, HB, %N2, %M2, %L2, %hD2, H13, H14, H15⟩
  rw [wp_bind]
  iapply (wp_wand_r frame (wpE (defs₀ (F := F)) 𝒱 c.tc bd) E)
  isplitl [H5 H8 H9 H10 HB H13 H14 H15]
  · iapply (runs_run 𝒱 c bd E i I arg5 arg8 arg9 arg10 arg12 arg13 arg14 arg15 fullShare fullShare fullShare fullShare X5 X8 X9 X10 B 2 e5 e8 e9 e10 eB fins (fun g' j' => (False ∨ (g' = 0 ∧ j' ∈ fins)) ∨ (g' = 1 ∧ j' ∈ fins)))
    unfold St
    iframe H5 H8 H9 H10 HB
    iexists N2; iexists M2; iexists L2
    isplitr
    · ipureintro; exact hD2
    iframe H13 H14
    iexact H15
  unfold St
  iintro %_ ⟨H5, H8, H9, H10, HB, %N3, %M3, %L3, %hD3, H13, H14, H15⟩
  rw [wp_bind]
  obtain ⟨en, em, el⟩ := done_all i I arg13 arg14 arg15 _ (fun g j => by
    have hj := mem_fins j
    fin_cases g
    · exact .inl (.inl (.inr ⟨rfl, hj⟩))
    · exact .inl (.inr ⟨rfl, hj⟩)
    · exact .inr ⟨rfl, hj⟩) N3 M3 L3 hD3
  iapply (wp_wand_r frame (wpE (defs₀ (F := F)) 𝒱 c.tc bd) E)
  isplitl [H13 H14 H15 H11]
  · iapply (loop_run 𝒱 c bd E i arg3 harg3 arg4 harg4 arg5 harg5 arg6 harg6 arg7 harg7 arg8 harg8 arg9 harg9 arg10 harg10 arg11 harg11 arg12 harg12 arg13 harg13 arg14 harg14 arg15 harg15 (midOf i I) N3 M3 L3 (en.trans (midOf_eq i I).1) (em.trans (midOf_eq i I).2.1) (el.trans (midOf_eq i I).2.2))
    unfold Inv
    iframe H13 H14 H15
    iexists X11
    isplitr
    · ipureintro; exact fun y hy => absurd hy (Nat.not_lt_zero _)
    iexact H11
  unfold Inv
  iintro %_ ⟨H13, H14, H15, %f, %hf, H11⟩
  iapply (le_wp_ret frame (wpE (defs₀ (F := F)) 𝒱 c.tc bd) E PUnit.unit _)
  unfold Post owns
  isplitl [H3]
  · iexists X3
    isplitr; · ipureintro; exact e3
    iexact H3
  isplitl [H4]
  · iexists X4
    isplitr; · ipureintro; exact e4
    iexact H4
  isplitl [H5]
  · iexists X5
    isplitr; · ipureintro; exact e5
    iexact H5
  isplitl [H6]
  · iexists X6
    isplitr; · ipureintro; exact e6
    iexact H6
  isplitl [H7]
  · iexists X7
    isplitr; · ipureintro; exact e7
    iexact H7
  isplitl [H8]
  · iexists X8
    isplitr; · ipureintro; exact e8
    iexact H8
  isplitl [H9]
  · iexists X9
    isplitr; · ipureintro; exact e9
    iexact H9
  isplitl [H10]
  · iexists X10
    isplitr; · ipureintro; exact e10
    iexact H10
  isplitl [H11]
  · iexists f
    isplitr; · ipureintro; exact upto_all arg11 (midOf i I) f hf
    iexact H11
  isplitl [HB]
  · iexists B
    isplitr; · ipureintro; exact eB.trans hb
    iexact HB
  isplitl [H13]
  · iexists _; iexists N3
    isplitr; · ipureintro; rfl
    iexact H13
  isplitl [H14]
  · iexists _; iexists M3
    isplitr; · ipureintro; rfl
    iexact H14
  iexists _; iexists L3
  isplitr; · ipureintro; rfl
  iexact H15

theorem body_run (hb : I.b = biasAll (i 1).val) :
    Pre c i arg3 arg4 arg5 arg6 arg7 arg8 arg9 arg10 arg11 arg12 arg13 arg14 arg15 I
    ⊢ wp frame (wpE (defs₀ (F := F)) 𝒱 c.tc bd) E (cc0_dilated_attn i arg3 harg3 arg4 harg4 arg5 harg5 arg6 harg6 arg7 harg7 arg8 harg8 arg9 harg9 arg10 harg10 arg11 harg11 arg12 harg12 arg13 harg13 arg14 harg14 arg15 harg15) (fun _ => Post c i arg3 arg4 arg5 arg6 arg7 arg8 arg9 arg10 arg11 arg12 arg13 arg14 arg15 I) := by
  rw [body_eq, wp_bind]
  unfold Pre
  iintro ⟨H3, H4, H5, H6, H7, H8, H9, H10, H11, ⟨%B, %hB, HB⟩, H13, H14, H15⟩
  iapply (wp_wand_r frame (wpE (defs₀ (F := F)) 𝒱 c.tc bd) E)
  isplitl [HB]
  · iapply (prologue_run 𝒱 c bd E i arg3 harg3 arg4 harg4 arg5 harg5 arg6 harg6 arg7 harg7 arg8 harg8 arg9 harg9 arg10 harg10 arg11 harg11 arg12 harg12 arg13 harg13 arg14 harg14 arg15 harg15 B hB)
    iexact HB
  iintro %_ ⟨%B', %eB', HB⟩
  iapply (tail_run 𝒱 c bd E i arg3 harg3 arg4 harg4 arg5 harg5 arg6 harg6 arg7 harg7 arg8 harg8 arg9 harg9 arg10 harg10 arg11 harg11 arg12 harg12 arg13 harg13 arg14 harg14 arg15 harg15 I hb)
  iframe H3 H4 H5 H6 H7 H8 H9 H10 H11
  isplitl [HB]
  · unfold owns
    iexists B'
    isplitr; · ipureintro; exact eB'
    iexact HB
  iframe H13 H14
  iexact H15

end Body

end Cert.KernelIdeal.Blk

end
-- ==== Proof.Launch.lean ====
/-
  The launch: the data of the pipeline, the body at every point, the run of the whole program.
-/
module

public import proofs.«01_k».proof.Proof.Body
public import proofs.«01_k».proof.Proof.Gen.KernelIdeal.Frame
public import Idealize.ShloMosaic.Adequacy
public import Idealize.ShloMosaic.Init

@[expose] public section

set_option maxRecDepth 16384

noncomputable section

namespace Cert.KernelIdeal.Blk

open Cert.KernelIdeal Cert.KernelIdeal.Gen
open Cert.KernelIdeal.Facts
open Idealize.ShloMosaic.Pipeline (Dat BodyObligationLoose)
open Idealize.ShloMosaic Idealize.ShloMosaic.TcCoe Idealize.ShloMosaic.Tactic
open Idealize.SL Idealize.SL.RA Idealize.SL.BI
open Idealize.ShloMosaic.ValueIdx
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The point's coordinates: tokens innermost, then heads. -/
theorem coord2 : ∀ t : Fin cfg0.N, (grid0.coords t 2).val = t.val % 4 :=
  (by decide +kernel : ∀ t : Fin grid0.N, (grid0.coords t 2).val = t.val % 4)
theorem coord1 : ∀ t : Fin cfg0.N, (grid0.coords t 1).val = t.val / 4 % 16 :=
  (by decide +kernel : ∀ t : Fin grid0.N, (grid0.coords t 1).val = t.val / 4 % 16)

/-- What the blocks of a point read. -/
def inp (c : Dev nD) (t : Fin cfg0.N) : Inp F where
  q := fun | 0 => iblk m c 0 t | 1 => iblk m c 1 t | 2 => iblk m c 2 t
  k := fun | 0 => iblk m c 3 t | 1 => iblk m c 4 t | 2 => iblk m c 5 t
  va := iblk m c 6 t
  vb := iblk m c 7 t
  b := biasAll (grid0.coords t 1).val

/-- The block of the output a point leaves. -/
def outBlk (c : Dev nD) (t : Fin cfg0.N) : S1x2048x256.Idx → Elt F .bf16 := outAll (midOf (grid0.coords t) (inp m c t))

/-- Between points: the bias table of the head once its first block of tokens has run; the other scratch at anything. -/
def Φc (c : Dev nD) (n : ℕ) : sProp 𝕄 :=
  iprop((∃ f, ⌜n % 4 ≠ 0 → (Memref.whole cc0_scratch0).view.read (Elt F) f = biasAll (n / 4 % 16)⌝
      ∗ ((Memref.whole cc0_scratch0).view.loc c.tc ↦[(Memref.whole cc0_scratch0).view.set]{fullShare} f))
    ∗ (∃ d, owns c.tc (Memref.whole cc0_scratch1) fullShare d)
    ∗ (∃ d, owns c.tc (Memref.whole cc0_scratch2) fullShare d)
    ∗ (∃ d, owns c.tc (Memref.whole cc0_scratch3) fullShare d)
    ∗ ∃ r, prngReg c r)

/-- The data of the pipeline: the arrays as the region finds them, the inputs' buffers left as fetched, the output's at `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk m c t
  Φ t := Φc c t.val
  q := Pipeline.shareOf spec0
  owed _ := 0

abbrev 𝒱₀ : Variants := Variants.none

theorem defs₀_row (t : Fin cfg0.N) : (defs₀ (F := F)) .tc cfg0.body (cfg0.bodyArgs t (cfg0.slots t)) = bodyAt0 t := by
  unfold defs₀; rw [Defs.onTc_tc]

set_option maxHeartbeats 1000000 in
/-- The body's triple at a point. -/
theorem sound_body (c : Dev nD) (t : Fin cfg0.N) :
    (iprop(Φc c t.val ∗ (dats m 0 c).owesAt () t.castSucc
      ∗ (owns c.tc (win0_0.stage (cfg0.slots t 0)) fullShare (iblk m c 0 t) ∗ owns c.tc (win0_1.stage (cfg0.slots t 1)) fullShare (iblk m c 1 t) ∗ owns c.tc (win0_2.stage (cfg0.slots t 2)) fullShare (iblk m c 2 t) ∗ owns c.tc (win0_3.stage (cfg0.slots t 3)) fullShare (iblk m c 3 t) ∗ owns c.tc (win0_4.stage (cfg0.slots t 4)) fullShare (iblk m c 4 t) ∗ owns c.tc (win0_5.stage (cfg0.slots t 5)) fullShare (iblk m c 5 t) ∗ owns c.tc (win0_6.stage (cfg0.slots t 6)) fullShare (iblk m c 6 t) ∗ owns c.tc (win0_7.stage (cfg0.slots t 7)) fullShare (iblk m c 7 t))
      ∗ (∃ d, owns c.tc (win0_8.stage (cfg0.slots t 8)) fullShare d)) : sProp 𝕄)
    ⊢ wp frame (wpE (defs₀ (F := F)) 𝒱₀ c.tc none) Set.univ (bodyAt0 t) (fun _ =>
      iprop(Φc c (t.val + 1) ∗ (dats m 0 c).owesAt () t.castSucc
      ∗ (owns c.tc (win0_0.stage (cfg0.slots t 0)) fullShare (iblk m c 0 t) ∗ owns c.tc (win0_1.stage (cfg0.slots t 1)) fullShare (iblk m c 1 t) ∗ owns c.tc (win0_2.stage (cfg0.slots t 2)) fullShare (iblk m c 2 t) ∗ owns c.tc (win0_3.stage (cfg0.slots t 3)) fullShare (iblk m c 3 t) ∗ owns c.tc (win0_4.stage (cfg0.slots t 4)) fullShare (iblk m c 4 t) ∗ owns c.tc (win0_5.stage (cfg0.slots t 5)) fullShare (iblk m c 5 t) ∗ owns c.tc (win0_6.stage (cfg0.slots t 6)) fullShare (iblk m c 6 t) ∗ owns c.tc (win0_7.stage (cfg0.slots t 7)) fullShare (iblk m c 7 t))
      ∗ owns c.tc (win0_8.stage (cfg0.slots t 8)) fullShare (outBlk m c t))) := by
  have h1 := coord1 t
  have h2 := coord2 t
  unfold Φc
  iintro ⟨⟨⟨%f, %hf, S0⟩, S1, S2, S3, Hg⟩, Ho, ⟨H0, H1, H2, H3, H4, H5, H6, H7⟩, H8⟩
  iapply (wp_wand_r frame (wpE (defs₀ (F := F)) 𝒱₀ c.tc none) Set.univ)
  isplitl [S0 S1 S2 S3 H0 H1 H2 H3 H4 H5 H6 H7 H8]
  · iapply (body_run 𝒱₀ c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (inp m c t) rfl)
    unfold Pre
    iframe H0 H1 H2 H3 H4 H5 H6 H7 H8
    isplitl [S0]
    · iexists f
      isplitr
      · ipureintro; intro h; rw [h2] at h; rw [h1]; exact hf h
      · iexact S0
    isplitl [S1]; · iexact S1
    isplitl [S2]; · iexact S2
    iexact S3
  unfold Post
  iintro %_ ⟨H0, H1, H2, H3, H4, H5, H6, H7, H8, S0, S1, S2, S3⟩
  isplitl [S0 S1 S2 S3 Hg]
  · isplitl [S0]
    · unfold owns
      icases S0 with ⟨%f', %hf', S0⟩
      iexists f'
      isplitr
      · ipureintro
        intro h
        rw [hf', h1, show (t.val + 1) / 4 % 16 = t.val / 4 % 16 from by omega]
      · iexact S0
    isplitl [S1]; · iexact S1
    isplitl [S2]; · iexact S2
    isplitl [S3]; · iexact S3
    iexact Hg
  iframe Ho
  isplitl [H0 H1 H2 H3 H4 H5 H6 H7]
  · isplitl [H0]; · iexact H0
    iframe H1 H2 H3 H4 H5 H6
    iexact H7
  iexact H8

theorem bef0 (c : Dev nD) (t : Fin cfg0.N) (d) : (dats m 0 c).before 0 t d = iblk m c 0 t :=
  before0_0_of m (dats m 0 c) rfl (fun _ => rfl) t d
theorem bef1 (c : Dev nD) (t : Fin cfg0.N) (d) : (dats m 0 c).before 1 t d = iblk m c 1 t :=
  before0_1_of m (dats m 0 c) rfl (fun _ => rfl) t d
theorem bef2 (c : Dev nD) (t : Fin cfg0.N) (d) : (dats m 0 c).before 2 t d = iblk m c 2 t :=
  before0_2_of m (dats m 0 c) rfl (fun _ => rfl) t d
theorem bef3 (c : Dev nD) (t : Fin cfg0.N) (d) : (dats m 0 c).before 3 t d = iblk m c 3 t :=
  before0_3_of m (dats m 0 c) rfl (fun _ => rfl) t d
theorem bef4 (c : Dev nD) (t : Fin cfg0.N) (d) : (dats m 0 c).before 4 t d = iblk m c 4 t :=
  before0_4_of m (dats m 0 c) rfl (fun _ => rfl) t d
theorem bef5 (c : Dev nD) (t : Fin cfg0.N) (d) : (dats m 0 c).before 5 t d = iblk m c 5 t :=
  before0_5_of m (dats m 0 c) rfl (fun _ => rfl) t d
theorem bef6 (c : Dev nD) (t : Fin cfg0.N) (d) : (dats m 0 c).before 6 t d = iblk m c 6 t :=
  before0_6_of m (dats m 0 c) rfl (fun _ => rfl) t d
theorem bef7 (c : Dev nD) (t : Fin cfg0.N) (d) : (dats m 0 c).before 7 t d = iblk m c 7 t :=
  before0_7_of m (dats m 0 c) rfl (fun _ => rfl) t d

/-- The library's obligation of the body. -/
theorem body_obligation (c : Dev nD) : BodyObligationLoose (dats m 0 c) (defs₀ (F := F)) 𝒱₀ () Set.univ := fun t => by
  rw [bigSep_W0, bigSep_W0, defs₀_row]
  refine triple_restated (sound_body m c t) rfl ?_ fun _ => ?_
  · show (iprop(Φc c t.val ∗ (dats m 0 c).owesAt () t.castSucc ∗ (∃ d, owns c.tc (win0_0.stage (cfg0.slots t 0)) fullShare ((dats m 0 c).before 0 t d)) ∗ (∃ d, owns c.tc (win0_1.stage (cfg0.slots t 1)) fullShare ((dats m 0 c).before 1 t d)) ∗ (∃ d, owns c.tc (win0_2.stage (cfg0.slots t 2)) fullShare ((dats m 0 c).before 2 t d)) ∗ (∃ d, owns c.tc (win0_3.stage (cfg0.slots t 3)) fullShare ((dats m 0 c).before 3 t d)) ∗ (∃ d, owns c.tc (win0_4.stage (cfg0.slots t 4)) fullShare ((dats m 0 c).before 4 t d)) ∗ (∃ d, owns c.tc (win0_5.stage (cfg0.slots t 5)) fullShare ((dats m 0 c).before 5 t d)) ∗ (∃ d, owns c.tc (win0_6.stage (cfg0.slots t 6)) fullShare ((dats m 0 c).before 6 t d)) ∗ (∃ d, owns c.tc (win0_7.stage (cfg0.slots t 7)) fullShare ((dats m 0 c).before 7 t d)) ∗ (∃ d, owns c.tc (win0_8.stage (cfg0.slots t 8)) fullShare ((dats m 0 c).before 8 t d))) : sProp 𝕄) ⊢ _
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iframe HP Ho
    isplitl [H0 H1 H2 H3 H4 H5 H6 H7]
    · rw [bef0, bef1, bef2, bef3, bef4, bef5, bef6, bef7]
      iframe H0 H1 H2 H3 H4 H5 H6
      iexact H7
    iexists _; iexact H8
  · show _ ⊢ (iprop(Φc c (t.val + 1) ∗ (dats m 0 c).owesAt () t.castSucc ∗ owns c.tc (win0_0.stage (cfg0.slots t 0)) fullShare (iblk m c 0 t) ∗ owns c.tc (win0_1.stage (cfg0.slots t 1)) fullShare (iblk m c 1 t) ∗ owns c.tc (win0_2.stage (cfg0.slots t 2)) fullShare (iblk m c 2 t) ∗ owns c.tc (win0_3.stage (cfg0.slots t 3)) fullShare (iblk m c 3 t) ∗ owns c.tc (win0_4.stage (cfg0.slots t 4)) fullShare (iblk m c 4 t) ∗ owns c.tc (win0_5.stage (cfg0.slots t 5)) fullShare (iblk m c 5 t) ∗ owns c.tc (win0_6.stage (cfg0.slots t 6)) fullShare (iblk m c 6 t) ∗ owns c.tc (win0_7.stage (cfg0.slots t 7)) fullShare (iblk m c 7 t)
      ∗ owns c.tc (win0_8.stage (cfg0.slots t 8)) fullShare (outBlk m c t)) : sProp 𝕄)
    iintro ⟨HP, Ho, ⟨H0, H1, H2, H3, H4, H5, H6, H7⟩, H8⟩
    iframe HP Ho H0 H1 H2 H3 H4 H5 H6 H7
    iexact H8

theorem Φ_first (c : Dev nD) : (Pipeline.ΦA spec0 c : sProp 𝕄) ⊢ Φc c 0 := by
  unfold Pipeline.ΦA Φc
  rw [scopedRest0_eq]
  simp only [owns_whole, Memref.view_whole, View.set_whole]
  iintro ⟨⟨⟨%f, S0⟩, S1, S2, S3⟩, Hg⟩
  isplitl [S0]
  · iexists f
    isplitr
    · ipureintro; intro h; exact absurd rfl h
    · iexact S0
  isplitl [S1]; · iexact S1
  isplitl [S2]; · iexact S2
  isplitl [S3]; · iexact S3
  iexact Hg

theorem Φ_last (c : Dev nD) (n : ℕ) : (Φc c n : sProp 𝕄) ⊢ Pipeline.ΦA spec0 c := by
  unfold Pipeline.ΦA Φc
  rw [scopedRest0_eq]
  simp only [owns_whole, Memref.view_whole, View.set_whole]
  iintro ⟨⟨%f, %_, S0⟩, S1, S2, S3, Hg⟩
  isplitr [Hg]
  · isplitl [S0]
    · iexists f; iexact S0
    isplitl [S1]; · iexact S1
    isplitl [S2]; · iexact S2
    iexact S3
  iexact Hg

/-- The run of the whole program: every array as the data say, nothing else written, every counter at zero. -/
theorem run : θ_run defs (onTc (τ := τ) (main (F := F))) ⟨m, fun _ => 0, ρ⟩
    (fun r => Pipeline.FramePost cfgs (dats m) 0 (V m) r ∧ r.2.sem = fun _ => 0) :=
  Pipeline.θ_run_frame_track_shared cfgs (dats m) 0 launch₀0 defs₀ 𝒱₀ m ρ main (body_obligation m)
    (fun _ _ _ => rfl) (fun _ _ => rfl) (V m) (hmain m 𝒱₀) (fun _ _ => rfl) (fun c => Φ_first c) (fun c => Φ_last c _)
    _ (fun _ h => h)

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1 c).2 main_arg0 (Pipeline.mem_restRefs_of main_arg0 (by decide) (by decide))).trans (V_main_arg0 m c), h.2⟩)
    (run m ρ)

end Cert.KernelIdeal.Blk

end
-- ==== Proof.SameBody.lean ====
/-
  The dilated attention's two programs are one text where the named constants are read as printed.
-/
module

public import proofs.«01_k».proof.Proof.Gen.Kernel
public import proofs.«01_k».proof.Proof.Gen.KernelIdeal
public import proofs.«01_k».proof.Defs

@[expose] public section

set_option maxRecDepth 65536

noncomputable section

namespace Cert.Proof

open Idealize.ShloMosaic Idealize.ShloMosaic.TcCoe Idealize.SL.Sem

/-- The named constants at their printed bits. -/
abbrev printed : Named Bits := ⟨fun _ _ {φ} b => FloatOps.ofBits φ b⟩

set_option maxHeartbeats 4000000 in
/-- The two body tables are one text. -/
theorem table_eq1 : Cert.Kernel.defs₀ (F := Bits) = (letI := printed; Cert.KernelIdeal.defs₀ (F := Bits)) := by
  unfold Cert.Kernel.defs₀ Cert.KernelIdeal.defs₀
  refine congrArg Defs.onTc (funext fun l => funext fun a => ?_)
  match l, a with
  | ⟨0, _⟩, (t, s) => rfl

theorem defs_eq1 : Cert.Kernel.defs (F := Bits) = (letI := printed; Cert.KernelIdeal.defs (F := Bits)) :=
  congrArg (Pipeline.defs Cert.KernelIdeal.pcfgs) table_eq1

end Cert.Proof

end
-- ==== Proof.Frames.lean ====
/-
  The frames of the three programs and the named constants.
-/
module

public import proofs.«01_k».proof.Defs
public import proofs.«01_k».proof.Proof.Launch
public import proofs.«01_k».proof.Proof.SameBody
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

theorem frame_p : Cert.quiescent_Kernel := fun m ρ _ => by
  letI := printed
  have h := Cert.KernelIdeal.Blk.quiescent (F := Bits) m ρ
  rw [← defs_eq1] at h
  exact h

theorem frame_pi : Cert.quiescent_KernelIdeal := fun m ρ _ => Cert.KernelIdeal.Blk.quiescent m ρ

theorem frame_ri : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

theorem frame_pi_finite [Cert.Pre_finite.Facts] : Cert.quiescent_KernelIdeal_pre_finite := fun m ρ _ => frame_pi m ρ trivial

theorem frame_ri_finite [Cert.Pre_finite.Facts] : Cert.quiescent_ReferenceIdeal_pre_finite := fun m ρ _ => frame_ri m ρ trivial

theorem preserves : Cert.preserves_Kernel_KernelIdeal :=
  ⟨IdealRules.named_const.statement _ _ _ _ _ rfl, IdealRules.named_const.statement _ _ _ _ _ rfl,
    IdealRules.named_const.statement _ _ _ _ _ rfl⟩

end Cert.Proof

end
-- ==== Proof.Math.lean ====
/-
  The mathematics: the dilated attention over the reals, and the readings of the two programs' softmax forms as it.
-/
module

public import Idealize.ShloMosaic.PureOps.Ideal
public import Mathlib.Analysis.SpecialFunctions.Pow.Real

@[expose] public section

noncomputable section

namespace Cert.Dil

open Idealize.ShloMosaic

/-! ## The attention over the reals -/

/-- Each group's dilation. -/
def dl : Fin 3 → ℕ := ![1, 4, 16]

theorem dl_pos : ∀ g, 0 < dl g := by decide

/-- A head's slope. -/
def slope (h : Fin 16) : ℝ := Real.rpow 2 ((1 + (h.val : ℝ)) * (-(1 / 2)))

/-- The distance of two tokens. -/
def apart (t j : Fin 8192) : ℕ := ((j.val : ℤ) - t.val).natAbs

/-- The columns of the queries, keys and values. -/
def qcol (g : Fin 3) (h : Fin 16) (d : Fin 128) : Fin 16384 := ⟨(g.val * 16 + h.val) * 128 + d.val, by omega⟩
def kcol (g : Fin 3) (h : Fin 16) (d : Fin 128) : Fin 16384 := ⟨6144 + ((g.val * 16 + h.val) * 128 + d.val), by omega⟩
def vcol (h : Fin 16) (e : Fin 256) : Fin 16384 := ⟨12288 + (h.val * 256 + e.val), by omega⟩

variable (X : Fin 2 → Fin 8192 → Fin 16384 → ℝ) (b : Fin 2) (h : Fin 16) (t : Fin 8192)

def score (g : Fin 3) (j : Fin 8192) : ℝ :=
  (∑ d : Fin 128, X b t (qcol g h d) / Real.sqrt 128 * X b j (kcol g h d)) - slope h * (apart t j : ℝ)

/-- Whether a query sees a token. -/
def Sees (g : Fin 3) (t j : Fin 8192) : Prop := apart t j ≤ 64 * dl g ∧ apart t j % dl g = 0

instance (g : Fin 3) (t j : Fin 8192) : Decidable (Sees g t j) := inferInstanceAs (Decidable (_ ∧ _))

theorem sees_self (g : Fin 3) : Sees g t t := by
  unfold Sees apart; simp

def wt (g : Fin 3) (j : Fin 8192) : ℝ := if Sees g t j then Real.exp (score X b h t g j) else 0

def num (e : Fin 256) (g : Fin 3) : ℝ := ∑ j, wt X b h t g j * X b j (vcol h e)
def den (g : Fin 3) : ℝ := ∑ j, wt X b h t g j

/-- The attention's result. -/
def att (e : Fin 256) : ℝ :=
  (num X b h t e 0 + num X b h t e 1 + num X b h t e 2) / (den X b h t 0 + den X b h t 1 + den X b h t 2)

theorem den_pos (g : Fin 3) : 0 < den X b h t g := by
  unfold den
  refine Finset.sum_pos' (fun j _ => ?_) ⟨t, Finset.mem_univ _, ?_⟩
  · unfold wt; split
    · exact (Real.exp_pos _).le
    · exact le_rfl
  · unfold wt; rw [if_pos (sees_self t g)]; exact Real.exp_pos _

/-! ## Extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A masked row's maximum is a real. -/
theorem fold_max_real {n : ℕ} (s : Fin n → EReal) (P : Fin n → Prop) [DecidablePred P] (σ : Fin n → ℝ)
    (hs : ∀ j, s j = if P j then ((σ j : ℝ) : EReal) else ⊥) (hP : ∃ j, P j) :
    ∃ μ : ℝ, (Finset.univ.fold max (⊥ : EReal) fun j => s j) = ((μ : ℝ) : EReal) := by
  obtain ⟨j, hj⟩ := hP
  have h1 : (Finset.univ.fold max (⊥ : EReal) fun j => s j) ≠ ⊥ := by
    refine ne_of_gt ?_
    rw [Finset.lt_fold_max]
    exact .inr ⟨j, Finset.mem_univ _, by rw [hs, if_pos hj]; exact EReal.bot_lt_coe _⟩
  have h2 : (Finset.univ.fold max (⊥ : EReal) fun j => s j) ≠ ⊤ := by
    refine ne_of_lt ?_
    rw [Finset.fold_max_lt]
    refine ⟨bot_lt_top, fun j _ => ?_⟩
    rw [hs]; split
    · exact EReal.coe_lt_top _
    · exact bot_lt_top
  exact ⟨_, (EReal.coe_toReal h2 h1).symm⟩

theorem max_coe (x y : ℝ) : max ((x : ℝ) : EReal) ((y : ℝ) : EReal) = ((max x y : ℝ) : EReal) :=
  (Monotone.map_max EReal.coe_strictMono.monotone).symm

/-- The natural exponential of a masked score over a real. -/
theorem exp_masked (P : Prop) [Decidable P] (σ μ : ℝ) :
    Ideal.exp ((if P then ((σ : ℝ) : EReal) else ⊥) - ((μ : ℝ) : EReal))
      = (((if P then Real.exp σ else 0) * Real.exp (-μ) : ℝ) : EReal) := by
  split
  · rw [← EReal.coe_sub, Ideal.exp_coe, ← Real.exp_add, sub_eq_add_neg]
  · rw [EReal.bot_sub, zero_mul]; rfl

/-- The binary exponential of a masked score over a real. -/
theorem exp2_masked (P : Prop) [Decidable P] (σ μ : ℝ) :
    Ideal.exp2 ((if P then ((σ * (Real.log 2)⁻¹ : ℝ) : EReal) else ⊥) - ((μ : ℝ) : EReal))
      = (((if P then Real.exp σ else 0) * Real.rpow 2 (-μ) : ℝ) : EReal) := by
  split
  · rw [← EReal.coe_sub, Ideal.exp2_coe, Real.rpow_eq_pow, Real.rpow_eq_pow, sub_eq_add_neg, Real.rpow_add (by norm_num)]
    congr 2
    rw [Real.rpow_def_of_pos (by norm_num)]
    congr 1
    have : Real.log 2 ≠ 0 := (Real.log_pos (by norm_num)).ne'
    field_simp
  · rw [EReal.bot_sub, zero_mul]; rfl

/-- The mixture: every group's factor and weight together are one positive number. -/
theorem mix (n d a w : Fin 3 → ℝ) (K : ℝ) (hK : 0 < K) (hw : ∀ g, w g * a g = K) (hd : ∀ g, 0 < d g) :
    (w 0 * (n 0 * a 0) + w 1 * (n 1 * a 1) + w 2 * (n 2 * a 2)) / (w 0 * (d 0 * a 0) + w 1 * (d 1 * a 1) + w 2 * (d 2 * a 2))
      = (n 0 + n 1 + n 2) / (d 0 + d 1 + d 2) := by
  have e : ∀ x : Fin 3 → ℝ, w 0 * (x 0 * a 0) + w 1 * (x 1 * a 1) + w 2 * (x 2 * a 2) = K * (x 0 + x 1 + x 2) := fun x => by
    have h0 := hw 0; have h1 := hw 1; have h2 := hw 2
    calc _ = (w 0 * a 0) * x 0 + (w 1 * a 1) * x 1 + (w 2 * a 2) * x 2 := by ring
      _ = _ := by rw [h0, h1, h2]; ring
  rw [e n, e d, mul_div_mul_left _ _ hK.ne']

theorem mix_den_pos (d a w : Fin 3 → ℝ) (K : ℝ) (hK : 0 < K) (hw : ∀ g, w g * a g = K) (hd : ∀ g, 0 < d g) :
    0 < w 0 * (d 0 * a 0) + w 1 * (d 1 * a 1) + w 2 * (d 2 * a 2) := by
  have h0 := hw 0; have h1 := hw 1; have h2 := hw 2
  have : w 0 * (d 0 * a 0) + w 1 * (d 1 * a 1) + w 2 * (d 2 * a 2) = K * (d 0 + d 1 + d 2) := by
    calc _ = (w 0 * a 0) * d 0 + (w 1 * a 1) * d 1 + (w 2 * a 2) * d 2 := by ring
      _ = _ := by rw [h0, h1, h2]; ring
  rw [this]
  exact mul_pos hK (by have := hd 0; have := hd 1; have := hd 2; linarith)

/-- The reference's form of the mixture. -/
theorem mix_exp (n d μ : Fin 3 → ℝ) (M : ℝ) (hd : ∀ g, 0 < d g) (N D : Fin 3 → EReal)
    (hN : ∀ g, N g = ((n g * Real.exp (-μ g) : ℝ) : EReal)) (hD : ∀ g, D g = ((d g * Real.exp (-μ g) : ℝ) : EReal)) :
    Ideal.div (Ideal.exp (((μ 0 : ℝ) : EReal) - ((M : ℝ) : EReal)) * N 0 + Ideal.exp (((μ 1 : ℝ) : EReal) - ((M : ℝ) : EReal)) * N 1
        + Ideal.exp (((μ 2 : ℝ) : EReal) - ((M : ℝ) : EReal)) * N 2)
      (Ideal.exp (((μ 0 : ℝ) : EReal) - ((M : ℝ) : EReal)) * D 0 + Ideal.exp (((μ 1 : ℝ) : EReal) - ((M : ℝ) : EReal)) * D 1
        + Ideal.exp (((μ 2 : ℝ) : EReal) - ((M : ℝ) : EReal)) * D 2)
      = (((n 0 + n 1 + n 2) / (d 0 + d 1 + d 2) : ℝ) : EReal) := by
  have hw : ∀ g, Real.exp (μ g - M) * Real.exp (-μ g) = Real.exp (-M) := fun g => by rw [← Real.exp_add]; congr 1; ring
  have hp := mix_den_pos d (fun g => Real.exp (-μ g)) (fun g => Real.exp (μ g - M)) _ (Real.exp_pos _) hw hd
  simp only [hN, hD, ← EReal.coe_sub, Ideal.exp_coe, ← EReal.coe_mul, ← EReal.coe_add]
  rw [Ideal.div_coe hp.ne', ← EReal.coe_mul, ← mix n d _ _ _ (Real.exp_pos _) hw hd, mul_one_div]

/-- The kernel's form of the mixture. -/
theorem mix_exp2 (n d μ : Fin 3 → ℝ) (M : ℝ) (hd : ∀ g, 0 < d g) (N D : Fin 3 → EReal)
    (hN : ∀ g, N g = ((n g * Real.rpow 2 (-μ g) : ℝ) : EReal)) (hD : ∀ g, D g = ((d g * Real.rpow 2 (-μ g) : ℝ) : EReal)) :
    (Ideal.exp2 (((μ 0 : ℝ) : EReal) - ((M : ℝ) : EReal)) * N 0 + Ideal.exp2 (((μ 1 : ℝ) : EReal) - ((M : ℝ) : EReal)) * N 1
        + Ideal.exp2 (((μ 2 : ℝ) : EReal) - ((M : ℝ) : EReal)) * N 2)
      * Ideal.div 1 (Ideal.exp2 (((μ 0 : ℝ) : EReal) - ((M : ℝ) : EReal)) * D 0
        + Ideal.exp2 (((μ 1 : ℝ) : EReal) - ((M : ℝ) : EReal)) * D 1 + Ideal.exp2 (((μ 2 : ℝ) : EReal) - ((M : ℝ) : EReal)) * D 2)
      = (((n 0 + n 1 + n 2) / (d 0 + d 1 + d 2) : ℝ) : EReal) := by
  have hw : ∀ g, Real.rpow 2 (μ g - M) * Real.rpow 2 (-μ g) = Real.rpow 2 (-M) := fun g => by
    simp only [Real.rpow_eq_pow]
    rw [← Real.rpow_add (by norm_num)]; congr 1; ring
  have hK : 0 < Real.rpow 2 (-M) := Real.rpow_pos_of_pos (by norm_num) _
  have hp := mix_den_pos d (fun g => Real.rpow 2 (-μ g)) (fun g => Real.rpow 2 (μ g - M)) _ hK hw hd
  simp only [hN, hD, ← EReal.coe_sub, Ideal.exp2_coe, ← EReal.coe_mul, ← EReal.coe_add]
  rw [Ideal.div_coe hp.ne', one_mul, ← EReal.coe_mul, ← mix n d _ _ _ hK hw hd, mul_one_div]

/-- The two forms, group by group. -/
theorem mix_exp3 (n0 n1 n2 d0 d1 d2 μ0 μ1 μ2 M : ℝ) (h0 : 0 < d0) (h1 : 0 < d1) (h2 : 0 < d2) :
    Ideal.div (Ideal.exp (((μ0 : ℝ) : EReal) - ((M : ℝ) : EReal)) * ((n0 * Real.exp (-μ0) : ℝ) : EReal)
        + Ideal.exp (((μ1 : ℝ) : EReal) - ((M : ℝ) : EReal)) * ((n1 * Real.exp (-μ1) : ℝ) : EReal)
        + Ideal.exp (((μ2 : ℝ) : EReal) - ((M : ℝ) : EReal)) * ((n2 * Real.exp (-μ2) : ℝ) : EReal))
      (Ideal.exp (((μ0 : ℝ) : EReal) - ((M : ℝ) : EReal)) * ((d0 * Real.exp (-μ0) : ℝ) : EReal)
        + Ideal.exp (((μ1 : ℝ) : EReal) - ((M : ℝ) : EReal)) * ((d1 * Real.exp (-μ1) : ℝ) : EReal)
        + Ideal.exp (((μ2 : ℝ) : EReal) - ((M : ℝ) : EReal)) * ((d2 * Real.exp (-μ2) : ℝ) : EReal))
      = (((n0 + n1 + n2) / (d0 + d1 + d2) : ℝ) : EReal) :=
  mix_exp ![n0, n1, n2] ![d0, d1, d2] ![μ0, μ1, μ2] M (fun g => by fin_cases g; exacts [h0, h1, h2]) _ _ (fun _ => rfl) (fun _ => rfl)

theorem mix_exp23 (n0 n1 n2 d0 d1 d2 μ0 μ1 μ2 M : ℝ) (h0 : 0 < d0) (h1 : 0 < d1) (h2 : 0 < d2) :
    (Ideal.exp2 (((μ0 : ℝ) : EReal) - ((M : ℝ) : EReal)) * ((n0 * Real.rpow 2 (-μ0) : ℝ) : EReal)
        + Ideal.exp2 (((μ1 : ℝ) : EReal) - ((M : ℝ) : EReal)) * ((n1 * Real.rpow 2 (-μ1) : ℝ) : EReal)
        + Ideal.exp2 (((μ2 : ℝ) : EReal) - ((M : ℝ) : EReal)) * ((n2 * Real.rpow 2 (-μ2) : ℝ) : EReal))
      * Ideal.div 1 (Ideal.exp2 (((μ0 : ℝ) : EReal) - ((M : ℝ) : EReal)) * ((d0 * Real.rpow 2 (-μ0) : ℝ) : EReal)
        + Ideal.exp2 (((μ1 : ℝ) : EReal) - ((M : ℝ) : EReal)) * ((d1 * Real.rpow 2 (-μ1) : ℝ) : EReal)
        + Ideal.exp2 (((μ2 : ℝ) : EReal) - ((M : ℝ) : EReal)) * ((d2 * Real.rpow 2 (-μ2) : ℝ) : EReal))
      = (((n0 + n1 + n2) / (d0 + d1 + d2) : ℝ) : EReal) :=
  mix_exp2 ![n0, n1, n2] ![d0, d1, d2] ![μ0, μ1, μ2] M (fun g => by fin_cases g; exacts [h0, h1, h2]) _ _ (fun _ => rfl) (fun _ => rfl)

end Cert.Dil

end
-- ==== Proof.Consts.lean ====
/-
  The float constants the two programs spell, as the reals their words denote.
-/
module

public import Idealize.ShloMosaic.PureOps.Ideal

@[expose] public section

noncomputable section

namespace Cert.Consts

open Idealize.ShloMosaic

theorem c128 : Ideal.ofBits .f32 0x43000000#32 = ((128 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem c1 : Ideal.ofBits .f32 0x3F800000#32 = ((1 : ℝ) : EReal) := by
  simp [Ideal.ofBits, Ideal.ieee, -EReal.coe_mul]; norm_num
theorem cneghalf : Ideal.ofBits .f32 0xBF000000#32 = ((-(1 / 2) : ℝ) : EReal) := by
  simp [Ideal.ofBits, Ideal.ieee, -EReal.coe_mul]; norm_num
theorem cneg1 : Ideal.ofBits .f32 0xBF800000#32 = ((-1 : ℝ) : EReal) := by
  simp [Ideal.ofBits, Ideal.ieee, -EReal.coe_mul]; norm_num
theorem cneg4 : Ideal.ofBits .f32 0xC0800000#32 = ((-4 : ℝ) : EReal) := by
  simp [Ideal.ofBits, Ideal.ieee, -EReal.coe_mul]; norm_num
theorem cneg16 : Ideal.ofBits .f32 0xC1800000#32 = ((-16 : ℝ) : EReal) := by
  simp [Ideal.ofBits, Ideal.ieee, -EReal.coe_mul]; norm_num
theorem c0 : Ideal.ofBits .f32 0x00000000#32 = ((0 : ℝ) : EReal) := by
  simp [Ideal.ofBits, Ideal.ieee, -EReal.coe_mul]
theorem cbot : Ideal.ofBits .f32 0xFF800000#32 = (⊥ : EReal) := by
  simp [Ideal.ofBits, Ideal.ieee]
theorem ctop : Ideal.ofBits .f32 0x7F800000#32 = (⊤ : EReal) := by
  simp [Ideal.ofBits, Ideal.ieee]

end Cert.Consts

end
-- ==== Proof.KerBlk.lean ====
/-
  What a block computes at an index, over the extended reals.
-/
module

public import proofs.«01_k».proof.Proof.Launch
public import proofs.«01_k».proof.Proof.Math
public import proofs.«01_k».proof.Proof.Consts
public import Idealize.ShloMosaic.Lib.Pointwise
public import Idealize.ShloMosaic.Lib.Tactic.CleanTypes
public import Idealize.ShloMosaic.PureOps.IdealRules

@[expose] public section

noncomputable section

namespace Cert.KernelIdeal.Ker

open Cert.KernelIdeal Cert.KernelIdeal.Gen
open Cert.KernelIdeal.Facts
open Idealize.ShloMosaic Idealize.ShloMosaic.TcCoe
open Cert.Dil

/-! ## The scores -/

theorem scale2_eq : (Named.named (F := Ideal) (φ := .f32) κ "scale2" 0x3E0293EE#32 : EReal) = (((Real.sqrt 128)⁻¹ * (Real.log 2)⁻¹ : ℝ) : EReal) :=
  IdealRules.named_const.ideal_named_scalar _ _ _ _ rfl
theorem log2e_eq : (Named.named (F := Ideal) (φ := .f32) κ "log2e" 0x3FB8AA3B#32 : EReal) = (((Real.log 2)⁻¹ : ℝ) : EReal) :=
  IdealRules.named_const.ideal_named_scalar _ _ _ _ rfl
theorem mask_eq : (Named.named (F := Ideal) (φ := .f32) κ "mask" 0xF149F2CA#32 : EReal) = ⊥ :=
  IdealRules.named_const.ideal_named_scalar _ _ _ _ rfl

theorem qv_at (x : Vec Ideal S1x1x128x128 .f32) (u d : Fin 128) :
    Blk.qv x (ix2 u d) = x (ix4 (0 : Fin 1) (0 : Fin 1) u d) * (((Real.sqrt 128)⁻¹ * (Real.log 2)⁻¹ : ℝ) : EReal) := by
  rw [← scale2_eq]
  have := d.isLt
  pointwise [Blk.qv]

theorem kv_at (x : Vec Ideal S1x1x256x128 .f32) (u : Fin 256) (d : Fin 128) :
    Blk.kv x (ix2 u d) = x (ix4 (0 : Fin 1) (0 : Fin 1) u d) := by
  have := d.isLt
  pointwise [Blk.kv]

theorem vv_lo (x y : Vec Ideal S1x1x256x128 .f32) (u : Fin 256) (e : Fin 128) :
    Blk.vv x y (ix2 u (⟨e.val, by omega⟩ : Fin 256)) = x (ix4 (0 : Fin 1) (0 : Fin 1) u e) := by
  have := e.isLt
  pointwise [Blk.vv]

theorem vv_hi (x y : Vec Ideal S1x1x256x128 .f32) (u : Fin 256) (e : Fin 128) :
    Blk.vv x y (ix2 u (⟨128 + e.val, by omega⟩ : Fin 256)) = y (ix4 (0 : Fin 1) (0 : Fin 1) u e) := by
  have := e.isLt
  pointwise [Blk.vv]

theorem svG_at (q : FVec Ideal S128x128 .bf16) (k : FVec Ideal S256x128 .bf16) (b : Vec Ideal S1x128x256 .f32) (u : Fin 128) (w : Fin 256) :
    (addf (matmul dot_S128x128_S256x128_S128x256_1_1_0_0_n_n none q k (constant S128x256 .f32 0x00000000#32))
    (shapeCast S128x256 b shapeCasts_S1x128x256_S128x256) : FVec Ideal S128x256 .f32) (ix2 u w)
      = (∑ d : Fin 128, q (ix2 u d) * k (ix2 w d)) + b (ix3 (0 : Fin 1) u w) := by
  have := w.isLt
  pointwise

theorem mv_at (s : FVec Ideal S128x256 .f32) (u : Fin 128) (z : Fin 1) :
    Blk.mv s (ix2 u z) = Finset.univ.fold max (⊥ : EReal) (fun w : Fin 256 => s (ix2 u w)) := by
  have := z.isLt
  pointwise [Blk.mv]
  rw [Consts.cbot]

theorem pv_at (s : FVec Ideal S128x256 .f32) (u : Fin 128) (w : Fin 256) :
    Blk.pv s (ix2 u w) = Ideal.exp2 (s (ix2 u w) - Blk.mv s (ix2 u (0 : Fin 1))) := by
  pointwise [Blk.pv]
  rfl

theorem lv_at (s : FVec Ideal S128x256 .f32) (u : Fin 128) (z : Fin 1) :
    Blk.lv s (ix2 u z) = ∑ w : Fin 256, Blk.pv s (ix2 u w) := by
  have := z.isLt
  pointwise [Blk.lv]

theorem nvG_at (p : FVec Ideal S128x256 .f32) (v : FVec Ideal S256x256 .bf16) (u : Fin 128) (e : Fin 256) :
    (matmul dot_S128x256_S256x256_S128x256_1_0_0_1_n_n none (truncf .bf16 p bitsLt_bf16_f32) v
    (constant S128x256 .f32 0x00000000#32) : FVec Ideal S128x256 .f32) (ix2 u e) = ∑ w : Fin 256, p (ix2 u w) * v (ix2 w e) := by
  pointwise

theorem n0_at (n : FVec Ideal S128x256 .f32) (a b : Fin 1) (u e : Fin 128) :
    Blk.n0 n (ix4 a b u e) = n (ix2 u (⟨e.val, by omega⟩ : Fin 256)) := by
  have := e.isLt; have := a.isLt; have := b.isLt
  pointwise [Blk.n0]
theorem n1_at (n : FVec Ideal S128x256 .f32) (a b : Fin 1) (u e : Fin 128) :
    Blk.n1 n (ix4 a b u e) = n (ix2 u (⟨128 + e.val, by omega⟩ : Fin 256)) := by
  have := e.isLt; have := a.isLt; have := b.isLt
  pointwise [Blk.n1]
theorem ml_at (x : FVec Ideal S128x1 .f32) (a : Fin 1) (u e : Fin 128) : Blk.ml x (ix3 a u e) = x (ix2 u (0 : Fin 1)) := by
  have := e.isLt; have := a.isLt
  pointwise [Blk.ml]

/-! ## The combine -/

theorem outv_at (m0 m1 m2 l0 l1 l2 : Vec Ideal S1x256x128 .f32) (a b c : Vec Ideal S1x1x256x128 .f32) (z : Fin 1) (y : Fin 256) (e : Fin 128) :
    Blk.outv m0 m1 m2 l0 l1 l2 a b c (ix3 z y e) =
      (Ideal.exp2 (m0 (ix3 (0 : Fin 1) y e) - max (max (m0 (ix3 (0 : Fin 1) y e)) (m1 (ix3 (0 : Fin 1) y e))) (m2 (ix3 (0 : Fin 1) y e))) * a (ix4 (0 : Fin 1) (0 : Fin 1) y e)
        + Ideal.exp2 (m1 (ix3 (0 : Fin 1) y e) - max (max (m0 (ix3 (0 : Fin 1) y e)) (m1 (ix3 (0 : Fin 1) y e))) (m2 (ix3 (0 : Fin 1) y e))) * b (ix4 (0 : Fin 1) (0 : Fin 1) y e)
        + Ideal.exp2 (m2 (ix3 (0 : Fin 1) y e) - max (max (m0 (ix3 (0 : Fin 1) y e)) (m1 (ix3 (0 : Fin 1) y e))) (m2 (ix3 (0 : Fin 1) y e))) * c (ix4 (0 : Fin 1) (0 : Fin 1) y e))
      * Ideal.div 1 (Ideal.exp2 (m0 (ix3 (0 : Fin 1) y e) - max (max (m0 (ix3 (0 : Fin 1) y e)) (m1 (ix3 (0 : Fin 1) y e))) (m2 (ix3 (0 : Fin 1) y e))) * l0 (ix3 (0 : Fin 1) y e)
        + Ideal.exp2 (m1 (ix3 (0 : Fin 1) y e) - max (max (m0 (ix3 (0 : Fin 1) y e)) (m1 (ix3 (0 : Fin 1) y e))) (m2 (ix3 (0 : Fin 1) y e))) * l1 (ix3 (0 : Fin 1) y e)
        + Ideal.exp2 (m2 (ix3 (0 : Fin 1) y e) - max (max (m0 (ix3 (0 : Fin 1) y e)) (m1 (ix3 (0 : Fin 1) y e))) (m2 (ix3 (0 : Fin 1) y e))) * l2 (ix3 (0 : Fin 1) y e)) := by
  have := e.isLt; have := z.isLt; have := y.isLt
  pointwise [Blk.outv, Blk.sum3, Blk.wg, Blk.mx3, Blk.inv3, Blk.cm, Blk.cn]
  rfl

/-! ## The bias -/

theorem bias_at (h : ℕ) (sh nd : BitVec 32) (u : Fin 128) (w : Fin 256) :
    Blk.biasv h sh nd (ix3 (0 : Fin 1) u w) =
      if IntOp.cmpi .sle (IntOp.absi (IntOp.subi (IntOp.addi (BitVec.ofNat 32 w.val) sh) (BitVec.ofNat 32 u.val))) 64#32 = 1#1 then
        FloatOps.sitofp (F := Ideal) .f32 (IntOp.absi (IntOp.subi (IntOp.addi (BitVec.ofNat 32 w.val) sh) (BitVec.ofNat 32 u.val)))
          * ((Ideal.exp2 (Ideal.ofBits .f32 0xBF000000#32 * FloatOps.sitofp (F := Ideal) .f32 (IntOp.addi (BitVec.ofNat 32 h) 1#32)) * (((Real.log 2)⁻¹ : ℝ) : EReal))
            * Ideal.ofBits .f32 nd)
      else ⊥ := by
  rw [← mask_eq, ← log2e_eq]
  have := w.isLt; have := u.isLt
  pointwise [Blk.biasv, Blk.distv, Blk.slopeL]
  rfl

/-- A table's shift. -/
def shift (n : Fin 9) : ℤ := ![-64, 0, -128, -64, 0, -128, -64, 0, -128] n
/-- A table's group. -/
def grp (n : Fin 9) : Fin 3 := ![0, 0, 0, 1, 1, 1, 2, 2, 2] n

theorem sh_eq : ∀ n : Fin 9, Blk.shOf n = BitVec.ofInt 32 (shift n) := by decide
theorem shift_bd : ∀ n : Fin 9, -128 ≤ shift n ∧ shift n ≤ 0 := by decide

theorem nd_eq (n : Fin 9) : Ideal.ofBits .f32 (Blk.ndOf n) = ((-(dl (grp n) : ℝ) : ℝ) : EReal) := by
  have h1 : Ideal.ofBits .f32 0xBF800000#32 = ((-((1 : ℕ) : ℝ) : ℝ) : EReal) := by rw [Consts.cneg1]; norm_num
  have h4 : Ideal.ofBits .f32 0xC0800000#32 = ((-((4 : ℕ) : ℝ) : ℝ) : EReal) := by rw [Consts.cneg4]; norm_num
  have h16 : Ideal.ofBits .f32 0xC1800000#32 = ((-((16 : ℕ) : ℝ) : ℝ) : EReal) := by rw [Consts.cneg16]; norm_num
  fin_cases n
  exacts [h1, h1, h1, h4, h4, h4, h16, h16, h16]

theorem toInt_small (n : ℕ) (hn : n < 2 ^ 31) : (BitVec.ofNat 32 n).toInt = (n : ℤ) := by
  rw [BitVec.toInt_eq_toNat_of_lt (by rw [BitVec.toNat_ofNat]; omega), BitVec.toNat_ofNat]
  omega
theorem sitofp_small (n : ℕ) (hn : n < 2 ^ 31) : FloatOps.sitofp (F := Ideal) .f32 (BitVec.ofNat 32 n) = ((n : ℝ) : EReal) := by
  show (((BitVec.ofNat 32 n).toInt : ℝ) : EReal) = _
  rw [toInt_small n hn]; norm_cast

theorem absi_ofInt (z : ℤ) (h0 : -1024 < z) (h1 : z < 1024) : IntOp.absi (BitVec.ofInt 32 z) = BitVec.ofNat 32 z.natAbs := by
  unfold IntOp.absi
  apply BitVec.eq_of_toNat_eq
  have ht : (BitVec.ofInt 32 z).toNat = (z % 4294967296).toNat := by rw [BitVec.toNat_ofInt]; rfl
  rcases le_or_gt 0 z with h | h
  · have e : (BitVec.ofInt 32 z).msb = false := by rw [BitVec.msb_eq_decide, ht]; simp; omega
    simp only [e, Bool.false_eq_true, if_false]
    rw [ht, BitVec.toNat_ofNat]; omega
  · have e : (BitVec.ofInt 32 z).msb = true := by rw [BitVec.msb_eq_decide, ht]; simp; omega
    simp only [e, if_true]
    rw [BitVec.toNat_neg, ht, BitVec.toNat_ofNat]; omega

theorem dist_word (n : Fin 9) (u : Fin 128) (w : Fin 256) :
    IntOp.absi (IntOp.subi (IntOp.addi (BitVec.ofNat 32 w.val) (Blk.shOf n)) (BitVec.ofNat 32 u.val))
      = BitVec.ofNat 32 ((w.val : ℤ) + shift n - u.val).natAbs := by
  have hw := w.isLt; have hu := u.isLt
  have hs := shift_bd n
  rw [← absi_ofInt _ (by omega) (by omega)]
  congr 1
  rw [sh_eq, IntOp.subi, IntOp.addi, ← BitVec.ofInt_natCast, ← BitVec.ofInt_natCast, ← BitVec.ofInt_add]
  refine BitVec.sub_eq_iff_eq_add.2 ?_
  rw [← BitVec.ofInt_add]
  congr 1; omega

theorem bias_real (h : Fin 16) (n : Fin 9) (u : Fin 128) (w : Fin 256) :
    Blk.biasv (F := Ideal) h.val (Blk.shOf n) (Blk.ndOf n) (ix3 (0 : Fin 1) u w) =
      if ((w.val : ℤ) + shift n - u.val).natAbs ≤ 64 then
        ((-(slope h * (((dl (grp n) * ((w.val : ℤ) + shift n - u.val).natAbs : ℕ)) : ℝ)) * (Real.log 2)⁻¹ : ℝ) : EReal) else ⊥ := by
  have hw := w.isLt; have hu := u.isLt; have hh := h.isLt
  have hs := shift_bd n
  rw [bias_at, dist_word, nd_eq, sitofp_small _ (by omega), Consts.cneghalf]
  have e1 : IntOp.addi (BitVec.ofNat 32 h.val) 1#32 = BitVec.ofNat 32 (1 + h.val) := by
    rw [IntOp.addi, BitVec.add_comm, BitVec.ofNat_add]
  rw [e1, sitofp_small _ (by omega), ← EReal.coe_mul, Ideal.exp2_coe, ← EReal.coe_mul, ← EReal.coe_mul, ← EReal.coe_mul]
  have e2 : IntOp.cmpi .sle (BitVec.ofNat 32 ((w.val : ℤ) + shift n - u.val).natAbs) 64#32 = 1#1 ↔ ((w.val : ℤ) + shift n - u.val).natAbs ≤ 64 := by
    rw [IntOp.cmpi_sle, toInt_small _ (by omega), show (64#32 : BitVec 32).toInt = (64 : ℤ) from by decide]; omega
  refine if_congr e2 (congrArg (fun x : ℝ => (x : EReal)) ?_) rfl
  unfold Cert.Dil.slope
  rw [mul_comm (-(1 / 2) : ℝ)]
  push_cast
  ring

end Cert.KernelIdeal.Ker

end
-- ==== Proof.KerIdx.lean ====
/-
  Where a block's windows lie: the offsets of the queries, keys, values and bias, as numbers.
-/
module

public import proofs.«01_k».proof.Proof.KerBlk

@[expose] public section

set_option maxRecDepth 16384

noncomputable section

namespace Cert.KernelIdeal.Ker

open Cert.KernelIdeal Cert.KernelIdeal.Gen
open Cert.KernelIdeal.Facts
open Idealize.ShloMosaic Idealize.ShloMosaic.TcCoe
open Cert.Dil

/-- The first token of the staged keys. -/
def kb (n : ℕ) : ℕ := 1024 * min 4 (2 * n - 1)

theorem tr0 : ∀ t : Fin grid0.N, cc0_transform_0 (grid0.coords t) = ![t.val / 4 % 16, t.val / 64, 2048 * (t.val % 4), 0] := by decide +kernel
theorem tr1 : ∀ t : Fin grid0.N, cc0_transform_1 (grid0.coords t) = ![16 + t.val / 4 % 16, t.val / 64, 2048 * (t.val % 4), 0] := by decide +kernel
theorem tr2 : ∀ t : Fin grid0.N, cc0_transform_2 (grid0.coords t) = ![32 + t.val / 4 % 16, t.val / 64, 2048 * (t.val % 4), 0] := by decide +kernel
theorem tr3 : ∀ t : Fin grid0.N, cc0_transform_3 (grid0.coords t) = ![48 + t.val / 4 % 16, t.val / 64, kb (t.val % 4), 0] := by decide +kernel
theorem tr4 : ∀ t : Fin grid0.N, cc0_transform_4 (grid0.coords t) = ![64 + t.val / 4 % 16, t.val / 64, kb (t.val % 4), 0] := by decide +kernel
theorem tr5 : ∀ t : Fin grid0.N, cc0_transform_5 (grid0.coords t) = ![80 + t.val / 4 % 16, t.val / 64, kb (t.val % 4), 0] := by decide +kernel
theorem tr6 : ∀ t : Fin grid0.N, cc0_transform_6 (grid0.coords t) = ![96 + 2 * (t.val / 4 % 16), t.val / 64, kb (t.val % 4), 0] := by decide +kernel
theorem tr7 : ∀ t : Fin grid0.N, cc0_transform_7 (grid0.coords t) = ![97 + 2 * (t.val / 4 % 16), t.val / 64, kb (t.val % 4), 0] := by decide +kernel
theorem tr8 : ∀ t : Fin grid0.N, cc0_transform_8 (grid0.coords t) = ![t.val / 64, t.val % 4, t.val / 4 % 16] := by decide +kernel

/-- What a block's offsets are: the table, the place of the window's first token from the block's first query's,
    the window inside the sequence and clipped at its ends alone. -/
def Placed (i : grid0.Coords) (g : Fin 3) (j : Fin 16) (n : Fin 9) : Prop :=
  (Blk.koff i g j 0 = 0 ∧ Blk.koff i g j 1 = 0 ∧ Blk.koff i g j 3 = 0)
  ∧ (Blk.boff i g j 0 = n.val ∧ Blk.boff i g j 1 = 0 ∧ Blk.boff i g j 2 = 0) ∧ grp n = g
  ∧ ((kb (i 2).val + Blk.koff i g j 2 : ℕ) : ℤ) = (2048 * (i 2).val + Blk.row0 g j : ℕ) + (dl g : ℤ) * shift n
  ∧ kb (i 2).val + Blk.koff i g j 2 + dl g * 255 < 8192
  ∧ (shift n = -64 ∨ (shift n = 0 ∧ kb (i 2).val + Blk.koff i g j 2 < dl g)
      ∨ (shift n = -128 ∧ 8192 ≤ kb (i 2).val + Blk.koff i g j 2 + dl g * 256))

instance (i : grid0.Coords) (g : Fin 3) (j : Fin 16) (n : Fin 9) : Decidable (Placed i g j n) := by unfold Placed; infer_instance

theorem placed4 : ∀ (a : Fin 4) (g : Fin 3) (j : Fin 16), ∃ n, Placed (grid0.coords ⟨a.val, by have := a.isLt; show a.val < 128; omega⟩) g j n := by
  decide +kernel

theorem koff_congr (i i' : grid0.Coords) (h : i 2 = i' 2) (g : Fin 3) (j : Fin 16) : Blk.koff i g j = Blk.koff i' g j := by
  fin_cases g
  · show k0_off1 i _ = k0_off1 i' _
    unfold k0_off1; rw [h]
  · show k0_off3 i _ _ = k0_off3 i' _ _
    unfold k0_off3; rw [h]
  · show k0_off4 i _ = k0_off4 i' _
    unfold k0_off4; rw [h]

theorem boff_congr (i i' : grid0.Coords) (h : i 2 = i' 2) (g : Fin 3) (j : Fin 16) : Blk.boff i g j = Blk.boff i' g j := by
  fin_cases g
  · show k0_off2 i _ _ _ _ = k0_off2 i' _ _ _ _
    unfold k0_off2; rw [h]
  · show k0_off2 i _ _ _ _ = k0_off2 i' _ _ _ _
    unfold k0_off2; rw [h]
  · show k0_off2 i _ _ _ _ = k0_off2 i' _ _ _ _
    unfold k0_off2; rw [h]

theorem placed_congr (i i' : grid0.Coords) (h : i 2 = i' 2) (g : Fin 3) (j : Fin 16) (n : Fin 9) (hn : Placed i' g j n) : Placed i g j n := by
  unfold Placed at hn ⊢
  rw [koff_congr i i' h, boff_congr i i' h, h]
  exact hn

theorem placed (i : grid0.Coords) (g : Fin 3) (j : Fin 16) : ∃ n, Placed i g j n := by
  have hb : (i 2).val < 4 := (i 2).isLt
  obtain ⟨n, hn⟩ := placed4 ⟨(i 2).val, hb⟩ g j
  refine ⟨n, placed_congr i _ ?_ g j n hn⟩
  refine Fin.ext (.symm ((Blk.coord2 ⟨(i 2).val, by show (i 2).val < 128; omega⟩).trans ?_))
  show (i 2).val % 4 = (i 2).val
  omega

end Cert.KernelIdeal.Ker

end
-- ==== Proof.KerRow.lean ====
/-
  One query's row of a block, as the attention's sums over all tokens.
-/
module

public import proofs.«01_k».proof.Proof.KerBlk

@[expose] public section

noncomputable section

namespace Cert.KernelIdeal.Ker

open Cert.KernelIdeal Cert.KernelIdeal.Gen
open Cert.KernelIdeal.Facts
open Idealize.ShloMosaic Idealize.ShloMosaic.TcCoe
open Cert.Dil

theorem vv_at (x y : Vec Ideal S1x1x256x128 .f32) (v : Fin 256 → Fin 256 → ℝ)
    (hx : ∀ w (e : Fin 128), x (ix4 (0 : Fin 1) (0 : Fin 1) w e) = ((v w (⟨e.val, by omega⟩ : Fin 256) : ℝ) : EReal))
    (hy : ∀ w (e : Fin 128), y (ix4 (0 : Fin 1) (0 : Fin 1) w e) = ((v w (⟨128 + e.val, by omega⟩ : Fin 256) : ℝ) : EReal))
    (w e : Fin 256) : Blk.vv x y (ix2 w e) = ((v w e : ℝ) : EReal) := by
  have he := e.isLt
  by_cases h : e.val < 128
  · exact (vv_lo x y w ⟨e.val, h⟩).trans (hx w ⟨e.val, h⟩)
  · have e1 : e = (⟨128 + (⟨e.val - 128, by omega⟩ : Fin 128).val, by show 128 + (e.val - 128) < 256; omega⟩ : Fin 256) :=
      Fin.ext (by show e.val = 128 + (e.val - 128); omega)
    rw [e1]
    exact (vv_hi x y w ⟨e.val - 128, by omega⟩).trans (hy w ⟨e.val - 128, by omega⟩)

theorem nv_at (s : FVec Ideal S128x256 .f32) (x y : Vec Ideal S1x1x256x128 .f32) (u : Fin 128) (e : Fin 256) :
    Blk.nv s x y (ix2 u e) = ∑ w : Fin 256, Blk.pv s (ix2 u w) * Blk.vv x y (ix2 w e) := by
  unfold Blk.nv; exact nvG_at _ _ u e

theorem sv_at (q : Vec Ideal S1x1x128x128 .f32) (k : Vec Ideal S1x1x256x128 .f32) (b : Vec Ideal S1x128x256 .f32) (u : Fin 128) (w : Fin 256) :
    Blk.sv q k b (ix2 u w) = (∑ d : Fin 128, Blk.qv q (ix2 u d) * Blk.kv k (ix2 w d)) + b (ix3 (0 : Fin 1) u w) := by
  unfold Blk.sv; exact svG_at _ _ _ u w

theorem row (s : FVec Ideal S128x256 .f32) (x y : Vec Ideal S1x1x256x128 .f32) (u : Fin 128)
    (P : Fin 256 → Prop) [DecidablePred P] (σ : Fin 256 → ℝ) (v : Fin 256 → Fin 256 → ℝ)
    (hs : ∀ w, s (ix2 u w) = if P w then ((σ w * (Real.log 2)⁻¹ : ℝ) : EReal) else ⊥) (hP : ∃ w, P w)
    (hx : ∀ w (e : Fin 128), x (ix4 (0 : Fin 1) (0 : Fin 1) w e) = ((v w (⟨e.val, by omega⟩ : Fin 256) : ℝ) : EReal))
    (hy : ∀ w (e : Fin 128), y (ix4 (0 : Fin 1) (0 : Fin 1) w e) = ((v w (⟨128 + e.val, by omega⟩ : Fin 256) : ℝ) : EReal)) :
    ∃ μ : ℝ, Blk.mv s (ix2 u (0 : Fin 1)) = ((μ : ℝ) : EReal)
      ∧ Blk.lv s (ix2 u (0 : Fin 1)) = (((∑ w, if P w then Real.exp (σ w) else 0) * Real.rpow 2 (-μ) : ℝ) : EReal)
      ∧ ∀ e, Blk.nv s x y (ix2 u e) = (((∑ w, (if P w then Real.exp (σ w) else 0) * v w e) * Real.rpow 2 (-μ) : ℝ) : EReal) := by
  obtain ⟨μ, hμ⟩ := fold_max_real (fun w => s (ix2 u w)) P (fun w => σ w * (Real.log 2)⁻¹) hs hP
  have hm : Blk.mv s (ix2 u (0 : Fin 1)) = ((μ : ℝ) : EReal) := (mv_at s u 0).trans hμ
  have hp : ∀ w, Blk.pv s (ix2 u w) = (((if P w then Real.exp (σ w) else 0) * Real.rpow 2 (-μ) : ℝ) : EReal) := fun w => by
    rw [pv_at, hm, hs]; exact exp2_masked _ _ _
  refine ⟨μ, hm, ?_, fun e => ?_⟩
  · rw [lv_at]
    simp only [hp]
    rw [coe_sum, ← Finset.sum_mul]
  · rw [nv_at]
    simp only [hp, vv_at x y v hx hy, ← EReal.coe_mul]
    rw [coe_sum, Finset.sum_mul]
    refine congrArg (fun x : ℝ => (x : EReal)) (Finset.sum_congr rfl fun w _ => by ring)

/-- A sum over the window's tokens is the sum over every token, where the others add nothing. -/
theorem win_sum (f : Fin 8192 → ℝ) (tok : Fin 256 → Fin 8192) (hinj : Function.Injective tok)
    (hout : ∀ j, (∀ w, tok w ≠ j) → f j = 0) : ∑ w, f (tok w) = ∑ j, f j :=
  Fintype.sum_of_injective tok hinj _ _ (fun j hj => hout j fun w hw => hj ⟨w, hw⟩) (fun _ => rfl)

theorem group (X : Fin 2 → Fin 8192 → Fin 16384 → ℝ) (b : Fin 2) (h : Fin 16) (t : Fin 8192) (g : Fin 3)
    (s : FVec Ideal S128x256 .f32) (x y : Vec Ideal S1x1x256x128 .f32) (u : Fin 128)
    (tok : Fin 256 → Fin 8192) (hinj : Function.Injective tok) (hcov : ∀ j, Sees g t j → ∃ w, tok w = j)
    (hs : ∀ w, s (ix2 u w) = if Sees g t (tok w) then ((score X b h t g (tok w) * (Real.log 2)⁻¹ : ℝ) : EReal) else ⊥)
    (hx : ∀ w (e : Fin 128), x (ix4 (0 : Fin 1) (0 : Fin 1) w e) = ((X b (tok w) (vcol h (⟨e.val, by omega⟩ : Fin 256)) : ℝ) : EReal))
    (hy : ∀ w (e : Fin 128), y (ix4 (0 : Fin 1) (0 : Fin 1) w e) = ((X b (tok w) (vcol h (⟨128 + e.val, by omega⟩ : Fin 256)) : ℝ) : EReal)) :
    ∃ μ : ℝ, Blk.mv s (ix2 u (0 : Fin 1)) = ((μ : ℝ) : EReal)
      ∧ Blk.lv s (ix2 u (0 : Fin 1)) = ((den X b h t g * Real.rpow 2 (-μ) : ℝ) : EReal)
      ∧ ∀ e, Blk.nv s x y (ix2 u e) = ((num X b h t e g * Real.rpow 2 (-μ) : ℝ) : EReal) := by
  obtain ⟨w0, hw0⟩ := hcov t (sees_self t g)
  obtain ⟨μ, hm, hl, hn⟩ := row s x y u (fun w => Sees g t (tok w)) (fun w => score X b h t g (tok w))
    (fun w e => X b (tok w) (vcol h e)) hs ⟨w0, by rw [hw0]; exact sees_self t g⟩ hx hy
  have hz : ∀ j, (∀ w, tok w ≠ j) → wt X b h t g j = 0 := fun j hj => by
    unfold wt
    refine if_neg fun hS => ?_
    obtain ⟨w, hw⟩ := hcov j hS
    exact hj w hw
  have hd : (∑ w, if Sees g t (tok w) then Real.exp (score X b h t g (tok w)) else 0) = den X b h t g :=
    win_sum (wt X b h t g) tok hinj hz
  have hv : ∀ e, (∑ w, (if Sees g t (tok w) then Real.exp (score X b h t g (tok w)) else 0) * X b (tok w) (vcol h e)) = num X b h t e g :=
    fun e => win_sum (fun j => wt X b h t g j * X b j (vcol h e)) tok hinj fun j hj => by rw [hz j hj, zero_mul]
  refine ⟨μ, hm, hl.trans ?_, fun e => (hn e).trans ?_⟩
  · rw [hd]
  · rw [hv]

theorem sees_iff (g : Fin 3) (t j : Fin 8192) (D : ℕ) (hD : apart t j = dl g * D) : Sees g t j ↔ D ≤ 64 := by
  unfold Sees
  rw [hD, Nat.mul_mod_right, mul_comm 64]
  exact ⟨fun h => Nat.le_of_mul_le_mul_left h.1 (dl_pos g), fun h => ⟨Nat.mul_le_mul_left _ h, rfl⟩⟩

theorem score_at (X : Fin 2 → Fin 8192 → Fin 16384 → ℝ) (b : Fin 2) (h : Fin 16) (t : Fin 8192) (g : Fin 3)
    (q : Vec Ideal S1x1x128x128 .f32) (k : Vec Ideal S1x1x256x128 .f32) (bi : Vec Ideal S1x128x256 .f32) (u : Fin 128) (w : Fin 256)
    (j : Fin 8192) (D : ℕ) (hD : apart t j = dl g * D)
    (hq : ∀ d, q (ix4 (0 : Fin 1) (0 : Fin 1) u d) = ((X b t (qcol g h d) : ℝ) : EReal))
    (hk : ∀ d, k (ix4 (0 : Fin 1) (0 : Fin 1) w d) = ((X b j (kcol g h d) : ℝ) : EReal))
    (hb : bi (ix3 (0 : Fin 1) u w) = if D ≤ 64 then ((-(Cert.Dil.slope h * ((dl g * D : ℕ) : ℝ)) * (Real.log 2)⁻¹ : ℝ) : EReal) else ⊥) :
    Blk.sv q k bi (ix2 u w) = if Sees g t j then ((score X b h t g j * (Real.log 2)⁻¹ : ℝ) : EReal) else ⊥ := by
  rw [sv_at]
  simp only [qv_at, kv_at, hq, hk, ← EReal.coe_mul]
  rw [coe_sum, hb]
  by_cases hS : D ≤ 64
  · rw [if_pos hS, if_pos ((sees_iff g t j D hD).2 hS), ← EReal.coe_add]
    refine congrArg (fun x : ℝ => (x : EReal)) ?_
    unfold score
    rw [hD, sub_mul, Finset.sum_mul, neg_mul, ← sub_eq_add_neg]
    refine congrArg (· - _) (Finset.sum_congr rfl fun d _ => ?_)
    rw [div_eq_mul_inv]; ring
  · rw [if_neg hS, if_neg fun h => hS ((sees_iff g t j D hD).1 h), EReal.add_bot]

end Cert.KernelIdeal.Ker

end
-- ==== Proof.KerWin.lean ====
/-
  What a grid point's windows hold of the argument.
-/
module

public import proofs.«01_k».proof.Proof.KerIdx
public import proofs.«01_k».proof.Proof.KerRow
public import Idealize.ShloMosaic.Lib.Pipeline.ValueKit.Geometry

@[expose] public section

set_option maxRecDepth 16384

noncomputable section

namespace Cert.KernelIdeal.Ker

open Cert.KernelIdeal Cert.KernelIdeal.Gen
open Cert.KernelIdeal.Facts
open Idealize.ShloMosaic Idealize.ShloMosaic.TcCoe
open Cert.Dil

variable (m : (ℓ : Loc nD τ sig) → Buf (Elt Ideal) ℓ) (c : Dev nD)

/-- The argument, heads first. -/
def heads (A : FVec Ideal S2x8192x16384 .f32) : FVec Ideal S128x2x8192x128 .f32 :=
  shapeCast _ (transpose S128x16384x128 [1, 0, 2] (shapeCast S16384x128x128 A shapeCasts_S2x8192x16384_S16384x128x128)
    transposes_S16384x128x128_S128x16384x128_1_0_2) shapeCasts_S128x16384x128_S128x2x8192x128

theorem heads_at (A : FVec Ideal S2x8192x16384 .f32) (hd : Fin 128) (b : Fin 2) (t : Fin 8192) (d : Fin 128) :
    heads A (ix4 hd b t d) = A (ix3 b t (⟨hd.val * 128 + d.val, by omega⟩ : Fin 16384)) := by
  have := hd.isLt; have := b.isLt; have := t.isLt; have := d.isLt
  pointwise [heads]

theorem V_eq : V m c main_v2 = heads (m ((c.tc : Thread nD τ).loc main_arg0)) := by
  show StableHlo.after hostOps0 (fun b => m (c, b)) (main_v2 : DevRef τ sig) = _
  after_results_simp
  rfl

/-- The point's batch, head and block of tokens. -/
def pb (t : Fin cfg0.N) : Fin 2 := ⟨t.val / 64, by have : t.val < 128 := t.isLt; omega⟩
def ph (t : Fin cfg0.N) : Fin 16 := ⟨t.val / 4 % 16, by omega⟩
def pk (t : Fin cfg0.N) : Fin 4 := ⟨t.val % 4, by omega⟩

theorem kb_le (t : Fin cfg0.N) : kb (t.val % 4) ≤ 4096 := by unfold kb; omega

theorem iblk0_at (t : Fin cfg0.N) (z y : Fin 1) (r : Fin 2048) (d : Fin 128) :
    (iblk m c 0 t : Vec Ideal S1x1x2048x128 .f32) (ix4 z y r d)
      = m ((c.tc : Thread nD τ).loc main_arg0) (ix3 (pb t) (⟨2048 * (t.val % 4) + r.val, by have := r.isLt; have := kb_le t; omega⟩ : Fin 8192)
          (⟨(t.val / 4 % 16) * 128 + d.val, by omega⟩ : Fin 16384)) := by
  have hz : z.val = 0 := by omega
  have hy : y.val = 0 := by omega
  show V m c main_v2 ((win0_0.blk t).view.emb (ix4 z y r d)) = _
  have hv : ∀ a, ((win0_0.blk t).view.emb (ix4 z y r d) a).val = cc0_transform_0 (grid0.coords t) a + (ix4 z y r d a).val :=
    fun a => ValueKit.rect_emb_unit_val (s := S128x2x8192x128) (cc0_transform_0 (grid0.coords t)) S1x1x2048x128.size (hinbE0_0 (grid0.coords t)) (ix4 z y r d) a
  have e : (win0_0.blk t).view.emb (ix4 z y r d) = ix4 (⟨t.val / 4 % 16, by omega⟩ : Fin 128) (pb t)
      (⟨2048 * (t.val % 4) + r.val, by have := r.isLt; have := kb_le t; omega⟩ : Fin 8192) d := by
    funext a
    refine Fin.ext ((hv a).trans ?_)
    rw [tr0 t]
    fin_cases a
    · show t.val / 4 % 16 + z.val = t.val / 4 % 16; omega
    · show t.val / 64 + y.val = t.val / 64; omega
    · rfl
    · show 0 + d.val = d.val; omega
  rw [e, V_eq]
  exact heads_at _ _ _ _ _

theorem iblk1_at (t : Fin cfg0.N) (z y : Fin 1) (r : Fin 2048) (d : Fin 128) :
    (iblk m c 1 t : Vec Ideal S1x1x2048x128 .f32) (ix4 z y r d)
      = m ((c.tc : Thread nD τ).loc main_arg0) (ix3 (pb t) (⟨2048 * (t.val % 4) + r.val, by have := r.isLt; have := kb_le t; omega⟩ : Fin 8192)
          (⟨(16 + t.val / 4 % 16) * 128 + d.val, by omega⟩ : Fin 16384)) := by
  have hz : z.val = 0 := by omega
  have hy : y.val = 0 := by omega
  show V m c main_v2 ((win0_1.blk t).view.emb (ix4 z y r d)) = _
  have hv : ∀ a, ((win0_1.blk t).view.emb (ix4 z y r d) a).val = cc0_transform_1 (grid0.coords t) a + (ix4 z y r d a).val :=
    fun a => ValueKit.rect_emb_unit_val (s := S128x2x8192x128) (cc0_transform_1 (grid0.coords t)) S1x1x2048x128.size (hinbE0_1 (grid0.coords t)) (ix4 z y r d) a
  have e : (win0_1.blk t).view.emb (ix4 z y r d) = ix4 (⟨16 + t.val / 4 % 16, by omega⟩ : Fin 128) (pb t)
      (⟨2048 * (t.val % 4) + r.val, by have := r.isLt; have := kb_le t; omega⟩ : Fin 8192) d := by
    funext a
    refine Fin.ext ((hv a).trans ?_)
    rw [tr1 t]
    fin_cases a
    · show 16 + t.val / 4 % 16 + z.val = 16 + t.val / 4 % 16; omega
    · show t.val / 64 + y.val = t.val / 64; omega
    · rfl
    · show 0 + d.val = d.val; omega
  rw [e, V_eq]
  exact heads_at _ _ _ _ _

theorem iblk2_at (t : Fin cfg0.N) (z y : Fin 1) (r : Fin 2048) (d : Fin 128) :
    (iblk m c 2 t : Vec Ideal S1x1x2048x128 .f32) (ix4 z y r d)
      = m ((c.tc : Thread nD τ).loc main_arg0) (ix3 (pb t) (⟨2048 * (t.val % 4) + r.val, by have := r.isLt; have := kb_le t; omega⟩ : Fin 8192)
          (⟨(32 + t.val / 4 % 16) * 128 + d.val, by omega⟩ : Fin 16384)) := by
  have hz : z.val = 0 := by omega
  have hy : y.val = 0 := by omega
  show V m c main_v2 ((win0_2.blk t).view.emb (ix4 z y r d)) = _
  have hv : ∀ a, ((win0_2.blk t).view.emb (ix4 z y r d) a).val = cc0_transform_2 (grid0.coords t) a + (ix4 z y r d a).val :=
    fun a => ValueKit.rect_emb_unit_val (s := S128x2x8192x128) (cc0_transform_2 (grid0.coords t)) S1x1x2048x128.size (hinbE0_2 (grid0.coords t)) (ix4 z y r d) a
  have e : (win0_2.blk t).view.emb (ix4 z y r d) = ix4 (⟨32 + t.val / 4 % 16, by omega⟩ : Fin 128) (pb t)
      (⟨2048 * (t.val % 4) + r.val, by have := r.isLt; have := kb_le t; omega⟩ : Fin 8192) d := by
    funext a
    refine Fin.ext ((hv a).trans ?_)
    rw [tr2 t]
    fin_cases a
    · show 32 + t.val / 4 % 16 + z.val = 32 + t.val / 4 % 16; omega
    · show t.val / 64 + y.val = t.val / 64; omega
    · rfl
    · show 0 + d.val = d.val; omega
  rw [e, V_eq]
  exact heads_at _ _ _ _ _

theorem iblk3_at (t : Fin cfg0.N) (z y : Fin 1) (r : Fin 4096) (d : Fin 128) :
    (iblk m c 3 t : Vec Ideal S1x1x4096x128 .f32) (ix4 z y r d)
      = m ((c.tc : Thread nD τ).loc main_arg0) (ix3 (pb t) (⟨kb (t.val % 4) + r.val, by have := r.isLt; have := kb_le t; omega⟩ : Fin 8192)
          (⟨(48 + t.val / 4 % 16) * 128 + d.val, by omega⟩ : Fin 16384)) := by
  have hz : z.val = 0 := by omega
  have hy : y.val = 0 := by omega
  show V m c main_v2 ((win0_3.blk t).view.emb (ix4 z y r d)) = _
  have hv : ∀ a, ((win0_3.blk t).view.emb (ix4 z y r d) a).val = cc0_transform_3 (grid0.coords t) a + (ix4 z y r d a).val :=
    fun a => ValueKit.rect_emb_unit_val (s := S128x2x8192x128) (cc0_transform_3 (grid0.coords t)) S1x1x4096x128.size (hinbE0_3 (grid0.coords t)) (ix4 z y r d) a
  have e : (win0_3.blk t).view.emb (ix4 z y r d) = ix4 (⟨48 + t.val / 4 % 16, by omega⟩ : Fin 128) (pb t)
      (⟨kb (t.val % 4) + r.val, by have := r.isLt; have := kb_le t; omega⟩ : Fin 8192) d := by
    funext a
    refine Fin.ext ((hv a).trans ?_)
    rw [tr3 t]
    fin_cases a
    · show 48 + t.val / 4 % 16 + z.val = 48 + t.val / 4 % 16; omega
    · show t.val / 64 + y.val = t.val / 64; omega
    · rfl
    · show 0 + d.val = d.val; omega
  rw [e, V_eq]
  exact heads_at _ _ _ _ _

theorem iblk4_at (t : Fin cfg0.N) (z y : Fin 1) (r : Fin 4096) (d : Fin 128) :
    (iblk m c 4 t : Vec Ideal S1x1x4096x128 .f32) (ix4 z y r d)
      = m ((c.tc : Thread nD τ).loc main_arg0) (ix3 (pb t) (⟨kb (t.val % 4) + r.val, by have := r.isLt; have := kb_le t; omega⟩ : Fin 8192)
          (⟨(64 + t.val / 4 % 16) * 128 + d.val, by omega⟩ : Fin 16384)) := by
  have hz : z.val = 0 := by omega
  have hy : y.val = 0 := by omega
  show V m c main_v2 ((win0_4.blk t).view.emb (ix4 z y r d)) = _
  have hv : ∀ a, ((win0_4.blk t).view.emb (ix4 z y r d) a).val = cc0_transform_4 (grid0.coords t) a + (ix4 z y r d a).val :=
    fun a => ValueKit.rect_emb_unit_val (s := S128x2x8192x128) (cc0_transform_4 (grid0.coords t)) S1x1x4096x128.size (hinbE0_4 (grid0.coords t)) (ix4 z y r d) a
  have e : (win0_4.blk t).view.emb (ix4 z y r d) = ix4 (⟨64 + t.val / 4 % 16, by omega⟩ : Fin 128) (pb t)
      (⟨kb (t.val % 4) + r.val, by have := r.isLt; have := kb_le t; omega⟩ : Fin 8192) d := by
    funext a
    refine Fin.ext ((hv a).trans ?_)
    rw [tr4 t]
    fin_cases a
    · show 64 + t.val / 4 % 16 + z.val = 64 + t.val / 4 % 16; omega
    · show t.val / 64 + y.val = t.val / 64; omega
    · rfl
    · show 0 + d.val = d.val; omega
  rw [e, V_eq]
  exact heads_at _ _ _ _ _

theorem iblk5_at (t : Fin cfg0.N) (z y : Fin 1) (r : Fin 4096) (d : Fin 128) :
    (iblk m c 5 t : Vec Ideal S1x1x4096x128 .f32) (ix4 z y r d)
      = m ((c.tc : Thread nD τ).loc main_arg0) (ix3 (pb t) (⟨kb (t.val % 4) + r.val, by have := r.isLt; have := kb_le t; omega⟩ : Fin 8192)
          (⟨(80 + t.val / 4 % 16) * 128 + d.val, by omega⟩ : Fin 16384)) := by
  have hz : z.val = 0 := by omega
  have hy : y.val = 0 := by omega
  show V m c main_v2 ((win0_5.blk t).view.emb (ix4 z y r d)) = _
  have hv : ∀ a, ((win0_5.blk t).view.emb (ix4 z y r d) a).val = cc0_transform_5 (grid0.coords t) a + (ix4 z y r d a).val :=
    fun a => ValueKit.rect_emb_unit_val (s := S128x2x8192x128) (cc0_transform_5 (grid0.coords t)) S1x1x4096x128.size (hinbE0_5 (grid0.coords t)) (ix4 z y r d) a
  have e : (win0_5.blk t).view.emb (ix4 z y r d) = ix4 (⟨80 + t.val / 4 % 16, by omega⟩ : Fin 128) (pb t)
      (⟨kb (t.val % 4) + r.val, by have := r.isLt; have := kb_le t; omega⟩ : Fin 8192) d := by
    funext a
    refine Fin.ext ((hv a).trans ?_)
    rw [tr5 t]
    fin_cases a
    · show 80 + t.val / 4 % 16 + z.val = 80 + t.val / 4 % 16; omega
    · show t.val / 64 + y.val = t.val / 64; omega
    · rfl
    · show 0 + d.val = d.val; omega
  rw [e, V_eq]
  exact heads_at _ _ _ _ _

theorem iblk6_at (t : Fin cfg0.N) (z y : Fin 1) (r : Fin 4096) (d : Fin 128) :
    (iblk m c 6 t : Vec Ideal S1x1x4096x128 .f32) (ix4 z y r d)
      = m ((c.tc : Thread nD τ).loc main_arg0) (ix3 (pb t) (⟨kb (t.val % 4) + r.val, by have := r.isLt; have := kb_le t; omega⟩ : Fin 8192)
          (⟨(96 + 2 * (t.val / 4 % 16)) * 128 + d.val, by omega⟩ : Fin 16384)) := by
  have hz : z.val = 0 := by omega
  have hy : y.val = 0 := by omega
  show V m c main_v2 ((win0_6.blk t).view.emb (ix4 z y r d)) = _
  have hv : ∀ a, ((win0_6.blk t).view.emb (ix4 z y r d) a).val = cc0_transform_6 (grid0.coords t) a + (ix4 z y r d a).val :=
    fun a => ValueKit.rect_emb_unit_val (s := S128x2x8192x128) (cc0_transform_6 (grid0.coords t)) S1x1x4096x128.size (hinbE0_6 (grid0.coords t)) (ix4 z y r d) a
  have e : (win0_6.blk t).view.emb (ix4 z y r d) = ix4 (⟨96 + 2 * (t.val / 4 % 16), by omega⟩ : Fin 128) (pb t)
      (⟨kb (t.val % 4) + r.val, by have := r.isLt; have := kb_le t; omega⟩ : Fin 8192) d := by
    funext a
    refine Fin.ext ((hv a).trans ?_)
    rw [tr6 t]
    fin_cases a
    · show 96 + 2 * (t.val / 4 % 16) + z.val = 96 + 2 * (t.val / 4 % 16); omega
    · show t.val / 64 + y.val = t.val / 64; omega
    · rfl
    · show 0 + d.val = d.val; omega
  rw [e, V_eq]
  exact heads_at _ _ _ _ _

theorem iblk7_at (t : Fin cfg0.N) (z y : Fin 1) (r : Fin 4096) (d : Fin 128) :
    (iblk m c 7 t : Vec Ideal S1x1x4096x128 .f32) (ix4 z y r d)
      = m ((c.tc : Thread nD τ).loc main_arg0) (ix3 (pb t) (⟨kb (t.val % 4) + r.val, by have := r.isLt; have := kb_le t; omega⟩ : Fin 8192)
          (⟨(97 + 2 * (t.val / 4 % 16)) * 128 + d.val, by omega⟩ : Fin 16384)) := by
  have hz : z.val = 0 := by omega
  have hy : y.val = 0 := by omega
  show V m c main_v2 ((win0_7.blk t).view.emb (ix4 z y r d)) = _
  have hv : ∀ a, ((win0_7.blk t).view.emb (ix4 z y r d) a).val = cc0_transform_7 (grid0.coords t) a + (ix4 z y r d a).val :=
    fun a => ValueKit.rect_emb_unit_val (s := S128x2x8192x128) (cc0_transform_7 (grid0.coords t)) S1x1x4096x128.size (hinbE0_7 (grid0.coords t)) (ix4 z y r d) a
  have e : (win0_7.blk t).view.emb (ix4 z y r d) = ix4 (⟨97 + 2 * (t.val / 4 % 16), by omega⟩ : Fin 128) (pb t)
      (⟨kb (t.val % 4) + r.val, by have := r.isLt; have := kb_le t; omega⟩ : Fin 8192) d := by
    funext a
    refine Fin.ext ((hv a).trans ?_)
    rw [tr7 t]
    fin_cases a
    · show 97 + 2 * (t.val / 4 % 16) + z.val = 97 + 2 * (t.val / 4 % 16); omega
    · show t.val / 64 + y.val = t.val / 64; omega
    · rfl
    · show 0 + d.val = d.val; omega
  rw [e, V_eq]
  exact heads_at _ _ _ _ _

end Cert.KernelIdeal.Ker

end
-- ==== Proof.KerOut.lean ====
/-
  What the combine leaves of a query's row: the attention's quotient.
-/
module

public import proofs.«01_k».proof.Proof.KerRow

@[expose] public section

set_option maxRecDepth 16384

noncomputable section

namespace Cert.KernelIdeal.Ker

open Cert.KernelIdeal Cert.KernelIdeal.Gen
open Cert.KernelIdeal.Facts
open Idealize.ShloMosaic Idealize.ShloMosaic.TcCoe
open Cert.Dil

theorem vix3 {n0 n1 n2 : ℕ} (a : Fin n0) (b : Fin n1) (c : Fin n2) : ValueIdx.ix3 a b c = ix3 a b c := rfl
theorem vix4 {n0 n1 n2 n3 : ℕ} (a : Fin n0) (b : Fin n1) (c : Fin n2) (d : Fin n3) : ValueIdx.ix4 a b c d = ix4 a b c d := rfl

theorem rect3 (off : Fin 3 → ℕ) (inb) (g : Fin 3) (k : ℕ) (hoff : off = ![g.val, 256 * k, 0]) (y : Fin 2048) (hk : k = y.val / 256) (l : Fin 128) :
    (Rect.unit (s := S3x2048x128) off S1x256x128.size inb).toLoadRect.idx (ix3 (0 : Fin 1) (⟨y.val % 256, by omega⟩ : Fin 256) l) = ix3 g y l := by
  subst hoff
  funext a
  refine Fin.ext ?_
  fin_cases a
  · show g.val + 1 * 0 = g.val; omega
  · show 256 * k + 1 * (y.val % 256) = y.val; omega
  · show 0 + 1 * l.val = l.val; omega

theorem rect4 (off : Fin 4 → ℕ) (inb) (g : Fin 3) (hf : Fin 2) (k : ℕ) (hoff : off = ![g.val, hf.val, 256 * k, 0]) (y : Fin 2048) (hk : k = y.val / 256) (l : Fin 128) :
    (Rect.unit (s := S3x2x2048x128) off S1x1x256x128.size inb).toLoadRect.idx (ix4 (0 : Fin 1) (0 : Fin 1) (⟨y.val % 256, by omega⟩ : Fin 256) l) = ix4 g hf y l := by
  subst hoff
  funext a
  refine Fin.ext ?_
  fin_cases a
  · show g.val + 1 * 0 = g.val; omega
  · show hf.val + 1 * 0 = hf.val; omega
  · show 256 * k + 1 * (y.val % 256) = y.val; omega
  · show 0 + 1 * l.val = l.val; omega

theorem outv_real (m0 m1 m2 l0 l1 l2 : Vec Ideal S1x256x128 .f32) (a b c : Vec Ideal S1x1x256x128 .f32) (y : Fin 256) (e : Fin 128)
    (n d μ : Fin 3 → ℝ) (hd : ∀ g, 0 < d g)
    (hm0 : m0 (ix3 (0 : Fin 1) y e) = ((μ 0 : ℝ) : EReal)) (hm1 : m1 (ix3 (0 : Fin 1) y e) = ((μ 1 : ℝ) : EReal)) (hm2 : m2 (ix3 (0 : Fin 1) y e) = ((μ 2 : ℝ) : EReal))
    (hl0 : l0 (ix3 (0 : Fin 1) y e) = ((d 0 * Real.rpow 2 (-μ 0) : ℝ) : EReal)) (hl1 : l1 (ix3 (0 : Fin 1) y e) = ((d 1 * Real.rpow 2 (-μ 1) : ℝ) : EReal))
    (hl2 : l2 (ix3 (0 : Fin 1) y e) = ((d 2 * Real.rpow 2 (-μ 2) : ℝ) : EReal))
    (ha : a (ix4 (0 : Fin 1) (0 : Fin 1) y e) = ((n 0 * Real.rpow 2 (-μ 0) : ℝ) : EReal)) (hb : b (ix4 (0 : Fin 1) (0 : Fin 1) y e) = ((n 1 * Real.rpow 2 (-μ 1) : ℝ) : EReal))
    (hc : c (ix4 (0 : Fin 1) (0 : Fin 1) y e) = ((n 2 * Real.rpow 2 (-μ 2) : ℝ) : EReal)) :
    Blk.outv m0 m1 m2 l0 l1 l2 a b c (ix3 (0 : Fin 1) y e) = (((n 0 + n 1 + n 2) / (d 0 + d 1 + d 2) : ℝ) : EReal) := by
  rw [outv_at, hm0, hm1, hm2, hl0, hl1, hl2, ha, hb, hc, max_coe, max_coe]
  exact mix_exp23 _ _ _ _ _ _ _ _ _ _ (hd 0) (hd 1) (hd 2)

theorem outAll_real (D : Blk.Mid Ideal) (y : Fin 2048) (N : Fin 3 → Fin 256 → ℝ) (d μ : Fin 3 → ℝ) (hd : ∀ g, 0 < d g)
    (hm : ∀ g l, D.m (ix3 g y l) = ((μ g : ℝ) : EReal)) (hl : ∀ g l, D.l (ix3 g y l) = ((d g * Real.rpow 2 (-μ g) : ℝ) : EReal))
    (hn : ∀ g (hf : Fin 2) (e : Fin 128), D.n (ix4 g hf y e) = ((N g (⟨128 * hf.val + e.val, by omega⟩ : Fin 256) * Real.rpow 2 (-μ g) : ℝ) : EReal))
    (z : Fin 1) (e : Fin 256) :
    Blk.outAll D (ix3 z y e) = (((N 0 e + N 1 e + N 2 e) / (d 0 + d 1 + d 2) : ℝ) : EReal) := by
  have hy := y.isLt
  have he := e.isLt
  have hk : y.val / 256 < k0_t1_loop.trips := by rw [Blk.trips_eq]; omega
  show (if e.val < 128 then Blk.out0 D ⟨y.val / 256, hk⟩ (ix3 (0 : Fin 1) (⟨y.val % 256, by omega⟩ : Fin 256) (⟨e.val % 128, by omega⟩ : Fin 128))
    else Blk.out1 D ⟨y.val / 256, hk⟩ (ix3 (0 : Fin 1) (⟨y.val % 256, by omega⟩ : Fin 256) (⟨e.val % 128, by omega⟩ : Fin 128))) = _
  have M : ∀ (off : Fin 3 → ℕ) (inb) (g : Fin 3) (hoff : off = ![g.val, 256 * (y.val / 256), 0]) (l : Fin 128),
      D.m ((Rect.unit (s := S3x2048x128) off S1x256x128.size inb).toLoadRect.idx (ix3 (0 : Fin 1) (⟨y.val % 256, by omega⟩ : Fin 256) l)) = ((μ g : ℝ) : EReal) :=
    fun off inb g hoff l => (congrArg D.m (rect3 off inb g _ hoff y rfl l)).trans (hm g l)
  have L : ∀ (off : Fin 3 → ℕ) (inb) (g : Fin 3) (hoff : off = ![g.val, 256 * (y.val / 256), 0]) (l : Fin 128),
      D.l ((Rect.unit (s := S3x2048x128) off S1x256x128.size inb).toLoadRect.idx (ix3 (0 : Fin 1) (⟨y.val % 256, by omega⟩ : Fin 256) l)) = ((d g * Real.rpow 2 (-μ g) : ℝ) : EReal) :=
    fun off inb g hoff l => (congrArg D.l (rect3 off inb g _ hoff y rfl l)).trans (hl g l)
  have Q : ∀ (off : Fin 4 → ℕ) (inb) (g : Fin 3) (hf : Fin 2) (hoff : off = ![g.val, hf.val, 256 * (y.val / 256), 0]) (l : Fin 128) (e : Fin 256) (h : 128 * hf.val + l.val = e.val),
      D.n ((Rect.unit (s := S3x2x2048x128) off S1x1x256x128.size inb).toLoadRect.idx (ix4 (0 : Fin 1) (0 : Fin 1) (⟨y.val % 256, by omega⟩ : Fin 256) l))
        = ((N g e * Real.rpow 2 (-μ g) : ℝ) : EReal) := by
    intro off inb g hf hoff l e h
    refine (congrArg D.n (rect4 off inb g hf _ hoff y rfl l)).trans ((hn g hf l).trans ?_)
    rw [show (⟨128 * hf.val + l.val, by omega⟩ : Fin 256) = e from Fin.ext h]
  split
  · rename_i h
    unfold Blk.out0
    exact outv_real _ _ _ _ _ _ _ _ _ _ _ (fun g => N g e) d μ hd
      (M _ _ 0 (Blk.k0_off5_eq _) _) (M _ _ 1 (Blk.k0_off6_eq _) _) (M _ _ 2 (Blk.k0_off7_eq _) _)
      (L _ _ 0 (Blk.k0_off5_eq _) _) (L _ _ 1 (Blk.k0_off6_eq _) _) (L _ _ 2 (Blk.k0_off7_eq _) _)
      (Q _ _ 0 0 (Blk.k0_off8_eq _) _ e (by show 128 * 0 + e.val % 128 = e.val; omega)) (Q _ _ 1 0 (Blk.k0_off9_eq _) _ e (by show 128 * 0 + e.val % 128 = e.val; omega))
      (Q _ _ 2 0 (Blk.k0_off10_eq _) _ e (by show 128 * 0 + e.val % 128 = e.val; omega))
  · rename_i h
    unfold Blk.out1
    exact outv_real _ _ _ _ _ _ _ _ _ _ _ (fun g => N g e) d μ hd
      (M _ _ 0 (Blk.k0_off5_eq _) _) (M _ _ 1 (Blk.k0_off6_eq _) _) (M _ _ 2 (Blk.k0_off7_eq _) _)
      (L _ _ 0 (Blk.k0_off5_eq _) _) (L _ _ 1 (Blk.k0_off6_eq _) _) (L _ _ 2 (Blk.k0_off7_eq _) _)
      (Q _ _ 0 1 (Blk.k0_off12_eq _) _ e (by show 128 * 1 + e.val % 128 = e.val; omega)) (Q _ _ 1 1 (Blk.k0_off13_eq _) _ e (by show 128 * 1 + e.val % 128 = e.val; omega))
      (Q _ _ 2 1 (Blk.k0_off14_eq _) _ e (by show 128 * 1 + e.val % 128 = e.val; omega))

end Cert.KernelIdeal.Ker

end
-- ==== Proof.KerPoint.lean ====
/-
  A grid point's rows: what its blocks leave of each query, and so what it writes.
-/
module

public import proofs.«01_k».proof.Proof.KerWin
public import proofs.«01_k».proof.Proof.KerOut

@[expose] public section

set_option maxRecDepth 16384

noncomputable section

namespace Cert.KernelIdeal.Ker

open Cert.KernelIdeal Cert.KernelIdeal.Gen
open Cert.KernelIdeal.Facts
open Idealize.ShloMosaic Idealize.ShloMosaic.TcCoe
open Cert.Dil

theorem dl_dil : ∀ g : Fin 3, Blk.dil g = dl g := by decide
theorem dl_cases : ∀ g : Fin 3, dl g = 1 ∨ dl g = 4 ∨ dl g = 16 := by decide

/-- Every token a query sees lies in its block's window. -/
theorem cover (d base q0 u j : ℕ) (s : ℤ) (hd : d = 1 ∨ d = 4 ∨ d = 16) (hb : (base : ℤ) = (q0 : ℕ) + (d : ℤ) * s)
    (hin : base + d * 255 < 8192) (hs : s = -64 ∨ (s = 0 ∧ base < d) ∨ (s = -128 ∧ 8192 ≤ base + d * 256)) (hu : u < 128) (hj : j < 8192)
    (h1 : ((j : ℤ) - (q0 + d * u : ℕ)).natAbs ≤ 64 * d) (h2 : ((j : ℤ) - (q0 + d * u : ℕ)).natAbs % d = 0) :
    ∃ w : Fin 256, base + d * w.val = j := by
  have key : ∃ w : ℕ, w < 256 ∧ base + d * w = j := by
    refine ⟨((j : ℤ) - base).toNat / d, ?_⟩
    rcases hd with rfl | rfl | rfl <;> rcases hs with rfl | ⟨rfl, hs⟩ | ⟨rfl, hs⟩ <;> omega
  obtain ⟨w, hw, h⟩ := key
  exact ⟨⟨w, hw⟩, h⟩

theorem apart_win (d base q0 u w : ℕ) (s : ℤ) (hb : (base : ℤ) = (q0 : ℕ) + (d : ℤ) * s) :
    (((base + d * w : ℕ) : ℤ) - (q0 + d * u : ℕ)).natAbs = d * ((w : ℤ) + s - u).natAbs := by
  have e : ((base + d * w : ℕ) : ℤ) - (q0 + d * u : ℕ) = (d : ℤ) * ((w : ℤ) + s - u) := by push_cast; rw [hb]; ring
  rw [e, Int.natAbs_mul, Int.natAbs_natCast]

/-! ## The blocks' rectangles -/

theorem qidx (g : Fin 3) (r : Fin 2048) (d : Fin 128) :
    (Blk.qrect g (Blk.jOf g r)).idx (ix4 (0 : Fin 1) (0 : Fin 1) (Blk.uOf g r) d) = ix4 (0 : Fin 1) (0 : Fin 1) r d := by
  funext a
  refine Fin.ext ?_
  fin_cases a
  · show 0 + Blk.st4 g 0 * 0 = 0; omega
  · show 0 + Blk.st4 g 1 * 0 = 0; omega
  · show Blk.row0 g (Blk.jOf g r) + Blk.st4 g 2 * (Blk.uOf g r).val = r.val
    rw [Blk.st4_2, Blk.row_of]
  · show 0 + Blk.st4 g 3 * d.val = d.val; rw [Blk.st4_3]; omega

theorem kidx (i : grid0.Coords) (g : Fin 3) (j : Fin 16) (h : Blk.koff i g j 0 = 0 ∧ Blk.koff i g j 1 = 0 ∧ Blk.koff i g j 3 = 0)
    (w : Fin 256) (hr : Blk.koff i g j 2 + dl g * w.val < 4096) (d : Fin 128) :
    (Blk.krect i g j).idx (ix4 (0 : Fin 1) (0 : Fin 1) w d)
      = ix4 (0 : Fin 1) (0 : Fin 1) (⟨Blk.koff i g j 2 + dl g * w.val, hr⟩ : Fin 4096) d := by
  funext a
  refine Fin.ext ?_
  fin_cases a
  · show Blk.koff i g j 0 + Blk.st4 g 0 * 0 = 0; rw [h.1]; omega
  · show Blk.koff i g j 1 + Blk.st4 g 1 * 0 = 0; rw [h.2.1]; omega
  · show Blk.koff i g j 2 + Blk.st4 g 2 * w.val = Blk.koff i g j 2 + dl g * w.val
    rw [Blk.st4_2, dl_dil]
  · show Blk.koff i g j 3 + Blk.st4 g 3 * d.val = d.val; rw [h.2.2, Blk.st4_3]; omega

theorem kin (i : grid0.Coords) (g : Fin 3) (j : Fin 16) (w : Fin 256) : Blk.koff i g j 2 + dl g * w.val < 4096 := by
  have h : (256 : ℕ) = 0 ∨ Blk.koff i g j 2 + Blk.st4 g 2 * (256 - 1) < 4096 := Blk.koff_inb i g j 2
  rw [Blk.st4_2, dl_dil] at h
  have hw := w.isLt
  have : dl g * w.val ≤ dl g * 255 := Nat.mul_le_mul_left _ (by omega)
  omega

theorem bidx (i : grid0.Coords) (g : Fin 3) (j : Fin 16) (n : Fin 9) (h : Blk.boff i g j 0 = n.val ∧ Blk.boff i g j 1 = 0 ∧ Blk.boff i g j 2 = 0)
    (u : Fin 128) (w : Fin 256) : (Blk.brect i g j).idx (ix3 (0 : Fin 1) u w) = ix3 n u w := by
  funext a
  refine Fin.ext ?_
  fin_cases a
  · show Blk.boff i g j 0 + 1 * 0 = n.val; rw [h.1]; omega
  · show Blk.boff i g j 1 + 1 * u.val = u.val; rw [h.2.1]; omega
  · show Blk.boff i g j 2 + 1 * w.val = w.val; rw [h.2.2]; omega

/-! ## A point's rows -/

/-- What a point finds, in reals: the queries of its rows and the keys and values staged. -/
structure Finds (I : Blk.Inp Ideal) (X : Fin 2 → Fin 8192 → Fin 16384 → ℝ) (b : Fin 2) (h : Fin 16) (kk : Fin 4) : Prop where
  q : ∀ (g : Fin 3) (r : Fin 2048) (d : Fin 128), I.q g (ix4 (0 : Fin 1) (0 : Fin 1) r d)
    = ((X b (⟨2048 * kk.val + r.val, by omega⟩ : Fin 8192) (qcol g h d) : ℝ) : EReal)
  k : ∀ (g : Fin 3) (r : Fin 4096) (d : Fin 128), I.k g (ix4 (0 : Fin 1) (0 : Fin 1) r d)
    = ((X b (⟨kb kk.val + r.val, by unfold kb; omega⟩ : Fin 8192) (kcol g h d) : ℝ) : EReal)
  va : ∀ (r : Fin 4096) (d : Fin 128), I.va (ix4 (0 : Fin 1) (0 : Fin 1) r d)
    = ((X b (⟨kb kk.val + r.val, by unfold kb; omega⟩ : Fin 8192) (vcol h (⟨d.val, by omega⟩ : Fin 256)) : ℝ) : EReal)
  vb : ∀ (r : Fin 4096) (d : Fin 128), I.vb (ix4 (0 : Fin 1) (0 : Fin 1) r d)
    = ((X b (⟨kb kk.val + r.val, by unfold kb; omega⟩ : Fin 8192) (vcol h (⟨128 + d.val, by omega⟩ : Fin 256)) : ℝ) : EReal)
  b : I.b = Blk.biasAll h.val

theorem rows (i : grid0.Coords) (I : Blk.Inp Ideal) (X : Fin 2 → Fin 8192 → Fin 16384 → ℝ) (b : Fin 2) (h : Fin 16) (k : Fin 4)
    (hk : (i 2).val = k.val) (H : Finds I X b h k) (g : Fin 3) (r : Fin 2048) :
    ∃ μ : ℝ, Blk.mv (Blk.scores i I g (Blk.jOf g r)) (ix2 (Blk.uOf g r) (0 : Fin 1)) = ((μ : ℝ) : EReal)
      ∧ Blk.lv (Blk.scores i I g (Blk.jOf g r)) (ix2 (Blk.uOf g r) (0 : Fin 1))
        = ((den X b h (⟨2048 * k.val + r.val, by omega⟩ : Fin 8192) g * Real.rpow 2 (-μ) : ℝ) : EReal)
      ∧ ∀ e, Blk.numer i I g (Blk.jOf g r) (ix2 (Blk.uOf g r) e)
        = ((num X b h (⟨2048 * k.val + r.val, by omega⟩ : Fin 8192) e g * Real.rpow 2 (-μ) : ℝ) : EReal) := by
  obtain ⟨n, hko, hbo, hg, hbase, hin, hs⟩ := placed i g (Blk.jOf g r)
  rw [hk] at hbase hin hs
  have hu := (Blk.uOf g r).isLt
  have hrow : 2048 * k.val + r.val = (2048 * k.val + Blk.row0 g (Blk.jOf g r)) + dl g * (Blk.uOf g r).val := by
    have := Blk.row_of g r
    rw [dl_dil] at this
    omega
  have htok : ∀ w : Fin 256, kb k.val + Blk.koff i g (Blk.jOf g r) 2 + dl g * w.val < 8192 := fun w => by
    have hw := w.isLt
    have : dl g * w.val ≤ dl g * 255 := Nat.mul_le_mul_left _ (by omega)
    omega
  have hD : ∀ w : Fin 256, apart (⟨2048 * k.val + r.val, by omega⟩ : Fin 8192) (⟨kb k.val + Blk.koff i g (Blk.jOf g r) 2 + dl g * w.val, htok w⟩ : Fin 8192)
      = dl g * ((w.val : ℤ) + shift n - (Blk.uOf g r).val).natAbs := fun w => by
    unfold apart
    show (((kb k.val + Blk.koff i g (Blk.jOf g r) 2 + dl g * w.val : ℕ) : ℤ) - (2048 * k.val + r.val : ℕ)).natAbs = _
    rw [hrow]
    exact apart_win _ _ _ _ _ _ hbase
  have hK : ∀ w : Fin 256, ∀ hl, (⟨kb k.val + (⟨Blk.koff i g (Blk.jOf g r) 2 + dl g * w.val, kin i g _ w⟩ : Fin 4096).val, hl⟩ : Fin 8192)
      = (⟨kb k.val + Blk.koff i g (Blk.jOf g r) 2 + dl g * w.val, htok w⟩ : Fin 8192) := fun w hl => Fin.ext (by
    show kb k.val + (Blk.koff i g (Blk.jOf g r) 2 + dl g * w.val) = kb k.val + Blk.koff i g (Blk.jOf g r) 2 + dl g * w.val; omega)
  refine group X b h (⟨2048 * k.val + r.val, by omega⟩ : Fin 8192) g (Blk.scores i I g (Blk.jOf g r))
    (fun x => I.va ((Blk.krect i g (Blk.jOf g r)).idx x)) (fun x => I.vb ((Blk.krect i g (Blk.jOf g r)).idx x)) (Blk.uOf g r)
    (fun w => (⟨kb k.val + Blk.koff i g (Blk.jOf g r) 2 + dl g * w.val, htok w⟩ : Fin 8192)) ?_ ?_ ?_ ?_ ?_
  · intro w w' hw
    have e : kb k.val + Blk.koff i g (Blk.jOf g r) 2 + dl g * w.val = kb k.val + Blk.koff i g (Blk.jOf g r) 2 + dl g * w'.val := Fin.ext_iff.1 hw
    exact Fin.ext (Nat.eq_of_mul_eq_mul_left (dl_pos g) (by omega))
  · intro j hj
    obtain ⟨h1, h2⟩ := hj
    unfold apart at h1 h2
    replace h1 : ((j.val : ℤ) - (2048 * k.val + r.val : ℕ)).natAbs ≤ 64 * dl g := h1
    replace h2 : ((j.val : ℤ) - (2048 * k.val + r.val : ℕ)).natAbs % dl g = 0 := h2
    rw [hrow] at h1 h2
    obtain ⟨w, hw⟩ := cover (dl g) _ _ _ j.val _ (dl_cases g) hbase hin hs hu j.isLt h1 h2
    exact ⟨w, Fin.ext hw⟩
  · intro w
    unfold Blk.scores
    refine score_at X b h _ g _ _ _ _ w _ _ (hD w) (fun d => ?_) (fun d => ?_) ?_
    · exact (congrArg (I.q g) (qidx g r d)).trans (H.q g r d)
    · exact (congrArg (I.k g) (kidx i g _ hko w (kin i g _ w) d)).trans ((H.k g _ d).trans (by rw [hK]))
    · refine (congrArg I.b (bidx i g _ n hbo _ w)).trans ?_
      rw [H.b]
      refine (bias_real h n (Blk.uOf g r) w).trans ?_
      rw [hg]
  · intro w e
    exact (congrArg I.va (kidx i g _ hko w (kin i g _ w) e)).trans ((H.va _ e).trans (by rw [hK]))
  · intro w e
    exact (congrArg I.vb (kidx i g _ hko w (kin i g _ w) e)).trans ((H.vb _ e).trans (by rw [hK]))

theorem nh_at (hf : Fin 2) (n : FVec Ideal S128x256 .f32) (u e : Fin 128) :
    Blk.nh hf n (ix4 (0 : Fin 1) (0 : Fin 1) u e) = n (ix2 u (⟨128 * hf.val + e.val, by omega⟩ : Fin 256)) := by
  fin_cases hf
  · refine (n0_at n 0 0 u e).trans (congrArg n ?_)
    congr 1; exact Fin.ext (by show e.val = 128 * 0 + e.val; omega)
  · refine (n1_at n 0 0 u e).trans (congrArg n ?_)
    congr 1

theorem point (i : grid0.Coords) (I : Blk.Inp Ideal) (X : Fin 2 → Fin 8192 → Fin 16384 → ℝ) (b : Fin 2) (h : Fin 16) (k : Fin 4)
    (hk : (i 2).val = k.val) (H : Finds I X b h k) (z : Fin 1) (y : Fin 2048) (e : Fin 256) :
    Blk.outAll (Blk.midOf i I) (ix3 z y e) = ((att X b h (⟨2048 * k.val + y.val, by omega⟩ : Fin 8192) e : ℝ) : EReal) := by
  choose μ hm hl hn using fun g => rows i I X b h k hk H g y
  refine (outAll_real (Blk.midOf i I) y (fun g e => num X b h (⟨2048 * k.val + y.val, by omega⟩ : Fin 8192) e g)
    (fun g => den X b h (⟨2048 * k.val + y.val, by omega⟩ : Fin 8192) g) μ (fun g => den_pos X b h _ g) ?_ ?_ ?_ z e).trans ?_
  · intro g l
    dsimp only [Blk.midOf]
    exact (ml_at _ 0 (Blk.uOf g y) l).trans (hm g)
  · intro g l
    dsimp only [Blk.midOf]
    exact (ml_at _ 0 (Blk.uOf g y) l).trans (hl g)
  · intro g hf e
    dsimp only [Blk.midOf]
    exact (nh_at hf _ (Blk.uOf g y) e).trans (hn g _)
  · unfold att; exact rfl

end Cert.KernelIdeal.Ker

end
-- ==== Proof.KerArr.lean ====
/-
  The array the kernel leaves: the attention at every token, head and column.
-/
module

public import proofs.«01_k».proof.Proof.KerPoint
public import Idealize.ShloMosaic.Lib.Pipeline.ValueKit

@[expose] public section

set_option maxRecDepth 16384

noncomputable section

namespace Cert.KernelIdeal.Ker

open Cert.KernelIdeal Cert.KernelIdeal.Gen
open Cert.KernelIdeal.Facts
open Idealize.ShloMosaic Idealize.ShloMosaic.TcCoe
open Cert.Dil

variable (m : (ℓ : Loc nD τ sig) → Buf (Elt Ideal) ℓ) (c : Dev nD) (X : Fin 2 → Fin 8192 → Fin 16384 → ℝ)

theorem colE {A : FVec Ideal S2x8192x16384 .f32} (hA : ∀ b t c, A (ix3 b t c) = ((X b t c : ℝ) : EReal)) (b : Fin 2) (t t' : Fin 8192)
    (k k' : Fin 16384) (ht : t.val = t'.val) (hk : k.val = k'.val) : A (ix3 b t k) = ((X b t' k' : ℝ) : EReal) := by
  obtain rfl := Fin.ext ht
  obtain rfl := Fin.ext hk
  exact hA _ _ _

theorem finds (hA : ∀ b t k, (m ((c.tc : Thread nD τ).loc main_arg0) : FVec Ideal S2x8192x16384 .f32) (ix3 b t k) = ((X b t k : ℝ) : EReal))
    (t : Fin cfg0.N) : Finds (Blk.inp m c t) X (pb t) (ph t) (pk t) := by
  refine ⟨?_, ?_, ?_, ?_, ?_⟩
  · intro g r d
    fin_cases g
    · refine (iblk0_at m c t 0 0 r d).trans (colE X hA _ _ _ _ _ rfl ?_)
      show (t.val / 4 % 16) * 128 + d.val = (0 * 16 + t.val / 4 % 16) * 128 + d.val; omega
    · refine (iblk1_at m c t 0 0 r d).trans (colE X hA _ _ _ _ _ rfl ?_)
      show (16 + t.val / 4 % 16) * 128 + d.val = (1 * 16 + t.val / 4 % 16) * 128 + d.val; omega
    · refine (iblk2_at m c t 0 0 r d).trans (colE X hA _ _ _ _ _ rfl ?_)
      show (32 + t.val / 4 % 16) * 128 + d.val = (2 * 16 + t.val / 4 % 16) * 128 + d.val; omega
  · intro g r d
    fin_cases g
    · refine (iblk3_at m c t 0 0 r d).trans (colE X hA _ _ _ _ _ rfl ?_)
      show (48 + t.val / 4 % 16) * 128 + d.val = 6144 + ((0 * 16 + t.val / 4 % 16) * 128 + d.val); omega
    · refine (iblk4_at m c t 0 0 r d).trans (colE X hA _ _ _ _ _ rfl ?_)
      show (64 + t.val / 4 % 16) * 128 + d.val = 6144 + ((1 * 16 + t.val / 4 % 16) * 128 + d.val); omega
    · refine (iblk5_at m c t 0 0 r d).trans (colE X hA _ _ _ _ _ rfl ?_)
      show (80 + t.val / 4 % 16) * 128 + d.val = 6144 + ((2 * 16 + t.val / 4 % 16) * 128 + d.val); omega
  · intro r d
    refine (iblk6_at m c t 0 0 r d).trans (colE X hA _ _ _ _ _ rfl ?_)
    show (96 + 2 * (t.val / 4 % 16)) * 128 + d.val = 12288 + ((t.val / 4 % 16) * 256 + d.val); omega
  · intro r d
    refine (iblk7_at m c t 0 0 r d).trans (colE X hA _ _ _ _ _ rfl ?_)
    show (97 + 2 * (t.val / 4 % 16)) * 128 + d.val = 12288 + ((t.val / 4 % 16) * 256 + (128 + d.val)); omega
  · show Blk.biasAll (grid0.coords t 1).val = Blk.biasAll (t.val / 4 % 16)
    rw [Blk.coord1]

theorem outBlk_at (hA : ∀ b t k, (m ((c.tc : Thread nD τ).loc main_arg0) : FVec Ideal S2x8192x16384 .f32) (ix3 b t k) = ((X b t k : ℝ) : EReal))
    (t : Fin cfg0.N) (z : Fin 1) (y : Fin 2048) (e : Fin 256) :
    Blk.outBlk m c t (ix3 z y e) = ((att X (pb t) (ph t) (⟨2048 * (pk t).val + y.val, by have := (pk t).isLt; omega⟩ : Fin 8192) e : ℝ) : EReal) := by
  unfold Blk.outBlk
  exact point (grid0.coords t) (Blk.inp m c t) X (pb t) (ph t) (pk t) (Blk.coord2 t) (finds m c X hA t) z y e

/-- The attention as an array. -/
def attArr : FVec Ideal S2x8192x4096 .bf16 := fun i =>
  ((att X (i 0) (⟨(i 2).val / 256, by have : (i 2).val < 4096 := (i 2).isLt; omega⟩ : Fin 16) (i 1)
    (⟨(i 2).val % 256, by omega⟩ : Fin 256) : ℝ) : EReal)

theorem attE (b b' : Fin 2) (h h' : Fin 16) (t t' : Fin 8192) (e e' : Fin 256) (hb : b.val = b'.val) (hh : h.val = h'.val)
    (ht : t.val = t'.val) (he : e.val = e'.val) : att X b h t e = att X b' h' t' e' := by
  obtain rfl := Fin.ext hb
  obtain rfl := Fin.ext hh
  obtain rfl := Fin.ext ht
  obtain rfl := Fin.ext he
  rfl

theorem arr (hA : ∀ b t k, (m ((c.tc : Thread nD τ).loc main_arg0) : FVec Ideal S2x8192x16384 .f32) (ix3 b t k) = ((X b t k : ℝ) : EReal)) :
    (Blk.dats m 0 c).arrAt 8 cfg0.N = attArr X := by
  refine (Blk.dats m 0 c).arrAt_eq_of_covers 8 (attArr X) (by decide +kernel) fun t hf y => ?_
  blk_simp
  show Blk.outBlk m c t y = attArr X ((win0_8.blk t).view.emb y)
  have hv : ∀ a, ((win0_8.blk t).view.emb y a).val = cc0_transform_8 (grid0.coords t) a * S1x2048x256.size a + (y a).val :=
    fun a => Pipeline.Window.rect_emb_val win0_8 t y a rfl
  obtain ⟨z, r, e, rfl⟩ : ∃ (z : Fin 1) (r : Fin 2048) (e : Fin 256), y = ix3 z r e := ⟨y 0, y 1, y 2, by funext a; fin_cases a <;> rfl⟩
  rw [outBlk_at m c X hA]
  have ht : t.val < 128 := t.isLt
  have hz : z.val = 0 := by omega
  have e0 := hv 0
  have e1 := hv 1
  have e2 := hv 2
  rw [tr8 t] at e0 e1 e2
  replace e0 : ((win0_8.blk t).view.emb (ix3 z r e) 0).val = t.val / 64 * 1 + z.val := e0
  replace e1 : ((win0_8.blk t).view.emb (ix3 z r e) 1).val = t.val % 4 * 2048 + r.val := e1
  replace e2 : ((win0_8.blk t).view.emb (ix3 z r e) 2).val = t.val / 4 % 16 * 256 + e.val := e2
  unfold attArr
  have := e.isLt
  refine congrArg (fun x : ℝ => (x : EReal)) ?_
  refine attE X _ _ _ _ _ _ _ _ ?_ ?_ ?_ ?_
  · show t.val / 64 = _; rw [e0]; omega
  · show t.val / 4 % 16 = ((win0_8.blk t).view.emb (ix3 z r e) 2).val / 256; rw [e2]; omega
  · show 2048 * (t.val % 4) + r.val = _; rw [e1]; omega
  · show e.val = ((win0_8.blk t).view.emb (ix3 z r e) 2).val % 256; rw [e2]; omega

end Cert.KernelIdeal.Ker

end
-- ==== Proof.RefVal.lean ====
/-
  What the reference computes: the attention of `Math.lean`.
-/
module

public import proofs.«01_k».proof.Proof.Gen.ReferenceIdeal.Run
public import proofs.«01_k».proof.Proof.Math
public import proofs.«01_k».proof.Proof.Consts
public import Idealize.ShloMosaic.Lib.Pointwise
public import Idealize.ShloMosaic.Lib.Tactic.CleanTypes

@[expose] public section

noncomputable section

namespace Cert.ReferenceIdeal.RefVal

open Cert.ReferenceIdeal Cert.ReferenceIdeal.Gen
open Cert.ReferenceIdeal.Facts
open Idealize.ShloMosaic Idealize.ShloMosaic.TcCoe
open Cert.Dil

variable (A : FVec Ideal S2x8192x16384 .f32)

/-! ## The result in parts -/

def qAll : FVec Ideal S2x8192x3x16x128 .f32 :=
  Host.divf (shapeCast _ (extractStridedSlice S2x8192x6144 ![0, 0, 0] A slices_S2x8192x16384_S2x8192x6144_0_0_0) shapeCasts_S2x8192x6144_S2x8192x3x16x128)
    (broadcastInDim S2x8192x3x16x128 ![] bcast_S_S2x8192x3x16x128 (Host.sqrt (constant S_ .f32 0x43000000#32)))
def kAll : FVec Ideal S2x8192x3x16x128 .f32 :=
  shapeCast _ (extractStridedSlice S2x8192x6144 ![0, 0, 6144] A slices_S2x8192x16384_S2x8192x6144_0_0_6144) shapeCasts_S2x8192x6144_S2x8192x3x16x128
def vAll : FVec Ideal S2x8192x16x256 .f32 :=
  shapeCast _ (extractStridedSlice S2x8192x4096 ![0, 0, 12288] A slices_S2x8192x16384_S2x8192x4096_0_0_12288) shapeCasts_S2x8192x4096_S2x8192x16x256

/-- One group's queries or keys. -/
def sel0 (x : FVec Ideal S2x8192x3x16x128 .f32) : FVec Ideal S2x8192x16x128 .f32 :=
  shapeCast _ (extractStridedSlice S2x8192x1x16x128 ![0, 0, 0, 0, 0] x slices_S2x8192x3x16x128_S2x8192x1x16x128_0_0_0_0_0) shapeCasts_S2x8192x1x16x128_S2x8192x16x128
def sel1 (x : FVec Ideal S2x8192x3x16x128 .f32) : FVec Ideal S2x8192x16x128 .f32 :=
  shapeCast _ (extractStridedSlice S2x8192x1x16x128 ![0, 0, 1, 0, 0] x slices_S2x8192x3x16x128_S2x8192x1x16x128_0_0_1_0_0) shapeCasts_S2x8192x1x16x128_S2x8192x16x128
def sel2 (x : FVec Ideal S2x8192x3x16x128 .f32) : FVec Ideal S2x8192x16x128 .f32 :=
  shapeCast _ (extractStridedSlice S2x8192x1x16x128 ![0, 0, 2, 0, 0] x slices_S2x8192x3x16x128_S2x8192x1x16x128_0_0_2_0_0) shapeCasts_S2x8192x1x16x128_S2x8192x16x128

def slopes : FVec Ideal S16 .f32 :=
  Host.powf (broadcastInDim S16 ![] bcast_S_S16 (constant S_ .f32 0x40000000#32))
    (mulf (addf (broadcastInDim S16 ![] bcast_S_S16 (constant S_ .f32 0x3F800000#32)) (sitofp .f32 (iotaInDim S16 32 0)))
      (broadcastInDim S16 ![] bcast_S_S16 (constant S_ .f32 0xBF000000#32)))

def aw : IVec S8192x8192 32 := absi (subi (iotaInDim S8192x8192 32 1) (iotaInDim S8192x8192 32 0))

/-- Which tokens a group's queries see: the half window and the dilation. -/
def seen (wd dw : BitVec 32) : IVec S8192x8192 1 :=
  andi (cmpi .sle aw (broadcastInDim S8192x8192 ![] bcast_S_S8192x8192 (constantI S_ 32 wd)))
    (cmpi .eq (Host.remsi aw (broadcastInDim S8192x8192 ![] bcast_S_S8192x8192 (constantI S_ 32 dw)))
      (broadcastInDim S8192x8192 ![] bcast_S_S8192x8192 (constantI S_ 32 0#32)))

def bias : FVec Ideal S2x16x8192x8192 .f32 :=
  broadcastInDim S2x16x8192x8192 ![0, 1, 2, 3] bcast_S1x16x8192x8192_S2x16x8192x8192_0_1_2_3
    (broadcastInDim S1x16x8192x8192 ![1, 2, 3] bcast_S16x8192x8192_S1x16x8192x8192_1_2_3
      (mulf (broadcastInDim S16x8192x8192 ![0, 1, 2] bcast_S16x1x1_S16x8192x8192_0_1_2 (broadcastInDim S16x1x1 ![0] bcast_S16_S16x1x1_0 slopes))
        (broadcastInDim S16x8192x8192 ![0, 1, 2] bcast_S1x8192x8192_S16x8192x8192_0_1_2
          (broadcastInDim S1x8192x8192 ![1, 2] bcast_S8192x8192_S1x8192x8192_1_2 (sitofp .f32 aw)))))

def sc (V : IVec S8192x8192 1) (q k : FVec Ideal S2x8192x16x128 .f32) : FVec Ideal S2x16x8192x8192 .f32 :=
  select (broadcastInDim S2x16x8192x8192 ![2, 3] bcast_S8192x8192_S2x16x8192x8192_2_3 V)
    (subf (Host.dotGeneral dot_S2x8192x16x128_S2x8192x16x128_S2x16x8192x8192_3_3_1_1_02_02 none q k) bias)
    (broadcastInDim S2x16x8192x8192 ![] bcast_S_S2x16x8192x8192 (id (constant S_ .f32 0xFF800000#32)))

def mx (s : FVec Ideal S2x16x8192x8192 .f32) : FVec Ideal S2x16x8192 .f32 :=
  Host.reduce FloatOps.maximumf s (constant S_ .f32 0xFF800000#32) reducesTo_S2x16x8192x8192_S2x16x8192_d3 h_S_

def ex (s : FVec Ideal S2x16x8192x8192 .f32) : FVec Ideal S2x16x8192x8192 .f32 :=
  Host.exp (subf s (broadcastInDim S2x16x8192x8192 ![0, 1, 2, 3] bcast_S2x16x8192x1_S2x16x8192x8192_0_1_2_3
    (broadcastInDim S2x16x8192x1 ![0, 1, 2] bcast_S2x16x8192_S2x16x8192x1_0_1_2 (mx s))))

def dn (s : FVec Ideal S2x16x8192x8192 .f32) : FVec Ideal S2x16x8192 .f32 :=
  Host.reduceAdd (ex s) (constant S_ .f32 0x00000000#32) reducesTo_S2x16x8192x8192_S2x16x8192_d3 h_S_

def nm (s : FVec Ideal S2x16x8192x8192 .f32) (v : FVec Ideal S2x8192x16x256 .f32) : FVec Ideal S2x16x8192x256 .f32 :=
  Host.dotGeneral dot_S2x16x8192x8192_S2x8192x16x256_S2x16x8192x256_3_1_2_3_01_02 none (ex s) v

def mm (s0 s1 s2 : FVec Ideal S2x16x8192x8192 .f32) : FVec Ideal S2x16x8192 .f32 := maximumf (maximumf (mx s0) (mx s1)) (mx s2)

def wg (s s0 s1 s2 : FVec Ideal S2x16x8192x8192 .f32) : FVec Ideal S2x16x8192 .f32 := Host.exp (subf (mx s) (mm s0 s1 s2))

def spread (x : FVec Ideal S2x16x8192 .f32) : FVec Ideal S2x16x8192x256 .f32 :=
  broadcastInDim S2x16x8192x256 ![0, 1, 2, 3] bcast_S2x16x8192x1_S2x16x8192x256_0_1_2_3
    (broadcastInDim S2x16x8192x1 ![0, 1, 2] bcast_S2x16x8192_S2x16x8192x1_0_1_2 x)

/-- The mixture of three groups from their weights, numerators and sums. -/
def mixG (w0 w1 w2 d0 d1 d2 : FVec Ideal S2x16x8192 .f32) (n0 n1 n2 : FVec Ideal S2x16x8192x256 .f32) : FVec Ideal S2x16x8192x256 .f32 :=
  Host.divf
    (addf (addf (addf (broadcastInDim S2x16x8192x256 ![] bcast_S_S2x16x8192x256 (constant S_ .f32 0x00000000#32))
      (mulf (spread w0) n0)) (mulf (spread w1) n1)) (mulf (spread w2) n2))
    (spread (addf (addf (addf (broadcastInDim S2x16x8192 ![] bcast_S_S2x16x8192 (constant S_ .f32 0x00000000#32))
      (mulf w0 d0)) (mulf w1 d1)) (mulf w2 d2)))

def mixed (s0 s1 s2 : FVec Ideal S2x16x8192x8192 .f32) (v : FVec Ideal S2x8192x16x256 .f32) : FVec Ideal S2x16x8192x256 .f32 :=
  mixG (wg s0 s0 s1 s2) (wg s1 s0 s1 s2) (wg s2 s0 s1 s2) (dn s0) (dn s1) (dn s2) (nm s0 v) (nm s1 v) (nm s2 v)

def s0 : FVec Ideal S2x16x8192x8192 .f32 := sc (seen 64#32 1#32) (sel0 (qAll A)) (sel0 (kAll A))
def s1 : FVec Ideal S2x16x8192x8192 .f32 := sc (seen 256#32 4#32) (sel1 (qAll A)) (sel1 (kAll A))
def s2 : FVec Ideal S2x16x8192x8192 .f32 := sc (seen 1024#32 16#32) (sel2 (qAll A)) (sel2 (kAll A))

def out : FVec Ideal S2x8192x4096 .bf16 :=
  truncf .bf16 (shapeCast _ (transpose S2x8192x16x256 [0, 2, 1, 3] (mixed (s0 A) (s1 A) (s2 A) (vAll A))
    transposes_S2x16x8192x256_S2x8192x16x256_0_2_1_3) shapeCasts_S2x8192x16x256_S2x8192x4096) bitsLt_bf16_f32

theorem res_eq (m : (ℓ : Loc nD τ sig) → Buf (Elt Ideal) ℓ) (c : Dev nD) :
    Value.res_main_v138 (F := Ideal) m c = out (m ((c.tc : Thread nD τ).loc main_arg0)) := by
  unfold Value.res_main_v138
  rfl

/-! ## At an index -/

theorem toInt_small (n : ℕ) (hn : n < 2 ^ 31) : (BitVec.ofNat 32 n).toInt = (n : ℤ) := by
  rw [BitVec.toInt_eq_toNat_of_lt (by rw [BitVec.toNat_ofNat]; omega), BitVec.toNat_ofNat]
  omega

theorem apart_lt (t j : Fin 8192) : apart t j < 8192 := by unfold apart; omega

theorem abs_word (a b : ℕ) (ha : a < 8192) (hb : b < 8192) :
    IntOp.absi (IntOp.subi (BitVec.ofNat 32 a) (BitVec.ofNat 32 b)) = BitVec.ofNat 32 ((a : ℤ) - b).natAbs := by
  unfold IntOp.absi IntOp.subi
  apply BitVec.eq_of_toNat_eq
  have hm : (BitVec.ofNat 32 a - BitVec.ofNat 32 b).toNat = (2 ^ 32 - b + a) % 2 ^ 32 := by
    rw [BitVec.toNat_sub, BitVec.toNat_ofNat, BitVec.toNat_ofNat]; omega
  rcases le_or_gt b a with h | h
  · have e : (BitVec.ofNat 32 a - BitVec.ofNat 32 b).msb = false := by rw [BitVec.msb_eq_decide, hm]; simp; omega
    simp only [e, Bool.false_eq_true, if_false]
    rw [hm, BitVec.toNat_ofNat]; omega
  · have e : (BitVec.ofNat 32 a - BitVec.ofNat 32 b).msb = true := by rw [BitVec.msb_eq_decide, hm]; simp; omega
    simp only [e, if_true]
    rw [BitVec.toNat_neg, hm, BitVec.toNat_ofNat]; omega

theorem aw_at (t j : Fin 8192) : aw (ix2 t j) = BitVec.ofNat 32 (apart t j) := by
  pointwise [aw]
  exact abs_word j.val t.val j.isLt t.isLt

theorem sitofp_small (n : ℕ) (hn : n < 2 ^ 31) : FloatOps.sitofp (F := Ideal) .f32 (BitVec.ofNat 32 n) = ((n : ℝ) : EReal) := by
  show (((BitVec.ofNat 32 n).toInt : ℝ) : EReal) = _
  rw [toInt_small n hn]; norm_cast

theorem slopes_at (h : Fin 16) : slopes (ix1 h) = ((slope h : ℝ) : EReal) := by
  have hh := h.isLt
  pointwise [slopes]
  rw [Consts.c2, Consts.cneghalf, sitofp_small _ (by omega), ← EReal.coe_one, ← EReal.coe_add, ← EReal.coe_mul, Ideal.pow_coe_coe]
  rfl

theorem bias_at (b : Fin 2) (h : Fin 16) (t j : Fin 8192) :
    bias (ix4 b h t j) = ((slope h * (apart t j : ℝ) : ℝ) : EReal) := by
  pointwise [bias]
  rw [aw_at, slopes_at, sitofp_small _ (by have := apart_lt t j; omega), ← EReal.coe_mul]

theorem sc_at (V : IVec S8192x8192 1) (q k : FVec Ideal S2x8192x16x128 .f32) (b : Fin 2) (h : Fin 16) (t j : Fin 8192) :
    sc V q k (ix4 b h t j) = if V (ix2 t j) = 1#1 then
      (∑ d : Fin 128, q (ix4 b t h d) * k (ix4 b j h d)) - bias (ix4 b h t j) else ⊥ := by
  pointwise [sc]
  show (if V (ix2 t j) = 1#1 then _ else Ideal.ofBits .f32 0xFF800000#32) = _
  rw [Consts.cbot]

theorem mx_at (s : FVec Ideal S2x16x8192x8192 .f32) (b : Fin 2) (h : Fin 16) (t : Fin 8192) :
    mx s (ix3 b h t) = Finset.univ.fold max (⊥ : EReal) (fun j : Fin 8192 => s (ix4 b h t j)) := by
  pointwise [mx]
  rw [Consts.cbot]

theorem ex_at (s : FVec Ideal S2x16x8192x8192 .f32) (b : Fin 2) (h : Fin 16) (t j : Fin 8192) :
    ex s (ix4 b h t j) = Ideal.exp (s (ix4 b h t j) - mx s (ix3 b h t)) := by
  pointwise [ex]

theorem dn_at (s : FVec Ideal S2x16x8192x8192 .f32) (b : Fin 2) (h : Fin 16) (t : Fin 8192) :
    dn s (ix3 b h t) = ∑ j : Fin 8192, ex s (ix4 b h t j) := by
  pointwise [dn]

theorem nm_at (s : FVec Ideal S2x16x8192x8192 .f32) (v : FVec Ideal S2x8192x16x256 .f32) (b : Fin 2) (h : Fin 16) (t : Fin 8192) (e : Fin 256) :
    nm s v (ix4 b h t e) = ∑ j : Fin 8192, ex s (ix4 b h t j) * v (ix4 b j h e) := by
  pointwise [nm]

theorem max3_at (x y z : FVec Ideal S2x16x8192 .f32) (i : S2x16x8192.Idx) :
    maximumf (maximumf x y) z i = max (max (x i) (y i)) (z i) := rfl

theorem mm_at (s0 s1 s2 : FVec Ideal S2x16x8192x8192 .f32) (i : S2x16x8192.Idx) :
    mm s0 s1 s2 i = max (max (mx s0 i) (mx s1 i)) (mx s2 i) := by
  unfold mm; exact max3_at _ _ _ i

theorem expsub_at (x y : FVec Ideal S2x16x8192 .f32) (i : S2x16x8192.Idx) : Host.exp (subf x y) i = Ideal.exp (x i - y i) := rfl

theorem wg_at (s s0 s1 s2 : FVec Ideal S2x16x8192x8192 .f32) (i : S2x16x8192.Idx) :
    wg s s0 s1 s2 i = Ideal.exp (mx s i - mm s0 s1 s2 i) := by
  unfold wg; exact expsub_at _ _ i

theorem mixG_at (w0 w1 w2 d0 d1 d2 : FVec Ideal S2x16x8192 .f32) (n0 n1 n2 : FVec Ideal S2x16x8192x256 .f32)
    (b : Fin 2) (h : Fin 16) (t : Fin 8192) (e : Fin 256) :
    mixG w0 w1 w2 d0 d1 d2 n0 n1 n2 (ix4 b h t e) = Ideal.div
      (w0 (ix3 b h t) * n0 (ix4 b h t e) + w1 (ix3 b h t) * n1 (ix4 b h t e) + w2 (ix3 b h t) * n2 (ix4 b h t e))
      (w0 (ix3 b h t) * d0 (ix3 b h t) + w1 (ix3 b h t) * d1 (ix3 b h t) + w2 (ix3 b h t) * d2 (ix3 b h t)) := by
  pointwise [mixG, spread]

theorem outG_at (x : FVec Ideal S2x16x8192x256 .f32) (b : Fin 2) (t : Fin 8192) (h : Fin 16) (e : Fin 256) :
    (truncf .bf16 (shapeCast _ (transpose S2x8192x16x256 [0, 2, 1, 3] x
      transposes_S2x16x8192x256_S2x8192x16x256_0_2_1_3) shapeCasts_S2x8192x16x256_S2x8192x4096) bitsLt_bf16_f32 : FVec Ideal S2x8192x4096 .bf16)
      (ix3 b t (⟨h.val * 256 + e.val, by omega⟩ : Fin 4096)) = x (ix4 b h t e) := by
  have := e.isLt
  pointwise

theorem qAll_at (b : Fin 2) (t : Fin 8192) (g : Fin 3) (h : Fin 16) (d : Fin 128) :
    qAll A (ix5 b t g h d) = Ideal.div (A (ix3 b t (qcol g h d))) ((Real.sqrt 128 : ℝ) : EReal) := by
  have := d.isLt
  pointwise [qAll]
  rw [Consts.c128, Ideal.sqrt_coe, if_neg (by norm_num)]
  congr 3
  exact Fin.ext (by show g.val * 2048 + h.val * 128 + d.val = (g.val * 16 + h.val) * 128 + d.val; omega)

theorem kAll_at (b : Fin 2) (t : Fin 8192) (g : Fin 3) (h : Fin 16) (d : Fin 128) :
    kAll A (ix5 b t g h d) = A (ix3 b t (kcol g h d)) := by
  have := d.isLt
  pointwise [kAll]
  congr 2
  exact Fin.ext (by show 6144 + (g.val * 2048 + h.val * 128 + d.val) = 6144 + ((g.val * 16 + h.val) * 128 + d.val); omega)

theorem vAll_at (b : Fin 2) (t : Fin 8192) (h : Fin 16) (d : Fin 256) :
    vAll A (ix4 b t h d) = A (ix3 b t (vcol h d)) := by
  have := d.isLt
  pointwise [vAll]
  rfl

theorem sel0_at (x : FVec Ideal S2x8192x3x16x128 .f32) (b : Fin 2) (t : Fin 8192) (h : Fin 16) (d : Fin 128) :
    sel0 x (ix4 b t h d) = x (ix5 b t 0 h d) := by
  pointwise [sel0]
theorem sel1_at (x : FVec Ideal S2x8192x3x16x128 .f32) (b : Fin 2) (t : Fin 8192) (h : Fin 16) (d : Fin 128) :
    sel1 x (ix4 b t h d) = x (ix5 b t 1 h d) := by
  pointwise [sel1]
theorem sel2_at (x : FVec Ideal S2x8192x3x16x128 .f32) (b : Fin 2) (t : Fin 8192) (h : Fin 16) (d : Fin 128) :
    sel2 x (ix4 b t h d) = x (ix5 b t 2 h d) := by
  pointwise [sel2]

theorem seen_at (wd dw : BitVec 32) (t j : Fin 8192) : seen wd dw (ix2 t j) = IntOp.andi (IntOp.cmpi .sle (aw (ix2 t j)) wd)
    (IntOp.cmpi .eq (IntOp.remsi .host (aw (ix2 t j)) dw) 0#32) := by
  pointwise [seen]

theorem seen_iff (w d : ℕ) (hw : w < 2 ^ 31) (hd : 0 < d) (hd' : d < 2 ^ 31) (t j : Fin 8192) :
    seen (BitVec.ofNat 32 w) (BitVec.ofNat 32 d) (ix2 t j) = 1#1 ↔ apart t j ≤ w ∧ apart t j % d = 0 := by
  have ha := apart_lt t j
  rw [seen_at, IntOp.andi_eq_one, IntOp.cmpi_sle, IntOp.cmpi_eq, aw_at, toInt_small _ (by omega), toInt_small _ hw]
  rw [IntOp.remsi_eq_zero_iff .host (by rw [BitVec.toNat_ofNat]; omega) d hd (by omega), BitVec.toNat_ofNat, Nat.mod_eq_of_lt (by omega : apart t j < 2 ^ 32)]
  rw [Nat.cast_le]
  first | rfl | rw [Nat.dvd_iff_mod_eq_zero]

/-! ## The value on finite arrays -/

variable (X : Fin 2 → Fin 8192 → Fin 16384 → ℝ)

theorem dot_real (g : Fin 3) (b : Fin 2) (h : Fin 16) (t j : Fin 8192) (x y : FVec Ideal S2x8192x16x128 .f32)
    (hA : ∀ b t c, A (ix3 b t c) = ((X b t c : ℝ) : EReal))
    (hx : ∀ t d, x (ix4 b t h d) = qAll A (ix5 b t g h d)) (hy : ∀ t d, y (ix4 b t h d) = kAll A (ix5 b t g h d)) :
    (∑ d : Fin 128, x (ix4 b t h d) * y (ix4 b j h d)) - bias (ix4 b h t j) = ((score X b h t g j : ℝ) : EReal) := by
  have h128 : Real.sqrt 128 ≠ 0 := (Real.sqrt_pos.mpr (by norm_num)).ne'
  simp only [hx, hy, qAll_at, kAll_at, hA, bias_at, Ideal.div_coe h128, ← EReal.coe_mul]
  rw [coe_sum, ← EReal.coe_sub]
  unfold score
  simp only [mul_one_div]

theorem s0_at (hA : ∀ b t c, A (ix3 b t c) = ((X b t c : ℝ) : EReal)) (b : Fin 2) (h : Fin 16) (t j : Fin 8192) :
    s0 A (ix4 b h t j) = if Sees 0 t j then ((score X b h t 0 j : ℝ) : EReal) else ⊥ := by
  unfold s0
  rw [sc_at, dot_real A X 0 b h t j _ _ hA (fun t d => sel0_at _ b t h d) (fun t d => sel0_at _ b t h d)]
  exact if_congr (seen_iff 64 1 (by norm_num) (by norm_num) (by norm_num) t j) rfl rfl
theorem s1_at (hA : ∀ b t c, A (ix3 b t c) = ((X b t c : ℝ) : EReal)) (b : Fin 2) (h : Fin 16) (t j : Fin 8192) :
    s1 A (ix4 b h t j) = if Sees 1 t j then ((score X b h t 1 j : ℝ) : EReal) else ⊥ := by
  unfold s1
  rw [sc_at, dot_real A X 1 b h t j _ _ hA (fun t d => sel1_at _ b t h d) (fun t d => sel1_at _ b t h d)]
  exact if_congr (seen_iff 256 4 (by norm_num) (by norm_num) (by norm_num) t j) rfl rfl
theorem s2_at (hA : ∀ b t c, A (ix3 b t c) = ((X b t c : ℝ) : EReal)) (b : Fin 2) (h : Fin 16) (t j : Fin 8192) :
    s2 A (ix4 b h t j) = if Sees 2 t j then ((score X b h t 2 j : ℝ) : EReal) else ⊥ := by
  unfold s2
  rw [sc_at, dot_real A X 2 b h t j _ _ hA (fun t d => sel2_at _ b t h d) (fun t d => sel2_at _ b t h d)]
  exact if_congr (seen_iff 1024 16 (by norm_num) (by norm_num) (by norm_num) t j) rfl rfl

/-- One group's maximum, sum and numerator. -/
theorem group (s : FVec Ideal S2x16x8192x8192 .f32) (v : FVec Ideal S2x8192x16x256 .f32) (g : Fin 3) (b : Fin 2) (h : Fin 16) (t : Fin 8192)
    (hs : ∀ j, s (ix4 b h t j) = if Sees g t j then ((score X b h t g j : ℝ) : EReal) else ⊥)
    (hv : ∀ j e, v (ix4 b j h e) = ((X b j (vcol h e) : ℝ) : EReal)) :
    ∃ μ : ℝ, mx s (ix3 b h t) = ((μ : ℝ) : EReal) ∧ dn s (ix3 b h t) = ((den X b h t g * Real.exp (-μ) : ℝ) : EReal)
      ∧ ∀ e, nm s v (ix4 b h t e) = ((num X b h t e g * Real.exp (-μ) : ℝ) : EReal) := by
  obtain ⟨μ, hμ⟩ := fold_max_real (fun j => s (ix4 b h t j)) (fun j => Sees g t j) (fun j => score X b h t g j) hs ⟨t, sees_self t g⟩
  have hm : mx s (ix3 b h t) = ((μ : ℝ) : EReal) := (mx_at s b h t).trans hμ
  have he : ∀ j, ex s (ix4 b h t j) = ((wt X b h t g j * Real.exp (-μ) : ℝ) : EReal) := fun j => by
    rw [ex_at, hm, hs]; exact exp_masked _ _ _
  refine ⟨μ, hm, ?_, fun e => ?_⟩
  · rw [dn_at]
    simp only [he]
    rw [coe_sum, ← Finset.sum_mul]
    unfold den
    exact rfl
  · rw [nm_at]
    simp only [he, hv, ← EReal.coe_mul]
    rw [coe_sum]
    refine congrArg (fun x : ℝ => (x : EReal)) ?_
    unfold num
    rw [Finset.sum_mul]
    exact Finset.sum_congr rfl fun j _ => by ring

theorem out_at (hA : ∀ b t c, A (ix3 b t c) = ((X b t c : ℝ) : EReal)) (b : Fin 2) (t : Fin 8192) (h : Fin 16) (e : Fin 256) :
    out A (ix3 b t (⟨h.val * 256 + e.val, by omega⟩ : Fin 4096)) = ((att X b h t e : ℝ) : EReal) := by
  unfold out
  rw [outG_at]
  unfold mixed
  rw [mixG_at]
  have hv : ∀ j e, vAll A (ix4 b j h e) = ((X b j (vcol h e) : ℝ) : EReal) := fun j e => (vAll_at A b j h e).trans (hA _ _ _)
  obtain ⟨μ0, m0, d0, n0⟩ := group X (s0 A) (vAll A) 0 b h t (s0_at A X hA b h t) hv
  obtain ⟨μ1, m1, d1, n1⟩ := group X (s1 A) (vAll A) 1 b h t (s1_at A X hA b h t) hv
  obtain ⟨μ2, m2, d2, n2⟩ := group X (s2 A) (vAll A) 2 b h t (s2_at A X hA b h t) hv
  simp only [wg_at, mm_at, m0, m1, m2, max_coe]
  rw [n0 e, n1 e, n2 e, d0, d1, d2]
  exact mix_exp3 _ _ _ _ _ _ μ0 μ1 μ2 _ (den_pos X b h t 0) (den_pos X b h t 1) (den_pos X b h t 2)

end Cert.ReferenceIdeal.RefVal

end
-- ==== Proof.PreFin.lean ====
/-
  What the precondition gives: an argument whose every element is a real number.
-/
module

public import proofs.«01_k».proof.Defs
public import proofs.«01_k».proof.Proof.Consts
public import Idealize.ShloMosaic.Lib.ReduceAll
public import Idealize.ShloMosaic.Lib.Pointwise

@[expose] public section

noncomputable section

namespace Cert.Pre_finite

open Idealize.ShloMosaic

theorem facts : Cert.Pre_finite.Facts where
  bcast_S_S2x8192x16384 := by decide
  reducesTo_S2x8192x16384_S_d0_1_2 := by decide
  h_S_ := by decide

variable [Facts]
open Facts

theorem real_of_lt (x : EReal) (h : Ideal.cmp .olt (max x (-x)) ⊤ = 1#1) : ∃ r : ℝ, x = (r : EReal) := by
  induction x with
  | bot => exact absurd h (by simp [Ideal.cmp])
  | top => exact absurd h (by simp [Ideal.cmp])
  | coe r => exact ⟨r, rfl⟩

theorem reals (A : FVec Ideal S2x8192x16384 .f32) (h : fn (F := Ideal) A = fun _ => 1#1) :
    ∃ X : Fin 2 → Fin 8192 → Fin 16384 → ℝ, ∀ b t k, A (ix3 b t k) = ((X b t k : ℝ) : EReal) := by
  have hall : ∀ i, ∃ r : ℝ, A i = (r : EReal) := by
    intro i
    dsimp only [fn] at h
    haveI : Subsingleton S_.Idx := ⟨fun a b => funext fun d => d.elim0⟩
    have h1 := Host.reduce_andi_all _ _ _ _ (fun d => d.elim0) (congrFun h _) i
    refine real_of_lt (A i) ?_
    refine Eq.trans ?_ h1
    show _ = Ideal.cmp .olt (max (A i) (-(A i))) (Ideal.ofBits .f32 0x7F800000#32)
    rw [Cert.Consts.ctop]
  choose f hf using hall
  exact ⟨fun b t k => f (ix3 b t k), fun b t k => hf _⟩

end Cert.Pre_finite

end
-- ==== Proof.Algebra.lean ====
/-
  The value claim: on finite arguments the kernel and the reference leave the same attention.
-/
module

public import proofs.«01_k».proof.Defs
public import proofs.«01_k».proof.Proof.KerArr
public import proofs.«01_k».proof.Proof.RefVal
public import proofs.«01_k».proof.Proof.PreFin
public import proofs.«01_k».proof.Proof.Gen.ReferenceIdeal.Run

@[expose] public section

noncomputable section

namespace Cert.Proof

open Idealize.ShloMosaic Idealize.ShloMosaic.TcCoe Idealize.SL.Sem

/-- The reference's result is the attention at every element. -/
theorem ref_arr (A : FVec Ideal Cert.ReferenceIdeal.S2x8192x16384 .f32) (X : Fin 2 → Fin 8192 → Fin 16384 → ℝ)
    (hA : ∀ b t k, A (ix3 b t k) = ((X b t k : ℝ) : EReal)) : Cert.ReferenceIdeal.RefVal.out A = Cert.KernelIdeal.Ker.attArr X := by
  funext i
  obtain ⟨b, t, h, e, rfl⟩ : ∃ (b : Fin 2) (t : Fin 8192) (h : Fin 16) (e : Fin 256),
      i = ix3 b t (⟨h.val * 256 + e.val, by omega⟩ : Fin 4096) := by
    have h2 : (i 2).val < 4096 := (i 2).isLt
    refine ⟨i 0, i 1, ⟨(i 2).val / 256, by omega⟩, ⟨(i 2).val % 256, by omega⟩, ?_⟩
    funext a
    fin_cases a
    · rfl
    · rfl
    · exact Fin.ext (by show (i 2).val = (i 2).val / 256 * 256 + (i 2).val % 256; omega)
  rw [Cert.ReferenceIdeal.RefVal.out_at A X hA]
  unfold Cert.KernelIdeal.Ker.attArr
  refine congrArg (fun x : ℝ => (x : EReal)) (Cert.KernelIdeal.Ker.attE X _ _ _ _ _ _ _ _ rfl ?_ rfl ?_)
  · show h.val = (h.val * 256 + e.val) / 256; omega
  · show e.val = (h.val * 256 + e.val) % 256; omega

theorem algebraic [Cert.Pre_finite.Facts] : Cert.algebraic_KernelIdeal_ReferenceIdeal_pre_finite := by
  intro m ρ m' ρ' hpre hagree
  choose X hX using fun c => Cert.Pre_finite.reals _ (hpre c)
  refine ⟨fun c => Cert.KernelIdeal.Ker.attArr (X c), ?_, ?_⟩
  · exact (θ_run Cert.KernelIdeal.defs _ _).mono
      (fun r h c => ⟨(h.1.out_eq c 8).trans (Cert.KernelIdeal.Ker.arr m c (X c) (hX c)),
        (h.1.rest_eq c Cert.KernelIdeal.main_arg0 (Pipeline.mem_restRefs_of Cert.KernelIdeal.main_arg0 (by decide) (by decide))).trans
          (Cert.KernelIdeal.Gen.V_main_arg0 m c)⟩)
      (Cert.KernelIdeal.Blk.run m ρ)
  · exact (θ_run Cert.ReferenceIdeal.defs _ _).mono
      (fun _ h c => ⟨(h c).1.trans ((Cert.ReferenceIdeal.RefVal.res_eq m' c).trans (by rw [hagree c]; exact ref_arr _ (X c) (hX c))), (h c).2⟩)
      (Cert.ReferenceIdeal.Value.run (F := Ideal) m' ρ')

end Cert.Proof

end
-- ==== Proof.MmBody.lean ====
/-
  The blocked product with a squared ReLU: the body at a grid point.
-/
module

public import proofs.«01_k».proof.Proof.Gen.Kernel2Ideal.Frame
public import Idealize.ShloMosaic.Lib.Pipeline.Routed
public import Idealize.ShloMosaic.Lib.Tactic
public import Idealize.ShloMosaic.Lib.VecWindow

@[expose] public section

set_option maxRecDepth 16384

noncomputable section

namespace Cert.Kernel2Ideal.Mm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weights, and the two scratch buffers: a column block as fetched and as narrowed. -/
abbrev wM : Memref sig .tc .hbm S4x4096x16384 .f32 := Memref.whole main_arg1
abbrev sM : Memref sig .tc .vmem S4096x1024 .f32 := Memref.whole cc0_scratch0
abbrev bM : Memref sig .tc .vmem S4096x1024 .bf16 := Memref.whole cc0_scratch1

/-- A column block of the weights. -/
abbrev colM (off : Fin 3 → ℕ) (h : ∀ a, off a + S1x4096x1024.size a ≤ S4x4096x16384.size a) : Memref sig .tc .hbm S4096x1024 .f32 :=
  (wM.slice (Rect.unit (s := S4x4096x16384) off S1x4096x1024.size h) (fun _ => rfl)).squeeze S4096x1024 squeezes_S1x4096x1024_S4096x1024

/-- A column block's elements. -/
def colV (off : Fin 3 → ℕ) (h : ∀ a, off a + S1x4096x1024.size a ≤ S4x4096x16384.size a) (f : (⟨S4x4096x16384, .f32⟩ : BufTy).Contents (Elt F)) :
    S4096x1024.Idx → Elt F .f32 := (colM off h).view.read (Elt F) f

/-- The column block narrowed, as the scratch keeps it. -/
def narrow (g : S4096x1024.Idx → Elt F .f32) : S4096x1024.Idx → Elt F .bf16 :=
  shapeCast S4096x1024 (truncf .bf16 (g : FVec F S4096x1024 .f32) bitsLt_bf16_f32) shapeCasts_S4096x1024_S4096x1024

/-- The block of the output: the product, its positive part, squared. -/
def outv (x : S1024x4096.Idx → Elt F .bf16) (w : S4096x1024.Idx → Elt F .bf16) : S1024x1024.Idx → Elt F .bf16 :=
  let v5 : FVec F S1024x1024 .f32 := matmul dot_S1024x4096_S4096x1024_S1024x1024_1_0_0_1_n_n none (x : FVec F S1024x4096 .bf16) (w : FVec F S4096x1024 .bf16) (constant S1024x1024 .f32 0x00000000#32)
  let v7 : FVec F S1024x1024 .f32 := maximumf v5 (broadcast S1024x1024 (Scalar.ofBits .f32 0x00000000#32 : F .f32))
  truncf .bf16 (mulf v7 v7) bitsLt_bf16_f32

/-- A column block in flight to its scratch. -/
abbrev fly (c : Dev nD) (off : Fin 3 → ℕ) (h : ∀ a, off a + S1x4096x1024.size a ≤ S4x4096x16384.size a)
    (f : (⟨S4x4096x16384, .f32⟩ : BufTy).Contents (Elt F)) : sProp 𝕄 :=
  Transfers.Flight (countersEmb (U := Pipeline.UD sig nD τ)) c.tc (SemLoc.dma 4) () 524288
    iprop((sM.view.loc c.tc ↦[sM.view.set]{fullShare} colV off h f)
      ∗ ((colM off h).view.loc c.tc ↦[(colM off h).view.set]{fullShare} f))

/-- The rest of the weights, meanwhile. -/
abbrev rest (c : Dev nD) (off : Fin 3 → ℕ) (h : ∀ a, off a + S1x4096x1024.size a ≤ S4x4096x16384.size a)
    (f : (⟨S4x4096x16384, .f32⟩ : BufTy).Contents (Elt F)) : sProp 𝕄 :=
  (wM.view.loc c.tc ↦[Finset.univ \ (colM off h).view.set]{fullShare} f)

/-- The weights whole, whichever view names them. -/
theorem whole_back (c : Dev nD) (off : Fin 3 → ℕ) (h : ∀ a, off a + S1x4096x1024.size a ≤ S4x4096x16384.size a)
    (f : (⟨S4x4096x16384, .f32⟩ : BufTy).Contents (Elt F)) :
    ((colM off h).view.loc c.tc ↦{fullShare} f : sProp 𝕄) ⊢ (wM.view.loc c.tc ↦{fullShare} f) := .rfl

/-- A buffer's contents after it is overwritten whole. -/
theorem fetched_eq (g w : S4096x1024.Idx → Elt F .f32) (L : List (View.Piece (Elt F) S4096x1024 .f32)) :
    sM.view.writes (Elt F) g (⟨Rect.whole S4096x1024, w⟩ :: L) = w := by
  have h : sM.view.read (Elt F) (sM.view.writes (Elt F) g (⟨Rect.whole S4096x1024, w⟩ :: L)) = w := by
    funext y
    have h := View.read_writes_cons_emb sM.view g (Rect.whole S4096x1024) w L y
    rwa [Rect.emb_whole_apply] at h
  generalize sM.view.writes (Elt F) g (⟨Rect.whole S4096x1024, w⟩ :: L) = z at h
  exact h

/-- A flight the executor starts, as the invariant names it. -/
theorem fly_of (c : Dev nD) (off : Fin 3 → ℕ) (h : ∀ a, off a + S1x4096x1024.size a ≤ S4x4096x16384.size a)
    (f : (⟨S4x4096x16384, .f32⟩ : BufTy).Contents (Elt F)) (g w : S4096x1024.Idx → Elt F .f32) (L : List (View.Piece (Elt F) S4096x1024 .f32)) (hw : w = colV off h f) :
    (Transfers.Flight (countersEmb (U := Pipeline.UD sig nD τ)) c.tc (SemLoc.dma ⟨4, by decide⟩) (default : Unit) 524288
    iprop((sM.view.loc c.tc ↦[sM.view.set]{fullShare} sM.view.writes (Elt F) g (⟨Rect.whole S4096x1024, w⟩ :: L))
      ∗ (wM.view.loc c.tc ↦[(colM off h).view.set]{fullShare} f)) : sProp 𝕄) ⊢ fly c off h f := by
  unfold fly

  rw [fetched_eq, hw]
  exact .rfl

/-- A buffer loaded whole after it is fetched whole. -/
theorem first_load [∀ e, Nonempty (Elt F e)] (w : S4096x1024.Idx → Elt F .f32) (inb : ∀ a, (![0, 0] : Fin 2 → ℕ) a + S4096x1024.size a ≤ S4096x1024.size a) :
    sM.view.readCov [⟨Rect.whole S4096x1024, w⟩] (Rect.unit ![0, 0] S4096x1024.size inb).toLoadRect = w :=
  (View.readAt_full sM.view _ inb).trans (View.read_writes_whole sM.view _ w)

/-- A buffer stored whole. -/
theorem stored {S : Shape} {e : EltTy} (c : Dev nD) (M : Memref sig .tc .vmem S e) (D : M.view.ty.Contents (Elt F)) (off : Fin S.rank → ℕ)
    (inb : ∀ a, off a + S.size a ≤ S.size a) (w w' : S.Idx → Elt F e) (h : w = w') :
    (M.view.loc c.tc ↦[M.view.set]{fullShare} M.view.writes (Elt F) D [⟨Rect.unit off S.size inb, w⟩] : sProp 𝕄)
      ⊢ iprop(∃ f, ⌜M.view.read (Elt F) f = w'⌝ ∗ (M.view.loc c.tc ↦[M.view.set]{fullShare} f)) := by
  iintro H
  iexists _
  isplitr
  · ipureintro; exact (View.read_writes_full M.view D inb w []).trans h
  · iexact H

theorem inb4 : ∀ a, (![0, 0] : Fin 2 → ℕ) a + S1024x1024.size a ≤ S1024x1024.size a := by decide
theorem inbB : ∀ a, (![0, 0] : Fin 2 → ℕ) a + S4096x1024.size a ≤ S4096x1024.size a := by decide

variable (c : Dev nD) (i : grid0.Coords) (arg2 : Memref sig .tc .vmem S1024x4096 .bf16) (harg2 : arg2.IsWhole)
  (arg4 : Memref sig .tc .vmem S1024x1024 .bf16) (harg4 : arg4.IsWhole)

abbrev body : Prog (TpuEff nD τ sig (Elt F) Λ₀ .tc) PUnit :=
  cc0_matmul_relu2 i arg2 harg2 wM (Memref.isWhole_whole _) arg4 harg4 sM (Memref.isWhole_whole _) bM (Memref.isWhole_whole _) cc0_scratch2

/-- A later row block: the column block is already narrowed. -/
theorem mid_run (h1 : ¬ k0_cond1 i = 1#1) (x : S1024x4096.Idx → Elt F .bf16) (w : S4096x1024.Idx → Elt F .bf16)
    (K : PUnit → sProp 𝕄) :
    iprop(owns c.tc arg2 fullShare x ∗ owns c.tc bM fullShare w ∗ (∃ d, owns c.tc arg4 fullShare d)
      ∗ ((owns c.tc arg2 fullShare x ∗ owns c.tc bM fullShare w ∗ owns c.tc arg4 fullShare (outv x w)) -∗ K ⟨⟩))
    ⊢ wp frame (wpE (defs₀ (F := F)) Variants.none c.tc none) Set.univ (body i arg2 harg2 arg4 harg4) K := by
  unfold body cc0_matmul_relu2
  rw [dif_neg h1]
  unfold owns
  iintro ⟨⟨%X, %eX, HX⟩, ⟨%B, %eB, HB⟩, ⟨%d, %D, -, HD⟩, Hk⟩
  sl_exec
  have e : mid_run.sl.v9 c arg2 X B = outv x w :=
    congrArg₂ (outv (F := F)) ((View.readAt_full arg2.view X _).trans eX) ((View.readAt_full bM.view B _).trans eB)
  sl_step
  iapply Hk
  isplitl [HX]
  · iexists X; isplitr; · ipureintro; exact eX
    iexact HX
  isplitl [HB]
  · iexists B; isplitr; · ipureintro; exact eB
    iexact HB
  iapply (stored c arg4 D ![0, 0] inb4 _ _ e)
  iexact HD

theorem inb0 : ∀ a, (![0, 0, 0] : Fin 3 → ℕ) a + S1x4096x1024.size a ≤ S4x4096x16384.size a := by decide

/-- A later column block: the flight is awaited, narrowed, and the next one started. -/
theorem next_run (h1 : k0_cond1 i = 1#1) (h2 : ¬ k0_cond2 i = 1#1) (h3 : k0_cond3 i = 1#1) (x : S1024x4096.Idx → Elt F .bf16) (off h f)
    (W : Waits sig Unit) (K : PUnit → sProp 𝕄) :
    iprop(owns c.tc arg2 fullShare x ∗ (∃ w, owns c.tc bM fullShare w) ∗ (∃ d, owns c.tc arg4 fullShare d)
      ∗ fly c off h f ∗ rest c off h f ∗ owes c.tc 0 W
      ∗ ((owns c.tc arg2 fullShare x ∗ owns c.tc bM fullShare (narrow (colV off h f)) ∗ owns c.tc arg4 fullShare (outv x (narrow (colV off h f)))
        ∗ fly c (k0_off2 i) (Facts₀.k0_off2_inb i h1 h3) f ∗ rest c (k0_off2 i) (Facts₀.k0_off2_inb i h1 h3) f ∗ (∃ W', owes c.tc 0 W')) -∗ K ⟨⟩))
    ⊢ wp frame (wpE (defs₀ (F := F)) Variants.none c.tc none) Set.univ (body i arg2 harg2 arg4 harg4) K := by
  unfold body cc0_matmul_relu2
  rw [dif_pos h1, dif_neg h2, dif_pos h3]
  unfold owns fly rest
  iintro ⟨⟨%X, %eX, HX⟩, ⟨%wd, %B, -, HB⟩, ⟨%d, %D, -, HD⟩, HF, HR, HW, Hk⟩
  sl_exec
  ihave HR := (whole_back c off h f) $$ HR
  sl_exec
  have e1 : next_run.sl.v22 off h f = narrow (colV off h f) := by
    delta next_run.sl.v22 next_run.sl.v19
    exact congrArg (narrow (F := F)) (View.readAt_full sM.view (colV off h f) _)
  have e2 : next_run.sl.v4 c off h f = narrow (colV off h f) := by
    exact (View.readCov_full bM.view _ _ _ _).trans e1
  have e : next_run.sl.v9 c arg2 off h f X = outv x (narrow (colV off h f)) :=
    congrArg₂ (outv (F := F)) ((View.readAt_full arg2.view X _).trans eX) e2
  sl_step
  ihave HF := (fly_of c (k0_off2 i) (Facts₀.k0_off2_inb i h1 h3) f (colV off h f) (next_run.sl.dma0 i h1 h3 f) [] rfl) $$ HF
  iapply Hk
  isplitl [HX]
  · iexists X; isplitr; · ipureintro; exact eX
    iexact HX
  isplitl [HB]
  · iapply (stored c bM B ![0, 0] inbB _ _ e1)
    iexact HB
  isplitl [HD]
  · iapply (stored c arg4 D ![0, 0] inb4 _ _ e)
    iexact HD
  iframe HF HR
  iexists _; iexact HW

/-- The last column block: the flight is awaited and narrowed. -/
theorem last_run (h1 : k0_cond1 i = 1#1) (h2 : ¬ k0_cond2 i = 1#1) (h3 : ¬ k0_cond3 i = 1#1) (x : S1024x4096.Idx → Elt F .bf16) (off h f)
    (W : Waits sig Unit) (K : PUnit → sProp 𝕄) :
    iprop(owns c.tc arg2 fullShare x ∗ (∃ w, owns c.tc bM fullShare w) ∗ (∃ d, owns c.tc arg4 fullShare d)
      ∗ fly c off h f ∗ rest c off h f ∗ owes c.tc 0 W
      ∗ ((owns c.tc arg2 fullShare x ∗ owns c.tc bM fullShare (narrow (colV off h f)) ∗ owns c.tc arg4 fullShare (outv x (narrow (colV off h f)))
        ∗ semVal (c.tc, SemLoc.dma 4) 0 ∗ (sM.view.loc c.tc ↦[sM.view.set]{fullShare} colV off h f) ∗ (wM.view.loc c.tc ↦{fullShare} f) ∗ (∃ W', owes c.tc 0 W')) -∗ K ⟨⟩))
    ⊢ wp frame (wpE (defs₀ (F := F)) Variants.none c.tc none) Set.univ (body i arg2 harg2 arg4 harg4) K := by
  unfold body cc0_matmul_relu2
  rw [dif_pos h1, dif_neg h2, dif_neg h3]
  unfold owns fly rest
  iintro ⟨⟨%X, %eX, HX⟩, ⟨%wd, %B, -, HB⟩, ⟨%d, %D, -, HD⟩, HF, HR, HW, Hk⟩
  sl_exec
  ihave HR := (whole_back c off h f) $$ HR
  sl_exec
  have e1 : last_run.sl.v22 off h f = narrow (colV off h f) := by
    delta last_run.sl.v22 last_run.sl.v19
    exact congrArg (narrow (F := F)) (View.readAt_full sM.view (colV off h f) _)
  have e2 : last_run.sl.v4 c off h f = narrow (colV off h f) := by
    exact (View.readCov_full bM.view _ _ _ _).trans e1
  have e : last_run.sl.v9 c arg2 off h f X = outv x (narrow (colV off h f)) :=
    congrArg₂ (outv (F := F)) ((View.readAt_full arg2.view X _).trans eX) e2
  sl_step
  iapply Hk
  isplitl [HX]
  · iexists X; isplitr; · ipureintro; exact eX
    iexact HX
  isplitl [HB]
  · iapply (stored c bM B ![0, 0] inbB _ _ e1)
    iexact HB
  isplitl [HD]
  · iapply (stored c arg4 D ![0, 0] inb4 _ _ e)
    iexact HD
  iframe HF HF_dst HR
  iexists _; iexact HW

/-- The first point: the first column block is fetched, narrowed, and the second one's flight started. -/
theorem first_run (h1 : k0_cond1 i = 1#1) (h2 : k0_cond2 i = 1#1) (h3 : k0_cond3 i = 1#1) (x : S1024x4096.Idx → Elt F .bf16)
    (f : (⟨S4x4096x16384, .f32⟩ : BufTy).Contents (Elt F))
    (g : S4096x1024.Idx → Elt F .f32) (W : Waits sig Unit) (K : PUnit → sProp 𝕄) :
    iprop(owns c.tc arg2 fullShare x ∗ (∃ w, owns c.tc bM fullShare w) ∗ (∃ d, owns c.tc arg4 fullShare d)
      ∗ semVal (c.tc, SemLoc.dma 4) 0 ∗ (sM.view.loc c.tc ↦[sM.view.set]{fullShare} g) ∗ (wM.view.loc c.tc ↦{fullShare} f) ∗ owes c.tc 0 W
      ∗ ((owns c.tc arg2 fullShare x ∗ owns c.tc bM fullShare (narrow (colV ![0, 0, 0] inb0 f)) ∗ owns c.tc arg4 fullShare (outv x (narrow (colV ![0, 0, 0] inb0 f)))
        ∗ fly c (k0_off2 i) (Facts₀.k0_off2_inb i h1 h3) f ∗ rest c (k0_off2 i) (Facts₀.k0_off2_inb i h1 h3) f ∗ (∃ W', owes c.tc 0 W')) -∗ K ⟨⟩))
    ⊢ wp frame (wpE (defs₀ (F := F)) Variants.none c.tc none) Set.univ (body i arg2 harg2 arg4 harg4) K := by
  unfold body cc0_matmul_relu2
  rw [dif_pos h1, dif_pos h2, dif_pos h3]
  unfold owns fly rest
  iintro ⟨⟨%X, %eX, HX⟩, ⟨%wd, %B, -, HB⟩, ⟨%d, %D, -, HD⟩, HF, HS, HR, HW, Hk⟩
  sl_exec
  have e1 : first_run.sl.v22 f = narrow (colV ![0, 0, 0] inb0 f) := by
    delta first_run.sl.v22 first_run.sl.v19
    refine congrArg (narrow (F := F)) ?_
    delta first_run.sl.v18
    exact (first_load _ _).trans rfl
  have e2 : first_run.sl.v4 c f = narrow (colV ![0, 0, 0] inb0 f) := by
    exact (View.readCov_full bM.view _ _ _ _).trans e1
  have e : first_run.sl.v9 c arg2 f X = outv x (narrow (colV ![0, 0, 0] inb0 f)) :=
    congrArg₂ (outv (F := F)) ((View.readAt_full arg2.view X _).trans eX) e2
  sl_step
  ihave HF := (fly_of c (k0_off2 i) (Facts₀.k0_off2_inb i h1 h3) f g (first_run.sl.dma3 i h1 h3 f) [⟨Rect.whole S4096x1024, first_run.sl.dma0 f⟩] rfl) $$ HF
  iapply Hk
  isplitl [HX]
  · iexists X; isplitr; · ipureintro; exact eX
    iexact HX
  isplitl [HB]
  · iapply (stored c bM B ![0, 0] inbB _ _ e1)
    iexact HB
  isplitl [HD]
  · iapply (stored c arg4 D ![0, 0] inb4 _ _ e)
    iexact HD
  iframe HF HR
  iexists _; iexact HW

end Cert.Kernel2Ideal.Mm

end
-- ==== Proof.MmLaunch.lean ====
/-
  The blocked product with a squared ReLU: what holds between points, the body at every point, the run of the program.
-/
module

public import proofs.«01_k».proof.Proof.MmBody
public import Idealize.ShloMosaic.Adequacy
public import Idealize.ShloMosaic.Init

@[expose] public section

set_option maxRecDepth 16384

noncomputable section

namespace Cert.Kernel2Ideal.Mm

open Cert.Kernel2Ideal Cert.Kernel2Ideal.Gen
open Idealize.ShloMosaic.Pipeline (Dat BodyObligation)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A column block's place in the weights. -/
def offs (j : ℕ) : Fin 3 → ℕ := ![0, 0, 1024 * j]

theorem offs_inb {j : ℕ} (h : j < 16) : ∀ a, offs j a + S1x4096x1024.size a ≤ S4x4096x16384.size a := by
  intro a
  fin_cases a
  · show 0 + 1 ≤ 4; omega
  · show 0 + 4096 ≤ 4096; omega
  · show 1024 * j + 1024 ≤ 16384; omega

/-- Column block `j`, narrowed. -/
def wblk (f : (⟨S4x4096x16384, .f32⟩ : BufTy).Contents (Elt F)) (j : Fin 16) : S4096x1024.Idx → Elt F .bf16 :=
  narrow (colV (offs j.val) (offs_inb j.isLt) f)

theorem wblk_of (f : (⟨S4x4096x16384, .f32⟩ : BufTy).Contents (Elt F)) (j : Fin 16) (off h) (e : off = offs j.val) :
    narrow (colV off h f) = wblk f j := by
  subst e; rfl

/-- The column block of a point. -/
def jn (n : ℕ) : Fin 16 := ⟨n / 16 % 16, by omega⟩

/-- No flight: the counter at zero, the scratch at anything, the weights whole. -/
def still (c : Dev nD) (f : (⟨S4x4096x16384, .f32⟩ : BufTy).Contents (Elt F)) : sProp 𝕄 :=
  iprop(semVal (c.tc, SemLoc.dma 4) 0 ∗ (∃ g, (sM.view.loc c.tc ↦[sM.view.set]{fullShare} g))
    ∗ (wM.view.loc c.tc ↦{fullShare} f))

/-- Column block `j` in flight, if there is one. -/
def flying (c : Dev nD) (j : ℕ) (f : (⟨S4x4096x16384, .f32⟩ : BufTy).Contents (Elt F)) : sProp 𝕄 :=
  if h : j < 16 then iprop(fly c (offs j) (offs_inb h) f ∗ rest c (offs j) (offs_inb h) f) else still c f

/-- The transfers before point `n`. -/
def state (c : Dev nD) (n : ℕ) (f : (⟨S4x4096x16384, .f32⟩ : BufTy).Contents (Elt F)) : sProp 𝕄 :=
  if n = 0 then still c f else flying c ((n - 1) / 16 + 1) f

theorem state_zero (c : Dev nD) {n : ℕ} (h : n = 0) (f : (⟨S4x4096x16384, .f32⟩ : BufTy).Contents (Elt F)) :
    (state c n f : sProp 𝕄) = still c f := if_pos h

theorem state_pos (c : Dev nD) {n j : ℕ} (h : n ≠ 0) (e : (n - 1) / 16 + 1 = j) (f : (⟨S4x4096x16384, .f32⟩ : BufTy).Contents (Elt F)) :
    (state c n f : sProp 𝕄) = flying c j f := by subst e; exact if_neg h

theorem flying_eq (c : Dev nD) {j : ℕ} (hj : j < 16) (f : (⟨S4x4096x16384, .f32⟩ : BufTy).Contents (Elt F)) :
    (flying c j f : sProp 𝕄) = iprop(fly c (offs j) (offs_inb hj) f ∗ rest c (offs j) (offs_inb hj) f) := dif_pos hj

theorem flying_end (c : Dev nD) {j : ℕ} (hj : ¬ j < 16) (f : (⟨S4x4096x16384, .f32⟩ : BufTy).Contents (Elt F)) :
    (flying c j f : sProp 𝕄) = still c f := dif_neg hj

theorem flying_of (c : Dev nD) {j : ℕ} (hj : j < 16) (f : (⟨S4x4096x16384, .f32⟩ : BufTy).Contents (Elt F)) (off h) (e : off = offs j) :
    (iprop(fly c off h f ∗ rest c off h f) : sProp 𝕄) ⊢ flying c j f := by
  subst e
  unfold flying
  rw [dif_pos hj]

/-- Between points: the column block narrowed once its first row block has run, the transfers, the generator. -/
def Φc (c : Dev nD) (n : ℕ) : sProp 𝕄 :=
  iprop((∃ w, ⌜n % 16 ≠ 0 → w = wblk (V m c main_arg1) (jn n)⌝ ∗ owns c.tc bM fullShare w)
    ∗ state c n (V m c main_arg1) ∗ ∃ r, prngReg c r)

/-- The block of the output a point leaves. -/
def outBlk (c : Dev nD) (t : Fin cfg0.N) : S1024x1024.Idx → Elt F .bf16 := outv (iblk m c 0 t) (wblk (V m c main_arg1) (jn t.val))

/-- The data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outBlk m c t
  Φ t := Φc m c t.val
  q _ := fullShare
  owed _ := 0

theorem is1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem is2 : ∀ t : Fin cfg0.N, k0_cond2 (grid0.coords t) = 1#1 ↔ t.val / 16 = 0 :=
  (by decide +kernel : ∀ t : Fin grid0.N, k0_cond2 (grid0.coords t) = 1#1 ↔ t.val / 16 = 0)
theorem is3 : ∀ t : Fin cfg0.N, k0_cond3 (grid0.coords t) = 1#1 ↔ t.val / 16 + 1 < 16 :=
  (by decide +kernel : ∀ t : Fin grid0.N, k0_cond3 (grid0.coords t) = 1#1 ↔ t.val / 16 + 1 < 16)
theorem coord0 : ∀ t : Fin cfg0.N, (grid0.coords t 0).val = t.val / 16 :=
  (by decide +kernel : ∀ t : Fin grid0.N, (grid0.coords t 0).val = t.val / 16)

theorem off2 (t : Fin cfg0.N) : k0_off2 (grid0.coords t) = offs (t.val / 16 + 1) := by
  rw [k0_off2_eq, coord0 t]; unfold offs
  funext a
  fin_cases a
  · rfl
  · rfl
  · show 1024 * (t.val / 16) + 1024 = 1024 * (t.val / 16 + 1); omega

theorem defs₀_row (t : Fin cfg0.N) : (defs₀ (F := F)) .tc cfg0.body (cfg0.bodyArgs t (cfg0.slots t)) = bodyAt0 t := by
  unfold defs₀; rw [Defs.onTc_tc]

/-- The body at a point, from the buffers to the buffers. -/
theorem step (c : Dev nD) (t : Fin cfg0.N) (W : Waits sig Unit) (K : PUnit → sProp 𝕄) :
    iprop(Φc m c t.val ∗ owes c.tc 0 W ∗ owns c.tc (win0_0.stage (cfg0.slots t 0)) fullShare (iblk m c 0 t)
      ∗ (∃ d, owns c.tc (win0_1.stage (cfg0.slots t 1)) fullShare d)
      ∗ ((Φc m c (t.val + 1) ∗ (∃ W', owes c.tc 0 W') ∗ owns c.tc (win0_0.stage (cfg0.slots t 0)) fullShare (iblk m c 0 t)
        ∗ owns c.tc (win0_1.stage (cfg0.slots t 1)) fullShare (outBlk m c t)) -∗ K ⟨⟩))
    ⊢ wp frame (wpE (defs₀ (F := F)) Variants.none c.tc none) Set.univ (bodyAt0 t) K := by
  have ht : t.val < 256 := t.isLt
  unfold Φc outBlk
  by_cases h1 : t.val % 16 = 0
  · by_cases h2 : t.val / 16 = 0
    · have h0 : t.val = 0 := by omega
      have R := fun g => (first_run c (grid0.coords t) _ (hstage0_0 ((cfg0.slots t 0).cast nbuf0_0)) _ (hstage0_1 ((cfg0.slots t 1).cast nbuf0_1)) ((is1 t).2 h1) ((is2 t).2 h2) ((is3 t).2 (by omega)) (iblk m c 0 t) (V m c main_arg1) g W K)
      rw [wblk_of (V m c main_arg1) (jn t.val) ![0, 0, 0] inb0 (by rw [h0]; rfl)] at R
      rw [state_zero c h0, state_pos c (Nat.succ_ne_zero _) (show (t.val + 1 - 1) / 16 + 1 = t.val / 16 + 1 from rfl)]
      unfold still
      iintro ⟨⟨⟨%w, %hw, HB⟩, ⟨HQ, ⟨%g, HS⟩, HR⟩, Hg⟩, HW, HX, HD, Hk⟩
      iapply (R g)
      iframe HX
      isplitl [HB]; · iexists w; iexact HB
      iframe HD HQ HS HR HW
      iintro ⟨HX, HB, HD, HF, HR, HW⟩
      iapply Hk
      isplitl [HB HF HR Hg]
      · isplitl [HB]
        · iexists _; isplitr; swap; · iexact HB
          ipureintro; intro _; rw [h0]; rfl
        isplitl [HF HR]
        · iapply (flying_of c (j := t.val / 16 + 1) (by omega) (V m c main_arg1) _ _ (off2 t))
          iframe HF
          iexact HR
        iexact Hg
      iframe HW HX
      iexact HD
    · have hn : t.val ≠ 0 := by omega
      have hj : t.val / 16 < 16 := by omega
      have hw0 : narrow (colV (offs (t.val / 16)) (offs_inb hj) (V m c main_arg1)) = wblk (V m c main_arg1) (jn t.val) :=
        wblk_of _ _ _ _ (by unfold jn; show _ = offs (t.val / 16 % 16); rw [Nat.mod_eq_of_lt hj])
      have hw1 : wblk (V m c main_arg1) (jn t.val) = wblk (V m c main_arg1) (jn (t.val + 1)) := by
        rw [show jn (t.val + 1) = jn t.val from Fin.ext (by show (t.val + 1) / 16 % 16 = t.val / 16 % 16; omega)]
      rw [state_pos c hn (show (t.val - 1) / 16 + 1 = t.val / 16 from by omega), flying_eq c hj, state_pos c (Nat.succ_ne_zero _) (show (t.val + 1 - 1) / 16 + 1 = t.val / 16 + 1 from rfl)]
      by_cases h3 : t.val / 16 + 1 < 16
      · have R := (next_run c (grid0.coords t) _ (hstage0_0 ((cfg0.slots t 0).cast nbuf0_0)) _ (hstage0_1 ((cfg0.slots t 1).cast nbuf0_1)) ((is1 t).2 h1) (fun h => h2 ((is2 t).1 h)) ((is3 t).2 h3) (iblk m c 0 t) _ (offs_inb hj) (V m c main_arg1) W K)
        rw [hw0] at R
        iintro ⟨⟨⟨%w, %hw, HB⟩, ⟨HF, HR⟩, Hg⟩, HW, HX, HD, Hk⟩
        iapply R
        iframe HX
        isplitl [HB]; · iexists w; iexact HB
        iframe HD HF HR HW
        iintro ⟨HX, HB, HD, HF, HR, HW⟩
        iapply Hk
        isplitl [HB HF HR Hg]
        · isplitl [HB]
          · iexists _; isplitr; swap; · iexact HB
            ipureintro; intro _; exact hw1
          isplitl [HF HR]
          · iapply (flying_of c (j := t.val / 16 + 1) (by omega) (V m c main_arg1) _ _ (off2 t))
            iframe HF
            iexact HR
          iexact Hg
        iframe HW HX
        iexact HD
      · rw [flying_end c h3]
        unfold still
        have R := (last_run c (grid0.coords t) _ (hstage0_0 ((cfg0.slots t 0).cast nbuf0_0)) _ (hstage0_1 ((cfg0.slots t 1).cast nbuf0_1)) ((is1 t).2 h1) (fun h => h2 ((is2 t).1 h)) (fun h => h3 ((is3 t).1 h)) (iblk m c 0 t) _ (offs_inb hj) (V m c main_arg1) W K)
        rw [hw0] at R
        iintro ⟨⟨⟨%w, %hw, HB⟩, ⟨HF, HR⟩, Hg⟩, HW, HX, HD, Hk⟩
        iapply R
        iframe HX
        isplitl [HB]; · iexists w; iexact HB
        iframe HD HF HR HW
        iintro ⟨HX, HB, HD, HQ, HS, HR, HW⟩
        iapply Hk
        isplitl [HB HQ HS HR Hg]
        · isplitl [HB]
          · iexists _; isplitr; swap; · iexact HB
            ipureintro; intro _; exact hw1
          isplitl [HQ HS HR]
          · isplitl [HQ]; · iexact HQ
            isplitl [HS]; · iexists _; iexact HS
            iexact HR
          iexact Hg
        iframe HW HX
        iexact HD
  · rw [state_pos c (show t.val ≠ 0 by omega) rfl, state_pos c (Nat.succ_ne_zero _) (show (t.val + 1 - 1) / 16 + 1 = (t.val - 1) / 16 + 1 from by omega)]
    iintro ⟨⟨⟨%w, %hw, HB⟩, HS, Hg⟩, HW, HX, HD, Hk⟩
    have hw' := hw h1
    subst hw'
    iapply (mid_run c (grid0.coords t) _ (hstage0_0 ((cfg0.slots t 0).cast nbuf0_0)) _ (hstage0_1 ((cfg0.slots t 1).cast nbuf0_1)) (fun h => h1 ((is1 t).1 h)) (iblk m c 0 t) (wblk (V m c main_arg1) (jn t.val)) K)
    iframe HX HB HD
    iintro ⟨HX, HB, HD⟩
    iapply Hk
    isplitl [HB HS Hg]
    · isplitl [HB]
      · iexists _; isplitr; swap; · iexact HB
        ipureintro; intro h
        rw [show jn (t.val + 1) = jn t.val from Fin.ext (by show (t.val + 1) / 16 % 16 = t.val / 16 % 16; omega)]
      isplitl [HS]
      · iexact HS
      iexact Hg
    isplitl [HW]; · iexists W; iexact HW
    iframe HX
    iexact HD

theorem bef0 (c : Dev nD) (t : Fin cfg0.N) (d) : (dats m 0 c).before 0 t d = iblk m c 0 t :=
  ((dats m 0 c).before_in_eq_fetched 0 rfl (fun _ => rfl) (fun _ _ _ => rfl) (fun t => by unfold Dat.blockOf; rfl) t d).trans
    (by unfold Dat.fetched Dat.blockOf; rfl)

/-- The body's triple at a point. -/
theorem sound_body (c : Dev nD) (t : Fin cfg0.N) :
    (iprop(Φc m c t.val ∗ (dats m 0 c).owesAt () t.castSucc
      ∗ (∃ d, owns c.tc (win0_0.stage (cfg0.slots t 0)) fullShare ((dats m 0 c).before 0 t d))
      ∗ (∃ d, owns c.tc (win0_1.stage (cfg0.slots t 1)) fullShare ((dats m 0 c).before 1 t d))) : sProp 𝕄)
    ⊢ wp frame (wpE (defs₀ (F := F)) Variants.none c.tc none) Set.univ (bodyAt0 t) (fun _ =>
      iprop(Φc m c (t.val + 1) ∗ (dats m 0 c).owesAt () t.succ
      ∗ owns c.tc (win0_0.stage (cfg0.slots t 0)) fullShare (iblk m c 0 t)
      ∗ owns c.tc (win0_1.stage (cfg0.slots t 1)) fullShare (outBlk m c t))) := by
  simp only [bef0]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩⟩
  iapply (step m c t W _)
  iframe HP HW H0
  isplitl [H1]; · iexists _; iexact H1
  iintro ⟨HP, ⟨%W', HW⟩, H0, H1⟩
  iframe HP
  isplitl [HW]
  · iexists W'
    isplitr
    · ipureintro; exact fun _ _ => Or.inl trivial
    iexact HW
  iframe H0
  iexact H1

/-- The library's obligation of the body. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- The kernel's own counter and the weights it addresses itself. -/
def osem : Fin 1 → SemLoc sig := fun _ => SemLoc.dma 4
theorem osem_facts : Pipeline.OwnSemFacts spec0 osem := by decide
def held : Finset (Ref sig .tc) := {main_arg1}
theorem held_sub : held ⊆ Pipeline.restRefs sig spec0 := by decide

theorem given_eq (c : Dev nD) :
    (Pipeline.ΦD osem spec0 held (V m) c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
        ∗ (∃ r, prngReg c r) ∗ semVal (c.tc, SemLoc.dma 4) 0 ∗ (((c : Thread nD τ).loc main_arg1) ↦{fullShare} V m c main_arg1)) := by
  rw [Pipeline.ΦD_eq, scopedRest0_eq, Pipeline.ownSems0_eq_of_list c osem [0] (by decide) (by decide),
    BI.bigSep_eq_bigSepL_of_eq (S := held) [main_arg1] (by decide) (by decide)]
  rfl

theorem Φ_first (c : Dev nD) : (Pipeline.ΦD osem spec0 held (V m) c : sProp 𝕄) ⊢ Φc m c 0 := by
  rw [given_eq]
  unfold Φc
  rw [state_zero c rfl]
  unfold still
  simp only [owns_whole, Memref.view_whole, View.set_whole]
  iintro ⟨⟨⟨%f, S0⟩, ⟨%g, S1⟩⟩, Hg, HQ, HR⟩
  isplitl [S1]
  · iexists g
    isplitr
    · ipureintro; intro h; exact absurd rfl h
    · iexact S1
  isplitl [S0 HQ HR]
  · isplitl [HQ]; · iexact HQ
    isplitl [S0]; · iexists f; iexact S0
    iexact HR
  iexact Hg

theorem Φ_last (c : Dev nD) : (Φc m c 256 : sProp 𝕄) ⊢ Pipeline.ΦD osem spec0 held (V m) c := by
  rw [given_eq]
  unfold Φc
  rw [state_pos c (by decide) (show (256 - 1) / 16 + 1 = 16 from rfl), flying_end c (by decide)]
  unfold still
  simp only [owns_whole, Memref.view_whole, View.set_whole]
  iintro ⟨⟨%g, -, S1⟩, ⟨HQ, ⟨%f, S0⟩, HR⟩, Hg⟩
  isplitl [S0 S1]
  · isplitl [S0]; · iexists f; iexact S0
    iexists g; iexact S1
  iframe Hg HQ
  iexact HR

theorem hmain₂ : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- The run of the whole program. -/
theorem run : θ_run defs (onTc (τ := τ) (main (F := F))) ⟨m, fun _ => 0, ρ⟩
    (fun r => Pipeline.FramePost cfgs (dats m) 0 (V m) r ∧ r.2.sem = fun _ => 0) :=
  Pipeline.θ_run_frame_dma (Q' := _) cfgs (dats m) (0 : Fin 1) launch0 osem defs₀ Variants.none osem_facts held held_sub m ρ main
    (hbody := fun c => (body_obligation m c).loose) (hshare := fun c => (dats m 0 c).share_full fun _ => rfl)
    (howed := fun _ _ => rfl) (V := V m) (hmain := hmain₂ m) (hA := fun _ _ => rfl)
    (hin := fun c => Φ_first m c) (hout := fun c => Φ_last m c)

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 0).trans (((dats m 0 c).arrAt_in 0 rfl _).trans (V_main_arg0 m c)),
      ((h.1 c).2 main_arg1 (Pipeline.mem_restRefs_of main_arg1 (by decide) (by decide))).trans (V_main_arg1 m c)⟩, h.2⟩)
    (run m ρ)

end Cert.Kernel2Ideal.Mm

end
-- ==== Proof.Frames2.lean ====
/-
  The frames of the squared-ReLU product's three programs.
-/
module

public import proofs.«01_k».proof.Defs
public import proofs.«01_k».proof.Proof.MmLaunch
public import proofs.«01_k».proof.Proof.Gen.Kernel2
public import proofs.«01_k».proof.Proof.Gen.Reference2Ideal.Run
public import Idealize.ShloMosaic.Lib.Quiescent

@[expose] public section

noncomputable section

namespace Cert.Proof

open Idealize.ShloMosaic Idealize.ShloMosaic.TcCoe Idealize.SL.Sem

/-- The two body tables are one text. -/
theorem table_eq : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | ⟨0, _⟩, (t, s) => rfl

theorem defs_eq : Cert.Kernel2.defs (F := Bits) = Cert.Kernel2Ideal.defs (F := Bits) :=
  congrArg (Pipeline.defs Cert.Kernel2Ideal.pcfgs) table_eq

theorem frame_p2 : Cert.quiescent_Kernel2 := fun m ρ _ => by
  have h := Cert.Kernel2Ideal.Mm.quiescent (F := Bits) m ρ
  rw [← defs_eq] at h
  exact h

theorem frame_pi2 : Cert.quiescent_Kernel2Ideal := fun m ρ _ => Cert.Kernel2Ideal.Mm.quiescent m ρ

theorem frame_ri2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

theorem preserves2 : Cert.preserves_Kernel2_Kernel2Ideal := trivial

end Cert.Proof

end
-- ==== Proof.MmVal.lean ====
/-
  The blocked product with a squared ReLU: what the kernel and the reference leave, element by element.
-/
module

public import proofs.«01_k».proof.Proof.MmLaunch
public import proofs.«01_k».proof.Proof.Gen.Reference2Ideal.Run
public import Idealize.ShloMosaic.Lib.Pointwise
public import Idealize.ShloMosaic.Lib.ValueLayout
public import Idealize.ShloMosaic.Lib.Pipeline.ValueKit
public import Idealize.ShloMosaic.Lib.Tactic.CleanTypes

@[expose] public section

set_option maxRecDepth 16384

noncomputable section

namespace Cert.Kernel2Ideal.Mm

open Cert.Kernel2Ideal Cert.Kernel2Ideal.Gen
open Idealize.ShloMosaic Idealize.ShloMosaic.TcCoe

/-- The positive part, squared. -/
def relu2 (z : EReal) : EReal := max z 0 * max z 0

theorem outv_at (x : FVec Ideal S1024x4096 .bf16) (w : FVec Ideal S4096x1024 .bf16) (r q : Fin 1024) :
    outv (F := Ideal) x w (ix2 r q) = relu2 (∑ k : Fin 4096, x (ix2 r k) * w (ix2 k q)) := by
  unfold outv relu2
  pointwise

theorem colV_at (f : FVec Ideal S4x4096x16384 .f32) (j : Fin 16) (k : Fin 4096) (q : Fin 1024) :
    colV (F := Ideal) (offs j.val) (offs_inb j.isLt) f (ix2 k q) = f (ix3 0 k (⟨1024 * j.val + q.val, by omega⟩ : Fin 16384)) := by
  have h : colV (F := Ideal) (offs j.val) (offs_inb j.isLt) f
      = shapeCast S4096x1024 (wM.view.readAt (Elt Ideal) (Rect.unit (s := S4x4096x16384) (offs j.val) S1x4096x1024.size (offs_inb j.isLt)).toLoadRect f)
          (by decide : S1x4096x1024.ShapeCasts S4096x1024) := rfl
  rw [h]
  refine (ValueIdx.shapeCast_1ab_ab_apply _ _ _ _).trans ?_
  refine congrArg f ?_
  funext a
  refine Fin.ext ?_
  fin_cases a
  · rfl
  · show 0 + 1 * k.val = k.val; omega
  · show 1024 * j.val + 1 * q.val = 1024 * j.val + q.val; omega

theorem wblk_at (f : FVec Ideal S4x4096x16384 .f32) (j : Fin 16) (k : Fin 4096) (q : Fin 1024) :
    wblk (F := Ideal) f j (ix2 k q) = f (ix3 0 k (⟨1024 * j.val + q.val, by omega⟩ : Fin 16384)) := by
  refine Eq.trans ?_ (colV_at f j k q)
  unfold wblk narrow
  generalize colV (F := Ideal) _ _ f = g
  rw [shapeCast_self]
  rfl

variable (m : (ℓ : Loc nD τ sig) → Buf (Elt Ideal) ℓ) (c : Dev nD)

theorem tr0 : ∀ t : Fin cfg0.N, cc0_transform_0 (grid0.coords t) = ![t.val % 16, 0] :=
  (by decide +kernel : ∀ t : Fin grid0.N, cc0_transform_0 (grid0.coords t) = ![t.val % 16, 0])
theorem tr2 : ∀ t : Fin cfg0.N, cc0_transform_2 (grid0.coords t) = ![t.val % 16, t.val / 16] :=
  (by decide +kernel : ∀ t : Fin grid0.N, cc0_transform_2 (grid0.coords t) = ![t.val % 16, t.val / 16])

theorem iblk0_at (t : Fin cfg0.N) (r : Fin 1024) (k : Fin 4096) :
    (iblk m c 0 t : Vec Ideal S1024x4096 .bf16) (ix2 r k)
      = (m ((c.tc : Thread nD τ).loc main_arg0) : FVec Ideal S16384x4096 .bf16) (ix2 (⟨1024 * (t.val % 16) + r.val, by omega⟩ : Fin 16384) k) := by
  show V m c main_arg0 ((win0_0.blk t).view.emb (ix2 r k)) = _
  have hv : ∀ a, ((win0_0.blk t).view.emb (ix2 r k) a).val = cc0_transform_0 (grid0.coords t) a * S1024x4096.size a + (ix2 r k a).val :=
    fun a => Pipeline.Window.rect_emb_val win0_0 t (ix2 r k) a rfl
  have e : (win0_0.blk t).view.emb (ix2 r k) = ix2 (⟨1024 * (t.val % 16) + r.val, by omega⟩ : Fin 16384) k := by
    funext a
    refine Fin.ext ((hv a).trans ?_)
    rw [tr0 t]
    fin_cases a
    · show t.val % 16 * 1024 + r.val = 1024 * (t.val % 16) + r.val; omega
    · show 0 * 4096 + k.val = k.val; omega
  rw [e, V_main_arg0]

/-- The squared ReLU of the product, as an array. -/
def up (x : FVec Ideal S16384x4096 .bf16) (w : FVec Ideal S4x4096x16384 .f32) : FVec Ideal S16384x16384 .bf16 := fun i =>
  relu2 (∑ k : Fin 4096, x (ix2 (i 0) k) * w (ix3 0 k (i 1)))

theorem arr : (dats m 0 c).arrAt 1 cfg0.N
    = up (m ((c.tc : Thread nD τ).loc main_arg0)) (m ((c.tc : Thread nD τ).loc main_arg1)) := by
  refine (dats m 0 c).arrAt_eq_of_covers 1 (up _ _) (by decide +kernel) fun t hf y => ?_
  blk_simp
  show outBlk m c t y = up _ _ ((win0_1.blk t).view.emb y)
  have hv : ∀ a, ((win0_1.blk t).view.emb y a).val = cc0_transform_2 (grid0.coords t) a * S1024x1024.size a + (y a).val :=
    fun a => Pipeline.Window.rect_emb_val win0_1 t y a rfl
  obtain ⟨r, q, rfl⟩ : ∃ (r q : Fin 1024), y = ix2 r q := ⟨y 0, y 1, by funext a; fin_cases a <;> rfl⟩
  have ht : t.val < 256 := t.isLt
  have e : (win0_1.blk t).view.emb (ix2 r q) = ix2 (⟨1024 * (t.val % 16) + r.val, by omega⟩ : Fin 16384)
      (⟨1024 * (jn t.val).val + q.val, by have := (jn t.val).isLt; omega⟩ : Fin 16384) := by
    funext a
    refine Fin.ext ((hv a).trans ?_)
    rw [tr2 t]
    fin_cases a
    · show t.val % 16 * 1024 + r.val = 1024 * (t.val % 16) + r.val; omega
    · show t.val / 16 * 1024 + q.val = 1024 * (t.val / 16 % 16) + q.val; omega
  rw [e]
  unfold outBlk
  rw [outv_at]
  refine congrArg relu2 (Finset.sum_congr rfl fun k _ => ?_)
  rw [iblk0_at, wblk_at, V_main_arg1]
  rfl

end Cert.Kernel2Ideal.Mm

namespace Cert.Reference2Ideal.Mm

open Cert.Reference2Ideal Cert.Reference2Ideal.Gen Cert.Reference2Ideal.Value
open Idealize.ShloMosaic Idealize.ShloMosaic.TcCoe

theorem res (x : FVec Ideal S16384x4096 .bf16) (w : FVec Ideal S4x4096x16384 .f32) :
    (truncf .bf16 (mulf (maximumf (Host.dotGeneral dot_S16384x4096_S4096x16384_S16384x16384_1_0_0_1_n_n none (extf .f32 x bitsLt_bf16_f32) (shapeCast _ (extractStridedSlice S1x4096x16384 ![0, 0, 0] w slices_S4x4096x16384_S1x4096x16384_0_0_0) shapeCasts_S1x4096x16384_S4096x16384)) (broadcastInDim S16384x16384 ![] bcast_S_S16384x16384 (constant S_ .f32 0x00000000#32))) (maximumf (Host.dotGeneral dot_S16384x4096_S4096x16384_S16384x16384_1_0_0_1_n_n none (extf .f32 x bitsLt_bf16_f32) (shapeCast _ (extractStridedSlice S1x4096x16384 ![0, 0, 0] w slices_S4x4096x16384_S1x4096x16384_0_0_0) shapeCasts_S1x4096x16384_S4096x16384)) (broadcastInDim S16384x16384 ![] bcast_S_S16384x16384 (constant S_ .f32 0x00000000#32)))) bitsLt_bf16_f32 : FVec Ideal S16384x16384 .bf16)
      = Cert.Kernel2Ideal.Mm.up x w := by
  funext i
  obtain ⟨r, q, rfl⟩ : ∃ (r q : Fin 16384), i = ix2 r q := ⟨i 0, i 1, by funext a; fin_cases a <;> rfl⟩
  unfold Cert.Kernel2Ideal.Mm.up Cert.Kernel2Ideal.Mm.relu2
  pointwise

end Cert.Reference2Ideal.Mm

end
-- ==== Proof.Algebra2.lean ====
/-
  The value claim of the blocked product: kernel and reference leave the same array.
-/
module

public import proofs.«01_k».proof.Defs
public import proofs.«01_k».proof.Proof.MmVal

@[expose] public section

noncomputable section

namespace Cert.Proof

open Idealize.ShloMosaic Idealize.ShloMosaic.TcCoe Idealize.SL.Sem

theorem algebraic2 : Cert.algebraic_Kernel2Ideal_Reference2Ideal := by
  intro m ρ m' ρ' _ hagree
  refine ⟨fun c => Cert.Kernel2Ideal.Mm.up (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)), ?_, ?_⟩
  · exact (θ_run Cert.Kernel2Ideal.defs _ _).mono
      (fun r h c => ⟨((h.1 c).1 1).trans (Cert.Kernel2Ideal.Mm.arr m c),
        ((h.1 c).1 0).trans (((Cert.Kernel2Ideal.Mm.dats m 0 c).arrAt_in 0 rfl _).trans (Cert.Kernel2Ideal.Gen.V_main_arg0 m c)),
        ((h.1 c).2 Cert.Kernel2Ideal.main_arg1 (Pipeline.mem_restRefs_of Cert.Kernel2Ideal.main_arg1 (by decide) (by decide))).trans
          (Cert.Kernel2Ideal.Gen.V_main_arg1 m c)⟩)
      (Cert.Kernel2Ideal.Mm.run m ρ)
  · exact (θ_run Cert.Reference2Ideal.defs _ _).mono
      (fun _ h c => ⟨(h c).1.trans ((Cert.Reference2Ideal.Mm.res _ _).trans (by rw [(hagree c).1, (hagree c).2])), (h c).2⟩)
      (Cert.Reference2Ideal.Value.run (F := Ideal) m' ρ')

end Cert.Proof

end
-- ==== Proof.DownCommon.lean ====
/-
  The product of the feed-forward's second half, a launch to a block of the inner dimension: what the launches share.
-/
module

public import proofs.«01_k».proof.Proof.Gen.Kernel3Ideal.Regions
public import Idealize.ShloMosaic.Lib.Pipeline.Routed
public import Idealize.ShloMosaic.Lib.Tactic
public import Idealize.ShloMosaic.Lib.VecWindow
public import Idealize.ShloMosaic.Lib.ValueLayout

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weights. -/
abbrev wM : Memref sig .tc .hbm S4x16384x4096 .f32 := Memref.whole main_arg1

/-- A block of the weights: some rows of the inner dimension, some columns. -/
abbrev colM (off : Fin 3 → ℕ) (h : ∀ a, off a + S1x4096x1024.size a ≤ S4x16384x4096.size a) : Memref sig .tc .hbm S4096x1024 .f32 :=
  (wM.slice (Rect.unit (s := S4x16384x4096) off S1x4096x1024.size h) (fun _ => rfl)).squeeze S4096x1024 squeezes_S1x4096x1024_S4096x1024

/-- Its elements. -/
def colV (off : Fin 3 → ℕ) (h : ∀ a, off a + S1x4096x1024.size a ≤ S4x16384x4096.size a) (f : (⟨S4x16384x4096, .f32⟩ : BufTy).Contents (Elt F)) :
    S4096x1024.Idx → Elt F .f32 := (colM off h).view.read (Elt F) f

/-- The block narrowed, as the scratch keeps it. -/
def narrow (g : S4096x1024.Idx → Elt F .f32) : S4096x1024.Idx → Elt F .bf16 :=
  shapeCast S4096x1024 (truncf .bf16 (g : FVec F S4096x1024 .f32) bitsLt_bf16_f32) shapeCasts_S4096x1024_S4096x1024

/-- The block of the output: the product added to the residual's block. -/
def outv (r : S512x1024.Idx → Elt F .f32) (x : S512x4096.Idx → Elt F .bf16) (w : S4096x1024.Idx → Elt F .bf16) : S512x1024.Idx → Elt F .f32 :=
  addf (r : FVec F S512x1024 .f32) (matmul dot_S512x4096_S4096x1024_S512x1024_1_0_0_1_n_n none (x : FVec F S512x4096 .bf16) (w : FVec F S4096x1024 .bf16) (constant S512x1024 .f32 0x00000000#32))

/-- The same, the residual's block cast to its own shape first. -/
def outc (r : S512x1024.Idx → Elt F .f32) (x : S512x4096.Idx → Elt F .bf16) (w : S4096x1024.Idx → Elt F .bf16) : S512x1024.Idx → Elt F .f32 :=
  outv (shapeCast S512x1024 (r : FVec F S512x1024 .f32) shapeCasts_S512x1024_S512x1024) x w

theorem outc_eq (r : S512x1024.Idx → Elt F .f32) (x : S512x4096.Idx → Elt F .bf16) (w : S4096x1024.Idx → Elt F .bf16) : outc r x w = outv r x w := by
  unfold outc
  rw [shapeCast_self]

theorem congr3 {A B C D : Type} (f : A → B → C → D) {a a' : A} {b b' : B} {c c' : C} (ha : a = a') (hb : b = b') (hc : c = c') :
    f a b c = f a' b' c' := by subst ha hb hc; rfl

/-- The rest of the weights, while a block is in flight. -/
abbrev rest (c : Dev nD) (off : Fin 3 → ℕ) (h : ∀ a, off a + S1x4096x1024.size a ≤ S4x16384x4096.size a)
    (f : (⟨S4x16384x4096, .f32⟩ : BufTy).Contents (Elt F)) : sProp 𝕄 :=
  (wM.view.loc c.tc ↦[Finset.univ \ (colM off h).view.set]{fullShare} f)

/-- The weights whole, whichever view names them. -/
theorem whole_back (c : Dev nD) (off : Fin 3 → ℕ) (h : ∀ a, off a + S1x4096x1024.size a ≤ S4x16384x4096.size a)
    (f : (⟨S4x16384x4096, .f32⟩ : BufTy).Contents (Elt F)) :
    ((colM off h).view.loc c.tc ↦{fullShare} f : sProp 𝕄) ⊢ (wM.view.loc c.tc ↦{fullShare} f) := .rfl

/-- A buffer stored whole. -/
theorem stored {S : Shape} {e : EltTy} (c : Dev nD) (M : Memref sig .tc .vmem S e) (D : M.view.ty.Contents (Elt F)) (off : Fin S.rank → ℕ)
    (inb : ∀ a, off a + S.size a ≤ S.size a) (w w' : S.Idx → Elt F e) (h : w = w') :
    (M.view.loc c.tc ↦[M.view.set]{fullShare} M.view.writes (Elt F) D [⟨Rect.unit off S.size inb, w⟩] : sProp 𝕄)
      ⊢ iprop(∃ f, ⌜M.view.read (Elt F) f = w'⌝ ∗ (M.view.loc c.tc ↦[M.view.set]{fullShare} f)) := by
  iintro H
  iexists _
  isplitr
  · ipureintro; exact (View.read_writes_full M.view D inb w []).trans h
  · iexact H

theorem inbO : ∀ a, (![0, 0] : Fin 2 → ℕ) a + S512x1024.size a ≤ S512x1024.size a := by decide
theorem inbB : ∀ a, (![0, 0] : Fin 2 → ℕ) a + S4096x1024.size a ≤ S4096x1024.size a := by decide

/-- A block's place in the weights. -/
def offs (kb j : ℕ) : Fin 3 → ℕ := ![0, 4096 * kb, 1024 * j]

theorem offs_inb {kb j : ℕ} (hk : kb < 4) (h : j < 4) : ∀ a, offs kb j a + S1x4096x1024.size a ≤ S4x16384x4096.size a := by
  intro a
  fin_cases a
  · show 0 + 1 ≤ 4; omega
  · show 4096 * kb + 4096 ≤ 16384; omega
  · show 1024 * j + 1024 ≤ 4096; omega

/-- Block `kb` of the inner dimension, column block `j`, narrowed. -/
def wblk (kb : Fin 4) (f : (⟨S4x16384x4096, .f32⟩ : BufTy).Contents (Elt F)) (j : Fin 4) : S4096x1024.Idx → Elt F .bf16 :=
  narrow (colV (offs kb.val j.val) (offs_inb kb.isLt j.isLt) f)

theorem wblk_of (kb : Fin 4) (f : (⟨S4x16384x4096, .f32⟩ : BufTy).Contents (Elt F)) (j : Fin 4) (off h) (e : off = offs kb.val j.val) :
    narrow (colV off h f) = wblk kb f j := by
  subst e; rfl

/-- The column block of a point. -/
def jn (n : ℕ) : Fin 4 := ⟨n / 32 % 4, by omega⟩

end Cert.Kernel3Ideal.Down

end
-- ==== Proof.DownBody0.lean ====
/-
  The feed-forward's second product, block 0 of the inner dimension: the body at a grid point.
-/
module

public import proofs.«01_k».proof.Proof.DownCommon

@[expose] public section

set_option maxRecDepth 16384

noncomputable section

namespace Cert.Kernel3Ideal.Down.R0

open Cert.Kernel3Ideal Cert.Kernel3Ideal.Gen Cert.Kernel3Ideal.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two scratch buffers: a block of the weights as fetched and as narrowed. -/
abbrev sM : Memref sig .tc .vmem S4096x1024 .f32 := Memref.whole cc0_scratch0
abbrev bM : Memref sig .tc .vmem S4096x1024 .bf16 := Memref.whole cc0_scratch1

/-- A block in flight to its scratch. -/
abbrev fly (c : Dev nD) (off : Fin 3 → ℕ) (h : ∀ a, off a + S1x4096x1024.size a ≤ S4x16384x4096.size a)
    (f : (⟨S4x16384x4096, .f32⟩ : BufTy).Contents (Elt F)) : sProp 𝕄 :=
  Transfers.Flight (countersEmb (U := Pipeline.UD sig nD τ)) c.tc (SemLoc.dma 6) () 524288
    iprop((sM.view.loc c.tc ↦[sM.view.set]{fullShare} colV off h f)
      ∗ ((colM off h).view.loc c.tc ↦[(colM off h).view.set]{fullShare} f))

/-- A buffer's contents after it is overwritten whole. -/
theorem fetched_eq (g w : S4096x1024.Idx → Elt F .f32) (L : List (View.Piece (Elt F) S4096x1024 .f32)) :
    sM.view.writes (Elt F) g (⟨Rect.whole S4096x1024, w⟩ :: L) = w := by
  have h : sM.view.read (Elt F) (sM.view.writes (Elt F) g (⟨Rect.whole S4096x1024, w⟩ :: L)) = w := by
    funext y
    have h := View.read_writes_cons_emb sM.view g (Rect.whole S4096x1024) w L y
    rwa [Rect.emb_whole_apply] at h
  generalize sM.view.writes (Elt F) g (⟨Rect.whole S4096x1024, w⟩ :: L) = z at h
  exact h

/-- A flight the executor starts, as the invariant names it. -/
theorem fly_of (c : Dev nD) (off : Fin 3 → ℕ) (h : ∀ a, off a + S1x4096x1024.size a ≤ S4x16384x4096.size a)
    (f : (⟨S4x16384x4096, .f32⟩ : BufTy).Contents (Elt F)) (g w : S4096x1024.Idx → Elt F .f32) (L : List (View.Piece (Elt F) S4096x1024 .f32)) (hw : w = colV off h f) :
    (Transfers.Flight (countersEmb (U := Pipeline.UD sig nD τ)) c.tc (SemLoc.dma ⟨6, by decide⟩) (default : Unit) 524288
    iprop((sM.view.loc c.tc ↦[sM.view.set]{fullShare} sM.view.writes (Elt F) g (⟨Rect.whole S4096x1024, w⟩ :: L))
      ∗ (wM.view.loc c.tc ↦[(colM off h).view.set]{fullShare} f)) : sProp 𝕄) ⊢ fly c off h f := by
  unfold fly
  rw [fetched_eq, hw]
  exact .rfl

/-- A buffer loaded whole after it is fetched whole. -/
theorem first_load [∀ e, Nonempty (Elt F e)] (w : S4096x1024.Idx → Elt F .f32) (inb : ∀ a, (![0, 0] : Fin 2 → ℕ) a + S4096x1024.size a ≤ S4096x1024.size a) :
    sM.view.readCov [⟨Rect.whole S4096x1024, w⟩] (Rect.unit ![0, 0] S4096x1024.size inb).toLoadRect = w :=
  (View.readAt_full sM.view _ inb).trans (View.read_writes_whole sM.view _ w)

variable (c : Dev nD) (i : grid0.Coords) (arg2 : Memref sig .tc .vmem S512x4096 .bf16) (harg2 : arg2.IsWhole)
  (arg4 : Memref sig .tc .vmem S512x1024 .f32) (harg4 : arg4.IsWhole) (arg5 : Memref sig .tc .vmem S512x1024 .f32) (harg5 : arg5.IsWhole)

abbrev body : Prog (TpuEff nD τ sig (Elt F) Λ₀ .tc) PUnit :=
  cc0_matmul_residual i arg2 harg2 wM (Memref.isWhole_whole _) arg4 harg4 arg5 harg5 sM (Memref.isWhole_whole _) bM (Memref.isWhole_whole _) cc0_scratch2

/-- A later row block: the block of the weights is already narrowed. -/
theorem mid_run (h1 : ¬ k0_cond1 i = 1#1) (x : S512x4096.Idx → Elt F .bf16) (r : S512x1024.Idx → Elt F .f32) (w : S4096x1024.Idx → Elt F .bf16)
    (K : PUnit → sProp 𝕄) :
    iprop(owns c.tc arg2 fullShare x ∗ owns c.tc arg4 fullShare r ∗ owns c.tc bM fullShare w ∗ (∃ d, owns c.tc arg5 fullShare d)
      ∗ ((owns c.tc arg2 fullShare x ∗ owns c.tc arg4 fullShare r ∗ owns c.tc bM fullShare w ∗ owns c.tc arg5 fullShare (outv r x w)) -∗ K ⟨⟩))
    ⊢ wp frame (wpE (defs₀ (F := F)) Variants.none c.tc none) Set.univ (body i arg2 harg2 arg4 harg4 arg5 harg5) K := by
  unfold body cc0_matmul_residual
  rw [dif_neg h1]
  unfold owns
  iintro ⟨⟨%X, %eX, HX⟩, ⟨%A, %eA, HA⟩, ⟨%B, %eB, HB⟩, ⟨%d, %D, -, HD⟩, Hk⟩
  sl_exec
  have e : mid_run.sl.v7 c arg2 arg4 X A B = outv r x w :=
    (congr3 (outv (F := F)) ((View.readAt_full arg4.view A _).trans eA) ((View.readAt_full arg2.view X _).trans eX) ((View.readAt_full bM.view B _).trans eB))
  sl_step
  iapply Hk
  isplitl [HX]
  · iexists X; isplitr; · ipureintro; exact eX
    iexact HX
  isplitl [HA]
  · iexists A; isplitr; · ipureintro; exact eA
    iexact HA
  isplitl [HB]
  · iexists B; isplitr; · ipureintro; exact eB
    iexact HB
  iapply (stored c arg5 D ![0, 0] inbO _ _ e)
  iexact HD

theorem inb0 : ∀ a, (![0, 0, 0] : Fin 3 → ℕ) a + S1x4096x1024.size a ≤ S4x16384x4096.size a := by decide

/-- A later column block: the flight is awaited, narrowed, and the next one started. -/
theorem next_run (h1 : k0_cond1 i = 1#1) (h2 : ¬ k0_cond2 i = 1#1) (h3 : k0_cond3 i = 1#1) (x : S512x4096.Idx → Elt F .bf16) (r : S512x1024.Idx → Elt F .f32) (off h f)
    (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ fly c off h f ∗ rest c off h f ∗ owes c.tc 0 W
      ∗ ((owns c.tc arg2 fullShare x ∗ owns c.tc arg4 fullShare r ∗ owns c.tc bM fullShare (narrow (colV off h f)) ∗ owns c.tc arg5 fullShare (outv r x (narrow (colV off h f)))
        ∗ fly c (k0_off2 i) (Facts₀.k0_off2_inb i h1 h3) f ∗ rest c (k0_off2 i) (Facts₀.k0_off2_inb i h1 h3) f ∗ (∃ W', owes c.tc 0 W')) -∗ K ⟨⟩))
    ⊢ wp frame (wpE (defs₀ (F := F)) Variants.none c.tc none) Set.univ (body i arg2 harg2 arg4 harg4 arg5 harg5) K := by
  unfold body cc0_matmul_residual
  rw [dif_pos h1, dif_neg h2, dif_pos h3]
  unfold owns fly rest
  iintro ⟨⟨%X, %eX, HX⟩, ⟨%A, %eA, HA⟩, ⟨%wd, %B, -, HB⟩, ⟨%d, %D, -, HD⟩, HF, HR, HW, Hk⟩
  sl_exec
  ihave HR := (whole_back c off h f) $$ HR
  sl_exec
  have e1 : next_run.sl.v20 off h f = narrow (colV off h f) := by
    delta next_run.sl.v20 next_run.sl.v17
    exact congrArg (narrow (F := F)) (View.readAt_full sM.view (colV off h f) _)
  have e2 : next_run.sl.v4 c off h f = narrow (colV off h f) := by
    exact (View.readCov_full bM.view _ _ _ _).trans e1
  have e : next_run.sl.v7 c arg2 arg4 off h f X A = outv r x (narrow (colV off h f)) :=
    (congr3 (outv (F := F)) ((View.readAt_full arg4.view A _).trans eA) ((View.readAt_full arg2.view X _).trans eX) e2)
  sl_step
  ihave HF := (fly_of c (k0_off2 i) (Facts₀.k0_off2_inb i h1 h3) f (colV off h f) (next_run.sl.dma0 i h1 h3 f) [] rfl) $$ HF
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HR
  iexists _; iexact HW

/-- The last column block: the flight is awaited and narrowed. -/
theorem last_run (h1 : k0_cond1 i = 1#1) (h2 : ¬ k0_cond2 i = 1#1) (h3 : ¬ k0_cond3 i = 1#1) (x : S512x4096.Idx → Elt F .bf16) (r : S512x1024.Idx → Elt F .f32) (off h f)
    (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ fly c off h f ∗ rest c off h f ∗ owes c.tc 0 W
      ∗ ((owns c.tc arg2 fullShare x ∗ owns c.tc arg4 fullShare r ∗ owns c.tc bM fullShare (narrow (colV off h f)) ∗ owns c.tc arg5 fullShare (outv r x (narrow (colV off h f)))
        ∗ semVal (c.tc, SemLoc.dma 6) 0 ∗ (sM.view.loc c.tc ↦[sM.view.set]{fullShare} colV off h f) ∗ (wM.view.loc c.tc ↦{fullShare} f) ∗ (∃ W', owes c.tc 0 W')) -∗ K ⟨⟩))
    ⊢ wp frame (wpE (defs₀ (F := F)) Variants.none c.tc none) Set.univ (body i arg2 harg2 arg4 harg4 arg5 harg5) K := by
  unfold body cc0_matmul_residual
  rw [dif_pos h1, dif_neg h2, dif_neg h3]
  unfold owns fly rest
  iintro ⟨⟨%X, %eX, HX⟩, ⟨%A, %eA, HA⟩, ⟨%wd, %B, -, HB⟩, ⟨%d, %D, -, HD⟩, HF, HR, HW, Hk⟩
  sl_exec
  ihave HR := (whole_back c off h f) $$ HR
  sl_exec
  have e1 : last_run.sl.v20 off h f = narrow (colV off h f) := by
    delta last_run.sl.v20 last_run.sl.v17
    exact congrArg (narrow (F := F)) (View.readAt_full sM.view (colV off h f) _)
  have e2 : last_run.sl.v4 c off h f = narrow (colV off h f) := by
    exact (View.readCov_full bM.view _ _ _ _).trans e1
  have e : last_run.sl.v7 c arg2 arg4 off h f X A = outv r x (narrow (colV off h f)) :=
    (congr3 (outv (F := F)) ((View.readAt_full arg4.view A _).trans eA) ((View.readAt_full arg2.view X _).trans eX) e2)
  sl_step
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HF_dst HR
  iexists _; iexact HW

/-- The first point: the first block is fetched, narrowed, and the second one's flight started. -/
theorem first_run (h1 : k0_cond1 i = 1#1) (h2 : k0_cond2 i = 1#1) (h3 : k0_cond3 i = 1#1) (x : S512x4096.Idx → Elt F .bf16) (r : S512x1024.Idx → Elt F .f32)
    (f : (⟨S4x16384x4096, .f32⟩ : BufTy).Contents (Elt F))
    (g : S4096x1024.Idx → Elt F .f32) (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ semVal (c.tc, SemLoc.dma 6) 0 ∗ (sM.view.loc c.tc ↦[sM.view.set]{fullShare} g) ∗ (wM.view.loc c.tc ↦{fullShare} f) ∗ owes c.tc 0 W
      ∗ ((owns c.tc arg2 fullShare x ∗ owns c.tc arg4 fullShare r ∗ owns c.tc bM fullShare (narrow (colV ![0, 0, 0] inb0 f)) ∗ owns c.tc arg5 fullShare (outv r x (narrow (colV ![0, 0, 0] inb0 f)))
        ∗ fly c (k0_off2 i) (Facts₀.k0_off2_inb i h1 h3) f ∗ rest c (k0_off2 i) (Facts₀.k0_off2_inb i h1 h3) f ∗ (∃ W', owes c.tc 0 W')) -∗ K ⟨⟩))
    ⊢ wp frame (wpE (defs₀ (F := F)) Variants.none c.tc none) Set.univ (body i arg2 harg2 arg4 harg4 arg5 harg5) K := by
  unfold body cc0_matmul_residual
  rw [dif_pos h1, dif_pos h2, dif_pos h3]
  unfold owns fly rest
  iintro ⟨⟨%X, %eX, HX⟩, ⟨%A, %eA, HA⟩, ⟨%wd, %B, -, HB⟩, ⟨%d, %D, -, HD⟩, HF, HS, HR, HW, Hk⟩
  sl_exec
  have e1 : first_run.sl.v20 f = narrow (colV ![0, 0, 0] inb0 f) := by
    delta first_run.sl.v20 first_run.sl.v17
    refine congrArg (narrow (F := F)) ?_
    delta first_run.sl.v16
    exact (first_load _ _).trans rfl
  have e2 : first_run.sl.v4 c f = narrow (colV ![0, 0, 0] inb0 f) := by
    exact (View.readCov_full bM.view _ _ _ _).trans e1
  have e : first_run.sl.v7 c arg2 arg4 f X A = outv r x (narrow (colV ![0, 0, 0] inb0 f)) :=
    (congr3 (outv (F := F)) ((View.readAt_full arg4.view A _).trans eA) ((View.readAt_full arg2.view X _).trans eX) e2)
  sl_step
  ihave HF := (fly_of c (k0_off2 i) (Facts₀.k0_off2_inb i h1 h3) f g (first_run.sl.dma3 i h1 h3 f) [⟨Rect.whole S4096x1024, first_run.sl.dma0 f⟩] rfl) $$ HF
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HR
  iexists _; iexact HW

end Cert.Kernel3Ideal.Down.R0

end
-- ==== Proof.DownLaunch0.lean ====
/-
  The feed-forward's second product, block 0 of the inner dimension: what holds between points, the body at every point.
-/
module

public import proofs.«01_k».proof.Proof.DownBody0
public import proofs.«01_k».proof.Proof.Gen.Kernel3Ideal.Points

@[expose] public section

set_option maxRecDepth 16384

noncomputable section

namespace Cert.Kernel3Ideal.Down.R0

open Cert.Kernel3Ideal Cert.Kernel3Ideal.Gen Cert.Kernel3Ideal.Down
open Idealize.ShloMosaic.Pipeline (Dat BodyObligation)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (V : Dev nD → Valuation τ sig (Elt F))

/-- The weights as the launch finds them. -/
abbrev wts (c : Dev nD) : (⟨S4x16384x4096, .f32⟩ : BufTy).Contents (Elt F) := V c main_arg1

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- No flight: the counter at zero, the scratch at anything, the weights whole. -/
def still (c : Dev nD) (f : (⟨S4x16384x4096, .f32⟩ : BufTy).Contents (Elt F)) : sProp 𝕄 :=
  iprop(semVal (c.tc, SemLoc.dma 6) 0 ∗ (∃ g, (sM.view.loc c.tc ↦[sM.view.set]{fullShare} g))
    ∗ (wM.view.loc c.tc ↦{fullShare} f))

theorem kb_lt : 0 < 4 := by decide

/-- Column block `j` in flight, if there is one. -/
def flying (c : Dev nD) (j : ℕ) (f : (⟨S4x16384x4096, .f32⟩ : BufTy).Contents (Elt F)) : sProp 𝕄 :=
  if h : j < 4 then iprop(fly c (offs 0 j) (offs_inb kb_lt h) f ∗ rest c (offs 0 j) (offs_inb kb_lt h) f) else still c f

/-- The transfers before point `n`. -/
def state (c : Dev nD) (n : ℕ) (f : (⟨S4x16384x4096, .f32⟩ : BufTy).Contents (Elt F)) : sProp 𝕄 :=
  if n = 0 then still c f else flying c ((n - 1) / 32 + 1) f

theorem state_zero (c : Dev nD) {n : ℕ} (h : n = 0) (f : (⟨S4x16384x4096, .f32⟩ : BufTy).Contents (Elt F)) :
    (state c n f : sProp 𝕄) = still c f := if_pos h

theorem state_pos (c : Dev nD) {n j : ℕ} (h : n ≠ 0) (e : (n - 1) / 32 + 1 = j) (f : (⟨S4x16384x4096, .f32⟩ : BufTy).Contents (Elt F)) :
    (state c n f : sProp 𝕄) = flying c j f := by subst e; exact if_neg h

theorem flying_eq (c : Dev nD) {j : ℕ} (hj : j < 4) (f : (⟨S4x16384x4096, .f32⟩ : BufTy).Contents (Elt F)) :
    (flying c j f : sProp 𝕄) = iprop(fly c (offs 0 j) (offs_inb kb_lt hj) f ∗ rest c (offs 0 j) (offs_inb kb_lt hj) f) := dif_pos hj

theorem flying_end (c : Dev nD) {j : ℕ} (hj : ¬ j < 4) (f : (⟨S4x16384x4096, .f32⟩ : BufTy).Contents (Elt F)) :
    (flying c j f : sProp 𝕄) = still c f := dif_neg hj

theorem flying_of (c : Dev nD) {j : ℕ} (hj : j < 4) (f : (⟨S4x16384x4096, .f32⟩ : BufTy).Contents (Elt F)) (off h) (e : off = offs 0 j) :
    (iprop(fly c off h f ∗ rest c off h f) : sProp 𝕄) ⊢ flying c j f := by
  subst e
  unfold flying
  rw [dif_pos hj]

/-- What the other launches keep to themselves. -/
abbrev others (c : Dev nD) : sProp 𝕄 := Pipeline.scopedRestBut spec0 c [cc0_scratch0, cc0_scratch1]

/-- Between points: the block of the weights narrowed once its first row block has run, the transfers, the generator. -/
def Φc (c : Dev nD) (n : ℕ) : sProp 𝕄 :=
  iprop((∃ w, ⌜n % 32 ≠ 0 → w = wblk 0 (wts V c) (jn n)⌝ ∗ owns c.tc bM fullShare w)
    ∗ state c n (wts V c) ∗ (∃ r, prngReg c r) ∗ others c)

/-- The block of the output a point leaves. -/
def outBlk (c : Dev nD) (t : Fin cfg0.N) : S512x1024.Idx → Elt F .f32 := outv (iblk V c 1 t) (iblk V c 0 t) (wblk 0 (wts V c) (jn t.val))

/-- The data of the pipeline. -/
def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => outBlk V c t
  Φ t := Φc V c t.val
  q _ := fullShare
  owed _ := 0

theorem is1 : ∀ t : Fin cfg0.N, k0_cond1 (grid0.coords t) = 1#1 ↔ t.val % 32 = 0 :=
  (by decide +kernel : ∀ t : Fin grid0.N, k0_cond1 (grid0.coords t) = 1#1 ↔ t.val % 32 = 0)
theorem is2 : ∀ t : Fin cfg0.N, k0_cond2 (grid0.coords t) = 1#1 ↔ t.val / 32 = 0 :=
  (by decide +kernel : ∀ t : Fin grid0.N, k0_cond2 (grid0.coords t) = 1#1 ↔ t.val / 32 = 0)
theorem is3 : ∀ t : Fin cfg0.N, k0_cond3 (grid0.coords t) = 1#1 ↔ t.val / 32 + 1 < 4 :=
  (by decide +kernel : ∀ t : Fin grid0.N, k0_cond3 (grid0.coords t) = 1#1 ↔ t.val / 32 + 1 < 4)
theorem off2 : ∀ t : Fin cfg0.N, k0_off2 (grid0.coords t) = offs 0 (t.val / 32 + 1) :=
  (by decide +kernel : ∀ t : Fin grid0.N, k0_off2 (grid0.coords t) = offs 0 (t.val / 32 + 1))

theorem defs₀_row (t : Fin cfg0.N) : (defs₀ (F := F)) .tc cfg0.body (cfg0.bodyArgs t (cfg0.slots t)) = bodyAt0 t := by
  unfold defs₀; rw [Defs.onTc_tc]

/-- The body at a point, from the buffers to the buffers. -/
theorem step (c : Dev nD) (t : Fin cfg0.N) (W : Waits sig Unit) (K : PUnit → sProp 𝕄) :
    iprop(Φc V c t.val ∗ owes c.tc 0 W ∗ owns c.tc (win0_0.stage (cfg0.slots t 0)) fullShare (iblk V c 0 t)
      ∗ owns c.tc (win0_1.stage (cfg0.slots t 1)) fullShare (iblk V c 1 t)
      ∗ (∃ d, owns c.tc (win0_2.stage (cfg0.slots t 2)) fullShare d)
      ∗ ((Φc V c (t.val + 1) ∗ (∃ W', owes c.tc 0 W') ∗ owns c.tc (win0_0.stage (cfg0.slots t 0)) fullShare (iblk V c 0 t)
        ∗ owns c.tc (win0_1.stage (cfg0.slots t 1)) fullShare (iblk V c 1 t)
        ∗ owns c.tc (win0_2.stage (cfg0.slots t 2)) fullShare (outBlk V c t)) -∗ K ⟨⟩))
    ⊢ wp frame (wpE (defs₀ (F := F)) Variants.none c.tc none) Set.univ (bodyAt0 t) K := by
  have ht : t.val < 128 := t.isLt
  unfold Φc outBlk
  by_cases h1 : t.val % 32 = 0
  · by_cases h2 : t.val / 32 = 0
    · have h0 : t.val = 0 := by omega
      have R := fun g => (first_run c (grid0.coords t) _ (hstage0_0 ((cfg0.slots t 0).cast nbuf0_0)) _ (hstage0_1 ((cfg0.slots t 1).cast nbuf0_1)) _ (hstage0_2 ((cfg0.slots t 2).cast nbuf0_2)) ((is1 t).2 h1) ((is2 t).2 h2) ((is3 t).2 (by omega)) (iblk V c 0 t) (iblk V c 1 t) (wts V c) g W K)
      rw [wblk_of 0 (wts V c) (jn t.val) ![0, 0, 0] inb0 (by rw [h0]; rfl)] at R
      rw [state_zero c h0, state_pos c (Nat.succ_ne_zero _) (show (t.val + 1 - 1) / 32 + 1 = t.val / 32 + 1 from rfl)]
      unfold still
      iintro ⟨⟨⟨%w, %hw, HB⟩, ⟨HQ, ⟨%g, HS⟩, HR⟩, Hg⟩, HW, HX, HA, HD, Hk⟩
      iapply (R g)
      iframe HX HA
      isplitl [HB]; · iexists w; iexact HB
      iframe HD HQ HS HR HW
      iintro ⟨HX, HA, HB, HD, HF, HR, HW⟩
      iapply Hk
      isplitl [HB HF HR Hg]
      · isplitl [HB]
        · iexists _; isplitr; swap; · iexact HB
          ipureintro; intro _; rw [h0]; rfl
        isplitl [HF HR]
        · iapply (flying_of c (j := t.val / 32 + 1) (by omega) (wts V c) _ _ (off2 t))
          iframe HF
          iexact HR
        iexact Hg
      iframe HW HX HA
      iexact HD
    · have hn : t.val ≠ 0 := by omega
      have hj : t.val / 32 < 4 := by omega
      have hw0 : narrow (colV (offs 0 (t.val / 32)) (offs_inb kb_lt hj) (wts V c)) = wblk 0 (wts V c) (jn t.val) :=
        wblk_of _ _ _ _ _ (by unfold jn; show _ = offs 0 (t.val / 32 % 4); rw [Nat.mod_eq_of_lt hj])
      have hw1 : wblk 0 (wts V c) (jn t.val) = wblk 0 (wts V c) (jn (t.val + 1)) := by
        rw [show jn (t.val + 1) = jn t.val from Fin.ext (by show (t.val + 1) / 32 % 4 = t.val / 32 % 4; omega)]
      rw [state_pos c hn (show (t.val - 1) / 32 + 1 = t.val / 32 from by omega), flying_eq c hj, state_pos c (Nat.succ_ne_zero _) (show (t.val + 1 - 1) / 32 + 1 = t.val / 32 + 1 from rfl)]
      by_cases h3 : t.val / 32 + 1 < 4
      · have R := (next_run c (grid0.coords t) _ (hstage0_0 ((cfg0.slots t 0).cast nbuf0_0)) _ (hstage0_1 ((cfg0.slots t 1).cast nbuf0_1)) _ (hstage0_2 ((cfg0.slots t 2).cast nbuf0_2)) ((is1 t).2 h1) (fun h => h2 ((is2 t).1 h)) ((is3 t).2 h3) (iblk V c 0 t) (iblk V c 1 t) _ (offs_inb kb_lt hj) (wts V c) W K)
        rw [hw0] at R
        iintro ⟨⟨⟨%w, %hw, HB⟩, ⟨HF, HR⟩, Hg⟩, HW, HX, HA, HD, Hk⟩
        iapply R
        iframe HX HA
        isplitl [HB]; · iexists w; iexact HB
        iframe HD HF HR HW
        iintro ⟨HX, HA, HB, HD, HF, HR, HW⟩
        iapply Hk
        isplitl [HB HF HR Hg]
        · isplitl [HB]
          · iexists _; isplitr; swap; · iexact HB
            ipureintro; intro _; exact hw1
          isplitl [HF HR]
          · iapply (flying_of c (j := t.val / 32 + 1) (by omega) (wts V c) _ _ (off2 t))
            iframe HF
            iexact HR
          iexact Hg
        iframe HW HX HA
        iexact HD
      · rw [flying_end c h3]
        unfold still
        have R := (last_run c (grid0.coords t) _ (hstage0_0 ((cfg0.slots t 0).cast nbuf0_0)) _ (hstage0_1 ((cfg0.slots t 1).cast nbuf0_1)) _ (hstage0_2 ((cfg0.slots t 2).cast nbuf0_2)) ((is1 t).2 h1) (fun h => h2 ((is2 t).1 h)) (fun h => h3 ((is3 t).1 h)) (iblk V c 0 t) (iblk V c 1 t) _ (offs_inb kb_lt hj) (wts V c) W K)
        rw [hw0] at R
        iintro ⟨⟨⟨%w, %hw, HB⟩, ⟨HF, HR⟩, Hg⟩, HW, HX, HA, HD, Hk⟩
        iapply R
        iframe HX HA
        isplitl [HB]; · iexists w; iexact HB
        iframe HD HF HR HW
        iintro ⟨HX, HA, HB, HD, HQ, HS, HR, HW⟩
        iapply Hk
        isplitl [HB HQ HS HR Hg]
        · isplitl [HB]
          · iexists _; isplitr; swap; · iexact HB
            ipureintro; intro _; exact hw1
          isplitl [HQ HS HR]
          · isplitl [HQ]; · iexact HQ
            isplitl [HS]; · iexists _; iexact HS
            iexact HR
          iexact Hg
        iframe HW HX HA
        iexact HD
  · rw [state_pos c (show t.val ≠ 0 by omega) rfl, state_pos c (Nat.succ_ne_zero _) (show (t.val + 1 - 1) / 32 + 1 = (t.val - 1) / 32 + 1 from by omega)]
    iintro ⟨⟨⟨%w, %hw, HB⟩, HS, Hg⟩, HW, HX, HA, HD, Hk⟩
    have hw' := hw h1
    subst hw'
    iapply (mid_run c (grid0.coords t) _ (hstage0_0 ((cfg0.slots t 0).cast nbuf0_0)) _ (hstage0_1 ((cfg0.slots t 1).cast nbuf0_1)) _ (hstage0_2 ((cfg0.slots t 2).cast nbuf0_2)) (fun h => h1 ((is1 t).1 h)) (iblk V c 0 t) (iblk V c 1 t) (wblk 0 (wts V c) (jn t.val)) K)
    iframe HX HA HB HD
    iintro ⟨HX, HA, HB, HD⟩
    iapply Hk
    isplitl [HB HS Hg]
    · isplitl [HB]
      · iexists _; isplitr; swap; · iexact HB
        ipureintro; intro h
        rw [show jn (t.val + 1) = jn t.val from Fin.ext (by show (t.val + 1) / 32 % 4 = t.val / 32 % 4; omega)]
      isplitl [HS]
      · iexact HS
      iexact Hg
    isplitl [HW]; · iexists W; iexact HW
    iframe HX HA
    iexact HD

theorem bef0 (c : Dev nD) (t : Fin cfg0.N) (d) : (dat V c).before 0 t d = iblk V c 0 t :=
  ((dat V c).before_in_eq_fetched 0 rfl (fun _ => rfl) (fun _ _ _ => rfl) (fun t => by unfold Dat.blockOf; rfl) t d).trans
    (by unfold Dat.fetched Dat.blockOf; rfl)

theorem bef1 (c : Dev nD) (t : Fin cfg0.N) (d) : (dat V c).before 1 t d = iblk V c 1 t :=
  ((dat V c).before_in_eq_fetched 1 rfl (fun _ => rfl) (fun _ _ _ => rfl) (fun t => by unfold Dat.blockOf; rfl) t d).trans
    (by unfold Dat.fetched Dat.blockOf; rfl)

/-- The body's triple at a point. -/
theorem sound_body (c : Dev nD) (t : Fin cfg0.N) :
    (iprop(Φc V c t.val ∗ (dat V c).owesAt () t.castSucc
      ∗ (∃ d, owns c.tc (win0_0.stage (cfg0.slots t 0)) fullShare ((dat V c).before 0 t d))
      ∗ (∃ d, owns c.tc (win0_1.stage (cfg0.slots t 1)) fullShare ((dat V c).before 1 t d))
      ∗ (∃ d, owns c.tc (win0_2.stage (cfg0.slots t 2)) fullShare ((dat V c).before 2 t d))) : sProp 𝕄)
    ⊢ wp frame (wpE (defs₀ (F := F)) Variants.none c.tc none) Set.univ (bodyAt0 t) (fun _ =>
      iprop(Φc V c (t.val + 1) ∗ (dat V c).owesAt () t.succ
      ∗ owns c.tc (win0_0.stage (cfg0.slots t 0)) fullShare (iblk V c 0 t)
      ∗ owns c.tc (win0_1.stage (cfg0.slots t 1)) fullShare (iblk V c 1 t)
      ∗ owns c.tc (win0_2.stage (cfg0.slots t 2)) fullShare (outBlk V c t))) := by
  simp only [bef0, bef1]
  unfold Dat.owesAt Pipeline.owesWithin
  rw [show (dat V c).owed t.castSucc = 0 from rfl, show (dat V c).owed t.succ = 0 from rfl]
  iintro ⟨HP, ⟨%W, -, HW⟩, ⟨%d0, H0⟩, ⟨%d1, H1⟩, ⟨%d2, H2⟩⟩
  iapply (step V c t W _)
  iframe HP HW H0 H1
  isplitl [H2]; · iexists _; iexact H2
  iintro ⟨HP, ⟨%W', HW⟩, H0, H1, H2⟩
  iframe HP
  isplitl [HW]
  · iexists W'
    isplitr
    · ipureintro; exact fun _ _ => Or.inl trivial
    iexact HW
  iframe H0 H1
  iexact H2

/-- The library's obligation of the body. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- The kernel's own counter and the weights it addresses itself. -/
def osem : Fin 1 → SemLoc sig := fun _ => SemLoc.dma 6
theorem osem_facts : Pipeline.OwnSemFacts spec0 osem := by decide

/-- What the launch is given and leaves, beside its arrays. -/
abbrev given (c : Dev nD) : sProp 𝕄 :=
  iprop(Pipeline.scopedRest spec0 c ∗ (∃ r, prngReg c r) ∗ Pipeline.ownSems0 osem c
    ∗ (bigSep ({main_arg1} : Finset (Ref sig .tc)) fun b => ((c.tc : Thread nD τ).loc b) ↦{fullShare} V c (Proc.devRef .tc b)))

theorem given_eq (c : Dev nD) :
    (given V c : sProp 𝕄)
      = iprop((iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ∗ others c)
        ∗ (∃ r, prngReg c r) ∗ semVal (c.tc, SemLoc.dma 6) 0 ∗ (((c : Thread nD τ).loc main_arg1) ↦{fullShare} wts V c)) := by
  unfold given
  rw [scopedRest0_split, Pipeline.ownSems0_eq_of_list c osem [0] (by decide) (by decide),
    BI.bigSep_eq_bigSepL_of_eq (S := {main_arg1}) [main_arg1] (by decide) (by decide)]
  rfl

theorem Φ_first (c : Dev nD) : (given V c : sProp 𝕄) ⊢ Φc V c 0 := by
  rw [given_eq]
  unfold Φc
  rw [state_zero c rfl]
  unfold still
  simp only [owns_whole, Memref.view_whole, View.set_whole]
  iintro ⟨⟨⟨⟨%f, S0⟩, ⟨%g, S1⟩⟩, Ho⟩, Hg, HQ, HR⟩
  isplitl [S1]
  · iexists g
    isplitr
    · ipureintro; intro h; exact absurd rfl h
    · iexact S1
  isplitl [S0 HQ HR]
  · isplitl [HQ]; · iexact HQ
    isplitl [S0]; · iexists f; iexact S0
    iexact HR
  iframe Hg
  iexact Ho

theorem Φ_last (c : Dev nD) : (Φc V c 128 : sProp 𝕄) ⊢ given V c := by
  rw [given_eq]
  unfold Φc
  rw [state_pos c (by decide) (show (128 - 1) / 32 + 1 = 4 from rfl), flying_end c (by decide)]
  unfold still
  simp only [owns_whole, Memref.view_whole, View.set_whole]
  iintro ⟨⟨%g, -, S1⟩, ⟨HQ, ⟨%f, S0⟩, HR⟩, Hg, Ho⟩
  isplitl [S0 S1 Ho]
  · isplitl [S0 S1]
    · isplitl [S0]; · iexists f; iexact S0
      iexists g; iexact S1
    iexact Ho
  iframe Hg HQ
  iexact HR

end Cert.Kernel3Ideal.Down.R0

end
-- ==== Proof.DownBody1.lean ====
/-
  The feed-forward's second product, block 1 of the inner dimension: the body at a grid point.
-/
module

public import proofs.«01_k».proof.Proof.DownCommon

@[expose] public section

set_option maxRecDepth 16384

noncomputable section

namespace Cert.Kernel3Ideal.Down.R1

open Cert.Kernel3Ideal Cert.Kernel3Ideal.Gen Cert.Kernel3Ideal.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two scratch buffers: a block of the weights as fetched and as narrowed. -/
abbrev sM : Memref sig .tc .vmem S4096x1024 .f32 := Memref.whole cc1_scratch0
abbrev bM : Memref sig .tc .vmem S4096x1024 .bf16 := Memref.whole cc1_scratch1

/-- A block in flight to its scratch. -/
abbrev fly (c : Dev nD) (off : Fin 3 → ℕ) (h : ∀ a, off a + S1x4096x1024.size a ≤ S4x16384x4096.size a)
    (f : (⟨S4x16384x4096, .f32⟩ : BufTy).Contents (Elt F)) : sProp 𝕄 :=
  Transfers.Flight (countersEmb (U := Pipeline.UD sig nD τ)) c.tc (SemLoc.dma 13) () 524288
    iprop((sM.view.loc c.tc ↦[sM.view.set]{fullShare} colV off h f)
      ∗ ((colM off h).view.loc c.tc ↦[(colM off h).view.set]{fullShare} f))

/-- A buffer's contents after it is overwritten whole. -/
theorem fetched_eq (g w : S4096x1024.Idx → Elt F .f32) (L : List (View.Piece (Elt F) S4096x1024 .f32)) :
    sM.view.writes (Elt F) g (⟨Rect.whole S4096x1024, w⟩ :: L) = w := by
  have h : sM.view.read (Elt F) (sM.view.writes (Elt F) g (⟨Rect.whole S4096x1024, w⟩ :: L)) = w := by
    funext y
    have h := View.read_writes_cons_emb sM.view g (Rect.whole S4096x1024) w L y
    rwa [Rect.emb_whole_apply] at h
  generalize sM.view.writes (Elt F) g (⟨Rect.whole S4096x1024, w⟩ :: L) = z at h
  exact h

/-- A flight the executor starts, as the invariant names it. -/
theorem fly_of (c : Dev nD) (off : Fin 3 → ℕ) (h : ∀ a, off a + S1x4096x1024.size a ≤ S4x16384x4096.size a)
    (f : (⟨S4x16384x4096, .f32⟩ : BufTy).Contents (Elt F)) (g w : S4096x1024.Idx → Elt F .f32) (L : List (View.Piece (Elt F) S4096x1024 .f32)) (hw : w = colV off h f) :
    (Transfers.Flight (countersEmb (U := Pipeline.UD sig nD τ)) c.tc (SemLoc.dma ⟨13, by decide⟩) (default : Unit) 524288
    iprop((sM.view.loc c.tc ↦[sM.view.set]{fullShare} sM.view.writes (Elt F) g (⟨Rect.whole S4096x1024, w⟩ :: L))
      ∗ (wM.view.loc c.tc ↦[(colM off h).view.set]{fullShare} f)) : sProp 𝕄) ⊢ fly c off h f := by
  unfold fly
  rw [fetched_eq, hw]
  exact .rfl

/-- A buffer loaded whole after it is fetched whole. -/
theorem first_load [∀ e, Nonempty (Elt F e)] (w : S4096x1024.Idx → Elt F .f32) (inb : ∀ a, (![0, 0] : Fin 2 → ℕ) a + S4096x1024.size a ≤ S4096x1024.size a) :
    sM.view.readCov [⟨Rect.whole S4096x1024, w⟩] (Rect.unit ![0, 0] S4096x1024.size inb).toLoadRect = w :=
  (View.readAt_full sM.view _ inb).trans (View.read_writes_whole sM.view _ w)

variable (c : Dev nD) (i : grid1.Coords) (arg2 : Memref sig .tc .vmem S512x4096 .bf16) (harg2 : arg2.IsWhole)
  (arg4 : Memref sig .tc .vmem S512x1024 .f32) (harg4 : arg4.IsWhole) (arg5 : Memref sig .tc .vmem S512x1024 .f32) (harg5 : arg5.IsWhole)

abbrev body : Prog (TpuEff nD τ sig (Elt F) Λ₀ .tc) PUnit :=
  cc1_matmul_residual i arg2 harg2 wM (Memref.isWhole_whole _) arg4 harg4 arg5 harg5 sM (Memref.isWhole_whole _) bM (Memref.isWhole_whole _) cc1_scratch2

/-- A later row block: the block of the weights is already narrowed. -/
theorem mid_run (h1 : ¬ k1_cond1 i = 1#1) (x : S512x4096.Idx → Elt F .bf16) (r : S512x1024.Idx → Elt F .f32) (w : S4096x1024.Idx → Elt F .bf16)
    (K : PUnit → sProp 𝕄) :
    iprop(owns c.tc arg2 fullShare x ∗ owns c.tc arg4 fullShare r ∗ owns c.tc bM fullShare w ∗ (∃ d, owns c.tc arg5 fullShare d)
      ∗ ((owns c.tc arg2 fullShare x ∗ owns c.tc arg4 fullShare r ∗ owns c.tc bM fullShare w ∗ owns c.tc arg5 fullShare (outv r x w)) -∗ K ⟨⟩))
    ⊢ wp frame (wpE (defs₀ (F := F)) Variants.none c.tc none) Set.univ (body i arg2 harg2 arg4 harg4 arg5 harg5) K := by
  unfold body cc1_matmul_residual
  rw [dif_neg h1]
  unfold owns
  iintro ⟨⟨%X, %eX, HX⟩, ⟨%A, %eA, HA⟩, ⟨%B, %eB, HB⟩, ⟨%d, %D, -, HD⟩, Hk⟩
  sl_exec
  have e : mid_run.sl.v8 c arg2 arg4 X A B = outv r x w :=
    (congr3 (outc (F := F)) ((View.readAt_full arg4.view A _).trans eA) ((View.readAt_full arg2.view X _).trans eX) ((View.readAt_full bM.view B _).trans eB)).trans (outc_eq _ _ _)
  sl_step
  iapply Hk
  isplitl [HX]
  · iexists X; isplitr; · ipureintro; exact eX
    iexact HX
  isplitl [HA]
  · iexists A; isplitr; · ipureintro; exact eA
    iexact HA
  isplitl [HB]
  · iexists B; isplitr; · ipureintro; exact eB
    iexact HB
  iapply (stored c arg5 D ![0, 0] inbO _ _ e)
  iexact HD

theorem inb0 : ∀ a, (![0, 4096, 0] : Fin 3 → ℕ) a + S1x4096x1024.size a ≤ S4x16384x4096.size a := by decide

/-- A later column block: the flight is awaited, narrowed, and the next one started. -/
theorem next_run (h1 : k1_cond1 i = 1#1) (h2 : ¬ k1_cond2 i = 1#1) (h3 : k1_cond3 i = 1#1) (x : S512x4096.Idx → Elt F .bf16) (r : S512x1024.Idx → Elt F .f32) (off h f)
    (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ fly c off h f ∗ rest c off h f ∗ owes c.tc 0 W
      ∗ ((owns c.tc arg2 fullShare x ∗ owns c.tc arg4 fullShare r ∗ owns c.tc bM fullShare (narrow (colV off h f)) ∗ owns c.tc arg5 fullShare (outv r x (narrow (colV off h f)))
        ∗ fly c (k1_off2 i) (Facts₀.k1_off2_inb i h1 h3) f ∗ rest c (k1_off2 i) (Facts₀.k1_off2_inb i h1 h3) f ∗ (∃ W', owes c.tc 0 W')) -∗ K ⟨⟩))
    ⊢ wp frame (wpE (defs₀ (F := F)) Variants.none c.tc none) Set.univ (body i arg2 harg2 arg4 harg4 arg5 harg5) K := by
  unfold body cc1_matmul_residual
  rw [dif_pos h1, dif_neg h2, dif_pos h3]
  unfold owns fly rest
  iintro ⟨⟨%X, %eX, HX⟩, ⟨%A, %eA, HA⟩, ⟨%wd, %B, -, HB⟩, ⟨%d, %D, -, HD⟩, HF, HR, HW, Hk⟩
  sl_exec
  ihave HR := (whole_back c off h f) $$ HR
  sl_exec
  have e1 : next_run.sl.v21 off h f = narrow (colV off h f) := by
    delta next_run.sl.v21 next_run.sl.v18
    exact congrArg (narrow (F := F)) (View.readAt_full sM.view (colV off h f) _)
  have e2 : next_run.sl.v4 c off h f = narrow (colV off h f) := by
    exact (View.readCov_full bM.view _ _ _ _).trans e1
  have e : next_run.sl.v8 c arg2 arg4 off h f X A = outv r x (narrow (colV off h f)) :=
    (congr3 (outc (F := F)) ((View.readAt_full arg4.view A _).trans eA) ((View.readAt_full arg2.view X _).trans eX) e2).trans (outc_eq _ _ _)
  sl_step
  ihave HF := (fly_of c (k1_off2 i) (Facts₀.k1_off2_inb i h1 h3) f (colV off h f) (next_run.sl.dma0 i h1 h3 f) [] rfl) $$ HF
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HR
  iexists _; iexact HW

/-- The last column block: the flight is awaited and narrowed. -/
theorem last_run (h1 : k1_cond1 i = 1#1) (h2 : ¬ k1_cond2 i = 1#1) (h3 : ¬ k1_cond3 i = 1#1) (x : S512x4096.Idx → Elt F .bf16) (r : S512x1024.Idx → Elt F .f32) (off h f)
    (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ fly c off h f ∗ rest c off h f ∗ owes c.tc 0 W
      ∗ ((owns c.tc arg2 fullShare x ∗ owns c.tc arg4 fullShare r ∗ owns c.tc bM fullShare (narrow (colV off h f)) ∗ owns c.tc arg5 fullShare (outv r x (narrow (colV off h f)))
        ∗ semVal (c.tc, SemLoc.dma 13) 0 ∗ (sM.view.loc c.tc ↦[sM.view.set]{fullShare} colV off h f) ∗ (wM.view.loc c.tc ↦{fullShare} f) ∗ (∃ W', owes c.tc 0 W')) -∗ K ⟨⟩))
    ⊢ wp frame (wpE (defs₀ (F := F)) Variants.none c.tc none) Set.univ (body i arg2 harg2 arg4 harg4 arg5 harg5) K := by
  unfold body cc1_matmul_residual
  rw [dif_pos h1, dif_neg h2, dif_neg h3]
  unfold owns fly rest
  iintro ⟨⟨%X, %eX, HX⟩, ⟨%A, %eA, HA⟩, ⟨%wd, %B, -, HB⟩, ⟨%d, %D, -, HD⟩, HF, HR, HW, Hk⟩
  sl_exec
  ihave HR := (whole_back c off h f) $$ HR
  sl_exec
  have e1 : last_run.sl.v21 off h f = narrow (colV off h f) := by
    delta last_run.sl.v21 last_run.sl.v18
    exact congrArg (narrow (F := F)) (View.readAt_full sM.view (colV off h f) _)
  have e2 : last_run.sl.v4 c off h f = narrow (colV off h f) := by
    exact (View.readCov_full bM.view _ _ _ _).trans e1
  have e : last_run.sl.v8 c arg2 arg4 off h f X A = outv r x (narrow (colV off h f)) :=
    (congr3 (outc (F := F)) ((View.readAt_full arg4.view A _).trans eA) ((View.readAt_full arg2.view X _).trans eX) e2).trans (outc_eq _ _ _)
  sl_step
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HF_dst HR
  iexists _; iexact HW

/-- The first point: the first block is fetched, narrowed, and the second one's flight started. -/
theorem first_run (h1 : k1_cond1 i = 1#1) (h2 : k1_cond2 i = 1#1) (h3 : k1_cond3 i = 1#1) (x : S512x4096.Idx → Elt F .bf16) (r : S512x1024.Idx → Elt F .f32)
    (f : (⟨S4x16384x4096, .f32⟩ : BufTy).Contents (Elt F))
    (g : S4096x1024.Idx → Elt F .f32) (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ semVal (c.tc, SemLoc.dma 13) 0 ∗ (sM.view.loc c.tc ↦[sM.view.set]{fullShare} g) ∗ (wM.view.loc c.tc ↦{fullShare} f) ∗ owes c.tc 0 W
      ∗ ((owns c.tc arg2 fullShare x ∗ owns c.tc arg4 fullShare r ∗ owns c.tc bM fullShare (narrow (colV ![0, 4096, 0] inb0 f)) ∗ owns c.tc arg5 fullShare (outv r x (narrow (colV ![0, 4096, 0] inb0 f)))
        ∗ fly c (k1_off2 i) (Facts₀.k1_off2_inb i h1 h3) f ∗ rest c (k1_off2 i) (Facts₀.k1_off2_inb i h1 h3) f ∗ (∃ W', owes c.tc 0 W')) -∗ K ⟨⟩))
    ⊢ wp frame (wpE (defs₀ (F := F)) Variants.none c.tc none) Set.univ (body i arg2 harg2 arg4 harg4 arg5 harg5) K := by
  unfold body cc1_matmul_residual
  rw [dif_pos h1, dif_pos h2, dif_pos h3]
  unfold owns fly rest
  iintro ⟨⟨%X, %eX, HX⟩, ⟨%A, %eA, HA⟩, ⟨%wd, %B, -, HB⟩, ⟨%d, %D, -, HD⟩, HF, HS, HR, HW, Hk⟩
  sl_exec
  have e1 : first_run.sl.v21 f = narrow (colV ![0, 4096, 0] inb0 f) := by
    delta first_run.sl.v21 first_run.sl.v18
    refine congrArg (narrow (F := F)) ?_
    delta first_run.sl.v17
    exact (first_load _ _).trans rfl
  have e2 : first_run.sl.v4 c f = narrow (colV ![0, 4096, 0] inb0 f) := by
    exact (View.readCov_full bM.view _ _ _ _).trans e1
  have e : first_run.sl.v8 c arg2 arg4 f X A = outv r x (narrow (colV ![0, 4096, 0] inb0 f)) :=
    (congr3 (outc (F := F)) ((View.readAt_full arg4.view A _).trans eA) ((View.readAt_full arg2.view X _).trans eX) e2).trans (outc_eq _ _ _)
  sl_step
  ihave HF := (fly_of c (k1_off2 i) (Facts₀.k1_off2_inb i h1 h3) f g (first_run.sl.dma3 i h1 h3 f) [⟨Rect.whole S4096x1024, first_run.sl.dma0 f⟩] rfl) $$ HF
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HR
  iexists _; iexact HW

end Cert.Kernel3Ideal.Down.R1

end
-- ==== Proof.DownLaunch1.lean ====
/-
  The feed-forward's second product, block 1 of the inner dimension: what holds between points, the body at every point.
-/
module

public import proofs.«01_k».proof.Proof.DownBody1
public import proofs.«01_k».proof.Proof.Gen.Kernel3Ideal.Points

@[expose] public section

set_option maxRecDepth 16384

noncomputable section

namespace Cert.Kernel3Ideal.Down.R1

open Cert.Kernel3Ideal Cert.Kernel3Ideal.Gen Cert.Kernel3Ideal.Down
open Idealize.ShloMosaic.Pipeline (Dat BodyObligation)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (V : Dev nD → Valuation τ sig (Elt F))

/-- The weights as the launch finds them. -/
abbrev wts (c : Dev nD) : (⟨S4x16384x4096, .f32⟩ : BufTy).Contents (Elt F) := V c main_arg1

/-- A window's block at a point. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- No flight: the counter at zero, the scratch at anything, the weights whole. -/
def still (c : Dev nD) (f : (⟨S4x16384x4096, .f32⟩ : BufTy).Contents (Elt F)) : sProp 𝕄 :=
  iprop(semVal (c.tc, SemLoc.dma 13) 0 ∗ (∃ g, (sM.view.loc c.tc ↦[sM.view.set]{fullShare} g))
    ∗ (wM.view.loc c.tc ↦{fullShare} f))

theorem kb_lt : 1 < 4 := by decide

/-- Column block `j` in flight, if there is one. -/
def flying (c : Dev nD) (j : ℕ) (f : (⟨S4x16384x4096, .f32⟩ : BufTy).Contents (Elt F)) : sProp 𝕄 :=
  if h : j < 4 then iprop(fly c (offs 1 j) (offs_inb kb_lt h) f ∗ rest c (offs 1 j) (offs_inb kb_lt h) f) else still c f

/-- The transfers before point `n`. -/
def state (c : Dev nD) (n : ℕ) (f : (⟨S4x16384x4096, .f32⟩ : BufTy).Contents (Elt F)) : sProp 𝕄 :=
  if n = 0 then still c f else flying c ((n - 1) / 32 + 1) f

theorem state_zero (c : Dev nD) {n : ℕ} (h : n = 0) (f : (⟨S4x16384x4096, .f32⟩ : BufTy).Contents (Elt F)) :
    (state c n f : sProp 𝕄) = still c f := if_pos h

theorem state_pos (c : Dev nD) {n j : ℕ} (h : n ≠ 0) (e : (n - 1) / 32 + 1 = j) (f : (⟨S4x16384x4096, .f32⟩ : BufTy).Contents (Elt F)) :
    (state c n f : sProp 𝕄) = flying c j f := by subst e; exact if_neg h

theorem flying_eq (c : Dev nD) {j : ℕ} (hj : j < 4) (f : (⟨S4x16384x4096, .f32⟩ : BufTy).Contents (Elt F)) :
    (flying c j f : sProp 𝕄) = iprop(fly c (offs 1 j) (offs_inb kb_lt hj) f ∗ rest c (offs 1 j) (offs_inb kb_lt hj) f) := dif_pos hj

theorem flying_end (c : Dev nD) {j : ℕ} (hj : ¬ j < 4) (f : (⟨S4x16384x4096, .f32⟩ : BufTy).Contents (Elt F)) :
    (flying c j f : sProp 𝕄) = still c f := dif_neg hj

theorem flying_of (c : Dev nD) {j : ℕ} (hj : j < 4) (f : (⟨S4x16384x4096, .f32⟩ : BufTy).Contents (Elt F)) (off h) (e : off = offs 1 j) :
    (iprop(fly c off h f ∗ rest c off h f) : sProp 𝕄) ⊢ flying c j f := by
  subst e
  unfold flying
  rw [dif_pos hj]

/-- What the other launches keep to themselves. -/
abbrev others (c : Dev nD) : sProp 𝕄 := Pipeline.scopedRestBut spec1 c [cc1_scratch0, cc1_scratch1]

/-- Between points: the block of the weights narrowed once its first row block has run, the transfers, the generator. -/
def Φc (c : Dev nD) (n : ℕ) : sProp 𝕄 :=
  iprop((∃ w, ⌜n % 32 ≠ 0 → w = wblk 1 (wts V c) (jn n)⌝ ∗ owns c.tc bM fullShare w)
    ∗ state c n (wts V c) ∗ (∃ r, prngReg c r) ∗ others c)

/-- The block of the output a point leaves. -/
def outBlk (c : Dev nD) (t : Fin cfg1.N) : S512x1024.Idx → Elt F .f32 := outv (iblk V c 1 t) (iblk V c 0 t) (wblk 1 (wts V c) (jn t.val))

/-- The data of the pipeline. -/
def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => outBlk V c t
  Φ t := Φc V c t.val
  q _ := fullShare
  owed _ := 0

theorem is1 : ∀ t : Fin cfg1.N, k1_cond1 (grid1.coords t) = 1#1 ↔ t.val % 32 = 0 :=
  (by decide +kernel : ∀ t : Fin grid1.N, k1_cond1 (grid1.coords t) = 1#1 ↔ t.val % 32 = 0)
theorem is2 : ∀ t : Fin cfg1.N, k1_cond2 (grid1.coords t) = 1#1 ↔ t.val / 32 = 0 :=
  (by decide +kernel : ∀ t : Fin grid1.N, k1_cond2 (grid1.coords t) = 1#1 ↔ t.val / 32 = 0)
theorem is3 : ∀ t : Fin cfg1.N, k1_cond3 (grid1.coords t) = 1#1 ↔ t.val / 32 + 1 < 4 :=
  (by decide +kernel : ∀ t : Fin grid1.N, k1_cond3 (grid1.coords t) = 1#1 ↔ t.val / 32 + 1 < 4)
theorem off2 : ∀ t : Fin cfg1.N, k1_off2 (grid1.coords t) = offs 1 (t.val / 32 + 1) :=
  (by decide +kernel : ∀ t : Fin grid1.N, k1_off2 (grid1.coords t) = offs 1 (t.val / 32 + 1))

theorem defs₀_row (t : Fin cfg1.N) : (defs₀ (F := F)) .tc cfg1.body (cfg1.bodyArgs t (cfg1.slots t)) = bodyAt1 t := by
  unfold defs₀; rw [Defs.onTc_tc]

/-- The body at a point, from the buffers to the buffers. -/
theorem step (c : Dev nD) (t : Fin cfg1.N) (W : Waits sig Unit) (K : PUnit → sProp 𝕄) :
    iprop(Φc V c t.val ∗ owes c.tc 0 W ∗ owns c.tc (win1_0.stage (cfg1.slots t 0)) fullShare (iblk V c 0 t)
      ∗ owns c.tc (win1_1.stage (cfg1.slots t 1)) fullShare (iblk V c 1 t)
      ∗ (∃ d, owns c.tc (win1_2.stage (cfg1.slots t 2)) fullShare d)
      ∗ ((Φc V c (t.val + 1) ∗ (∃ W', owes c.tc 0 W') ∗ owns c.tc (win1_0.stage (cfg1.slots t 0)) fullShare (iblk V c 0 t)
        ∗ owns c.tc (win1_1.stage (cfg1.slots t 1)) fullShare (iblk V c 1 t)
        ∗ owns c.tc (win1_2.stage (cfg1.slots t 2)) fullShare (outBlk V c t)) -∗ K ⟨⟩))
    ⊢ wp frame (wpE (defs₀ (F := F)) Variants.none c.tc none) Set.univ (bodyAt1 t) K := by
  have ht : t.val < 128 := t.isLt
  unfold Φc outBlk
  by_cases h1 : t.val % 32 = 0
  · by_cases h2 : t.val / 32 = 0
    · have h0 : t.val = 0 := by omega
      have R := fun g => (first_run c (grid1.coords t) _ (hstage1_0 ((cfg1.slots t 0).cast nbuf1_0)) _ (hstage1_1 ((cfg1.slots t 1).cast nbuf1_1)) _ (hstage1_2 ((cfg1.slots t 2).cast nbuf1_2)) ((is1 t).2 h1) ((is2 t).2 h2) ((is3 t).2 (by omega)) (iblk V c 0 t) (iblk V c 1 t) (wts V c) g W K)
      rw [wblk_of 1 (wts V c) (jn t.val) ![0, 4096, 0] inb0 (by rw [h0]; rfl)] at R
      rw [state_zero c h0, state_pos c (Nat.succ_ne_zero _) (show (t.val + 1 - 1) / 32 + 1 = t.val / 32 + 1 from rfl)]
      unfold still
      iintro ⟨⟨⟨%w, %hw, HB⟩, ⟨HQ, ⟨%g, HS⟩, HR⟩, Hg⟩, HW, HX, HA, HD, Hk⟩
      iapply (R g)
      iframe HX HA
      isplitl [HB]; · iexists w; iexact HB
      iframe HD HQ HS HR HW
      iintro ⟨HX, HA, HB, HD, HF, HR, HW⟩
      iapply Hk
      isplitl [HB HF HR Hg]
      · isplitl [HB]
        · iexists _; isplitr; swap; · iexact HB
          ipureintro; intro _; rw [h0]; rfl
        isplitl [HF HR]
        · iapply (flying_of c (j := t.val / 32 + 1) (by omega) (wts V c) _ _ (off2 t))
          iframe HF
          iexact HR
        iexact Hg
      iframe HW HX HA
      iexact HD
    · have hn : t.val ≠ 0 := by omega
      have hj : t.val / 32 < 4 := by omega
      have hw0 : narrow (colV (offs 1 (t.val / 32)) (offs_inb kb_lt hj) (wts V c)) = wblk 1 (wts V c) (jn t.val) :=
        wblk_of _ _ _ _ _ (by unfold jn; show _ = offs 1 (t.val / 32 % 4); rw [Nat.mod_eq_of_lt hj])
      have hw1 : wblk 1 (wts V c) (jn t.val) = wblk 1 (wts V c) (jn (t.val + 1)) := by
        rw [show jn (t.val + 1) = jn t.val from Fin.ext (by show (t.val + 1) / 32 % 4 = t.val / 32 % 4; omega)]
      rw [state_pos c hn (show (t.val - 1) / 32 + 1 = t.val / 32 from by omega), flying_eq c hj, state_pos c (Nat.succ_ne_zero _) (show (t.val + 1 - 1) / 32 + 1 = t.val / 32 + 1 from rfl)]
      by_cases h3 : t.val / 32 + 1 < 4
      · have R := (next_run c (grid1.coords t) _ (hstage1_0 ((cfg1.slots t 0).cast nbuf1_0)) _ (hstage1_1 ((cfg1.slots t 1).cast nbuf1_1)) _ (hstage1_2 ((cfg1.slots t 2).cast nbuf1_2)) ((is1 t).2 h1) (fun h => h2 ((is2 t).1 h)) ((is3 t).2 h3) (iblk V c 0 t) (iblk V c 1 t) _ (offs_inb kb_lt hj) (wts V c) W K)
        rw [hw0] at R
        iintro ⟨⟨⟨%w, %hw, HB⟩, ⟨HF, HR⟩, Hg⟩, HW, HX, HA, HD, Hk⟩
        iapply R
        iframe HX HA
        isplitl [HB]; · iexists w; iexact HB
        iframe HD HF HR HW
        iintro ⟨HX, HA, HB, HD, HF, HR, HW⟩
        iapply Hk
        isplitl [HB HF HR Hg]
        · isplitl [HB]
          · iexists _; isplitr; swap; · iexact HB
            ipureintro; intro _; exact hw1
          isplitl [HF HR]
          · iapply (flying_of c (j := t.val / 32 + 1) (by omega) (wts V c) _ _ (off2 t))
            iframe HF
            iexact HR
          iexact Hg
        iframe HW HX HA
        iexact HD
      · rw [flying_end c h3]
        unfold still
        have R := (last_run c (grid1.coords t) _ (hstage1_0 ((cfg1.slots t 0).cast nbuf1_0)) _ (hstage1_1 ((cfg1.slots t 1).cast nbuf1_1)) _ (hstage1_2 ((cfg1.slots t 2).cast nbuf1_2)) ((is1 t).2 h1) (fun h => h2 ((is2 t).1 h)) (fun h => h3 ((is3 t).1 h)) (iblk V c 0 t) (iblk V c 1 t) _ (offs_inb kb_lt hj) (wts V c) W K)
        rw [hw0] at R
        iintro ⟨⟨⟨%w, %hw, HB⟩, ⟨HF, HR⟩, Hg⟩, HW, HX, HA, HD, Hk⟩
        iapply R
        iframe HX HA
        isplitl [HB]; · iexists w; iexact HB
        iframe HD HF HR HW
        iintro ⟨HX, HA, HB, HD, HQ, HS, HR, HW⟩
        iapply Hk
        isplitl [HB HQ HS HR Hg]
        · isplitl [HB]
          · iexists _; isplitr; swap; · iexact HB
            ipureintro; intro _; exact hw1
          isplitl [HQ HS HR]
          · isplitl [HQ]; · iexact HQ
            isplitl [HS]; · iexists _; iexact HS
            iexact HR
          iexact Hg
        iframe HW HX HA
        iexact HD
  · rw [state_pos c (show t.val ≠ 0 by omega) rfl, state_pos c (Nat.succ_ne_zero _) (show (t.val + 1 - 1) / 32 + 1 = (t.val - 1) / 32 + 1 from by omega)]
    iintro ⟨⟨⟨%w, %hw, HB⟩, HS, Hg⟩, HW, HX, HA, HD, Hk⟩
    have hw' := hw h1
    subst hw'
    iapply (mid_run c (grid1.coords t) _ (hstage1_0 ((cfg1.slots t 0).cast nbuf1_0)) _ (hstage1_1 ((cfg1.slots t 1).cast nbuf1_1)) _ (hstage1_2 ((cfg1.slots t 2).cast nbuf1_2)) (fun h => h1 ((is1 t).1 h)) (iblk V c 0 t) (iblk V c 1 t) (wblk 1 (wts V c) (jn t.val)) K)
    iframe HX HA HB HD
    iintro ⟨HX, HA, HB, HD⟩
    iapply Hk
    isplitl [HB HS Hg]
    · isplitl [HB]
      · iexists _; isplitr; swap; · iexact HB
        ipureintro; intro h
        rw [show jn (t.val + 1) = jn t.val from Fin.ext (by show (t.val + 1) / 32 % 4 = t.val / 32 % 4; omega)]
      isplitl [HS]
      · iexact HS
      iexact Hg
    isplitl [HW]; · iexists W; iexact HW
    iframe HX HA
    iexact HD

theorem bef0 (c : Dev nD) (t : Fin cfg1.N) (d) : (dat V c).before 0 t d = iblk V c 0 t :=
  ((dat V c).before_in_eq_fetched 0 rfl (fun _ => rfl) (fun _ _ _ => rfl) (fun t => by unfold Dat.blockOf; rfl) t d).trans
    (by unfold Dat.fetched Dat.blockOf; rfl)

theorem bef1 (c : Dev nD) (t : Fin cfg1.N) (d) : (dat V c).before 1 t d = iblk V c 1 t :=
  ((dat V c).before_in_eq_fetched 1 rfl (fun _ => rfl) (fun _ _ _ => rfl) (fun t => by unfold Dat.blockOf; rfl) t d).trans
    (by unfold Dat.fetched Dat.blockOf; rfl)

/-- The body's triple at a point. -/
theorem sound_body (c : Dev nD) (t : Fin cfg1.N) :
    (iprop(Φc V c t.val ∗ (dat V c).owesAt () t.castSucc
      ∗ (∃ d, owns c.tc (win1_0.stage (cfg1.slots t 0)) fullShare ((dat V c).before 0 t d))
      ∗ (∃ d, owns c.tc (win1_1.stage (cfg1.slots t 1)) fullShare ((dat V c).before 1 t d))
      ∗ (∃ d, owns c.tc (win1_2.stage (cfg1.slots t 2)) fullShare ((dat V c).before 2 t d))) : sProp 𝕄)
    ⊢ wp frame (wpE (defs₀ (F := F)) Variants.none c.tc none) Set.univ (bodyAt1 t) (fun _ =>
      iprop(Φc V c (t.val + 1) ∗ (dat V c).owesAt () t.succ
      ∗ owns c.tc (win1_0.stage (cfg1.slots t 0)) fullShare (iblk V c 0 t)
      ∗ owns c.tc (win1_1.stage (cfg1.slots t 1)) fullShare (iblk V c 1 t)
      ∗ owns c.tc (win1_2.stage (cfg1.slots t 2)) fullShare (outBlk V c t))) := by
  simp only [bef0, bef1]
  unfold Dat.owesAt Pipeline.owesWithin
  rw [show (dat V c).owed t.castSucc = 0 from rfl, show (dat V c).owed t.succ = 0 from rfl]
  iintro ⟨HP, ⟨%W, -, HW⟩, ⟨%d0, H0⟩, ⟨%d1, H1⟩, ⟨%d2, H2⟩⟩
  iapply (step V c t W _)
  iframe HP HW H0 H1
  isplitl [H2]; · iexists _; iexact H2
  iintro ⟨HP, ⟨%W', HW⟩, H0, H1, H2⟩
  iframe HP
  isplitl [HW]
  · iexists W'
    isplitr
    · ipureintro; exact fun _ _ => Or.inl trivial
    iexact HW
  iframe H0 H1
  iexact H2

/-- The library's obligation of the body. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

/-- The kernel's own counter and the weights it addresses itself. -/
def osem : Fin 1 → SemLoc sig := fun _ => SemLoc.dma 13
theorem osem_facts : Pipeline.OwnSemFacts spec1 osem := by decide

/-- What the launch is given and leaves, beside its arrays. -/
abbrev given (c : Dev nD) : sProp 𝕄 :=
  iprop(Pipeline.scopedRest spec1 c ∗ (∃ r, prngReg c r) ∗ Pipeline.ownSems0 osem c
    ∗ (bigSep ({main_arg1} : Finset (Ref sig .tc)) fun b => ((c.tc : Thread nD τ).loc b) ↦{fullShare} V c (Proc.devRef .tc b)))

theorem given_eq (c : Dev nD) :
    (given V c : sProp 𝕄)
      = iprop((iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ others c)
        ∗ (∃ r, prngReg c r) ∗ semVal (c.tc, SemLoc.dma 13) 0 ∗ (((c : Thread nD τ).loc main_arg1) ↦{fullShare} wts V c)) := by
  unfold given
  rw [scopedRest1_split, Pipeline.ownSems0_eq_of_list c osem [0] (by decide) (by decide),
    BI.bigSep_eq_bigSepL_of_eq (S := {main_arg1}) [main_arg1] (by decide) (by decide)]
  rfl

theorem Φ_first (c : Dev nD) : (given V c : sProp 𝕄) ⊢ Φc V c 0 := by
  rw [given_eq]
  unfold Φc
  rw [state_zero c rfl]
  unfold still
  simp only [owns_whole, Memref.view_whole, View.set_whole]
  iintro ⟨⟨⟨⟨%f, S0⟩, ⟨%g, S1⟩⟩, Ho⟩, Hg, HQ, HR⟩
  isplitl [S1]
  · iexists g
    isplitr
    · ipureintro; intro h; exact absurd rfl h
    · iexact S1
  isplitl [S0 HQ HR]
  · isplitl [HQ]; · iexact HQ
    isplitl [S0]; · iexists f; iexact S0
    iexact HR
  iframe Hg
  iexact Ho

theorem Φ_last (c : Dev nD) : (Φc V c 128 : sProp 𝕄) ⊢ given V c := by
  rw [given_eq]
  unfold Φc
  rw [state_pos c (by decide) (show (128 - 1) / 32 + 1 = 4 from rfl), flying_end c (by decide)]
  unfold still
  simp only [owns_whole, Memref.view_whole, View.set_whole]
  iintro ⟨⟨%g, -, S1⟩, ⟨HQ, ⟨%f, S0⟩, HR⟩, Hg, Ho⟩
  isplitl [S0 S1 Ho]
  · isplitl [S0 S1]
    · isplitl [S0]; · iexists f; iexact S0
      iexists g; iexact S1
    iexact Ho
  iframe Hg HQ
  iexact HR

end Cert.Kernel3Ideal.Down.R1

end
-- ==== Proof.DownBody2.lean ====
/-
  The feed-forward's second product, block 2 of the inner dimension: the body at a grid point.
-/
module

public import proofs.«01_k».proof.Proof.DownCommon

@[expose] public section

set_option maxRecDepth 16384

noncomputable section

namespace Cert.Kernel3Ideal.Down.R2

open Cert.Kernel3Ideal Cert.Kernel3Ideal.Gen Cert.Kernel3Ideal.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two scratch buffers: a block of the weights as fetched and as narrowed. -/
abbrev sM : Memref sig .tc .vmem S4096x1024 .f32 := Memref.whole cc2_scratch0
abbrev bM : Memref sig .tc .vmem S4096x1024 .bf16 := Memref.whole cc2_scratch1

/-- A block in flight to its scratch. -/
abbrev fly (c : Dev nD) (off : Fin 3 → ℕ) (h : ∀ a, off a + S1x4096x1024.size a ≤ S4x16384x4096.size a)
    (f : (⟨S4x16384x4096, .f32⟩ : BufTy).Contents (Elt F)) : sProp 𝕄 :=
  Transfers.Flight (countersEmb (U := Pipeline.UD sig nD τ)) c.tc (SemLoc.dma 20) () 524288
    iprop((sM.view.loc c.tc ↦[sM.view.set]{fullShare} colV off h f)
      ∗ ((colM off h).view.loc c.tc ↦[(colM off h).view.set]{fullShare} f))

/-- A buffer's contents after it is overwritten whole. -/
theorem fetched_eq (g w : S4096x1024.Idx → Elt F .f32) (L : List (View.Piece (Elt F) S4096x1024 .f32)) :
    sM.view.writes (Elt F) g (⟨Rect.whole S4096x1024, w⟩ :: L) = w := by
  have h : sM.view.read (Elt F) (sM.view.writes (Elt F) g (⟨Rect.whole S4096x1024, w⟩ :: L)) = w := by
    funext y
    have h := View.read_writes_cons_emb sM.view g (Rect.whole S4096x1024) w L y
    rwa [Rect.emb_whole_apply] at h
  generalize sM.view.writes (Elt F) g (⟨Rect.whole S4096x1024, w⟩ :: L) = z at h
  exact h

/-- A flight the executor starts, as the invariant names it. -/
theorem fly_of (c : Dev nD) (off : Fin 3 → ℕ) (h : ∀ a, off a + S1x4096x1024.size a ≤ S4x16384x4096.size a)
    (f : (⟨S4x16384x4096, .f32⟩ : BufTy).Contents (Elt F)) (g w : S4096x1024.Idx → Elt F .f32) (L : List (View.Piece (Elt F) S4096x1024 .f32)) (hw : w = colV off h f) :
    (Transfers.Flight (countersEmb (U := Pipeline.UD sig nD τ)) c.tc (SemLoc.dma ⟨20, by decide⟩) (default : Unit) 524288
    iprop((sM.view.loc c.tc ↦[sM.view.set]{fullShare} sM.view.writes (Elt F) g (⟨Rect.whole S4096x1024, w⟩ :: L))
      ∗ (wM.view.loc c.tc ↦[(colM off h).view.set]{fullShare} f)) : sProp 𝕄) ⊢ fly c off h f := by
  unfold fly
  rw [fetched_eq, hw]
  exact .rfl

/-- A buffer loaded whole after it is fetched whole. -/
theorem first_load [∀ e, Nonempty (Elt F e)] (w : S4096x1024.Idx → Elt F .f32) (inb : ∀ a, (![0, 0] : Fin 2 → ℕ) a + S4096x1024.size a ≤ S4096x1024.size a) :
    sM.view.readCov [⟨Rect.whole S4096x1024, w⟩] (Rect.unit ![0, 0] S4096x1024.size inb).toLoadRect = w :=
  (View.readAt_full sM.view _ inb).trans (View.read_writes_whole sM.view _ w)

variable (c : Dev nD) (i : grid2.Coords) (arg2 : Memref sig .tc .vmem S512x4096 .bf16) (harg2 : arg2.IsWhole)
  (arg4 : Memref sig .tc .vmem S512x1024 .f32) (harg4 : arg4.IsWhole) (arg5 : Memref sig .tc .vmem S512x1024 .f32) (harg5 : arg5.IsWhole)

abbrev body : Prog (TpuEff nD τ sig (Elt F) Λ₀ .tc) PUnit :=
  cc2_matmul_residual i arg2 harg2 wM (Memref.isWhole_whole _) arg4 harg4 arg5 harg5 sM (Memref.isWhole_whole _) bM (Memref.isWhole_whole _) cc2_scratch2

/-- A later row block: the block of the weights is already narrowed. -/
theorem mid_run (h1 : ¬ k2_cond1 i = 1#1) (x : S512x4096.Idx → Elt F .bf16) (r : S512x1024.Idx → Elt F .f32) (w : S4096x1024.Idx → Elt F .bf16)
    (K : PUnit → sProp 𝕄) :
    iprop(owns c.tc arg2 fullShare x ∗ owns c.tc arg4 fullShare r ∗ owns c.tc bM fullShare w ∗ (∃ d, owns c.tc arg5 fullShare d)
      ∗ ((owns c.tc arg2 fullShare x ∗ owns c.tc arg4 fullShare r ∗ owns c.tc bM fullShare w ∗ owns c.tc arg5 fullShare (outv r x w)) -∗ K ⟨⟩))
    ⊢ wp frame (wpE (defs₀ (F := F)) Variants.none c.tc none) Set.univ (body i arg2 harg2 arg4 harg4 arg5 harg5) K := by
  unfold body cc2_matmul_residual
  rw [dif_neg h1]
  unfold owns
  iintro ⟨⟨%X, %eX, HX⟩, ⟨%A, %eA, HA⟩, ⟨%B, %eB, HB⟩, ⟨%d, %D, -, HD⟩, Hk⟩
  sl_exec
  have e : mid_run.sl.v8 c arg2 arg4 X A B = outv r x w :=
    (congr3 (outc (F := F)) ((View.readAt_full arg4.view A _).trans eA) ((View.readAt_full arg2.view X _).trans eX) ((View.readAt_full bM.view B _).trans eB)).trans (outc_eq _ _ _)
  sl_step
  iapply Hk
  isplitl [HX]
  · iexists X; isplitr; · ipureintro; exact eX
    iexact HX
  isplitl [HA]
  · iexists A; isplitr; · ipureintro; exact eA
    iexact HA
  isplitl [HB]
  · iexists B; isplitr; · ipureintro; exact eB
    iexact HB
  iapply (stored c arg5 D ![0, 0] inbO _ _ e)
  iexact HD

theorem inb0 : ∀ a, (![0, 8192, 0] : Fin 3 → ℕ) a + S1x4096x1024.size a ≤ S4x16384x4096.size a := by decide

/-- A later column block: the flight is awaited, narrowed, and the next one started. -/
theorem next_run (h1 : k2_cond1 i = 1#1) (h2 : ¬ k2_cond2 i = 1#1) (h3 : k2_cond3 i = 1#1) (x : S512x4096.Idx → Elt F .bf16) (r : S512x1024.Idx → Elt F .f32) (off h f)
    (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ fly c off h f ∗ rest c off h f ∗ owes c.tc 0 W
      ∗ ((owns c.tc arg2 fullShare x ∗ owns c.tc arg4 fullShare r ∗ owns c.tc bM fullShare (narrow (colV off h f)) ∗ owns c.tc arg5 fullShare (outv r x (narrow (colV off h f)))
        ∗ fly c (k2_off2 i) (Facts₀.k2_off2_inb i h1 h3) f ∗ rest c (k2_off2 i) (Facts₀.k2_off2_inb i h1 h3) f ∗ (∃ W', owes c.tc 0 W')) -∗ K ⟨⟩))
    ⊢ wp frame (wpE (defs₀ (F := F)) Variants.none c.tc none) Set.univ (body i arg2 harg2 arg4 harg4 arg5 harg5) K := by
  unfold body cc2_matmul_residual
  rw [dif_pos h1, dif_neg h2, dif_pos h3]
  unfold owns fly rest
  iintro ⟨⟨%X, %eX, HX⟩, ⟨%A, %eA, HA⟩, ⟨%wd, %B, -, HB⟩, ⟨%d, %D, -, HD⟩, HF, HR, HW, Hk⟩
  sl_exec
  ihave HR := (whole_back c off h f) $$ HR
  sl_exec
  have e1 : next_run.sl.v21 off h f = narrow (colV off h f) := by
    delta next_run.sl.v21 next_run.sl.v18
    exact congrArg (narrow (F := F)) (View.readAt_full sM.view (colV off h f) _)
  have e2 : next_run.sl.v4 c off h f = narrow (colV off h f) := by
    exact (View.readCov_full bM.view _ _ _ _).trans e1
  have e : next_run.sl.v8 c arg2 arg4 off h f X A = outv r x (narrow (colV off h f)) :=
    (congr3 (outc (F := F)) ((View.readAt_full arg4.view A _).trans eA) ((View.readAt_full arg2.view X _).trans eX) e2).trans (outc_eq _ _ _)
  sl_step
  ihave HF := (fly_of c (k2_off2 i) (Facts₀.k2_off2_inb i h1 h3) f (colV off h f) (next_run.sl.dma0 i h1 h3 f) [] rfl) $$ HF
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HR
  iexists _; iexact HW

/-- The last column block: the flight is awaited and narrowed. -/
theorem last_run (h1 : k2_cond1 i = 1#1) (h2 : ¬ k2_cond2 i = 1#1) (h3 : ¬ k2_cond3 i = 1#1) (x : S512x4096.Idx → Elt F .bf16) (r : S512x1024.Idx → Elt F .f32) (off h f)
    (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ fly c off h f ∗ rest c off h f ∗ owes c.tc 0 W
      ∗ ((owns c.tc arg2 fullShare x ∗ owns c.tc arg4 fullShare r ∗ owns c.tc bM fullShare (narrow (colV off h f)) ∗ owns c.tc arg5 fullShare (outv r x (narrow (colV off h f)))
        ∗ semVal (c.tc, SemLoc.dma 20) 0 ∗ (sM.view.loc c.tc ↦[sM.view.set]{fullShare} colV off h f) ∗ (wM.view.loc c.tc ↦{fullShare} f) ∗ (∃ W', owes c.tc 0 W')) -∗ K ⟨⟩))
    ⊢ wp frame (wpE (defs₀ (F := F)) Variants.none c.tc none) Set.univ (body i arg2 harg2 arg4 harg4 arg5 harg5) K := by
  unfold body cc2_matmul_residual
  rw [dif_pos h1, dif_neg h2, dif_neg h3]
  unfold owns fly rest
  iintro ⟨⟨%X, %eX, HX⟩, ⟨%A, %eA, HA⟩, ⟨%wd, %B, -, HB⟩, ⟨%d, %D, -, HD⟩, HF, HR, HW, Hk⟩
  sl_exec
  ihave HR := (whole_back c off h f) $$ HR
  sl_exec
  have e1 : last_run.sl.v21 off h f = narrow (colV off h f) := by
    delta last_run.sl.v21 last_run.sl.v18
    exact congrArg (narrow (F := F)) (View.readAt_full sM.view (colV off h f) _)
  have e2 : last_run.sl.v4 c off h f = narrow (colV off h f) := by
    exact (View.readCov_full bM.view _ _ _ _).trans e1
  have e : last_run.sl.v8 c arg2 arg4 off h f X A = outv r x (narrow (colV off h f)) :=
    (congr3 (outc (F := F)) ((View.readAt_full arg4.view A _).trans eA) ((View.readAt_full arg2.view X _).trans eX) e2).trans (outc_eq _ _ _)
  sl_step
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HF_dst HR
  iexists _; iexact HW

/-- The first point: the first block is fetched, narrowed, and the second one's flight started. -/
theorem first_run (h1 : k2_cond1 i = 1#1) (h2 : k2_cond2 i = 1#1) (h3 : k2_cond3 i = 1#1) (x : S512x4096.Idx → Elt F .bf16) (r : S512x1024.Idx → Elt F .f32)
    (f : (⟨S4x16384x4096, .f32⟩ : BufTy).Contents (Elt F))
    (g : S4096x1024.Idx → Elt F .f32) (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ semVal (c.tc, SemLoc.dma 20) 0 ∗ (sM.view.loc c.tc ↦[sM.view.set]{fullShare} g) ∗ (wM.view.loc c.tc ↦{fullShare} f) ∗ owes c.tc 0 W
      ∗ ((owns c.tc arg2 fullShare x ∗ owns c.tc arg4 fullShare r ∗ owns c.tc bM fullShare (narrow (colV ![0, 8192, 0] inb0 f)) ∗ owns c.tc arg5 fullShare (outv r x (narrow (colV ![0, 8192, 0] inb0 f)))
        ∗ fly c (k2_off2 i) (Facts₀.k2_off2_inb i h1 h3) f ∗ rest c (k2_off2 i) (Facts₀.k2_off2_inb i h1 h3) f ∗ (∃ W', owes c.tc 0 W')) -∗ K ⟨⟩))
    ⊢ wp frame (wpE (defs₀ (F := F)) Variants.none c.tc none) Set.univ (body i arg2 harg2 arg4 harg4 arg5 harg5) K := by
  unfold body cc2_matmul_residual
  rw [dif_pos h1, dif_pos h2, dif_pos h3]
  unfold owns fly rest
  iintro ⟨⟨%X, %eX, HX⟩, ⟨%A, %eA, HA⟩, ⟨%wd, %B, -, HB⟩, ⟨%d, %D, -, HD⟩, HF, HS, HR, HW, Hk⟩
  sl_exec
  have e1 : first_run.sl.v21 f = narrow (colV ![0, 8192, 0] inb0 f) := by
    delta first_run.sl.v21 first_run.sl.v18
    refine congrArg (narrow (F := F)) ?_
    delta first_run.sl.v17
    exact (first_load _ _).trans rfl
  have e2 : first_run.sl.v4 c f = narrow (colV ![0, 8192, 0] inb0 f) := by
    exact (View.readCov_full bM.view _ _ _ _).trans e1
  have e : first_run.sl.v8 c arg2 arg4 f X A = outv r x (narrow (colV ![0, 8192, 0] inb0 f)) :=
    (congr3 (outc (F := F)) ((View.readAt_full arg4.view A _).trans eA) ((View.readAt_full arg2.view X _).trans eX) e2).trans (outc_eq _ _ _)
  sl_step
  ihave HF := (fly_of c (k2_off2 i) (Facts₀.k2_off2_inb i h1 h3) f g (first_run.sl.dma3 i h1 h3 f) [⟨Rect.whole S4096x1024, first_run.sl.dma0 f⟩] rfl) $$ HF
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HR
  iexists _; iexact HW

end Cert.Kernel3Ideal.Down.R2

end
-- ==== Proof.DownLaunch2.lean ====
/-
  The feed-forward's second product, block 2 of the inner dimension: what holds between points, the body at every point.
-/
module

public import proofs.«01_k».proof.Proof.DownBody2
public import proofs.«01_k».proof.Proof.Gen.Kernel3Ideal.Points

@[expose] public section

set_option maxRecDepth 16384

noncomputable section

namespace Cert.Kernel3Ideal.Down.R2

open Cert.Kernel3Ideal Cert.Kernel3Ideal.Gen Cert.Kernel3Ideal.Down
open Idealize.ShloMosaic.Pipeline (Dat BodyObligation)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (V : Dev nD → Valuation τ sig (Elt F))

/-- The weights as the launch finds them. -/
abbrev wts (c : Dev nD) : (⟨S4x16384x4096, .f32⟩ : BufTy).Contents (Elt F) := V c main_arg1

/-- A window's block at a point. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- No flight: the counter at zero, the scratch at anything, the weights whole. -/
def still (c : Dev nD) (f : (⟨S4x16384x4096, .f32⟩ : BufTy).Contents (Elt F)) : sProp 𝕄 :=
  iprop(semVal (c.tc, SemLoc.dma 20) 0 ∗ (∃ g, (sM.view.loc c.tc ↦[sM.view.set]{fullShare} g))
    ∗ (wM.view.loc c.tc ↦{fullShare} f))

theorem kb_lt : 2 < 4 := by decide

/-- Column block `j` in flight, if there is one. -/
def flying (c : Dev nD) (j : ℕ) (f : (⟨S4x16384x4096, .f32⟩ : BufTy).Contents (Elt F)) : sProp 𝕄 :=
  if h : j < 4 then iprop(fly c (offs 2 j) (offs_inb kb_lt h) f ∗ rest c (offs 2 j) (offs_inb kb_lt h) f) else still c f

/-- The transfers before point `n`. -/
def state (c : Dev nD) (n : ℕ) (f : (⟨S4x16384x4096, .f32⟩ : BufTy).Contents (Elt F)) : sProp 𝕄 :=
  if n = 0 then still c f else flying c ((n - 1) / 32 + 1) f

theorem state_zero (c : Dev nD) {n : ℕ} (h : n = 0) (f : (⟨S4x16384x4096, .f32⟩ : BufTy).Contents (Elt F)) :
    (state c n f : sProp 𝕄) = still c f := if_pos h

theorem state_pos (c : Dev nD) {n j : ℕ} (h : n ≠ 0) (e : (n - 1) / 32 + 1 = j) (f : (⟨S4x16384x4096, .f32⟩ : BufTy).Contents (Elt F)) :
    (state c n f : sProp 𝕄) = flying c j f := by subst e; exact if_neg h

theorem flying_eq (c : Dev nD) {j : ℕ} (hj : j < 4) (f : (⟨S4x16384x4096, .f32⟩ : BufTy).Contents (Elt F)) :
    (flying c j f : sProp 𝕄) = iprop(fly c (offs 2 j) (offs_inb kb_lt hj) f ∗ rest c (offs 2 j) (offs_inb kb_lt hj) f) := dif_pos hj

theorem flying_end (c : Dev nD) {j : ℕ} (hj : ¬ j < 4) (f : (⟨S4x16384x4096, .f32⟩ : BufTy).Contents (Elt F)) :
    (flying c j f : sProp 𝕄) = still c f := dif_neg hj

theorem flying_of (c : Dev nD) {j : ℕ} (hj : j < 4) (f : (⟨S4x16384x4096, .f32⟩ : BufTy).Contents (Elt F)) (off h) (e : off = offs 2 j) :
    (iprop(fly c off h f ∗ rest c off h f) : sProp 𝕄) ⊢ flying c j f := by
  subst e
  unfold flying
  rw [dif_pos hj]

/-- What the other launches keep to themselves. -/
abbrev others (c : Dev nD) : sProp 𝕄 := Pipeline.scopedRestBut spec2 c [cc2_scratch0, cc2_scratch1]

/-- Between points: the block of the weights narrowed once its first row block has run, the transfers, the generator. -/
def Φc (c : Dev nD) (n : ℕ) : sProp 𝕄 :=
  iprop((∃ w, ⌜n % 32 ≠ 0 → w = wblk 2 (wts V c) (jn n)⌝ ∗ owns c.tc bM fullShare w)
    ∗ state c n (wts V c) ∗ (∃ r, prngReg c r) ∗ others c)

/-- The block of the output a point leaves. -/
def outBlk (c : Dev nD) (t : Fin cfg2.N) : S512x1024.Idx → Elt F .f32 := outv (iblk V c 1 t) (iblk V c 0 t) (wblk 2 (wts V c) (jn t.val))

/-- The data of the pipeline. -/
def dat (c : Dev nD) : Dat τ (Elt F) Unit ℕ (Pipeline.UD sig nD τ) ℕ cfg2 c where
  A w := V c (Pipeline.arrRef spec2 w)
  after w t := match w with
    | ⟨0, _⟩ => iblk V c 0 t
    | ⟨1, _⟩ => iblk V c 1 t
    | ⟨2, _⟩ => outBlk V c t
  Φ t := Φc V c t.val
  q _ := fullShare
  owed _ := 0

theorem is1 : ∀ t : Fin cfg2.N, k2_cond1 (grid2.coords t) = 1#1 ↔ t.val % 32 = 0 :=
  (by decide +kernel : ∀ t : Fin grid2.N, k2_cond1 (grid2.coords t) = 1#1 ↔ t.val % 32 = 0)
theorem is2 : ∀ t : Fin cfg2.N, k2_cond2 (grid2.coords t) = 1#1 ↔ t.val / 32 = 0 :=
  (by decide +kernel : ∀ t : Fin grid2.N, k2_cond2 (grid2.coords t) = 1#1 ↔ t.val / 32 = 0)
theorem is3 : ∀ t : Fin cfg2.N, k2_cond3 (grid2.coords t) = 1#1 ↔ t.val / 32 + 1 < 4 :=
  (by decide +kernel : ∀ t : Fin grid2.N, k2_cond3 (grid2.coords t) = 1#1 ↔ t.val / 32 + 1 < 4)
theorem off2 : ∀ t : Fin cfg2.N, k2_off2 (grid2.coords t) = offs 2 (t.val / 32 + 1) :=
  (by decide +kernel : ∀ t : Fin grid2.N, k2_off2 (grid2.coords t) = offs 2 (t.val / 32 + 1))

theorem defs₀_row (t : Fin cfg2.N) : (defs₀ (F := F)) .tc cfg2.body (cfg2.bodyArgs t (cfg2.slots t)) = bodyAt2 t := by
  unfold defs₀; rw [Defs.onTc_tc]

/-- The body at a point, from the buffers to the buffers. -/
theorem step (c : Dev nD) (t : Fin cfg2.N) (W : Waits sig Unit) (K : PUnit → sProp 𝕄) :
    iprop(Φc V c t.val ∗ owes c.tc 0 W ∗ owns c.tc (win2_0.stage (cfg2.slots t 0)) fullShare (iblk V c 0 t)
      ∗ owns c.tc (win2_1.stage (cfg2.slots t 1)) fullShare (iblk V c 1 t)
      ∗ (∃ d, owns c.tc (win2_2.stage (cfg2.slots t 2)) fullShare d)
      ∗ ((Φc V c (t.val + 1) ∗ (∃ W', owes c.tc 0 W') ∗ owns c.tc (win2_0.stage (cfg2.slots t 0)) fullShare (iblk V c 0 t)
        ∗ owns c.tc (win2_1.stage (cfg2.slots t 1)) fullShare (iblk V c 1 t)
        ∗ owns c.tc (win2_2.stage (cfg2.slots t 2)) fullShare (outBlk V c t)) -∗ K ⟨⟩))
    ⊢ wp frame (wpE (defs₀ (F := F)) Variants.none c.tc none) Set.univ (bodyAt2 t) K := by
  have ht : t.val < 128 := t.isLt
  unfold Φc outBlk
  by_cases h1 : t.val % 32 = 0
  · by_cases h2 : t.val / 32 = 0
    · have h0 : t.val = 0 := by omega
      have R := fun g => (first_run c (grid2.coords t) _ (hstage2_0 ((cfg2.slots t 0).cast nbuf2_0)) _ (hstage2_1 ((cfg2.slots t 1).cast nbuf2_1)) _ (hstage2_2 ((cfg2.slots t 2).cast nbuf2_2)) ((is1 t).2 h1) ((is2 t).2 h2) ((is3 t).2 (by omega)) (iblk V c 0 t) (iblk V c 1 t) (wts V c) g W K)
      rw [wblk_of 2 (wts V c) (jn t.val) ![0, 8192, 0] inb0 (by rw [h0]; rfl)] at R
      rw [state_zero c h0, state_pos c (Nat.succ_ne_zero _) (show (t.val + 1 - 1) / 32 + 1 = t.val / 32 + 1 from rfl)]
      unfold still
      iintro ⟨⟨⟨%w, %hw, HB⟩, ⟨HQ, ⟨%g, HS⟩, HR⟩, Hg⟩, HW, HX, HA, HD, Hk⟩
      iapply (R g)
      iframe HX HA
      isplitl [HB]; · iexists w; iexact HB
      iframe HD HQ HS HR HW
      iintro ⟨HX, HA, HB, HD, HF, HR, HW⟩
      iapply Hk
      isplitl [HB HF HR Hg]
      · isplitl [HB]
        · iexists _; isplitr; swap; · iexact HB
          ipureintro; intro _; rw [h0]; rfl
        isplitl [HF HR]
        · iapply (flying_of c (j := t.val / 32 + 1) (by omega) (wts V c) _ _ (off2 t))
          iframe HF
          iexact HR
        iexact Hg
      iframe HW HX HA
      iexact HD
    · have hn : t.val ≠ 0 := by omega
      have hj : t.val / 32 < 4 := by omega
      have hw0 : narrow (colV (offs 2 (t.val / 32)) (offs_inb kb_lt hj) (wts V c)) = wblk 2 (wts V c) (jn t.val) :=
        wblk_of _ _ _ _ _ (by unfold jn; show _ = offs 2 (t.val / 32 % 4); rw [Nat.mod_eq_of_lt hj])
      have hw1 : wblk 2 (wts V c) (jn t.val) = wblk 2 (wts V c) (jn (t.val + 1)) := by
        rw [show jn (t.val + 1) = jn t.val from Fin.ext (by show (t.val + 1) / 32 % 4 = t.val / 32 % 4; omega)]
      rw [state_pos c hn (show (t.val - 1) / 32 + 1 = t.val / 32 from by omega), flying_eq c hj, state_pos c (Nat.succ_ne_zero _) (show (t.val + 1 - 1) / 32 + 1 = t.val / 32 + 1 from rfl)]
      by_cases h3 : t.val / 32 + 1 < 4
      · have R := (next_run c (grid2.coords t) _ (hstage2_0 ((cfg2.slots t 0).cast nbuf2_0)) _ (hstage2_1 ((cfg2.slots t 1).cast nbuf2_1)) _ (hstage2_2 ((cfg2.slots t 2).cast nbuf2_2)) ((is1 t).2 h1) (fun h => h2 ((is2 t).1 h)) ((is3 t).2 h3) (iblk V c 0 t) (iblk V c 1 t) _ (offs_inb kb_lt hj) (wts V c) W K)
        rw [hw0] at R
        iintro ⟨⟨⟨%w, %hw, HB⟩, ⟨HF, HR⟩, Hg⟩, HW, HX, HA, HD, Hk⟩
        iapply R
        iframe HX HA
        isplitl [HB]; · iexists w; iexact HB
        iframe HD HF HR HW
        iintro ⟨HX, HA, HB, HD, HF, HR, HW⟩
        iapply Hk
        isplitl [HB HF HR Hg]
        · isplitl [HB]
          · iexists _; isplitr; swap; · iexact HB
            ipureintro; intro _; exact hw1
          isplitl [HF HR]
          · iapply (flying_of c (j := t.val / 32 + 1) (by omega) (wts V c) _ _ (off2 t))
            iframe HF
            iexact HR
          iexact Hg
        iframe HW HX HA
        iexact HD
      · rw [flying_end c h3]
        unfold still
        have R := (last_run c (grid2.coords t) _ (hstage2_0 ((cfg2.slots t 0).cast nbuf2_0)) _ (hstage2_1 ((cfg2.slots t 1).cast nbuf2_1)) _ (hstage2_2 ((cfg2.slots t 2).cast nbuf2_2)) ((is1 t).2 h1) (fun h => h2 ((is2 t).1 h)) (fun h => h3 ((is3 t).1 h)) (iblk V c 0 t) (iblk V c 1 t) _ (offs_inb kb_lt hj) (wts V c) W K)
        rw [hw0] at R
        iintro ⟨⟨⟨%w, %hw, HB⟩, ⟨HF, HR⟩, Hg⟩, HW, HX, HA, HD, Hk⟩
        iapply R
        iframe HX HA
        isplitl [HB]; · iexists w; iexact HB
        iframe HD HF HR HW
        iintro ⟨HX, HA, HB, HD, HQ, HS, HR, HW⟩
        iapply Hk
        isplitl [HB HQ HS HR Hg]
        · isplitl [HB]
          · iexists _; isplitr; swap; · iexact HB
            ipureintro; intro _; exact hw1
          isplitl [HQ HS HR]
          · isplitl [HQ]; · iexact HQ
            isplitl [HS]; · iexists _; iexact HS
            iexact HR
          iexact Hg
        iframe HW HX HA
        iexact HD
  · rw [state_pos c (show t.val ≠ 0 by omega) rfl, state_pos c (Nat.succ_ne_zero _) (show (t.val + 1 - 1) / 32 + 1 = (t.val - 1) / 32 + 1 from by omega)]
    iintro ⟨⟨⟨%w, %hw, HB⟩, HS, Hg⟩, HW, HX, HA, HD, Hk⟩
    have hw' := hw h1
    subst hw'
    iapply (mid_run c (grid2.coords t) _ (hstage2_0 ((cfg2.slots t 0).cast nbuf2_0)) _ (hstage2_1 ((cfg2.slots t 1).cast nbuf2_1)) _ (hstage2_2 ((cfg2.slots t 2).cast nbuf2_2)) (fun h => h1 ((is1 t).1 h)) (iblk V c 0 t) (iblk V c 1 t) (wblk 2 (wts V c) (jn t.val)) K)
    iframe HX HA HB HD
    iintro ⟨HX, HA, HB, HD⟩
    iapply Hk
    isplitl [HB HS Hg]
    · isplitl [HB]
      · iexists _; isplitr; swap; · iexact HB
        ipureintro; intro h
        rw [show jn (t.val + 1) = jn t.val from Fin.ext (by show (t.val + 1) / 32 % 4 = t.val / 32 % 4; omega)]
      isplitl [HS]
      · iexact HS
      iexact Hg
    isplitl [HW]; · iexists W; iexact HW
    iframe HX HA
    iexact HD

theorem bef0 (c : Dev nD) (t : Fin cfg2.N) (d) : (dat V c).before 0 t d = iblk V c 0 t :=
  ((dat V c).before_in_eq_fetched 0 rfl (fun _ => rfl) (fun _ _ _ => rfl) (fun t => by unfold Dat.blockOf; rfl) t d).trans
    (by unfold Dat.fetched Dat.blockOf; rfl)

theorem bef1 (c : Dev nD) (t : Fin cfg2.N) (d) : (dat V c).before 1 t d = iblk V c 1 t :=
  ((dat V c).before_in_eq_fetched 1 rfl (fun _ => rfl) (fun _ _ _ => rfl) (fun t => by unfold Dat.blockOf; rfl) t d).trans
    (by unfold Dat.fetched Dat.blockOf; rfl)

/-- The body's triple at a point. -/
theorem sound_body (c : Dev nD) (t : Fin cfg2.N) :
    (iprop(Φc V c t.val ∗ (dat V c).owesAt () t.castSucc
      ∗ (∃ d, owns c.tc (win2_0.stage (cfg2.slots t 0)) fullShare ((dat V c).before 0 t d))
      ∗ (∃ d, owns c.tc (win2_1.stage (cfg2.slots t 1)) fullShare ((dat V c).before 1 t d))
      ∗ (∃ d, owns c.tc (win2_2.stage (cfg2.slots t 2)) fullShare ((dat V c).before 2 t d))) : sProp 𝕄)
    ⊢ wp frame (wpE (defs₀ (F := F)) Variants.none c.tc none) Set.univ (bodyAt2 t) (fun _ =>
      iprop(Φc V c (t.val + 1) ∗ (dat V c).owesAt () t.succ
      ∗ owns c.tc (win2_0.stage (cfg2.slots t 0)) fullShare (iblk V c 0 t)
      ∗ owns c.tc (win2_1.stage (cfg2.slots t 1)) fullShare (iblk V c 1 t)
      ∗ owns c.tc (win2_2.stage (cfg2.slots t 2)) fullShare (outBlk V c t))) := by
  simp only [bef0, bef1]
  unfold Dat.owesAt Pipeline.owesWithin
  rw [show (dat V c).owed t.castSucc = 0 from rfl, show (dat V c).owed t.succ = 0 from rfl]
  iintro ⟨HP, ⟨%W, -, HW⟩, ⟨%d0, H0⟩, ⟨%d1, H1⟩, ⟨%d2, H2⟩⟩
  iapply (step V c t W _)
  iframe HP HW H0 H1
  isplitl [H2]; · iexists _; iexact H2
  iintro ⟨HP, ⟨%W', HW⟩, H0, H1, H2⟩
  iframe HP
  isplitl [HW]
  · iexists W'
    isplitr
    · ipureintro; exact fun _ _ => Or.inl trivial
    iexact HW
  iframe H0 H1
  iexact H2

/-- The library's obligation of the body. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

/-- The kernel's own counter and the weights it addresses itself. -/
def osem : Fin 1 → SemLoc sig := fun _ => SemLoc.dma 20
theorem osem_facts : Pipeline.OwnSemFacts spec2 osem := by decide

/-- What the launch is given and leaves, beside its arrays. -/
abbrev given (c : Dev nD) : sProp 𝕄 :=
  iprop(Pipeline.scopedRest spec2 c ∗ (∃ r, prngReg c r) ∗ Pipeline.ownSems0 osem c
    ∗ (bigSep ({main_arg1} : Finset (Ref sig .tc)) fun b => ((c.tc : Thread nD τ).loc b) ↦{fullShare} V c (Proc.devRef .tc b)))

theorem given_eq (c : Dev nD) :
    (given V c : sProp 𝕄)
      = iprop((iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ others c)
        ∗ (∃ r, prngReg c r) ∗ semVal (c.tc, SemLoc.dma 20) 0 ∗ (((c : Thread nD τ).loc main_arg1) ↦{fullShare} wts V c)) := by
  unfold given
  rw [scopedRest2_split, Pipeline.ownSems0_eq_of_list c osem [0] (by decide) (by decide),
    BI.bigSep_eq_bigSepL_of_eq (S := {main_arg1}) [main_arg1] (by decide) (by decide)]
  rfl

theorem Φ_first (c : Dev nD) : (given V c : sProp 𝕄) ⊢ Φc V c 0 := by
  rw [given_eq]
  unfold Φc
  rw [state_zero c rfl]
  unfold still
  simp only [owns_whole, Memref.view_whole, View.set_whole]
  iintro ⟨⟨⟨⟨%f, S0⟩, ⟨%g, S1⟩⟩, Ho⟩, Hg, HQ, HR⟩
  isplitl [S1]
  · iexists g
    isplitr
    · ipureintro; intro h; exact absurd rfl h
    · iexact S1
  isplitl [S0 HQ HR]
  · isplitl [HQ]; · iexact HQ
    isplitl [S0]; · iexists f; iexact S0
    iexact HR
  iframe Hg
  iexact Ho

theorem Φ_last (c : Dev nD) : (Φc V c 128 : sProp 𝕄) ⊢ given V c := by
  rw [given_eq]
  unfold Φc
  rw [state_pos c (by decide) (show (128 - 1) / 32 + 1 = 4 from rfl), flying_end c (by decide)]
  unfold still
  simp only [owns_whole, Memref.view_whole, View.set_whole]
  iintro ⟨⟨%g, -, S1⟩, ⟨HQ, ⟨%f, S0⟩, HR⟩, Hg, Ho⟩
  isplitl [S0 S1 Ho]
  · isplitl [S0 S1]
    · isplitl [S0]; · iexists f; iexact S0
      iexists g; iexact S1
    iexact Ho
  iframe Hg HQ
  iexact HR

end Cert.Kernel3Ideal.Down.R2

end
-- ==== Proof.DownBody3.lean ====
/-
  The feed-forward's second product, block 3 of the inner dimension: the body at a grid point.
-/
module

public import proofs.«01_k».proof.Proof.DownCommon

@[expose] public section

set_option maxRecDepth 16384

noncomputable section

namespace Cert.Kernel3Ideal.Down.R3

open Cert.Kernel3Ideal Cert.Kernel3Ideal.Gen Cert.Kernel3Ideal.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two scratch buffers: a block of the weights as fetched and as narrowed. -/
abbrev sM : Memref sig .tc .vmem S4096x1024 .f32 := Memref.whole cc3_scratch0
abbrev bM : Memref sig .tc .vmem S4096x1024 .bf16 := Memref.whole cc3_scratch1

/-- A block in flight to its scratch. -/
abbrev fly (c : Dev nD) (off : Fin 3 → ℕ) (h : ∀ a, off a + S1x4096x1024.size a ≤ S4x16384x4096.size a)
    (f : (⟨S4x16384x4096, .f32⟩ : BufTy).Contents (Elt F)) : sProp 𝕄 :=
  Transfers.Flight (countersEmb (U := Pipeline.UD sig nD τ)) c.tc (SemLoc.dma 27) () 524288
    iprop((sM.view.loc c.tc ↦[sM.view.set]{fullShare} colV off h f)
      ∗ ((colM off h).view.loc c.tc ↦[(colM off h).view.set]{fullShare} f))

/-- A buffer's contents after it is overwritten whole. -/
theorem fetched_eq (g w : S4096x1024.Idx → Elt F .f32) (L : List (View.Piece (Elt F) S4096x1024 .f32)) :
    sM.view.writes (Elt F) g (⟨Rect.whole S4096x1024, w⟩ :: L) = w := by
  have h : sM.view.read (Elt F) (sM.view.writes (Elt F) g (⟨Rect.whole S4096x1024, w⟩ :: L)) = w := by
    funext y
    have h := View.read_writes_cons_emb sM.view g (Rect.whole S4096x1024) w L y
    rwa [Rect.emb_whole_apply] at h
  generalize sM.view.writes (Elt F) g (⟨Rect.whole S4096x1024, w⟩ :: L) = z at h
  exact h

/-- A flight the executor starts, as the invariant names it. -/
theorem fly_of (c : Dev nD) (off : Fin 3 → ℕ) (h : ∀ a, off a + S1x4096x1024.size a ≤ S4x16384x4096.size a)
    (f : (⟨S4x16384x4096, .f32⟩ : BufTy).Contents (Elt F)) (g w : S4096x1024.Idx → Elt F .f32) (L : List (View.Piece (Elt F) S4096x1024 .f32)) (hw : w = colV off h f) :
    (Transfers.Flight (countersEmb (U := Pipeline.UD sig nD τ)) c.tc (SemLoc.dma ⟨27, by decide⟩) (default : Unit) 524288
    iprop((sM.view.loc c.tc ↦[sM.view.set]{fullShare} sM.view.writes (Elt F) g (⟨Rect.whole S4096x1024, w⟩ :: L))
      ∗ (wM.view.loc c.tc ↦[(colM off h).view.set]{fullShare} f)) : sProp 𝕄) ⊢ fly c off h f := by
  unfold fly
  rw [fetched_eq, hw]
  exact .rfl

/-- A buffer loaded whole after it is fetched whole. -/
theorem first_load [∀ e, Nonempty (Elt F e)] (w : S4096x1024.Idx → Elt F .f32) (inb : ∀ a, (![0, 0] : Fin 2 → ℕ) a + S4096x1024.size a ≤ S4096x1024.size a) :
    sM.view.readCov [⟨Rect.whole S4096x1024, w⟩] (Rect.unit ![0, 0] S4096x1024.size inb).toLoadRect = w :=
  (View.readAt_full sM.view _ inb).trans (View.read_writes_whole sM.view _ w)

variable (c : Dev nD) (i : grid3.Coords) (arg2 : Memref sig .tc .vmem S512x4096 .bf16) (harg2 : arg2.IsWhole)
  (arg4 : Memref sig .tc .vmem S512x1024 .f32) (harg4 : arg4.IsWhole) (arg5 : Memref sig .tc .vmem S512x1024 .f32) (harg5 : arg5.IsWhole)

abbrev body : Prog (TpuEff nD τ sig (Elt F) Λ₀ .tc) PUnit :=
  cc3_matmul_residual i arg2 harg2 wM (Memref.isWhole_whole _) arg4 harg4 arg5 harg5 sM (Memref.isWhole_whole _) bM (Memref.isWhole_whole _) cc3_scratch2

/-- A later row block: the block of the weights is already narrowed. -/
theorem mid_run (h1 : ¬ k3_cond1 i = 1#1) (x : S512x4096.Idx → Elt F .bf16) (r : S512x1024.Idx → Elt F .f32) (w : S4096x1024.Idx → Elt F .bf16)
    (K : PUnit → sProp 𝕄) :
    iprop(owns c.tc arg2 fullShare x ∗ owns c.tc arg4 fullShare r ∗ owns c.tc bM fullShare w ∗ (∃ d, owns c.tc arg5 fullShare d)
      ∗ ((owns c.tc arg2 fullShare x ∗ owns c.tc arg4 fullShare r ∗ owns c.tc bM fullShare w ∗ owns c.tc arg5 fullShare (outv r x w)) -∗ K ⟨⟩))
    ⊢ wp frame (wpE (defs₀ (F := F)) Variants.none c.tc none) Set.univ (body i arg2 harg2 arg4 harg4 arg5 harg5) K := by
  unfold body cc3_matmul_residual
  rw [dif_neg h1]
  unfold owns
  iintro ⟨⟨%X, %eX, HX⟩, ⟨%A, %eA, HA⟩, ⟨%B, %eB, HB⟩, ⟨%d, %D, -, HD⟩, Hk⟩
  sl_exec
  have e : mid_run.sl.v8 c arg2 arg4 X A B = outv r x w :=
    (congr3 (outc (F := F)) ((View.readAt_full arg4.view A _).trans eA) ((View.readAt_full arg2.view X _).trans eX) ((View.readAt_full bM.view B _).trans eB)).trans (outc_eq _ _ _)
  sl_step
  iapply Hk
  isplitl [HX]
  · iexists X; isplitr; · ipureintro; exact eX
    iexact HX
  isplitl [HA]
  · iexists A; isplitr; · ipureintro; exact eA
    iexact HA
  isplitl [HB]
  · iexists B; isplitr; · ipureintro; exact eB
    iexact HB
  iapply (stored c arg5 D ![0, 0] inbO _ _ e)
  iexact HD

theorem inb0 : ∀ a, (![0, 12288, 0] : Fin 3 → ℕ) a + S1x4096x1024.size a ≤ S4x16384x4096.size a := by decide

/-- A later column block: the flight is awaited, narrowed, and the next one started. -/
theorem next_run (h1 : k3_cond1 i = 1#1) (h2 : ¬ k3_cond2 i = 1#1) (h3 : k3_cond3 i = 1#1) (x : S512x4096.Idx → Elt F .bf16) (r : S512x1024.Idx → Elt F .f32) (off h f)
    (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ fly c off h f ∗ rest c off h f ∗ owes c.tc 0 W
      ∗ ((owns c.tc arg2 fullShare x ∗ owns c.tc arg4 fullShare r ∗ owns c.tc bM fullShare (narrow (colV off h f)) ∗ owns c.tc arg5 fullShare (outv r x (narrow (colV off h f)))
        ∗ fly c (k3_off2 i) (Facts₀.k3_off2_inb i h1 h3) f ∗ rest c (k3_off2 i) (Facts₀.k3_off2_inb i h1 h3) f ∗ (∃ W', owes c.tc 0 W')) -∗ K ⟨⟩))
    ⊢ wp frame (wpE (defs₀ (F := F)) Variants.none c.tc none) Set.univ (body i arg2 harg2 arg4 harg4 arg5 harg5) K := by
  unfold body cc3_matmul_residual
  rw [dif_pos h1, dif_neg h2, dif_pos h3]
  unfold owns fly rest
  iintro ⟨⟨%X, %eX, HX⟩, ⟨%A, %eA, HA⟩, ⟨%wd, %B, -, HB⟩, ⟨%d, %D, -, HD⟩, HF, HR, HW, Hk⟩
  sl_exec
  ihave HR := (whole_back c off h f) $$ HR
  sl_exec
  have e1 : next_run.sl.v21 off h f = narrow (colV off h f) := by
    delta next_run.sl.v21 next_run.sl.v18
    exact congrArg (narrow (F := F)) (View.readAt_full sM.view (colV off h f) _)
  have e2 : next_run.sl.v4 c off h f = narrow (colV off h f) := by
    exact (View.readCov_full bM.view _ _ _ _).trans e1
  have e : next_run.sl.v8 c arg2 arg4 off h f X A = outv r x (narrow (colV off h f)) :=
    (congr3 (outc (F := F)) ((View.readAt_full arg4.view A _).trans eA) ((View.readAt_full arg2.view X _).trans eX) e2).trans (outc_eq _ _ _)
  sl_step
  ihave HF := (fly_of c (k3_off2 i) (Facts₀.k3_off2_inb i h1 h3) f (colV off h f) (next_run.sl.dma0 i h1 h3 f) [] rfl) $$ HF
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HR
  iexists _; iexact HW

/-- The last column block: the flight is awaited and narrowed. -/
theorem last_run (h1 : k3_cond1 i = 1#1) (h2 : ¬ k3_cond2 i = 1#1) (h3 : ¬ k3_cond3 i = 1#1) (x : S512x4096.Idx → Elt F .bf16) (r : S512x1024.Idx → Elt F .f32) (off h f)
    (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ fly c off h f ∗ rest c off h f ∗ owes c.tc 0 W
      ∗ ((owns c.tc arg2 fullShare x ∗ owns c.tc arg4 fullShare r ∗ owns c.tc bM fullShare (narrow (colV off h f)) ∗ owns c.tc arg5 fullShare (outv r x (narrow (colV off h f)))
        ∗ semVal (c.tc, SemLoc.dma 27) 0 ∗ (sM.view.loc c.tc ↦[sM.view.set]{fullShare} colV off h f) ∗ (wM.view.loc c.tc ↦{fullShare} f) ∗ (∃ W', owes c.tc 0 W')) -∗ K ⟨⟩))
    ⊢ wp frame (wpE (defs₀ (F := F)) Variants.none c.tc none) Set.univ (body i arg2 harg2 arg4 harg4 arg5 harg5) K := by
  unfold body cc3_matmul_residual
  rw [dif_pos h1, dif_neg h2, dif_neg h3]
  unfold owns fly rest
  iintro ⟨⟨%X, %eX, HX⟩, ⟨%A, %eA, HA⟩, ⟨%wd, %B, -, HB⟩, ⟨%d, %D, -, HD⟩, HF, HR, HW, Hk⟩
  sl_exec
  ihave HR := (whole_back c off h f) $$ HR
  sl_exec
  have e1 : last_run.sl.v21 off h f = narrow (colV off h f) := by
    delta last_run.sl.v21 last_run.sl.v18
    exact congrArg (narrow (F := F)) (View.readAt_full sM.view (colV off h f) _)
  have e2 : last_run.sl.v4 c off h f = narrow (colV off h f) := by
    exact (View.readCov_full bM.view _ _ _ _).trans e1
  have e : last_run.sl.v8 c arg2 arg4 off h f X A = outv r x (narrow (colV off h f)) :=
    (congr3 (outc (F := F)) ((View.readAt_full arg4.view A _).trans eA) ((View.readAt_full arg2.view X _).trans eX) e2).trans (outc_eq _ _ _)
  sl_step
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HF_dst HR
  iexists _; iexact HW

/-- The first point: the first block is fetched, narrowed, and the second one's flight started. -/
theorem first_run (h1 : k3_cond1 i = 1#1) (h2 : k3_cond2 i = 1#1) (h3 : k3_cond3 i = 1#1) (x : S512x4096.Idx → Elt F .bf16) (r : S512x1024.Idx → Elt F .f32)
    (f : (⟨S4x16384x4096, .f32⟩ : BufTy).Contents (Elt F))
    (g : S4096x1024.Idx → Elt F .f32) (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ semVal (c.tc, SemLoc.dma 27) 0 ∗ (sM.view.loc c.tc ↦[sM.view.set]{fullShare} g) ∗ (wM.view.loc c.tc ↦{fullShare} f) ∗ owes c.tc 0 W
      ∗ ((owns c.tc arg2 fullShare x ∗ owns c.tc arg4 fullShare r ∗ owns c.tc bM fullShare (narrow (colV ![0, 12288, 0] inb0 f)) ∗ owns c.tc arg5 fullShare (outv r x (narrow (colV ![0, 12288, 0] inb0 f)))
        ∗ fly c (k3_off2 i) (Facts₀.k3_off2_inb i h1 h3) f ∗ rest c (k3_off2 i) (Facts₀.k3_off2_inb i h1 h3) f ∗ (∃ W', owes c.tc 0 W')) -∗ K ⟨⟩))
    ⊢ wp frame (wpE (defs₀ (F := F)) Variants.none c.tc none) Set.univ (body i arg2 harg2 arg4 harg4 arg5 harg5) K := by
  unfold body cc3_matmul_residual
  rw [dif_pos h1, dif_pos h2, dif_pos h3]
  unfold owns fly rest
  iintro ⟨⟨%X, %eX, HX⟩, ⟨%A, %eA, HA⟩, ⟨%wd, %B, -, HB⟩, ⟨%d, %D, -, HD⟩, HF, HS, HR, HW, Hk⟩
  sl_exec
  have e1 : first_run.sl.v21 f = narrow (colV ![0, 12288, 0] inb0 f) := by
    delta first_run.sl.v21 first_run.sl.v18
    refine congrArg (narrow (F := F)) ?_
    delta first_run.sl.v17
    exact (first_load _ _).trans rfl
  have e2 : first_run.sl.v4 c f = narrow (colV ![0, 12288, 0] inb0 f) := by
    exact (View.readCov_full bM.view _ _ _ _).trans e1
  have e : first_run.sl.v8 c arg2 arg4 f X A = outv r x (narrow (colV ![0, 12288, 0] inb0 f)) :=
    (congr3 (outc (F := F)) ((View.readAt_full arg4.view A _).trans eA) ((View.readAt_full arg2.view X _).trans eX) e2).trans (outc_eq _ _ _)
  sl_step
  ihave HF := (fly_of c (k3_off2 i) (Facts₀.k3_off2_inb i h1 h3) f g (first_run.sl.dma3 i h1 h3 f) [⟨Rect.whole S4096x1024, first_run.sl.dma0 f⟩] rfl) $$ HF
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HR
  iexists _; iexact HW

end Cert.Kernel3Ideal.Down.R3

end
-- ==== Proof.DownLaunch3.lean ====
/-
  The feed-forward's second product, block 3 of the inner dimension: what holds between points, the body at every point.
-/
module

public import proofs.«01_k».proof.Proof.DownBody3
public import proofs.«01_k».proof.Proof.Gen.Kernel3Ideal.Points

@[expose] public section

set_option maxRecDepth 16384

noncomputable section

namespace Cert.Kernel3Ideal.Down.R3

open Cert.Kernel3Ideal Cert.Kernel3Ideal.Gen Cert.Kernel3Ideal.Down
open Idealize.ShloMosaic.Pipeline (Dat BodyObligation)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (V : Dev nD → Valuation τ sig (Elt F))

/-- The weights as the launch finds them. -/
abbrev wts (c : Dev nD) : (⟨S4x16384x4096, .f32⟩ : BufTy).Contents (Elt F) := V c main_arg1

/-- A window's block at a point. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- No flight: the counter at zero, the scratch at anything, the weights whole. -/
def still (c : Dev nD) (f : (⟨S4x16384x4096, .f32⟩ : BufTy).Contents (Elt F)) : sProp 𝕄 :=
  iprop(semVal (c.tc, SemLoc.dma 27) 0 ∗ (∃ g, (sM.view.loc c.tc ↦[sM.view.set]{fullShare} g))
    ∗ (wM.view.loc c.tc ↦{fullShare} f))

theorem kb_lt : 3 < 4 := by decide

/-- Column block `j` in flight, if there is one. -/
def flying (c : Dev nD) (j : ℕ) (f : (⟨S4x16384x4096, .f32⟩ : BufTy).Contents (Elt F)) : sProp 𝕄 :=
  if h : j < 4 then iprop(fly c (offs 3 j) (offs_inb kb_lt h) f ∗ rest c (offs 3 j) (offs_inb kb_lt h) f) else still c f

/-- The transfers before point `n`. -/
def state (c : Dev nD) (n : ℕ) (f : (⟨S4x16384x4096, .f32⟩ : BufTy).Contents (Elt F)) : sProp 𝕄 :=
  if n = 0 then still c f else flying c ((n - 1) / 32 + 1) f

theorem state_zero (c : Dev nD) {n : ℕ} (h : n = 0) (f : (⟨S4x16384x4096, .f32⟩ : BufTy).Contents (Elt F)) :
    (state c n f : sProp 𝕄) = still c f := if_pos h

theorem state_pos (c : Dev nD) {n j : ℕ} (h : n ≠ 0) (e : (n - 1) / 32 + 1 = j) (f : (⟨S4x16384x4096, .f32⟩ : BufTy).Contents (Elt F)) :
    (state c n f : sProp 𝕄) = flying c j f := by subst e; exact if_neg h

theorem flying_eq (c : Dev nD) {j : ℕ} (hj : j < 4) (f : (⟨S4x16384x4096, .f32⟩ : BufTy).Contents (Elt F)) :
    (flying c j f : sProp 𝕄) = iprop(fly c (offs 3 j) (offs_inb kb_lt hj) f ∗ rest c (offs 3 j) (offs_inb kb_lt hj) f) := dif_pos hj

theorem flying_end (c : Dev nD) {j : ℕ} (hj : ¬ j < 4) (f : (⟨S4x16384x4096, .f32⟩ : BufTy).Contents (Elt F)) :
    (flying c j f : sProp 𝕄) = still c f := dif_neg hj

theorem flying_of (c : Dev nD) {j : ℕ} (hj : j < 4) (f : (⟨S4x16384x4096, .f32⟩ : BufTy).Contents (Elt F)) (off h) (e : off = offs 3 j) :
    (iprop(fly c off h f ∗ rest c off h f) : sProp 𝕄) ⊢ flying c j f := by
  subst e
  unfold flying
  rw [dif_pos hj]

/-- What the other launches keep to themselves. -/
abbrev others (c : Dev nD) : sProp 𝕄 := Pipeline.scopedRestBut spec3 c [cc3_scratch0, cc3_scratch1]

/-- Between points: the block of the weights narrowed once its first row block has run, the transfers, the generator. -/
def Φc (c : Dev nD) (n : ℕ) : sProp 𝕄 :=
  iprop((∃ w, ⌜n % 32 ≠ 0 → w = wblk 3 (wts V c) (jn n)⌝ ∗ owns c.tc bM fullShare w)
    ∗ state c n (wts V c) ∗ (∃ r, prngReg c r) ∗ others c)

/-- The block of the output a point leaves. -/
def outBlk (c : Dev nD) (t : Fin cfg3.N) : S512x1024.Idx → Elt F .f32 := outv (iblk V c 1 t) (iblk V c 0 t) (wblk 3 (wts V c) (jn t.val))

/-- The data of the pipeline. -/
def dat (c : Dev nD) : Dat τ (Elt F) Unit ℕ (Pipeline.UD sig nD τ) ℕ cfg3 c where
  A w := V c (Pipeline.arrRef spec3 w)
  after w t := match w with
    | ⟨0, _⟩ => iblk V c 0 t
    | ⟨1, _⟩ => iblk V c 1 t
    | ⟨2, _⟩ => outBlk V c t
  Φ t := Φc V c t.val
  q _ := fullShare
  owed _ := 0

theorem is1 : ∀ t : Fin cfg3.N, k3_cond1 (grid3.coords t) = 1#1 ↔ t.val % 32 = 0 :=
  (by decide +kernel : ∀ t : Fin grid3.N, k3_cond1 (grid3.coords t) = 1#1 ↔ t.val % 32 = 0)
theorem is2 : ∀ t : Fin cfg3.N, k3_cond2 (grid3.coords t) = 1#1 ↔ t.val / 32 = 0 :=
  (by decide +kernel : ∀ t : Fin grid3.N, k3_cond2 (grid3.coords t) = 1#1 ↔ t.val / 32 = 0)
theorem is3 : ∀ t : Fin cfg3.N, k3_cond3 (grid3.coords t) = 1#1 ↔ t.val / 32 + 1 < 4 :=
  (by decide +kernel : ∀ t : Fin grid3.N, k3_cond3 (grid3.coords t) = 1#1 ↔ t.val / 32 + 1 < 4)
theorem off2 : ∀ t : Fin cfg3.N, k3_off2 (grid3.coords t) = offs 3 (t.val / 32 + 1) :=
  (by decide +kernel : ∀ t : Fin grid3.N, k3_off2 (grid3.coords t) = offs 3 (t.val / 32 + 1))

theorem defs₀_row (t : Fin cfg3.N) : (defs₀ (F := F)) .tc cfg3.body (cfg3.bodyArgs t (cfg3.slots t)) = bodyAt3 t := by
  unfold defs₀; rw [Defs.onTc_tc]

/-- The body at a point, from the buffers to the buffers. -/
theorem step (c : Dev nD) (t : Fin cfg3.N) (W : Waits sig Unit) (K : PUnit → sProp 𝕄) :
    iprop(Φc V c t.val ∗ owes c.tc 0 W ∗ owns c.tc (win3_0.stage (cfg3.slots t 0)) fullShare (iblk V c 0 t)
      ∗ owns c.tc (win3_1.stage (cfg3.slots t 1)) fullShare (iblk V c 1 t)
      ∗ (∃ d, owns c.tc (win3_2.stage (cfg3.slots t 2)) fullShare d)
      ∗ ((Φc V c (t.val + 1) ∗ (∃ W', owes c.tc 0 W') ∗ owns c.tc (win3_0.stage (cfg3.slots t 0)) fullShare (iblk V c 0 t)
        ∗ owns c.tc (win3_1.stage (cfg3.slots t 1)) fullShare (iblk V c 1 t)
        ∗ owns c.tc (win3_2.stage (cfg3.slots t 2)) fullShare (outBlk V c t)) -∗ K ⟨⟩))
    ⊢ wp frame (wpE (defs₀ (F := F)) Variants.none c.tc none) Set.univ (bodyAt3 t) K := by
  have ht : t.val < 128 := t.isLt
  unfold Φc outBlk
  by_cases h1 : t.val % 32 = 0
  · by_cases h2 : t.val / 32 = 0
    · have h0 : t.val = 0 := by omega
      have R := fun g => (first_run c (grid3.coords t) _ (hstage3_0 ((cfg3.slots t 0).cast nbuf3_0)) _ (hstage3_1 ((cfg3.slots t 1).cast nbuf3_1)) _ (hstage3_2 ((cfg3.slots t 2).cast nbuf3_2)) ((is1 t).2 h1) ((is2 t).2 h2) ((is3 t).2 (by omega)) (iblk V c 0 t) (iblk V c 1 t) (wts V c) g W K)
      rw [wblk_of 3 (wts V c) (jn t.val) ![0, 12288, 0] inb0 (by rw [h0]; rfl)] at R
      rw [state_zero c h0, state_pos c (Nat.succ_ne_zero _) (show (t.val + 1 - 1) / 32 + 1 = t.val / 32 + 1 from rfl)]
      unfold still
      iintro ⟨⟨⟨%w, %hw, HB⟩, ⟨HQ, ⟨%g, HS⟩, HR⟩, Hg⟩, HW, HX, HA, HD, Hk⟩
      iapply (R g)
      iframe HX HA
      isplitl [HB]; · iexists w; iexact HB
      iframe HD HQ HS HR HW
      iintro ⟨HX, HA, HB, HD, HF, HR, HW⟩
      iapply Hk
      isplitl [HB HF HR Hg]
      · isplitl [HB]
        · iexists _; isplitr; swap; · iexact HB
          ipureintro; intro _; rw [h0]; rfl
        isplitl [HF HR]
        · iapply (flying_of c (j := t.val / 32 + 1) (by omega) (wts V c) _ _ (off2 t))
          iframe HF
          iexact HR
        iexact Hg
      iframe HW HX HA
      iexact HD
    · have hn : t.val ≠ 0 := by omega
      have hj : t.val / 32 < 4 := by omega
      have hw0 : narrow (colV (offs 3 (t.val / 32)) (offs_inb kb_lt hj) (wts V c)) = wblk 3 (wts V c) (jn t.val) :=
        wblk_of _ _ _ _ _ (by unfold jn; show _ = offs 3 (t.val / 32 % 4); rw [Nat.mod_eq_of_lt hj])
      have hw1 : wblk 3 (wts V c) (jn t.val) = wblk 3 (wts V c) (jn (t.val + 1)) := by
        rw [show jn (t.val + 1) = jn t.val from Fin.ext (by show (t.val + 1) / 32 % 4 = t.val / 32 % 4; omega)]
      rw [state_pos c hn (show (t.val - 1) / 32 + 1 = t.val / 32 from by omega), flying_eq c hj, state_pos c (Nat.succ_ne_zero _) (show (t.val + 1 - 1) / 32 + 1 = t.val / 32 + 1 from rfl)]
      by_cases h3 : t.val / 32 + 1 < 4
      · have R := (next_run c (grid3.coords t) _ (hstage3_0 ((cfg3.slots t 0).cast nbuf3_0)) _ (hstage3_1 ((cfg3.slots t 1).cast nbuf3_1)) _ (hstage3_2 ((cfg3.slots t 2).cast nbuf3_2)) ((is1 t).2 h1) (fun h => h2 ((is2 t).1 h)) ((is3 t).2 h3) (iblk V c 0 t) (iblk V c 1 t) _ (offs_inb kb_lt hj) (wts V c) W K)
        rw [hw0] at R
        iintro ⟨⟨⟨%w, %hw, HB⟩, ⟨HF, HR⟩, Hg⟩, HW, HX, HA, HD, Hk⟩
        iapply R
        iframe HX HA
        isplitl [HB]; · iexists w; iexact HB
        iframe HD HF HR HW
        iintro ⟨HX, HA, HB, HD, HF, HR, HW⟩
        iapply Hk
        isplitl [HB HF HR Hg]
        · isplitl [HB]
          · iexists _; isplitr; swap; · iexact HB
            ipureintro; intro _; exact hw1
          isplitl [HF HR]
          · iapply (flying_of c (j := t.val / 32 + 1) (by omega) (wts V c) _ _ (off2 t))
            iframe HF
            iexact HR
          iexact Hg
        iframe HW HX HA
        iexact HD
      · rw [flying_end c h3]
        unfold still
        have R := (last_run c (grid3.coords t) _ (hstage3_0 ((cfg3.slots t 0).cast nbuf3_0)) _ (hstage3_1 ((cfg3.slots t 1).cast nbuf3_1)) _ (hstage3_2 ((cfg3.slots t 2).cast nbuf3_2)) ((is1 t).2 h1) (fun h => h2 ((is2 t).1 h)) (fun h => h3 ((is3 t).1 h)) (iblk V c 0 t) (iblk V c 1 t) _ (offs_inb kb_lt hj) (wts V c) W K)
        rw [hw0] at R
        iintro ⟨⟨⟨%w, %hw, HB⟩, ⟨HF, HR⟩, Hg⟩, HW, HX, HA, HD, Hk⟩
        iapply R
        iframe HX HA
        isplitl [HB]; · iexists w; iexact HB
        iframe HD HF HR HW
        iintro ⟨HX, HA, HB, HD, HQ, HS, HR, HW⟩
        iapply Hk
        isplitl [HB HQ HS HR Hg]
        · isplitl [HB]
          · iexists _; isplitr; swap; · iexact HB
            ipureintro; intro _; exact hw1
          isplitl [HQ HS HR]
          · isplitl [HQ]; · iexact HQ
            isplitl [HS]; · iexists _; iexact HS
            iexact HR
          iexact Hg
        iframe HW HX HA
        iexact HD
  · rw [state_pos c (show t.val ≠ 0 by omega) rfl, state_pos c (Nat.succ_ne_zero _) (show (t.val + 1 - 1) / 32 + 1 = (t.val - 1) / 32 + 1 from by omega)]
    iintro ⟨⟨⟨%w, %hw, HB⟩, HS, Hg⟩, HW, HX, HA, HD, Hk⟩
    have hw' := hw h1
    subst hw'
    iapply (mid_run c (grid3.coords t) _ (hstage3_0 ((cfg3.slots t 0).cast nbuf3_0)) _ (hstage3_1 ((cfg3.slots t 1).cast nbuf3_1)) _ (hstage3_2 ((cfg3.slots t 2).cast nbuf3_2)) (fun h => h1 ((is1 t).1 h)) (iblk V c 0 t) (iblk V c 1 t) (wblk 3 (wts V c) (jn t.val)) K)
    iframe HX HA HB HD
    iintro ⟨HX, HA, HB, HD⟩
    iapply Hk
    isplitl [HB HS Hg]
    · isplitl [HB]
      · iexists _; isplitr; swap; · iexact HB
        ipureintro; intro h
        rw [show jn (t.val + 1) = jn t.val from Fin.ext (by show (t.val + 1) / 32 % 4 = t.val / 32 % 4; omega)]
      isplitl [HS]
      · iexact HS
      iexact Hg
    isplitl [HW]; · iexists W; iexact HW
    iframe HX HA
    iexact HD

theorem bef0 (c : Dev nD) (t : Fin cfg3.N) (d) : (dat V c).before 0 t d = iblk V c 0 t :=
  ((dat V c).before_in_eq_fetched 0 rfl (fun _ => rfl) (fun _ _ _ => rfl) (fun t => by unfold Dat.blockOf; rfl) t d).trans
    (by unfold Dat.fetched Dat.blockOf; rfl)

theorem bef1 (c : Dev nD) (t : Fin cfg3.N) (d) : (dat V c).before 1 t d = iblk V c 1 t :=
  ((dat V c).before_in_eq_fetched 1 rfl (fun _ => rfl) (fun _ _ _ => rfl) (fun t => by unfold Dat.blockOf; rfl) t d).trans
    (by unfold Dat.fetched Dat.blockOf; rfl)

/-- The body's triple at a point. -/
theorem sound_body (c : Dev nD) (t : Fin cfg3.N) :
    (iprop(Φc V c t.val ∗ (dat V c).owesAt () t.castSucc
      ∗ (∃ d, owns c.tc (win3_0.stage (cfg3.slots t 0)) fullShare ((dat V c).before 0 t d))
      ∗ (∃ d, owns c.tc (win3_1.stage (cfg3.slots t 1)) fullShare ((dat V c).before 1 t d))
      ∗ (∃ d, owns c.tc (win3_2.stage (cfg3.slots t 2)) fullShare ((dat V c).before 2 t d))) : sProp 𝕄)
    ⊢ wp frame (wpE (defs₀ (F := F)) Variants.none c.tc none) Set.univ (bodyAt3 t) (fun _ =>
      iprop(Φc V c (t.val + 1) ∗ (dat V c).owesAt () t.succ
      ∗ owns c.tc (win3_0.stage (cfg3.slots t 0)) fullShare (iblk V c 0 t)
      ∗ owns c.tc (win3_1.stage (cfg3.slots t 1)) fullShare (iblk V c 1 t)
      ∗ owns c.tc (win3_2.stage (cfg3.slots t 2)) fullShare (outBlk V c t))) := by
  simp only [bef0, bef1]
  unfold Dat.owesAt Pipeline.owesWithin
  rw [show (dat V c).owed t.castSucc = 0 from rfl, show (dat V c).owed t.succ = 0 from rfl]
  iintro ⟨HP, ⟨%W, -, HW⟩, ⟨%d0, H0⟩, ⟨%d1, H1⟩, ⟨%d2, H2⟩⟩
  iapply (step V c t W _)
  iframe HP HW H0 H1
  isplitl [H2]; · iexists _; iexact H2
  iintro ⟨HP, ⟨%W', HW⟩, H0, H1, H2⟩
  iframe HP
  isplitl [HW]
  · iexists W'
    isplitr
    · ipureintro; exact fun _ _ => Or.inl trivial
    iexact HW
  iframe H0 H1
  iexact H2

/-- The library's obligation of the body. -/
theorem body_obligation (c : Dev nD) : BodyObligation (dat V c) (defs₀ (F := F)) Variants.none () Set.univ := fun t => by
  rw [bigSep_W3, bigSep_W3, defs₀_row]
  exact triple_restated (sound_body V c t) rfl .rfl fun _ => .rfl

/-- The kernel's own counter and the weights it addresses itself. -/
def osem : Fin 1 → SemLoc sig := fun _ => SemLoc.dma 27
theorem osem_facts : Pipeline.OwnSemFacts spec3 osem := by decide

/-- What the launch is given and leaves, beside its arrays. -/
abbrev given (c : Dev nD) : sProp 𝕄 :=
  iprop(Pipeline.scopedRest spec3 c ∗ (∃ r, prngReg c r) ∗ Pipeline.ownSems0 osem c
    ∗ (bigSep ({main_arg1} : Finset (Ref sig .tc)) fun b => ((c.tc : Thread nD τ).loc b) ↦{fullShare} V c (Proc.devRef .tc b)))

theorem given_eq (c : Dev nD) :
    (given V c : sProp 𝕄)
      = iprop((iprop((∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f)) ∗ others c)
        ∗ (∃ r, prngReg c r) ∗ semVal (c.tc, SemLoc.dma 27) 0 ∗ (((c : Thread nD τ).loc main_arg1) ↦{fullShare} wts V c)) := by
  unfold given
  rw [scopedRest3_split, Pipeline.ownSems0_eq_of_list c osem [0] (by decide) (by decide),
    BI.bigSep_eq_bigSepL_of_eq (S := {main_arg1}) [main_arg1] (by decide) (by decide)]
  rfl

theorem Φ_first (c : Dev nD) : (given V c : sProp 𝕄) ⊢ Φc V c 0 := by
  rw [given_eq]
  unfold Φc
  rw [state_zero c rfl]
  unfold still
  simp only [owns_whole, Memref.view_whole, View.set_whole]
  iintro ⟨⟨⟨⟨%f, S0⟩, ⟨%g, S1⟩⟩, Ho⟩, Hg, HQ, HR⟩
  isplitl [S1]
  · iexists g
    isplitr
    · ipureintro; intro h; exact absurd rfl h
    · iexact S1
  isplitl [S0 HQ HR]
  · isplitl [HQ]; · iexact HQ
    isplitl [S0]; · iexists f; iexact S0
    iexact HR
  iframe Hg
  iexact Ho

theorem Φ_last (c : Dev nD) : (Φc V c 128 : sProp 𝕄) ⊢ given V c := by
  rw [given_eq]
  unfold Φc
  rw [state_pos c (by decide) (show (128 - 1) / 32 + 1 = 4 from rfl), flying_end c (by decide)]
  unfold still
  simp only [owns_whole, Memref.view_whole, View.set_whole]
  iintro ⟨⟨%g, -, S1⟩, ⟨HQ, ⟨%f, S0⟩, HR⟩, Hg, Ho⟩
  isplitl [S0 S1 Ho]
  · isplitl [S0 S1]
    · isplitl [S0]; · iexists f; iexact S0
      iexists g; iexact S1
    iexact Ho
  iframe Hg HQ
  iexact HR

end Cert.Kernel3Ideal.Down.R3

end
-- ==== Proof.DownRun.lean ====
/-
  The feed-forward's second product: the four launches one after another, and the run of the program.
-/
module

public import proofs.«01_k».proof.Proof.DownLaunch0
public import proofs.«01_k».proof.Proof.DownLaunch1
public import proofs.«01_k».proof.Proof.DownLaunch2
public import proofs.«01_k».proof.Proof.DownLaunch3
public import Idealize.ShloMosaic.Lib.Pipeline.RegionArraysD
public import Idealize.ShloMosaic.Adequacy
public import Idealize.ShloMosaic.Init

@[expose] public section

set_option maxRecDepth 16384

noncomputable section

namespace Cert.Kernel3Ideal.Down

open Cert.Kernel3Ideal Cert.Kernel3Ideal.Gen
open Idealize.ShloMosaic.Pipeline (Dat Seg RegionSeg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the buffers hold at the start, and after each launch. -/
def W0 (c : Dev nD) : Valuation τ sig (Elt F) := fun b => m (c, b)
def W1 (c : Dev nD) : Valuation τ sig (Elt F) :=
  Function.update (W0 m c) main_v0 ((R0.dat (W0 m) c).arrAt 2 cfg0.N : Buf (Elt F) ((c : Thread nD τ).loc main_v0))
def W2 (c : Dev nD) : Valuation τ sig (Elt F) :=
  Function.update (W1 m c) main_v1 ((R1.dat (W1 m) c).arrAt 2 cfg1.N : Buf (Elt F) ((c : Thread nD τ).loc main_v1))
def W3 (c : Dev nD) : Valuation τ sig (Elt F) :=
  Function.update (W2 m c) main_v2 ((R2.dat (W2 m) c).arrAt 2 cfg2.N : Buf (Elt F) ((c : Thread nD τ).loc main_v2))
def W4 (c : Dev nD) : Valuation τ sig (Elt F) :=
  Function.update (W3 m c) main_v3 ((R3.dat (W3 m) c).arrAt 2 cfg3.N : Buf (Elt F) ((c : Thread nD τ).loc main_v3))

theorem W1_of (c : Dev nD) (r : Ref sig .tc) (h : r ≠ main_v0) : W1 m c r = W0 m c r := by
  unfold W1
  rw [Function.update_of_ne (StableHlo.devRef_ne_of_ne h : (Proc.devRef .tc r : DevRef τ sig) ≠ Proc.devRef .tc main_v0)]
theorem W1_at (c : Dev nD) : W1 m c main_v0 = ((R0.dat (W0 m) c).arrAt 2 cfg0.N : Buf (Elt F) ((c : Thread nD τ).loc main_v0)) := by
  unfold W1
  rw [Function.update_self]

theorem W2_of (c : Dev nD) (r : Ref sig .tc) (h : r ≠ main_v1) : W2 m c r = W1 m c r := by
  unfold W2
  rw [Function.update_of_ne (StableHlo.devRef_ne_of_ne h : (Proc.devRef .tc r : DevRef τ sig) ≠ Proc.devRef .tc main_v1)]
theorem W2_at (c : Dev nD) : W2 m c main_v1 = ((R1.dat (W1 m) c).arrAt 2 cfg1.N : Buf (Elt F) ((c : Thread nD τ).loc main_v1)) := by
  unfold W2
  rw [Function.update_self]

theorem W3_of (c : Dev nD) (r : Ref sig .tc) (h : r ≠ main_v2) : W3 m c r = W2 m c r := by
  unfold W3
  rw [Function.update_of_ne (StableHlo.devRef_ne_of_ne h : (Proc.devRef .tc r : DevRef τ sig) ≠ Proc.devRef .tc main_v2)]
theorem W3_at (c : Dev nD) : W3 m c main_v2 = ((R2.dat (W2 m) c).arrAt 2 cfg2.N : Buf (Elt F) ((c : Thread nD τ).loc main_v2)) := by
  unfold W3
  rw [Function.update_self]

theorem W4_of (c : Dev nD) (r : Ref sig .tc) (h : r ≠ main_v3) : W4 m c r = W3 m c r := by
  unfold W4
  rw [Function.update_of_ne (StableHlo.devRef_ne_of_ne h : (Proc.devRef .tc r : DevRef τ sig) ≠ Proc.devRef .tc main_v3)]
theorem W4_at (c : Dev nD) : W4 m c main_v3 = ((R3.dat (W3 m) c).arrAt 2 cfg3.N : Buf (Elt F) ((c : Thread nD τ).loc main_v3)) := by
  unfold W4
  rw [Function.update_self]

/-- The data of the four pipelines. -/
def dats (p : Fin 4) (c : Dev nD) : Dat τ (Elt F) Unit ℕ (Pipeline.UD sig nD τ) ℕ (cfgs p) c :=
  match p with
  | ⟨0, _⟩ => R0.dat (W0 m) c
  | ⟨1, _⟩ => R1.dat (W1 m) c
  | ⟨2, _⟩ => R2.dat (W2 m) c
  | ⟨3, _⟩ => R3.dat (W3 m) c

/-- The levels: one on the cores that compute, none elsewhere. -/
def lev (g : GSem nD τ sig) : Finset Unit := if g.1.2 = .tc then {()} else ∅
theorem lev_off (g : GSem nD τ sig) (h : g.1.2 ≠ .tc) : lev g = ∅ := if_neg h

/-- What goes with the buffers from launch to launch. -/
abbrev along (c : Dev nD) : sProp 𝕄 := iprop((∃ r, prngReg c r) ∗ ∃ Wd, owes c.tc (0 : CellTallies nD τ sig Unit) Wd)

theorem no_wait (c : Dev nD) : (levAts lev (fun _ _ => (0 : ℕ)) : sProp 𝕄) ⊢ Transfers.MayWaits c.tc () 0 :=
  (show (levAts lev (fun _ _ => (0 : ℕ)) : sProp 𝕄) ⊢ BI.emp by iintro -; iempintro).trans (Transfers.MayWaits.zero _ _)

/-- The buffers, taken apart into a launch's arrays and the others. -/
theorem apart (c : Dev nD) {A : Finset (DevRef τ sig)} (h : A ⊆ Pipeline.ucRefs τ sig) (V : Valuation τ sig (Elt F)) :
    (iprop(StableHlo.held c.tc (Pipeline.ucRefs τ sig) V ∗ along c) : sProp 𝕄)
      ⊢ iprop(StableHlo.held c.tc A V ∗ (∃ r, prngReg c r) ∗ (StableHlo.held c.tc (Pipeline.ucRefs τ sig \ A) V ∗ BI.emp)
        ∗ ∃ Wd, owes c.tc (0 : CellTallies nD τ sig Unit) Wd) := by
  rw [StableHlo.held_sub_split c.tc h V]
  iintro ⟨⟨HA, HB⟩, Hp, Ho⟩
  iframe HA Hp
  isplitl [HB]
  · isplitl [HB]; · iexact HB
    iempintro
  iexact Ho

/-- And put together again, the others as they were. -/
theorem together (c : Dev nD) {A : Finset (DevRef τ sig)} (h : A ⊆ Pipeline.ucRefs τ sig) (V V' : Valuation τ sig (Elt F))
    (hV : ∀ b ∈ Pipeline.ucRefs τ sig \ A, V b = V' b) :
    (iprop(StableHlo.held c.tc A V' ∗ (∃ r, prngReg c r) ∗ (StableHlo.held c.tc (Pipeline.ucRefs τ sig \ A) V ∗ BI.emp)
        ∗ ∃ Wd, owes c.tc (0 : CellTallies nD τ sig Unit) Wd) : sProp 𝕄)
      ⊢ iprop(StableHlo.held c.tc (Pipeline.ucRefs τ sig) V' ∗ along c) := by
  rw [StableHlo.held_sub_split c.tc h V', StableHlo.held_congr c.tc hV]
  iintro ⟨HA, Hp, ⟨HB, -⟩, Ho⟩
  isplitl [HA HB]
  · isplitl [HA]; · iexact HA
    iexact HB
  iframe Hp
  iexact Ho

theorem arr_sub0 : Pipeline.arrRefs (τ := τ) spec0 ⊆ Pipeline.ucRefs τ sig := Pipeline.arrRefs_sub_ucRefs spec0 (by decide)

theorem hbm_sub0 : Pipeline.hbmRefs (τ := τ) ({main_arg1} : Finset (Ref sig .tc)) ⊆ Pipeline.ucRefs τ sig \ Pipeline.arrRefs (τ := τ) spec0 := by
  decide

theorem same0 (c : Dev nD) : ∀ b ∈ Pipeline.ucRefs τ sig \ Pipeline.arrRefs (τ := τ) spec0, W0 m c b = W1 m c b := by
  intro b hb
  unfold W1
  refine (Function.update_of_ne (fun h => (Finset.mem_sdiff.mp hb).2 ?_) _ _).symm
  subst h
  decide

theorem arrs0 (c : Dev nD) (w : Fin cfg0.W) : (R0.dat (W0 m) c).arrAt w cfg0.N = W1 m c (Proc.devRef .tc (Pipeline.arrRef spec0 w)) := by
  fin_cases w
  · exact ((R0.dat (W0 m) c).arrAt_in 0 rfl _).trans (W1_of m c main_arg0 (by decide)).symm
  · exact ((R0.dat (W0 m) c).arrAt_in 1 rfl _).trans (W1_of m c main_arg2 (by decide)).symm
  · exact (W1_at m c).symm

set_option backward.isDefEq.respectTransparency.types false in
/-- Launch 0 as a segment of the program. -/
def seg0 : RegionSeg (pcfgs (F := F)) adm (dats m) () defs₀ Variants.none lev (fun _ _ => (0 : ℕ)) 0 :=
  RegionSeg.ofHeldDH (pcfgs (F := F)) adm (dats m) () defs₀ Variants.none lev (fun _ _ => (0 : ℕ)) 0 (fun _ => 0) () R0.osem R0.osem_facts
    {main_arg1} (Pipeline.ucRefs τ sig \ Pipeline.arrRefs (τ := τ) spec0) hbm_sub0 (launch0.toP) rfl
    (fun c => (R0.body_obligation (W0 m) c).loose) (fun _ _ => rfl) (fun _ => rfl) (fun c => (R0.dat (W0 m) c).share_full fun _ => rfl)
    no_wait (W0 m) (W1 m)
    (fun c => (show _ ⊢ R0.given (W0 m) c from by
      iintro ⟨H1, H2, H3, H4, -⟩
      iframe H1 H2 H3
      iexact H4).trans (R0.Φ_first (W0 m) c))
    (fun c => R0.Φ_last (W0 m) c) (fun _ => 0)
    ⟨fun _ _ _ => Finset.mem_singleton_self _, fun _ _ _ => le_refl _, fun _ _ _ h => absurd h (Nat.lt_irrefl 0)⟩
    (fun _ => BI.emp) (fun _ _ => rfl) (fun c w => arrs0 m c w)

theorem enter0 (c : Dev nD) : (iprop(StableHlo.held c.tc (Pipeline.ucRefs τ sig) (W0 m c) ∗ along c) : sProp 𝕄) ⊢ (seg0 m).pre c :=
  apart c arr_sub0 (W0 m c)

theorem leave0 (c : Dev nD) : (seg0 m).post c ⊢ (iprop(StableHlo.held c.tc (Pipeline.ucRefs τ sig) (W1 m c) ∗ along c) : sProp 𝕄) :=
  together c arr_sub0 (W0 m c) (W1 m c) (same0 m c)

theorem arr_sub1 : Pipeline.arrRefs (τ := τ) spec1 ⊆ Pipeline.ucRefs τ sig := Pipeline.arrRefs_sub_ucRefs spec1 (by decide)

theorem hbm_sub1 : Pipeline.hbmRefs (τ := τ) ({main_arg1} : Finset (Ref sig .tc)) ⊆ Pipeline.ucRefs τ sig \ Pipeline.arrRefs (τ := τ) spec1 := by
  decide

theorem same1 (c : Dev nD) : ∀ b ∈ Pipeline.ucRefs τ sig \ Pipeline.arrRefs (τ := τ) spec1, W1 m c b = W2 m c b := by
  intro b hb
  unfold W2
  refine (Function.update_of_ne (fun h => (Finset.mem_sdiff.mp hb).2 ?_) _ _).symm
  subst h
  decide

theorem arrs1 (c : Dev nD) (w : Fin cfg1.W) : (R1.dat (W1 m) c).arrAt w cfg1.N = W2 m c (Proc.devRef .tc (Pipeline.arrRef spec1 w)) := by
  fin_cases w
  · exact ((R1.dat (W1 m) c).arrAt_in 0 rfl _).trans (W2_of m c main_arg0 (by decide)).symm
  · exact ((R1.dat (W1 m) c).arrAt_in 1 rfl _).trans (W2_of m c main_v0 (by decide)).symm
  · exact (W2_at m c).symm

set_option backward.isDefEq.respectTransparency.types false in
/-- Launch 1 as a segment of the program. -/
def seg1 : RegionSeg (pcfgs (F := F)) adm (dats m) () defs₀ Variants.none lev (fun _ _ => (0 : ℕ)) 1 :=
  RegionSeg.ofHeldDH (pcfgs (F := F)) adm (dats m) () defs₀ Variants.none lev (fun _ _ => (0 : ℕ)) 1 (fun _ => 0) () R1.osem R1.osem_facts
    {main_arg1} (Pipeline.ucRefs τ sig \ Pipeline.arrRefs (τ := τ) spec1) hbm_sub1 (launch1.toP) rfl
    (fun c => (R1.body_obligation (W1 m) c).loose) (fun _ _ => rfl) (fun _ => rfl) (fun c => (R1.dat (W1 m) c).share_full fun _ => rfl)
    no_wait (W1 m) (W2 m)
    (fun c => (show _ ⊢ R1.given (W1 m) c from by
      iintro ⟨H1, H2, H3, H4, -⟩
      iframe H1 H2 H3
      iexact H4).trans (R1.Φ_first (W1 m) c))
    (fun c => R1.Φ_last (W1 m) c) (fun _ => 0)
    ⟨fun _ _ _ => Finset.mem_singleton_self _, fun _ _ _ => le_refl _, fun _ _ _ h => absurd h (Nat.lt_irrefl 0)⟩
    (fun _ => BI.emp) (fun _ _ => rfl) (fun c w => arrs1 m c w)

theorem enter1 (c : Dev nD) : (iprop(StableHlo.held c.tc (Pipeline.ucRefs τ sig) (W1 m c) ∗ along c) : sProp 𝕄) ⊢ (seg1 m).pre c :=
  apart c arr_sub1 (W1 m c)

theorem leave1 (c : Dev nD) : (seg1 m).post c ⊢ (iprop(StableHlo.held c.tc (Pipeline.ucRefs τ sig) (W2 m c) ∗ along c) : sProp 𝕄) :=
  together c arr_sub1 (W1 m c) (W2 m c) (same1 m c)

theorem arr_sub2 : Pipeline.arrRefs (τ := τ) spec2 ⊆ Pipeline.ucRefs τ sig := Pipeline.arrRefs_sub_ucRefs spec2 (by decide)

theorem hbm_sub2 : Pipeline.hbmRefs (τ := τ) ({main_arg1} : Finset (Ref sig .tc)) ⊆ Pipeline.ucRefs τ sig \ Pipeline.arrRefs (τ := τ) spec2 := by
  decide

theorem same2 (c : Dev nD) : ∀ b ∈ Pipeline.ucRefs τ sig \ Pipeline.arrRefs (τ := τ) spec2, W2 m c b = W3 m c b := by
  intro b hb
  unfold W3
  refine (Function.update_of_ne (fun h => (Finset.mem_sdiff.mp hb).2 ?_) _ _).symm
  subst h
  decide

theorem arrs2 (c : Dev nD) (w : Fin cfg2.W) : (R2.dat (W2 m) c).arrAt w cfg2.N = W3 m c (Proc.devRef .tc (Pipeline.arrRef spec2 w)) := by
  fin_cases w
  · exact ((R2.dat (W2 m) c).arrAt_in 0 rfl _).trans (W3_of m c main_arg0 (by decide)).symm
  · exact ((R2.dat (W2 m) c).arrAt_in 1 rfl _).trans (W3_of m c main_v1 (by decide)).symm
  · exact (W3_at m c).symm

set_option backward.isDefEq.respectTransparency.types false in
/-- Launch 2 as a segment of the program. -/
def seg2 : RegionSeg (pcfgs (F := F)) adm (dats m) () defs₀ Variants.none lev (fun _ _ => (0 : ℕ)) 2 :=
  RegionSeg.ofHeldDH (pcfgs (F := F)) adm (dats m) () defs₀ Variants.none lev (fun _ _ => (0 : ℕ)) 2 (fun _ => 0) () R2.osem R2.osem_facts
    {main_arg1} (Pipeline.ucRefs τ sig \ Pipeline.arrRefs (τ := τ) spec2) hbm_sub2 (launch2.toP) rfl
    (fun c => (R2.body_obligation (W2 m) c).loose) (fun _ _ => rfl) (fun _ => rfl) (fun c => (R2.dat (W2 m) c).share_full fun _ => rfl)
    no_wait (W2 m) (W3 m)
    (fun c => (show _ ⊢ R2.given (W2 m) c from by
      iintro ⟨H1, H2, H3, H4, -⟩
      iframe H1 H2 H3
      iexact H4).trans (R2.Φ_first (W2 m) c))
    (fun c => R2.Φ_last (W2 m) c) (fun _ => 0)
    ⟨fun _ _ _ => Finset.mem_singleton_self _, fun _ _ _ => le_refl _, fun _ _ _ h => absurd h (Nat.lt_irrefl 0)⟩
    (fun _ => BI.emp) (fun _ _ => rfl) (fun c w => arrs2 m c w)

theorem enter2 (c : Dev nD) : (iprop(StableHlo.held c.tc (Pipeline.ucRefs τ sig) (W2 m c) ∗ along c) : sProp 𝕄) ⊢ (seg2 m).pre c :=
  apart c arr_sub2 (W2 m c)

theorem leave2 (c : Dev nD) : (seg2 m).post c ⊢ (iprop(StableHlo.held c.tc (Pipeline.ucRefs τ sig) (W3 m c) ∗ along c) : sProp 𝕄) :=
  together c arr_sub2 (W2 m c) (W3 m c) (same2 m c)

theorem arr_sub3 : Pipeline.arrRefs (τ := τ) spec3 ⊆ Pipeline.ucRefs τ sig := Pipeline.arrRefs_sub_ucRefs spec3 (by decide)

theorem hbm_sub3 : Pipeline.hbmRefs (τ := τ) ({main_arg1} : Finset (Ref sig .tc)) ⊆ Pipeline.ucRefs τ sig \ Pipeline.arrRefs (τ := τ) spec3 := by
  decide

theorem same3 (c : Dev nD) : ∀ b ∈ Pipeline.ucRefs τ sig \ Pipeline.arrRefs (τ := τ) spec3, W3 m c b = W4 m c b := by
  intro b hb
  unfold W4
  refine (Function.update_of_ne (fun h => (Finset.mem_sdiff.mp hb).2 ?_) _ _).symm
  subst h
  decide

theorem arrs3 (c : Dev nD) (w : Fin cfg3.W) : (R3.dat (W3 m) c).arrAt w cfg3.N = W4 m c (Proc.devRef .tc (Pipeline.arrRef spec3 w)) := by
  fin_cases w
  · exact ((R3.dat (W3 m) c).arrAt_in 0 rfl _).trans (W4_of m c main_arg0 (by decide)).symm
  · exact ((R3.dat (W3 m) c).arrAt_in 1 rfl _).trans (W4_of m c main_v2 (by decide)).symm
  · exact (W4_at m c).symm

set_option backward.isDefEq.respectTransparency.types false in
/-- Launch 3 as a segment of the program. -/
def seg3 : RegionSeg (pcfgs (F := F)) adm (dats m) () defs₀ Variants.none lev (fun _ _ => (0 : ℕ)) 3 :=
  RegionSeg.ofHeldDH (pcfgs (F := F)) adm (dats m) () defs₀ Variants.none lev (fun _ _ => (0 : ℕ)) 3 (fun _ => 0) () R3.osem R3.osem_facts
    {main_arg1} (Pipeline.ucRefs τ sig \ Pipeline.arrRefs (τ := τ) spec3) hbm_sub3 (launch3.toP) rfl
    (fun c => (R3.body_obligation (W3 m) c).loose) (fun _ _ => rfl) (fun _ => rfl) (fun c => (R3.dat (W3 m) c).share_full fun _ => rfl)
    no_wait (W3 m) (W4 m)
    (fun c => (show _ ⊢ R3.given (W3 m) c from by
      iintro ⟨H1, H2, H3, H4, -⟩
      iframe H1 H2 H3
      iexact H4).trans (R3.Φ_first (W3 m) c))
    (fun c => R3.Φ_last (W3 m) c) (fun _ => 0)
    ⟨fun _ _ _ => Finset.mem_singleton_self _, fun _ _ _ => le_refl _, fun _ _ _ h => absurd h (Nat.lt_irrefl 0)⟩
    (fun _ => BI.emp) (fun _ _ => rfl) (fun c w => arrs3 m c w)

theorem enter3 (c : Dev nD) : (iprop(StableHlo.held c.tc (Pipeline.ucRefs τ sig) (W3 m c) ∗ along c) : sProp 𝕄) ⊢ (seg3 m).pre c :=
  apart c arr_sub3 (W3 m c)

theorem leave3 (c : Dev nD) : (seg3 m).post c ⊢ (iprop(StableHlo.held c.tc (Pipeline.ucRefs τ sig) (W4 m c) ∗ along c) : sProp 𝕄) :=
  together c arr_sub3 (W3 m c) (W4 m c) (same3 m c)

/-- The program as its segments. -/
abbrev segs (_ : Dev nD) : List (Seg (pcfgs (F := F)) adm (dats m) () defs₀ Variants.none lev (fun _ _ => (0 : ℕ))) :=
  [.region (seg0 m), .region (seg1 m), .region (seg2 m), .region (seg3 m)]

theorem W4_arg0 (c : Dev nD) : W4 m c main_arg0 = m ((c.tc : Thread nD τ).loc main_arg0) := by
  rw [W4_of m c _ (by decide), W3_of m c _ (by decide), W2_of m c _ (by decide), W1_of m c _ (by decide)]; rfl
theorem W4_arg1 (c : Dev nD) : W4 m c main_arg1 = m ((c.tc : Thread nD τ).loc main_arg1) := by
  rw [W4_of m c _ (by decide), W3_of m c _ (by decide), W2_of m c _ (by decide), W1_of m c _ (by decide)]; rfl
theorem W4_arg2 (c : Dev nD) : W4 m c main_arg2 = m ((c.tc : Thread nD τ).loc main_arg2) := by
  rw [W4_of m c _ (by decide), W3_of m c _ (by decide), W2_of m c _ (by decide), W1_of m c _ (by decide)]; rfl

/-- What a run leaves: the arguments as they were, the result at the last launch's array. -/
abbrev Left (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2))
    ∧ s.mem ((c.tc : Thread nD τ).loc main_v3) = W4 m c main_v3

theorem counted : (ownU ((initOf (Pipeline.cells cfgs cellOf_inj) (Pipeline.launchToks cfgs cellOf_inj), 1) : Pipeline.UD sig nD τ) : sProp 𝕄)
    ⊢ |={Set.univ}=> iprop(BI.own ((embL : Emb (URounds (GSem nD τ sig) Unit) 𝕄) (initOf (Pipeline.cells cfgs cellOf_inj) (Pipeline.launchToks cfgs cellOf_inj)))
      ∗ bigSep Finset.univ (fun _ : Dev nD => (BI.emp : sProp 𝕄))) := by
  iintro Hu
  ihave H' := (ownU_pair _ _) $$ Hu
  icases H' with ⟨HP, -⟩
  imodintro
  iframe HP
  iapply (show (BI.emp : sProp 𝕄) ⊢ bigSep Finset.univ (fun _ : Dev nD => (BI.emp : sProp 𝕄)) from by rw [BI.bigSep_emp_const])
  iempintro

/-- A core's share of the launch. -/
theorem begin (c : Dev nD) : (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp) : sProp 𝕄)
    ⊢ iprop(StableHlo.held c.tc (Pipeline.ucRefs τ sig) (W0 m c) ∗ along c) := by
  rw [← Pipeline.unscopedBufs_held (Ix := Unit) (Name := ℕ) (U := Pipeline.UD sig nD τ) (Lvl := ℕ) c (W0 m c)]
  iintro ⟨HB, -, Ho, -, Hp, -⟩
  iframe HB
  isplitl [Hp]; · iexists _; iexact Hp
  iexists _; iexact Ho

theorem begins : (bigSep Finset.univ fun c : Dev nD => iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp))
    ⊢ (bigSep Finset.univ fun c : Dev nD => iprop(StableHlo.held c.tc (Pipeline.ucRefs τ sig) (W0 m c) ∗ along c) : sProp 𝕄) :=
  bigSep_mono fun c _ => begin m ρ c

/-- The buffers' contents, read off the last launch. -/
theorem finish (c : Dev nD) (s' : Phys nD τ sig (Elt F)) :
    (iprop(StableHlo.held c.tc (Pipeline.ucRefs τ sig) (W4 m c) ∗ SI s') : sProp 𝕄) ⊢ |={Set.univ}=> iprop(⌜Left m c s'.mem⌝ ∗ SI s') := by
  unfold StableHlo.held
  iintro ⟨Hh, HSI⟩
  ihave Hr := (pointsTo_read_all (Pipeline.ucRefs τ sig) (fun b => (c.tc.1, b)) (W4 m c) s') $$ [Hh HSI]
  · isplitl [Hh] <;> iassumption
  icases Hr with ⟨%h, HSI⟩
  imodintro
  isplitr
  · ipureintro
    have at_ : ∀ r : Ref sig .tc, (Proc.devRef .tc r : DevRef τ sig).isScoped = false → s'.mem.mem ((c.tc : Thread nD τ).loc r) = W4 m c r :=
      fun r hr => h (Proc.devRef .tc r) (Finset.mem_filter.mpr ⟨StableHlo.devRef_mem_tcRefs r, by rw [hr]; decide⟩)
    exact ⟨⟨(at_ main_arg0 (by decide)).trans (W4_arg0 m c), (at_ main_arg1 (by decide)).trans (W4_arg1 m c), (at_ main_arg2 (by decide)).trans (W4_arg2 m c)⟩,
      at_ main_v3 (by decide)⟩
  · iexact HSI

set_option backward.isDefEq.respectTransparency.types false in
/-- The run of the whole program. -/
theorem run : θ_run defs (onTc (τ := τ) (main (F := F))) ⟨m, fun _ => 0, ρ⟩
    (fun r => (∀ c : Dev nD, Left m c r.2) ∧ r.2.sem = fun _ => 0) := by
  refine Pipeline.θ_run_regions_kit_dev_sems (pcfgs (F := F)) adm (dats m) () cellOf_inj embL defs₀ Variants.none lev (fun _ _ => (0 : ℕ)) m ρ main
    (segs m)
    (fun c Q => by
      rewrite [main_chain c, Seg.run_eq_chain,
        show (segs m c).map Seg.prog = [
          Prog.lift (.customCall (Pipeline.entry 0) ()),
          Prog.lift (.customCall (Pipeline.entry 1) ()),
          Prog.lift (.customCall (Pipeline.entry 2) ()),
          Prog.lift (.customCall (Pipeline.entry 3) ()) ] from rfl]
      exact .rfl)
    (fun c => by simp only [segs, Seg.pipes_region, Seg.pipes_nil]; decide) (fun _ => 0) lev_off (fun _ => BI.emp) _ counted
    (T₀ := fun c => iprop(StableHlo.held c.tc (Pipeline.ucRefs τ sig) (W0 m c) ∗ along c))
    (Tₙ := fun c => StableHlo.held c.tc (Pipeline.ucRefs τ sig) (W4 m c))
    (hch := fun c => ⟨enter0 m c, (leave0 m c).trans (enter1 m c), (leave1 m c).trans (enter2 m c), (leave2 m c).trans (enter3 m c),
      (leave3 m c).trans (sep_mono .rfl (by iintro ⟨-, H⟩; iexact H))⟩)
    (hinit := ?_) (QY := Left m) (hfin := finish m) (hQ := fun _ h hz => ⟨h, funext fun g => hz g (.inr (regions_no_unscoped g.2))⟩)
  iintro ⟨H, -⟩
  imodintro
  iapply (begins m ρ)
  iexact H

end Cert.Kernel3Ideal.Down

end
-- ==== Proof.Frames3.lean ====
/-
  The frames of the feed-forward's second product: its three programs.
-/
module

public import proofs.«01_k».proof.Defs
public import proofs.«01_k».proof.Proof.DownRun
public import proofs.«01_k».proof.Proof.Gen.Kernel3
public import proofs.«01_k».proof.Proof.Gen.Reference3Ideal.Run
public import Idealize.ShloMosaic.Lib.Quiescent

@[expose] public section

noncomputable section

namespace Cert.Proof

open Idealize.ShloMosaic Idealize.ShloMosaic.TcCoe Idealize.SL.Sem

set_option maxHeartbeats 2000000 in
/-- The two body tables are one text. -/
theorem table_eq3 : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | ⟨0, _⟩, (t, s) => rfl
  | ⟨1, _⟩, (t, s) => rfl
  | ⟨2, _⟩, (t, s) => rfl
  | ⟨3, _⟩, (t, s) => rfl

theorem defs_eq3 : Cert.Kernel3.defs (F := Bits) = Cert.Kernel3Ideal.defs (F := Bits) :=
  congrArg (Pipeline.defs Cert.Kernel3Ideal.pcfgs) table_eq3

theorem left3 {F : FTy → Type} [FloatOps F] (m : (ℓ : Loc Cert.Kernel3Ideal.nD Cert.Kernel3Ideal.τ Cert.Kernel3Ideal.sig) → Buf (Elt F) ℓ)
    (ρ : Dev Cert.Kernel3Ideal.nD → PrngReg) :
    (θ_run Cert.Kernel3Ideal.defs (onTc Cert.Kernel3Ideal.main) ⟨m, fun _ => 0, ρ⟩) fun r =>
      (∀ c : Dev Cert.Kernel3Ideal.nD,
        r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
        ∧ r.2.sem = fun _ => 0 :=
  (θ_run Cert.Kernel3Ideal.defs _ _).mono (fun _ h => ⟨fun c => (h.1 c).1, h.2⟩) (Cert.Kernel3Ideal.Down.run m ρ)

theorem frame_p3 : Cert.quiescent_Kernel3 := fun m ρ _ => by
  have h := left3 (F := Bits) m ρ
  rw [← defs_eq3] at h
  exact h

theorem frame_pi3 : Cert.quiescent_Kernel3Ideal := fun m ρ _ => left3 m ρ

theorem frame_ri3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run (F := Ideal) m ρ)

theorem preserves3 : Cert.preserves_Kernel3_Kernel3Ideal := trivial

end Cert.Proof

end
-- ==== Proof.DownVal.lean ====
/-
  The feed-forward's second product: what the launches and the reference leave, element by element.
-/
module

public import proofs.«01_k».proof.Proof.DownRun
public import proofs.«01_k».proof.Proof.Gen.Reference3Ideal.Run
public import Idealize.ShloMosaic.Lib.Pointwise
public import Idealize.ShloMosaic.Lib.Pipeline.ValueKit
public import Idealize.ShloMosaic.Lib.Tactic.CleanTypes

@[expose] public section

set_option maxRecDepth 16384

noncomputable section

namespace Cert.Kernel3Ideal.Down

open Cert.Kernel3Ideal Cert.Kernel3Ideal.Gen
open Idealize.ShloMosaic Idealize.ShloMosaic.TcCoe

theorem outv_at (r : FVec Ideal S512x1024 .f32) (x : FVec Ideal S512x4096 .bf16) (w : FVec Ideal S4096x1024 .bf16) (a : Fin 512) (q : Fin 1024) :
    outv (F := Ideal) r x w (ix2 a q) = (r (ix2 a q) : EReal) + ∑ k : Fin 4096, (x (ix2 a k) * w (ix2 k q) : EReal) := by
  unfold outv
  pointwise

theorem colV_at (f : FVec Ideal S4x16384x4096 .f32) (kb j : Fin 4) (k : Fin 4096) (q : Fin 1024) :
    colV (F := Ideal) (offs kb.val j.val) (offs_inb kb.isLt j.isLt) f (ix2 k q)
      = f (ix3 0 (⟨4096 * kb.val + k.val, by omega⟩ : Fin 16384) (⟨1024 * j.val + q.val, by omega⟩ : Fin 4096)) := by
  have h : colV (F := Ideal) (offs kb.val j.val) (offs_inb kb.isLt j.isLt) f
      = shapeCast S4096x1024 (wM.view.readAt (Elt Ideal) (Rect.unit (s := S4x16384x4096) (offs kb.val j.val) S1x4096x1024.size (offs_inb kb.isLt j.isLt)).toLoadRect f)
          (by decide : S1x4096x1024.ShapeCasts S4096x1024) := rfl
  rw [h]
  refine (ValueIdx.shapeCast_1ab_ab_apply _ _ _ _).trans ?_
  refine congrArg f ?_
  funext a
  refine Fin.ext ?_
  fin_cases a
  · rfl
  · show 4096 * kb.val + 1 * k.val = 4096 * kb.val + k.val; omega
  · show 1024 * j.val + 1 * q.val = 1024 * j.val + q.val; omega

theorem wblk_at (f : FVec Ideal S4x16384x4096 .f32) (kb j : Fin 4) (k : Fin 4096) (q : Fin 1024) :
    wblk (F := Ideal) kb f j (ix2 k q) = f (ix3 0 (⟨4096 * kb.val + k.val, by omega⟩ : Fin 16384) (⟨1024 * j.val + q.val, by omega⟩ : Fin 4096)) := by
  refine Eq.trans ?_ (colV_at f kb j k q)
  unfold wblk narrow
  generalize colV (F := Ideal) _ _ f = g
  rw [shapeCast_self]
  rfl

/-- What block `kb` of the inner dimension adds to an array. -/
def part (kb : Fin 4) (r : FVec Ideal S16384x4096 .f32) (u : FVec Ideal S16384x16384 .bf16) (w : FVec Ideal S4x16384x4096 .f32) : FVec Ideal S16384x4096 .f32 := fun i =>
  (r i : EReal) + ∑ k : Fin 4096, (u (ix2 (i 0) (⟨4096 * kb.val + k.val, by omega⟩ : Fin 16384)) * w (ix3 0 (⟨4096 * kb.val + k.val, by omega⟩ : Fin 16384) (i 1)) : EReal)

variable (V : Dev nD → Valuation τ sig (Elt Ideal)) (m : (ℓ : Loc nD τ sig) → Buf (Elt Ideal) ℓ) (c : Dev nD)

namespace R0

theorem tr0 : ∀ t : Fin cfg0.N, cc0_transform_0 (grid0.coords t) = ![t.val % 32, 0] :=
  (by decide +kernel : ∀ t : Fin grid0.N, cc0_transform_0 (grid0.coords t) = ![t.val % 32, 0])
theorem tr2 : ∀ t : Fin cfg0.N, cc0_transform_2 (grid0.coords t) = ![t.val % 32, t.val / 32] :=
  (by decide +kernel : ∀ t : Fin grid0.N, cc0_transform_2 (grid0.coords t) = ![t.val % 32, t.val / 32])
theorem tr3 : ∀ t : Fin cfg0.N, cc0_transform_3 (grid0.coords t) = ![t.val % 32, t.val / 32] :=
  (by decide +kernel : ∀ t : Fin grid0.N, cc0_transform_3 (grid0.coords t) = ![t.val % 32, t.val / 32])

theorem iblk0_at (t : Fin cfg0.N) (a : Fin 512) (k : Fin 4096) :
    (iblk V c 0 t : Vec Ideal S512x4096 .bf16) (ix2 a k)
      = (V c main_arg0 : FVec Ideal S16384x16384 .bf16) (ix2 (⟨512 * (t.val % 32) + a.val, by omega⟩ : Fin 16384) (⟨4096 * 0 + k.val, by omega⟩ : Fin 16384)) := by
  show V c main_arg0 ((win0_0.blk t).view.emb (ix2 a k)) = _
  have hv : ∀ b, ((win0_0.blk t).view.emb (ix2 a k) b).val = cc0_transform_0 (grid0.coords t) b * S512x4096.size b + (ix2 a k b).val :=
    fun b => Pipeline.Window.rect_emb_val win0_0 t (ix2 a k) b rfl
  refine congrArg (V c main_arg0) ?_
  funext b
  refine Fin.ext ((hv b).trans ?_)
  rw [tr0 t]
  fin_cases b
  · show t.val % 32 * 512 + a.val = 512 * (t.val % 32) + a.val; omega
  · show 0 * 4096 + k.val = 4096 * 0 + k.val; omega

theorem place (t : Fin cfg0.N) (a : Fin 512) (q : Fin 1024) : (win0_2.blk t).view.emb (ix2 a q)
    = ix2 (⟨512 * (t.val % 32) + a.val, by omega⟩ : Fin 16384) (⟨1024 * (jn t.val).val + q.val, by have := (jn t.val).isLt; omega⟩ : Fin 4096) := by
  have ht : t.val < 128 := t.isLt
  have hv : ∀ b, ((win0_2.blk t).view.emb (ix2 a q) b).val = cc0_transform_3 (grid0.coords t) b * S512x1024.size b + (ix2 a q b).val :=
    fun b => Pipeline.Window.rect_emb_val win0_2 t (ix2 a q) b rfl
  funext b
  refine Fin.ext ((hv b).trans ?_)
  rw [tr3 t]
  fin_cases b
  · show t.val % 32 * 512 + a.val = 512 * (t.val % 32) + a.val; omega
  · show t.val / 32 * 1024 + q.val = 1024 * (t.val / 32 % 4) + q.val; omega

theorem iblk1_at (t : Fin cfg0.N) (a : Fin 512) (q : Fin 1024) :
    (iblk V c 1 t : Vec Ideal S512x1024 .f32) (ix2 a q) = (V c main_arg2 : FVec Ideal S16384x4096 .f32)
      (ix2 (⟨512 * (t.val % 32) + a.val, by omega⟩ : Fin 16384) (⟨1024 * (jn t.val).val + q.val, by have := (jn t.val).isLt; omega⟩ : Fin 4096)) := by
  have ht : t.val < 128 := t.isLt
  show V c main_arg2 ((win0_1.blk t).view.emb (ix2 a q)) = _
  have hv : ∀ b, ((win0_1.blk t).view.emb (ix2 a q) b).val = cc0_transform_2 (grid0.coords t) b * S512x1024.size b + (ix2 a q b).val :=
    fun b => Pipeline.Window.rect_emb_val win0_1 t (ix2 a q) b rfl
  refine congrArg (V c main_arg2) ?_
  funext b
  refine Fin.ext ((hv b).trans ?_)
  rw [tr2 t]
  fin_cases b
  · show t.val % 32 * 512 + a.val = 512 * (t.val % 32) + a.val; omega
  · show t.val / 32 * 1024 + q.val = 1024 * (t.val / 32 % 4) + q.val; omega

theorem arr : (dat V c).arrAt 2 cfg0.N = part 0 (V c main_arg2) (V c main_arg0) (V c main_arg1) := by
  refine (dat V c).arrAt_eq_of_covers 2 (part 0 (V c main_arg2) (V c main_arg0) (V c main_arg1)) (by decide +kernel) fun t hf y => ?_
  blk_simp
  show outBlk V c t y = part 0 (V c main_arg2) (V c main_arg0) (V c main_arg1) ((win0_2.blk t).view.emb y)
  obtain ⟨a, q, rfl⟩ : ∃ (a : Fin 512) (q : Fin 1024), y = ix2 a q := ⟨y 0, y 1, by funext b; fin_cases b <;> rfl⟩
  rw [place]
  unfold outBlk part
  rw [outv_at, iblk1_at]
  refine congrArg _ (Finset.sum_congr rfl fun k _ => ?_)
  rw [iblk0_at, wblk_at]
  rfl

end R0

namespace R1

theorem tr0 : ∀ t : Fin cfg1.N, cc1_transform_0 (grid1.coords t) = ![t.val % 32, 1] :=
  (by decide +kernel : ∀ t : Fin grid1.N, cc1_transform_0 (grid1.coords t) = ![t.val % 32, 1])
theorem tr2 : ∀ t : Fin cfg1.N, cc1_transform_2 (grid1.coords t) = ![t.val % 32, t.val / 32] :=
  (by decide +kernel : ∀ t : Fin grid1.N, cc1_transform_2 (grid1.coords t) = ![t.val % 32, t.val / 32])
theorem tr3 : ∀ t : Fin cfg1.N, cc1_transform_3 (grid1.coords t) = ![t.val % 32, t.val / 32] :=
  (by decide +kernel : ∀ t : Fin grid1.N, cc1_transform_3 (grid1.coords t) = ![t.val % 32, t.val / 32])

theorem iblk0_at (t : Fin cfg1.N) (a : Fin 512) (k : Fin 4096) :
    (iblk V c 0 t : Vec Ideal S512x4096 .bf16) (ix2 a k)
      = (V c main_arg0 : FVec Ideal S16384x16384 .bf16) (ix2 (⟨512 * (t.val % 32) + a.val, by omega⟩ : Fin 16384) (⟨4096 * 1 + k.val, by omega⟩ : Fin 16384)) := by
  show V c main_arg0 ((win1_0.blk t).view.emb (ix2 a k)) = _
  have hv : ∀ b, ((win1_0.blk t).view.emb (ix2 a k) b).val = cc1_transform_0 (grid1.coords t) b * S512x4096.size b + (ix2 a k b).val :=
    fun b => Pipeline.Window.rect_emb_val win1_0 t (ix2 a k) b rfl
  refine congrArg (V c main_arg0) ?_
  funext b
  refine Fin.ext ((hv b).trans ?_)
  rw [tr0 t]
  fin_cases b
  · show t.val % 32 * 512 + a.val = 512 * (t.val % 32) + a.val; omega
  · show 1 * 4096 + k.val = 4096 * 1 + k.val; omega

theorem place (t : Fin cfg1.N) (a : Fin 512) (q : Fin 1024) : (win1_2.blk t).view.emb (ix2 a q)
    = ix2 (⟨512 * (t.val % 32) + a.val, by omega⟩ : Fin 16384) (⟨1024 * (jn t.val).val + q.val, by have := (jn t.val).isLt; omega⟩ : Fin 4096) := by
  have ht : t.val < 128 := t.isLt
  have hv : ∀ b, ((win1_2.blk t).view.emb (ix2 a q) b).val = cc1_transform_3 (grid1.coords t) b * S512x1024.size b + (ix2 a q b).val :=
    fun b => Pipeline.Window.rect_emb_val win1_2 t (ix2 a q) b rfl
  funext b
  refine Fin.ext ((hv b).trans ?_)
  rw [tr3 t]
  fin_cases b
  · show t.val % 32 * 512 + a.val = 512 * (t.val % 32) + a.val; omega
  · show t.val / 32 * 1024 + q.val = 1024 * (t.val / 32 % 4) + q.val; omega

theorem iblk1_at (t : Fin cfg1.N) (a : Fin 512) (q : Fin 1024) :
    (iblk V c 1 t : Vec Ideal S512x1024 .f32) (ix2 a q) = (V c main_v0 : FVec Ideal S16384x4096 .f32)
      (ix2 (⟨512 * (t.val % 32) + a.val, by omega⟩ : Fin 16384) (⟨1024 * (jn t.val).val + q.val, by have := (jn t.val).isLt; omega⟩ : Fin 4096)) := by
  have ht : t.val < 128 := t.isLt
  show V c main_v0 ((win1_1.blk t).view.emb (ix2 a q)) = _
  have hv : ∀ b, ((win1_1.blk t).view.emb (ix2 a q) b).val = cc1_transform_2 (grid1.coords t) b * S512x1024.size b + (ix2 a q b).val :=
    fun b => Pipeline.Window.rect_emb_val win1_1 t (ix2 a q) b rfl
  refine congrArg (V c main_v0) ?_
  funext b
  refine Fin.ext ((hv b).trans ?_)
  rw [tr2 t]
  fin_cases b
  · show t.val % 32 * 512 + a.val = 512 * (t.val % 32) + a.val; omega
  · show t.val / 32 * 1024 + q.val = 1024 * (t.val / 32 % 4) + q.val; omega

theorem arr : (dat V c).arrAt 2 cfg1.N = part 1 (V c main_v0) (V c main_arg0) (V c main_arg1) := by
  refine (dat V c).arrAt_eq_of_covers 2 (part 1 (V c main_v0) (V c main_arg0) (V c main_arg1)) (by decide +kernel) fun t hf y => ?_
  blk_simp
  show outBlk V c t y = part 1 (V c main_v0) (V c main_arg0) (V c main_arg1) ((win1_2.blk t).view.emb y)
  obtain ⟨a, q, rfl⟩ : ∃ (a : Fin 512) (q : Fin 1024), y = ix2 a q := ⟨y 0, y 1, by funext b; fin_cases b <;> rfl⟩
  rw [place]
  unfold outBlk part
  rw [outv_at, iblk1_at]
  refine congrArg _ (Finset.sum_congr rfl fun k _ => ?_)
  rw [iblk0_at, wblk_at]
  rfl

end R1

namespace R2

theorem tr0 : ∀ t : Fin cfg2.N, cc2_transform_0 (grid2.coords t) = ![t.val % 32, 2] :=
  (by decide +kernel : ∀ t : Fin grid2.N, cc2_transform_0 (grid2.coords t) = ![t.val % 32, 2])
theorem tr2 : ∀ t : Fin cfg2.N, cc2_transform_2 (grid2.coords t) = ![t.val % 32, t.val / 32] :=
  (by decide +kernel : ∀ t : Fin grid2.N, cc2_transform_2 (grid2.coords t) = ![t.val % 32, t.val / 32])
theorem tr3 : ∀ t : Fin cfg2.N, cc2_transform_3 (grid2.coords t) = ![t.val % 32, t.val / 32] :=
  (by decide +kernel : ∀ t : Fin grid2.N, cc2_transform_3 (grid2.coords t) = ![t.val % 32, t.val / 32])

theorem iblk0_at (t : Fin cfg2.N) (a : Fin 512) (k : Fin 4096) :
    (iblk V c 0 t : Vec Ideal S512x4096 .bf16) (ix2 a k)
      = (V c main_arg0 : FVec Ideal S16384x16384 .bf16) (ix2 (⟨512 * (t.val % 32) + a.val, by omega⟩ : Fin 16384) (⟨4096 * 2 + k.val, by omega⟩ : Fin 16384)) := by
  show V c main_arg0 ((win2_0.blk t).view.emb (ix2 a k)) = _
  have hv : ∀ b, ((win2_0.blk t).view.emb (ix2 a k) b).val = cc2_transform_0 (grid2.coords t) b * S512x4096.size b + (ix2 a k b).val :=
    fun b => Pipeline.Window.rect_emb_val win2_0 t (ix2 a k) b rfl
  refine congrArg (V c main_arg0) ?_
  funext b
  refine Fin.ext ((hv b).trans ?_)
  rw [tr0 t]
  fin_cases b
  · show t.val % 32 * 512 + a.val = 512 * (t.val % 32) + a.val; omega
  · show 2 * 4096 + k.val = 4096 * 2 + k.val; omega

theorem place (t : Fin cfg2.N) (a : Fin 512) (q : Fin 1024) : (win2_2.blk t).view.emb (ix2 a q)
    = ix2 (⟨512 * (t.val % 32) + a.val, by omega⟩ : Fin 16384) (⟨1024 * (jn t.val).val + q.val, by have := (jn t.val).isLt; omega⟩ : Fin 4096) := by
  have ht : t.val < 128 := t.isLt
  have hv : ∀ b, ((win2_2.blk t).view.emb (ix2 a q) b).val = cc2_transform_3 (grid2.coords t) b * S512x1024.size b + (ix2 a q b).val :=
    fun b => Pipeline.Window.rect_emb_val win2_2 t (ix2 a q) b rfl
  funext b
  refine Fin.ext ((hv b).trans ?_)
  rw [tr3 t]
  fin_cases b
  · show t.val % 32 * 512 + a.val = 512 * (t.val % 32) + a.val; omega
  · show t.val / 32 * 1024 + q.val = 1024 * (t.val / 32 % 4) + q.val; omega

theorem iblk1_at (t : Fin cfg2.N) (a : Fin 512) (q : Fin 1024) :
    (iblk V c 1 t : Vec Ideal S512x1024 .f32) (ix2 a q) = (V c main_v1 : FVec Ideal S16384x4096 .f32)
      (ix2 (⟨512 * (t.val % 32) + a.val, by omega⟩ : Fin 16384) (⟨1024 * (jn t.val).val + q.val, by have := (jn t.val).isLt; omega⟩ : Fin 4096)) := by
  have ht : t.val < 128 := t.isLt
  show V c main_v1 ((win2_1.blk t).view.emb (ix2 a q)) = _
  have hv : ∀ b, ((win2_1.blk t).view.emb (ix2 a q) b).val = cc2_transform_2 (grid2.coords t) b * S512x1024.size b + (ix2 a q b).val :=
    fun b => Pipeline.Window.rect_emb_val win2_1 t (ix2 a q) b rfl
  refine congrArg (V c main_v1) ?_
  funext b
  refine Fin.ext ((hv b).trans ?_)
  rw [tr2 t]
  fin_cases b
  · show t.val % 32 * 512 + a.val = 512 * (t.val % 32) + a.val; omega
  · show t.val / 32 * 1024 + q.val = 1024 * (t.val / 32 % 4) + q.val; omega

theorem arr : (dat V c).arrAt 2 cfg2.N = part 2 (V c main_v1) (V c main_arg0) (V c main_arg1) := by
  refine (dat V c).arrAt_eq_of_covers 2 (part 2 (V c main_v1) (V c main_arg0) (V c main_arg1)) (by decide +kernel) fun t hf y => ?_
  blk_simp
  show outBlk V c t y = part 2 (V c main_v1) (V c main_arg0) (V c main_arg1) ((win2_2.blk t).view.emb y)
  obtain ⟨a, q, rfl⟩ : ∃ (a : Fin 512) (q : Fin 1024), y = ix2 a q := ⟨y 0, y 1, by funext b; fin_cases b <;> rfl⟩
  rw [place]
  unfold outBlk part
  rw [outv_at, iblk1_at]
  refine congrArg _ (Finset.sum_congr rfl fun k _ => ?_)
  rw [iblk0_at, wblk_at]
  rfl

end R2

namespace R3

theorem tr0 : ∀ t : Fin cfg3.N, cc3_transform_0 (grid3.coords t) = ![t.val % 32, 3] :=
  (by decide +kernel : ∀ t : Fin grid3.N, cc3_transform_0 (grid3.coords t) = ![t.val % 32, 3])
theorem tr2 : ∀ t : Fin cfg3.N, cc3_transform_2 (grid3.coords t) = ![t.val % 32, t.val / 32] :=
  (by decide +kernel : ∀ t : Fin grid3.N, cc3_transform_2 (grid3.coords t) = ![t.val % 32, t.val / 32])
theorem tr3 : ∀ t : Fin cfg3.N, cc3_transform_3 (grid3.coords t) = ![t.val % 32, t.val / 32] :=
  (by decide +kernel : ∀ t : Fin grid3.N, cc3_transform_3 (grid3.coords t) = ![t.val % 32, t.val / 32])

theorem iblk0_at (t : Fin cfg3.N) (a : Fin 512) (k : Fin 4096) :
    (iblk V c 0 t : Vec Ideal S512x4096 .bf16) (ix2 a k)
      = (V c main_arg0 : FVec Ideal S16384x16384 .bf16) (ix2 (⟨512 * (t.val % 32) + a.val, by omega⟩ : Fin 16384) (⟨4096 * 3 + k.val, by omega⟩ : Fin 16384)) := by
  show V c main_arg0 ((win3_0.blk t).view.emb (ix2 a k)) = _
  have hv : ∀ b, ((win3_0.blk t).view.emb (ix2 a k) b).val = cc3_transform_0 (grid3.coords t) b * S512x4096.size b + (ix2 a k b).val :=
    fun b => Pipeline.Window.rect_emb_val win3_0 t (ix2 a k) b rfl
  refine congrArg (V c main_arg0) ?_
  funext b
  refine Fin.ext ((hv b).trans ?_)
  rw [tr0 t]
  fin_cases b
  · show t.val % 32 * 512 + a.val = 512 * (t.val % 32) + a.val; omega
  · show 3 * 4096 + k.val = 4096 * 3 + k.val; omega

theorem place (t : Fin cfg3.N) (a : Fin 512) (q : Fin 1024) : (win3_2.blk t).view.emb (ix2 a q)
    = ix2 (⟨512 * (t.val % 32) + a.val, by omega⟩ : Fin 16384) (⟨1024 * (jn t.val).val + q.val, by have := (jn t.val).isLt; omega⟩ : Fin 4096) := by
  have ht : t.val < 128 := t.isLt
  have hv : ∀ b, ((win3_2.blk t).view.emb (ix2 a q) b).val = cc3_transform_3 (grid3.coords t) b * S512x1024.size b + (ix2 a q b).val :=
    fun b => Pipeline.Window.rect_emb_val win3_2 t (ix2 a q) b rfl
  funext b
  refine Fin.ext ((hv b).trans ?_)
  rw [tr3 t]
  fin_cases b
  · show t.val % 32 * 512 + a.val = 512 * (t.val % 32) + a.val; omega
  · show t.val / 32 * 1024 + q.val = 1024 * (t.val / 32 % 4) + q.val; omega

theorem iblk1_at (t : Fin cfg3.N) (a : Fin 512) (q : Fin 1024) :
    (iblk V c 1 t : Vec Ideal S512x1024 .f32) (ix2 a q) = (V c main_v2 : FVec Ideal S16384x4096 .f32)
      (ix2 (⟨512 * (t.val % 32) + a.val, by omega⟩ : Fin 16384) (⟨1024 * (jn t.val).val + q.val, by have := (jn t.val).isLt; omega⟩ : Fin 4096)) := by
  have ht : t.val < 128 := t.isLt
  show V c main_v2 ((win3_1.blk t).view.emb (ix2 a q)) = _
  have hv : ∀ b, ((win3_1.blk t).view.emb (ix2 a q) b).val = cc3_transform_2 (grid3.coords t) b * S512x1024.size b + (ix2 a q b).val :=
    fun b => Pipeline.Window.rect_emb_val win3_1 t (ix2 a q) b rfl
  refine congrArg (V c main_v2) ?_
  funext b
  refine Fin.ext ((hv b).trans ?_)
  rw [tr2 t]
  fin_cases b
  · show t.val % 32 * 512 + a.val = 512 * (t.val % 32) + a.val; omega
  · show t.val / 32 * 1024 + q.val = 1024 * (t.val / 32 % 4) + q.val; omega

theorem arr : (dat V c).arrAt 2 cfg3.N = part 3 (V c main_v2) (V c main_arg0) (V c main_arg1) := by
  refine (dat V c).arrAt_eq_of_covers 2 (part 3 (V c main_v2) (V c main_arg0) (V c main_arg1)) (by decide +kernel) fun t hf y => ?_
  blk_simp
  show outBlk V c t y = part 3 (V c main_v2) (V c main_arg0) (V c main_arg1) ((win3_2.blk t).view.emb y)
  obtain ⟨a, q, rfl⟩ : ∃ (a : Fin 512) (q : Fin 1024), y = ix2 a q := ⟨y 0, y 1, by funext b; fin_cases b <;> rfl⟩
  rw [place]
  unfold outBlk part
  rw [outv_at, iblk1_at]
  refine congrArg _ (Finset.sum_congr rfl fun k _ => ?_)
  rw [iblk0_at, wblk_at]
  rfl

end R3

/-- The residual and the whole product, as an array. -/
def down (x : FVec Ideal S16384x4096 .f32) (u : FVec Ideal S16384x16384 .bf16) (w : FVec Ideal S4x16384x4096 .f32) : FVec Ideal S16384x4096 .f32 := fun i =>
  (x i : EReal) + ∑ k : Fin 16384, (u (ix2 (i 0) k) * w (ix3 0 k (i 1)) : EReal)

/-- A sum over the inner dimension, block by block. -/
theorem four (g : Fin 16384 → EReal) : ∑ k, g k
    = (∑ k : Fin 4096, g ⟨4096 * 0 + k.val, by omega⟩) + (∑ k : Fin 4096, g ⟨4096 * 1 + k.val, by omega⟩)
      + (∑ k : Fin 4096, g ⟨4096 * 2 + k.val, by omega⟩) + (∑ k : Fin 4096, g ⟨4096 * 3 + k.val, by omega⟩) := by
  have h1 := Fin.sum_univ_add (a := 12288) (b := 4096) g
  have h2 := Fin.sum_univ_add (a := 8192) (b := 4096) fun k => g (Fin.castAdd 4096 k)
  have h3 := Fin.sum_univ_add (a := 4096) (b := 4096) fun k => g (Fin.castAdd 4096 (Fin.castAdd 4096 k))
  refine h1.trans ?_
  rw [h2, h3]
  refine congrArg₂ _ (congrArg₂ _ (congrArg₂ _ ?_ ?_) ?_) ?_
  · exact Finset.sum_congr rfl fun k _ => congrArg g (Fin.ext (by simp <;> omega))
  · exact Finset.sum_congr rfl fun k _ => congrArg g (Fin.ext (by simp <;> omega))
  · exact Finset.sum_congr rfl fun k _ => congrArg g (Fin.ext (by simp <;> omega))
  · exact Finset.sum_congr rfl fun k _ => congrArg g (Fin.ext (by simp <;> omega))

theorem parts (x : FVec Ideal S16384x4096 .f32) (u : FVec Ideal S16384x16384 .bf16) (w : FVec Ideal S4x16384x4096 .f32) :
    part 3 (part 2 (part 1 (part 0 x u w) u w) u w) u w = down x u w := by
  funext i
  unfold part down
  rw [four]
  simp only [← add_assoc]
  rfl

theorem last : W4 m c main_v3 = down (m ((c.tc : Thread nD τ).loc main_arg2)) (m ((c.tc : Thread nD τ).loc main_arg0)) (m ((c.tc : Thread nD τ).loc main_arg1)) := by
  have a1 : W1 m c main_arg0 = W0 m c main_arg0 := W1_of m c _ (by decide)
  have a2 : W2 m c main_arg0 = W1 m c main_arg0 := W2_of m c _ (by decide)
  have a3 : W3 m c main_arg0 = W2 m c main_arg0 := W3_of m c _ (by decide)
  have b1 : W1 m c main_arg1 = W0 m c main_arg1 := W1_of m c _ (by decide)
  have b2 : W2 m c main_arg1 = W1 m c main_arg1 := W2_of m c _ (by decide)
  have b3 : W3 m c main_arg1 = W2 m c main_arg1 := W3_of m c _ (by decide)
  have e0 := (W1_at m c).trans (R0.arr (W0 m) c)
  have e1 := (W2_at m c).trans (R1.arr (W1 m) c)
  have e2 := (W3_at m c).trans (R2.arr (W2 m) c)
  have e3 := (W4_at m c).trans (R3.arr (W3 m) c)
  rw [e0, a1, b1] at e1
  rw [e1, a2, a1, b2, b1] at e2
  rw [e2, a3, a2, a1, b3, b2, b1] at e3
  exact e3.trans (parts _ _ _)

end Cert.Kernel3Ideal.Down

namespace Cert.Reference3Ideal.Down

open Cert.Reference3Ideal Cert.Reference3Ideal.Gen Cert.Reference3Ideal.Value
open Idealize.ShloMosaic Idealize.ShloMosaic.TcCoe

theorem res (x : FVec Ideal S16384x4096 .f32) (u : FVec Ideal S16384x16384 .bf16) (w : FVec Ideal S4x16384x4096 .f32) :
    (addf x (Host.dotGeneral dot_S16384x16384_S16384x4096_S16384x4096_1_0_0_1_n_n none (extf .f32 u bitsLt_bf16_f32) (shapeCast _ (extractStridedSlice S1x16384x4096 ![0, 0, 0] w slices_S4x16384x4096_S1x16384x4096_0_0_0) shapeCasts_S1x16384x4096_S16384x4096)) : FVec Ideal S16384x4096 .f32)
      = Cert.Kernel3Ideal.Down.down x u w := by
  funext i
  obtain ⟨r, q, rfl⟩ : ∃ (r : Fin 16384) (q : Fin 4096), i = ix2 r q := ⟨i 0, i 1, by funext a; fin_cases a <;> rfl⟩
  unfold Cert.Kernel3Ideal.Down.down
  pointwise

end Cert.Reference3Ideal.Down

end
-- ==== Proof.Algebra3.lean ====
/-
  The value claim of the feed-forward's second product: the launches and the reference leave the same array.
-/
module

public import proofs.«01_k».proof.Defs
public import proofs.«01_k».proof.Proof.DownVal

@[expose] public section

noncomputable section

namespace Cert.Proof

open Idealize.ShloMosaic Idealize.ShloMosaic.TcCoe Idealize.SL.Sem

theorem algebraic3 : Cert.algebraic_Kernel3Ideal_Reference3Ideal := by
  intro m ρ m' ρ' _ hagree
  refine ⟨fun c => Cert.Kernel3Ideal.Down.down (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · exact (θ_run Cert.Kernel3Ideal.defs _ _).mono
      (fun r h c => ⟨(h.1 c).2.trans (Cert.Kernel3Ideal.Down.last m c), (h.1 c).1⟩)
      (Cert.Kernel3Ideal.Down.run m ρ)
  · exact (θ_run Cert.Reference3Ideal.defs _ _).mono
      (fun _ h c => ⟨(h c).1.trans ((Cert.Reference3Ideal.Down.res _ _ _).trans (by rw [(hagree c).1, (hagree c).2.1, (hagree c).2.2])), (h c).2⟩)
      (Cert.Reference3Ideal.Value.run (F := Ideal) m' ρ')

end Cert.Proof

end
-- ==== Proof.PinBody.lean ====
/-
  The dilated mixer's projection, by heads: the body at a grid point.
-/
module

public import proofs.«01_k».proof.Proof.Gen.Kernel4Ideal.Frame
public import Idealize.ShloMosaic.Lib.Pipeline.Routed
public import Idealize.ShloMosaic.Lib.Tactic
public import Idealize.ShloMosaic.Lib.VecWindow
public import Idealize.ShloMosaic.Lib.ValueLayout
public import Idealize.ShloMosaic.Lib.Pipeline.ValueKit

@[expose] public section

set_option maxRecDepth 16384

noncomputable section

namespace Cert.Kernel4Ideal.Pin

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weights, and the two scratch buffers: a column block as fetched and as narrowed. -/
abbrev wM : Memref sig .tc .hbm S2x4096x16384 .f32 := Memref.whole main_arg1
abbrev sM : Memref sig .tc .vmem S4096x1024 .f32 := Memref.whole cc0_scratch0
abbrev bM : Memref sig .tc .vmem S4096x1024 .bf16 := Memref.whole cc0_scratch1

/-- A column block of the weights. -/
abbrev colM (off : Fin 3 → ℕ) (h : ∀ a, off a + S1x4096x1024.size a ≤ S2x4096x16384.size a) : Memref sig .tc .hbm S4096x1024 .f32 :=
  (wM.slice (Rect.unit (s := S2x4096x16384) off S1x4096x1024.size h) (fun _ => rfl)).squeeze S4096x1024 squeezes_S1x4096x1024_S4096x1024

/-- A column block's elements. -/
def colV (off : Fin 3 → ℕ) (h : ∀ a, off a + S1x4096x1024.size a ≤ S2x4096x16384.size a) (f : (⟨S2x4096x16384, .f32⟩ : BufTy).Contents (Elt F)) :
    S4096x1024.Idx → Elt F .f32 := (colM off h).view.read (Elt F) f

/-- The column block narrowed, as the scratch keeps it. -/
def narrow (g : S4096x1024.Idx → Elt F .f32) : S4096x1024.Idx → Elt F .bf16 :=
  shapeCast S4096x1024 (truncf .bf16 (g : FVec F S4096x1024 .f32) bitsLt_bf16_f32) shapeCasts_S4096x1024_S4096x1024

/-- The product's block. -/
def prod (x : S1024x4096.Idx → Elt F .bf16) (w : S4096x1024.Idx → Elt F .bf16) : FVec F S1024x1024 .f32 :=
  matmul dot_S1024x4096_S4096x1024_S1024x1024_1_0_0_1_n_n none (x : FVec F S1024x4096 .bf16) (w : FVec F S4096x1024 .bf16) (constant S1024x1024 .f32 0x00000000#32)

/-- The block's columns from the `o`th on, as one head of the output's block. -/
def headv (z : FVec F S1024x1024 .f32) (o : ℕ) (h : S1024x1024.Slices ![0, o] S1024x128) : S1x1024x128.Idx → Elt F .f32 :=
  (shapeCast S1x1024x128 (extractStridedSlice S1024x128 ![0, o] z h) shapeCasts_S1024x128_S1x1024x128 : FVec F S1x1024x128 .f32)

/-- The output's block, by heads of 128 columns. -/
def byHead (z : FVec F S1024x1024 .f32) : S8x1024x128.Idx → Elt F .f32 := fun y =>
  z (ix2 (y 1 : Fin 1024) (⟨128 * (y 0).val + (y 2).val, by have h0 : (y 0).val < 8 := (y 0).isLt; have h2 : (y 2).val < 128 := (y 2).isLt; omega⟩ : Fin 1024))

def outv (x : S1024x4096.Idx → Elt F .bf16) (w : S4096x1024.Idx → Elt F .bf16) : S8x1024x128.Idx → Elt F .f32 := byHead (prod x w)

theorem headv_at (z : FVec F S1024x1024 .f32) (o : ℕ) (h : S1024x1024.Slices ![0, o] S1024x128) (ho : o + 128 ≤ 1024) (a : Fin 1) (r : Fin 1024) (q : Fin 128) :
    headv z o h (ix3 a r q) = z (ix2 r (⟨o + q.val, by omega⟩ : Fin 1024)) := by
  unfold headv
  refine (ValueIdx.shapeCast_ab_1ab_apply _ _ _ _ _).trans ?_
  refine congrArg z ?_
  funext b
  refine Fin.ext ?_
  fin_cases b
  · show 0 + r.val = r.val; omega
  · rfl

/-- The eight heads, as the body stores them. -/
def pieces (z : FVec F S1024x1024 .f32) : List (View.Piece (Elt F) S8x1024x128 .f32) :=
   [⟨Rect.unit (s := S8x1024x128) ![7, 0, 0] S1x1024x128.size inb_S8x1024x128_S1x1024x128_7_0_0, headv z 896 slices_S1024x1024_o0_896_S1024x128⟩,
    ⟨Rect.unit (s := S8x1024x128) ![6, 0, 0] S1x1024x128.size inb_S8x1024x128_S1x1024x128_6_0_0, headv z 768 slices_S1024x1024_o0_768_S1024x128⟩,
    ⟨Rect.unit (s := S8x1024x128) ![5, 0, 0] S1x1024x128.size inb_S8x1024x128_S1x1024x128_5_0_0, headv z 640 slices_S1024x1024_o0_640_S1024x128⟩,
    ⟨Rect.unit (s := S8x1024x128) ![4, 0, 0] S1x1024x128.size inb_S8x1024x128_S1x1024x128_4_0_0, headv z 512 slices_S1024x1024_o0_512_S1024x128⟩,
    ⟨Rect.unit (s := S8x1024x128) ![3, 0, 0] S1x1024x128.size inb_S8x1024x128_S1x1024x128_3_0_0, headv z 384 slices_S1024x1024_o0_384_S1024x128⟩,
    ⟨Rect.unit (s := S8x1024x128) ![2, 0, 0] S1x1024x128.size inb_S8x1024x128_S1x1024x128_2_0_0, headv z 256 slices_S1024x1024_o0_256_S1024x128⟩,
    ⟨Rect.unit (s := S8x1024x128) ![1, 0, 0] S1x1024x128.size inb_S8x1024x128_S1x1024x128_1_0_0, headv z 128 slices_S1024x1024_o0_128_S1024x128⟩,
    ⟨Rect.unit (s := S8x1024x128) ![0, 0, 0] S1x1024x128.size inb_S8x1024x128_S1x1024x128_0_0_0, headv z 0 slices_S1024x1024_o0_0_S1024x128⟩]

/-- A column block in flight to its scratch. -/
abbrev fly (c : Dev nD) (off : Fin 3 → ℕ) (h : ∀ a, off a + S1x4096x1024.size a ≤ S2x4096x16384.size a)
    (f : (⟨S2x4096x16384, .f32⟩ : BufTy).Contents (Elt F)) : sProp 𝕄 :=
  Transfers.Flight (countersEmb (U := Pipeline.UD sig nD τ)) c.tc (SemLoc.dma 4) () 524288
    iprop((sM.view.loc c.tc ↦[sM.view.set]{fullShare} colV off h f)
      ∗ ((colM off h).view.loc c.tc ↦[(colM off h).view.set]{fullShare} f))

/-- The rest of the weights, meanwhile. -/
abbrev rest (c : Dev nD) (off : Fin 3 → ℕ) (h : ∀ a, off a + S1x4096x1024.size a ≤ S2x4096x16384.size a)
    (f : (⟨S2x4096x16384, .f32⟩ : BufTy).Contents (Elt F)) : sProp 𝕄 :=
  (wM.view.loc c.tc ↦[Finset.univ \ (colM off h).view.set]{fullShare} f)

/-- The weights whole, whichever view names them. -/
theorem whole_back (c : Dev nD) (off : Fin 3 → ℕ) (h : ∀ a, off a + S1x4096x1024.size a ≤ S2x4096x16384.size a)
    (f : (⟨S2x4096x16384, .f32⟩ : BufTy).Contents (Elt F)) :
    ((colM off h).view.loc c.tc ↦{fullShare} f : sProp 𝕄) ⊢ (wM.view.loc c.tc ↦{fullShare} f) := .rfl

/-- A buffer's contents after it is overwritten whole. -/
theorem fetched_eq (g w : S4096x1024.Idx → Elt F .f32) (L : List (View.Piece (Elt F) S4096x1024 .f32)) :
    sM.view.writes (Elt F) g (⟨Rect.whole S4096x1024, w⟩ :: L) = w := by
  have h : sM.view.read (Elt F) (sM.view.writes (Elt F) g (⟨Rect.whole S4096x1024, w⟩ :: L)) = w := by
    funext y
    have h := View.read_writes_cons_emb sM.view g (Rect.whole S4096x1024) w L y
    rwa [Rect.emb_whole_apply] at h
  generalize sM.view.writes (Elt F) g (⟨Rect.whole S4096x1024, w⟩ :: L) = z at h
  exact h

/-- A flight the executor starts, as the invariant names it. -/
theorem fly_of (c : Dev nD) (off : Fin 3 → ℕ) (h : ∀ a, off a + S1x4096x1024.size a ≤ S2x4096x16384.size a)
    (f : (⟨S2x4096x16384, .f32⟩ : BufTy).Contents (Elt F)) (g w : S4096x1024.Idx → Elt F .f32) (L : List (View.Piece (Elt F) S4096x1024 .f32)) (hw : w = colV off h f) :
    (Transfers.Flight (countersEmb (U := Pipeline.UD sig nD τ)) c.tc (SemLoc.dma ⟨4, by decide⟩) (default : Unit) 524288
    iprop((sM.view.loc c.tc ↦[sM.view.set]{fullShare} sM.view.writes (Elt F) g (⟨Rect.whole S4096x1024, w⟩ :: L))
      ∗ (wM.view.loc c.tc ↦[(colM off h).view.set]{fullShare} f)) : sProp 𝕄) ⊢ fly c off h f := by
  unfold fly

  rw [fetched_eq, hw]
  exact .rfl

/-- A buffer loaded whole after it is fetched whole. -/
theorem first_load [∀ e, Nonempty (Elt F e)] (w : S4096x1024.Idx → Elt F .f32) (inb : ∀ a, (![0, 0] : Fin 2 → ℕ) a + S4096x1024.size a ≤ S4096x1024.size a) :
    sM.view.readCov [⟨Rect.whole S4096x1024, w⟩] (Rect.unit ![0, 0] S4096x1024.size inb).toLoadRect = w :=
  (View.readAt_full sM.view _ inb).trans (View.read_writes_whole sM.view _ w)

/-- A buffer stored whole. -/
theorem stored {S : Shape} {e : EltTy} (c : Dev nD) (M : Memref sig .tc .vmem S e) (D : M.view.ty.Contents (Elt F)) (off : Fin S.rank → ℕ)
    (inb : ∀ a, off a + S.size a ≤ S.size a) (w w' : S.Idx → Elt F e) (h : w = w') :
    (M.view.loc c.tc ↦[M.view.set]{fullShare} M.view.writes (Elt F) D [⟨Rect.unit off S.size inb, w⟩] : sProp 𝕄)
      ⊢ iprop(∃ f, ⌜M.view.read (Elt F) f = w'⌝ ∗ (M.view.loc c.tc ↦[M.view.set]{fullShare} f)) := by
  iintro H
  iexists _
  isplitr
  · ipureintro; exact (View.read_writes_full M.view D inb w []).trans h
  · iexact H

theorem piece_fits (z : FVec F S1024x1024 .f32) (h : Fin 8) (o : ℕ) (ho : o = 128 * h.val) (hs : S1024x1024.Slices ![0, o] S1024x128)
    (inb : ∀ a, (![h.val, 0, 0] : Fin 3 → ℕ) a + S1x1024x128.size a ≤ S8x1024x128.size a) (x : S1x1024x128.Idx) :
    headv z o hs x = byHead z ((Rect.unit (s := S8x1024x128) ![h.val, 0, 0] S1x1024x128.size inb).emb x) := by
  subst ho
  obtain ⟨a, r, q, rfl⟩ : ∃ (a : Fin 1) (r : Fin 1024) (q : Fin 128), x = ix3 a r q := ⟨x 0, x 1, x 2, by funext b; fin_cases b <;> rfl⟩
  rw [headv_at z _ hs (by omega)]
  unfold byHead
  refine congrArg z ?_
  funext b
  refine Fin.ext ?_
  fin_cases b
  · show r.val = 0 + 1 * r.val; omega
  · show 128 * h.val + q.val = 128 * (h.val + 1 * a.val) + (0 + 1 * q.val); omega

theorem read_pieces (M : Memref sig .tc .vmem S8x1024x128 .f32) (D : M.view.ty.Contents (Elt F)) (z : FVec F S1024x1024 .f32) :
    M.view.read (Elt F) (M.view.writes (Elt F) D (pieces z)) = byHead z := by
  funext y
  refine View.read_writes_apply_of_pieces M.view D (byHead z) (pieces z) ?_ y ?_
  · intro p hp x
    unfold pieces at hp
    simp only [List.mem_cons, List.not_mem_nil, _root_.or_false] at hp
    rcases hp with rfl | rfl | rfl | rfl | rfl | rfl | rfl | rfl
    · exact piece_fits z 7 896 rfl slices_S1024x1024_o0_896_S1024x128 inb_S8x1024x128_S1x1024x128_7_0_0 x
    · exact piece_fits z 6 768 rfl slices_S1024x1024_o0_768_S1024x128 inb_S8x1024x128_S1x1024x128_6_0_0 x
    · exact piece_fits z 5 640 rfl slices_S1024x1024_o0_640_S1024x128 inb_S8x1024x128_S1x1024x128_5_0_0 x
    · exact piece_fits z 4 512 rfl slices_S1024x1024_o0_512_S1024x128 inb_S8x1024x128_S1x1024x128_4_0_0 x
    · exact piece_fits z 3 384 rfl slices_S1024x1024_o0_384_S1024x128 inb_S8x1024x128_S1x1024x128_3_0_0 x
    · exact piece_fits z 2 256 rfl slices_S1024x1024_o0_256_S1024x128 inb_S8x1024x128_S1x1024x128_2_0_0 x
    · exact piece_fits z 1 128 rfl slices_S1024x1024_o0_128_S1024x128 inb_S8x1024x128_S1x1024x128_1_0_0 x
    · exact piece_fits z 0 0 rfl slices_S1024x1024_o0_0_S1024x128 inb_S8x1024x128_S1x1024x128_0_0_0 x
  · have hin : ∀ (h : Fin 8) (inb : ∀ a, (![h.val, 0, 0] : Fin 3 → ℕ) a + S1x1024x128.size a ≤ S8x1024x128.size a), (y 0).val = h.val →
        y ∈ (Rect.unit (s := S8x1024x128) ![h.val, 0, 0] S1x1024x128.size inb).set := by
      intro h inb e
      have h1 : (y 1).val < 1024 := (y 1).isLt
      have h2 : (y 2).val < 128 := (y 2).isLt
      refine (Rect.mem_set_unit).2 fun a => ?_
      fin_cases a
      · show h.val ≤ (y 0).val ∧ (y 0).val < h.val + 1; omega
      · show 0 ≤ (y 1).val ∧ (y 1).val < 0 + 1024; omega
      · show 0 ≤ (y 2).val ∧ (y 2).val < 0 + 128; omega
    have h0 : (y 0).val < 8 := (y 0).isLt
    unfold pieces
    simp only [List.mem_cons, List.not_mem_nil, _root_.or_false, exists_eq_or_imp, exists_eq_left]
    obtain h | h | h | h | h | h | h | h : (y 0).val = 0 ∨ (y 0).val = 1 ∨ (y 0).val = 2 ∨ (y 0).val = 3 ∨ (y 0).val = 4 ∨ (y 0).val = 5 ∨ (y 0).val = 6 ∨ (y 0).val = 7 := by omega
    · exact Or.inr (Or.inr (Or.inr (Or.inr (Or.inr (Or.inr (Or.inr ((hin 0 inb_S8x1024x128_S1x1024x128_0_0_0 h))))))))
    · exact Or.inr (Or.inr (Or.inr (Or.inr (Or.inr (Or.inr (Or.inl (hin 1 inb_S8x1024x128_S1x1024x128_1_0_0 h)))))))
    · exact Or.inr (Or.inr (Or.inr (Or.inr (Or.inr (Or.inl (hin 2 inb_S8x1024x128_S1x1024x128_2_0_0 h))))))
    · exact Or.inr (Or.inr (Or.inr (Or.inr (Or.inl (hin 3 inb_S8x1024x128_S1x1024x128_3_0_0 h)))))
    · exact Or.inr (Or.inr (Or.inr (Or.inl (hin 4 inb_S8x1024x128_S1x1024x128_4_0_0 h))))
    · exact Or.inr (Or.inr (Or.inl (hin 5 inb_S8x1024x128_S1x1024x128_5_0_0 h)))
    · exact Or.inr (Or.inl (hin 6 inb_S8x1024x128_S1x1024x128_6_0_0 h))
    · exact Or.inl (hin 7 inb_S8x1024x128_S1x1024x128_7_0_0 h)

/-- The output's buffer after the eight stores. -/
theorem stored8 (c : Dev nD) (M : Memref sig .tc .vmem S8x1024x128 .f32) (D : M.view.ty.Contents (Elt F)) (z z' : FVec F S1024x1024 .f32) (h : z = z') :
    (M.view.loc c.tc ↦[M.view.set]{fullShare} M.view.writes (Elt F) D (pieces z) : sProp 𝕄)
      ⊢ iprop(∃ f, ⌜M.view.read (Elt F) f = byHead z'⌝ ∗ (M.view.loc c.tc ↦[M.view.set]{fullShare} f)) := by
  subst h
  iintro H
  iexists _
  isplitr
  · ipureintro; exact read_pieces M D z
  · iexact H

theorem inbB : ∀ a, (![0, 0] : Fin 2 → ℕ) a + S4096x1024.size a ≤ S4096x1024.size a := by decide

variable (c : Dev nD) (i : grid0.Coords) (arg2 : Memref sig .tc .vmem S1024x4096 .bf16) (harg2 : arg2.IsWhole)
  (arg4 : Memref sig .tc .vmem S8x1024x128 .f32) (harg4 : arg4.IsWhole)

abbrev body : Prog (TpuEff nD τ sig (Elt F) Λ₀ .tc) PUnit :=
  cc0_matmul_cast i arg2 harg2 wM (Memref.isWhole_whole _) arg4 harg4 sM (Memref.isWhole_whole _) bM (Memref.isWhole_whole _) cc0_scratch2

/-- A later row block: the column block is already narrowed. -/
theorem mid_run (h1 : ¬ k0_cond1 i = 1#1) (x : S1024x4096.Idx → Elt F .bf16) (w : S4096x1024.Idx → Elt F .bf16)
    (K : PUnit → sProp 𝕄) :
    iprop(owns c.tc arg2 fullShare x ∗ owns c.tc bM fullShare w ∗ (∃ d, owns c.tc arg4 fullShare d)
      ∗ ((owns c.tc arg2 fullShare x ∗ owns c.tc bM fullShare w ∗ owns c.tc arg4 fullShare (outv x w)) -∗ K ⟨⟩))
    ⊢ wp frame (wpE (defs₀ (F := F)) Variants.none c.tc none) Set.univ (body i arg2 harg2 arg4 harg4) K := by
  unfold body cc0_matmul_cast k0_part1
  rw [dif_neg h1]
  unfold owns
  iintro ⟨⟨%X, %eX, HX⟩, ⟨%B, %eB, HB⟩, ⟨%d, %D, -, HD⟩, Hk⟩
  sl_exec
  have e : mid_run.sl.v5 c arg2 X B = prod x w :=
    congrArg₂ (prod (F := F)) ((View.readAt_full arg2.view X _).trans eX) ((View.readAt_full bM.view B _).trans eB)
  sl_step
  iapply Hk
  isplitl [HX]
  · iexists X; isplitr; · ipureintro; exact eX
    iexact HX
  isplitl [HB]
  · iexists B; isplitr; · ipureintro; exact eB
    iexact HB
  iapply (stored8 c arg4 D _ _ e)
  iexact HD

theorem inb0 : ∀ a, (![0, 0, 0] : Fin 3 → ℕ) a + S1x4096x1024.size a ≤ S2x4096x16384.size a := by decide

/-- A later column block: the flight is awaited, narrowed, and the next one started. -/
theorem next_run (h1 : k0_cond1 i = 1#1) (h2 : ¬ k0_cond2 i = 1#1) (h3 : k0_cond3 i = 1#1) (x : S1024x4096.Idx → Elt F .bf16) (off h f)
    (W : Waits sig Unit) (K : PUnit → sProp 𝕄) :
    iprop(owns c.tc arg2 fullShare x ∗ (∃ w, owns c.tc bM fullShare w) ∗ (∃ d, owns c.tc arg4 fullShare d)
      ∗ fly c off h f ∗ rest c off h f ∗ owes c.tc 0 W
      ∗ ((owns c.tc arg2 fullShare x ∗ owns c.tc bM fullShare (narrow (colV off h f)) ∗ owns c.tc arg4 fullShare (outv x (narrow (colV off h f)))
        ∗ fly c (k0_off2 i) (Facts₀.k0_off2_inb i h1 h3) f ∗ rest c (k0_off2 i) (Facts₀.k0_off2_inb i h1 h3) f ∗ (∃ W', owes c.tc 0 W')) -∗ K ⟨⟩))
    ⊢ wp frame (wpE (defs₀ (F := F)) Variants.none c.tc none) Set.univ (body i arg2 harg2 arg4 harg4) K := by
  unfold body cc0_matmul_cast k0_part1
  rw [dif_pos h1, dif_neg h2, dif_pos h3]
  unfold owns fly rest
  iintro ⟨⟨%X, %eX, HX⟩, ⟨%wd, %B, -, HB⟩, ⟨%d, %D, -, HD⟩, HF, HR, HW, Hk⟩
  sl_exec
  ihave HR := (whole_back c off h f) $$ HR
  sl_exec
  have e1 : next_run.sl.v49 off h f = narrow (colV off h f) := by
    delta next_run.sl.v49 next_run.sl.v46
    exact congrArg (narrow (F := F)) (View.readAt_full sM.view (colV off h f) _)
  have e2 : next_run.sl.v4 c off h f = narrow (colV off h f) := by
    exact (View.readCov_full bM.view _ _ _ _).trans e1
  have e : next_run.sl.v5 c arg2 off h f X = prod x (narrow (colV off h f)) :=
    congrArg₂ (prod (F := F)) ((View.readAt_full arg2.view X _).trans eX) e2
  sl_step
  ihave HF := (fly_of c (k0_off2 i) (Facts₀.k0_off2_inb i h1 h3) f (colV off h f) (next_run.sl.dma0 i h1 h3 f) [] rfl) $$ HF
  iapply Hk
  isplitl [HX]
  · iexists X; isplitr; · ipureintro; exact eX
    iexact HX
  isplitl [HB]
  · iapply (stored c bM B ![0, 0] inbB _ _ e1)
    iexact HB
  isplitl [HD]
  · iapply (stored8 c arg4 D _ _ e)
    iexact HD
  iframe HF HR
  iexists _; iexact HW

/-- The last column block: the flight is awaited and narrowed. -/
theorem last_run (h1 : k0_cond1 i = 1#1) (h2 : ¬ k0_cond2 i = 1#1) (h3 : ¬ k0_cond3 i = 1#1) (x : S1024x4096.Idx → Elt F .bf16) (off h f)
    (W : Waits sig Unit) (K : PUnit → sProp 𝕄) :
    iprop(owns c.tc arg2 fullShare x ∗ (∃ w, owns c.tc bM fullShare w) ∗ (∃ d, owns c.tc arg4 fullShare d)
      ∗ fly c off h f ∗ rest c off h f ∗ owes c.tc 0 W
      ∗ ((owns c.tc arg2 fullShare x ∗ owns c.tc bM fullShare (narrow (colV off h f)) ∗ owns c.tc arg4 fullShare (outv x (narrow (colV off h f)))
        ∗ semVal (c.tc, SemLoc.dma 4) 0 ∗ (sM.view.loc c.tc ↦[sM.view.set]{fullShare} colV off h f) ∗ (wM.view.loc c.tc ↦{fullShare} f) ∗ (∃ W', owes c.tc 0 W')) -∗ K ⟨⟩))
    ⊢ wp frame (wpE (defs₀ (F := F)) Variants.none c.tc none) Set.univ (body i arg2 harg2 arg4 harg4) K := by
  unfold body cc0_matmul_cast k0_part1
  rw [dif_pos h1, dif_neg h2, dif_neg h3]
  unfold owns fly rest
  iintro ⟨⟨%X, %eX, HX⟩, ⟨%wd, %B, -, HB⟩, ⟨%d, %D, -, HD⟩, HF, HR, HW, Hk⟩
  sl_exec
  ihave HR := (whole_back c off h f) $$ HR
  sl_exec
  have e1 : last_run.sl.v49 off h f = narrow (colV off h f) := by
    delta last_run.sl.v49 last_run.sl.v46
    exact congrArg (narrow (F := F)) (View.readAt_full sM.view (colV off h f) _)
  have e2 : last_run.sl.v4 c off h f = narrow (colV off h f) := by
    exact (View.readCov_full bM.view _ _ _ _).trans e1
  have e : last_run.sl.v5 c arg2 off h f X = prod x (narrow (colV off h f)) :=
    congrArg₂ (prod (F := F)) ((View.readAt_full arg2.view X _).trans eX) e2
  sl_step
  iapply Hk
  isplitl [HX]
  · iexists X; isplitr; · ipureintro; exact eX
    iexact HX
  isplitl [HB]
  · iapply (stored c bM B ![0, 0] inbB _ _ e1)
    iexact HB
  isplitl [HD]
  · iapply (stored8 c arg4 D _ _ e)
    iexact HD
  iframe HF HF_dst HR
  iexists _; iexact HW

/-- The first point: the first column block is fetched, narrowed, and the second one's flight started. -/
theorem first_run (h1 : k0_cond1 i = 1#1) (h2 : k0_cond2 i = 1#1) (h3 : k0_cond3 i = 1#1) (x : S1024x4096.Idx → Elt F .bf16)
    (f : (⟨S2x4096x16384, .f32⟩ : BufTy).Contents (Elt F))
    (g : S4096x1024.Idx → Elt F .f32) (W : Waits sig Unit) (K : PUnit → sProp 𝕄) :
    iprop(owns c.tc arg2 fullShare x ∗ (∃ w, owns c.tc bM fullShare w) ∗ (∃ d, owns c.tc arg4 fullShare d)
      ∗ semVal (c.tc, SemLoc.dma 4) 0 ∗ (sM.view.loc c.tc ↦[sM.view.set]{fullShare} g) ∗ (wM.view.loc c.tc ↦{fullShare} f) ∗ owes c.tc 0 W
      ∗ ((owns c.tc arg2 fullShare x ∗ owns c.tc bM fullShare (narrow (colV ![0, 0, 0] inb0 f)) ∗ owns c.tc arg4 fullShare (outv x (narrow (colV ![0, 0, 0] inb0 f)))
        ∗ fly c (k0_off2 i) (Facts₀.k0_off2_inb i h1 h3) f ∗ rest c (k0_off2 i) (Facts₀.k0_off2_inb i h1 h3) f ∗ (∃ W', owes c.tc 0 W')) -∗ K ⟨⟩))
    ⊢ wp frame (wpE (defs₀ (F := F)) Variants.none c.tc none) Set.univ (body i arg2 harg2 arg4 harg4) K := by
  unfold body cc0_matmul_cast k0_part1
  rw [dif_pos h1, dif_pos h2, dif_pos h3]
  unfold owns fly rest
  iintro ⟨⟨%X, %eX, HX⟩, ⟨%wd, %B, -, HB⟩, ⟨%d, %D, -, HD⟩, HF, HS, HR, HW, Hk⟩
  sl_exec
  have e1 : first_run.sl.v49 f = narrow (colV ![0, 0, 0] inb0 f) := by
    delta first_run.sl.v49 first_run.sl.v46
    refine congrArg (narrow (F := F)) ?_
    delta first_run.sl.v45
    exact (first_load _ _).trans rfl
  have e2 : first_run.sl.v4 c f = narrow (colV ![0, 0, 0] inb0 f) := by
    exact (View.readCov_full bM.view _ _ _ _).trans e1
  have e : first_run.sl.v5 c arg2 f X = prod x (narrow (colV ![0, 0, 0] inb0 f)) :=
    congrArg₂ (prod (F := F)) ((View.readAt_full arg2.view X _).trans eX) e2
  sl_step
  ihave HF := (fly_of c (k0_off2 i) (Facts₀.k0_off2_inb i h1 h3) f g (first_run.sl.dma3 i h1 h3 f) [⟨Rect.whole S4096x1024, first_run.sl.dma0 f⟩] rfl) $$ HF
  iapply Hk
  isplitl [HX]
  · iexists X; isplitr; · ipureintro; exact eX
    iexact HX
  isplitl [HB]
  · iapply (stored c bM B ![0, 0] inbB _ _ e1)
    iexact HB
  isplitl [HD]
  · iapply (stored8 c arg4 D _ _ e)
    iexact HD
  iframe HF HR
  iexists _; iexact HW

end Cert.Kernel4Ideal.Pin

end
-- ==== Proof.PinLaunch.lean ====
/-
  The dilated mixer's projection, by heads: what holds between points, the body at every point, the run of the program.
-/
module

public import proofs.«01_k».proof.Proof.PinBody
public import Idealize.ShloMosaic.Adequacy
public import Idealize.ShloMosaic.Init

@[expose] public section

set_option maxRecDepth 16384

noncomputable section

namespace Cert.Kernel4Ideal.Pin

open Cert.Kernel4Ideal Cert.Kernel4Ideal.Gen
open Idealize.ShloMosaic.Pipeline (Dat BodyObligation)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A column block's place in the weights. -/
def offs (j : ℕ) : Fin 3 → ℕ := ![0, 0, 1024 * j]

theorem offs_inb {j : ℕ} (h : j < 16) : ∀ a, offs j a + S1x4096x1024.size a ≤ S2x4096x16384.size a := by
  intro a
  fin_cases a
  · show 0 + 1 ≤ 2; omega
  · show 0 + 4096 ≤ 4096; omega
  · show 1024 * j + 1024 ≤ 16384; omega

/-- Column block `j`, narrowed. -/
def wblk (f : (⟨S2x4096x16384, .f32⟩ : BufTy).Contents (Elt F)) (j : Fin 16) : S4096x1024.Idx → Elt F .bf16 :=
  narrow (colV (offs j.val) (offs_inb j.isLt) f)

theorem wblk_of (f : (⟨S2x4096x16384, .f32⟩ : BufTy).Contents (Elt F)) (j : Fin 16) (off h) (e : off = offs j.val) :
    narrow (colV off h f) = wblk f j := by
  subst e; rfl

/-- The column block of a point. -/
def jn (n : ℕ) : Fin 16 := ⟨n / 16 % 16, by omega⟩

/-- No flight: the counter at zero, the scratch at anything, the weights whole. -/
def still (c : Dev nD) (f : (⟨S2x4096x16384, .f32⟩ : BufTy).Contents (Elt F)) : sProp 𝕄 :=
  iprop(semVal (c.tc, SemLoc.dma 4) 0 ∗ (∃ g, (sM.view.loc c.tc ↦[sM.view.set]{fullShare} g))
    ∗ (wM.view.loc c.tc ↦{fullShare} f))

/-- Column block `j` in flight, if there is one. -/
def flying (c : Dev nD) (j : ℕ) (f : (⟨S2x4096x16384, .f32⟩ : BufTy).Contents (Elt F)) : sProp 𝕄 :=
  if h : j < 16 then iprop(fly c (offs j) (offs_inb h) f ∗ rest c (offs j) (offs_inb h) f) else still c f

/-- The transfers before point `n`. -/
def state (c : Dev nD) (n : ℕ) (f : (⟨S2x4096x16384, .f32⟩ : BufTy).Contents (Elt F)) : sProp 𝕄 :=
  if n = 0 then still c f else flying c ((n - 1) / 16 + 1) f

theorem state_zero (c : Dev nD) {n : ℕ} (h : n = 0) (f : (⟨S2x4096x16384, .f32⟩ : BufTy).Contents (Elt F)) :
    (state c n f : sProp 𝕄) = still c f := if_pos h

theorem state_pos (c : Dev nD) {n j : ℕ} (h : n ≠ 0) (e : (n - 1) / 16 + 1 = j) (f : (⟨S2x4096x16384, .f32⟩ : BufTy).Contents (Elt F)) :
    (state c n f : sProp 𝕄) = flying c j f := by subst e; exact if_neg h

theorem flying_eq (c : Dev nD) {j : ℕ} (hj : j < 16) (f : (⟨S2x4096x16384, .f32⟩ : BufTy).Contents (Elt F)) :
    (flying c j f : sProp 𝕄) = iprop(fly c (offs j) (offs_inb hj) f ∗ rest c (offs j) (offs_inb hj) f) := dif_pos hj

theorem flying_end (c : Dev nD) {j : ℕ} (hj : ¬ j < 16) (f : (⟨S2x4096x16384, .f32⟩ : BufTy).Contents (Elt F)) :
    (flying c j f : sProp 𝕄) = still c f := dif_neg hj

theorem flying_of (c : Dev nD) {j : ℕ} (hj : j < 16) (f : (⟨S2x4096x16384, .f32⟩ : BufTy).Contents (Elt F)) (off h) (e : off = offs j) :
    (iprop(fly c off h f ∗ rest c off h f) : sProp 𝕄) ⊢ flying c j f := by
  subst e
  unfold flying
  rw [dif_pos hj]

/-- Between points: the column block narrowed once its first row block has run, the transfers, the generator. -/
def Φc (c : Dev nD) (n : ℕ) : sProp 𝕄 :=
  iprop((∃ w, ⌜n % 16 ≠ 0 → w = wblk (V m c main_arg1) (jn n)⌝ ∗ owns c.tc bM fullShare w)
    ∗ state c n (V m c main_arg1) ∗ ∃ r, prngReg c r)

/-- The block of the output a point leaves. -/
def outBlk (c : Dev nD) (t : Fin cfg0.N) : S8x1024x128.Idx → Elt F .f32 := outv (iblk m c 0 t) (wblk (V m c main_arg1) (jn t.val))

/-- The data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outBlk m c t
  Φ t := Φc m c t.val
  q _ := fullShare
  owed _ := 0

theorem is1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem is2 : ∀ t : Fin cfg0.N, k0_cond2 (grid0.coords t) = 1#1 ↔ t.val / 16 = 0 :=
  (by decide +kernel : ∀ t : Fin grid0.N, k0_cond2 (grid0.coords t) = 1#1 ↔ t.val / 16 = 0)
theorem is3 : ∀ t : Fin cfg0.N, k0_cond3 (grid0.coords t) = 1#1 ↔ t.val / 16 + 1 < 16 :=
  (by decide +kernel : ∀ t : Fin grid0.N, k0_cond3 (grid0.coords t) = 1#1 ↔ t.val / 16 + 1 < 16)
theorem coord0 : ∀ t : Fin cfg0.N, (grid0.coords t 0).val = t.val / 16 :=
  (by decide +kernel : ∀ t : Fin grid0.N, (grid0.coords t 0).val = t.val / 16)

theorem off2 (t : Fin cfg0.N) : k0_off2 (grid0.coords t) = offs (t.val / 16 + 1) := by
  rw [k0_off2_eq, coord0 t]; unfold offs
  funext a
  fin_cases a
  · rfl
  · rfl
  · show 1024 * (t.val / 16) + 1024 = 1024 * (t.val / 16 + 1); omega

theorem defs₀_row (t : Fin cfg0.N) : (defs₀ (F := F)) .tc cfg0.body (cfg0.bodyArgs t (cfg0.slots t)) = bodyAt0 t := by
  unfold defs₀; rw [Defs.onTc_tc]

/-- The body at a point, from the buffers to the buffers. -/
theorem step (c : Dev nD) (t : Fin cfg0.N) (W : Waits sig Unit) (K : PUnit → sProp 𝕄) :
    iprop(Φc m c t.val ∗ owes c.tc 0 W ∗ owns c.tc (win0_0.stage (cfg0.slots t 0)) fullShare (iblk m c 0 t)
      ∗ (∃ d, owns c.tc (win0_1.stage (cfg0.slots t 1)) fullShare d)
      ∗ ((Φc m c (t.val + 1) ∗ (∃ W', owes c.tc 0 W') ∗ owns c.tc (win0_0.stage (cfg0.slots t 0)) fullShare (iblk m c 0 t)
        ∗ owns c.tc (win0_1.stage (cfg0.slots t 1)) fullShare (outBlk m c t)) -∗ K ⟨⟩))
    ⊢ wp frame (wpE (defs₀ (F := F)) Variants.none c.tc none) Set.univ (bodyAt0 t) K := by
  have ht : t.val < 256 := t.isLt
  unfold Φc outBlk
  by_cases h1 : t.val % 16 = 0
  · by_cases h2 : t.val / 16 = 0
    · have h0 : t.val = 0 := by omega
      have R := fun g => (first_run c (grid0.coords t) _ (hstage0_0 ((cfg0.slots t 0).cast nbuf0_0)) _ (hstage0_1 ((cfg0.slots t 1).cast nbuf0_1)) ((is1 t).2 h1) ((is2 t).2 h2) ((is3 t).2 (by omega)) (iblk m c 0 t) (V m c main_arg1) g W K)
      rw [wblk_of (V m c main_arg1) (jn t.val) ![0, 0, 0] inb0 (by rw [h0]; rfl)] at R
      rw [state_zero c h0, state_pos c (Nat.succ_ne_zero _) (show (t.val + 1 - 1) / 16 + 1 = t.val / 16 + 1 from rfl)]
      unfold still
      iintro ⟨⟨⟨%w, %hw, HB⟩, ⟨HQ, ⟨%g, HS⟩, HR⟩, Hg⟩, HW, HX, HD, Hk⟩
      iapply (R g)
      iframe HX
      isplitl [HB]; · iexists w; iexact HB
      iframe HD HQ HS HR HW
      iintro ⟨HX, HB, HD, HF, HR, HW⟩
      iapply Hk
      isplitl [HB HF HR Hg]
      · isplitl [HB]
        · iexists _; isplitr; swap; · iexact HB
          ipureintro; intro _; rw [h0]; rfl
        isplitl [HF HR]
        · iapply (flying_of c (j := t.val / 16 + 1) (by omega) (V m c main_arg1) _ _ (off2 t))
          iframe HF
          iexact HR
        iexact Hg
      iframe HW HX
      iexact HD
    · have hn : t.val ≠ 0 := by omega
      have hj : t.val / 16 < 16 := by omega
      have hw0 : narrow (colV (offs (t.val / 16)) (offs_inb hj) (V m c main_arg1)) = wblk (V m c main_arg1) (jn t.val) :=
        wblk_of _ _ _ _ (by unfold jn; show _ = offs (t.val / 16 % 16); rw [Nat.mod_eq_of_lt hj])
      have hw1 : wblk (V m c main_arg1) (jn t.val) = wblk (V m c main_arg1) (jn (t.val + 1)) := by
        rw [show jn (t.val + 1) = jn t.val from Fin.ext (by show (t.val + 1) / 16 % 16 = t.val / 16 % 16; omega)]
      rw [state_pos c hn (show (t.val - 1) / 16 + 1 = t.val / 16 from by omega), flying_eq c hj, state_pos c (Nat.succ_ne_zero _) (show (t.val + 1 - 1) / 16 + 1 = t.val / 16 + 1 from rfl)]
      by_cases h3 : t.val / 16 + 1 < 16
      · have R := (next_run c (grid0.coords t) _ (hstage0_0 ((cfg0.slots t 0).cast nbuf0_0)) _ (hstage0_1 ((cfg0.slots t 1).cast nbuf0_1)) ((is1 t).2 h1) (fun h => h2 ((is2 t).1 h)) ((is3 t).2 h3) (iblk m c 0 t) _ (offs_inb hj) (V m c main_arg1) W K)
        rw [hw0] at R
        iintro ⟨⟨⟨%w, %hw, HB⟩, ⟨HF, HR⟩, Hg⟩, HW, HX, HD, Hk⟩
        iapply R
        iframe HX
        isplitl [HB]; · iexists w; iexact HB
        iframe HD HF HR HW
        iintro ⟨HX, HB, HD, HF, HR, HW⟩
        iapply Hk
        isplitl [HB HF HR Hg]
        · isplitl [HB]
          · iexists _; isplitr; swap; · iexact HB
            ipureintro; intro _; exact hw1
          isplitl [HF HR]
          · iapply (flying_of c (j := t.val / 16 + 1) (by omega) (V m c main_arg1) _ _ (off2 t))
            iframe HF
            iexact HR
          iexact Hg
        iframe HW HX
        iexact HD
      · rw [flying_end c h3]
        unfold still
        have R := (last_run c (grid0.coords t) _ (hstage0_0 ((cfg0.slots t 0).cast nbuf0_0)) _ (hstage0_1 ((cfg0.slots t 1).cast nbuf0_1)) ((is1 t).2 h1) (fun h => h2 ((is2 t).1 h)) (fun h => h3 ((is3 t).1 h)) (iblk m c 0 t) _ (offs_inb hj) (V m c main_arg1) W K)
        rw [hw0] at R
        iintro ⟨⟨⟨%w, %hw, HB⟩, ⟨HF, HR⟩, Hg⟩, HW, HX, HD, Hk⟩
        iapply R
        iframe HX
        isplitl [HB]; · iexists w; iexact HB
        iframe HD HF HR HW
        iintro ⟨HX, HB, HD, HQ, HS, HR, HW⟩
        iapply Hk
        isplitl [HB HQ HS HR Hg]
        · isplitl [HB]
          · iexists _; isplitr; swap; · iexact HB
            ipureintro; intro _; exact hw1
          isplitl [HQ HS HR]
          · isplitl [HQ]; · iexact HQ
            isplitl [HS]; · iexists _; iexact HS
            iexact HR
          iexact Hg
        iframe HW HX
        iexact HD
  · rw [state_pos c (show t.val ≠ 0 by omega) rfl, state_pos c (Nat.succ_ne_zero _) (show (t.val + 1 - 1) / 16 + 1 = (t.val - 1) / 16 + 1 from by omega)]
    iintro ⟨⟨⟨%w, %hw, HB⟩, HS, Hg⟩, HW, HX, HD, Hk⟩
    have hw' := hw h1
    subst hw'
    iapply (mid_run c (grid0.coords t) _ (hstage0_0 ((cfg0.slots t 0).cast nbuf0_0)) _ (hstage0_1 ((cfg0.slots t 1).cast nbuf0_1)) (fun h => h1 ((is1 t).1 h)) (iblk m c 0 t) (wblk (V m c main_arg1) (jn t.val)) K)
    iframe HX HB HD
    iintro ⟨HX, HB, HD⟩
    iapply Hk
    isplitl [HB HS Hg]
    · isplitl [HB]
      · iexists _; isplitr; swap; · iexact HB
        ipureintro; intro h
        rw [show jn (t.val + 1) = jn t.val from Fin.ext (by show (t.val + 1) / 16 % 16 = t.val / 16 % 16; omega)]
      isplitl [HS]
      · iexact HS
      iexact Hg
    isplitl [HW]; · iexists W; iexact HW
    iframe HX
    iexact HD

theorem bef0 (c : Dev nD) (t : Fin cfg0.N) (d) : (dats m 0 c).before 0 t d = iblk m c 0 t :=
  ((dats m 0 c).before_in_eq_fetched 0 rfl (fun _ => rfl) (fun _ _ _ => rfl) (fun t => by unfold Dat.blockOf; rfl) t d).trans
    (by unfold Dat.fetched Dat.blockOf; rfl)

/-- The body's triple at a point. -/
theorem sound_body (c : Dev nD) (t : Fin cfg0.N) :
    (iprop(Φc m c t.val ∗ (dats m 0 c).owesAt () t.castSucc
      ∗ (∃ d, owns c.tc (win0_0.stage (cfg0.slots t 0)) fullShare ((dats m 0 c).before 0 t d))
      ∗ (∃ d, owns c.tc (win0_1.stage (cfg0.slots t 1)) fullShare ((dats m 0 c).before 1 t d))) : sProp 𝕄)
    ⊢ wp frame (wpE (defs₀ (F := F)) Variants.none c.tc none) Set.univ (bodyAt0 t) (fun _ =>
      iprop(Φc m c (t.val + 1) ∗ (dats m 0 c).owesAt () t.succ
      ∗ owns c.tc (win0_0.stage (cfg0.slots t 0)) fullShare (iblk m c 0 t)
      ∗ owns c.tc (win0_1.stage (cfg0.slots t 1)) fullShare (outBlk m c t))) := by
  simp only [bef0]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩⟩
  iapply (step m c t W _)
  iframe HP HW H0
  isplitl [H1]; · iexists _; iexact H1
  iintro ⟨HP, ⟨%W', HW⟩, H0, H1⟩
  iframe HP
  isplitl [HW]
  · iexists W'
    isplitr
    · ipureintro; exact fun _ _ => Or.inl trivial
    iexact HW
  iframe H0
  iexact H1

/-- The library's obligation of the body. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- The kernel's own counter and the weights it addresses itself. -/
def osem : Fin 1 → SemLoc sig := fun _ => SemLoc.dma 4
theorem osem_facts : Pipeline.OwnSemFacts spec0 osem := by decide
def held : Finset (Ref sig .tc) := {main_arg1}
theorem held_sub : held ⊆ Pipeline.restRefs sig spec0 := by decide

theorem given_eq (c : Dev nD) :
    (Pipeline.ΦD osem spec0 held (V m) c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
        ∗ (∃ r, prngReg c r) ∗ semVal (c.tc, SemLoc.dma 4) 0 ∗ (((c : Thread nD τ).loc main_arg1) ↦{fullShare} V m c main_arg1)) := by
  rw [Pipeline.ΦD_eq, scopedRest0_eq, Pipeline.ownSems0_eq_of_list c osem [0] (by decide) (by decide),
    BI.bigSep_eq_bigSepL_of_eq (S := held) [main_arg1] (by decide) (by decide)]
  rfl

theorem Φ_first (c : Dev nD) : (Pipeline.ΦD osem spec0 held (V m) c : sProp 𝕄) ⊢ Φc m c 0 := by
  rw [given_eq]
  unfold Φc
  rw [state_zero c rfl]
  unfold still
  simp only [owns_whole, Memref.view_whole, View.set_whole]
  iintro ⟨⟨⟨%f, S0⟩, ⟨%g, S1⟩⟩, Hg, HQ, HR⟩
  isplitl [S1]
  · iexists g
    isplitr
    · ipureintro; intro h; exact absurd rfl h
    · iexact S1
  isplitl [S0 HQ HR]
  · isplitl [HQ]; · iexact HQ
    isplitl [S0]; · iexists f; iexact S0
    iexact HR
  iexact Hg

theorem Φ_last (c : Dev nD) : (Φc m c 256 : sProp 𝕄) ⊢ Pipeline.ΦD osem spec0 held (V m) c := by
  rw [given_eq]
  unfold Φc
  rw [state_pos c (by decide) (show (256 - 1) / 16 + 1 = 16 from rfl), flying_end c (by decide)]
  unfold still
  simp only [owns_whole, Memref.view_whole, View.set_whole]
  iintro ⟨⟨%g, -, S1⟩, ⟨HQ, ⟨%f, S0⟩, HR⟩, Hg⟩
  isplitl [S0 S1]
  · isplitl [S0]; · iexists f; iexact S0
    iexists g; iexact S1
  iframe Hg HQ
  iexact HR

theorem hmain₂ : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- The run of the whole program. -/
theorem run : θ_run defs (onTc (τ := τ) (main (F := F))) ⟨m, fun _ => 0, ρ⟩
    (fun r => Pipeline.FramePost cfgs (dats m) 0 (V m) r ∧ r.2.sem = fun _ => 0) :=
  Pipeline.θ_run_frame_dma (Q' := _) cfgs (dats m) (0 : Fin 1) launch0 osem defs₀ Variants.none osem_facts held held_sub m ρ main
    (hbody := fun c => (body_obligation m c).loose) (hshare := fun c => (dats m 0 c).share_full fun _ => rfl)
    (howed := fun _ _ => rfl) (V := V m) (hmain := hmain₂ m) (hA := fun _ _ => rfl)
    (hin := fun c => Φ_first m c) (hout := fun c => Φ_last m c)

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 0).trans (((dats m 0 c).arrAt_in 0 rfl _).trans (V_main_arg0 m c)),
      ((h.1 c).2 main_arg1 (Pipeline.mem_restRefs_of main_arg1 (by decide) (by decide))).trans (V_main_arg1 m c)⟩, h.2⟩)
    (run m ρ)

end Cert.Kernel4Ideal.Pin

end
-- ==== Proof.Frames4.lean ====
/-
  The frames of the dilated mixer's projection's three programs.
-/
module

public import proofs.«01_k».proof.Defs
public import proofs.«01_k».proof.Proof.PinLaunch
public import proofs.«01_k».proof.Proof.Gen.Kernel4
public import proofs.«01_k».proof.Proof.Gen.Reference4Ideal.Run
public import Idealize.ShloMosaic.Lib.Quiescent

@[expose] public section

noncomputable section

namespace Cert.Proof

open Idealize.ShloMosaic Idealize.ShloMosaic.TcCoe Idealize.SL.Sem

/-- The two body tables are one text. -/
theorem table_eq4 : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | ⟨0, _⟩, (t, s) => rfl

theorem defs_eq4 : Cert.Kernel4.defs (F := Bits) = Cert.Kernel4Ideal.defs (F := Bits) :=
  congrArg (Pipeline.defs Cert.Kernel4Ideal.pcfgs) table_eq4

theorem frame_p4 : Cert.quiescent_Kernel4 := fun m ρ _ => by
  have h := Cert.Kernel4Ideal.Pin.quiescent (F := Bits) m ρ
  rw [← defs_eq4] at h
  exact h

theorem frame_pi4 : Cert.quiescent_Kernel4Ideal := fun m ρ _ => Cert.Kernel4Ideal.Pin.quiescent m ρ

theorem frame_ri4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run (F := Ideal) m ρ)

theorem preserves4 : Cert.preserves_Kernel4_Kernel4Ideal := trivial

end Cert.Proof

end
-- ==== Proof.PinVal.lean ====
/-
  The dilated mixer's projection, by heads: what the kernel and the reference leave, element by element.
-/
module

public import proofs.«01_k».proof.Proof.PinLaunch
public import proofs.«01_k».proof.Proof.Gen.Reference4Ideal.Run
public import Idealize.ShloMosaic.Lib.Pointwise
public import Idealize.ShloMosaic.Lib.ValueLayout
public import Idealize.ShloMosaic.Lib.Pipeline.ValueKit
public import Idealize.ShloMosaic.Lib.Tactic.CleanTypes

@[expose] public section

set_option maxRecDepth 16384

noncomputable section

namespace Cert.Kernel4Ideal.Pin

open Cert.Kernel4Ideal Cert.Kernel4Ideal.Gen
open Idealize.ShloMosaic Idealize.ShloMosaic.TcCoe

theorem prod_at (x : FVec Ideal S1024x4096 .bf16) (w : FVec Ideal S4096x1024 .bf16) (r q : Fin 1024) :
    prod (F := Ideal) x w (ix2 r q) = (∑ k : Fin 4096, x (ix2 r k) * w (ix2 k q) : EReal) := by
  unfold prod
  pointwise

theorem outv_at (x : FVec Ideal S1024x4096 .bf16) (w : FVec Ideal S4096x1024 .bf16) (h : Fin 8) (r : Fin 1024) (q : Fin 128) :
    outv (F := Ideal) x w (ix3 h r q) = (∑ k : Fin 4096, x (ix2 r k) * w (ix2 k (⟨128 * h.val + q.val, by omega⟩ : Fin 1024)) : EReal) :=
  prod_at x w r _

theorem colV_at (f : FVec Ideal S2x4096x16384 .f32) (j : Fin 16) (k : Fin 4096) (q : Fin 1024) :
    colV (F := Ideal) (offs j.val) (offs_inb j.isLt) f (ix2 k q) = f (ix3 0 k (⟨1024 * j.val + q.val, by omega⟩ : Fin 16384)) := by
  have h : colV (F := Ideal) (offs j.val) (offs_inb j.isLt) f
      = shapeCast S4096x1024 (wM.view.readAt (Elt Ideal) (Rect.unit (s := S2x4096x16384) (offs j.val) S1x4096x1024.size (offs_inb j.isLt)).toLoadRect f)
          (by decide : S1x4096x1024.ShapeCasts S4096x1024) := rfl
  rw [h]
  refine (ValueIdx.shapeCast_1ab_ab_apply _ _ _ _).trans ?_
  refine congrArg f ?_
  funext a
  refine Fin.ext ?_
  fin_cases a
  · rfl
  · show 0 + 1 * k.val = k.val; omega
  · show 1024 * j.val + 1 * q.val = 1024 * j.val + q.val; omega

theorem wblk_at (f : FVec Ideal S2x4096x16384 .f32) (j : Fin 16) (k : Fin 4096) (q : Fin 1024) :
    wblk (F := Ideal) f j (ix2 k q) = f (ix3 0 k (⟨1024 * j.val + q.val, by omega⟩ : Fin 16384)) := by
  refine Eq.trans ?_ (colV_at f j k q)
  unfold wblk narrow
  generalize colV (F := Ideal) _ _ f = g
  rw [shapeCast_self]
  rfl

variable (m : (ℓ : Loc nD τ sig) → Buf (Elt Ideal) ℓ) (c : Dev nD)

theorem tr0 : ∀ t : Fin cfg0.N, cc0_transform_0 (grid0.coords t) = ![t.val % 16, 0] :=
  (by decide +kernel : ∀ t : Fin grid0.N, cc0_transform_0 (grid0.coords t) = ![t.val % 16, 0])
theorem tr2 : ∀ t : Fin cfg0.N, cc0_transform_2 (grid0.coords t) = ![t.val / 16, t.val % 16, 0] :=
  (by decide +kernel : ∀ t : Fin grid0.N, cc0_transform_2 (grid0.coords t) = ![t.val / 16, t.val % 16, 0])

theorem iblk0_at (t : Fin cfg0.N) (r : Fin 1024) (k : Fin 4096) :
    (iblk m c 0 t : Vec Ideal S1024x4096 .bf16) (ix2 r k)
      = (m ((c.tc : Thread nD τ).loc main_arg0) : FVec Ideal S16384x4096 .bf16) (ix2 (⟨1024 * (t.val % 16) + r.val, by omega⟩ : Fin 16384) k) := by
  show V m c main_arg0 ((win0_0.blk t).view.emb (ix2 r k)) = _
  have hv : ∀ a, ((win0_0.blk t).view.emb (ix2 r k) a).val = cc0_transform_0 (grid0.coords t) a * S1024x4096.size a + (ix2 r k a).val :=
    fun a => Pipeline.Window.rect_emb_val win0_0 t (ix2 r k) a rfl
  have e : (win0_0.blk t).view.emb (ix2 r k) = ix2 (⟨1024 * (t.val % 16) + r.val, by omega⟩ : Fin 16384) k := by
    funext a
    refine Fin.ext ((hv a).trans ?_)
    rw [tr0 t]
    fin_cases a
    · show t.val % 16 * 1024 + r.val = 1024 * (t.val % 16) + r.val; omega
    · show 0 * 4096 + k.val = k.val; omega
  rw [e, V_main_arg0]

/-- The product, by heads of 128 columns, as an array. -/
def proj (x : FVec Ideal S16384x4096 .bf16) (w : FVec Ideal S2x4096x16384 .f32) : FVec Ideal S128x16384x128 .f32 := fun i =>
  (∑ k : Fin 4096, x (ix2 (i 1 : Fin 16384) k) * w (ix3 0 k (⟨(i 0).val * 128 + (i 2).val, by
    have h0 : (i 0).val < 128 := (i 0).isLt; have h2 : (i 2).val < 128 := (i 2).isLt; omega⟩ : Fin 16384)) : EReal)

theorem arr : (dats m 0 c).arrAt 1 cfg0.N
    = proj (m ((c.tc : Thread nD τ).loc main_arg0)) (m ((c.tc : Thread nD τ).loc main_arg1)) := by
  refine (dats m 0 c).arrAt_eq_of_covers 1 (proj _ _) (by decide +kernel) fun t hf y => ?_
  blk_simp
  show outBlk m c t y = proj _ _ ((win0_1.blk t).view.emb y)
  have hv : ∀ a, ((win0_1.blk t).view.emb y a).val = cc0_transform_2 (grid0.coords t) a * S8x1024x128.size a + (y a).val :=
    fun a => Pipeline.Window.rect_emb_val win0_1 t y a rfl
  obtain ⟨h, r, q, rfl⟩ : ∃ (h : Fin 8) (r : Fin 1024) (q : Fin 128), y = ix3 h r q := ⟨y 0, y 1, y 2, by funext a; fin_cases a <;> rfl⟩
  have ht : t.val < 256 := t.isLt
  have e : (win0_1.blk t).view.emb (ix3 h r q) = ix3 (⟨8 * (t.val / 16) + h.val, by omega⟩ : Fin 128)
      (⟨1024 * (t.val % 16) + r.val, by omega⟩ : Fin 16384) q := by
    funext a
    refine Fin.ext ((hv a).trans ?_)
    rw [tr2 t]
    fin_cases a
    · show t.val / 16 * 8 + h.val = 8 * (t.val / 16) + h.val; omega
    · show t.val % 16 * 1024 + r.val = 1024 * (t.val % 16) + r.val; omega
    · show 0 * 128 + q.val = q.val; omega
  rw [e]
  unfold outBlk proj
  rw [outv_at]
  refine Finset.sum_congr rfl fun k _ => ?_
  rw [iblk0_at, wblk_at, V_main_arg1]
  refine congrArg₂ (· * ·) rfl (congrArg _ ?_)
  refine congrArg (ix3 0 k) (Fin.ext ?_)
  show 1024 * (t.val / 16 % 16) + (128 * h.val + q.val) = (8 * (t.val / 16) + h.val) * 128 + q.val
  omega

end Cert.Kernel4Ideal.Pin

namespace Cert.Reference4Ideal.Pin

open Cert.Reference4Ideal Cert.Reference4Ideal.Gen Cert.Reference4Ideal.Value
open Idealize.ShloMosaic Idealize.ShloMosaic.TcCoe

theorem res (x : FVec Ideal S16384x4096 .bf16) (w : FVec Ideal S2x4096x16384 .f32) :
    (transpose S128x16384x128 [1, 0, 2] (shapeCast _ (Host.dotGeneral dot_S16384x4096_S4096x16384_S16384x16384_1_0_0_1_n_n none (extf .f32 x bitsLt_bf16_f32) (shapeCast _ (extractStridedSlice S1x4096x16384 ![0, 0, 0] w slices_S2x4096x16384_S1x4096x16384_0_0_0) shapeCasts_S1x4096x16384_S4096x16384)) shapeCasts_S16384x16384_S16384x128x128) transposes_S16384x128x128_S128x16384x128_1_0_2 : FVec Ideal S128x16384x128 .f32)
      = Cert.Kernel4Ideal.Pin.proj x w := by
  funext i
  obtain ⟨h, r, q, rfl⟩ : ∃ (h : Fin 128) (r : Fin 16384) (q : Fin 128), i = ix3 h r q := ⟨i 0, i 1, i 2, by funext a; fin_cases a <;> rfl⟩
  unfold Cert.Kernel4Ideal.Pin.proj
  pointwise

end Cert.Reference4Ideal.Pin

end
-- ==== Proof.Algebra4.lean ====
/-
  The value claim of the projection: kernel and reference leave the same array.
-/
module

public import proofs.«01_k».proof.Defs
public import proofs.«01_k».proof.Proof.PinVal

@[expose] public section

noncomputable section

namespace Cert.Proof

open Idealize.ShloMosaic Idealize.ShloMosaic.TcCoe Idealize.SL.Sem

theorem algebraic4 : Cert.algebraic_Kernel4Ideal_Reference4Ideal := by
  intro m ρ m' ρ' _ hagree
  refine ⟨fun c => Cert.Kernel4Ideal.Pin.proj (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), ?_, ?_⟩
  · exact (θ_run Cert.Kernel4Ideal.defs _ _).mono
      (fun r h c => ⟨((h.1 c).1 1).trans (Cert.Kernel4Ideal.Pin.arr m c),
        ((h.1 c).1 0).trans (((Cert.Kernel4Ideal.Pin.dats m 0 c).arrAt_in 0 rfl _).trans (Cert.Kernel4Ideal.Gen.V_main_arg0 m c)),
        ((h.1 c).2 Cert.Kernel4Ideal.main_arg1 (Pipeline.mem_restRefs_of Cert.Kernel4Ideal.main_arg1 (by decide) (by decide))).trans
          (Cert.Kernel4Ideal.Gen.V_main_arg1 m c)⟩)
      (Cert.Kernel4Ideal.Pin.run m ρ)
  · exact (θ_run Cert.Reference4Ideal.defs _ _).mono
      (fun _ h c => ⟨(h c).1.trans ((Cert.Reference4Ideal.Pin.res _ _).trans (by rw [(hagree c).1, (hagree c).2])), (h c).2⟩)
      (Cert.Reference4Ideal.Value.run (F := Ideal) m' ρ')

end Cert.Proof

end
-- ==== Proof.PoutBody.lean ====
/-
  A mixer's output projection, added to the residual stream: the body at a grid point.
-/
module

public import proofs.«01_k».proof.Proof.Gen.Kernel5Ideal.Frame
public import Idealize.ShloMosaic.Lib.Pipeline.Routed
public import Idealize.ShloMosaic.Lib.Tactic
public import Idealize.ShloMosaic.Lib.VecWindow
public import Idealize.ShloMosaic.Lib.ValueLayout

@[expose] public section

set_option maxRecDepth 16384

noncomputable section

namespace Cert.Kernel5Ideal.Pout

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weights. -/
abbrev wM : Memref sig .tc .hbm S2x4096x4096 .f32 := Memref.whole main_arg1

/-- A column block of the weights. -/
abbrev colM (off : Fin 3 → ℕ) (h : ∀ a, off a + S1x4096x1024.size a ≤ S2x4096x4096.size a) : Memref sig .tc .hbm S4096x1024 .f32 :=
  (wM.slice (Rect.unit (s := S2x4096x4096) off S1x4096x1024.size h) (fun _ => rfl)).squeeze S4096x1024 squeezes_S1x4096x1024_S4096x1024

/-- Its elements. -/
def colV (off : Fin 3 → ℕ) (h : ∀ a, off a + S1x4096x1024.size a ≤ S2x4096x4096.size a) (f : (⟨S2x4096x4096, .f32⟩ : BufTy).Contents (Elt F)) :
    S4096x1024.Idx → Elt F .f32 := (colM off h).view.read (Elt F) f

/-- The block narrowed, as the scratch keeps it. -/
def narrow (g : S4096x1024.Idx → Elt F .f32) : S4096x1024.Idx → Elt F .bf16 :=
  shapeCast S4096x1024 (truncf .bf16 (g : FVec F S4096x1024 .f32) bitsLt_bf16_f32) shapeCasts_S4096x1024_S4096x1024

/-- The block of the output: the product added to the residual's block. -/
def outv (r : S512x1024.Idx → Elt F .f32) (x : S512x4096.Idx → Elt F .bf16) (w : S4096x1024.Idx → Elt F .bf16) : S512x1024.Idx → Elt F .f32 :=
  addf (r : FVec F S512x1024 .f32) (matmul dot_S512x4096_S4096x1024_S512x1024_1_0_0_1_n_n none (x : FVec F S512x4096 .bf16) (w : FVec F S4096x1024 .bf16) (constant S512x1024 .f32 0x00000000#32))

theorem congr3 {A B C D : Type} (f : A → B → C → D) {a a' : A} {b b' : B} {c c' : C} (ha : a = a') (hb : b = b') (hc : c = c') :
    f a b c = f a' b' c' := by subst ha hb hc; rfl

/-- The rest of the weights, while a block is in flight. -/
abbrev rest (c : Dev nD) (off : Fin 3 → ℕ) (h : ∀ a, off a + S1x4096x1024.size a ≤ S2x4096x4096.size a)
    (f : (⟨S2x4096x4096, .f32⟩ : BufTy).Contents (Elt F)) : sProp 𝕄 :=
  (wM.view.loc c.tc ↦[Finset.univ \ (colM off h).view.set]{fullShare} f)

/-- The weights whole, whichever view names them. -/
theorem whole_back (c : Dev nD) (off : Fin 3 → ℕ) (h : ∀ a, off a + S1x4096x1024.size a ≤ S2x4096x4096.size a)
    (f : (⟨S2x4096x4096, .f32⟩ : BufTy).Contents (Elt F)) :
    ((colM off h).view.loc c.tc ↦{fullShare} f : sProp 𝕄) ⊢ (wM.view.loc c.tc ↦{fullShare} f) := .rfl

/-- A buffer stored whole. -/
theorem stored {S : Shape} {e : EltTy} (c : Dev nD) (M : Memref sig .tc .vmem S e) (D : M.view.ty.Contents (Elt F)) (off : Fin S.rank → ℕ)
    (inb : ∀ a, off a + S.size a ≤ S.size a) (w w' : S.Idx → Elt F e) (h : w = w') :
    (M.view.loc c.tc ↦[M.view.set]{fullShare} M.view.writes (Elt F) D [⟨Rect.unit off S.size inb, w⟩] : sProp 𝕄)
      ⊢ iprop(∃ f, ⌜M.view.read (Elt F) f = w'⌝ ∗ (M.view.loc c.tc ↦[M.view.set]{fullShare} f)) := by
  iintro H
  iexists _
  isplitr
  · ipureintro; exact (View.read_writes_full M.view D inb w []).trans h
  · iexact H

theorem inbO : ∀ a, (![0, 0] : Fin 2 → ℕ) a + S512x1024.size a ≤ S512x1024.size a := by decide
theorem inbB : ∀ a, (![0, 0] : Fin 2 → ℕ) a + S4096x1024.size a ≤ S4096x1024.size a := by decide

/-- The two scratch buffers: a block of the weights as fetched and as narrowed. -/
abbrev sM : Memref sig .tc .vmem S4096x1024 .f32 := Memref.whole cc0_scratch0
abbrev bM : Memref sig .tc .vmem S4096x1024 .bf16 := Memref.whole cc0_scratch1

/-- A block in flight to its scratch. -/
abbrev fly (c : Dev nD) (off : Fin 3 → ℕ) (h : ∀ a, off a + S1x4096x1024.size a ≤ S2x4096x4096.size a)
    (f : (⟨S2x4096x4096, .f32⟩ : BufTy).Contents (Elt F)) : sProp 𝕄 :=
  Transfers.Flight (countersEmb (U := Pipeline.UD sig nD τ)) c.tc (SemLoc.dma 6) () 524288
    iprop((sM.view.loc c.tc ↦[sM.view.set]{fullShare} colV off h f)
      ∗ ((colM off h).view.loc c.tc ↦[(colM off h).view.set]{fullShare} f))

/-- A buffer's contents after it is overwritten whole. -/
theorem fetched_eq (g w : S4096x1024.Idx → Elt F .f32) (L : List (View.Piece (Elt F) S4096x1024 .f32)) :
    sM.view.writes (Elt F) g (⟨Rect.whole S4096x1024, w⟩ :: L) = w := by
  have h : sM.view.read (Elt F) (sM.view.writes (Elt F) g (⟨Rect.whole S4096x1024, w⟩ :: L)) = w := by
    funext y
    have h := View.read_writes_cons_emb sM.view g (Rect.whole S4096x1024) w L y
    rwa [Rect.emb_whole_apply] at h
  generalize sM.view.writes (Elt F) g (⟨Rect.whole S4096x1024, w⟩ :: L) = z at h
  exact h

/-- A flight the executor starts, as the invariant names it. -/
theorem fly_of (c : Dev nD) (off : Fin 3 → ℕ) (h : ∀ a, off a + S1x4096x1024.size a ≤ S2x4096x4096.size a)
    (f : (⟨S2x4096x4096, .f32⟩ : BufTy).Contents (Elt F)) (g w : S4096x1024.Idx → Elt F .f32) (L : List (View.Piece (Elt F) S4096x1024 .f32)) (hw : w = colV off h f) :
    (Transfers.Flight (countersEmb (U := Pipeline.UD sig nD τ)) c.tc (SemLoc.dma ⟨6, by decide⟩) (default : Unit) 524288
    iprop((sM.view.loc c.tc ↦[sM.view.set]{fullShare} sM.view.writes (Elt F) g (⟨Rect.whole S4096x1024, w⟩ :: L))
      ∗ (wM.view.loc c.tc ↦[(colM off h).view.set]{fullShare} f)) : sProp 𝕄) ⊢ fly c off h f := by
  unfold fly
  rw [fetched_eq, hw]
  exact .rfl

/-- A buffer loaded whole after it is fetched whole. -/
theorem first_load [∀ e, Nonempty (Elt F e)] (w : S4096x1024.Idx → Elt F .f32) (inb : ∀ a, (![0, 0] : Fin 2 → ℕ) a + S4096x1024.size a ≤ S4096x1024.size a) :
    sM.view.readCov [⟨Rect.whole S4096x1024, w⟩] (Rect.unit ![0, 0] S4096x1024.size inb).toLoadRect = w :=
  (View.readAt_full sM.view _ inb).trans (View.read_writes_whole sM.view _ w)

variable (c : Dev nD) (i : grid0.Coords) (arg2 : Memref sig .tc .vmem S512x4096 .bf16) (harg2 : arg2.IsWhole)
  (arg4 : Memref sig .tc .vmem S512x1024 .f32) (harg4 : arg4.IsWhole) (arg5 : Memref sig .tc .vmem S512x1024 .f32) (harg5 : arg5.IsWhole)

abbrev body : Prog (TpuEff nD τ sig (Elt F) Λ₀ .tc) PUnit :=
  cc0_matmul_residual i arg2 harg2 wM (Memref.isWhole_whole _) arg4 harg4 arg5 harg5 sM (Memref.isWhole_whole _) bM (Memref.isWhole_whole _) cc0_scratch2

/-- A later row block: the block of the weights is already narrowed. -/
theorem mid_run (h1 : ¬ k0_cond1 i = 1#1) (x : S512x4096.Idx → Elt F .bf16) (r : S512x1024.Idx → Elt F .f32) (w : S4096x1024.Idx → Elt F .bf16)
    (K : PUnit → sProp 𝕄) :
    iprop(owns c.tc arg2 fullShare x ∗ owns c.tc arg4 fullShare r ∗ owns c.tc bM fullShare w ∗ (∃ d, owns c.tc arg5 fullShare d)
      ∗ ((owns c.tc arg2 fullShare x ∗ owns c.tc arg4 fullShare r ∗ owns c.tc bM fullShare w ∗ owns c.tc arg5 fullShare (outv r x w)) -∗ K ⟨⟩))
    ⊢ wp frame (wpE (defs₀ (F := F)) Variants.none c.tc none) Set.univ (body i arg2 harg2 arg4 harg4 arg5 harg5) K := by
  unfold body cc0_matmul_residual
  rw [dif_neg h1]
  unfold owns
  iintro ⟨⟨%X, %eX, HX⟩, ⟨%A, %eA, HA⟩, ⟨%B, %eB, HB⟩, ⟨%d, %D, -, HD⟩, Hk⟩
  sl_exec
  have e : mid_run.sl.v7 c arg2 arg4 X A B = outv r x w :=
    (congr3 (outv (F := F)) ((View.readAt_full arg4.view A _).trans eA) ((View.readAt_full arg2.view X _).trans eX) ((View.readAt_full bM.view B _).trans eB))
  sl_step
  iapply Hk
  isplitl [HX]
  · iexists X; isplitr; · ipureintro; exact eX
    iexact HX
  isplitl [HA]
  · iexists A; isplitr; · ipureintro; exact eA
    iexact HA
  isplitl [HB]
  · iexists B; isplitr; · ipureintro; exact eB
    iexact HB
  iapply (stored c arg5 D ![0, 0] inbO _ _ e)
  iexact HD

theorem inb0 : ∀ a, (![0, 0, 0] : Fin 3 → ℕ) a + S1x4096x1024.size a ≤ S2x4096x4096.size a := by decide

/-- A later column block: the flight is awaited, narrowed, and the next one started. -/
theorem next_run (h1 : k0_cond1 i = 1#1) (h2 : ¬ k0_cond2 i = 1#1) (h3 : k0_cond3 i = 1#1) (x : S512x4096.Idx → Elt F .bf16) (r : S512x1024.Idx → Elt F .f32) (off h f)
    (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ fly c off h f ∗ rest c off h f ∗ owes c.tc 0 W
      ∗ ((owns c.tc arg2 fullShare x ∗ owns c.tc arg4 fullShare r ∗ owns c.tc bM fullShare (narrow (colV off h f)) ∗ owns c.tc arg5 fullShare (outv r x (narrow (colV off h f)))
        ∗ fly c (k0_off2 i) (Facts₀.k0_off2_inb i h1 h3) f ∗ rest c (k0_off2 i) (Facts₀.k0_off2_inb i h1 h3) f ∗ (∃ W', owes c.tc 0 W')) -∗ K ⟨⟩))
    ⊢ wp frame (wpE (defs₀ (F := F)) Variants.none c.tc none) Set.univ (body i arg2 harg2 arg4 harg4 arg5 harg5) K := by
  unfold body cc0_matmul_residual
  rw [dif_pos h1, dif_neg h2, dif_pos h3]
  unfold owns fly rest
  iintro ⟨⟨%X, %eX, HX⟩, ⟨%A, %eA, HA⟩, ⟨%wd, %B, -, HB⟩, ⟨%d, %D, -, HD⟩, HF, HR, HW, Hk⟩
  sl_exec
  ihave HR := (whole_back c off h f) $$ HR
  sl_exec
  have e1 : next_run.sl.v20 off h f = narrow (colV off h f) := by
    delta next_run.sl.v20 next_run.sl.v17
    exact congrArg (narrow (F := F)) (View.readAt_full sM.view (colV off h f) _)
  have e2 : next_run.sl.v4 c off h f = narrow (colV off h f) := by
    exact (View.readCov_full bM.view _ _ _ _).trans e1
  have e : next_run.sl.v7 c arg2 arg4 off h f X A = outv r x (narrow (colV off h f)) :=
    (congr3 (outv (F := F)) ((View.readAt_full arg4.view A _).trans eA) ((View.readAt_full arg2.view X _).trans eX) e2)
  sl_step
  ihave HF := (fly_of c (k0_off2 i) (Facts₀.k0_off2_inb i h1 h3) f (colV off h f) (next_run.sl.dma0 i h1 h3 f) [] rfl) $$ HF
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HR
  iexists _; iexact HW

/-- The last column block: the flight is awaited and narrowed. -/
theorem last_run (h1 : k0_cond1 i = 1#1) (h2 : ¬ k0_cond2 i = 1#1) (h3 : ¬ k0_cond3 i = 1#1) (x : S512x4096.Idx → Elt F .bf16) (r : S512x1024.Idx → Elt F .f32) (off h f)
    (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ fly c off h f ∗ rest c off h f ∗ owes c.tc 0 W
      ∗ ((owns c.tc arg2 fullShare x ∗ owns c.tc arg4 fullShare r ∗ owns c.tc bM fullShare (narrow (colV off h f)) ∗ owns c.tc arg5 fullShare (outv r x (narrow (colV off h f)))
        ∗ semVal (c.tc, SemLoc.dma 6) 0 ∗ (sM.view.loc c.tc ↦[sM.view.set]{fullShare} colV off h f) ∗ (wM.view.loc c.tc ↦{fullShare} f) ∗ (∃ W', owes c.tc 0 W')) -∗ K ⟨⟩))
    ⊢ wp frame (wpE (defs₀ (F := F)) Variants.none c.tc none) Set.univ (body i arg2 harg2 arg4 harg4 arg5 harg5) K := by
  unfold body cc0_matmul_residual
  rw [dif_pos h1, dif_neg h2, dif_neg h3]
  unfold owns fly rest
  iintro ⟨⟨%X, %eX, HX⟩, ⟨%A, %eA, HA⟩, ⟨%wd, %B, -, HB⟩, ⟨%d, %D, -, HD⟩, HF, HR, HW, Hk⟩
  sl_exec
  ihave HR := (whole_back c off h f) $$ HR
  sl_exec
  have e1 : last_run.sl.v20 off h f = narrow (colV off h f) := by
    delta last_run.sl.v20 last_run.sl.v17
    exact congrArg (narrow (F := F)) (View.readAt_full sM.view (colV off h f) _)
  have e2 : last_run.sl.v4 c off h f = narrow (colV off h f) := by
    exact (View.readCov_full bM.view _ _ _ _).trans e1
  have e : last_run.sl.v7 c arg2 arg4 off h f X A = outv r x (narrow (colV off h f)) :=
    (congr3 (outv (F := F)) ((View.readAt_full arg4.view A _).trans eA) ((View.readAt_full arg2.view X _).trans eX) e2)
  sl_step
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HF_dst HR
  iexists _; iexact HW

/-- The first point: the first block is fetched, narrowed, and the second one's flight started. -/
theorem first_run (h1 : k0_cond1 i = 1#1) (h2 : k0_cond2 i = 1#1) (h3 : k0_cond3 i = 1#1) (x : S512x4096.Idx → Elt F .bf16) (r : S512x1024.Idx → Elt F .f32)
    (f : (⟨S2x4096x4096, .f32⟩ : BufTy).Contents (Elt F))
    (g : S4096x1024.Idx → Elt F .f32) (W : Waits sig Unit) (K : PUnit → sProp 𝕄) :
    iprop(owns c.tc arg2 fullShare x ∗ owns c.tc arg4 fullShare r ∗ (∃ w, owns c.tc bM fullShare w) ∗ (∃ d, owns c.tc arg5 fullShare d)
      ∗ semVal (c.tc, SemLoc.dma 6) 0 ∗ (sM.view.loc c.tc ↦[sM.view.set]{fullShare} g) ∗ (wM.view.loc c.tc ↦{fullShare} f) ∗ owes c.tc 0 W
      ∗ ((owns c.tc arg2 fullShare x ∗ owns c.tc arg4 fullShare r ∗ owns c.tc bM fullShare (narrow (colV ![0, 0, 0] inb0 f)) ∗ owns c.tc arg5 fullShare (outv r x (narrow (colV ![0, 0, 0] inb0 f)))
        ∗ fly c (k0_off2 i) (Facts₀.k0_off2_inb i h1 h3) f ∗ rest c (k0_off2 i) (Facts₀.k0_off2_inb i h1 h3) f ∗ (∃ W', owes c.tc 0 W')) -∗ K ⟨⟩))
    ⊢ wp frame (wpE (defs₀ (F := F)) Variants.none c.tc none) Set.univ (body i arg2 harg2 arg4 harg4 arg5 harg5) K := by
  unfold body cc0_matmul_residual
  rw [dif_pos h1, dif_pos h2, dif_pos h3]
  unfold owns fly rest
  iintro ⟨⟨%X, %eX, HX⟩, ⟨%A, %eA, HA⟩, ⟨%wd, %B, -, HB⟩, ⟨%d, %D, -, HD⟩, HF, HS, HR, HW, Hk⟩
  sl_exec
  have e1 : first_run.sl.v20 f = narrow (colV ![0, 0, 0] inb0 f) := by
    delta first_run.sl.v20 first_run.sl.v17
    refine congrArg (narrow (F := F)) ?_
    delta first_run.sl.v16
    exact (first_load _ _).trans rfl
  have e2 : first_run.sl.v4 c f = narrow (colV ![0, 0, 0] inb0 f) := by
    exact (View.readCov_full bM.view _ _ _ _).trans e1
  have e : first_run.sl.v7 c arg2 arg4 f X A = outv r x (narrow (colV ![0, 0, 0] inb0 f)) :=
    (congr3 (outv (F := F)) ((View.readAt_full arg4.view A _).trans eA) ((View.readAt_full arg2.view X _).trans eX) e2)
  sl_step
  ihave HF := (fly_of c (k0_off2 i) (Facts₀.k0_off2_inb i h1 h3) f g (first_run.sl.dma3 i h1 h3 f) [⟨Rect.whole S4096x1024, first_run.sl.dma0 f⟩] rfl) $$ HF
  iapply Hk
  isplitl [HX]
  · iexists X; isplitr; · ipureintro; exact eX
    iexact HX
  isplitl [HA]
  · iexists A; isplitr; · ipureintro; exact eA
    iexact HA
  isplitl [HB]
  · iapply (stored c bM B ![0, 0] inbB _ _ e1)
    iexact HB
  isplitl [HD]
  · iapply (stored c arg5 D ![0, 0] inbO _ _ e)
    iexact HD
  iframe HF HR
  iexists _; iexact HW

end Cert.Kernel5Ideal.Pout

end
-- ==== Proof.PoutLaunch.lean ====
/-
  A mixer's output projection, added to the residual stream: what holds between points, the body at every point, the run.
-/
module

public import proofs.«01_k».proof.Proof.PoutBody
public import Idealize.ShloMosaic.Adequacy
public import Idealize.ShloMosaic.Init
public import proofs.«01_k».proof.Proof.Gen.Kernel5Ideal.Points

@[expose] public section

set_option maxRecDepth 16384

noncomputable section

namespace Cert.Kernel5Ideal.Pout

open Cert.Kernel5Ideal Cert.Kernel5Ideal.Gen
open Idealize.ShloMosaic.Pipeline (Dat BodyObligation)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A column block's place in the weights. -/
def offs (j : ℕ) : Fin 3 → ℕ := ![0, 0, 1024 * j]

theorem offs_inb {j : ℕ} (h : j < 4) : ∀ a, offs j a + S1x4096x1024.size a ≤ S2x4096x4096.size a := by
  intro a
  fin_cases a
  · show 0 + 1 ≤ 2; omega
  · show 0 + 4096 ≤ 4096; omega
  · show 1024 * j + 1024 ≤ 4096; omega

/-- Column block `j`, narrowed. -/
def wblk (f : (⟨S2x4096x4096, .f32⟩ : BufTy).Contents (Elt F)) (j : Fin 4) : S4096x1024.Idx → Elt F .bf16 :=
  narrow (colV (offs j.val) (offs_inb j.isLt) f)

theorem wblk_of (f : (⟨S2x4096x4096, .f32⟩ : BufTy).Contents (Elt F)) (j : Fin 4) (off h) (e : off = offs j.val) :
    narrow (colV off h f) = wblk f j := by
  subst e; rfl

/-- The column block of a point. -/
def jn (n : ℕ) : Fin 4 := ⟨n / 32 % 4, by omega⟩

/-- No flight: the counter at zero, the scratch at anything, the weights whole. -/
def still (c : Dev nD) (f : (⟨S2x4096x4096, .f32⟩ : BufTy).Contents (Elt F)) : sProp 𝕄 :=
  iprop(semVal (c.tc, SemLoc.dma 6) 0 ∗ (∃ g, (sM.view.loc c.tc ↦[sM.view.set]{fullShare} g))
    ∗ (wM.view.loc c.tc ↦{fullShare} f))

/-- Column block `j` in flight, if there is one. -/
def flying (c : Dev nD) (j : ℕ) (f : (⟨S2x4096x4096, .f32⟩ : BufTy).Contents (Elt F)) : sProp 𝕄 :=
  if h : j < 4 then iprop(fly c (offs j) (offs_inb h) f ∗ rest c (offs j) (offs_inb h) f) else still c f

/-- The transfers before point `n`. -/
def state (c : Dev nD) (n : ℕ) (f : (⟨S2x4096x4096, .f32⟩ : BufTy).Contents (Elt F)) : sProp 𝕄 :=
  if n = 0 then still c f else flying c ((n - 1) / 32 + 1) f

theorem state_zero (c : Dev nD) {n : ℕ} (h : n = 0) (f : (⟨S2x4096x4096, .f32⟩ : BufTy).Contents (Elt F)) :
    (state c n f : sProp 𝕄) = still c f := if_pos h

theorem state_pos (c : Dev nD) {n j : ℕ} (h : n ≠ 0) (e : (n - 1) / 32 + 1 = j) (f : (⟨S2x4096x4096, .f32⟩ : BufTy).Contents (Elt F)) :
    (state c n f : sProp 𝕄) = flying c j f := by subst e; exact if_neg h

theorem flying_eq (c : Dev nD) {j : ℕ} (hj : j < 4) (f : (⟨S2x4096x4096, .f32⟩ : BufTy).Contents (Elt F)) :
    (flying c j f : sProp 𝕄) = iprop(fly c (offs j) (offs_inb hj) f ∗ rest c (offs j) (offs_inb hj) f) := dif_pos hj

theorem flying_end (c : Dev nD) {j : ℕ} (hj : ¬ j < 4) (f : (⟨S2x4096x4096, .f32⟩ : BufTy).Contents (Elt F)) :
    (flying c j f : sProp 𝕄) = still c f := dif_neg hj

theorem flying_of (c : Dev nD) {j : ℕ} (hj : j < 4) (f : (⟨S2x4096x4096, .f32⟩ : BufTy).Contents (Elt F)) (off h) (e : off = offs j) :
    (iprop(fly c off h f ∗ rest c off h f) : sProp 𝕄) ⊢ flying c j f := by
  subst e
  unfold flying
  rw [dif_pos hj]

/-- Between points: the block of the weights narrowed once its first row block has run, the transfers, the generator. -/
def Φc (c : Dev nD) (n : ℕ) : sProp 𝕄 :=
  iprop((∃ w, ⌜n % 32 ≠ 0 → w = wblk (V m c main_arg1) (jn n)⌝ ∗ owns c.tc bM fullShare w)
    ∗ state c n (V m c main_arg1) ∗ (∃ r, prngReg c r))

/-- The block of the output a point leaves. -/
def outBlk (c : Dev nD) (t : Fin cfg0.N) : S512x1024.Idx → Elt F .f32 := outv (iblk m c 1 t) (iblk m c 0 t) (wblk (V m c main_arg1) (jn t.val))

/-- The data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outBlk m c t
  Φ t := Φc m c t.val
  q _ := fullShare
  owed _ := 0

theorem is1 : ∀ t : Fin cfg0.N, k0_cond1 (grid0.coords t) = 1#1 ↔ t.val % 32 = 0 :=
  (by decide +kernel : ∀ t : Fin grid0.N, k0_cond1 (grid0.coords t) = 1#1 ↔ t.val % 32 = 0)
theorem is2 : ∀ t : Fin cfg0.N, k0_cond2 (grid0.coords t) = 1#1 ↔ t.val / 32 = 0 :=
  (by decide +kernel : ∀ t : Fin grid0.N, k0_cond2 (grid0.coords t) = 1#1 ↔ t.val / 32 = 0)
theorem is3 : ∀ t : Fin cfg0.N, k0_cond3 (grid0.coords t) = 1#1 ↔ t.val / 32 + 1 < 4 :=
  (by decide +kernel : ∀ t : Fin grid0.N, k0_cond3 (grid0.coords t) = 1#1 ↔ t.val / 32 + 1 < 4)
theorem off2 : ∀ t : Fin cfg0.N, k0_off2 (grid0.coords t) = offs (t.val / 32 + 1) :=
  (by decide +kernel : ∀ t : Fin grid0.N, k0_off2 (grid0.coords t) = offs (t.val / 32 + 1))

theorem defs₀_row (t : Fin cfg0.N) : (defs₀ (F := F)) .tc cfg0.body (cfg0.bodyArgs t (cfg0.slots t)) = bodyAt0 t := by
  unfold defs₀; rw [Defs.onTc_tc]

/-- The body at a point, from the buffers to the buffers. -/
theorem step (c : Dev nD) (t : Fin cfg0.N) (W : Waits sig Unit) (K : PUnit → sProp 𝕄) :
    iprop(Φc m c t.val ∗ owes c.tc 0 W ∗ owns c.tc (win0_0.stage (cfg0.slots t 0)) fullShare (iblk m c 0 t)
      ∗ owns c.tc (win0_1.stage (cfg0.slots t 1)) fullShare (iblk m c 1 t)
      ∗ (∃ d, owns c.tc (win0_2.stage (cfg0.slots t 2)) fullShare d)
      ∗ ((Φc m c (t.val + 1) ∗ (∃ W', owes c.tc 0 W') ∗ owns c.tc (win0_0.stage (cfg0.slots t 0)) fullShare (iblk m c 0 t)
        ∗ owns c.tc (win0_1.stage (cfg0.slots t 1)) fullShare (iblk m c 1 t)
        ∗ owns c.tc (win0_2.stage (cfg0.slots t 2)) fullShare (outBlk m c t)) -∗ K ⟨⟩))
    ⊢ wp frame (wpE (defs₀ (F := F)) Variants.none c.tc none) Set.univ (bodyAt0 t) K := by
  have ht : t.val < 128 := t.isLt
  unfold Φc outBlk
  by_cases h1 : t.val % 32 = 0
  · by_cases h2 : t.val / 32 = 0
    · have h0 : t.val = 0 := by omega
      have R := fun g => (first_run c (grid0.coords t) _ (hstage0_0 ((cfg0.slots t 0).cast nbuf0_0)) _ (hstage0_1 ((cfg0.slots t 1).cast nbuf0_1)) _ (hstage0_2 ((cfg0.slots t 2).cast nbuf0_2)) ((is1 t).2 h1) ((is2 t).2 h2) ((is3 t).2 (by omega)) (iblk m c 0 t) (iblk m c 1 t) (V m c main_arg1) g W K)
      rw [wblk_of (V m c main_arg1) (jn t.val) ![0, 0, 0] inb0 (by rw [h0]; rfl)] at R
      rw [state_zero c h0, state_pos c (Nat.succ_ne_zero _) (show (t.val + 1 - 1) / 32 + 1 = t.val / 32 + 1 from rfl)]
      unfold still
      iintro ⟨⟨⟨%w, %hw, HB⟩, ⟨HQ, ⟨%g, HS⟩, HR⟩, Hg⟩, HW, HX, HA, HD, Hk⟩
      iapply (R g)
      iframe HX HA
      isplitl [HB]; · iexists w; iexact HB
      iframe HD HQ HS HR HW
      iintro ⟨HX, HA, HB, HD, HF, HR, HW⟩
      iapply Hk
      isplitl [HB HF HR Hg]
      · isplitl [HB]
        · iexists _; isplitr; swap; · iexact HB
          ipureintro; intro _; rw [h0]; rfl
        isplitl [HF HR]
        · iapply (flying_of c (j := t.val / 32 + 1) (by omega) (V m c main_arg1) _ _ (off2 t))
          iframe HF
          iexact HR
        iexact Hg
      iframe HW HX HA
      iexact HD
    · have hn : t.val ≠ 0 := by omega
      have hj : t.val / 32 < 4 := by omega
      have hw0 : narrow (colV (offs (t.val / 32)) (offs_inb hj) (V m c main_arg1)) = wblk (V m c main_arg1) (jn t.val) :=
        wblk_of _ _ _ _ (by unfold jn; show _ = offs (t.val / 32 % 4); rw [Nat.mod_eq_of_lt hj])
      have hw1 : wblk (V m c main_arg1) (jn t.val) = wblk (V m c main_arg1) (jn (t.val + 1)) := by
        rw [show jn (t.val + 1) = jn t.val from Fin.ext (by show (t.val + 1) / 32 % 4 = t.val / 32 % 4; omega)]
      rw [state_pos c hn (show (t.val - 1) / 32 + 1 = t.val / 32 from by omega), flying_eq c hj, state_pos c (Nat.succ_ne_zero _) (show (t.val + 1 - 1) / 32 + 1 = t.val / 32 + 1 from rfl)]
      by_cases h3 : t.val / 32 + 1 < 4
      · have R := (next_run c (grid0.coords t) _ (hstage0_0 ((cfg0.slots t 0).cast nbuf0_0)) _ (hstage0_1 ((cfg0.slots t 1).cast nbuf0_1)) _ (hstage0_2 ((cfg0.slots t 2).cast nbuf0_2)) ((is1 t).2 h1) (fun h => h2 ((is2 t).1 h)) ((is3 t).2 h3) (iblk m c 0 t) (iblk m c 1 t) _ (offs_inb hj) (V m c main_arg1) W K)
        rw [hw0] at R
        iintro ⟨⟨⟨%w, %hw, HB⟩, ⟨HF, HR⟩, Hg⟩, HW, HX, HA, HD, Hk⟩
        iapply R
        iframe HX HA
        isplitl [HB]; · iexists w; iexact HB
        iframe HD HF HR HW
        iintro ⟨HX, HA, HB, HD, HF, HR, HW⟩
        iapply Hk
        isplitl [HB HF HR Hg]
        · isplitl [HB]
          · iexists _; isplitr; swap; · iexact HB
            ipureintro; intro _; exact hw1
          isplitl [HF HR]
          · iapply (flying_of c (j := t.val / 32 + 1) (by omega) (V m c main_arg1) _ _ (off2 t))
            iframe HF
            iexact HR
          iexact Hg
        iframe HW HX HA
        iexact HD
      · rw [flying_end c h3]
        unfold still
        have R := (last_run c (grid0.coords t) _ (hstage0_0 ((cfg0.slots t 0).cast nbuf0_0)) _ (hstage0_1 ((cfg0.slots t 1).cast nbuf0_1)) _ (hstage0_2 ((cfg0.slots t 2).cast nbuf0_2)) ((is1 t).2 h1) (fun h => h2 ((is2 t).1 h)) (fun h => h3 ((is3 t).1 h)) (iblk m c 0 t) (iblk m c 1 t) _ (offs_inb hj) (V m c main_arg1) W K)
        rw [hw0] at R
        iintro ⟨⟨⟨%w, %hw, HB⟩, ⟨HF, HR⟩, Hg⟩, HW, HX, HA, HD, Hk⟩
        iapply R
        iframe HX HA
        isplitl [HB]; · iexists w; iexact HB
        iframe HD HF HR HW
        iintro ⟨HX, HA, HB, HD, HQ, HS, HR, HW⟩
        iapply Hk
        isplitl [HB HQ HS HR Hg]
        · isplitl [HB]
          · iexists _; isplitr; swap; · iexact HB
            ipureintro; intro _; exact hw1
          isplitl [HQ HS HR]
          · isplitl [HQ]; · iexact HQ
            isplitl [HS]; · iexists _; iexact HS
            iexact HR
          iexact Hg
        iframe HW HX HA
        iexact HD
  · rw [state_pos c (show t.val ≠ 0 by omega) rfl, state_pos c (Nat.succ_ne_zero _) (show (t.val + 1 - 1) / 32 + 1 = (t.val - 1) / 32 + 1 from by omega)]
    iintro ⟨⟨⟨%w, %hw, HB⟩, HS, Hg⟩, HW, HX, HA, HD, Hk⟩
    have hw' := hw h1
    subst hw'
    iapply (mid_run c (grid0.coords t) _ (hstage0_0 ((cfg0.slots t 0).cast nbuf0_0)) _ (hstage0_1 ((cfg0.slots t 1).cast nbuf0_1)) _ (hstage0_2 ((cfg0.slots t 2).cast nbuf0_2)) (fun h => h1 ((is1 t).1 h)) (iblk m c 0 t) (iblk m c 1 t) (wblk (V m c main_arg1) (jn t.val)) K)
    iframe HX HA HB HD
    iintro ⟨HX, HA, HB, HD⟩
    iapply Hk
    isplitl [HB HS Hg]
    · isplitl [HB]
      · iexists _; isplitr; swap; · iexact HB
        ipureintro; intro h
        rw [show jn (t.val + 1) = jn t.val from Fin.ext (by show (t.val + 1) / 32 % 4 = t.val / 32 % 4; omega)]
      isplitl [HS]
      · iexact HS
      iexact Hg
    isplitl [HW]; · iexists W; iexact HW
    iframe HX HA
    iexact HD

theorem bef0 (c : Dev nD) (t : Fin cfg0.N) (d) : (dats m 0 c).before 0 t d = iblk m c 0 t :=
  ((dats m 0 c).before_in_eq_fetched 0 rfl (fun _ => rfl) (fun _ _ _ => rfl) (fun t => by unfold Dat.blockOf; rfl) t d).trans
    (by unfold Dat.fetched Dat.blockOf; rfl)

theorem bef1 (c : Dev nD) (t : Fin cfg0.N) (d) : (dats m 0 c).before 1 t d = iblk m c 1 t :=
  ((dats m 0 c).before_in_eq_fetched 1 rfl (fun _ => rfl) (fun _ _ _ => rfl) (fun t => by unfold Dat.blockOf; rfl) t d).trans
    (by unfold Dat.fetched Dat.blockOf; rfl)

/-- The body's triple at a point. -/
theorem sound_body (c : Dev nD) (t : Fin cfg0.N) :
    (iprop(Φc m c t.val ∗ (dats m 0 c).owesAt () t.castSucc
      ∗ (∃ d, owns c.tc (win0_0.stage (cfg0.slots t 0)) fullShare ((dats m 0 c).before 0 t d))
      ∗ (∃ d, owns c.tc (win0_1.stage (cfg0.slots t 1)) fullShare ((dats m 0 c).before 1 t d))
      ∗ (∃ d, owns c.tc (win0_2.stage (cfg0.slots t 2)) fullShare ((dats m 0 c).before 2 t d))) : sProp 𝕄)
    ⊢ wp frame (wpE (defs₀ (F := F)) Variants.none c.tc none) Set.univ (bodyAt0 t) (fun _ =>
      iprop(Φc m c (t.val + 1) ∗ (dats m 0 c).owesAt () t.succ
      ∗ owns c.tc (win0_0.stage (cfg0.slots t 0)) fullShare (iblk m c 0 t)
      ∗ owns c.tc (win0_1.stage (cfg0.slots t 1)) fullShare (iblk m c 1 t)
      ∗ owns c.tc (win0_2.stage (cfg0.slots t 2)) fullShare (outBlk m c t))) := by
  simp only [bef0, bef1]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩, ⟨%d2, H2⟩⟩
  iapply (step m c t W _)
  iframe HP HW H0 H1
  isplitl [H2]; · iexists _; iexact H2
  iintro ⟨HP, ⟨%W', HW⟩, H0, H1, H2⟩
  iframe HP
  isplitl [HW]
  · iexists W'
    isplitr
    · ipureintro; exact fun _ _ => Or.inl trivial
    iexact HW
  iframe H0 H1
  iexact H2

/-- The library's obligation of the body. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- The kernel's own counter and the weights it addresses itself. -/
def osem : Fin 1 → SemLoc sig := fun _ => SemLoc.dma 6
theorem osem_facts : Pipeline.OwnSemFacts spec0 osem := by decide

def held : Finset (Ref sig .tc) := {main_arg1}
theorem held_sub : held ⊆ Pipeline.restRefs sig spec0 := by decide

theorem given_eq (c : Dev nD) :
    (Pipeline.ΦD osem spec0 held (V m) c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
        ∗ (∃ r, prngReg c r) ∗ semVal (c.tc, SemLoc.dma 6) 0 ∗ (((c : Thread nD τ).loc main_arg1) ↦{fullShare} V m c main_arg1)) := by
  rw [Pipeline.ΦD_eq, scopedRest0_eq, Pipeline.ownSems0_eq_of_list c osem [0] (by decide) (by decide),
    BI.bigSep_eq_bigSepL_of_eq (S := held) [main_arg1] (by decide) (by decide)]
  rfl

theorem Φ_first (c : Dev nD) : (Pipeline.ΦD osem spec0 held (V m) c : sProp 𝕄) ⊢ Φc m c 0 := by
  rw [given_eq]
  unfold Φc
  rw [state_zero c rfl]
  unfold still
  simp only [owns_whole, Memref.view_whole, View.set_whole]
  iintro ⟨⟨⟨%f, S0⟩, ⟨%g, S1⟩⟩, Hg, HQ, HR⟩
  isplitl [S1]
  · iexists g
    isplitr
    · ipureintro; intro h; exact absurd rfl h
    · iexact S1
  isplitl [S0 HQ HR]
  · isplitl [HQ]; · iexact HQ
    isplitl [S0]; · iexists f; iexact S0
    iexact HR
  iexact Hg

theorem Φ_last (c : Dev nD) : (Φc m c 128 : sProp 𝕄) ⊢ Pipeline.ΦD osem spec0 held (V m) c := by
  rw [given_eq]
  unfold Φc
  rw [state_pos c (by decide) (show (128 - 1) / 32 + 1 = 4 from rfl), flying_end c (by decide)]
  unfold still
  simp only [owns_whole, Memref.view_whole, View.set_whole]
  iintro ⟨⟨%g, -, S1⟩, ⟨HQ, ⟨%f, S0⟩, HR⟩, Hg⟩
  isplitl [S0 S1]
  · isplitl [S0]; · iexists f; iexact S0
    iexists g; iexact S1
  iframe Hg HQ
  iexact HR

theorem hmain₂ : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- The run of the whole program. -/
theorem run : θ_run defs (onTc (τ := τ) (main (F := F))) ⟨m, fun _ => 0, ρ⟩
    (fun r => Pipeline.FramePost cfgs (dats m) 0 (V m) r ∧ r.2.sem = fun _ => 0) :=
  Pipeline.θ_run_frame_dma (Q' := _) cfgs (dats m) (0 : Fin 1) launch0 osem defs₀ Variants.none osem_facts held held_sub m ρ main
    (hbody := fun c => (body_obligation m c).loose) (hshare := fun c => (dats m 0 c).share_full fun _ => rfl)
    (howed := fun _ _ => rfl) (V := V m) (hmain := hmain₂ m) (hA := fun _ _ => rfl)
    (hin := fun c => Φ_first m c) (hout := fun c => Φ_last m c)

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).1 0).trans (((dats m 0 c).arrAt_in 0 rfl _).trans (V_main_arg0 m c)),
      ((h.1 c).2 main_arg1 (Pipeline.mem_restRefs_of main_arg1 (by decide) (by decide))).trans (V_main_arg1 m c),
      ((h.1 c).1 1).trans (((dats m 0 c).arrAt_in 1 rfl _).trans (V_main_arg2 m c))⟩, h.2⟩)
    (run m ρ)

end Cert.Kernel5Ideal.Pout

end
-- ==== Proof.Frames5.lean ====
/-
  The frames of the output projection's three programs.
-/
module

public import proofs.«01_k».proof.Defs
public import proofs.«01_k».proof.Proof.PoutLaunch
public import proofs.«01_k».proof.Proof.Gen.Kernel5
public import proofs.«01_k».proof.Proof.Gen.Reference5Ideal.Run
public import Idealize.ShloMosaic.Lib.Quiescent

@[expose] public section

noncomputable section

namespace Cert.Proof

open Idealize.ShloMosaic Idealize.ShloMosaic.TcCoe Idealize.SL.Sem

/-- The two body tables are one text. -/
theorem table_eq5 : Cert.Kernel5.defs₀ (F := Bits) = Cert.Kernel5Ideal.defs₀ (F := Bits) := by
  unfold Cert.Kernel5.defs₀ Cert.Kernel5Ideal.defs₀
  refine congrArg Defs.onTc (funext fun l => funext fun a => ?_)
  match l, a with
  | ⟨0, _⟩, (t, s) => rfl

theorem defs_eq5 : Cert.Kernel5.defs (F := Bits) = Cert.Kernel5Ideal.defs (F := Bits) :=
  congrArg (Pipeline.defs Cert.Kernel5Ideal.pcfgs) table_eq5

theorem frame_p5 : Cert.quiescent_Kernel5 := fun m ρ _ => by
  have h := Cert.Kernel5Ideal.Pout.quiescent (F := Bits) m ρ
  rw [← defs_eq5] at h
  exact h

theorem frame_pi5 : Cert.quiescent_Kernel5Ideal := fun m ρ _ => Cert.Kernel5Ideal.Pout.quiescent m ρ

theorem frame_ri5 : Cert.quiescent_Reference5Ideal := fun m ρ _ =>
  (θ_run Cert.Reference5Ideal.defs _ _).mono
    (fun r h => ⟨fun c => (h c).2, sem_eq_zero_of_no_sems (by decide) r.2⟩) (Cert.Reference5Ideal.Value.run (F := Ideal) m ρ)

theorem preserves5 : Cert.preserves_Kernel5_Kernel5Ideal := trivial

end Cert.Proof

end
-- ==== Proof.PoutVal.lean ====
/-
  A mixer's output projection, added to the residual stream: what the kernel and the reference leave, element by element.
-/
module

public import proofs.«01_k».proof.Proof.PoutLaunch
public import proofs.«01_k».proof.Proof.Gen.Reference5Ideal.Run
public import Idealize.ShloMosaic.Lib.Pointwise
public import Idealize.ShloMosaic.Lib.ValueLayout
public import Idealize.ShloMosaic.Lib.Pipeline.ValueKit
public import Idealize.ShloMosaic.Lib.Tactic.CleanTypes

@[expose] public section

set_option maxRecDepth 16384

noncomputable section

namespace Cert.Kernel5Ideal.Pout

open Cert.Kernel5Ideal Cert.Kernel5Ideal.Gen
open Idealize.ShloMosaic Idealize.ShloMosaic.TcCoe

theorem outv_at (r : FVec Ideal S512x1024 .f32) (x : FVec Ideal S512x4096 .bf16) (w : FVec Ideal S4096x1024 .bf16) (a : Fin 512) (q : Fin 1024) :
    outv (F := Ideal) r x w (ix2 a q) = (r (ix2 a q) : EReal) + ∑ k : Fin 4096, (x (ix2 a k) * w (ix2 k q) : EReal) := by
  unfold outv
  pointwise

theorem colV_at (f : FVec Ideal S2x4096x4096 .f32) (j : Fin 4) (k : Fin 4096) (q : Fin 1024) :
    colV (F := Ideal) (offs j.val) (offs_inb j.isLt) f (ix2 k q) = f (ix3 0 k (⟨1024 * j.val + q.val, by omega⟩ : Fin 4096)) := by
  have h : colV (F := Ideal) (offs j.val) (offs_inb j.isLt) f
      = shapeCast S4096x1024 (wM.view.readAt (Elt Ideal) (Rect.unit (s := S2x4096x4096) (offs j.val) S1x4096x1024.size (offs_inb j.isLt)).toLoadRect f)
          (by decide : S1x4096x1024.ShapeCasts S4096x1024) := rfl
  rw [h]
  refine (ValueIdx.shapeCast_1ab_ab_apply _ _ _ _).trans ?_
  refine congrArg f ?_
  funext a
  refine Fin.ext ?_
  fin_cases a
  · rfl
  · show 0 + 1 * k.val = k.val; omega
  · show 1024 * j.val + 1 * q.val = 1024 * j.val + q.val; omega

theorem wblk_at (f : FVec Ideal S2x4096x4096 .f32) (j : Fin 4) (k : Fin 4096) (q : Fin 1024) :
    wblk (F := Ideal) f j (ix2 k q) = f (ix3 0 k (⟨1024 * j.val + q.val, by omega⟩ : Fin 4096)) := by
  refine Eq.trans ?_ (colV_at f j k q)
  unfold wblk narrow
  generalize colV (F := Ideal) _ _ f = g
  rw [shapeCast_self]
  rfl

variable (m : (ℓ : Loc nD τ sig) → Buf (Elt Ideal) ℓ) (c : Dev nD)

theorem tr0 : ∀ t : Fin cfg0.N, cc0_transform_0 (grid0.coords t) = ![t.val % 32, 0] :=
  (by decide +kernel : ∀ t : Fin grid0.N, cc0_transform_0 (grid0.coords t) = ![t.val % 32, 0])
theorem tr2 : ∀ t : Fin cfg0.N, cc0_transform_2 (grid0.coords t) = ![t.val % 32, t.val / 32] :=
  (by decide +kernel : ∀ t : Fin grid0.N, cc0_transform_2 (grid0.coords t) = ![t.val % 32, t.val / 32])
theorem tr3 : ∀ t : Fin cfg0.N, cc0_transform_3 (grid0.coords t) = ![t.val % 32, t.val / 32] :=
  (by decide +kernel : ∀ t : Fin grid0.N, cc0_transform_3 (grid0.coords t) = ![t.val % 32, t.val / 32])

theorem iblk0_at (t : Fin cfg0.N) (a : Fin 512) (k : Fin 4096) :
    (iblk m c 0 t : Vec Ideal S512x4096 .bf16) (ix2 a k)
      = (V m c main_arg0 : FVec Ideal S16384x4096 .bf16) (ix2 (⟨512 * (t.val % 32) + a.val, by omega⟩ : Fin 16384) k) := by
  show V m c main_arg0 ((win0_0.blk t).view.emb (ix2 a k)) = _
  have hv : ∀ b, ((win0_0.blk t).view.emb (ix2 a k) b).val = cc0_transform_0 (grid0.coords t) b * S512x4096.size b + (ix2 a k b).val :=
    fun b => Pipeline.Window.rect_emb_val win0_0 t (ix2 a k) b rfl
  refine congrArg (V m c main_arg0) ?_
  funext b
  refine Fin.ext ((hv b).trans ?_)
  rw [tr0 t]
  fin_cases b
  · show t.val % 32 * 512 + a.val = 512 * (t.val % 32) + a.val; omega
  · show 0 * 4096 + k.val = k.val; omega

theorem place (t : Fin cfg0.N) (a : Fin 512) (q : Fin 1024) : (win0_2.blk t).view.emb (ix2 a q)
    = ix2 (⟨512 * (t.val % 32) + a.val, by omega⟩ : Fin 16384) (⟨1024 * (jn t.val).val + q.val, by have := (jn t.val).isLt; omega⟩ : Fin 4096) := by
  have ht : t.val < 128 := t.isLt
  have hv : ∀ b, ((win0_2.blk t).view.emb (ix2 a q) b).val = cc0_transform_3 (grid0.coords t) b * S512x1024.size b + (ix2 a q b).val :=
    fun b => Pipeline.Window.rect_emb_val win0_2 t (ix2 a q) b rfl
  funext b
  refine Fin.ext ((hv b).trans ?_)
  rw [tr3 t]
  fin_cases b
  · show t.val % 32 * 512 + a.val = 512 * (t.val % 32) + a.val; omega
  · show t.val / 32 * 1024 + q.val = 1024 * (t.val / 32 % 4) + q.val; omega

theorem iblk1_at (t : Fin cfg0.N) (a : Fin 512) (q : Fin 1024) :
    (iblk m c 1 t : Vec Ideal S512x1024 .f32) (ix2 a q) = (V m c main_arg2 : FVec Ideal S16384x4096 .f32)
      (ix2 (⟨512 * (t.val % 32) + a.val, by omega⟩ : Fin 16384) (⟨1024 * (jn t.val).val + q.val, by have := (jn t.val).isLt; omega⟩ : Fin 4096)) := by
  have ht : t.val < 128 := t.isLt
  show V m c main_arg2 ((win0_1.blk t).view.emb (ix2 a q)) = _
  have hv : ∀ b, ((win0_1.blk t).view.emb (ix2 a q) b).val = cc0_transform_2 (grid0.coords t) b * S512x1024.size b + (ix2 a q b).val :=
    fun b => Pipeline.Window.rect_emb_val win0_1 t (ix2 a q) b rfl
  refine congrArg (V m c main_arg2) ?_
  funext b
  refine Fin.ext ((hv b).trans ?_)
  rw [tr2 t]
  fin_cases b
  · show t.val % 32 * 512 + a.val = 512 * (t.val % 32) + a.val; omega
  · show t.val / 32 * 1024 + q.val = 1024 * (t.val / 32 % 4) + q.val; omega

/-- The residual and the product, as an array. -/
def addProd (x : FVec Ideal S16384x4096 .f32) (o : FVec Ideal S16384x4096 .bf16) (w : FVec Ideal S2x4096x4096 .f32) : FVec Ideal S16384x4096 .f32 := fun i =>
  (x i : EReal) + ∑ k : Fin 4096, (o (ix2 (i 0) k) * w (ix3 0 k (i 1)) : EReal)

theorem arr : (dats m 0 c).arrAt 2 cfg0.N = addProd (V m c main_arg2) (V m c main_arg0) (V m c main_arg1) := by
  refine (dats m 0 c).arrAt_eq_of_covers 2 (addProd (V m c main_arg2) (V m c main_arg0) (V m c main_arg1)) (by decide +kernel) fun t hf y => ?_
  blk_simp
  show outBlk m c t y = addProd (V m c main_arg2) (V m c main_arg0) (V m c main_arg1) ((win0_2.blk t).view.emb y)
  obtain ⟨a, q, rfl⟩ : ∃ (a : Fin 512) (q : Fin 1024), y = ix2 a q := ⟨y 0, y 1, by funext b; fin_cases b <;> rfl⟩
  rw [place]
  unfold outBlk addProd
  rw [outv_at, iblk1_at]
  refine congrArg _ (Finset.sum_congr rfl fun k _ => ?_)
  rw [iblk0_at, wblk_at]
  rfl

end Cert.Kernel5Ideal.Pout

namespace Cert.Reference5Ideal.Pout

open Cert.Reference5Ideal Cert.Reference5Ideal.Gen Cert.Reference5Ideal.Value
open Idealize.ShloMosaic Idealize.ShloMosaic.TcCoe

theorem res (x : FVec Ideal S16384x4096 .f32) (u : FVec Ideal S16384x4096 .bf16) (w : FVec Ideal S2x4096x4096 .f32) :
    (addf x (Host.dotGeneral dot_S16384x4096_S4096x4096_S16384x4096_1_0_0_1_n_n none (extf .f32 u bitsLt_bf16_f32) (shapeCast _ (extractStridedSlice S1x4096x4096 ![0, 0, 0] w slices_S2x4096x4096_S1x4096x4096_0_0_0) shapeCasts_S1x4096x4096_S4096x4096)) : FVec Ideal S16384x4096 .f32)
      = Cert.Kernel5Ideal.Pout.addProd x u w := by
  funext i
  obtain ⟨r, q, rfl⟩ : ∃ (r : Fin 16384) (q : Fin 4096), i = ix2 r q := ⟨i 0, i 1, by funext a; fin_cases a <;> rfl⟩
  unfold Cert.Kernel5Ideal.Pout.addProd
  pointwise

end Cert.Reference5Ideal.Pout

end
-- ==== Proof.Algebra5.lean ====
/-
  The value claim of the output projection: kernel and reference leave the same array.
-/
module

public import proofs.«01_k».proof.Defs
public import proofs.«01_k».proof.Proof.PoutVal

@[expose] public section

noncomputable section

namespace Cert.Proof

open Idealize.ShloMosaic Idealize.ShloMosaic.TcCoe Idealize.SL.Sem

theorem algebraic5 : Cert.algebraic_Kernel5Ideal_Reference5Ideal := by
  intro m ρ m' ρ' _ hagree
  refine ⟨fun c => Cert.Kernel5Ideal.Pout.addProd (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · exact (θ_run Cert.Kernel5Ideal.defs _ _).mono
      (fun r h c => ⟨((h.1 c).1 2).trans (Cert.Kernel5Ideal.Pout.arr m c),
        ((h.1 c).1 0).trans (((Cert.Kernel5Ideal.Pout.dats m 0 c).arrAt_in 0 rfl _).trans (Cert.Kernel5Ideal.Gen.V_main_arg0 m c)),
        ((h.1 c).2 Cert.Kernel5Ideal.main_arg1 (Pipeline.mem_restRefs_of Cert.Kernel5Ideal.main_arg1 (by decide) (by decide))).trans
          (Cert.Kernel5Ideal.Gen.V_main_arg1 m c),
        ((h.1 c).1 1).trans (((Cert.Kernel5Ideal.Pout.dats m 0 c).arrAt_in 1 rfl _).trans (Cert.Kernel5Ideal.Gen.V_main_arg2 m c))⟩)
      (Cert.Kernel5Ideal.Pout.run m ρ)
  · exact (θ_run Cert.Reference5Ideal.defs _ _).mono
      (fun _ h c => ⟨(h c).1.trans ((Cert.Reference5Ideal.Pout.res _ _ _).trans (by rw [(hagree c).1, (hagree c).2.1, (hagree c).2.2])), (h c).2⟩)
      (Cert.Reference5Ideal.Value.run (F := Ideal) m' ρ')

end Cert.Proof

end
-- ==== Proof.NinBody.lean ====
/-
  The neighbourhood mixer's projection: the body at a grid point.
-/
module

public import proofs.«01_k».proof.Proof.Gen.Kernel6Ideal.Frame
public import Idealize.ShloMosaic.Lib.Pipeline.Routed
public import Idealize.ShloMosaic.Lib.Tactic
public import Idealize.ShloMosaic.Lib.VecWindow

@[expose] public section

set_option maxRecDepth 16384

noncomputable section

namespace Cert.Kernel6Ideal.Nin

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weights, and the two scratch buffers: a column block as fetched and as narrowed. -/
abbrev wM : Memref sig .tc .hbm S1x4096x12288 .f32 := Memref.whole main_arg1
abbrev sM : Memref sig .tc .vmem S4096x1024 .f32 := Memref.whole cc0_scratch0
abbrev bM : Memref sig .tc .vmem S4096x1024 .bf16 := Memref.whole cc0_scratch1

/-- A column block of the weights. -/
abbrev colM (off : Fin 3 → ℕ) (h : ∀ a, off a + S1x4096x1024.size a ≤ S1x4096x12288.size a) : Memref sig .tc .hbm S4096x1024 .f32 :=
  (wM.slice (Rect.unit (s := S1x4096x12288) off S1x4096x1024.size h) (fun _ => rfl)).squeeze S4096x1024 squeezes_S1x4096x1024_S4096x1024

/-- A column block's elements. -/
def colV (off : Fin 3 → ℕ) (h : ∀ a, off a + S1x4096x1024.size a ≤ S1x4096x12288.size a) (f : (⟨S1x4096x12288, .f32⟩ : BufTy).Contents (Elt F)) :
    S4096x1024.Idx → Elt F .f32 := (colM off h).view.read (Elt F) f

/-- The column block narrowed, as the scratch keeps it. -/
def narrow (g : S4096x1024.Idx → Elt F .f32) : S4096x1024.Idx → Elt F .bf16 :=
  shapeCast S4096x1024 (truncf .bf16 (g : FVec F S4096x1024 .f32) bitsLt_bf16_f32) shapeCasts_S4096x1024_S4096x1024

/-- The block of the output: the product. -/
def outv (x : S1024x4096.Idx → Elt F .bf16) (w : S4096x1024.Idx → Elt F .bf16) : S1024x1024.Idx → Elt F .bf16 :=
  truncf .bf16 (matmul dot_S1024x4096_S4096x1024_S1024x1024_1_0_0_1_n_n none (x : FVec F S1024x4096 .bf16) (w : FVec F S4096x1024 .bf16) (constant S1024x1024 .f32 0x00000000#32) : FVec F S1024x1024 .f32) bitsLt_bf16_f32

/-- A column block in flight to its scratch. -/
abbrev fly (c : Dev nD) (off : Fin 3 → ℕ) (h : ∀ a, off a + S1x4096x1024.size a ≤ S1x4096x12288.size a)
    (f : (⟨S1x4096x12288, .f32⟩ : BufTy).Contents (Elt F)) : sProp 𝕄 :=
  Transfers.Flight (countersEmb (U := Pipeline.UD sig nD τ)) c.tc (SemLoc.dma 4) () 524288
    iprop((sM.view.loc c.tc ↦[sM.view.set]{fullShare} colV off h f)
      ∗ ((colM off h).view.loc c.tc ↦[(colM off h).view.set]{fullShare} f))

/-- The rest of the weights, meanwhile. -/
abbrev rest (c : Dev nD) (off : Fin 3 → ℕ) (h : ∀ a, off a + S1x4096x1024.size a ≤ S1x4096x12288.size a)
    (f : (⟨S1x4096x12288, .f32⟩ : BufTy).Contents (Elt F)) : sProp 𝕄 :=
  (wM.view.loc c.tc ↦[Finset.univ \ (colM off h).view.set]{fullShare} f)

/-- The weights whole, whichever view names them. -/
theorem whole_back (c : Dev nD) (off : Fin 3 → ℕ) (h : ∀ a, off a + S1x4096x1024.size a ≤ S1x4096x12288.size a)
    (f : (⟨S1x4096x12288, .f32⟩ : BufTy).Contents (Elt F)) :
    ((colM off h).view.loc c.tc ↦{fullShare} f : sProp 𝕄) ⊢ (wM.view.loc c.tc ↦{fullShare} f) := .rfl

/-- A buffer's contents after it is overwritten whole. -/
theorem fetched_eq (g w : S4096x1024.Idx → Elt F .f32) (L : List (View.Piece (Elt F) S4096x1024 .f32)) :
    sM.view.writes (Elt F) g (⟨Rect.whole S4096x1024, w⟩ :: L) = w := by
  have h : sM.view.read (Elt F) (sM.view.writes (Elt F) g (⟨Rect.whole S4096x1024, w⟩ :: L)) = w := by
    funext y
    have h := View.read_writes_cons_emb sM.view g (Rect.whole S4096x1024) w L y
    rwa [Rect.emb_whole_apply] at h
  generalize sM.view.writes (Elt F) g (⟨Rect.whole S4096x1024, w⟩ :: L) = z at h
  exact h

/-- A flight the executor starts, as the invariant names it. -/
theorem fly_of (c : Dev nD) (off : Fin 3 → ℕ) (h : ∀ a, off a + S1x4096x1024.size a ≤ S1x4096x12288.size a)
    (f : (⟨S1x4096x12288, .f32⟩ : BufTy).Contents (Elt F)) (g w : S4096x1024.Idx → Elt F .f32) (L : List (View.Piece (Elt F) S4096x1024 .f32)) (hw : w = colV off h f) :
    (Transfers.Flight (countersEmb (U := Pipeline.UD sig nD τ)) c.tc (SemLoc.dma ⟨4, by decide⟩) (default : Unit) 524288
    iprop((sM.view.loc c.tc ↦[sM.view.set]{fullShare} sM.view.writes (Elt F) g (⟨Rect.whole S4096x1024, w⟩ :: L))
      ∗ (wM.view.loc c.tc ↦[(colM off h).view.set]{fullShare} f)) : sProp 𝕄) ⊢ fly c off h f := by
  unfold fly

  rw [fetched_eq, hw]
  exact .rfl

/-- A buffer loaded whole after it is fetched whole. -/
theorem first_load [∀ e, Nonempty (Elt F e)] (w : S4096x1024.Idx → Elt F .f32) (inb : ∀ a, (![0, 0] : Fin 2 → ℕ) a + S4096x1024.size a ≤ S4096x1024.size a) :
    sM.view.readCov [⟨Rect.whole S4096x1024, w⟩] (Rect.unit ![0, 0] S4096x1024.size inb).toLoadRect = w :=
  (View.readAt_full sM.view _ inb).trans (View.read_writes_whole sM.view _ w)

/-- A buffer stored whole. -/
theorem stored {S : Shape} {e : EltTy} (c : Dev nD) (M : Memref sig .tc .vmem S e) (D : M.view.ty.Contents (Elt F)) (off : Fin S.rank → ℕ)
    (inb : ∀ a, off a + S.size a ≤ S.size a) (w w' : S.Idx → Elt F e) (h : w = w') :
    (M.view.loc c.tc ↦[M.view.set]{fullShare} M.view.writes (Elt F) D [⟨Rect.unit off S.size inb, w⟩] : sProp 𝕄)
      ⊢ iprop(∃ f, ⌜M.view.read (Elt F) f = w'⌝ ∗ (M.view.loc c.tc ↦[M.view.set]{fullShare} f)) := by
  iintro H
  iexists _
  isplitr
  · ipureintro; exact (View.read_writes_full M.view D inb w []).trans h
  · iexact H

theorem inb4 : ∀ a, (![0, 0] : Fin 2 → ℕ) a + S1024x1024.size a ≤ S1024x1024.size a := by decide
theorem inbB : ∀ a, (![0, 0] : Fin 2 → ℕ) a + S4096x1024.size a ≤ S4096x1024.size a := by decide

variable (c : Dev nD) (i : grid0.Coords) (arg2 : Memref sig .tc .vmem S1024x4096 .bf16) (harg2 : arg2.IsWhole)
  (arg4 : Memref sig .tc .vmem S1024x1024 .bf16) (harg4 : arg4.IsWhole)

abbrev body : Prog (TpuEff nD τ sig (Elt F) Λ₀ .tc) PUnit :=
  cc0_matmul_cast i arg2 harg2 wM (Memref.isWhole_whole _) arg4 harg4 sM (Memref.isWhole_whole _) bM (Memref.isWhole_whole _) cc0_scratch2

/-- A later row block: the column block is already narrowed. -/
theorem mid_run (h1 : ¬ k0_cond1 i = 1#1) (x : S1024x4096.Idx → Elt F .bf16) (w : S4096x1024.Idx → Elt F .bf16)
    (K : PUnit → sProp 𝕄) :
    iprop(owns c.tc arg2 fullShare x ∗ owns c.tc bM fullShare w ∗ (∃ d, owns c.tc arg4 fullShare d)
      ∗ ((owns c.tc arg2 fullShare x ∗ owns c.tc bM fullShare w ∗ owns c.tc arg4 fullShare (outv x w)) -∗ K ⟨⟩))
    ⊢ wp frame (wpE (defs₀ (F := F)) Variants.none c.tc none) Set.univ (body i arg2 harg2 arg4 harg4) K := by
  unfold body cc0_matmul_cast
  rw [dif_neg h1]
  unfold owns
  iintro ⟨⟨%X, %eX, HX⟩, ⟨%B, %eB, HB⟩, ⟨%d, %D, -, HD⟩, Hk⟩
  sl_exec
  have e : mid_run.sl.v6 c arg2 X B = outv x w :=
    congrArg₂ (outv (F := F)) ((View.readAt_full arg2.view X _).trans eX) ((View.readAt_full bM.view B _).trans eB)
  sl_step
  iapply Hk
  isplitl [HX]
  · iexists X; isplitr; · ipureintro; exact eX
    iexact HX
  isplitl [HB]
  · iexists B; isplitr; · ipureintro; exact eB
    iexact HB
  iapply (stored c arg4 D ![0, 0] inb4 _ _ e)
  iexact HD

theorem inb0 : ∀ a, (![0, 0, 0] : Fin 3 → ℕ) a + S1x4096x1024.size a ≤ S1x4096x12288.size a := by decide

/-- A later column block: the flight is awaited, narrowed, and the next one started. -/
theorem next_run (h1 : k0_cond1 i = 1#1) (h2 : ¬ k0_cond2 i = 1#1) (h3 : k0_cond3 i = 1#1) (x : S1024x4096.Idx → Elt F .bf16) (off h f)
    (W : Waits sig Unit) (K : PUnit → sProp 𝕄) :
    iprop(owns c.tc arg2 fullShare x ∗ (∃ w, owns c.tc bM fullShare w) ∗ (∃ d, owns c.tc arg4 fullShare d)
      ∗ fly c off h f ∗ rest c off h f ∗ owes c.tc 0 W
      ∗ ((owns c.tc arg2 fullShare x ∗ owns c.tc bM fullShare (narrow (colV off h f)) ∗ owns c.tc arg4 fullShare (outv x (narrow (colV off h f)))
        ∗ fly c (k0_off2 i) (Facts₀.k0_off2_inb i h1 h3) f ∗ rest c (k0_off2 i) (Facts₀.k0_off2_inb i h1 h3) f ∗ (∃ W', owes c.tc 0 W')) -∗ K ⟨⟩))
    ⊢ wp frame (wpE (defs₀ (F := F)) Variants.none c.tc none) Set.univ (body i arg2 harg2 arg4 harg4) K := by
  unfold body cc0_matmul_cast
  rw [dif_pos h1, dif_neg h2, dif_pos h3]
  unfold owns fly rest
  iintro ⟨⟨%X, %eX, HX⟩, ⟨%wd, %B, -, HB⟩, ⟨%d, %D, -, HD⟩, HF, HR, HW, Hk⟩
  sl_exec
  ihave HR := (whole_back c off h f) $$ HR
  sl_exec
  have e1 : next_run.sl.v19 off h f = narrow (colV off h f) := by
    delta next_run.sl.v19 next_run.sl.v16
    exact congrArg (narrow (F := F)) (View.readAt_full sM.view (colV off h f) _)
  have e2 : next_run.sl.v4 c off h f = narrow (colV off h f) := by
    exact (View.readCov_full bM.view _ _ _ _).trans e1
  have e : next_run.sl.v6 c arg2 off h f X = outv x (narrow (colV off h f)) :=
    congrArg₂ (outv (F := F)) ((View.readAt_full arg2.view X _).trans eX) e2
  sl_step
  ihave HF := (fly_of c (k0_off2 i) (Facts₀.k0_off2_inb i h1 h3) f (colV off h f) (next_run.sl.dma0 i h1 h3 f) [] rfl) $$ HF
  iapply Hk
  isplitl [HX]
  · iexists X; isplitr; · ipureintro; exact eX
    iexact HX
  isplitl [HB]
  · iapply (stored c bM B ![0, 0] inbB _ _ e1)
    iexact HB
  isplitl [HD]
  · iapply (stored c arg4 D ![0, 0] inb4 _ _ e)
    iexact HD
  iframe HF HR
  iexists _; iexact HW

/-- The last column block: the flight is awaited and narrowed. -/
theorem last_run (h1 : k0_cond1 i = 1#1) (h2 : ¬ k0_cond2 i = 1#1) (h3 : ¬ k0_cond3 i = 1#1) (x : S1024x4096.Idx → Elt F .bf16) (off h f)
    (W : Waits sig Unit) (K : PUnit → sProp 𝕄) :
    iprop(owns c.tc arg2 fullShare x ∗ (∃ w, owns c.tc bM fullShare w) ∗ (∃ d, owns c.tc arg4 fullShare d)
      ∗ fly c off h f ∗ rest c off h f ∗ owes c.tc 0 W
      ∗ ((owns c.tc arg2 fullShare x ∗ owns c.tc bM fullShare (narrow (colV off h f)) ∗ owns c.tc arg4 fullShare (outv x (narrow (colV off h f)))
        ∗ semVal (c.tc, SemLoc.dma 4) 0 ∗ (sM.view.loc c.tc ↦[sM.view.set]{fullShare} colV off h f) ∗ (wM.view.loc c.tc ↦{fullShare} f) ∗ (∃ W', owes c.tc 0 W')) -∗ K ⟨⟩))
    ⊢ wp frame (wpE (defs₀ (F := F)) Variants.none c.tc none) Set.univ (body i arg2 harg2 arg4 harg4) K := by
  unfold body cc0_matmul_cast
  rw [dif_pos h1, dif_neg h2, dif_neg h3]
  unfold owns fly rest
  iintro ⟨⟨%X, %eX, HX⟩, ⟨%wd, %B, -, HB⟩, ⟨%d, %D, -, HD⟩, HF, HR, HW, Hk⟩
  sl_exec
  ihave HR := (whole_back c off h f) $$ HR
  sl_exec
  have e1 : last_run.sl.v19 off h f = narrow (colV off h f) := by
    delta last_run.sl.v19 last_run.sl.v16
    exact congrArg (narrow (F := F)) (View.readAt_full sM.view (colV off h f) _)
  have e2 : last_run.sl.v4 c off h f = narrow (colV off h f) := by
    exact (View.readCov_full bM.view _ _ _ _).trans e1
  have e : last_run.sl.v6 c arg2 off h f X = outv x (narrow (colV off h f)) :=
    congrArg₂ (outv (F := F)) ((View.readAt_full arg2.view X _).trans eX) e2
  sl_step
  iapply Hk
  isplitl [HX]
  · iexists X; isplitr; · ipureintro; exact eX
    iexact HX
  isplitl [HB]
  · iapply (stored c bM B ![0, 0] inbB _ _ e1)
    iexact HB
  isplitl [HD]
  · iapply (stored c arg4 D ![0, 0] inb4 _ _ e)
    iexact HD
  iframe HF HF_dst HR
  iexists _; iexact HW

/-- The first point: the first column block is fetched, narrowed, and the second one's flight started. -/
theorem first_run (h1 : k0_cond1 i = 1#1) (h2 : k0_cond2 i = 1#1) (h3 : k0_cond3 i = 1#1) (x : S1024x4096.Idx → Elt F .bf16)
    (f : (⟨S1x4096x12288, .f32⟩ : BufTy).Contents (Elt F))
    (g : S4096x1024.Idx → Elt F .f32) (W : Waits sig Unit) (K : PUnit → sProp 𝕄) :
    iprop(owns c.tc arg2 fullShare x ∗ (∃ w, owns c.tc bM fullShare w) ∗ (∃ d, owns c.tc arg4 fullShare d)
      ∗ semVal (c.tc, SemLoc.dma 4) 0 ∗ (sM.view.loc c.tc ↦[sM.view.set]{fullShare} g) ∗ (wM.view.loc c.tc ↦{fullShare} f) ∗ owes c.tc 0 W
      ∗ ((owns c.tc arg2 fullShare x ∗ owns c.tc bM fullShare (narrow (colV ![0, 0, 0] inb0 f)) ∗ owns c.tc arg4 fullShare (outv x (narrow (colV ![0, 0, 0] inb0 f)))
        ∗ fly c (k0_off2 i) (Facts₀.k0_off2_inb i h1 h3) f ∗ rest c (k0_off2 i) (Facts₀.k0_off2_inb i h1 h3) f ∗ (∃ W', owes c.tc 0 W')) -∗ K ⟨⟩))
    ⊢ wp frame (wpE (defs₀ (F := F)) Variants.none c.tc none) Set.univ (body i arg2 harg2 arg4 harg4) K := by
  unfold body cc0_matmul_cast
  rw [dif_pos h1, dif_pos h2, dif_pos h3]
  unfold owns fly rest
  iintro ⟨⟨%X, %eX, HX⟩, ⟨%wd, %B, -, HB⟩, ⟨%d, %D, -, HD⟩, HF, HS, HR, HW, Hk⟩
  sl_exec
  have e1 : first_run.sl.v19 f = narrow (colV ![0, 0, 0] inb0 f) := by
    delta first_run.sl.v19 first_run.sl.v16
    refine congrArg (narrow (F := F)) ?_
    delta first_run.sl.v15
    exact (first_load _ _).trans rfl
  have e2 : first_run.sl.v4 c f = narrow (colV ![0, 0, 0] inb0 f) := by
    exact (View.readCov_full bM.view _ _ _ _).trans e1
  have e : first_run.sl.v6 c arg2 f X = outv x (narrow (colV ![0, 0, 0] inb0 f)) :=
    congrArg₂ (outv (F := F)) ((View.readAt_full arg2.view X _).trans eX) e2
  sl_step
  ihave HF := (fly_of c (k0_off2 i) (Facts₀.k0_off2_inb i h1 h3) f g (first_run.sl.dma3 i h1 h3 f) [⟨Rect.whole S4096x1024, first_run.sl.dma0 f⟩] rfl) $$ HF
  iapply Hk
  isplitl [HX]
  · iexists X; isplitr; · ipureintro; exact eX
    iexact HX
  isplitl [HB]
  · iapply (stored c bM B ![0, 0] inbB _ _ e1)
    iexact HB
  isplitl [HD]
  · iapply (stored c arg4 D ![0, 0] inb4 _ _ e)
    iexact HD
  iframe HF HR
  iexists _; iexact HW

end Cert.Kernel6Ideal.Nin

end
-- ==== Proof.NinLaunch.lean ====
/-
  The neighbourhood mixer's projection: what holds between points, the body at every point, the run of the program.
-/
module

public import proofs.«01_k».proof.Proof.NinBody
public import Idealize.ShloMosaic.Adequacy
public import Idealize.ShloMosaic.Init

@[expose] public section

set_option maxRecDepth 16384

noncomputable section

namespace Cert.Kernel6Ideal.Nin

open Cert.Kernel6Ideal Cert.Kernel6Ideal.Gen
open Idealize.ShloMosaic.Pipeline (Dat BodyObligation)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A column block's place in the weights. -/
def offs (j : ℕ) : Fin 3 → ℕ := ![0, 0, 1024 * j]

theorem offs_inb {j : ℕ} (h : j < 12) : ∀ a, offs j a + S1x4096x1024.size a ≤ S1x4096x12288.size a := by
  intro a
  fin_cases a
  · show 0 + 1 ≤ 1; omega
  · show 0 + 4096 ≤ 4096; omega
  · show 1024 * j + 1024 ≤ 12288; omega

/-- Column block `j`, narrowed. -/
def wblk (f : (⟨S1x4096x12288, .f32⟩ : BufTy).Contents (Elt F)) (j : Fin 12) : S4096x1024.Idx → Elt F .bf16 :=
  narrow (colV (offs j.val) (offs_inb j.isLt) f)

theorem wblk_of (f : (⟨S1x4096x12288, .f32⟩ : BufTy).Contents (Elt F)) (j : Fin 12) (off h) (e : off = offs j.val) :
    narrow (colV off h f) = wblk f j := by
  subst e; rfl

/-- The column block of a point. -/
def jn (n : ℕ) : Fin 12 := ⟨n / 16 % 12, by omega⟩

/-- No flight: the counter at zero, the scratch at anything, the weights whole. -/
def still (c : Dev nD) (f : (⟨S1x4096x12288, .f32⟩ : BufTy).Contents (Elt F)) : sProp 𝕄 :=
  iprop(semVal (c.tc, SemLoc.dma 4) 0 ∗ (∃ g, (sM.view.loc c.tc ↦[sM.view.set]{fullShare} g))
    ∗ (wM.view.loc c.tc ↦{fullShare} f))

/-- Column block `j` in flight, if there is one. -/
def flying (c : Dev nD) (j : ℕ) (f : (⟨S1x4096x12288, .f32⟩ : BufTy).Contents (Elt F)) : sProp 𝕄 :=
  if h : j < 12 then iprop(fly c (offs j) (offs_inb h) f ∗ rest c (offs j) (offs_inb h) f) else still c f

/-- The transfers before point `n`. -/
def state (c : Dev nD) (n : ℕ) (f : (⟨S1x4096x12288, .f32⟩ : BufTy).Contents (Elt F)) : sProp 𝕄 :=
  if n = 0 then still c f else flying c ((n - 1) / 16 + 1) f

theorem state_zero (c : Dev nD) {n : ℕ} (h : n = 0) (f : (⟨S1x4096x12288, .f32⟩ : BufTy).Contents (Elt F)) :
    (state c n f : sProp 𝕄) = still c f := if_pos h

theorem state_pos (c : Dev nD) {n j : ℕ} (h : n ≠ 0) (e : (n - 1) / 16 + 1 = j) (f : (⟨S1x4096x12288, .f32⟩ : BufTy).Contents (Elt F)) :
    (state c n f : sProp 𝕄) = flying c j f := by subst e; exact if_neg h

theorem flying_eq (c : Dev nD) {j : ℕ} (hj : j < 12) (f : (⟨S1x4096x12288, .f32⟩ : BufTy).Contents (Elt F)) :
    (flying c j f : sProp 𝕄) = iprop(fly c (offs j) (offs_inb hj) f ∗ rest c (offs j) (offs_inb hj) f) := dif_pos hj

theorem flying_end (c : Dev nD) {j : ℕ} (hj : ¬ j < 12) (f : (⟨S1x4096x12288, .f32⟩ : BufTy).Contents (Elt F)) :
    (flying c j f : sProp 𝕄) = still c f := dif_neg hj

theorem flying_of (c : Dev nD) {j : ℕ} (hj : j < 12) (f : (⟨S1x4096x12288, .f32⟩ : BufTy).Contents (Elt F)) (off h) (e : off = offs j) :
    (iprop(fly c off h f ∗ rest c off h f) : sProp 𝕄) ⊢ flying c j f := by
  subst e
  unfold flying
  rw [dif_pos hj]

/-- Between points: the column block narrowed once its first row block has run, the transfers, the generator. -/
def Φc (c : Dev nD) (n : ℕ) : sProp 𝕄 :=
  iprop((∃ w, ⌜n % 16 ≠ 0 → w = wblk (V m c main_arg1) (jn n)⌝ ∗ owns c.tc bM fullShare w)
    ∗ state c n (V m c main_arg1) ∗ ∃ r, prngReg c r)

/-- The block of the output a point leaves. -/
def outBlk (c : Dev nD) (t : Fin cfg0.N) : S1024x1024.Idx → Elt F .bf16 := outv (iblk m c 0 t) (wblk (V m c main_arg1) (jn t.val))

/-- The data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outBlk m c t
  Φ t := Φc m c t.val
  q _ := fullShare
  owed _ := 0

theorem is1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem is2 : ∀ t : Fin cfg0.N, k0_cond2 (grid0.coords t) = 1#1 ↔ t.val / 16 = 0 :=
  (by decide +kernel : ∀ t : Fin grid0.N, k0_cond2 (grid0.coords t) = 1#1 ↔ t.val / 16 = 0)
theorem is3 : ∀ t : Fin cfg0.N, k0_cond3 (grid0.coords t) = 1#1 ↔ t.val / 16 + 1 < 12 :=
  (by decide +kernel : ∀ t : Fin grid0.N, k0_cond3 (grid0.coords t) = 1#1 ↔ t.val / 16 + 1 < 12)
theorem coord0 : ∀ t : Fin cfg0.N, (grid0.coords t 0).val = t.val / 16 :=
  (by decide +kernel : ∀ t : Fin grid0.N, (grid0.coords t 0).val = t.val / 16)

theorem off2 (t : Fin cfg0.N) : k0_off2 (grid0.coords t) = offs (t.val / 16 + 1) := by
  rw [k0_off2_eq, coord0 t]; unfold offs
  funext a
  fin_cases a
  · rfl
  · rfl
  · show 1024 * (t.val / 16) + 1024 = 1024 * (t.val / 16 + 1); omega

theorem defs₀_row (t : Fin cfg0.N) : (defs₀ (F := F)) .tc cfg0.body (cfg0.bodyArgs t (cfg0.slots t)) = bodyAt0 t := by
  unfold defs₀; rw [Defs.onTc_tc]

/-- The body at a point, from the buffers to the buffers. -/
theorem step (c : Dev nD) (t : Fin cfg0.N) (W : Waits sig Unit) (K : PUnit → sProp 𝕄) :
    iprop(Φc m c t.val ∗ owes c.tc 0 W ∗ owns c.tc (win0_0.stage (cfg0.slots t 0)) fullShare (iblk m c 0 t)
      ∗ (∃ d, owns c.tc (win0_1.stage (cfg0.slots t 1)) fullShare d)
      ∗ ((Φc m c (t.val + 1) ∗ (∃ W', owes c.tc 0 W') ∗ owns c.tc (win0_0.stage (cfg0.slots t 0)) fullShare (iblk m c 0 t)
        ∗ owns c.tc (win0_1.stage (cfg0.slots t 1)) fullShare (outBlk m c t)) -∗ K ⟨⟩))
    ⊢ wp frame (wpE (defs₀ (F := F)) Variants.none c.tc none) Set.univ (bodyAt0 t) K := by
  have ht : t.val < 192 := t.isLt
  unfold Φc outBlk
  by_cases h1 : t.val % 16 = 0
  · by_cases h2 : t.val / 16 = 0
    · have h0 : t.val = 0 := by omega
      have R := fun g => (first_run c (grid0.coords t) _ (hstage0_0 ((cfg0.slots t 0).cast nbuf0_0)) _ (hstage0_1 ((cfg0.slots t 1).cast nbuf0_1)) ((is1 t).2 h1) ((is2 t).2 h2) ((is3 t).2 (by omega)) (iblk m c 0 t) (V m c main_arg1) g W K)
      rw [wblk_of (V m c main_arg1) (jn t.val) ![0, 0, 0] inb0 (by rw [h0]; rfl)] at R
      rw [state_zero c h0, state_pos c (Nat.succ_ne_zero _) (show (t.val + 1 - 1) / 16 + 1 = t.val / 16 + 1 from rfl)]
      unfold still
      iintro ⟨⟨⟨%w, %hw, HB⟩, ⟨HQ, ⟨%g, HS⟩, HR⟩, Hg⟩, HW, HX, HD, Hk⟩
      iapply (R g)
      iframe HX
      isplitl [HB]; · iexists w; iexact HB
      iframe HD HQ HS HR HW
      iintro ⟨HX, HB, HD, HF, HR, HW⟩
      iapply Hk
      isplitl [HB HF HR Hg]
      · isplitl [HB]
        · iexists _; isplitr; swap; · iexact HB
          ipureintro; intro _; rw [h0]; rfl
        isplitl [HF HR]
        · iapply (flying_of c (j := t.val / 16 + 1) (by omega) (V m c main_arg1) _ _ (off2 t))
          iframe HF
          iexact HR
        iexact Hg
      iframe HW HX
      iexact HD
    · have hn : t.val ≠ 0 := by omega
      have hj : t.val / 16 < 12 := by omega
      have hw0 : narrow (colV (offs (t.val / 16)) (offs_inb hj) (V m c main_arg1)) = wblk (V m c main_arg1) (jn t.val) :=
        wblk_of _ _ _ _ (by unfold jn; show _ = offs (t.val / 16 % 12); rw [Nat.mod_eq_of_lt hj])
      have hw1 : wblk (V m c main_arg1) (jn t.val) = wblk (V m c main_arg1) (jn (t.val + 1)) := by
        rw [show jn (t.val + 1) = jn t.val from Fin.ext (by show (t.val + 1) / 16 % 12 = t.val / 16 % 12; omega)]
      rw [state_pos c hn (show (t.val - 1) / 16 + 1 = t.val / 16 from by omega), flying_eq c hj, state_pos c (Nat.succ_ne_zero _) (show (t.val + 1 - 1) / 16 + 1 = t.val / 16 + 1 from rfl)]
      by_cases h3 : t.val / 16 + 1 < 12
      · have R := (next_run c (grid0.coords t) _ (hstage0_0 ((cfg0.slots t 0).cast nbuf0_0)) _ (hstage0_1 ((cfg0.slots t 1).cast nbuf0_1)) ((is1 t).2 h1) (fun h => h2 ((is2 t).1 h)) ((is3 t).2 h3) (iblk m c 0 t) _ (offs_inb hj) (V m c main_arg1) W K)
        rw [hw0] at R
        iintro ⟨⟨⟨%w, %hw, HB⟩, ⟨HF, HR⟩, Hg⟩, HW, HX, HD, Hk⟩
        iapply R
        iframe HX
        isplitl [HB]; · iexists w; iexact HB
        iframe HD HF HR HW
        iintro ⟨HX, HB, HD, HF, HR, HW⟩
        iapply Hk
        isplitl [HB HF HR Hg]
        · isplitl [HB]
          · iexists _; isplitr; swap; · iexact HB
            ipureintro; intro _; exact hw1
          isplitl [HF HR]
          · iapply (flying_of c (j := t.val / 16 + 1) (by omega) (V m c main_arg1) _ _ (off2 t))
            iframe HF
            iexact HR
          iexact Hg
        iframe HW HX
        iexact HD
      · rw [flying_end c h3]
        unfold still
        have R := (last_run c (grid0.coords t) _ (hstage0_0 ((cfg0.slots t 0).cast nbuf0_0)) _ (hstage0_1 ((cfg0.slots t 1).cast nbuf0_1)) ((is1 t).2 h1) (fun h => h2 ((is2 t).1 h)) (fun h => h3 ((is3 t).1 h)) (iblk m c 0 t) _ (offs_inb hj) (V m c main_arg1) W K)
        rw [hw0] at R
        iintro ⟨⟨⟨%w, %hw, HB⟩, ⟨HF, HR⟩, Hg⟩, HW, HX, HD, Hk⟩
        iapply R
        iframe HX
        isplitl [HB]; · iexists w; iexact HB
        iframe HD HF HR HW
        iintro ⟨HX, HB, HD, HQ, HS, HR, HW⟩
        iapply Hk
        isplitl [HB HQ HS HR Hg]
        · isplitl [HB]
          · iexists _; isplitr; swap; · iexact HB
            ipureintro; intro _; exact hw1
          isplitl [HQ HS HR]
          · isplitl [HQ]; · iexact HQ
            isplitl [HS]; · iexists _; iexact HS
            iexact HR
          iexact Hg
        iframe HW HX
        iexact HD
  · rw [state_pos c (show t.val ≠ 0 by omega) rfl, state_pos c (Nat.succ_ne_zero _) (show (t.val + 1 - 1) / 16 + 1 = (t.val - 1) / 16 + 1 from by omega)]
    iintro ⟨⟨⟨%w, %hw, HB⟩, HS, Hg⟩, HW, HX, HD, Hk⟩
    have hw' := hw h1
    subst hw'
    iapply (mid_run c (grid0.coords t) _ (hstage0_0 ((cfg0.slots t 0).cast nbuf0_0)) _ (hstage0_1 ((cfg0.slots t 1).cast nbuf0_1)) (fun h => h1 ((is1 t).1 h)) (iblk m c 0 t) (wblk (V m c main_arg1) (jn t.val)) K)
    iframe HX HB HD
    iintro ⟨HX, HB, HD⟩
    iapply Hk
    isplitl [HB HS Hg]
    · isplitl [HB]
      · iexists _; isplitr; swap; · iexact HB
        ipureintro; intro h
        rw [show jn (t.val + 1) = jn t.val from Fin.ext (by show (t.val + 1) / 16 % 12 = t.val / 16 % 12; omega)]
      isplitl [HS]
      · iexact HS
      iexact Hg
    isplitl [HW]; · iexists W; iexact HW
    iframe HX
    iexact HD

theorem bef0 (c : Dev nD) (t : Fin cfg0.N) (d) : (dats m 0 c).before 0 t d = iblk m c 0 t :=
  ((dats m 0 c).before_in_eq_fetched 0 rfl (fun _ => rfl) (fun _ _ _ => rfl) (fun t => by unfold Dat.blockOf; rfl) t d).trans
    (by unfold Dat.fetched Dat.blockOf; rfl)

/-- The body's triple at a point. -/
theorem sound_body (c : Dev nD) (t : Fin cfg0.N) :
    (iprop(Φc m c t.val ∗ (dats m 0 c).owesAt () t.castSucc
      ∗ (∃ d, owns c.tc (win0_0.stage (cfg0.slots t 0)) fullShare ((dats m 0 c).before 0 t d))
      ∗ (∃ d, owns c.tc (win0_1.stage (cfg0.slots t 1)) fullShare ((dats m 0 c).before 1 t d))) : sProp 𝕄)
    ⊢ wp frame (wpE (defs₀ (F := F)) Variants.none c.tc none) Set.univ (bodyAt0 t) (fun _ =>
      iprop(Φc m c (t.val + 1) ∗ (dats m 0 c).owesAt () t.succ
      ∗ owns c.tc (win0_0.stage (cfg0.slots t 0)) fullShare (iblk m c 0 t)
      ∗ owns c.tc (win0_1.stage (cfg0.slots t 1)) fullShare (outBlk m c t))) := by
  simp only [bef0]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩⟩
  iapply (step m c t W _)
  iframe HP HW H0
  isplitl [H1]; · iexists _; iexact H1
  iintro ⟨HP, ⟨%W', HW⟩, H0, H1⟩
  iframe HP
  isplitl [HW]
  · iexists W'
    isplitr
    · ipureintro; exact fun _ _ => Or.inl trivial
    iexact HW
  iframe H0
  iexact H1

/-- The library's obligation of the body. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- The kernel's own counter and the weights it addresses itself. -/
def osem : Fin 1 → SemLoc sig := fun _ => SemLoc.dma 4
theorem osem_facts : Pipeline.OwnSemFacts spec0 osem := by decide
def held : Finset (Ref sig .tc) := {main_arg1}
theorem held_sub : held ⊆ Pipeline.restRefs sig spec0 := by decide

theorem given_eq (c : Dev nD) :
    (Pipeline.ΦD osem spec0 held (V m) c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
        ∗ (∃ r, prngReg c r) ∗ semVal (c.tc, SemLoc.dma 4) 0 ∗ (((c : Thread nD τ).loc main_arg1) ↦{fullShare} V m c main_arg1)) := by
  rw [Pipeline.ΦD_eq, scopedRest0_eq, Pipeline.ownSems0_eq_of_list c osem [0] (by decide) (by decide),
    BI.bigSep_eq_bigSepL_of_eq (S := held) [main_arg1] (by decide) (by decide)]
  rfl

theorem Φ_first (c : Dev nD) : (Pipeline.ΦD osem spec0 held (V m) c : sProp 𝕄) ⊢ Φc m c 0 := by
  rw [given_eq]
  unfold Φc
  rw [state_zero c rfl]
  unfold still
  simp only [owns_whole, Memref.view_whole, View.set_whole]
  iintro ⟨⟨⟨%f, S0⟩, ⟨%g, S1⟩⟩, Hg, HQ, HR⟩
  isplitl [S1]
  · iexists g
    isplitr
    · ipureintro; intro h; exact absurd rfl h
    · iexact S1
  isplitl [S0 HQ HR]
  · isplitl [HQ]; · iexact HQ
    isplitl [S0]; · iexists f; iexact S0
    iexact HR
  iexact Hg

theorem Φ_last (c : Dev nD) : (Φc m c 192 : sProp 𝕄) ⊢ Pipeline.ΦD osem spec0 held (V m) c := by
  rw [given_eq]
  unfold Φc
  rw [state_pos c (by decide) (show (192 - 1) / 16 + 1 = 12 from rfl), flying_end c (by decide)]
  unfold still
  simp only [owns_whole, Memref.view_whole, View.set_whole]
  iintro ⟨⟨%g, -, S1⟩, ⟨HQ, ⟨%f, S0⟩, HR⟩, Hg⟩
  isplitl [S0 S1]
  · isplitl [S0]; · iexists f; iexact S0
    iexists g; iexact S1
  iframe Hg HQ
  iexact HR

theorem hmain₂ : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- The run of the whole program. -/
theorem run : θ_run defs (onTc (τ := τ) (main (F := F))) ⟨m, fun _ => 0, ρ⟩
    (fun r => Pipeline.FramePost cfgs (dats m) 0 (V m) r ∧ r.2.sem = fun _ => 0) :=
  Pipeline.θ_run_frame_dma (Q' := _) cfgs (dats m) (0 : Fin 1) launch0 osem defs₀ Variants.none osem_facts held held_sub m ρ main
    (hbody := fun c => (body_obligation m c).loose) (hshare := fun c => (dats m 0 c).share_full fun _ => rfl)
    (howed := fun _ _ => rfl) (V := V m) (hmain := hmain₂ m) (hA := fun _ _ => rfl)
    (hin := fun c => Φ_first m c) (hout := fun c => Φ_last m c)

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 0).trans (((dats m 0 c).arrAt_in 0 rfl _).trans (V_main_arg0 m c)),
      ((h.1 c).2 main_arg1 (Pipeline.mem_restRefs_of main_arg1 (by decide) (by decide))).trans (V_main_arg1 m c)⟩, h.2⟩)
    (run m ρ)

end Cert.Kernel6Ideal.Nin

end
-- ==== Proof.Frames6.lean ====
/-
  The frames of the neighbourhood projection's three programs.
-/
module

public import proofs.«01_k».proof.Defs
public import proofs.«01_k».proof.Proof.NinLaunch
public import proofs.«01_k».proof.Proof.Gen.Kernel6
public import proofs.«01_k».proof.Proof.Gen.Reference6Ideal.Run
public import Idealize.ShloMosaic.Lib.Quiescent

@[expose] public section

noncomputable section

namespace Cert.Proof

open Idealize.ShloMosaic Idealize.ShloMosaic.TcCoe Idealize.SL.Sem

/-- The two body tables are one text. -/
theorem table_eq6 : Cert.Kernel6.defs₀ (F := Bits) = Cert.Kernel6Ideal.defs₀ (F := Bits) := by
  unfold Cert.Kernel6.defs₀ Cert.Kernel6Ideal.defs₀
  refine congrArg Defs.onTc (funext fun l => funext fun a => ?_)
  match l, a with
  | ⟨0, _⟩, (t, s) => rfl

theorem defs_eq6 : Cert.Kernel6.defs (F := Bits) = Cert.Kernel6Ideal.defs (F := Bits) :=
  congrArg (Pipeline.defs Cert.Kernel6Ideal.pcfgs) table_eq6

theorem frame_p6 : Cert.quiescent_Kernel6 := fun m ρ _ => by
  have h := Cert.Kernel6Ideal.Nin.quiescent (F := Bits) m ρ
  rw [← defs_eq6] at h
  exact h

theorem frame_pi6 : Cert.quiescent_Kernel6Ideal := fun m ρ _ => Cert.Kernel6Ideal.Nin.quiescent m ρ

theorem frame_ri6 : Cert.quiescent_Reference6Ideal := fun m ρ _ =>
  (θ_run Cert.Reference6Ideal.defs _ _).mono
    (fun r h => ⟨fun c => (h c).2, sem_eq_zero_of_no_sems (by decide) r.2⟩) (Cert.Reference6Ideal.Value.run (F := Ideal) m ρ)

theorem preserves6 : Cert.preserves_Kernel6_Kernel6Ideal := trivial

end Cert.Proof

end
-- ==== Proof.DinBody.lean ====
/-
  The differential mixer's projection, by heads: the body at a grid point.
-/
module

public import proofs.«01_k».proof.Proof.Gen.Kernel7Ideal.Frame
public import Idealize.ShloMosaic.Lib.Pipeline.Routed
public import Idealize.ShloMosaic.Lib.Tactic
public import Idealize.ShloMosaic.Lib.VecWindow
public import Idealize.ShloMosaic.Lib.ValueLayout
public import Idealize.ShloMosaic.Lib.Pipeline.ValueKit

@[expose] public section

set_option maxRecDepth 16384

noncomputable section

namespace Cert.Kernel7Ideal.Din

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The wfours, and the two scratch buffers: a column block as fetched and as narrowed. -/
abbrev wM : Memref sig .tc .hbm S1x4096x12288 .f32 := Memref.whole main_arg1
abbrev sM : Memref sig .tc .vmem S4096x1024 .f32 := Memref.whole cc0_scratch0
abbrev bM : Memref sig .tc .vmem S4096x1024 .bf16 := Memref.whole cc0_scratch1

/-- A column block of the wfours. -/
abbrev colM (off : Fin 3 → ℕ) (h : ∀ a, off a + S1x4096x1024.size a ≤ S1x4096x12288.size a) : Memref sig .tc .hbm S4096x1024 .f32 :=
  (wM.slice (Rect.unit (s := S1x4096x12288) off S1x4096x1024.size h) (fun _ => rfl)).squeeze S4096x1024 squeezes_S1x4096x1024_S4096x1024

/-- A column block's elements. -/
def colV (off : Fin 3 → ℕ) (h : ∀ a, off a + S1x4096x1024.size a ≤ S1x4096x12288.size a) (f : (⟨S1x4096x12288, .f32⟩ : BufTy).Contents (Elt F)) :
    S4096x1024.Idx → Elt F .f32 := (colM off h).view.read (Elt F) f

/-- The column block narrowed, as the scratch keeps it. -/
def narrow (g : S4096x1024.Idx → Elt F .f32) : S4096x1024.Idx → Elt F .bf16 :=
  shapeCast S4096x1024 (truncf .bf16 (g : FVec F S4096x1024 .f32) bitsLt_bf16_f32) shapeCasts_S4096x1024_S4096x1024

/-- The block of the product, its queries' columns scaled. -/
def prod (i : grid0.Coords) (x : S1024x4096.Idx → Elt F .bf16) (w : S4096x1024.Idx → Elt F .bf16) : FVec F S1024x1024 .f32 :=
  mulf (matmul dot_S1024x4096_S4096x1024_S1024x1024_1_0_0_1_n_n none (x : FVec F S1024x4096 .bf16) (w : FVec F S4096x1024 .bf16) (constant S1024x1024 .f32 0x00000000#32))
    (broadcast S1024x1024 (Scalar.select (Scalar.cmpi .slt (BitVec.ofNat 32 (i 0).val) 4#32) (Named.named κ "scale7" 0x3E0293EE#32) (Scalar.ofBits .f32 0x3F800000#32) : F .f32))

/-- The block narrowed. -/
def small (z : FVec F S1024x1024 .f32) : FVec F S1024x1024 .bf16 := truncf .bf16 z bitsLt_bf16_f32

/-- The block's columns from the `o`th on, as one head of the output's block. -/
def headv (z : FVec F S1024x1024 .f32) (o : ℕ) (h : S1024x1024.Slices ![0, o] S1024x256) : S1x1024x256.Idx → Elt F .bf16 :=
  (shapeCast S1x1024x256 (truncf .bf16 (extractStridedSlice S1024x256 ![0, o] z h) bitsLt_bf16_f32) shapeCasts_S1024x256_S1x1024x256 : FVec F S1x1024x256 .bf16)

/-- The output's block, by heads of 256 columns. -/
def byHead (z : FVec F S1024x1024 .f32) : S4x1024x256.Idx → Elt F .bf16 := fun y =>
  small z (ix2 (y 1 : Fin 1024) (⟨256 * (y 0).val + (y 2).val, by have h0 : (y 0).val < 4 := (y 0).isLt; have h2 : (y 2).val < 256 := (y 2).isLt; omega⟩ : Fin 1024))

def outv (i : grid0.Coords) (x : S1024x4096.Idx → Elt F .bf16) (w : S4096x1024.Idx → Elt F .bf16) : S4x1024x256.Idx → Elt F .bf16 := byHead (prod i x w)

theorem headv_at (z : FVec F S1024x1024 .f32) (o : ℕ) (h : S1024x1024.Slices ![0, o] S1024x256) (ho : o + 256 ≤ 1024) (a : Fin 1) (r : Fin 1024) (q : Fin 256) :
    headv z o h (ix3 a r q) = small z (ix2 r (⟨o + q.val, by omega⟩ : Fin 1024)) := by
  unfold headv
  refine (ValueIdx.shapeCast_ab_1ab_apply _ _ _ _ _).trans ?_
  refine congrArg (small z) ?_
  funext b
  refine Fin.ext ?_
  fin_cases b
  · show 0 + r.val = r.val; omega
  · rfl

/-- The four heads, as the body stores them. -/
def pieces (z : FVec F S1024x1024 .f32) : List (View.Piece (Elt F) S4x1024x256 .bf16) :=
   [⟨Rect.unit (s := S4x1024x256) ![3, 0, 0] S1x1024x256.size inb_S4x1024x256_S1x1024x256_3_0_0, headv z 768 slices_S1024x1024_o0_768_S1024x256⟩,
    ⟨Rect.unit (s := S4x1024x256) ![2, 0, 0] S1x1024x256.size inb_S4x1024x256_S1x1024x256_2_0_0, headv z 512 slices_S1024x1024_o0_512_S1024x256⟩,
    ⟨Rect.unit (s := S4x1024x256) ![1, 0, 0] S1x1024x256.size inb_S4x1024x256_S1x1024x256_1_0_0, headv z 256 slices_S1024x1024_o0_256_S1024x256⟩,
    ⟨Rect.unit (s := S4x1024x256) ![0, 0, 0] S1x1024x256.size inb_S4x1024x256_S1x1024x256_0_0_0, headv z 0 slices_S1024x1024_o0_0_S1024x256⟩]

/-- A column block in flight to its scratch. -/
abbrev fly (c : Dev nD) (off : Fin 3 → ℕ) (h : ∀ a, off a + S1x4096x1024.size a ≤ S1x4096x12288.size a)
    (f : (⟨S1x4096x12288, .f32⟩ : BufTy).Contents (Elt F)) : sProp 𝕄 :=
  Transfers.Flight (countersEmb (U := Pipeline.UD sig nD τ)) c.tc (SemLoc.dma 4) () 524288
    iprop((sM.view.loc c.tc ↦[sM.view.set]{fullShare} colV off h f)
      ∗ ((colM off h).view.loc c.tc ↦[(colM off h).view.set]{fullShare} f))

/-- The rest of the wfours, meanwhile. -/
abbrev rest (c : Dev nD) (off : Fin 3 → ℕ) (h : ∀ a, off a + S1x4096x1024.size a ≤ S1x4096x12288.size a)
    (f : (⟨S1x4096x12288, .f32⟩ : BufTy).Contents (Elt F)) : sProp 𝕄 :=
  (wM.view.loc c.tc ↦[Finset.univ \ (colM off h).view.set]{fullShare} f)

/-- The wfours whole, whichever view names them. -/
theorem whole_back (c : Dev nD) (off : Fin 3 → ℕ) (h : ∀ a, off a + S1x4096x1024.size a ≤ S1x4096x12288.size a)
    (f : (⟨S1x4096x12288, .f32⟩ : BufTy).Contents (Elt F)) :
    ((colM off h).view.loc c.tc ↦{fullShare} f : sProp 𝕄) ⊢ (wM.view.loc c.tc ↦{fullShare} f) := .rfl

/-- A buffer's contents after it is overwritten whole. -/
theorem fetched_eq (g w : S4096x1024.Idx → Elt F .f32) (L : List (View.Piece (Elt F) S4096x1024 .f32)) :
    sM.view.writes (Elt F) g (⟨Rect.whole S4096x1024, w⟩ :: L) = w := by
  have h : sM.view.read (Elt F) (sM.view.writes (Elt F) g (⟨Rect.whole S4096x1024, w⟩ :: L)) = w := by
    funext y
    have h := View.read_writes_cons_emb sM.view g (Rect.whole S4096x1024) w L y
    rwa [Rect.emb_whole_apply] at h
  generalize sM.view.writes (Elt F) g (⟨Rect.whole S4096x1024, w⟩ :: L) = z at h
  exact h

/-- A flight the executor starts, as the invariant names it. -/
theorem fly_of (c : Dev nD) (off : Fin 3 → ℕ) (h : ∀ a, off a + S1x4096x1024.size a ≤ S1x4096x12288.size a)
    (f : (⟨S1x4096x12288, .f32⟩ : BufTy).Contents (Elt F)) (g w : S4096x1024.Idx → Elt F .f32) (L : List (View.Piece (Elt F) S4096x1024 .f32)) (hw : w = colV off h f) :
    (Transfers.Flight (countersEmb (U := Pipeline.UD sig nD τ)) c.tc (SemLoc.dma ⟨4, by decide⟩) (default : Unit) 524288
    iprop((sM.view.loc c.tc ↦[sM.view.set]{fullShare} sM.view.writes (Elt F) g (⟨Rect.whole S4096x1024, w⟩ :: L))
      ∗ (wM.view.loc c.tc ↦[(colM off h).view.set]{fullShare} f)) : sProp 𝕄) ⊢ fly c off h f := by
  unfold fly

  rw [fetched_eq, hw]
  exact .rfl

/-- A buffer loaded whole after it is fetched whole. -/
theorem first_load [∀ e, Nonempty (Elt F e)] (w : S4096x1024.Idx → Elt F .f32) (inb : ∀ a, (![0, 0] : Fin 2 → ℕ) a + S4096x1024.size a ≤ S4096x1024.size a) :
    sM.view.readCov [⟨Rect.whole S4096x1024, w⟩] (Rect.unit ![0, 0] S4096x1024.size inb).toLoadRect = w :=
  (View.readAt_full sM.view _ inb).trans (View.read_writes_whole sM.view _ w)

/-- A buffer stored whole. -/
theorem stored {S : Shape} {e : EltTy} (c : Dev nD) (M : Memref sig .tc .vmem S e) (D : M.view.ty.Contents (Elt F)) (off : Fin S.rank → ℕ)
    (inb : ∀ a, off a + S.size a ≤ S.size a) (w w' : S.Idx → Elt F e) (h : w = w') :
    (M.view.loc c.tc ↦[M.view.set]{fullShare} M.view.writes (Elt F) D [⟨Rect.unit off S.size inb, w⟩] : sProp 𝕄)
      ⊢ iprop(∃ f, ⌜M.view.read (Elt F) f = w'⌝ ∗ (M.view.loc c.tc ↦[M.view.set]{fullShare} f)) := by
  iintro H
  iexists _
  isplitr
  · ipureintro; exact (View.read_writes_full M.view D inb w []).trans h
  · iexact H

theorem piece_fits (z : FVec F S1024x1024 .f32) (h : Fin 4) (o : ℕ) (ho : o = 256 * h.val) (hs : S1024x1024.Slices ![0, o] S1024x256)
    (inb : ∀ a, (![h.val, 0, 0] : Fin 3 → ℕ) a + S1x1024x256.size a ≤ S4x1024x256.size a) (x : S1x1024x256.Idx) :
    headv z o hs x = byHead z ((Rect.unit (s := S4x1024x256) ![h.val, 0, 0] S1x1024x256.size inb).emb x) := by
  subst ho
  obtain ⟨a, r, q, rfl⟩ : ∃ (a : Fin 1) (r : Fin 1024) (q : Fin 256), x = ix3 a r q := ⟨x 0, x 1, x 2, by funext b; fin_cases b <;> rfl⟩
  rw [headv_at z _ hs (by omega)]
  unfold byHead
  refine congrArg (small z) ?_
  funext b
  refine Fin.ext ?_
  fin_cases b
  · show r.val = 0 + 1 * r.val; omega
  · show 256 * h.val + q.val = 256 * (h.val + 1 * a.val) + (0 + 1 * q.val); omega

theorem read_pieces (M : Memref sig .tc .vmem S4x1024x256 .bf16) (D : M.view.ty.Contents (Elt F)) (z : FVec F S1024x1024 .f32) :
    M.view.read (Elt F) (M.view.writes (Elt F) D (pieces z)) = byHead z := by
  funext y
  refine View.read_writes_apply_of_pieces M.view D (byHead z) (pieces z) ?_ y ?_
  · intro p hp x
    unfold pieces at hp
    simp only [List.mem_cons, List.not_mem_nil, _root_.or_false] at hp
    rcases hp with rfl | rfl | rfl | rfl
    · exact piece_fits z 3 768 rfl slices_S1024x1024_o0_768_S1024x256 inb_S4x1024x256_S1x1024x256_3_0_0 x
    · exact piece_fits z 2 512 rfl slices_S1024x1024_o0_512_S1024x256 inb_S4x1024x256_S1x1024x256_2_0_0 x
    · exact piece_fits z 1 256 rfl slices_S1024x1024_o0_256_S1024x256 inb_S4x1024x256_S1x1024x256_1_0_0 x
    · exact piece_fits z 0 0 rfl slices_S1024x1024_o0_0_S1024x256 inb_S4x1024x256_S1x1024x256_0_0_0 x
  · have hin : ∀ (h : Fin 4) (inb : ∀ a, (![h.val, 0, 0] : Fin 3 → ℕ) a + S1x1024x256.size a ≤ S4x1024x256.size a), (y 0).val = h.val →
        y ∈ (Rect.unit (s := S4x1024x256) ![h.val, 0, 0] S1x1024x256.size inb).set := by
      intro h inb e
      have h1 : (y 1).val < 1024 := (y 1).isLt
      have h2 : (y 2).val < 256 := (y 2).isLt
      refine (Rect.mem_set_unit).2 fun a => ?_
      fin_cases a
      · show h.val ≤ (y 0).val ∧ (y 0).val < h.val + 1; omega
      · show 0 ≤ (y 1).val ∧ (y 1).val < 0 + 1024; omega
      · show 0 ≤ (y 2).val ∧ (y 2).val < 0 + 256; omega
    have h0 : (y 0).val < 4 := (y 0).isLt
    unfold pieces
    simp only [List.mem_cons, List.not_mem_nil, _root_.or_false, exists_eq_or_imp, exists_eq_left]
    obtain h | h | h | h : (y 0).val = 0 ∨ (y 0).val = 1 ∨ (y 0).val = 2 ∨ (y 0).val = 3 := by omega
    · exact Or.inr (Or.inr (Or.inr (hin 0 inb_S4x1024x256_S1x1024x256_0_0_0 h)))
    · exact Or.inr (Or.inr (Or.inl (hin 1 inb_S4x1024x256_S1x1024x256_1_0_0 h)))
    · exact Or.inr (Or.inl (hin 2 inb_S4x1024x256_S1x1024x256_2_0_0 h))
    · exact Or.inl (hin 3 inb_S4x1024x256_S1x1024x256_3_0_0 h)

/-- The output's buffer after the four stores. -/
theorem stored4 (c : Dev nD) (M : Memref sig .tc .vmem S4x1024x256 .bf16) (D : M.view.ty.Contents (Elt F)) (z z' : FVec F S1024x1024 .f32) (h : z = z') :
    (M.view.loc c.tc ↦[M.view.set]{fullShare} M.view.writes (Elt F) D (pieces z) : sProp 𝕄)
      ⊢ iprop(∃ f, ⌜M.view.read (Elt F) f = byHead z'⌝ ∗ (M.view.loc c.tc ↦[M.view.set]{fullShare} f)) := by
  subst h
  iintro H
  iexists _
  isplitr
  · ipureintro; exact read_pieces M D z
  · iexact H

theorem inbB : ∀ a, (![0, 0] : Fin 2 → ℕ) a + S4096x1024.size a ≤ S4096x1024.size a := by decide

variable (c : Dev nD) (i : grid0.Coords) (arg2 : Memref sig .tc .vmem S1024x4096 .bf16) (harg2 : arg2.IsWhole)
  (arg4 : Memref sig .tc .vmem S4x1024x256 .bf16) (harg4 : arg4.IsWhole)

abbrev body : Prog (TpuEff nD τ sig (Elt F) Λ₀ .tc) PUnit :=
  cc0_matmul_cast i arg2 harg2 wM (Memref.isWhole_whole _) arg4 harg4 sM (Memref.isWhole_whole _) bM (Memref.isWhole_whole _) cc0_scratch2

/-- A later row block: the column block is already narrowed. -/
theorem mid_run (h1 : ¬ k0_cond1 i = 1#1) (x : S1024x4096.Idx → Elt F .bf16) (w : S4096x1024.Idx → Elt F .bf16)
    (K : PUnit → sProp 𝕄) :
    iprop(owns c.tc arg2 fullShare x ∗ owns c.tc bM fullShare w ∗ (∃ d, owns c.tc arg4 fullShare d)
      ∗ ((owns c.tc arg2 fullShare x ∗ owns c.tc bM fullShare w ∗ owns c.tc arg4 fullShare (outv i x w)) -∗ K ⟨⟩))
    ⊢ wp frame (wpE (defs₀ (F := F)) Variants.none c.tc none) Set.univ (body i arg2 harg2 arg4 harg4) K := by
  unfold body cc0_matmul_cast
  rw [dif_neg h1]
  unfold owns
  iintro ⟨⟨%X, %eX, HX⟩, ⟨%B, %eB, HB⟩, ⟨%d, %D, -, HD⟩, Hk⟩
  sl_exec
  have e : mid_run.sl.v9 c i arg2 X B = prod i x w :=
    congrArg₂ (prod (F := F) i) ((View.readAt_full arg2.view X _).trans eX) ((View.readAt_full bM.view B _).trans eB)
  sl_step
  iapply Hk
  isplitl [HX]
  · iexists X; isplitr; · ipureintro; exact eX
    iexact HX
  isplitl [HB]
  · iexists B; isplitr; · ipureintro; exact eB
    iexact HB
  iapply (stored4 c arg4 D _ _ e)
  iexact HD

theorem inb0 : ∀ a, (![0, 0, 0] : Fin 3 → ℕ) a + S1x4096x1024.size a ≤ S1x4096x12288.size a := by decide

/-- A later column block: the flight is awaited, narrowed, and the next one started. -/
theorem next_run (h1 : k0_cond1 i = 1#1) (h2 : ¬ k0_cond2 i = 1#1) (h3 : k0_cond3 i = 1#1) (x : S1024x4096.Idx → Elt F .bf16) (off h f)
    (W : Waits sig Unit) (K : PUnit → sProp 𝕄) :
    iprop(owns c.tc arg2 fullShare x ∗ (∃ w, owns c.tc bM fullShare w) ∗ (∃ d, owns c.tc arg4 fullShare d)
      ∗ fly c off h f ∗ rest c off h f ∗ owes c.tc 0 W
      ∗ ((owns c.tc arg2 fullShare x ∗ owns c.tc bM fullShare (narrow (colV off h f)) ∗ owns c.tc arg4 fullShare (outv i x (narrow (colV off h f)))
        ∗ fly c (k0_off2 i) (Facts₀.k0_off2_inb i h1 h3) f ∗ rest c (k0_off2 i) (Facts₀.k0_off2_inb i h1 h3) f ∗ (∃ W', owes c.tc 0 W')) -∗ K ⟨⟩))
    ⊢ wp frame (wpE (defs₀ (F := F)) Variants.none c.tc none) Set.univ (body i arg2 harg2 arg4 harg4) K := by
  unfold body cc0_matmul_cast
  rw [dif_pos h1, dif_neg h2, dif_pos h3]
  unfold owns fly rest
  iintro ⟨⟨%X, %eX, HX⟩, ⟨%wd, %B, -, HB⟩, ⟨%d, %D, -, HD⟩, HF, HR, HW, Hk⟩
  sl_exec
  ihave HR := (whole_back c off h f) $$ HR
  sl_exec
  have e1 : next_run.sl.v41 off h f = narrow (colV off h f) := by
    delta next_run.sl.v41 next_run.sl.v38
    exact congrArg (narrow (F := F)) (View.readAt_full sM.view (colV off h f) _)
  have e2 : next_run.sl.v4 c off h f = narrow (colV off h f) := by
    exact (View.readCov_full bM.view _ _ _ _).trans e1
  have e : next_run.sl.v9 c i arg2 off h f X = prod i x (narrow (colV off h f)) :=
    congrArg₂ (prod (F := F) i) ((View.readAt_full arg2.view X _).trans eX) e2
  sl_step
  ihave HF := (fly_of c (k0_off2 i) (Facts₀.k0_off2_inb i h1 h3) f (colV off h f) (next_run.sl.dma0 i h1 h3 f) [] rfl) $$ HF
  iapply Hk
  isplitl [HX]
  · iexists X; isplitr; · ipureintro; exact eX
    iexact HX
  isplitl [HB]
  · iapply (stored c bM B ![0, 0] inbB _ _ e1)
    iexact HB
  isplitl [HD]
  · iapply (stored4 c arg4 D _ _ e)
    iexact HD
  iframe HF HR
  iexists _; iexact HW

/-- The last column block: the flight is awaited and narrowed. -/
theorem last_run (h1 : k0_cond1 i = 1#1) (h2 : ¬ k0_cond2 i = 1#1) (h3 : ¬ k0_cond3 i = 1#1) (x : S1024x4096.Idx → Elt F .bf16) (off h f)
    (W : Waits sig Unit) (K : PUnit → sProp 𝕄) :
    iprop(owns c.tc arg2 fullShare x ∗ (∃ w, owns c.tc bM fullShare w) ∗ (∃ d, owns c.tc arg4 fullShare d)
      ∗ fly c off h f ∗ rest c off h f ∗ owes c.tc 0 W
      ∗ ((owns c.tc arg2 fullShare x ∗ owns c.tc bM fullShare (narrow (colV off h f)) ∗ owns c.tc arg4 fullShare (outv i x (narrow (colV off h f)))
        ∗ semVal (c.tc, SemLoc.dma 4) 0 ∗ (sM.view.loc c.tc ↦[sM.view.set]{fullShare} colV off h f) ∗ (wM.view.loc c.tc ↦{fullShare} f) ∗ (∃ W', owes c.tc 0 W')) -∗ K ⟨⟩))
    ⊢ wp frame (wpE (defs₀ (F := F)) Variants.none c.tc none) Set.univ (body i arg2 harg2 arg4 harg4) K := by
  unfold body cc0_matmul_cast
  rw [dif_pos h1, dif_neg h2, dif_neg h3]
  unfold owns fly rest
  iintro ⟨⟨%X, %eX, HX⟩, ⟨%wd, %B, -, HB⟩, ⟨%d, %D, -, HD⟩, HF, HR, HW, Hk⟩
  sl_exec
  ihave HR := (whole_back c off h f) $$ HR
  sl_exec
  have e1 : last_run.sl.v41 off h f = narrow (colV off h f) := by
    delta last_run.sl.v41 last_run.sl.v38
    exact congrArg (narrow (F := F)) (View.readAt_full sM.view (colV off h f) _)
  have e2 : last_run.sl.v4 c off h f = narrow (colV off h f) := by
    exact (View.readCov_full bM.view _ _ _ _).trans e1
  have e : last_run.sl.v9 c i arg2 off h f X = prod i x (narrow (colV off h f)) :=
    congrArg₂ (prod (F := F) i) ((View.readAt_full arg2.view X _).trans eX) e2
  sl_step
  iapply Hk
  isplitl [HX]
  · iexists X; isplitr; · ipureintro; exact eX
    iexact HX
  isplitl [HB]
  · iapply (stored c bM B ![0, 0] inbB _ _ e1)
    iexact HB
  isplitl [HD]
  · iapply (stored4 c arg4 D _ _ e)
    iexact HD
  iframe HF HF_dst HR
  iexists _; iexact HW

/-- The first point: the first column block is fetched, narrowed, and the second one's flight started. -/
theorem first_run (h1 : k0_cond1 i = 1#1) (h2 : k0_cond2 i = 1#1) (h3 : k0_cond3 i = 1#1) (x : S1024x4096.Idx → Elt F .bf16)
    (f : (⟨S1x4096x12288, .f32⟩ : BufTy).Contents (Elt F))
    (g : S4096x1024.Idx → Elt F .f32) (W : Waits sig Unit) (K : PUnit → sProp 𝕄) :
    iprop(owns c.tc arg2 fullShare x ∗ (∃ w, owns c.tc bM fullShare w) ∗ (∃ d, owns c.tc arg4 fullShare d)
      ∗ semVal (c.tc, SemLoc.dma 4) 0 ∗ (sM.view.loc c.tc ↦[sM.view.set]{fullShare} g) ∗ (wM.view.loc c.tc ↦{fullShare} f) ∗ owes c.tc 0 W
      ∗ ((owns c.tc arg2 fullShare x ∗ owns c.tc bM fullShare (narrow (colV ![0, 0, 0] inb0 f)) ∗ owns c.tc arg4 fullShare (outv i x (narrow (colV ![0, 0, 0] inb0 f)))
        ∗ fly c (k0_off2 i) (Facts₀.k0_off2_inb i h1 h3) f ∗ rest c (k0_off2 i) (Facts₀.k0_off2_inb i h1 h3) f ∗ (∃ W', owes c.tc 0 W')) -∗ K ⟨⟩))
    ⊢ wp frame (wpE (defs₀ (F := F)) Variants.none c.tc none) Set.univ (body i arg2 harg2 arg4 harg4) K := by
  unfold body cc0_matmul_cast
  rw [dif_pos h1, dif_pos h2, dif_pos h3]
  unfold owns fly rest
  iintro ⟨⟨%X, %eX, HX⟩, ⟨%wd, %B, -, HB⟩, ⟨%d, %D, -, HD⟩, HF, HS, HR, HW, Hk⟩
  sl_exec
  have e1 : first_run.sl.v41 f = narrow (colV ![0, 0, 0] inb0 f) := by
    delta first_run.sl.v41 first_run.sl.v38
    refine congrArg (narrow (F := F)) ?_
    delta first_run.sl.v37
    exact (first_load _ _).trans rfl
  have e2 : first_run.sl.v4 c f = narrow (colV ![0, 0, 0] inb0 f) := by
    exact (View.readCov_full bM.view _ _ _ _).trans e1
  have e : first_run.sl.v9 c i arg2 f X = prod i x (narrow (colV ![0, 0, 0] inb0 f)) :=
    congrArg₂ (prod (F := F) i) ((View.readAt_full arg2.view X _).trans eX) e2
  sl_step
  ihave HF := (fly_of c (k0_off2 i) (Facts₀.k0_off2_inb i h1 h3) f g (first_run.sl.dma3 i h1 h3 f) [⟨Rect.whole S4096x1024, first_run.sl.dma0 f⟩] rfl) $$ HF
  iapply Hk
  isplitl [HX]
  · iexists X; isplitr; · ipureintro; exact eX
    iexact HX
  isplitl [HB]
  · iapply (stored c bM B ![0, 0] inbB _ _ e1)
    iexact HB
  isplitl [HD]
  · iapply (stored4 c arg4 D _ _ e)
    iexact HD
  iframe HF HR
  iexists _; iexact HW

end Cert.Kernel7Ideal.Din

end
-- ==== Proof.DinLaunch.lean ====
/-
  The differential mixer's projection, by heads: what holds between points, the body at every point, the run of the program.
-/
module

public import proofs.«01_k».proof.Proof.DinBody
public import Idealize.ShloMosaic.Adequacy
public import Idealize.ShloMosaic.Init

@[expose] public section

set_option maxRecDepth 16384

noncomputable section

namespace Cert.Kernel7Ideal.Din

open Cert.Kernel7Ideal Cert.Kernel7Ideal.Gen
open Idealize.ShloMosaic.Pipeline (Dat BodyObligation)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- A column block's place in the weights. -/
def offs (j : ℕ) : Fin 3 → ℕ := ![0, 0, 1024 * j]

theorem offs_inb {j : ℕ} (h : j < 12) : ∀ a, offs j a + S1x4096x1024.size a ≤ S1x4096x12288.size a := by
  intro a
  fin_cases a
  · show 0 + 1 ≤ 1; omega
  · show 0 + 4096 ≤ 4096; omega
  · show 1024 * j + 1024 ≤ 12288; omega

/-- Column block `j`, narrowed. -/
def wblk (f : (⟨S1x4096x12288, .f32⟩ : BufTy).Contents (Elt F)) (j : Fin 12) : S4096x1024.Idx → Elt F .bf16 :=
  narrow (colV (offs j.val) (offs_inb j.isLt) f)

theorem wblk_of (f : (⟨S1x4096x12288, .f32⟩ : BufTy).Contents (Elt F)) (j : Fin 12) (off h) (e : off = offs j.val) :
    narrow (colV off h f) = wblk f j := by
  subst e; rfl

/-- The column block of a point. -/
def jn (n : ℕ) : Fin 12 := ⟨n / 16 % 12, by omega⟩

/-- No flight: the counter at zero, the scratch at anything, the weights whole. -/
def still (c : Dev nD) (f : (⟨S1x4096x12288, .f32⟩ : BufTy).Contents (Elt F)) : sProp 𝕄 :=
  iprop(semVal (c.tc, SemLoc.dma 4) 0 ∗ (∃ g, (sM.view.loc c.tc ↦[sM.view.set]{fullShare} g))
    ∗ (wM.view.loc c.tc ↦{fullShare} f))

/-- Column block `j` in flight, if there is one. -/
def flying (c : Dev nD) (j : ℕ) (f : (⟨S1x4096x12288, .f32⟩ : BufTy).Contents (Elt F)) : sProp 𝕄 :=
  if h : j < 12 then iprop(fly c (offs j) (offs_inb h) f ∗ rest c (offs j) (offs_inb h) f) else still c f

/-- The transfers before point `n`. -/
def state (c : Dev nD) (n : ℕ) (f : (⟨S1x4096x12288, .f32⟩ : BufTy).Contents (Elt F)) : sProp 𝕄 :=
  if n = 0 then still c f else flying c ((n - 1) / 16 + 1) f

theorem state_zero (c : Dev nD) {n : ℕ} (h : n = 0) (f : (⟨S1x4096x12288, .f32⟩ : BufTy).Contents (Elt F)) :
    (state c n f : sProp 𝕄) = still c f := if_pos h

theorem state_pos (c : Dev nD) {n j : ℕ} (h : n ≠ 0) (e : (n - 1) / 16 + 1 = j) (f : (⟨S1x4096x12288, .f32⟩ : BufTy).Contents (Elt F)) :
    (state c n f : sProp 𝕄) = flying c j f := by subst e; exact if_neg h

theorem flying_eq (c : Dev nD) {j : ℕ} (hj : j < 12) (f : (⟨S1x4096x12288, .f32⟩ : BufTy).Contents (Elt F)) :
    (flying c j f : sProp 𝕄) = iprop(fly c (offs j) (offs_inb hj) f ∗ rest c (offs j) (offs_inb hj) f) := dif_pos hj

theorem flying_end (c : Dev nD) {j : ℕ} (hj : ¬ j < 12) (f : (⟨S1x4096x12288, .f32⟩ : BufTy).Contents (Elt F)) :
    (flying c j f : sProp 𝕄) = still c f := dif_neg hj

theorem flying_of (c : Dev nD) {j : ℕ} (hj : j < 12) (f : (⟨S1x4096x12288, .f32⟩ : BufTy).Contents (Elt F)) (off h) (e : off = offs j) :
    (iprop(fly c off h f ∗ rest c off h f) : sProp 𝕄) ⊢ flying c j f := by
  subst e
  unfold flying
  rw [dif_pos hj]

/-- Between points: the column block narrowed once its first row block has run, the transfers, the generator. -/
def Φc (c : Dev nD) (n : ℕ) : sProp 𝕄 :=
  iprop((∃ w, ⌜n % 16 ≠ 0 → w = wblk (V m c main_arg1) (jn n)⌝ ∗ owns c.tc bM fullShare w)
    ∗ state c n (V m c main_arg1) ∗ ∃ r, prngReg c r)

/-- The block of the output a point leaves. -/
def outBlk (c : Dev nD) (t : Fin cfg0.N) : S4x1024x256.Idx → Elt F .bf16 := outv (grid0.coords t) (iblk m c 0 t) (wblk (V m c main_arg1) (jn t.val))

/-- The data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outBlk m c t
  Φ t := Φc m c t.val
  q _ := fullShare
  owed _ := 0

theorem is1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem is2 : ∀ t : Fin cfg0.N, k0_cond2 (grid0.coords t) = 1#1 ↔ t.val / 16 = 0 :=
  (by decide +kernel : ∀ t : Fin grid0.N, k0_cond2 (grid0.coords t) = 1#1 ↔ t.val / 16 = 0)
theorem is3 : ∀ t : Fin cfg0.N, k0_cond3 (grid0.coords t) = 1#1 ↔ t.val / 16 + 1 < 12 :=
  (by decide +kernel : ∀ t : Fin grid0.N, k0_cond3 (grid0.coords t) = 1#1 ↔ t.val / 16 + 1 < 12)
theorem coord0 : ∀ t : Fin cfg0.N, (grid0.coords t 0).val = t.val / 16 :=
  (by decide +kernel : ∀ t : Fin grid0.N, (grid0.coords t 0).val = t.val / 16)

theorem off2 (t : Fin cfg0.N) : k0_off2 (grid0.coords t) = offs (t.val / 16 + 1) := by
  rw [k0_off2_eq, coord0 t]; unfold offs
  funext a
  fin_cases a
  · rfl
  · rfl
  · show 1024 * (t.val / 16) + 1024 = 1024 * (t.val / 16 + 1); omega

theorem defs₀_row (t : Fin cfg0.N) : (defs₀ (F := F)) .tc cfg0.body (cfg0.bodyArgs t (cfg0.slots t)) = bodyAt0 t := by
  unfold defs₀; rw [Defs.onTc_tc]

/-- The body at a point, from the buffers to the buffers. -/
theorem step (c : Dev nD) (t : Fin cfg0.N) (W : Waits sig Unit) (K : PUnit → sProp 𝕄) :
    iprop(Φc m c t.val ∗ owes c.tc 0 W ∗ owns c.tc (win0_0.stage (cfg0.slots t 0)) fullShare (iblk m c 0 t)
      ∗ (∃ d, owns c.tc (win0_1.stage (cfg0.slots t 1)) fullShare d)
      ∗ ((Φc m c (t.val + 1) ∗ (∃ W', owes c.tc 0 W') ∗ owns c.tc (win0_0.stage (cfg0.slots t 0)) fullShare (iblk m c 0 t)
        ∗ owns c.tc (win0_1.stage (cfg0.slots t 1)) fullShare (outBlk m c t)) -∗ K ⟨⟩))
    ⊢ wp frame (wpE (defs₀ (F := F)) Variants.none c.tc none) Set.univ (bodyAt0 t) K := by
  have ht : t.val < 192 := t.isLt
  unfold Φc outBlk
  by_cases h1 : t.val % 16 = 0
  · by_cases h2 : t.val / 16 = 0
    · have h0 : t.val = 0 := by omega
      have R := fun g => (first_run c (grid0.coords t) _ (hstage0_0 ((cfg0.slots t 0).cast nbuf0_0)) _ (hstage0_1 ((cfg0.slots t 1).cast nbuf0_1)) ((is1 t).2 h1) ((is2 t).2 h2) ((is3 t).2 (by omega)) (iblk m c 0 t) (V m c main_arg1) g W K)
      rw [wblk_of (V m c main_arg1) (jn t.val) ![0, 0, 0] inb0 (by rw [h0]; rfl)] at R
      rw [state_zero c h0, state_pos c (Nat.succ_ne_zero _) (show (t.val + 1 - 1) / 16 + 1 = t.val / 16 + 1 from rfl)]
      unfold still
      iintro ⟨⟨⟨%w, %hw, HB⟩, ⟨HQ, ⟨%g, HS⟩, HR⟩, Hg⟩, HW, HX, HD, Hk⟩
      iapply (R g)
      iframe HX
      isplitl [HB]; · iexists w; iexact HB
      iframe HD HQ HS HR HW
      iintro ⟨HX, HB, HD, HF, HR, HW⟩
      iapply Hk
      isplitl [HB HF HR Hg]
      · isplitl [HB]
        · iexists _; isplitr; swap; · iexact HB
          ipureintro; intro _; rw [h0]; rfl
        isplitl [HF HR]
        · iapply (flying_of c (j := t.val / 16 + 1) (by omega) (V m c main_arg1) _ _ (off2 t))
          iframe HF
          iexact HR
        iexact Hg
      iframe HW HX
      iexact HD
    · have hn : t.val ≠ 0 := by omega
      have hj : t.val / 16 < 12 := by omega
      have hw0 : narrow (colV (offs (t.val / 16)) (offs_inb hj) (V m c main_arg1)) = wblk (V m c main_arg1) (jn t.val) :=
        wblk_of _ _ _ _ (by unfold jn; show _ = offs (t.val / 16 % 12); rw [Nat.mod_eq_of_lt hj])
      have hw1 : wblk (V m c main_arg1) (jn t.val) = wblk (V m c main_arg1) (jn (t.val + 1)) := by
        rw [show jn (t.val + 1) = jn t.val from Fin.ext (by show (t.val + 1) / 16 % 12 = t.val / 16 % 12; omega)]
      rw [state_pos c hn (show (t.val - 1) / 16 + 1 = t.val / 16 from by omega), flying_eq c hj, state_pos c (Nat.succ_ne_zero _) (show (t.val + 1 - 1) / 16 + 1 = t.val / 16 + 1 from rfl)]
      by_cases h3 : t.val / 16 + 1 < 12
      · have R := (next_run c (grid0.coords t) _ (hstage0_0 ((cfg0.slots t 0).cast nbuf0_0)) _ (hstage0_1 ((cfg0.slots t 1).cast nbuf0_1)) ((is1 t).2 h1) (fun h => h2 ((is2 t).1 h)) ((is3 t).2 h3) (iblk m c 0 t) _ (offs_inb hj) (V m c main_arg1) W K)
        rw [hw0] at R
        iintro ⟨⟨⟨%w, %hw, HB⟩, ⟨HF, HR⟩, Hg⟩, HW, HX, HD, Hk⟩
        iapply R
        iframe HX
        isplitl [HB]; · iexists w; iexact HB
        iframe HD HF HR HW
        iintro ⟨HX, HB, HD, HF, HR, HW⟩
        iapply Hk
        isplitl [HB HF HR Hg]
        · isplitl [HB]
          · iexists _; isplitr; swap; · iexact HB
            ipureintro; intro _; exact hw1
          isplitl [HF HR]
          · iapply (flying_of c (j := t.val / 16 + 1) (by omega) (V m c main_arg1) _ _ (off2 t))
            iframe HF
            iexact HR
          iexact Hg
        iframe HW HX
        iexact HD
      · rw [flying_end c h3]
        unfold still
        have R := (last_run c (grid0.coords t) _ (hstage0_0 ((cfg0.slots t 0).cast nbuf0_0)) _ (hstage0_1 ((cfg0.slots t 1).cast nbuf0_1)) ((is1 t).2 h1) (fun h => h2 ((is2 t).1 h)) (fun h => h3 ((is3 t).1 h)) (iblk m c 0 t) _ (offs_inb hj) (V m c main_arg1) W K)
        rw [hw0] at R
        iintro ⟨⟨⟨%w, %hw, HB⟩, ⟨HF, HR⟩, Hg⟩, HW, HX, HD, Hk⟩
        iapply R
        iframe HX
        isplitl [HB]; · iexists w; iexact HB
        iframe HD HF HR HW
        iintro ⟨HX, HB, HD, HQ, HS, HR, HW⟩
        iapply Hk
        isplitl [HB HQ HS HR Hg]
        · isplitl [HB]
          · iexists _; isplitr; swap; · iexact HB
            ipureintro; intro _; exact hw1
          isplitl [HQ HS HR]
          · isplitl [HQ]; · iexact HQ
            isplitl [HS]; · iexists _; iexact HS
            iexact HR
          iexact Hg
        iframe HW HX
        iexact HD
  · rw [state_pos c (show t.val ≠ 0 by omega) rfl, state_pos c (Nat.succ_ne_zero _) (show (t.val + 1 - 1) / 16 + 1 = (t.val - 1) / 16 + 1 from by omega)]
    iintro ⟨⟨⟨%w, %hw, HB⟩, HS, Hg⟩, HW, HX, HD, Hk⟩
    have hw' := hw h1
    subst hw'
    iapply (mid_run c (grid0.coords t) _ (hstage0_0 ((cfg0.slots t 0).cast nbuf0_0)) _ (hstage0_1 ((cfg0.slots t 1).cast nbuf0_1)) (fun h => h1 ((is1 t).1 h)) (iblk m c 0 t) (wblk (V m c main_arg1) (jn t.val)) K)
    iframe HX HB HD
    iintro ⟨HX, HB, HD⟩
    iapply Hk
    isplitl [HB HS Hg]
    · isplitl [HB]
      · iexists _; isplitr; swap; · iexact HB
        ipureintro; intro h
        rw [show jn (t.val + 1) = jn t.val from Fin.ext (by show (t.val + 1) / 16 % 12 = t.val / 16 % 12; omega)]
      isplitl [HS]
      · iexact HS
      iexact Hg
    isplitl [HW]; · iexists W; iexact HW
    iframe HX
    iexact HD

theorem bef0 (c : Dev nD) (t : Fin cfg0.N) (d) : (dats m 0 c).before 0 t d = iblk m c 0 t :=
  ((dats m 0 c).before_in_eq_fetched 0 rfl (fun _ => rfl) (fun _ _ _ => rfl) (fun t => by unfold Dat.blockOf; rfl) t d).trans
    (by unfold Dat.fetched Dat.blockOf; rfl)

/-- The body's triple at a point. -/
theorem sound_body (c : Dev nD) (t : Fin cfg0.N) :
    (iprop(Φc m c t.val ∗ (dats m 0 c).owesAt () t.castSucc
      ∗ (∃ d, owns c.tc (win0_0.stage (cfg0.slots t 0)) fullShare ((dats m 0 c).before 0 t d))
      ∗ (∃ d, owns c.tc (win0_1.stage (cfg0.slots t 1)) fullShare ((dats m 0 c).before 1 t d))) : sProp 𝕄)
    ⊢ wp frame (wpE (defs₀ (F := F)) Variants.none c.tc none) Set.univ (bodyAt0 t) (fun _ =>
      iprop(Φc m c (t.val + 1) ∗ (dats m 0 c).owesAt () t.succ
      ∗ owns c.tc (win0_0.stage (cfg0.slots t 0)) fullShare (iblk m c 0 t)
      ∗ owns c.tc (win0_1.stage (cfg0.slots t 1)) fullShare (outBlk m c t))) := by
  simp only [bef0]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩⟩
  iapply (step m c t W _)
  iframe HP HW H0
  isplitl [H1]; · iexists _; iexact H1
  iintro ⟨HP, ⟨%W', HW⟩, H0, H1⟩
  iframe HP
  isplitl [HW]
  · iexists W'
    isplitr
    · ipureintro; exact fun _ _ => Or.inl trivial
    iexact HW
  iframe H0
  iexact H1

/-- The library's obligation of the body. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- The kernel's own counter and the weights it addresses itself. -/
def osem : Fin 1 → SemLoc sig := fun _ => SemLoc.dma 4
theorem osem_facts : Pipeline.OwnSemFacts spec0 osem := by decide
def held : Finset (Ref sig .tc) := {main_arg1}
theorem held_sub : held ⊆ Pipeline.restRefs sig spec0 := by decide

theorem given_eq (c : Dev nD) :
    (Pipeline.ΦD osem spec0 held (V m) c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
        ∗ (∃ r, prngReg c r) ∗ semVal (c.tc, SemLoc.dma 4) 0 ∗ (((c : Thread nD τ).loc main_arg1) ↦{fullShare} V m c main_arg1)) := by
  rw [Pipeline.ΦD_eq, scopedRest0_eq, Pipeline.ownSems0_eq_of_list c osem [0] (by decide) (by decide),
    BI.bigSep_eq_bigSepL_of_eq (S := held) [main_arg1] (by decide) (by decide)]
  rfl

theorem Φ_first (c : Dev nD) : (Pipeline.ΦD osem spec0 held (V m) c : sProp 𝕄) ⊢ Φc m c 0 := by
  rw [given_eq]
  unfold Φc
  rw [state_zero c rfl]
  unfold still
  simp only [owns_whole, Memref.view_whole, View.set_whole]
  iintro ⟨⟨⟨%f, S0⟩, ⟨%g, S1⟩⟩, Hg, HQ, HR⟩
  isplitl [S1]
  · iexists g
    isplitr
    · ipureintro; intro h; exact absurd rfl h
    · iexact S1
  isplitl [S0 HQ HR]
  · isplitl [HQ]; · iexact HQ
    isplitl [S0]; · iexists f; iexact S0
    iexact HR
  iexact Hg

theorem Φ_last (c : Dev nD) : (Φc m c 192 : sProp 𝕄) ⊢ Pipeline.ΦD osem spec0 held (V m) c := by
  rw [given_eq]
  unfold Φc
  rw [state_pos c (by decide) (show (192 - 1) / 16 + 1 = 12 from rfl), flying_end c (by decide)]
  unfold still
  simp only [owns_whole, Memref.view_whole, View.set_whole]
  iintro ⟨⟨%g, -, S1⟩, ⟨HQ, ⟨%f, S0⟩, HR⟩, Hg⟩
  isplitl [S0 S1]
  · isplitl [S0]; · iexists f; iexact S0
    iexists g; iexact S1
  iframe Hg HQ
  iexact HR

theorem hmain₂ : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- The run of the whole program. -/
theorem run : θ_run defs (onTc (τ := τ) (main (F := F))) ⟨m, fun _ => 0, ρ⟩
    (fun r => Pipeline.FramePost cfgs (dats m) 0 (V m) r ∧ r.2.sem = fun _ => 0) :=
  Pipeline.θ_run_frame_dma (Q' := _) cfgs (dats m) (0 : Fin 1) launch0 osem defs₀ Variants.none osem_facts held held_sub m ρ main
    (hbody := fun c => (body_obligation m c).loose) (hshare := fun c => (dats m 0 c).share_full fun _ => rfl)
    (howed := fun _ _ => rfl) (V := V m) (hmain := hmain₂ m) (hA := fun _ _ => rfl)
    (hin := fun c => Φ_first m c) (hout := fun c => Φ_last m c)

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 0).trans (((dats m 0 c).arrAt_in 0 rfl _).trans (V_main_arg0 m c)),
      ((h.1 c).2 main_arg1 (Pipeline.mem_restRefs_of main_arg1 (by decide) (by decide))).trans (V_main_arg1 m c)⟩, h.2⟩)
    (run m ρ)

end Cert.Kernel7Ideal.Din

end
-- ==== Proof.Frames7.lean ====
/-
  The frames of the differential projection's three programs.
-/
module

public import proofs.«01_k».proof.Defs
public import proofs.«01_k».proof.Proof.DinLaunch
public import proofs.«01_k».proof.Proof.SameBody
public import proofs.«01_k».proof.Proof.Gen.Kernel7
public import proofs.«01_k».proof.Proof.Gen.Reference7Ideal.Run
public import Idealize.ShloMosaic.Lib.Quiescent

@[expose] public section

noncomputable section

namespace Cert.Proof

open Idealize.ShloMosaic Idealize.ShloMosaic.TcCoe Idealize.SL.Sem

/-- The two body tables are one text where the named constant is read as printed. -/
theorem table_eq7 : Cert.Kernel7.defs₀ (F := Bits) = (letI := printed; Cert.Kernel7Ideal.defs₀ (F := Bits)) := by
  unfold Cert.Kernel7.defs₀ Cert.Kernel7Ideal.defs₀
  refine congrArg Defs.onTc (funext fun l => funext fun a => ?_)
  match l, a with
  | ⟨0, _⟩, (t, s) => rfl

theorem defs_eq7 : Cert.Kernel7.defs (F := Bits) = (letI := printed; Cert.Kernel7Ideal.defs (F := Bits)) :=
  congrArg (Pipeline.defs Cert.Kernel7Ideal.pcfgs) table_eq7

theorem frame_p7 : Cert.quiescent_Kernel7 := fun m ρ _ => by
  letI := printed
  have h := Cert.Kernel7Ideal.Din.quiescent (F := Bits) m ρ
  rw [← defs_eq7] at h
  exact h

theorem frame_pi7 : Cert.quiescent_Kernel7Ideal := fun m ρ _ => Cert.Kernel7Ideal.Din.quiescent m ρ

theorem frame_ri7 : Cert.quiescent_Reference7Ideal := fun m ρ _ =>
  (θ_run Cert.Reference7Ideal.defs _ _).mono
    (fun r h => ⟨fun c => (h c).2, sem_eq_zero_of_no_sems (by decide) r.2⟩) (Cert.Reference7Ideal.Value.run (F := Ideal) m ρ)

theorem preserves7 : Cert.preserves_Kernel7_Kernel7Ideal := IdealRules.named_const.statement _ _ _ _ _ rfl

end Cert.Proof

end
-- ==== Proof.NinVal.lean ====
/-
  The neighbourhood mixer's projection: what the kernel and the reference leave, element by element.
-/
module

public import proofs.«01_k».proof.Proof.NinLaunch
public import proofs.«01_k».proof.Proof.Gen.Reference6Ideal.Run
public import Idealize.ShloMosaic.Lib.Pointwise
public import Idealize.ShloMosaic.Lib.ValueLayout
public import Idealize.ShloMosaic.Lib.Pipeline.ValueKit
public import Idealize.ShloMosaic.Lib.Tactic.CleanTypes

@[expose] public section

set_option maxRecDepth 16384

noncomputable section

namespace Cert.Kernel6Ideal.Nin

open Cert.Kernel6Ideal Cert.Kernel6Ideal.Gen
open Idealize.ShloMosaic Idealize.ShloMosaic.TcCoe

theorem outv_at (x : FVec Ideal S1024x4096 .bf16) (w : FVec Ideal S4096x1024 .bf16) (r q : Fin 1024) :
    outv (F := Ideal) x w (ix2 r q) = (∑ k : Fin 4096, x (ix2 r k) * w (ix2 k q) : EReal) := by
  unfold outv
  pointwise

theorem colV_at (f : FVec Ideal S1x4096x12288 .f32) (j : Fin 12) (k : Fin 4096) (q : Fin 1024) :
    colV (F := Ideal) (offs j.val) (offs_inb j.isLt) f (ix2 k q) = f (ix3 0 k (⟨1024 * j.val + q.val, by omega⟩ : Fin 12288)) := by
  have h : colV (F := Ideal) (offs j.val) (offs_inb j.isLt) f
      = shapeCast S4096x1024 (wM.view.readAt (Elt Ideal) (Rect.unit (s := S1x4096x12288) (offs j.val) S1x4096x1024.size (offs_inb j.isLt)).toLoadRect f)
          (by decide : S1x4096x1024.ShapeCasts S4096x1024) := rfl
  rw [h]
  refine (ValueIdx.shapeCast_1ab_ab_apply _ _ _ _).trans ?_
  refine congrArg f ?_
  funext a
  refine Fin.ext ?_
  fin_cases a
  · rfl
  · show 0 + 1 * k.val = k.val; omega
  · show 1024 * j.val + 1 * q.val = 1024 * j.val + q.val; omega

theorem wblk_at (f : FVec Ideal S1x4096x12288 .f32) (j : Fin 12) (k : Fin 4096) (q : Fin 1024) :
    wblk (F := Ideal) f j (ix2 k q) = f (ix3 0 k (⟨1024 * j.val + q.val, by omega⟩ : Fin 12288)) := by
  refine Eq.trans ?_ (colV_at f j k q)
  unfold wblk narrow
  generalize colV (F := Ideal) _ _ f = g
  rw [shapeCast_self]
  rfl

variable (m : (ℓ : Loc nD τ sig) → Buf (Elt Ideal) ℓ) (c : Dev nD)

theorem tr0 : ∀ t : Fin cfg0.N, cc0_transform_0 (grid0.coords t) = ![t.val % 16, 0] :=
  (by decide +kernel : ∀ t : Fin grid0.N, cc0_transform_0 (grid0.coords t) = ![t.val % 16, 0])
theorem tr2 : ∀ t : Fin cfg0.N, cc0_transform_2 (grid0.coords t) = ![t.val % 16, t.val / 16] :=
  (by decide +kernel : ∀ t : Fin grid0.N, cc0_transform_2 (grid0.coords t) = ![t.val % 16, t.val / 16])

theorem iblk0_at (t : Fin cfg0.N) (r : Fin 1024) (k : Fin 4096) :
    (iblk m c 0 t : Vec Ideal S1024x4096 .bf16) (ix2 r k)
      = (m ((c.tc : Thread nD τ).loc main_arg0) : FVec Ideal S16384x4096 .bf16) (ix2 (⟨1024 * (t.val % 16) + r.val, by omega⟩ : Fin 16384) k) := by
  show V m c main_arg0 ((win0_0.blk t).view.emb (ix2 r k)) = _
  have hv : ∀ a, ((win0_0.blk t).view.emb (ix2 r k) a).val = cc0_transform_0 (grid0.coords t) a * S1024x4096.size a + (ix2 r k a).val :=
    fun a => Pipeline.Window.rect_emb_val win0_0 t (ix2 r k) a rfl
  have e : (win0_0.blk t).view.emb (ix2 r k) = ix2 (⟨1024 * (t.val % 16) + r.val, by omega⟩ : Fin 16384) k := by
    funext a
    refine Fin.ext ((hv a).trans ?_)
    rw [tr0 t]
    fin_cases a
    · show t.val % 16 * 1024 + r.val = 1024 * (t.val % 16) + r.val; omega
    · show 0 * 4096 + k.val = k.val; omega
  rw [e, V_main_arg0]

/-- The product, as an array. -/
def proj (x : FVec Ideal S16384x4096 .bf16) (w : FVec Ideal S1x4096x12288 .f32) : FVec Ideal S16384x12288 .bf16 := fun i =>
  (∑ k : Fin 4096, x (ix2 (i 0) k) * w (ix3 0 k (i 1)) : EReal)

theorem arr : (dats m 0 c).arrAt 1 cfg0.N
    = proj (m ((c.tc : Thread nD τ).loc main_arg0)) (m ((c.tc : Thread nD τ).loc main_arg1)) := by
  refine (dats m 0 c).arrAt_eq_of_covers 1 (proj _ _) (by decide +kernel) fun t hf y => ?_
  blk_simp
  show outBlk m c t y = proj _ _ ((win0_1.blk t).view.emb y)
  have hv : ∀ a, ((win0_1.blk t).view.emb y a).val = cc0_transform_2 (grid0.coords t) a * S1024x1024.size a + (y a).val :=
    fun a => Pipeline.Window.rect_emb_val win0_1 t y a rfl
  obtain ⟨r, q, rfl⟩ : ∃ (r q : Fin 1024), y = ix2 r q := ⟨y 0, y 1, by funext a; fin_cases a <;> rfl⟩
  have ht : t.val < 192 := t.isLt
  have e : (win0_1.blk t).view.emb (ix2 r q) = ix2 (⟨1024 * (t.val % 16) + r.val, by omega⟩ : Fin 16384)
      (⟨1024 * (jn t.val).val + q.val, by have := (jn t.val).isLt; omega⟩ : Fin 12288) := by
    funext a
    refine Fin.ext ((hv a).trans ?_)
    rw [tr2 t]
    fin_cases a
    · show t.val % 16 * 1024 + r.val = 1024 * (t.val % 16) + r.val; omega
    · show t.val / 16 * 1024 + q.val = 1024 * (t.val / 16 % 12) + q.val; omega
  rw [e]
  unfold outBlk
  rw [outv_at]
  refine Finset.sum_congr rfl fun k _ => ?_
  rw [iblk0_at, wblk_at, V_main_arg1]
  rfl

end Cert.Kernel6Ideal.Nin

namespace Cert.Reference6Ideal.Nin

open Cert.Reference6Ideal Cert.Reference6Ideal.Gen Cert.Reference6Ideal.Value
open Idealize.ShloMosaic Idealize.ShloMosaic.TcCoe

theorem res (x : FVec Ideal S16384x4096 .bf16) (w : FVec Ideal S1x4096x12288 .f32) :
    (truncf .bf16 (Host.dotGeneral dot_S16384x4096_S4096x12288_S16384x12288_1_0_0_1_n_n none (extf .f32 x bitsLt_bf16_f32) (shapeCast _ w shapeCasts_S1x4096x12288_S4096x12288)) bitsLt_bf16_f32 : FVec Ideal S16384x12288 .bf16)
      = Cert.Kernel6Ideal.Nin.proj x w := by
  funext i
  obtain ⟨r, q, rfl⟩ : ∃ (r : Fin 16384) (q : Fin 12288), i = ix2 r q := ⟨i 0, i 1, by funext a; fin_cases a <;> rfl⟩
  unfold Cert.Kernel6Ideal.Nin.proj
  pointwise

end Cert.Reference6Ideal.Nin

end
-- ==== Proof.Algebra6.lean ====
/-
  The value claim of the neighbourhood mixer's projection: kernel and reference leave the same array.
-/
module

public import proofs.«01_k».proof.Defs
public import proofs.«01_k».proof.Proof.NinVal

@[expose] public section

noncomputable section

namespace Cert.Proof

open Idealize.ShloMosaic Idealize.ShloMosaic.TcCoe Idealize.SL.Sem

theorem algebraic6 : Cert.algebraic_Kernel6Ideal_Reference6Ideal := by
  intro m ρ m' ρ' _ hagree
  refine ⟨fun c => Cert.Kernel6Ideal.Nin.proj (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), ?_, ?_⟩
  · exact (θ_run Cert.Kernel6Ideal.defs _ _).mono
      (fun r h c => ⟨((h.1 c).1 1).trans (Cert.Kernel6Ideal.Nin.arr m c),
        ((h.1 c).1 0).trans (((Cert.Kernel6Ideal.Nin.dats m 0 c).arrAt_in 0 rfl _).trans (Cert.Kernel6Ideal.Gen.V_main_arg0 m c)),
        ((h.1 c).2 Cert.Kernel6Ideal.main_arg1 (Pipeline.mem_restRefs_of Cert.Kernel6Ideal.main_arg1 (by decide) (by decide))).trans
          (Cert.Kernel6Ideal.Gen.V_main_arg1 m c)⟩)
      (Cert.Kernel6Ideal.Nin.run m ρ)
  · exact (θ_run Cert.Reference6Ideal.defs _ _).mono
      (fun _ h c => ⟨(h c).1.trans ((Cert.Reference6Ideal.Nin.res _ _).trans (by rw [(hagree c).1, (hagree c).2])), (h c).2⟩)
      (Cert.Reference6Ideal.Value.run (F := Ideal) m' ρ')

end Cert.Proof

end
-- ==== Proof.DinVal.lean ====
/-
  The differential mixer's projection, by heads: what the kernel and the reference leave, element by element.
-/
module

public import proofs.«01_k».proof.Proof.DinLaunch
public import proofs.«01_k».proof.Proof.Gen.Reference7Ideal.Run
public import proofs.«01_k».proof.Proof.Consts
public import Idealize.ShloMosaic.Lib.Pointwise
public import Idealize.ShloMosaic.Lib.ValueLayout
public import Idealize.ShloMosaic.Lib.Pipeline.ValueKit
public import Idealize.ShloMosaic.Lib.Tactic.CleanTypes

@[expose] public section

set_option maxRecDepth 16384

noncomputable section

namespace Cert.Kernel7Ideal.Din

open Cert.Kernel7Ideal Cert.Kernel7Ideal.Gen
open Idealize.ShloMosaic Idealize.ShloMosaic.TcCoe

/-- What a column is scaled by, `b` saying whether it is a query's. -/
def unit (b : Prop) [Decidable b] : EReal := if b then (((Real.sqrt 128)⁻¹ * (Real.log 2)⁻¹ : ℝ) : EReal) else 1

theorem scale_eq : (Named.named (F := Ideal) (φ := .f32) κ "scale7" 0x3E0293EE#32 : EReal) = (((Real.sqrt 128)⁻¹ * (Real.log 2)⁻¹ : ℝ) : EReal) :=
  IdealRules.named_const.ideal_named_scalar _ _ _ _ rfl

/-- The first four column blocks are the queries'. -/
theorem queries : ∀ t : Fin cfg0.N, IntOp.cmpi .slt (BitVec.ofNat 32 (grid0.coords t 0).val) 4#32 = if t.val / 16 < 4 then 1#1 else 0#1 :=
  (by decide +kernel : ∀ t : Fin grid0.N, IntOp.cmpi .slt (BitVec.ofNat 32 (grid0.coords t 0).val) 4#32 = if t.val / 16 < 4 then 1#1 else 0#1)

theorem scale_at (t : Fin cfg0.N) :
    (Scalar.select (Scalar.cmpi .slt (BitVec.ofNat 32 (grid0.coords t 0).val) 4#32) (Named.named (F := Ideal) (φ := .f32) κ "scale7" 0x3E0293EE#32)
      (Scalar.ofBits (F := Ideal) .f32 0x3F800000#32) : EReal) = unit (t.val / 16 < 4) := by
  rw [scale_eq]
  show (if IntOp.cmpi .slt (BitVec.ofNat 32 (grid0.coords t 0).val) 4#32 = 1#1 then _ else Ideal.ofBits .f32 0x3F800000#32) = _
  rw [queries, Consts.c1]
  unfold unit
  by_cases h : t.val / 16 < 4
  · rw [if_pos h, if_pos h, if_pos rfl]
  · rw [if_neg h, if_neg h, if_neg (by decide)]; rfl

theorem prod_at (t : Fin cfg0.N) (x : FVec Ideal S1024x4096 .bf16) (w : FVec Ideal S4096x1024 .bf16) (r q : Fin 1024) :
    prod (F := Ideal) (grid0.coords t) x w (ix2 r q) = (∑ k : Fin 4096, x (ix2 r k) * w (ix2 k q) : EReal) * unit (t.val / 16 < 4) := by
  rw [← scale_at t]
  unfold prod
  pointwise

theorem outv_at (t : Fin cfg0.N) (x : FVec Ideal S1024x4096 .bf16) (w : FVec Ideal S4096x1024 .bf16) (h : Fin 4) (r : Fin 1024) (q : Fin 256) :
    outv (F := Ideal) (grid0.coords t) x w (ix3 h r q)
      = (∑ k : Fin 4096, x (ix2 r k) * w (ix2 k (⟨256 * h.val + q.val, by omega⟩ : Fin 1024)) : EReal) * unit (t.val / 16 < 4) :=
  prod_at t x w r _

theorem colV_at (f : FVec Ideal S1x4096x12288 .f32) (j : Fin 12) (k : Fin 4096) (q : Fin 1024) :
    colV (F := Ideal) (offs j.val) (offs_inb j.isLt) f (ix2 k q) = f (ix3 0 k (⟨1024 * j.val + q.val, by omega⟩ : Fin 12288)) := by
  have h : colV (F := Ideal) (offs j.val) (offs_inb j.isLt) f
      = shapeCast S4096x1024 (wM.view.readAt (Elt Ideal) (Rect.unit (s := S1x4096x12288) (offs j.val) S1x4096x1024.size (offs_inb j.isLt)).toLoadRect f)
          (by decide : S1x4096x1024.ShapeCasts S4096x1024) := rfl
  rw [h]
  refine (ValueIdx.shapeCast_1ab_ab_apply _ _ _ _).trans ?_
  refine congrArg f ?_
  funext a
  refine Fin.ext ?_
  fin_cases a
  · rfl
  · show 0 + 1 * k.val = k.val; omega
  · show 1024 * j.val + 1 * q.val = 1024 * j.val + q.val; omega

theorem wblk_at (f : FVec Ideal S1x4096x12288 .f32) (j : Fin 12) (k : Fin 4096) (q : Fin 1024) :
    wblk (F := Ideal) f j (ix2 k q) = f (ix3 0 k (⟨1024 * j.val + q.val, by omega⟩ : Fin 12288)) := by
  refine Eq.trans ?_ (colV_at f j k q)
  unfold wblk narrow
  generalize colV (F := Ideal) _ _ f = g
  rw [shapeCast_self]
  rfl

variable (m : (ℓ : Loc nD τ sig) → Buf (Elt Ideal) ℓ) (c : Dev nD)

theorem tr0 : ∀ t : Fin cfg0.N, cc0_transform_0 (grid0.coords t) = ![t.val % 16, 0] :=
  (by decide +kernel : ∀ t : Fin grid0.N, cc0_transform_0 (grid0.coords t) = ![t.val % 16, 0])
theorem tr2 : ∀ t : Fin cfg0.N, cc0_transform_2 (grid0.coords t) = ![t.val / 16, t.val % 16, 0] :=
  (by decide +kernel : ∀ t : Fin grid0.N, cc0_transform_2 (grid0.coords t) = ![t.val / 16, t.val % 16, 0])

theorem iblk0_at (t : Fin cfg0.N) (r : Fin 1024) (k : Fin 4096) :
    (iblk m c 0 t : Vec Ideal S1024x4096 .bf16) (ix2 r k)
      = (m ((c.tc : Thread nD τ).loc main_arg0) : FVec Ideal S16384x4096 .bf16) (ix2 (⟨1024 * (t.val % 16) + r.val, by omega⟩ : Fin 16384) k) := by
  show V m c main_arg0 ((win0_0.blk t).view.emb (ix2 r k)) = _
  have hv : ∀ a, ((win0_0.blk t).view.emb (ix2 r k) a).val = cc0_transform_0 (grid0.coords t) a * S1024x4096.size a + (ix2 r k a).val :=
    fun a => Pipeline.Window.rect_emb_val win0_0 t (ix2 r k) a rfl
  have e : (win0_0.blk t).view.emb (ix2 r k) = ix2 (⟨1024 * (t.val % 16) + r.val, by omega⟩ : Fin 16384) k := by
    funext a
    refine Fin.ext ((hv a).trans ?_)
    rw [tr0 t]
    fin_cases a
    · show t.val % 16 * 1024 + r.val = 1024 * (t.val % 16) + r.val; omega
    · show 0 * 4096 + k.val = k.val; omega
  rw [e, V_main_arg0]

/-- The product, its queries scaled, by heads of 256 columns, as an array. -/
def proj (x : FVec Ideal S16384x4096 .bf16) (w : FVec Ideal S1x4096x12288 .f32) : FVec Ideal S48x16384x256 .bf16 := fun i =>
  (∑ k : Fin 4096, x (ix2 (i 1 : Fin 16384) k) * w (ix3 0 k (⟨(i 0).val * 256 + (i 2).val, by
    have h0 : (i 0).val < 48 := (i 0).isLt; have h2 : (i 2).val < 256 := (i 2).isLt; omega⟩ : Fin 12288)) : EReal)
    * unit ((i 0).val * 256 + (i 2).val < 4096)

theorem arr : (dats m 0 c).arrAt 1 cfg0.N
    = proj (m ((c.tc : Thread nD τ).loc main_arg0)) (m ((c.tc : Thread nD τ).loc main_arg1)) := by
  refine (dats m 0 c).arrAt_eq_of_covers 1 (proj _ _) (by decide +kernel) fun t hf y => ?_
  blk_simp
  show outBlk m c t y = proj _ _ ((win0_1.blk t).view.emb y)
  have hv : ∀ a, ((win0_1.blk t).view.emb y a).val = cc0_transform_2 (grid0.coords t) a * S4x1024x256.size a + (y a).val :=
    fun a => Pipeline.Window.rect_emb_val win0_1 t y a rfl
  obtain ⟨h, r, q, rfl⟩ : ∃ (h : Fin 4) (r : Fin 1024) (q : Fin 256), y = ix3 h r q := ⟨y 0, y 1, y 2, by funext a; fin_cases a <;> rfl⟩
  have ht : t.val < 192 := t.isLt
  have e : (win0_1.blk t).view.emb (ix3 h r q) = ix3 (⟨4 * (t.val / 16) + h.val, by omega⟩ : Fin 48)
      (⟨1024 * (t.val % 16) + r.val, by omega⟩ : Fin 16384) q := by
    funext a
    refine Fin.ext ((hv a).trans ?_)
    rw [tr2 t]
    fin_cases a
    · show t.val / 16 * 4 + h.val = 4 * (t.val / 16) + h.val; omega
    · show t.val % 16 * 1024 + r.val = 1024 * (t.val % 16) + r.val; omega
    · show 0 * 256 + q.val = q.val; omega
  rw [e]
  unfold outBlk proj
  rw [outv_at]
  refine congrArg₂ (· * ·) (Finset.sum_congr rfl fun k _ => ?_) ?_
  · rw [iblk0_at, wblk_at, V_main_arg1]
    refine congrArg₂ (· * ·) rfl (congrArg _ ?_)
    refine congrArg (ix3 0 k) (Fin.ext ?_)
    show 1024 * (t.val / 16 % 12) + (256 * h.val + q.val) = (4 * (t.val / 16) + h.val) * 256 + q.val
    omega
  · unfold unit
    refine if_congr ?_ rfl rfl
    show t.val / 16 < 4 ↔ (4 * (t.val / 16) + h.val) * 256 + q.val < 4096
    omega

end Cert.Kernel7Ideal.Din

namespace Cert.Reference7Ideal.Din

open Cert.Reference7Ideal Cert.Reference7Ideal.Gen Cert.Reference7Ideal.Value
open Idealize.ShloMosaic Idealize.ShloMosaic.TcCoe

open Cert.Kernel7Ideal.Din (unit proj)

/-- A division by the root of 128 and by the logarithm of 2, as one factor. -/
theorem div_div (z : EReal) : Ideal.div (Ideal.div z ((Real.sqrt 128 : ℝ) : EReal)) ((Real.log 2 : ℝ) : EReal)
    = z * (((Real.sqrt 128)⁻¹ * (Real.log 2)⁻¹ : ℝ) : EReal) := by
  have h128 : Real.sqrt 128 ≠ 0 := (Real.sqrt_pos.mpr (by norm_num)).ne'
  have h2 : Real.log 2 ≠ 0 := (Real.log_pos (by norm_num)).ne'
  rw [Ideal.div_coe h128, Ideal.div_coe h2, mul_assoc, ← EReal.coe_mul]
  simp only [one_div]

/-- The product. -/
def dot (x : FVec Ideal S16384x4096 .bf16) (w : FVec Ideal S1x4096x12288 .f32) : FVec Ideal S16384x12288 .f32 :=
  Host.dotGeneral dot_S16384x4096_S4096x12288_S16384x12288_1_0_0_1_n_n none (extf .f32 x bitsLt_bf16_f32) (shapeCast _ w shapeCasts_S1x4096x12288_S4096x12288)

theorem dot_at (x : FVec Ideal S16384x4096 .bf16) (w : FVec Ideal S1x4096x12288 .f32) (r : Fin 16384) (j : Fin 12288) :
    dot x w (ix2 r j) = (∑ k : Fin 4096, x (ix2 r k) * w (ix3 0 k j) : EReal) := by
  unfold dot
  pointwise

/-- The product, its queries divided. -/
def scaled (z : FVec Ideal S16384x12288 .f32) : FVec Ideal S16384x12288 .f32 :=
  select (cmpi .slt (iotaInDim S16384x12288 32 1) (broadcastInDim S16384x12288 ![] bcast_S_S16384x12288 (constantI S_ 32 4096#32))) (Host.divf (Host.divf z (broadcastInDim S16384x12288 ![] bcast_S_S16384x12288 (Host.sqrt (constant S_ .f32 0x43000000#32)))) (broadcastInDim S16384x12288 ![] bcast_S_S16384x12288 (Host.log (constant S_ .f32 0x40000000#32)))) z

theorem query_iff (j : Fin 12288) : IntOp.cmpi .slt (BitVec.ofNat 32 j.val) 4096#32 = 1#1 ↔ j.val < 4096 := by
  rw [IntOp.cmpi_slt, BitVec.toInt_eq_toNat_of_lt (by rw [BitVec.toNat_ofNat]; omega), BitVec.toNat_ofNat, Nat.mod_eq_of_lt (by omega)]
  show (j.val : ℤ) < 4096 ↔ _
  omega

theorem scaled_at (z : FVec Ideal S16384x12288 .f32) (r : Fin 16384) (j : Fin 12288) :
    scaled z (ix2 r j) = z (ix2 r j) * unit (j.val < 4096) := by
  have h : scaled z (ix2 r j) = if IntOp.cmpi .slt (BitVec.ofNat 32 j.val) 4096#32 = 1#1
      then Ideal.div (Ideal.div (z (ix2 r j)) (Ideal.sqrt (Ideal.ofBits .f32 0x43000000#32))) (Ideal.log (Ideal.ofBits .f32 0x40000000#32))
      else z (ix2 r j) := by
    unfold scaled
    pointwise
    rfl
  rw [h, Consts.c128, Consts.c2, Ideal.sqrt_coe, Ideal.log_coe, if_neg (by norm_num : ¬ (128 : ℝ) < 0), if_neg (by norm_num : ¬ (2 : ℝ) ≤ 0), div_div]
  unfold unit
  by_cases hj : j.val < 4096
  · rw [if_pos hj, if_pos ((query_iff j).mpr hj)]
  · rw [if_neg hj, if_neg (fun h => hj ((query_iff j).mp h)), mul_one]

theorem res (x : FVec Ideal S16384x4096 .bf16) (w : FVec Ideal S1x4096x12288 .f32) :
    (truncf .bf16 (transpose S48x16384x256 [1, 0, 2] (shapeCast _ (scaled (dot x w)) shapeCasts_S16384x12288_S16384x48x256) transposes_S16384x48x256_S48x16384x256_1_0_2) bitsLt_bf16_f32 : FVec Ideal S48x16384x256 .bf16)
      = proj x w := by
  funext i
  obtain ⟨h, r, q, rfl⟩ : ∃ (h : Fin 48) (r : Fin 16384) (q : Fin 256), i = ix3 h r q := ⟨i 0, i 1, i 2, by funext a; fin_cases a <;> rfl⟩
  have e : (truncf .bf16 (transpose S48x16384x256 [1, 0, 2] (shapeCast _ (scaled (dot x w)) shapeCasts_S16384x12288_S16384x48x256) transposes_S16384x48x256_S48x16384x256_1_0_2) bitsLt_bf16_f32 : FVec Ideal S48x16384x256 .bf16) (ix3 h r q)
      = scaled (dot x w) (ix2 r (⟨h.val * 256 + q.val, by omega⟩ : Fin 12288)) := by
    pointwise
  rw [e, scaled_at, dot_at]
  rfl

end Cert.Reference7Ideal.Din

end
-- ==== Proof.Algebra7.lean ====
/-
  The value claim of the differential mixer's projection: kernel and reference leave the same array.
-/
module

public import proofs.«01_k».proof.Defs
public import proofs.«01_k».proof.Proof.DinVal

@[expose] public section

noncomputable section

namespace Cert.Proof

open Idealize.ShloMosaic Idealize.ShloMosaic.TcCoe Idealize.SL.Sem

theorem algebraic7 : Cert.algebraic_Kernel7Ideal_Reference7Ideal := by
  intro m ρ m' ρ' _ hagree
  refine ⟨fun c => Cert.Kernel7Ideal.Din.proj (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1)), ?_, ?_⟩
  · exact (θ_run Cert.Kernel7Ideal.defs _ _).mono
      (fun r h c => ⟨((h.1 c).1 1).trans (Cert.Kernel7Ideal.Din.arr m c),
        ((h.1 c).1 0).trans (((Cert.Kernel7Ideal.Din.dats m 0 c).arrAt_in 0 rfl _).trans (Cert.Kernel7Ideal.Gen.V_main_arg0 m c)),
        ((h.1 c).2 Cert.Kernel7Ideal.main_arg1 (Pipeline.mem_restRefs_of Cert.Kernel7Ideal.main_arg1 (by decide) (by decide))).trans
          (Cert.Kernel7Ideal.Gen.V_main_arg1 m c)⟩)
      (Cert.Kernel7Ideal.Din.run m ρ)
  · exact (θ_run Cert.Reference7Ideal.defs _ _).mono
      (fun _ h c => ⟨(h c).1.trans ((Cert.Reference7Ideal.Din.res _ _).trans (by rw [(hagree c).1, (hagree c).2])), (h c).2⟩)
      (Cert.Reference7Ideal.Value.run (F := Ideal) m' ρ')

end Cert.Proof

end
-- ==== Proof.lean ====
/-
  The proof of the claim: for each of the seven calls the frames, the named constants and the value.
-/
module

public import proofs.«01_k».proof.Defs
public import proofs.«01_k».proof.Proof.Frames
public import proofs.«01_k».proof.Proof.Algebra
public import proofs.«01_k».proof.Proof.Frames2
public import proofs.«01_k».proof.Proof.Algebra2
public import proofs.«01_k».proof.Proof.Frames3
public import proofs.«01_k».proof.Proof.Algebra3
public import proofs.«01_k».proof.Proof.Frames4
public import proofs.«01_k».proof.Proof.Algebra4
public import proofs.«01_k».proof.Proof.Frames5
public import proofs.«01_k».proof.Proof.Algebra5
public import proofs.«01_k».proof.Proof.Frames6
public import proofs.«01_k».proof.Proof.Frames7
public import proofs.«01_k».proof.Proof.Algebra6
public import proofs.«01_k».proof.Proof.Algebra7
public import proofs.«01_k».proof.Proof.Gen.ReferenceIdeal
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Regions
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel
public import proofs.«01_k».proof.Proof.Gen.Kernel7
public import proofs.«01_k».proof.Proof.Gen.Kernel7Ideal.Frame
public import proofs.«01_k».proof.Proof.Gen.Reference7Ideal.Run
public import proofs.«01_k».proof.Proof.Gen.KernelIdeal.Loops
public import Idealize.ShloMosaic.Adequacy
public import Idealize.ShloMosaic.Init

@[expose] public section

noncomputable section

namespace Cert.Proof

open Idealize.ShloMosaic Idealize.SL.Sem

theorem claim : Cert.Claim :=
  haveI := Cert.Pre_finite.facts
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite.facts, frame_p, frame_pi, frame_pi_finite, frame_ri, frame_ri_finite,
    frame_p2, frame_pi2, frame_ri2, frame_p3, frame_pi3, frame_ri3, frame_p4, frame_pi4, frame_ri4, frame_p5, frame_pi5, frame_ri5, frame_p6, frame_pi6, frame_ri6, frame_p7, frame_pi7, frame_ri7, preserves, algebraic, preserves2, algebraic2, preserves3, algebraic3, preserves4, algebraic4, preserves5, algebraic5, preserves6, algebraic6, preserves7, algebraic7⟩

end Cert.Proof

end
